-- ==== Defs.lean ====
def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_W2SibKernel (m : (ℓ : Loc Cert.W2SibKernel.nD Cert.W2SibKernel.τ Cert.W2SibKernel.sig) → Buf (Elt Bits) ℓ) : Prop :=
  True

def Pre_W2SibKernelIdeal (m : (ℓ : Loc Cert.W2SibKernelIdeal.nD Cert.W2SibKernelIdeal.τ Cert.W2SibKernelIdeal.sig) → Buf (Elt Ideal) ℓ) : Prop :=
  True

def Pre_W2SibReferenceIdeal (m : (ℓ : Loc Cert.W2SibReferenceIdeal.nD Cert.W2SibReferenceIdeal.τ Cert.W2SibReferenceIdeal.sig) → Buf (Elt Ideal) ℓ) : Prop :=
  True

def Pre_W2Kernel (m : (ℓ : Loc Cert.W2Kernel.nD Cert.W2Kernel.τ Cert.W2Kernel.sig) → Buf (Elt Bits) ℓ) : Prop :=
  True

def Pre_W2KernelIdeal (m : (ℓ : Loc Cert.W2KernelIdeal.nD Cert.W2KernelIdeal.τ Cert.W2KernelIdeal.sig) → Buf (Elt Ideal) ℓ) : Prop :=
  True

def Pre_W2ReferenceIdeal (m : (ℓ : Loc Cert.W2ReferenceIdeal.nD Cert.W2ReferenceIdeal.τ Cert.W2ReferenceIdeal.sig) → Buf (Elt Ideal) ℓ) : Prop :=
  True

def Pre_W1SibKernel (m : (ℓ : Loc Cert.W1SibKernel.nD Cert.W1SibKernel.τ Cert.W1SibKernel.sig) → Buf (Elt Bits) ℓ) : Prop :=
  True

def Pre_W1SibKernelIdeal (m : (ℓ : Loc Cert.W1SibKernelIdeal.nD Cert.W1SibKernelIdeal.τ Cert.W1SibKernelIdeal.sig) → Buf (Elt Ideal) ℓ) : Prop :=
  True

def Pre_W1SibReferenceIdeal (m : (ℓ : Loc Cert.W1SibReferenceIdeal.nD Cert.W1SibReferenceIdeal.τ Cert.W1SibReferenceIdeal.sig) → Buf (Elt Ideal) ℓ) : Prop :=
  True

def Pre_W1Kernel (m : (ℓ : Loc Cert.W1Kernel.nD Cert.W1Kernel.τ Cert.W1Kernel.sig) → Buf (Elt Bits) ℓ) : Prop :=
  True

def Pre_W1KernelIdeal (m : (ℓ : Loc Cert.W1KernelIdeal.nD Cert.W1KernelIdeal.τ Cert.W1KernelIdeal.sig) → Buf (Elt Ideal) ℓ) : Prop :=
  True

def Pre_W1ReferenceIdeal (m : (ℓ : Loc Cert.W1ReferenceIdeal.nD Cert.W1ReferenceIdeal.τ Cert.W1ReferenceIdeal.sig) → Buf (Elt Ideal) ℓ) : Prop :=
  True

def Pre_WOutSibKernel (m : (ℓ : Loc Cert.WOutSibKernel.nD Cert.WOutSibKernel.τ Cert.WOutSibKernel.sig) → Buf (Elt Bits) ℓ) : Prop :=
  True

def Pre_WOutSibKernelIdeal (m : (ℓ : Loc Cert.WOutSibKernelIdeal.nD Cert.WOutSibKernelIdeal.τ Cert.WOutSibKernelIdeal.sig) → Buf (Elt Ideal) ℓ) : Prop :=
  True

def Pre_WOutSibReferenceIdeal (m : (ℓ : Loc Cert.WOutSibReferenceIdeal.nD Cert.WOutSibReferenceIdeal.τ Cert.WOutSibReferenceIdeal.sig) → Buf (Elt Ideal) ℓ) : Prop :=
  True

def Pre_WOutKernel (m : (ℓ : Loc Cert.WOutKernel.nD Cert.WOutKernel.τ Cert.WOutKernel.sig) → Buf (Elt Bits) ℓ) : Prop :=
  True

def Pre_WOutKernelIdeal (m : (ℓ : Loc Cert.WOutKernelIdeal.nD Cert.WOutKernelIdeal.τ Cert.WOutKernelIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_WInSibKernel (m : (ℓ : Loc Cert.WInSibKernel.nD Cert.WInSibKernel.τ Cert.WInSibKernel.sig) → Buf (Elt Bits) ℓ) : Prop :=
  True

def Pre_WInSibKernelIdeal (m : (ℓ : Loc Cert.WInSibKernelIdeal.nD Cert.WInSibKernelIdeal.τ Cert.WInSibKernelIdeal.sig) → Buf (Elt Ideal) ℓ) : Prop :=
  True

def Pre_WInSibReferenceIdeal (m : (ℓ : Loc Cert.WInSibReferenceIdeal.nD Cert.WInSibReferenceIdeal.τ Cert.WInSibReferenceIdeal.sig) → Buf (Elt Ideal) ℓ) : Prop :=
  True

def Pre_WInKernel (m : (ℓ : Loc Cert.WInKernel.nD Cert.WInKernel.τ Cert.WInKernel.sig) → Buf (Elt Bits) ℓ) : Prop :=
  True

def Pre_WInKernelIdeal (m : (ℓ : Loc Cert.WInKernelIdeal.nD Cert.WInKernelIdeal.τ Cert.WInKernelIdeal.sig) → Buf (Elt Ideal) ℓ) : Prop :=
  True

def Pre_WInReferenceIdeal (m : (ℓ : Loc Cert.WInReferenceIdeal.nD Cert.WInReferenceIdeal.τ Cert.WInReferenceIdeal.sig) → Buf (Elt Ideal) ℓ) : Prop :=
  True

def Pre_MlpInKernel (m : (ℓ : Loc Cert.MlpInKernel.nD Cert.MlpInKernel.τ Cert.MlpInKernel.sig) → Buf (Elt Bits) ℓ) : Prop :=
  True

def Pre_MlpInKernelIdeal (m : (ℓ : Loc Cert.MlpInKernelIdeal.nD Cert.MlpInKernelIdeal.τ Cert.MlpInKernelIdeal.sig) → Buf (Elt Ideal) ℓ) : Prop :=
  True

def Pre_MlpInReferenceIdeal (m : (ℓ : Loc Cert.MlpInReferenceIdeal.nD Cert.MlpInReferenceIdeal.τ Cert.MlpInReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_MlpOutKernel (m : (ℓ : Loc Cert.MlpOutKernel.nD Cert.MlpOutKernel.τ Cert.MlpOutKernel.sig) → Buf (Elt Bits) ℓ) : Prop :=
  True

def Pre_MlpOutKernelIdeal (m : (ℓ : Loc Cert.MlpOutKernelIdeal.nD Cert.MlpOutKernelIdeal.τ Cert.MlpOutKernelIdeal.sig) → Buf (Elt Ideal) ℓ) : Prop :=
  True

def Pre_MlpOutKernelIdeal_mlp_out_finite [hPre_mlp_out_finite : Cert.Pre_mlp_out_finite.Facts] (m : (ℓ : Loc Cert.MlpOutKernelIdeal.nD Cert.MlpOutKernelIdeal.τ Cert.MlpOutKernelIdeal.sig) → Buf (Elt Ideal) ℓ) : Prop :=
  ∀ c : Dev Cert.MlpOutKernelIdeal.nD,
    (Cert.Pre_mlp_out_finite.fn (F := Ideal) (m ((c.tc : Thread Cert.MlpOutKernelIdeal.nD Cert.MlpOutKernelIdeal.τ).loc Cert.MlpOutKernelIdeal.main_arg0)) (m ((c.tc : Thread Cert.MlpOutKernelIdeal.nD Cert.MlpOutKernelIdeal.τ).loc Cert.MlpOutKernelIdeal.main_arg1)) (m ((c.tc : Thread Cert.MlpOutKernelIdeal.nD Cert.MlpOutKernelIdeal.τ).loc Cert.MlpOutKernelIdeal.main_arg2)) (m ((c.tc : Thread Cert.MlpOutKernelIdeal.nD Cert.MlpOutKernelIdeal.τ).loc Cert.MlpOutKernelIdeal.main_arg3)) (m ((c.tc : Thread Cert.MlpOutKernelIdeal.nD Cert.MlpOutKernelIdeal.τ).loc Cert.MlpOutKernelIdeal.main_arg4)) (m ((c.tc : Thread Cert.MlpOutKernelIdeal.nD Cert.MlpOutKernelIdeal.τ).loc Cert.MlpOutKernelIdeal.main_arg5)) (m ((c.tc : Thread Cert.MlpOutKernelIdeal.nD Cert.MlpOutKernelIdeal.τ).loc Cert.MlpOutKernelIdeal.main_arg6)) (m ((c.tc : Thread Cert.MlpOutKernelIdeal.nD Cert.MlpOutKernelIdeal.τ).loc Cert.MlpOutKernelIdeal.main_arg7))) = (fun _ => 1#1)

def Pre_MlpOutReferenceIdeal (m : (ℓ : Loc Cert.MlpOutReferenceIdeal.nD Cert.MlpOutReferenceIdeal.τ Cert.MlpOutReferenceIdeal.sig) → Buf (Elt Ideal) ℓ) : Prop :=
  True

def Pre_MlpOutReferenceIdeal_mlp_out_finite [hPre_mlp_out_finite : Cert.Pre_mlp_out_finite.Facts] (m : (ℓ : Loc Cert.MlpOutReferenceIdeal.nD Cert.MlpOutReferenceIdeal.τ Cert.MlpOutReferenceIdeal.sig) → Buf (Elt Ideal) ℓ) : Prop :=
  ∀ c : Dev Cert.MlpOutReferenceIdeal.nD,
    (Cert.Pre_mlp_out_finite.fn (F := Ideal) (m ((c.tc : Thread Cert.MlpOutReferenceIdeal.nD Cert.MlpOutReferenceIdeal.τ).loc Cert.MlpOutReferenceIdeal.main_arg0)) (m ((c.tc : Thread Cert.MlpOutReferenceIdeal.nD Cert.MlpOutReferenceIdeal.τ).loc Cert.MlpOutReferenceIdeal.main_arg1)) (m ((c.tc : Thread Cert.MlpOutReferenceIdeal.nD Cert.MlpOutReferenceIdeal.τ).loc Cert.MlpOutReferenceIdeal.main_arg2)) (m ((c.tc : Thread Cert.MlpOutReferenceIdeal.nD Cert.MlpOutReferenceIdeal.τ).loc Cert.MlpOutReferenceIdeal.main_arg3)) (m ((c.tc : Thread Cert.MlpOutReferenceIdeal.nD Cert.MlpOutReferenceIdeal.τ).loc Cert.MlpOutReferenceIdeal.main_arg4)) (m ((c.tc : Thread Cert.MlpOutReferenceIdeal.nD Cert.MlpOutReferenceIdeal.τ).loc Cert.MlpOutReferenceIdeal.main_arg5)) (m ((c.tc : Thread Cert.MlpOutReferenceIdeal.nD Cert.MlpOutReferenceIdeal.τ).loc Cert.MlpOutReferenceIdeal.main_arg6)) (m ((c.tc : Thread Cert.MlpOutReferenceIdeal.nD Cert.MlpOutReferenceIdeal.τ).loc Cert.MlpOutReferenceIdeal.main_arg7))) = (fun _ => 1#1)

def Pre_Dx1Kernel (m : (ℓ : Loc Cert.Dx1Kernel.nD Cert.Dx1Kernel.τ Cert.Dx1Kernel.sig) → Buf (Elt Bits) ℓ) : Prop :=
  True

def Pre_Dx1KernelIdeal (m : (ℓ : Loc Cert.Dx1KernelIdeal.nD Cert.Dx1KernelIdeal.τ Cert.Dx1KernelIdeal.sig) → Buf (Elt Ideal) ℓ) : Prop :=
  True

def Pre_Dx1KernelIdeal_dx1_finite [hPre_dx1_finite : Cert.Pre_dx1_finite.Facts] (m : (ℓ : Loc Cert.Dx1KernelIdeal.nD Cert.Dx1KernelIdeal.τ Cert.Dx1KernelIdeal.sig) → Buf (Elt Ideal) ℓ) : Prop :=
  ∀ c : Dev Cert.Dx1KernelIdeal.nD,
    (Cert.Pre_dx1_finite.fn (F := Ideal) (m ((c.tc : Thread Cert.Dx1KernelIdeal.nD Cert.Dx1KernelIdeal.τ).loc Cert.Dx1KernelIdeal.main_arg0)) (m ((c.tc : Thread Cert.Dx1KernelIdeal.nD Cert.Dx1KernelIdeal.τ).loc Cert.Dx1KernelIdeal.main_arg1)) (m ((c.tc : Thread Cert.Dx1KernelIdeal.nD Cert.Dx1KernelIdeal.τ).loc Cert.Dx1KernelIdeal.main_arg2)) (m ((c.tc : Thread Cert.Dx1KernelIdeal.nD Cert.Dx1KernelIdeal.τ).loc Cert.Dx1KernelIdeal.main_arg3)) (m ((c.tc : Thread Cert.Dx1KernelIdeal.nD Cert.Dx1KernelIdeal.τ).loc Cert.Dx1KernelIdeal.main_arg4)) (m ((c.tc : Thread Cert.Dx1KernelIdeal.nD Cert.Dx1KernelIdeal.τ).loc Cert.Dx1KernelIdeal.main_arg5)) (m ((c.tc : Thread Cert.Dx1KernelIdeal.nD Cert.Dx1KernelIdeal.τ).loc Cert.Dx1KernelIdeal.main_arg6))) = (fun _ => 1#1)

def Pre_Dx1ReferenceIdeal (m : (ℓ : Loc Cert.Dx1ReferenceIdeal.nD Cert.Dx1ReferenceIdeal.τ Cert.Dx1ReferenceIdeal.sig) → Buf (Elt Ideal) ℓ) : Prop :=
  True

def Pre_Dx1ReferenceIdeal_dx1_finite [hPre_dx1_finite : Cert.Pre_dx1_finite.Facts] (m : (ℓ : Loc Cert.Dx1ReferenceIdeal.nD Cert.Dx1ReferenceIdeal.τ Cert.Dx1ReferenceIdeal.sig) → Buf (Elt Ideal) ℓ) : Prop :=
  ∀ c : Dev Cert.Dx1ReferenceIdeal.nD,
    (Cert.Pre_dx1_finite.fn (F := Ideal) (m ((c.tc : Thread Cert.Dx1ReferenceIdeal.nD Cert.Dx1ReferenceIdeal.τ).loc Cert.Dx1ReferenceIdeal.main_arg0)) (m ((c.tc : Thread Cert.Dx1ReferenceIdeal.nD Cert.Dx1ReferenceIdeal.τ).loc Cert.Dx1ReferenceIdeal.main_arg1)) (m ((c.tc : Thread Cert.Dx1ReferenceIdeal.nD Cert.Dx1ReferenceIdeal.τ).loc Cert.Dx1ReferenceIdeal.main_arg2)) (m ((c.tc : Thread Cert.Dx1ReferenceIdeal.nD Cert.Dx1ReferenceIdeal.τ).loc Cert.Dx1ReferenceIdeal.main_arg3)) (m ((c.tc : Thread Cert.Dx1ReferenceIdeal.nD Cert.Dx1ReferenceIdeal.τ).loc Cert.Dx1ReferenceIdeal.main_arg4)) (m ((c.tc : Thread Cert.Dx1ReferenceIdeal.nD Cert.Dx1ReferenceIdeal.τ).loc Cert.Dx1ReferenceIdeal.main_arg5)) (m ((c.tc : Thread Cert.Dx1ReferenceIdeal.nD Cert.Dx1ReferenceIdeal.τ).loc Cert.Dx1ReferenceIdeal.main_arg6))) = (fun _ => 1#1)

def Pre_OutLnKernel (m : (ℓ : Loc Cert.OutLnKernel.nD Cert.OutLnKernel.τ Cert.OutLnKernel.sig) → Buf (Elt Bits) ℓ) : Prop :=
  True

def Pre_OutLnKernelIdeal (m : (ℓ : Loc Cert.OutLnKernelIdeal.nD Cert.OutLnKernelIdeal.τ Cert.OutLnKernelIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_W2SibKernel [hW2SibKernel : Cert.W2SibKernel.Facts] : Prop :=
  ∀ (m : (ℓ : Loc Cert.W2SibKernel.nD Cert.W2SibKernel.τ Cert.W2SibKernel.sig) → Buf (Elt Bits) ℓ) (g : Dev Cert.W2SibKernel.nD → PrngReg), Pre_W2SibKernel m →
    θ_run (Cert.W2SibKernel.defs (F := Bits)) (onTc (τ := Cert.W2SibKernel.τ) (Cert.W2SibKernel.main (F := Bits))) ⟨m, fun _ => 0, g⟩ (fun r => (∀ c : Dev Cert.W2SibKernel.nD,
      r.2.mem ((c.tc : Thread Cert.W2SibKernel.nD Cert.W2SibKernel.τ).loc Cert.W2SibKernel.main_arg0) = m ((c.tc : Thread Cert.W2SibKernel.nD Cert.W2SibKernel.τ).loc Cert.W2SibKernel.main_arg0)
      ∧ r.2.mem ((c.tc : Thread Cert.W2SibKernel.nD Cert.W2SibKernel.τ).loc Cert.W2SibKernel.main_arg1) = m ((c.tc : Thread Cert.W2SibKernel.nD Cert.W2SibKernel.τ).loc Cert.W2SibKernel.main_arg1)
      ∧ r.2.mem ((c.tc : Thread Cert.W2SibKernel.nD Cert.W2SibKernel.τ).loc Cert.W2SibKernel.main_arg2) = m ((c.tc : Thread Cert.W2SibKernel.nD Cert.W2SibKernel.τ).loc Cert.W2SibKernel.main_arg2))
      ∧ r.2.sem = fun _ => 0)

def quiescent_W2SibKernelIdeal [hW2SibKernelIdeal : Cert.W2SibKernelIdeal.Facts] : Prop :=
  ∀ (m : (ℓ : Loc Cert.W2SibKernelIdeal.nD Cert.W2SibKernelIdeal.τ Cert.W2SibKernelIdeal.sig) → Buf (Elt Ideal) ℓ) (g : Dev Cert.W2SibKernelIdeal.nD → PrngReg), Pre_W2SibKernelIdeal m →
    θ_run (Cert.W2SibKernelIdeal.defs (F := Ideal)) (onTc (τ := Cert.W2SibKernelIdeal.τ) (Cert.W2SibKernelIdeal.main (F := Ideal))) ⟨m, fun _ => 0, g⟩ (fun r => (∀ c : Dev Cert.W2SibKernelIdeal.nD,
      r.2.mem ((c.tc : Thread Cert.W2SibKernelIdeal.nD Cert.W2SibKernelIdeal.τ).loc Cert.W2SibKernelIdeal.main_arg0) = m ((c.tc : Thread Cert.W2SibKernelIdeal.nD Cert.W2SibKernelIdeal.τ).loc Cert.W2SibKernelIdeal.main_arg0)
      ∧ r.2.mem ((c.tc : Thread Cert.W2SibKernelIdeal.nD Cert.W2SibKernelIdeal.τ).loc Cert.W2SibKernelIdeal.main_arg1) = m ((c.tc : Thread Cert.W2SibKernelIdeal.nD Cert.W2SibKernelIdeal.τ).loc Cert.W2SibKernelIdeal.main_arg1)
      ∧ r.2.mem ((c.tc : Thread Cert.W2SibKernelIdeal.nD Cert.W2SibKernelIdeal.τ).loc Cert.W2SibKernelIdeal.main_arg2) = m ((c.tc : Thread Cert.W2SibKernelIdeal.nD Cert.W2SibKernelIdeal.τ).loc Cert.W2SibKernelIdeal.main_arg2))
      ∧ r.2.sem = fun _ => 0)

def quiescent_W2SibReferenceIdeal [hW2SibReferenceIdeal : Cert.W2SibReferenceIdeal.Facts] : Prop :=
  ∀ (m : (ℓ : Loc Cert.W2SibReferenceIdeal.nD Cert.W2SibReferenceIdeal.τ Cert.W2SibReferenceIdeal.sig) → Buf (Elt Ideal) ℓ) (g : Dev Cert.W2SibReferenceIdeal.nD → PrngReg), Pre_W2SibReferenceIdeal m →
    θ_run (Cert.W2SibReferenceIdeal.defs (F := Ideal)) (onTc (τ := Cert.W2SibReferenceIdeal.τ) (Cert.W2SibReferenceIdeal.main (F := Ideal))) ⟨m, fun _ => 0, g⟩ (fun r => (∀ c : Dev Cert.W2SibReferenceIdeal.nD,
      r.2.mem ((c.tc : Thread Cert.W2SibReferenceIdeal.nD Cert.W2SibReferenceIdeal.τ).loc Cert.W2SibReferenceIdeal.main_arg0) = m ((c.tc : Thread Cert.W2SibReferenceIdeal.nD Cert.W2SibReferenceIdeal.τ).loc Cert.W2SibReferenceIdeal.main_arg0)
      ∧ r.2.mem ((c.tc : Thread Cert.W2SibReferenceIdeal.nD Cert.W2SibReferenceIdeal.τ).loc Cert.W2SibReferenceIdeal.main_arg1) = m ((c.tc : Thread Cert.W2SibReferenceIdeal.nD Cert.W2SibReferenceIdeal.τ).loc Cert.W2SibReferenceIdeal.main_arg1)
      ∧ r.2.mem ((c.tc : Thread Cert.W2SibReferenceIdeal.nD Cert.W2SibReferenceIdeal.τ).loc Cert.W2SibReferenceIdeal.main_arg2) = m ((c.tc : Thread Cert.W2SibReferenceIdeal.nD Cert.W2SibReferenceIdeal.τ).loc Cert.W2SibReferenceIdeal.main_arg2))
      ∧ r.2.sem = fun _ => 0)

def quiescent_W2Kernel [hW2Kernel : Cert.W2Kernel.Facts] : Prop :=
  ∀ (m : (ℓ : Loc Cert.W2Kernel.nD Cert.W2Kernel.τ Cert.W2Kernel.sig) → Buf (Elt Bits) ℓ) (g : Dev Cert.W2Kernel.nD → PrngReg), Pre_W2Kernel m →
    θ_run (Cert.W2Kernel.defs (F := Bits)) (onTc (τ := Cert.W2Kernel.τ) (Cert.W2Kernel.main (F := Bits))) ⟨m, fun _ => 0, g⟩ (fun r => (∀ c : Dev Cert.W2Kernel.nD,
      r.2.mem ((c.tc : Thread Cert.W2Kernel.nD Cert.W2Kernel.τ).loc Cert.W2Kernel.main_arg0) = m ((c.tc : Thread Cert.W2Kernel.nD Cert.W2Kernel.τ).loc Cert.W2Kernel.main_arg0)
      ∧ r.2.mem ((c.tc : Thread Cert.W2Kernel.nD Cert.W2Kernel.τ).loc Cert.W2Kernel.main_arg1) = m ((c.tc : Thread Cert.W2Kernel.nD Cert.W2Kernel.τ).loc Cert.W2Kernel.main_arg1)
      ∧ r.2.mem ((c.tc : Thread Cert.W2Kernel.nD Cert.W2Kernel.τ).loc Cert.W2Kernel.main_arg2) = m ((c.tc : Thread Cert.W2Kernel.nD Cert.W2Kernel.τ).loc Cert.W2Kernel.main_arg2)
      ∧ r.2.mem ((c.tc : Thread Cert.W2Kernel.nD Cert.W2Kernel.τ).loc Cert.W2Kernel.main_arg3) = m ((c.tc : Thread Cert.W2Kernel.nD Cert.W2Kernel.τ).loc Cert.W2Kernel.main_arg3))
      ∧ r.2.sem = fun _ => 0)

def quiescent_W2KernelIdeal [hW2KernelIdeal : Cert.W2KernelIdeal.Facts] : Prop :=
  ∀ (m : (ℓ : Loc Cert.W2KernelIdeal.nD Cert.W2KernelIdeal.τ Cert.W2KernelIdeal.sig) → Buf (Elt Ideal) ℓ) (g : Dev Cert.W2KernelIdeal.nD → PrngReg), Pre_W2KernelIdeal m →
    θ_run (Cert.W2KernelIdeal.defs (F := Ideal)) (onTc (τ := Cert.W2KernelIdeal.τ) (Cert.W2KernelIdeal.main (F := Ideal))) ⟨m, fun _ => 0, g⟩ (fun r => (∀ c : Dev Cert.W2KernelIdeal.nD,
      r.2.mem ((c.tc : Thread Cert.W2KernelIdeal.nD Cert.W2KernelIdeal.τ).loc Cert.W2KernelIdeal.main_arg0) = m ((c.tc : Thread Cert.W2KernelIdeal.nD Cert.W2KernelIdeal.τ).loc Cert.W2KernelIdeal.main_arg0)
      ∧ r.2.mem ((c.tc : Thread Cert.W2KernelIdeal.nD Cert.W2KernelIdeal.τ).loc Cert.W2KernelIdeal.main_arg1) = m ((c.tc : Thread Cert.W2KernelIdeal.nD Cert.W2KernelIdeal.τ).loc Cert.W2KernelIdeal.main_arg1)
      ∧ r.2.mem ((c.tc : Thread Cert.W2KernelIdeal.nD Cert.W2KernelIdeal.τ).loc Cert.W2KernelIdeal.main_arg2) = m ((c.tc : Thread Cert.W2KernelIdeal.nD Cert.W2KernelIdeal.τ).loc Cert.W2KernelIdeal.main_arg2)
      ∧ r.2.mem ((c.tc : Thread Cert.W2KernelIdeal.nD Cert.W2KernelIdeal.τ).loc Cert.W2KernelIdeal.main_arg3) = m ((c.tc : Thread Cert.W2KernelIdeal.nD Cert.W2KernelIdeal.τ).loc Cert.W2KernelIdeal.main_arg3))
      ∧ r.2.sem = fun _ => 0)

def quiescent_W2ReferenceIdeal [hW2ReferenceIdeal : Cert.W2ReferenceIdeal.Facts] : Prop :=
  ∀ (m : (ℓ : Loc Cert.W2ReferenceIdeal.nD Cert.W2ReferenceIdeal.τ Cert.W2ReferenceIdeal.sig) → Buf (Elt Ideal) ℓ) (g : Dev Cert.W2ReferenceIdeal.nD → PrngReg), Pre_W2ReferenceIdeal m →
    θ_run (Cert.W2ReferenceIdeal.defs (F := Ideal)) (onTc (τ := Cert.W2ReferenceIdeal.τ) (Cert.W2ReferenceIdeal.main (F := Ideal))) ⟨m, fun _ => 0, g⟩ (fun r => (∀ c : Dev Cert.W2ReferenceIdeal.nD,
      r.2.mem ((c.tc : Thread Cert.W2ReferenceIdeal.nD Cert.W2ReferenceIdeal.τ).loc Cert.W2ReferenceIdeal.main_arg0) = m ((c.tc : Thread Cert.W2ReferenceIdeal.nD Cert.W2ReferenceIdeal.τ).loc Cert.W2ReferenceIdeal.main_arg0)
      ∧ r.2.mem ((c.tc : Thread Cert.W2ReferenceIdeal.nD Cert.W2ReferenceIdeal.τ).loc Cert.W2ReferenceIdeal.main_arg1) = m ((c.tc : Thread Cert.W2ReferenceIdeal.nD Cert.W2ReferenceIdeal.τ).loc Cert.W2ReferenceIdeal.main_arg1)
      ∧ r.2.mem ((c.tc : Thread Cert.W2ReferenceIdeal.nD Cert.W2ReferenceIdeal.τ).loc Cert.W2ReferenceIdeal.main_arg2) = m ((c.tc : Thread Cert.W2ReferenceIdeal.nD Cert.W2ReferenceIdeal.τ).loc Cert.W2ReferenceIdeal.main_arg2)
      ∧ r.2.mem ((c.tc : Thread Cert.W2ReferenceIdeal.nD Cert.W2ReferenceIdeal.τ).loc Cert.W2ReferenceIdeal.main_arg3) = m ((c.tc : Thread Cert.W2ReferenceIdeal.nD Cert.W2ReferenceIdeal.τ).loc Cert.W2ReferenceIdeal.main_arg3))
      ∧ r.2.sem = fun _ => 0)

def quiescent_W1SibKernel [hW1SibKernel : Cert.W1SibKernel.Facts] : Prop :=
  ∀ (m : (ℓ : Loc Cert.W1SibKernel.nD Cert.W1SibKernel.τ Cert.W1SibKernel.sig) → Buf (Elt Bits) ℓ) (g : Dev Cert.W1SibKernel.nD → PrngReg), Pre_W1SibKernel m →
    θ_run (Cert.W1SibKernel.defs (F := Bits)) (onTc (τ := Cert.W1SibKernel.τ) (Cert.W1SibKernel.main (F := Bits))) ⟨m, fun _ => 0, g⟩ (fun r => (∀ c : Dev Cert.W1SibKernel.nD,
      r.2.mem ((c.tc : Thread Cert.W1SibKernel.nD Cert.W1SibKernel.τ).loc Cert.W1SibKernel.main_arg0) = m ((c.tc : Thread Cert.W1SibKernel.nD Cert.W1SibKernel.τ).loc Cert.W1SibKernel.main_arg0)
      ∧ r.2.mem ((c.tc : Thread Cert.W1SibKernel.nD Cert.W1SibKernel.τ).loc Cert.W1SibKernel.main_arg1) = m ((c.tc : Thread Cert.W1SibKernel.nD Cert.W1SibKernel.τ).loc Cert.W1SibKernel.main_arg1)
      ∧ r.2.mem ((c.tc : Thread Cert.W1SibKernel.nD Cert.W1SibKernel.τ).loc Cert.W1SibKernel.main_arg2) = m ((c.tc : Thread Cert.W1SibKernel.nD Cert.W1SibKernel.τ).loc Cert.W1SibKernel.main_arg2))
      ∧ r.2.sem = fun _ => 0)

def quiescent_W1SibKernelIdeal [hW1SibKernelIdeal : Cert.W1SibKernelIdeal.Facts] : Prop :=
  ∀ (m : (ℓ : Loc Cert.W1SibKernelIdeal.nD Cert.W1SibKernelIdeal.τ Cert.W1SibKernelIdeal.sig) → Buf (Elt Ideal) ℓ) (g : Dev Cert.W1SibKernelIdeal.nD → PrngReg), Pre_W1SibKernelIdeal m →
    θ_run (Cert.W1SibKernelIdeal.defs (F := Ideal)) (onTc (τ := Cert.W1SibKernelIdeal.τ) (Cert.W1SibKernelIdeal.main (F := Ideal))) ⟨m, fun _ => 0, g⟩ (fun r => (∀ c : Dev Cert.W1SibKernelIdeal.nD,
      r.2.mem ((c.tc : Thread Cert.W1SibKernelIdeal.nD Cert.W1SibKernelIdeal.τ).loc Cert.W1SibKernelIdeal.main_arg0) = m ((c.tc : Thread Cert.W1SibKernelIdeal.nD Cert.W1SibKernelIdeal.τ).loc Cert.W1SibKernelIdeal.main_arg0)
      ∧ r.2.mem ((c.tc : Thread Cert.W1SibKernelIdeal.nD Cert.W1SibKernelIdeal.τ).loc Cert.W1SibKernelIdeal.main_arg1) = m ((c.tc : Thread Cert.W1SibKernelIdeal.nD Cert.W1SibKernelIdeal.τ).loc Cert.W1SibKernelIdeal.main_arg1)
      ∧ r.2.mem ((c.tc : Thread Cert.W1SibKernelIdeal.nD Cert.W1SibKernelIdeal.τ).loc Cert.W1SibKernelIdeal.main_arg2) = m ((c.tc : Thread Cert.W1SibKernelIdeal.nD Cert.W1SibKernelIdeal.τ).loc Cert.W1SibKernelIdeal.main_arg2))
      ∧ r.2.sem = fun _ => 0)

def quiescent_W1SibReferenceIdeal [hW1SibReferenceIdeal : Cert.W1SibReferenceIdeal.Facts] : Prop :=
  ∀ (m : (ℓ : Loc Cert.W1SibReferenceIdeal.nD Cert.W1SibReferenceIdeal.τ Cert.W1SibReferenceIdeal.sig) → Buf (Elt Ideal) ℓ) (g : Dev Cert.W1SibReferenceIdeal.nD → PrngReg), Pre_W1SibReferenceIdeal m →
    θ_run (Cert.W1SibReferenceIdeal.defs (F := Ideal)) (onTc (τ := Cert.W1SibReferenceIdeal.τ) (Cert.W1SibReferenceIdeal.main (F := Ideal))) ⟨m, fun _ => 0, g⟩ (fun r => (∀ c : Dev Cert.W1SibReferenceIdeal.nD,
      r.2.mem ((c.tc : Thread Cert.W1SibReferenceIdeal.nD Cert.W1SibReferenceIdeal.τ).loc Cert.W1SibReferenceIdeal.main_arg0) = m ((c.tc : Thread Cert.W1SibReferenceIdeal.nD Cert.W1SibReferenceIdeal.τ).loc Cert.W1SibReferenceIdeal.main_arg0)
      ∧ r.2.mem ((c.tc : Thread Cert.W1SibReferenceIdeal.nD Cert.W1SibReferenceIdeal.τ).loc Cert.W1SibReferenceIdeal.main_arg1) = m ((c.tc : Thread Cert.W1SibReferenceIdeal.nD Cert.W1SibReferenceIdeal.τ).loc Cert.W1SibReferenceIdeal.main_arg1)
      ∧ r.2.mem ((c.tc : Thread Cert.W1SibReferenceIdeal.nD Cert.W1SibReferenceIdeal.τ).loc Cert.W1SibReferenceIdeal.main_arg2) = m ((c.tc : Thread Cert.W1SibReferenceIdeal.nD Cert.W1SibReferenceIdeal.τ).loc Cert.W1SibReferenceIdeal.main_arg2))
      ∧ r.2.sem = fun _ => 0)

def quiescent_W1Kernel [hW1Kernel : Cert.W1Kernel.Facts] : Prop :=
  ∀ (m : (ℓ : Loc Cert.W1Kernel.nD Cert.W1Kernel.τ Cert.W1Kernel.sig) → Buf (Elt Bits) ℓ) (g : Dev Cert.W1Kernel.nD → PrngReg), Pre_W1Kernel m →
    θ_run (Cert.W1Kernel.defs (F := Bits)) (onTc (τ := Cert.W1Kernel.τ) (Cert.W1Kernel.main (F := Bits))) ⟨m, fun _ => 0, g⟩ (fun r => (∀ c : Dev Cert.W1Kernel.nD,
      r.2.mem ((c.tc : Thread Cert.W1Kernel.nD Cert.W1Kernel.τ).loc Cert.W1Kernel.main_arg0) = m ((c.tc : Thread Cert.W1Kernel.nD Cert.W1Kernel.τ).loc Cert.W1Kernel.main_arg0)
      ∧ r.2.mem ((c.tc : Thread Cert.W1Kernel.nD Cert.W1Kernel.τ).loc Cert.W1Kernel.main_arg1) = m ((c.tc : Thread Cert.W1Kernel.nD Cert.W1Kernel.τ).loc Cert.W1Kernel.main_arg1)
      ∧ r.2.mem ((c.tc : Thread Cert.W1Kernel.nD Cert.W1Kernel.τ).loc Cert.W1Kernel.main_arg2) = m ((c.tc : Thread Cert.W1Kernel.nD Cert.W1Kernel.τ).loc Cert.W1Kernel.main_arg2)
      ∧ r.2.mem ((c.tc : Thread Cert.W1Kernel.nD Cert.W1Kernel.τ).loc Cert.W1Kernel.main_arg3) = m ((c.tc : Thread Cert.W1Kernel.nD Cert.W1Kernel.τ).loc Cert.W1Kernel.main_arg3))
      ∧ r.2.sem = fun _ => 0)

def quiescent_W1KernelIdeal [hW1KernelIdeal : Cert.W1KernelIdeal.Facts] : Prop :=
  ∀ (m : (ℓ : Loc Cert.W1KernelIdeal.nD Cert.W1KernelIdeal.τ Cert.W1KernelIdeal.sig) → Buf (Elt Ideal) ℓ) (g : Dev Cert.W1KernelIdeal.nD → PrngReg), Pre_W1KernelIdeal m →
    θ_run (Cert.W1KernelIdeal.defs (F := Ideal)) (onTc (τ := Cert.W1KernelIdeal.τ) (Cert.W1KernelIdeal.main (F := Ideal))) ⟨m, fun _ => 0, g⟩ (fun r => (∀ c : Dev Cert.W1KernelIdeal.nD,
      r.2.mem ((c.tc : Thread Cert.W1KernelIdeal.nD Cert.W1KernelIdeal.τ).loc Cert.W1KernelIdeal.main_arg0) = m ((c.tc : Thread Cert.W1KernelIdeal.nD Cert.W1KernelIdeal.τ).loc Cert.W1KernelIdeal.main_arg0)
      ∧ r.2.mem ((c.tc : Thread Cert.W1KernelIdeal.nD Cert.W1KernelIdeal.τ).loc Cert.W1KernelIdeal.main_arg1) = m ((c.tc : Thread Cert.W1KernelIdeal.nD Cert.W1KernelIdeal.τ).loc Cert.W1KernelIdeal.main_arg1)
      ∧ r.2.mem ((c.tc : Thread Cert.W1KernelIdeal.nD Cert.W1KernelIdeal.τ).loc Cert.W1KernelIdeal.main_arg2) = m ((c.tc : Thread Cert.W1KernelIdeal.nD Cert.W1KernelIdeal.τ).loc Cert.W1KernelIdeal.main_arg2)
      ∧ r.2.mem ((c.tc : Thread Cert.W1KernelIdeal.nD Cert.W1KernelIdeal.τ).loc Cert.W1KernelIdeal.main_arg3) = m ((c.tc : Thread Cert.W1KernelIdeal.nD Cert.W1KernelIdeal.τ).loc Cert.W1KernelIdeal.main_arg3))
      ∧ r.2.sem = fun _ => 0)

def quiescent_W1ReferenceIdeal [hW1ReferenceIdeal : Cert.W1ReferenceIdeal.Facts] : Prop :=
  ∀ (m : (ℓ : Loc Cert.W1ReferenceIdeal.nD Cert.W1ReferenceIdeal.τ Cert.W1ReferenceIdeal.sig) → Buf (Elt Ideal) ℓ) (g : Dev Cert.W1ReferenceIdeal.nD → PrngReg), Pre_W1ReferenceIdeal m →
    θ_run (Cert.W1ReferenceIdeal.defs (F := Ideal)) (onTc (τ := Cert.W1ReferenceIdeal.τ) (Cert.W1ReferenceIdeal.main (F := Ideal))) ⟨m, fun _ => 0, g⟩ (fun r => (∀ c : Dev Cert.W1ReferenceIdeal.nD,
      r.2.mem ((c.tc : Thread Cert.W1ReferenceIdeal.nD Cert.W1ReferenceIdeal.τ).loc Cert.W1ReferenceIdeal.main_arg0) = m ((c.tc : Thread Cert.W1ReferenceIdeal.nD Cert.W1ReferenceIdeal.τ).loc Cert.W1ReferenceIdeal.main_arg0)
      ∧ r.2.mem ((c.tc : Thread Cert.W1ReferenceIdeal.nD Cert.W1ReferenceIdeal.τ).loc Cert.W1ReferenceIdeal.main_arg1) = m ((c.tc : Thread Cert.W1ReferenceIdeal.nD Cert.W1ReferenceIdeal.τ).loc Cert.W1ReferenceIdeal.main_arg1)
      ∧ r.2.mem ((c.tc : Thread Cert.W1ReferenceIdeal.nD Cert.W1ReferenceIdeal.τ).loc Cert.W1ReferenceIdeal.main_arg2) = m ((c.tc : Thread Cert.W1ReferenceIdeal.nD Cert.W1ReferenceIdeal.τ).loc Cert.W1ReferenceIdeal.main_arg2)
      ∧ r.2.mem ((c.tc : Thread Cert.W1ReferenceIdeal.nD Cert.W1ReferenceIdeal.τ).loc Cert.W1ReferenceIdeal.main_arg3) = m ((c.tc : Thread Cert.W1ReferenceIdeal.nD Cert.W1ReferenceIdeal.τ).loc Cert.W1ReferenceIdeal.main_arg3))
      ∧ r.2.sem = fun _ => 0)

def quiescent_WOutSibKernel [hWOutSibKernel : Cert.WOutSibKernel.Facts] : Prop :=
  ∀ (m : (ℓ : Loc Cert.WOutSibKernel.nD Cert.WOutSibKernel.τ Cert.WOutSibKernel.sig) → Buf (Elt Bits) ℓ) (g : Dev Cert.WOutSibKernel.nD → PrngReg), Pre_WOutSibKernel m →
    θ_run (Cert.WOutSibKernel.defs (F := Bits)) (onTc (τ := Cert.WOutSibKernel.τ) (Cert.WOutSibKernel.main (F := Bits))) ⟨m, fun _ => 0, g⟩ (fun r => (∀ c : Dev Cert.WOutSibKernel.nD,
      r.2.mem ((c.tc : Thread Cert.WOutSibKernel.nD Cert.WOutSibKernel.τ).loc Cert.WOutSibKernel.main_arg0) = m ((c.tc : Thread Cert.WOutSibKernel.nD Cert.WOutSibKernel.τ).loc Cert.WOutSibKernel.main_arg0)
      ∧ r.2.mem ((c.tc : Thread Cert.WOutSibKernel.nD Cert.WOutSibKernel.τ).loc Cert.WOutSibKernel.main_arg1) = m ((c.tc : Thread Cert.WOutSibKernel.nD Cert.WOutSibKernel.τ).loc Cert.WOutSibKernel.main_arg1)
      ∧ r.2.mem ((c.tc : Thread Cert.WOutSibKernel.nD Cert.WOutSibKernel.τ).loc Cert.WOutSibKernel.main_arg2) = m ((c.tc : Thread Cert.WOutSibKernel.nD Cert.WOutSibKernel.τ).loc Cert.WOutSibKernel.main_arg2))
      ∧ r.2.sem = fun _ => 0)

def quiescent_WOutSibKernelIdeal [hWOutSibKernelIdeal : Cert.WOutSibKernelIdeal.Facts] : Prop :=
  ∀ (m : (ℓ : Loc Cert.WOutSibKernelIdeal.nD Cert.WOutSibKernelIdeal.τ Cert.WOutSibKernelIdeal.sig) → Buf (Elt Ideal) ℓ) (g : Dev Cert.WOutSibKernelIdeal.nD → PrngReg), Pre_WOutSibKernelIdeal m →
    θ_run (Cert.WOutSibKernelIdeal.defs (F := Ideal)) (onTc (τ := Cert.WOutSibKernelIdeal.τ) (Cert.WOutSibKernelIdeal.main (F := Ideal))) ⟨m, fun _ => 0, g⟩ (fun r => (∀ c : Dev Cert.WOutSibKernelIdeal.nD,
      r.2.mem ((c.tc : Thread Cert.WOutSibKernelIdeal.nD Cert.WOutSibKernelIdeal.τ).loc Cert.WOutSibKernelIdeal.main_arg0) = m ((c.tc : Thread Cert.WOutSibKernelIdeal.nD Cert.WOutSibKernelIdeal.τ).loc Cert.WOutSibKernelIdeal.main_arg0)
      ∧ r.2.mem ((c.tc : Thread Cert.WOutSibKernelIdeal.nD Cert.WOutSibKernelIdeal.τ).loc Cert.WOutSibKernelIdeal.main_arg1) = m ((c.tc : Thread Cert.WOutSibKernelIdeal.nD Cert.WOutSibKernelIdeal.τ).loc Cert.WOutSibKernelIdeal.main_arg1)
      ∧ r.2.mem ((c.tc : Thread Cert.WOutSibKernelIdeal.nD Cert.WOutSibKernelIdeal.τ).loc Cert.WOutSibKernelIdeal.main_arg2) = m ((c.tc : Thread Cert.WOutSibKernelIdeal.nD Cert.WOutSibKernelIdeal.τ).loc Cert.WOutSibKernelIdeal.main_arg2))
      ∧ r.2.sem = fun _ => 0)

def quiescent_WOutSibReferenceIdeal [hWOutSibReferenceIdeal : Cert.WOutSibReferenceIdeal.Facts] : Prop :=
  ∀ (m : (ℓ : Loc Cert.WOutSibReferenceIdeal.nD Cert.WOutSibReferenceIdeal.τ Cert.WOutSibReferenceIdeal.sig) → Buf (Elt Ideal) ℓ) (g : Dev Cert.WOutSibReferenceIdeal.nD → PrngReg), Pre_WOutSibReferenceIdeal m →
    θ_run (Cert.WOutSibReferenceIdeal.defs (F := Ideal)) (onTc (τ := Cert.WOutSibReferenceIdeal.τ) (Cert.WOutSibReferenceIdeal.main (F := Ideal))) ⟨m, fun _ => 0, g⟩ (fun r => (∀ c : Dev Cert.WOutSibReferenceIdeal.nD,
      r.2.mem ((c.tc : Thread Cert.WOutSibReferenceIdeal.nD Cert.WOutSibReferenceIdeal.τ).loc Cert.WOutSibReferenceIdeal.main_arg0) = m ((c.tc : Thread Cert.WOutSibReferenceIdeal.nD Cert.WOutSibReferenceIdeal.τ).loc Cert.WOutSibReferenceIdeal.main_arg0)
      ∧ r.2.mem ((c.tc : Thread Cert.WOutSibReferenceIdeal.nD Cert.WOutSibReferenceIdeal.τ).loc Cert.WOutSibReferenceIdeal.main_arg1) = m ((c.tc : Thread Cert.WOutSibReferenceIdeal.nD Cert.WOutSibReferenceIdeal.τ).loc Cert.WOutSibReferenceIdeal.main_arg1)
      ∧ r.2.mem ((c.tc : Thread Cert.WOutSibReferenceIdeal.nD Cert.WOutSibReferenceIdeal.τ).loc Cert.WOutSibReferenceIdeal.main_arg2) = m ((c.tc : Thread Cert.WOutSibReferenceIdeal.nD Cert.WOutSibReferenceIdeal.τ).loc Cert.WOutSibReferenceIdeal.main_arg2))
      ∧ r.2.sem = fun _ => 0)

def quiescent_WOutKernel [hWOutKernel : Cert.WOutKernel.Facts] : Prop :=
  ∀ (m : (ℓ : Loc Cert.WOutKernel.nD Cert.WOutKernel.τ Cert.WOutKernel.sig) → Buf (Elt Bits) ℓ) (g : Dev Cert.WOutKernel.nD → PrngReg), Pre_WOutKernel m →
    θ_run (Cert.WOutKernel.defs (F := Bits)) (onTc (τ := Cert.WOutKernel.τ) (Cert.WOutKernel.main (F := Bits))) ⟨m, fun _ => 0, g⟩ (fun r => (∀ c : Dev Cert.WOutKernel.nD,
      r.2.mem ((c.tc : Thread Cert.WOutKernel.nD Cert.WOutKernel.τ).loc Cert.WOutKernel.main_arg0) = m ((c.tc : Thread Cert.WOutKernel.nD Cert.WOutKernel.τ).loc Cert.WOutKernel.main_arg0)
      ∧ r.2.mem ((c.tc : Thread Cert.WOutKernel.nD Cert.WOutKernel.τ).loc Cert.WOutKernel.main_arg1) = m ((c.tc : Thread Cert.WOutKernel.nD Cert.WOutKernel.τ).loc Cert.WOutKernel.main_arg1)
      ∧ r.2.mem ((c.tc : Thread Cert.WOutKernel.nD Cert.WOutKernel.τ).loc Cert.WOutKernel.main_arg2) = m ((c.tc : Thread Cert.WOutKernel.nD Cert.WOutKernel.τ).loc Cert.WOutKernel.main_arg2)
      ∧ r.2.mem ((c.tc : Thread Cert.WOutKernel.nD Cert.WOutKernel.τ).loc Cert.WOutKernel.main_arg3) = m ((c.tc : Thread Cert.WOutKernel.nD Cert.WOutKernel.τ).loc Cert.WOutKernel.main_arg3))
      ∧ r.2.sem = fun _ => 0)

def quiescent_WOutKernelIdeal [hWOutKernelIdeal : Cert.WOutKernelIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg), Pre_WOutKernelIdeal m →
    θ_run (Cert.WOutKernelIdeal.defs (F := Ideal)) (onTc (τ := Cert.WOutKernelIdeal.τ) (Cert.WOutKernelIdeal.main (F := Ideal))) ⟨m, fun _ => 0, g⟩ (fun r => (∀ c : Dev Cert.WOutKernelIdeal.nD,
      r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
      ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
      ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2)
      ∧ r.2.mem ((c.tc : Thread Cert.WOutKernelIdeal.nD Cert.WOutKernelIdeal.τ).loc Cert.WOutKernelIdeal.main_arg3) = m ((c.tc : Thread Cert.WOutKernelIdeal.nD Cert.WOutKernelIdeal.τ).loc Cert.WOutKernelIdeal.main_arg3))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2)
      ∧ r.2.mem ((c.tc : Thread Cert.WOutReferenceIdeal.nD Cert.WOutReferenceIdeal.τ).loc Cert.WOutReferenceIdeal.main_arg3) = m ((c.tc : Thread Cert.WOutReferenceIdeal.nD Cert.WOutReferenceIdeal.τ).loc Cert.WOutReferenceIdeal.main_arg3))
      ∧ r.2.sem = fun _ => 0)

def quiescent_WInSibKernel [hWInSibKernel : Cert.WInSibKernel.Facts] : Prop :=
  ∀ (m : (ℓ : Loc Cert.WInSibKernel.nD Cert.WInSibKernel.τ Cert.WInSibKernel.sig) → Buf (Elt Bits) ℓ) (g : Dev Cert.WInSibKernel.nD → PrngReg), Pre_WInSibKernel m →
    θ_run (Cert.WInSibKernel.defs (F := Bits)) (onTc (τ := Cert.WInSibKernel.τ) (Cert.WInSibKernel.main (F := Bits))) ⟨m, fun _ => 0, g⟩ (fun r => (∀ c : Dev Cert.WInSibKernel.nD,
      r.2.mem ((c.tc : Thread Cert.WInSibKernel.nD Cert.WInSibKernel.τ).loc Cert.WInSibKernel.main_arg0) = m ((c.tc : Thread Cert.WInSibKernel.nD Cert.WInSibKernel.τ).loc Cert.WInSibKernel.main_arg0)
      ∧ r.2.mem ((c.tc : Thread Cert.WInSibKernel.nD Cert.WInSibKernel.τ).loc Cert.WInSibKernel.main_arg1) = m ((c.tc : Thread Cert.WInSibKernel.nD Cert.WInSibKernel.τ).loc Cert.WInSibKernel.main_arg1)
      ∧ r.2.mem ((c.tc : Thread Cert.WInSibKernel.nD Cert.WInSibKernel.τ).loc Cert.WInSibKernel.main_arg2) = m ((c.tc : Thread Cert.WInSibKernel.nD Cert.WInSibKernel.τ).loc Cert.WInSibKernel.main_arg2))
      ∧ r.2.sem = fun _ => 0)

def quiescent_WInSibKernelIdeal [hWInSibKernelIdeal : Cert.WInSibKernelIdeal.Facts] : Prop :=
  ∀ (m : (ℓ : Loc Cert.WInSibKernelIdeal.nD Cert.WInSibKernelIdeal.τ Cert.WInSibKernelIdeal.sig) → Buf (Elt Ideal) ℓ) (g : Dev Cert.WInSibKernelIdeal.nD → PrngReg), Pre_WInSibKernelIdeal m →
    θ_run (Cert.WInSibKernelIdeal.defs (F := Ideal)) (onTc (τ := Cert.WInSibKernelIdeal.τ) (Cert.WInSibKernelIdeal.main (F := Ideal))) ⟨m, fun _ => 0, g⟩ (fun r => (∀ c : Dev Cert.WInSibKernelIdeal.nD,
      r.2.mem ((c.tc : Thread Cert.WInSibKernelIdeal.nD Cert.WInSibKernelIdeal.τ).loc Cert.WInSibKernelIdeal.main_arg0) = m ((c.tc : Thread Cert.WInSibKernelIdeal.nD Cert.WInSibKernelIdeal.τ).loc Cert.WInSibKernelIdeal.main_arg0)
      ∧ r.2.mem ((c.tc : Thread Cert.WInSibKernelIdeal.nD Cert.WInSibKernelIdeal.τ).loc Cert.WInSibKernelIdeal.main_arg1) = m ((c.tc : Thread Cert.WInSibKernelIdeal.nD Cert.WInSibKernelIdeal.τ).loc Cert.WInSibKernelIdeal.main_arg1)
      ∧ r.2.mem ((c.tc : Thread Cert.WInSibKernelIdeal.nD Cert.WInSibKernelIdeal.τ).loc Cert.WInSibKernelIdeal.main_arg2) = m ((c.tc : Thread Cert.WInSibKernelIdeal.nD Cert.WInSibKernelIdeal.τ).loc Cert.WInSibKernelIdeal.main_arg2))
      ∧ r.2.sem = fun _ => 0)

def quiescent_WInSibReferenceIdeal [hWInSibReferenceIdeal : Cert.WInSibReferenceIdeal.Facts] : Prop :=
  ∀ (m : (ℓ : Loc Cert.WInSibReferenceIdeal.nD Cert.WInSibReferenceIdeal.τ Cert.WInSibReferenceIdeal.sig) → Buf (Elt Ideal) ℓ) (g : Dev Cert.WInSibReferenceIdeal.nD → PrngReg), Pre_WInSibReferenceIdeal m →
    θ_run (Cert.WInSibReferenceIdeal.defs (F := Ideal)) (onTc (τ := Cert.WInSibReferenceIdeal.τ) (Cert.WInSibReferenceIdeal.main (F := Ideal))) ⟨m, fun _ => 0, g⟩ (fun r => (∀ c : Dev Cert.WInSibReferenceIdeal.nD,
      r.2.mem ((c.tc : Thread Cert.WInSibReferenceIdeal.nD Cert.WInSibReferenceIdeal.τ).loc Cert.WInSibReferenceIdeal.main_arg0) = m ((c.tc : Thread Cert.WInSibReferenceIdeal.nD Cert.WInSibReferenceIdeal.τ).loc Cert.WInSibReferenceIdeal.main_arg0)
      ∧ r.2.mem ((c.tc : Thread Cert.WInSibReferenceIdeal.nD Cert.WInSibReferenceIdeal.τ).loc Cert.WInSibReferenceIdeal.main_arg1) = m ((c.tc : Thread Cert.WInSibReferenceIdeal.nD Cert.WInSibReferenceIdeal.τ).loc Cert.WInSibReferenceIdeal.main_arg1)
      ∧ r.2.mem ((c.tc : Thread Cert.WInSibReferenceIdeal.nD Cert.WInSibReferenceIdeal.τ).loc Cert.WInSibReferenceIdeal.main_arg2) = m ((c.tc : Thread Cert.WInSibReferenceIdeal.nD Cert.WInSibReferenceIdeal.τ).loc Cert.WInSibReferenceIdeal.main_arg2))
      ∧ r.2.sem = fun _ => 0)

def quiescent_WInKernel [hWInKernel : Cert.WInKernel.Facts] : Prop :=
  ∀ (m : (ℓ : Loc Cert.WInKernel.nD Cert.WInKernel.τ Cert.WInKernel.sig) → Buf (Elt Bits) ℓ) (g : Dev Cert.WInKernel.nD → PrngReg), Pre_WInKernel m →
    θ_run (Cert.WInKernel.defs (F := Bits)) (onTc (τ := Cert.WInKernel.τ) (Cert.WInKernel.main (F := Bits))) ⟨m, fun _ => 0, g⟩ (fun r => (∀ c : Dev Cert.WInKernel.nD,
      r.2.mem ((c.tc : Thread Cert.WInKernel.nD Cert.WInKernel.τ).loc Cert.WInKernel.main_arg0) = m ((c.tc : Thread Cert.WInKernel.nD Cert.WInKernel.τ).loc Cert.WInKernel.main_arg0)
      ∧ r.2.mem ((c.tc : Thread Cert.WInKernel.nD Cert.WInKernel.τ).loc Cert.WInKernel.main_arg1) = m ((c.tc : Thread Cert.WInKernel.nD Cert.WInKernel.τ).loc Cert.WInKernel.main_arg1)
      ∧ r.2.mem ((c.tc : Thread Cert.WInKernel.nD Cert.WInKernel.τ).loc Cert.WInKernel.main_arg2) = m ((c.tc : Thread Cert.WInKernel.nD Cert.WInKernel.τ).loc Cert.WInKernel.main_arg2)
      ∧ r.2.mem ((c.tc : Thread Cert.WInKernel.nD Cert.WInKernel.τ).loc Cert.WInKernel.main_arg3) = m ((c.tc : Thread Cert.WInKernel.nD Cert.WInKernel.τ).loc Cert.WInKernel.main_arg3))
      ∧ r.2.sem = fun _ => 0)

def quiescent_WInKernelIdeal [hWInKernelIdeal : Cert.WInKernelIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg), Pre_WInKernelIdeal m →
    θ_run (Cert.WInKernelIdeal.defs (F := Ideal)) (onTc (τ := Cert.WInKernelIdeal.τ) (Cert.WInKernelIdeal.main (F := Ideal))) ⟨m, fun _ => 0, g⟩ (fun r => (∀ c : Dev Cert.WInKernelIdeal.nD,
      r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
      ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1)
      ∧ r.2.mem ((c.tc : Thread Cert.WInKernelIdeal.nD Cert.WInKernelIdeal.τ).loc Cert.WInKernelIdeal.main_arg2) = m ((c.tc : Thread Cert.WInKernelIdeal.nD Cert.WInKernelIdeal.τ).loc Cert.WInKernelIdeal.main_arg2)
      ∧ r.2.mem ((c.tc : Thread Cert.WInKernelIdeal.nD Cert.WInKernelIdeal.τ).loc Cert.WInKernelIdeal.main_arg3) = m ((c.tc : Thread Cert.WInKernelIdeal.nD Cert.WInKernelIdeal.τ).loc Cert.WInKernelIdeal.main_arg3))
      ∧ r.2.sem = fun _ => 0)

def quiescent_WInReferenceIdeal [hWInReferenceIdeal : Cert.WInReferenceIdeal.Facts] : Prop :=
  ∀ (m : (ℓ : Loc Cert.WInReferenceIdeal.nD Cert.WInReferenceIdeal.τ Cert.WInReferenceIdeal.sig) → Buf (Elt Ideal) ℓ) (g : Dev Cert.WInReferenceIdeal.nD → PrngReg), Pre_WInReferenceIdeal m →
    θ_run (Cert.WInReferenceIdeal.defs (F := Ideal)) (onTc (τ := Cert.WInReferenceIdeal.τ) (Cert.WInReferenceIdeal.main (F := Ideal))) ⟨m, fun _ => 0, g⟩ (fun r => (∀ c : Dev Cert.WInReferenceIdeal.nD,
      r.2.mem ((c.tc : Thread Cert.WInReferenceIdeal.nD Cert.WInReferenceIdeal.τ).loc Cert.WInReferenceIdeal.main_arg0) = m ((c.tc : Thread Cert.WInReferenceIdeal.nD Cert.WInReferenceIdeal.τ).loc Cert.WInReferenceIdeal.main_arg0)
      ∧ r.2.mem ((c.tc : Thread Cert.WInReferenceIdeal.nD Cert.WInReferenceIdeal.τ).loc Cert.WInReferenceIdeal.main_arg1) = m ((c.tc : Thread Cert.WInReferenceIdeal.nD Cert.WInReferenceIdeal.τ).loc Cert.WInReferenceIdeal.main_arg1)
      ∧ r.2.mem ((c.tc : Thread Cert.WInReferenceIdeal.nD Cert.WInReferenceIdeal.τ).loc Cert.WInReferenceIdeal.main_arg2) = m ((c.tc : Thread Cert.WInReferenceIdeal.nD Cert.WInReferenceIdeal.τ).loc Cert.WInReferenceIdeal.main_arg2)
      ∧ r.2.mem ((c.tc : Thread Cert.WInReferenceIdeal.nD Cert.WInReferenceIdeal.τ).loc Cert.WInReferenceIdeal.main_arg3) = m ((c.tc : Thread Cert.WInReferenceIdeal.nD Cert.WInReferenceIdeal.τ).loc Cert.WInReferenceIdeal.main_arg3))
      ∧ r.2.sem = fun _ => 0)

def quiescent_MlpInKernel [hMlpInKernel : Cert.MlpInKernel.Facts] : Prop :=
  ∀ (m : (ℓ : Loc Cert.MlpInKernel.nD Cert.MlpInKernel.τ Cert.MlpInKernel.sig) → Buf (Elt Bits) ℓ) (g : Dev Cert.MlpInKernel.nD → PrngReg), Pre_MlpInKernel m →
    θ_run (Cert.MlpInKernel.defs (F := Bits)) (onTc (τ := Cert.MlpInKernel.τ) (Cert.MlpInKernel.main (F := Bits))) ⟨m, fun _ => 0, g⟩ (fun r => (∀ c : Dev Cert.MlpInKernel.nD,
      r.2.mem ((c.tc : Thread Cert.MlpInKernel.nD Cert.MlpInKernel.τ).loc Cert.MlpInKernel.main_arg0) = m ((c.tc : Thread Cert.MlpInKernel.nD Cert.MlpInKernel.τ).loc Cert.MlpInKernel.main_arg0)
      ∧ r.2.mem ((c.tc : Thread Cert.MlpInKernel.nD Cert.MlpInKernel.τ).loc Cert.MlpInKernel.main_arg1) = m ((c.tc : Thread Cert.MlpInKernel.nD Cert.MlpInKernel.τ).loc Cert.MlpInKernel.main_arg1)
      ∧ r.2.mem ((c.tc : Thread Cert.MlpInKernel.nD Cert.MlpInKernel.τ).loc Cert.MlpInKernel.main_arg2) = m ((c.tc : Thread Cert.MlpInKernel.nD Cert.MlpInKernel.τ).loc Cert.MlpInKernel.main_arg2))
      ∧ r.2.sem = fun _ => 0)

def quiescent_MlpInKernelIdeal [hMlpInKernelIdeal : Cert.MlpInKernelIdeal.Facts] : Prop :=
  ∀ (m : (ℓ : Loc Cert.MlpInKernelIdeal.nD Cert.MlpInKernelIdeal.τ Cert.MlpInKernelIdeal.sig) → Buf (Elt Ideal) ℓ) (g : Dev Cert.MlpInKernelIdeal.nD → PrngReg), Pre_MlpInKernelIdeal m →
    θ_run (Cert.MlpInKernelIdeal.defs (F := Ideal)) (onTc (τ := Cert.MlpInKernelIdeal.τ) (Cert.MlpInKernelIdeal.main (F := Ideal))) ⟨m, fun _ => 0, g⟩ (fun r => (∀ c : Dev Cert.MlpInKernelIdeal.nD,
      r.2.mem ((c.tc : Thread Cert.MlpInKernelIdeal.nD Cert.MlpInKernelIdeal.τ).loc Cert.MlpInKernelIdeal.main_arg0) = m ((c.tc : Thread Cert.MlpInKernelIdeal.nD Cert.MlpInKernelIdeal.τ).loc Cert.MlpInKernelIdeal.main_arg0)
      ∧ r.2.mem ((c.tc : Thread Cert.MlpInKernelIdeal.nD Cert.MlpInKernelIdeal.τ).loc Cert.MlpInKernelIdeal.main_arg1) = m ((c.tc : Thread Cert.MlpInKernelIdeal.nD Cert.MlpInKernelIdeal.τ).loc Cert.MlpInKernelIdeal.main_arg1)
      ∧ r.2.mem ((c.tc : Thread Cert.MlpInKernelIdeal.nD Cert.MlpInKernelIdeal.τ).loc Cert.MlpInKernelIdeal.main_arg2) = m ((c.tc : Thread Cert.MlpInKernelIdeal.nD Cert.MlpInKernelIdeal.τ).loc Cert.MlpInKernelIdeal.main_arg2))
      ∧ r.2.sem = fun _ => 0)

def quiescent_MlpInReferenceIdeal [hMlpInReferenceIdeal : Cert.MlpInReferenceIdeal.Facts] : Prop :=
  ∀ (m : (ℓ : Loc Cert.MlpInReferenceIdeal.nD Cert.MlpInReferenceIdeal.τ Cert.MlpInReferenceIdeal.sig) → Buf (Elt Ideal) ℓ) (g : Dev Cert.MlpInReferenceIdeal.nD → PrngReg), Pre_MlpInReferenceIdeal m →
    θ_run (Cert.MlpInReferenceIdeal.defs (F := Ideal)) (onTc (τ := Cert.MlpInReferenceIdeal.τ) (Cert.MlpInReferenceIdeal.main (F := Ideal))) ⟨m, fun _ => 0, g⟩ (fun r => (∀ c : Dev Cert.MlpInReferenceIdeal.nD,
      r.2.mem ((c.tc : Thread Cert.MlpInReferenceIdeal.nD Cert.MlpInReferenceIdeal.τ).loc Cert.MlpInReferenceIdeal.main_arg0) = m ((c.tc : Thread Cert.MlpInReferenceIdeal.nD Cert.MlpInReferenceIdeal.τ).loc Cert.MlpInReferenceIdeal.main_arg0)
      ∧ r.2.mem ((c.tc : Thread Cert.MlpInReferenceIdeal.nD Cert.MlpInReferenceIdeal.τ).loc Cert.MlpInReferenceIdeal.main_arg1) = m ((c.tc : Thread Cert.MlpInReferenceIdeal.nD Cert.MlpInReferenceIdeal.τ).loc Cert.MlpInReferenceIdeal.main_arg1)
      ∧ r.2.mem ((c.tc : Thread Cert.MlpInReferenceIdeal.nD Cert.MlpInReferenceIdeal.τ).loc Cert.MlpInReferenceIdeal.main_arg2) = m ((c.tc : Thread Cert.MlpInReferenceIdeal.nD Cert.MlpInReferenceIdeal.τ).loc Cert.MlpInReferenceIdeal.main_arg2))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_MlpOutKernel [hMlpOutKernel : Cert.MlpOutKernel.Facts] : Prop :=
  ∀ (m : (ℓ : Loc Cert.MlpOutKernel.nD Cert.MlpOutKernel.τ Cert.MlpOutKernel.sig) → Buf (Elt Bits) ℓ) (g : Dev Cert.MlpOutKernel.nD → PrngReg), Pre_MlpOutKernel m →
    θ_run (Cert.MlpOutKernel.defs (F := Bits)) (onTc (τ := Cert.MlpOutKernel.τ) (Cert.MlpOutKernel.main (F := Bits))) ⟨m, fun _ => 0, g⟩ (fun r => (∀ c : Dev Cert.MlpOutKernel.nD,
      r.2.mem ((c.tc : Thread Cert.MlpOutKernel.nD Cert.MlpOutKernel.τ).loc Cert.MlpOutKernel.main_arg0) = m ((c.tc : Thread Cert.MlpOutKernel.nD Cert.MlpOutKernel.τ).loc Cert.MlpOutKernel.main_arg0)
      ∧ r.2.mem ((c.tc : Thread Cert.MlpOutKernel.nD Cert.MlpOutKernel.τ).loc Cert.MlpOutKernel.main_arg1) = m ((c.tc : Thread Cert.MlpOutKernel.nD Cert.MlpOutKernel.τ).loc Cert.MlpOutKernel.main_arg1)
      ∧ r.2.mem ((c.tc : Thread Cert.MlpOutKernel.nD Cert.MlpOutKernel.τ).loc Cert.MlpOutKernel.main_arg2) = m ((c.tc : Thread Cert.MlpOutKernel.nD Cert.MlpOutKernel.τ).loc Cert.MlpOutKernel.main_arg2)
      ∧ r.2.mem ((c.tc : Thread Cert.MlpOutKernel.nD Cert.MlpOutKernel.τ).loc Cert.MlpOutKernel.main_arg3) = m ((c.tc : Thread Cert.MlpOutKernel.nD Cert.MlpOutKernel.τ).loc Cert.MlpOutKernel.main_arg3)
      ∧ r.2.mem ((c.tc : Thread Cert.MlpOutKernel.nD Cert.MlpOutKernel.τ).loc Cert.MlpOutKernel.main_arg4) = m ((c.tc : Thread Cert.MlpOutKernel.nD Cert.MlpOutKernel.τ).loc Cert.MlpOutKernel.main_arg4)
      ∧ r.2.mem ((c.tc : Thread Cert.MlpOutKernel.nD Cert.MlpOutKernel.τ).loc Cert.MlpOutKernel.main_arg5) = m ((c.tc : Thread Cert.MlpOutKernel.nD Cert.MlpOutKernel.τ).loc Cert.MlpOutKernel.main_arg5)
      ∧ r.2.mem ((c.tc : Thread Cert.MlpOutKernel.nD Cert.MlpOutKernel.τ).loc Cert.MlpOutKernel.main_arg6) = m ((c.tc : Thread Cert.MlpOutKernel.nD Cert.MlpOutKernel.τ).loc Cert.MlpOutKernel.main_arg6)
      ∧ r.2.mem ((c.tc : Thread Cert.MlpOutKernel.nD Cert.MlpOutKernel.τ).loc Cert.MlpOutKernel.main_arg7) = m ((c.tc : Thread Cert.MlpOutKernel.nD Cert.MlpOutKernel.τ).loc Cert.MlpOutKernel.main_arg7))
      ∧ r.2.sem = fun _ => 0)

def quiescent_MlpOutKernelIdeal [hMlpOutKernelIdeal : Cert.MlpOutKernelIdeal.Facts] : Prop :=
  ∀ (m : (ℓ : Loc Cert.MlpOutKernelIdeal.nD Cert.MlpOutKernelIdeal.τ Cert.MlpOutKernelIdeal.sig) → Buf (Elt Ideal) ℓ) (g : Dev Cert.MlpOutKernelIdeal.nD → PrngReg), Pre_MlpOutKernelIdeal m →
    θ_run (Cert.MlpOutKernelIdeal.defs (F := Ideal)) (onTc (τ := Cert.MlpOutKernelIdeal.τ) (Cert.MlpOutKernelIdeal.main (F := Ideal))) ⟨m, fun _ => 0, g⟩ (fun r => (∀ c : Dev Cert.MlpOutKernelIdeal.nD,
      r.2.mem ((c.tc : Thread Cert.MlpOutKernelIdeal.nD Cert.MlpOutKernelIdeal.τ).loc Cert.MlpOutKernelIdeal.main_arg0) = m ((c.tc : Thread Cert.MlpOutKernelIdeal.nD Cert.MlpOutKernelIdeal.τ).loc Cert.MlpOutKernelIdeal.main_arg0)
      ∧ r.2.mem ((c.tc : Thread Cert.MlpOutKernelIdeal.nD Cert.MlpOutKernelIdeal.τ).loc Cert.MlpOutKernelIdeal.main_arg1) = m ((c.tc : Thread Cert.MlpOutKernelIdeal.nD Cert.MlpOutKernelIdeal.τ).loc Cert.MlpOutKernelIdeal.main_arg1)
      ∧ r.2.mem ((c.tc : Thread Cert.MlpOutKernelIdeal.nD Cert.MlpOutKernelIdeal.τ).loc Cert.MlpOutKernelIdeal.main_arg2) = m ((c.tc : Thread Cert.MlpOutKernelIdeal.nD Cert.MlpOutKernelIdeal.τ).loc Cert.MlpOutKernelIdeal.main_arg2)
      ∧ r.2.mem ((c.tc : Thread Cert.MlpOutKernelIdeal.nD Cert.MlpOutKernelIdeal.τ).loc Cert.MlpOutKernelIdeal.main_arg3) = m ((c.tc : Thread Cert.MlpOutKernelIdeal.nD Cert.MlpOutKernelIdeal.τ).loc Cert.MlpOutKernelIdeal.main_arg3)
      ∧ r.2.mem ((c.tc : Thread Cert.MlpOutKernelIdeal.nD Cert.MlpOutKernelIdeal.τ).loc Cert.MlpOutKernelIdeal.main_arg4) = m ((c.tc : Thread Cert.MlpOutKernelIdeal.nD Cert.MlpOutKernelIdeal.τ).loc Cert.MlpOutKernelIdeal.main_arg4)
      ∧ r.2.mem ((c.tc : Thread Cert.MlpOutKernelIdeal.nD Cert.MlpOutKernelIdeal.τ).loc Cert.MlpOutKernelIdeal.main_arg5) = m ((c.tc : Thread Cert.MlpOutKernelIdeal.nD Cert.MlpOutKernelIdeal.τ).loc Cert.MlpOutKernelIdeal.main_arg5)
      ∧ r.2.mem ((c.tc : Thread Cert.MlpOutKernelIdeal.nD Cert.MlpOutKernelIdeal.τ).loc Cert.MlpOutKernelIdeal.main_arg6) = m ((c.tc : Thread Cert.MlpOutKernelIdeal.nD Cert.MlpOutKernelIdeal.τ).loc Cert.MlpOutKernelIdeal.main_arg6)
      ∧ r.2.mem ((c.tc : Thread Cert.MlpOutKernelIdeal.nD Cert.MlpOutKernelIdeal.τ).loc Cert.MlpOutKernelIdeal.main_arg7) = m ((c.tc : Thread Cert.MlpOutKernelIdeal.nD Cert.MlpOutKernelIdeal.τ).loc Cert.MlpOutKernelIdeal.main_arg7))
      ∧ r.2.sem = fun _ => 0)

def quiescent_MlpOutKernelIdeal_pre_mlp_out_finite [hMlpOutKernelIdeal : Cert.MlpOutKernelIdeal.Facts] [hPre_mlp_out_finite : Cert.Pre_mlp_out_finite.Facts] : Prop :=
  ∀ (m : (ℓ : Loc Cert.MlpOutKernelIdeal.nD Cert.MlpOutKernelIdeal.τ Cert.MlpOutKernelIdeal.sig) → Buf (Elt Ideal) ℓ) (g : Dev Cert.MlpOutKernelIdeal.nD → PrngReg), Pre_MlpOutKernelIdeal_mlp_out_finite m →
    θ_run (Cert.MlpOutKernelIdeal.defs (F := Ideal)) (onTc (τ := Cert.MlpOutKernelIdeal.τ) (Cert.MlpOutKernelIdeal.main (F := Ideal))) ⟨m, fun _ => 0, g⟩ (fun r => (∀ c : Dev Cert.MlpOutKernelIdeal.nD,
      r.2.mem ((c.tc : Thread Cert.MlpOutKernelIdeal.nD Cert.MlpOutKernelIdeal.τ).loc Cert.MlpOutKernelIdeal.main_arg0) = m ((c.tc : Thread Cert.MlpOutKernelIdeal.nD Cert.MlpOutKernelIdeal.τ).loc Cert.MlpOutKernelIdeal.main_arg0)
      ∧ r.2.mem ((c.tc : Thread Cert.MlpOutKernelIdeal.nD Cert.MlpOutKernelIdeal.τ).loc Cert.MlpOutKernelIdeal.main_arg1) = m ((c.tc : Thread Cert.MlpOutKernelIdeal.nD Cert.MlpOutKernelIdeal.τ).loc Cert.MlpOutKernelIdeal.main_arg1)
      ∧ r.2.mem ((c.tc : Thread Cert.MlpOutKernelIdeal.nD Cert.MlpOutKernelIdeal.τ).loc Cert.MlpOutKernelIdeal.main_arg2) = m ((c.tc : Thread Cert.MlpOutKernelIdeal.nD Cert.MlpOutKernelIdeal.τ).loc Cert.MlpOutKernelIdeal.main_arg2)
      ∧ r.2.mem ((c.tc : Thread Cert.MlpOutKernelIdeal.nD Cert.MlpOutKernelIdeal.τ).loc Cert.MlpOutKernelIdeal.main_arg3) = m ((c.tc : Thread Cert.MlpOutKernelIdeal.nD Cert.MlpOutKernelIdeal.τ).loc Cert.MlpOutKernelIdeal.main_arg3)
      ∧ r.2.mem ((c.tc : Thread Cert.MlpOutKernelIdeal.nD Cert.MlpOutKernelIdeal.τ).loc Cert.MlpOutKernelIdeal.main_arg4) = m ((c.tc : Thread Cert.MlpOutKernelIdeal.nD Cert.MlpOutKernelIdeal.τ).loc Cert.MlpOutKernelIdeal.main_arg4)
      ∧ r.2.mem ((c.tc : Thread Cert.MlpOutKernelIdeal.nD Cert.MlpOutKernelIdeal.τ).loc Cert.MlpOutKernelIdeal.main_arg5) = m ((c.tc : Thread Cert.MlpOutKernelIdeal.nD Cert.MlpOutKernelIdeal.τ).loc Cert.MlpOutKernelIdeal.main_arg5)
      ∧ r.2.mem ((c.tc : Thread Cert.MlpOutKernelIdeal.nD Cert.MlpOutKernelIdeal.τ).loc Cert.MlpOutKernelIdeal.main_arg6) = m ((c.tc : Thread Cert.MlpOutKernelIdeal.nD Cert.MlpOutKernelIdeal.τ).loc Cert.MlpOutKernelIdeal.main_arg6)
      ∧ r.2.mem ((c.tc : Thread Cert.MlpOutKernelIdeal.nD Cert.MlpOutKernelIdeal.τ).loc Cert.MlpOutKernelIdeal.main_arg7) = m ((c.tc : Thread Cert.MlpOutKernelIdeal.nD Cert.MlpOutKernelIdeal.τ).loc Cert.MlpOutKernelIdeal.main_arg7))
      ∧ r.2.sem = fun _ => 0)

def quiescent_MlpOutReferenceIdeal [hMlpOutReferenceIdeal : Cert.MlpOutReferenceIdeal.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1)
      ∧ r.2.mem ((c.tc : Thread Cert.MlpOutReferenceIdeal.nD Cert.MlpOutReferenceIdeal.τ).loc Cert.MlpOutReferenceIdeal.main_arg2) = m ((c.tc : Thread Cert.MlpOutReferenceIdeal.nD Cert.MlpOutReferenceIdeal.τ).loc Cert.MlpOutReferenceIdeal.main_arg2)
      ∧ r.2.mem ((c.tc : Thread Cert.MlpOutReferenceIdeal.nD Cert.MlpOutReferenceIdeal.τ).loc Cert.MlpOutReferenceIdeal.main_arg3) = m ((c.tc : Thread Cert.MlpOutReferenceIdeal.nD Cert.MlpOutReferenceIdeal.τ).loc Cert.MlpOutReferenceIdeal.main_arg3)
      ∧ r.2.mem ((c.tc : Thread Cert.MlpOutReferenceIdeal.nD Cert.MlpOutReferenceIdeal.τ).loc Cert.MlpOutReferenceIdeal.main_arg4) = m ((c.tc : Thread Cert.MlpOutReferenceIdeal.nD Cert.MlpOutReferenceIdeal.τ).loc Cert.MlpOutReferenceIdeal.main_arg4)
      ∧ r.2.mem ((c.tc : Thread Cert.MlpOutReferenceIdeal.nD Cert.MlpOutReferenceIdeal.τ).loc Cert.MlpOutReferenceIdeal.main_arg5) = m ((c.tc : Thread Cert.MlpOutReferenceIdeal.nD Cert.MlpOutReferenceIdeal.τ).loc Cert.MlpOutReferenceIdeal.main_arg5)
      ∧ r.2.mem ((c.tc : Thread Cert.MlpOutReferenceIdeal.nD Cert.MlpOutReferenceIdeal.τ).loc Cert.MlpOutReferenceIdeal.main_arg6) = m ((c.tc : Thread Cert.MlpOutReferenceIdeal.nD Cert.MlpOutReferenceIdeal.τ).loc Cert.MlpOutReferenceIdeal.main_arg6)
      ∧ r.2.mem ((c.tc : Thread Cert.MlpOutReferenceIdeal.nD Cert.MlpOutReferenceIdeal.τ).loc Cert.MlpOutReferenceIdeal.main_arg7) = m ((c.tc : Thread Cert.MlpOutReferenceIdeal.nD Cert.MlpOutReferenceIdeal.τ).loc Cert.MlpOutReferenceIdeal.main_arg7))
      ∧ r.2.sem = fun _ => 0)

def quiescent_MlpOutReferenceIdeal_pre_mlp_out_finite [hMlpOutReferenceIdeal : Cert.MlpOutReferenceIdeal.Facts] [hPre_mlp_out_finite : Cert.Pre_mlp_out_finite.Facts] : Prop :=
  ∀ (m : (ℓ : Loc Cert.MlpOutReferenceIdeal.nD Cert.MlpOutReferenceIdeal.τ Cert.MlpOutReferenceIdeal.sig) → Buf (Elt Ideal) ℓ) (g : Dev Cert.MlpOutReferenceIdeal.nD → PrngReg), Pre_MlpOutReferenceIdeal_mlp_out_finite m →
    θ_run (Cert.MlpOutReferenceIdeal.defs (F := Ideal)) (onTc (τ := Cert.MlpOutReferenceIdeal.τ) (Cert.MlpOutReferenceIdeal.main (F := Ideal))) ⟨m, fun _ => 0, g⟩ (fun r => (∀ c : Dev Cert.MlpOutReferenceIdeal.nD,
      r.2.mem ((c.tc : Thread Cert.MlpOutReferenceIdeal.nD Cert.MlpOutReferenceIdeal.τ).loc Cert.MlpOutReferenceIdeal.main_arg0) = m ((c.tc : Thread Cert.MlpOutReferenceIdeal.nD Cert.MlpOutReferenceIdeal.τ).loc Cert.MlpOutReferenceIdeal.main_arg0)
      ∧ r.2.mem ((c.tc : Thread Cert.MlpOutReferenceIdeal.nD Cert.MlpOutReferenceIdeal.τ).loc Cert.MlpOutReferenceIdeal.main_arg1) = m ((c.tc : Thread Cert.MlpOutReferenceIdeal.nD Cert.MlpOutReferenceIdeal.τ).loc Cert.MlpOutReferenceIdeal.main_arg1)
      ∧ r.2.mem ((c.tc : Thread Cert.MlpOutReferenceIdeal.nD Cert.MlpOutReferenceIdeal.τ).loc Cert.MlpOutReferenceIdeal.main_arg2) = m ((c.tc : Thread Cert.MlpOutReferenceIdeal.nD Cert.MlpOutReferenceIdeal.τ).loc Cert.MlpOutReferenceIdeal.main_arg2)
      ∧ r.2.mem ((c.tc : Thread Cert.MlpOutReferenceIdeal.nD Cert.MlpOutReferenceIdeal.τ).loc Cert.MlpOutReferenceIdeal.main_arg3) = m ((c.tc : Thread Cert.MlpOutReferenceIdeal.nD Cert.MlpOutReferenceIdeal.τ).loc Cert.MlpOutReferenceIdeal.main_arg3)
      ∧ r.2.mem ((c.tc : Thread Cert.MlpOutReferenceIdeal.nD Cert.MlpOutReferenceIdeal.τ).loc Cert.MlpOutReferenceIdeal.main_arg4) = m ((c.tc : Thread Cert.MlpOutReferenceIdeal.nD Cert.MlpOutReferenceIdeal.τ).loc Cert.MlpOutReferenceIdeal.main_arg4)
      ∧ r.2.mem ((c.tc : Thread Cert.MlpOutReferenceIdeal.nD Cert.MlpOutReferenceIdeal.τ).loc Cert.MlpOutReferenceIdeal.main_arg5) = m ((c.tc : Thread Cert.MlpOutReferenceIdeal.nD Cert.MlpOutReferenceIdeal.τ).loc Cert.MlpOutReferenceIdeal.main_arg5)
      ∧ r.2.mem ((c.tc : Thread Cert.MlpOutReferenceIdeal.nD Cert.MlpOutReferenceIdeal.τ).loc Cert.MlpOutReferenceIdeal.main_arg6) = m ((c.tc : Thread Cert.MlpOutReferenceIdeal.nD Cert.MlpOutReferenceIdeal.τ).loc Cert.MlpOutReferenceIdeal.main_arg6)
      ∧ r.2.mem ((c.tc : Thread Cert.MlpOutReferenceIdeal.nD Cert.MlpOutReferenceIdeal.τ).loc Cert.MlpOutReferenceIdeal.main_arg7) = m ((c.tc : Thread Cert.MlpOutReferenceIdeal.nD Cert.MlpOutReferenceIdeal.τ).loc Cert.MlpOutReferenceIdeal.main_arg7))
      ∧ r.2.sem = fun _ => 0)

def quiescent_Dx1Kernel [hDx1Kernel : Cert.Dx1Kernel.Facts] : Prop :=
  ∀ (m : (ℓ : Loc Cert.Dx1Kernel.nD Cert.Dx1Kernel.τ Cert.Dx1Kernel.sig) → Buf (Elt Bits) ℓ) (g : Dev Cert.Dx1Kernel.nD → PrngReg), Pre_Dx1Kernel m →
    θ_run (Cert.Dx1Kernel.defs (F := Bits)) (onTc (τ := Cert.Dx1Kernel.τ) (Cert.Dx1Kernel.main (F := Bits))) ⟨m, fun _ => 0, g⟩ (fun r => (∀ c : Dev Cert.Dx1Kernel.nD,
      r.2.mem ((c.tc : Thread Cert.Dx1Kernel.nD Cert.Dx1Kernel.τ).loc Cert.Dx1Kernel.main_arg0) = m ((c.tc : Thread Cert.Dx1Kernel.nD Cert.Dx1Kernel.τ).loc Cert.Dx1Kernel.main_arg0)
      ∧ r.2.mem ((c.tc : Thread Cert.Dx1Kernel.nD Cert.Dx1Kernel.τ).loc Cert.Dx1Kernel.main_arg1) = m ((c.tc : Thread Cert.Dx1Kernel.nD Cert.Dx1Kernel.τ).loc Cert.Dx1Kernel.main_arg1)
      ∧ r.2.mem ((c.tc : Thread Cert.Dx1Kernel.nD Cert.Dx1Kernel.τ).loc Cert.Dx1Kernel.main_arg2) = m ((c.tc : Thread Cert.Dx1Kernel.nD Cert.Dx1Kernel.τ).loc Cert.Dx1Kernel.main_arg2)
      ∧ r.2.mem ((c.tc : Thread Cert.Dx1Kernel.nD Cert.Dx1Kernel.τ).loc Cert.Dx1Kernel.main_arg3) = m ((c.tc : Thread Cert.Dx1Kernel.nD Cert.Dx1Kernel.τ).loc Cert.Dx1Kernel.main_arg3)
      ∧ r.2.mem ((c.tc : Thread Cert.Dx1Kernel.nD Cert.Dx1Kernel.τ).loc Cert.Dx1Kernel.main_arg4) = m ((c.tc : Thread Cert.Dx1Kernel.nD Cert.Dx1Kernel.τ).loc Cert.Dx1Kernel.main_arg4)
      ∧ r.2.mem ((c.tc : Thread Cert.Dx1Kernel.nD Cert.Dx1Kernel.τ).loc Cert.Dx1Kernel.main_arg5) = m ((c.tc : Thread Cert.Dx1Kernel.nD Cert.Dx1Kernel.τ).loc Cert.Dx1Kernel.main_arg5)
      ∧ r.2.mem ((c.tc : Thread Cert.Dx1Kernel.nD Cert.Dx1Kernel.τ).loc Cert.Dx1Kernel.main_arg6) = m ((c.tc : Thread Cert.Dx1Kernel.nD Cert.Dx1Kernel.τ).loc Cert.Dx1Kernel.main_arg6))
      ∧ r.2.sem = fun _ => 0)

def quiescent_Dx1KernelIdeal [hDx1KernelIdeal : Cert.Dx1KernelIdeal.Facts] : Prop :=
  ∀ (m : (ℓ : Loc Cert.Dx1KernelIdeal.nD Cert.Dx1KernelIdeal.τ Cert.Dx1KernelIdeal.sig) → Buf (Elt Ideal) ℓ) (g : Dev Cert.Dx1KernelIdeal.nD → PrngReg), Pre_Dx1KernelIdeal m →
    θ_run (Cert.Dx1KernelIdeal.defs (F := Ideal)) (onTc (τ := Cert.Dx1KernelIdeal.τ) (Cert.Dx1KernelIdeal.main (F := Ideal))) ⟨m, fun _ => 0, g⟩ (fun r => (∀ c : Dev Cert.Dx1KernelIdeal.nD,
      r.2.mem ((c.tc : Thread Cert.Dx1KernelIdeal.nD Cert.Dx1KernelIdeal.τ).loc Cert.Dx1KernelIdeal.main_arg0) = m ((c.tc : Thread Cert.Dx1KernelIdeal.nD Cert.Dx1KernelIdeal.τ).loc Cert.Dx1KernelIdeal.main_arg0)
      ∧ r.2.mem ((c.tc : Thread Cert.Dx1KernelIdeal.nD Cert.Dx1KernelIdeal.τ).loc Cert.Dx1KernelIdeal.main_arg1) = m ((c.tc : Thread Cert.Dx1KernelIdeal.nD Cert.Dx1KernelIdeal.τ).loc Cert.Dx1KernelIdeal.main_arg1)
      ∧ r.2.mem ((c.tc : Thread Cert.Dx1KernelIdeal.nD Cert.Dx1KernelIdeal.τ).loc Cert.Dx1KernelIdeal.main_arg2) = m ((c.tc : Thread Cert.Dx1KernelIdeal.nD Cert.Dx1KernelIdeal.τ).loc Cert.Dx1KernelIdeal.main_arg2)
      ∧ r.2.mem ((c.tc : Thread Cert.Dx1KernelIdeal.nD Cert.Dx1KernelIdeal.τ).loc Cert.Dx1KernelIdeal.main_arg3) = m ((c.tc : Thread Cert.Dx1KernelIdeal.nD Cert.Dx1KernelIdeal.τ).loc Cert.Dx1KernelIdeal.main_arg3)
      ∧ r.2.mem ((c.tc : Thread Cert.Dx1KernelIdeal.nD Cert.Dx1KernelIdeal.τ).loc Cert.Dx1KernelIdeal.main_arg4) = m ((c.tc : Thread Cert.Dx1KernelIdeal.nD Cert.Dx1KernelIdeal.τ).loc Cert.Dx1KernelIdeal.main_arg4)
      ∧ r.2.mem ((c.tc : Thread Cert.Dx1KernelIdeal.nD Cert.Dx1KernelIdeal.τ).loc Cert.Dx1KernelIdeal.main_arg5) = m ((c.tc : Thread Cert.Dx1KernelIdeal.nD Cert.Dx1KernelIdeal.τ).loc Cert.Dx1KernelIdeal.main_arg5)
      ∧ r.2.mem ((c.tc : Thread Cert.Dx1KernelIdeal.nD Cert.Dx1KernelIdeal.τ).loc Cert.Dx1KernelIdeal.main_arg6) = m ((c.tc : Thread Cert.Dx1KernelIdeal.nD Cert.Dx1KernelIdeal.τ).loc Cert.Dx1KernelIdeal.main_arg6))
      ∧ r.2.sem = fun _ => 0)

def quiescent_Dx1KernelIdeal_pre_dx1_finite [hDx1KernelIdeal : Cert.Dx1KernelIdeal.Facts] [hPre_dx1_finite : Cert.Pre_dx1_finite.Facts] : Prop :=
  ∀ (m : (ℓ : Loc Cert.Dx1KernelIdeal.nD Cert.Dx1KernelIdeal.τ Cert.Dx1KernelIdeal.sig) → Buf (Elt Ideal) ℓ) (g : Dev Cert.Dx1KernelIdeal.nD → PrngReg), Pre_Dx1KernelIdeal_dx1_finite m →
    θ_run (Cert.Dx1KernelIdeal.defs (F := Ideal)) (onTc (τ := Cert.Dx1KernelIdeal.τ) (Cert.Dx1KernelIdeal.main (F := Ideal))) ⟨m, fun _ => 0, g⟩ (fun r => (∀ c : Dev Cert.Dx1KernelIdeal.nD,
      r.2.mem ((c.tc : Thread Cert.Dx1KernelIdeal.nD Cert.Dx1KernelIdeal.τ).loc Cert.Dx1KernelIdeal.main_arg0) = m ((c.tc : Thread Cert.Dx1KernelIdeal.nD Cert.Dx1KernelIdeal.τ).loc Cert.Dx1KernelIdeal.main_arg0)
      ∧ r.2.mem ((c.tc : Thread Cert.Dx1KernelIdeal.nD Cert.Dx1KernelIdeal.τ).loc Cert.Dx1KernelIdeal.main_arg1) = m ((c.tc : Thread Cert.Dx1KernelIdeal.nD Cert.Dx1KernelIdeal.τ).loc Cert.Dx1KernelIdeal.main_arg1)
      ∧ r.2.mem ((c.tc : Thread Cert.Dx1KernelIdeal.nD Cert.Dx1KernelIdeal.τ).loc Cert.Dx1KernelIdeal.main_arg2) = m ((c.tc : Thread Cert.Dx1KernelIdeal.nD Cert.Dx1KernelIdeal.τ).loc Cert.Dx1KernelIdeal.main_arg2)
      ∧ r.2.mem ((c.tc : Thread Cert.Dx1KernelIdeal.nD Cert.Dx1KernelIdeal.τ).loc Cert.Dx1KernelIdeal.main_arg3) = m ((c.tc : Thread Cert.Dx1KernelIdeal.nD Cert.Dx1KernelIdeal.τ).loc Cert.Dx1KernelIdeal.main_arg3)
      ∧ r.2.mem ((c.tc : Thread Cert.Dx1KernelIdeal.nD Cert.Dx1KernelIdeal.τ).loc Cert.Dx1KernelIdeal.main_arg4) = m ((c.tc : Thread Cert.Dx1KernelIdeal.nD Cert.Dx1KernelIdeal.τ).loc Cert.Dx1KernelIdeal.main_arg4)
      ∧ r.2.mem ((c.tc : Thread Cert.Dx1KernelIdeal.nD Cert.Dx1KernelIdeal.τ).loc Cert.Dx1KernelIdeal.main_arg5) = m ((c.tc : Thread Cert.Dx1KernelIdeal.nD Cert.Dx1KernelIdeal.τ).loc Cert.Dx1KernelIdeal.main_arg5)
      ∧ r.2.mem ((c.tc : Thread Cert.Dx1KernelIdeal.nD Cert.Dx1KernelIdeal.τ).loc Cert.Dx1KernelIdeal.main_arg6) = m ((c.tc : Thread Cert.Dx1KernelIdeal.nD Cert.Dx1KernelIdeal.τ).loc Cert.Dx1KernelIdeal.main_arg6))
      ∧ r.2.sem = fun _ => 0)

def quiescent_Dx1ReferenceIdeal [hDx1ReferenceIdeal : Cert.Dx1ReferenceIdeal.Facts] : Prop :=
  ∀ (m : (ℓ : Loc Cert.Dx1ReferenceIdeal.nD Cert.Dx1ReferenceIdeal.τ Cert.Dx1ReferenceIdeal.sig) → Buf (Elt Ideal) ℓ) (g : Dev Cert.Dx1ReferenceIdeal.nD → PrngReg), Pre_Dx1ReferenceIdeal m →
    θ_run (Cert.Dx1ReferenceIdeal.defs (F := Ideal)) (onTc (τ := Cert.Dx1ReferenceIdeal.τ) (Cert.Dx1ReferenceIdeal.main (F := Ideal))) ⟨m, fun _ => 0, g⟩ (fun r => (∀ c : Dev Cert.Dx1ReferenceIdeal.nD,
      r.2.mem ((c.tc : Thread Cert.Dx1ReferenceIdeal.nD Cert.Dx1ReferenceIdeal.τ).loc Cert.Dx1ReferenceIdeal.main_arg0) = m ((c.tc : Thread Cert.Dx1ReferenceIdeal.nD Cert.Dx1ReferenceIdeal.τ).loc Cert.Dx1ReferenceIdeal.main_arg0)
      ∧ r.2.mem ((c.tc : Thread Cert.Dx1ReferenceIdeal.nD Cert.Dx1ReferenceIdeal.τ).loc Cert.Dx1ReferenceIdeal.main_arg1) = m ((c.tc : Thread Cert.Dx1ReferenceIdeal.nD Cert.Dx1ReferenceIdeal.τ).loc Cert.Dx1ReferenceIdeal.main_arg1)
      ∧ r.2.mem ((c.tc : Thread Cert.Dx1ReferenceIdeal.nD Cert.Dx1ReferenceIdeal.τ).loc Cert.Dx1ReferenceIdeal.main_arg2) = m ((c.tc : Thread Cert.Dx1ReferenceIdeal.nD Cert.Dx1ReferenceIdeal.τ).loc Cert.Dx1ReferenceIdeal.main_arg2)
      ∧ r.2.mem ((c.tc : Thread Cert.Dx1ReferenceIdeal.nD Cert.Dx1ReferenceIdeal.τ).loc Cert.Dx1ReferenceIdeal.main_arg3) = m ((c.tc : Thread Cert.Dx1ReferenceIdeal.nD Cert.Dx1ReferenceIdeal.τ).loc Cert.Dx1ReferenceIdeal.main_arg3)
      ∧ r.2.mem ((c.tc : Thread Cert.Dx1ReferenceIdeal.nD Cert.Dx1ReferenceIdeal.τ).loc Cert.Dx1ReferenceIdeal.main_arg4) = m ((c.tc : Thread Cert.Dx1ReferenceIdeal.nD Cert.Dx1ReferenceIdeal.τ).loc Cert.Dx1ReferenceIdeal.main_arg4)
      ∧ r.2.mem ((c.tc : Thread Cert.Dx1ReferenceIdeal.nD Cert.Dx1ReferenceIdeal.τ).loc Cert.Dx1ReferenceIdeal.main_arg5) = m ((c.tc : Thread Cert.Dx1ReferenceIdeal.nD Cert.Dx1ReferenceIdeal.τ).loc Cert.Dx1ReferenceIdeal.main_arg5)
      ∧ r.2.mem ((c.tc : Thread Cert.Dx1ReferenceIdeal.nD Cert.Dx1ReferenceIdeal.τ).loc Cert.Dx1ReferenceIdeal.main_arg6) = m ((c.tc : Thread Cert.Dx1ReferenceIdeal.nD Cert.Dx1ReferenceIdeal.τ).loc Cert.Dx1ReferenceIdeal.main_arg6))
      ∧ r.2.sem = fun _ => 0)

def quiescent_Dx1ReferenceIdeal_pre_dx1_finite [hDx1ReferenceIdeal : Cert.Dx1ReferenceIdeal.Facts] [hPre_dx1_finite : Cert.Pre_dx1_finite.Facts] : Prop :=
  ∀ (m : (ℓ : Loc Cert.Dx1ReferenceIdeal.nD Cert.Dx1ReferenceIdeal.τ Cert.Dx1ReferenceIdeal.sig) → Buf (Elt Ideal) ℓ) (g : Dev Cert.Dx1ReferenceIdeal.nD → PrngReg), Pre_Dx1ReferenceIdeal_dx1_finite m →
    θ_run (Cert.Dx1ReferenceIdeal.defs (F := Ideal)) (onTc (τ := Cert.Dx1ReferenceIdeal.τ) (Cert.Dx1ReferenceIdeal.main (F := Ideal))) ⟨m, fun _ => 0, g⟩ (fun r => (∀ c : Dev Cert.Dx1ReferenceIdeal.nD,
      r.2.mem ((c.tc : Thread Cert.Dx1ReferenceIdeal.nD Cert.Dx1ReferenceIdeal.τ).loc Cert.Dx1ReferenceIdeal.main_arg0) = m ((c.tc : Thread Cert.Dx1ReferenceIdeal.nD Cert.Dx1ReferenceIdeal.τ).loc Cert.Dx1ReferenceIdeal.main_arg0)
      ∧ r.2.mem ((c.tc : Thread Cert.Dx1ReferenceIdeal.nD Cert.Dx1ReferenceIdeal.τ).loc Cert.Dx1ReferenceIdeal.main_arg1) = m ((c.tc : Thread Cert.Dx1ReferenceIdeal.nD Cert.Dx1ReferenceIdeal.τ).loc Cert.Dx1ReferenceIdeal.main_arg1)
      ∧ r.2.mem ((c.tc : Thread Cert.Dx1ReferenceIdeal.nD Cert.Dx1ReferenceIdeal.τ).loc Cert.Dx1ReferenceIdeal.main_arg2) = m ((c.tc : Thread Cert.Dx1ReferenceIdeal.nD Cert.Dx1ReferenceIdeal.τ).loc Cert.Dx1ReferenceIdeal.main_arg2)
      ∧ r.2.mem ((c.tc : Thread Cert.Dx1ReferenceIdeal.nD Cert.Dx1ReferenceIdeal.τ).loc Cert.Dx1ReferenceIdeal.main_arg3) = m ((c.tc : Thread Cert.Dx1ReferenceIdeal.nD Cert.Dx1ReferenceIdeal.τ).loc Cert.Dx1ReferenceIdeal.main_arg3)
      ∧ r.2.mem ((c.tc : Thread Cert.Dx1ReferenceIdeal.nD Cert.Dx1ReferenceIdeal.τ).loc Cert.Dx1ReferenceIdeal.main_arg4) = m ((c.tc : Thread Cert.Dx1ReferenceIdeal.nD Cert.Dx1ReferenceIdeal.τ).loc Cert.Dx1ReferenceIdeal.main_arg4)
      ∧ r.2.mem ((c.tc : Thread Cert.Dx1ReferenceIdeal.nD Cert.Dx1ReferenceIdeal.τ).loc Cert.Dx1ReferenceIdeal.main_arg5) = m ((c.tc : Thread Cert.Dx1ReferenceIdeal.nD Cert.Dx1ReferenceIdeal.τ).loc Cert.Dx1ReferenceIdeal.main_arg5)
      ∧ r.2.mem ((c.tc : Thread Cert.Dx1ReferenceIdeal.nD Cert.Dx1ReferenceIdeal.τ).loc Cert.Dx1ReferenceIdeal.main_arg6) = m ((c.tc : Thread Cert.Dx1ReferenceIdeal.nD Cert.Dx1ReferenceIdeal.τ).loc Cert.Dx1ReferenceIdeal.main_arg6))
      ∧ r.2.sem = fun _ => 0)

def quiescent_OutLnKernel [hOutLnKernel : Cert.OutLnKernel.Facts] : Prop :=
  ∀ (m : (ℓ : Loc Cert.OutLnKernel.nD Cert.OutLnKernel.τ Cert.OutLnKernel.sig) → Buf (Elt Bits) ℓ) (g : Dev Cert.OutLnKernel.nD → PrngReg), Pre_OutLnKernel m →
    θ_run (Cert.OutLnKernel.defs (F := Bits)) (onTc (τ := Cert.OutLnKernel.τ) (Cert.OutLnKernel.main (F := Bits))) ⟨m, fun _ => 0, g⟩ (fun r => (∀ c : Dev Cert.OutLnKernel.nD,
      r.2.mem ((c.tc : Thread Cert.OutLnKernel.nD Cert.OutLnKernel.τ).loc Cert.OutLnKernel.main_arg0) = m ((c.tc : Thread Cert.OutLnKernel.nD Cert.OutLnKernel.τ).loc Cert.OutLnKernel.main_arg0)
      ∧ r.2.mem ((c.tc : Thread Cert.OutLnKernel.nD Cert.OutLnKernel.τ).loc Cert.OutLnKernel.main_arg1) = m ((c.tc : Thread Cert.OutLnKernel.nD Cert.OutLnKernel.τ).loc Cert.OutLnKernel.main_arg1)
      ∧ r.2.mem ((c.tc : Thread Cert.OutLnKernel.nD Cert.OutLnKernel.τ).loc Cert.OutLnKernel.main_arg2) = m ((c.tc : Thread Cert.OutLnKernel.nD Cert.OutLnKernel.τ).loc Cert.OutLnKernel.main_arg2)
      ∧ r.2.mem ((c.tc : Thread Cert.OutLnKernel.nD Cert.OutLnKernel.τ).loc Cert.OutLnKernel.main_arg3) = m ((c.tc : Thread Cert.OutLnKernel.nD Cert.OutLnKernel.τ).loc Cert.OutLnKernel.main_arg3)
      ∧ r.2.mem ((c.tc : Thread Cert.OutLnKernel.nD Cert.OutLnKernel.τ).loc Cert.OutLnKernel.main_arg4) = m ((c.tc : Thread Cert.OutLnKernel.nD Cert.OutLnKernel.τ).loc Cert.OutLnKernel.main_arg4)
      ∧ r.2.mem ((c.tc : Thread Cert.OutLnKernel.nD Cert.OutLnKernel.τ).loc Cert.OutLnKernel.main_arg5) = m ((c.tc : Thread Cert.OutLnKernel.nD Cert.OutLnKernel.τ).loc Cert.OutLnKernel.main_arg5))
      ∧ r.2.sem = fun _ => 0)

def quiescent_OutLnKernelIdeal [hOutLnKernelIdeal : Cert.OutLnKernelIdeal.Facts] : Prop :=
  ∀ (m : (ℓ : Loc Cert.OutLnKernelIdeal.nD Cert.OutLnKernelIdeal.τ Cert.OutLnKernelIdeal.sig) → Buf (Elt Ideal) ℓ) (g : Dev Cert.OutLnKernelIdeal.nD → PrngReg), Pre_OutLnKernelIdeal m →
    θ_run (Cert.OutLnKernelIdeal.defs (F := Ideal)) (onTc (τ := Cert.OutLnKernelIdeal.τ) (Cert.OutLnKernelIdeal.main (F := Ideal))) ⟨m, fun _ => 0, g⟩ (fun r => (∀ c : Dev Cert.OutLnKernelIdeal.nD,
      r.2.mem ((c.tc : Thread Cert.OutLnKernelIdeal.nD Cert.OutLnKernelIdeal.τ).loc Cert.OutLnKernelIdeal.main_arg0) = m ((c.tc : Thread Cert.OutLnKernelIdeal.nD Cert.OutLnKernelIdeal.τ).loc Cert.OutLnKernelIdeal.main_arg0)
      ∧ r.2.mem ((c.tc : Thread Cert.OutLnKernelIdeal.nD Cert.OutLnKernelIdeal.τ).loc Cert.OutLnKernelIdeal.main_arg1) = m ((c.tc : Thread Cert.OutLnKernelIdeal.nD Cert.OutLnKernelIdeal.τ).loc Cert.OutLnKernelIdeal.main_arg1)
      ∧ r.2.mem ((c.tc : Thread Cert.OutLnKernelIdeal.nD Cert.OutLnKernelIdeal.τ).loc Cert.OutLnKernelIdeal.main_arg2) = m ((c.tc : Thread Cert.OutLnKernelIdeal.nD Cert.OutLnKernelIdeal.τ).loc Cert.OutLnKernelIdeal.main_arg2)
      ∧ r.2.mem ((c.tc : Thread Cert.OutLnKernelIdeal.nD Cert.OutLnKernelIdeal.τ).loc Cert.OutLnKernelIdeal.main_arg3) = m ((c.tc : Thread Cert.OutLnKernelIdeal.nD Cert.OutLnKernelIdeal.τ).loc Cert.OutLnKernelIdeal.main_arg3)
      ∧ r.2.mem ((c.tc : Thread Cert.OutLnKernelIdeal.nD Cert.OutLnKernelIdeal.τ).loc Cert.OutLnKernelIdeal.main_arg4) = m ((c.tc : Thread Cert.OutLnKernelIdeal.nD Cert.OutLnKernelIdeal.τ).loc Cert.OutLnKernelIdeal.main_arg4)
      ∧ r.2.mem ((c.tc : Thread Cert.OutLnKernelIdeal.nD Cert.OutLnKernelIdeal.τ).loc Cert.OutLnKernelIdeal.main_arg5) = m ((c.tc : Thread Cert.OutLnKernelIdeal.nD Cert.OutLnKernelIdeal.τ).loc Cert.OutLnKernelIdeal.main_arg5))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4)
      ∧ r.2.mem ((c.tc : Thread Cert.OutLnReferenceIdeal.nD Cert.OutLnReferenceIdeal.τ).loc Cert.OutLnReferenceIdeal.main_arg5) = m ((c.tc : Thread Cert.OutLnReferenceIdeal.nD Cert.OutLnReferenceIdeal.τ).loc Cert.OutLnReferenceIdeal.main_arg5))
      ∧ r.2.sem = fun _ => 0)

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)) →
    ∃ (v0 : (c : Dev Cert.MlpKernelIdeal.nD) → Buf (Elt Ideal) ((c.tc : Thread Cert.MlpKernelIdeal.nD Cert.MlpKernelIdeal.τ).loc Cert.MlpKernelIdeal.main_v5)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v5) = v0 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v12) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_W2SibKernel_W2SibKernelIdeal : Prop :=
  True

def algebraic_W2SibKernelIdeal_W2SibReferenceIdeal [hW2SibKernelIdeal : Cert.W2SibKernelIdeal.Facts] [hW2SibReferenceIdeal : Cert.W2SibReferenceIdeal.Facts] : Prop :=
  ∀ (m : (ℓ : Loc Cert.W2SibKernelIdeal.nD Cert.W2SibKernelIdeal.τ Cert.W2SibKernelIdeal.sig) → Buf (Elt Ideal) ℓ) (g : Dev Cert.W2SibKernelIdeal.nD → PrngReg)
    (m' : (ℓ : Loc Cert.W2SibReferenceIdeal.nD Cert.W2SibReferenceIdeal.τ Cert.W2SibReferenceIdeal.sig) → Buf (Elt Ideal) ℓ) (g' : Dev Cert.W2SibReferenceIdeal.nD → PrngReg), Pre_W2SibKernelIdeal m →
    (∀ c : Dev Cert.W2SibKernelIdeal.nD,
      m' ((c.tc : Thread Cert.W2SibReferenceIdeal.nD Cert.W2SibReferenceIdeal.τ).loc Cert.W2SibReferenceIdeal.main_arg0) = m ((c.tc : Thread Cert.W2SibKernelIdeal.nD Cert.W2SibKernelIdeal.τ).loc Cert.W2SibKernelIdeal.main_arg0)
      ∧ m' ((c.tc : Thread Cert.W2SibReferenceIdeal.nD Cert.W2SibReferenceIdeal.τ).loc Cert.W2SibReferenceIdeal.main_arg1) = m ((c.tc : Thread Cert.W2SibKernelIdeal.nD Cert.W2SibKernelIdeal.τ).loc Cert.W2SibKernelIdeal.main_arg1)
      ∧ m' ((c.tc : Thread Cert.W2SibReferenceIdeal.nD Cert.W2SibReferenceIdeal.τ).loc Cert.W2SibReferenceIdeal.main_arg2) = m ((c.tc : Thread Cert.W2SibKernelIdeal.nD Cert.W2SibKernelIdeal.τ).loc Cert.W2SibKernelIdeal.main_arg2)) →
    ∃ (v0 : (c : Dev Cert.W2SibKernelIdeal.nD) → Buf (Elt Ideal) ((c.tc : Thread Cert.W2SibKernelIdeal.nD Cert.W2SibKernelIdeal.τ).loc Cert.W2SibKernelIdeal.main_v8)),
      θ_run (Cert.W2SibKernelIdeal.defs (F := Ideal)) (onTc (τ := Cert.W2SibKernelIdeal.τ) (Cert.W2SibKernelIdeal.main (F := Ideal))) ⟨m, fun _ => 0, g⟩ (fun r => ∀ c : Dev Cert.W2SibKernelIdeal.nD,
          r.2.mem ((c.tc : Thread Cert.W2SibKernelIdeal.nD Cert.W2SibKernelIdeal.τ).loc Cert.W2SibKernelIdeal.main_v8) = v0 c
          ∧ r.2.mem ((c.tc : Thread Cert.W2SibKernelIdeal.nD Cert.W2SibKernelIdeal.τ).loc Cert.W2SibKernelIdeal.main_arg0) = m ((c.tc : Thread Cert.W2SibKernelIdeal.nD Cert.W2SibKernelIdeal.τ).loc Cert.W2SibKernelIdeal.main_arg0)
          ∧ r.2.mem ((c.tc : Thread Cert.W2SibKernelIdeal.nD Cert.W2SibKernelIdeal.τ).loc Cert.W2SibKernelIdeal.main_arg1) = m ((c.tc : Thread Cert.W2SibKernelIdeal.nD Cert.W2SibKernelIdeal.τ).loc Cert.W2SibKernelIdeal.main_arg1)
          ∧ r.2.mem ((c.tc : Thread Cert.W2SibKernelIdeal.nD Cert.W2SibKernelIdeal.τ).loc Cert.W2SibKernelIdeal.main_arg2) = m ((c.tc : Thread Cert.W2SibKernelIdeal.nD Cert.W2SibKernelIdeal.τ).loc Cert.W2SibKernelIdeal.main_arg2))
      ∧ θ_run (Cert.W2SibReferenceIdeal.defs (F := Ideal)) (onTc (τ := Cert.W2SibReferenceIdeal.τ) (Cert.W2SibReferenceIdeal.main (F := Ideal))) ⟨m', fun _ => 0, g'⟩ (fun r => ∀ c : Dev Cert.W2SibReferenceIdeal.nD,
          r.2.mem ((c.tc : Thread Cert.W2SibReferenceIdeal.nD Cert.W2SibReferenceIdeal.τ).loc Cert.W2SibReferenceIdeal.main_v8) = v0 c
          ∧ r.2.mem ((c.tc : Thread Cert.W2SibReferenceIdeal.nD Cert.W2SibReferenceIdeal.τ).loc Cert.W2SibReferenceIdeal.main_arg0) = m' ((c.tc : Thread Cert.W2SibReferenceIdeal.nD Cert.W2SibReferenceIdeal.τ).loc Cert.W2SibReferenceIdeal.main_arg0)
          ∧ r.2.mem ((c.tc : Thread Cert.W2SibReferenceIdeal.nD Cert.W2SibReferenceIdeal.τ).loc Cert.W2SibReferenceIdeal.main_arg1) = m' ((c.tc : Thread Cert.W2SibReferenceIdeal.nD Cert.W2SibReferenceIdeal.τ).loc Cert.W2SibReferenceIdeal.main_arg1)
          ∧ r.2.mem ((c.tc : Thread Cert.W2SibReferenceIdeal.nD Cert.W2SibReferenceIdeal.τ).loc Cert.W2SibReferenceIdeal.main_arg2) = m' ((c.tc : Thread Cert.W2SibReferenceIdeal.nD Cert.W2SibReferenceIdeal.τ).loc Cert.W2SibReferenceIdeal.main_arg2))

def preserves_W2Kernel_W2KernelIdeal : Prop :=
  True

def algebraic_W2KernelIdeal_W2ReferenceIdeal [hW2KernelIdeal : Cert.W2KernelIdeal.Facts] [hW2ReferenceIdeal : Cert.W2ReferenceIdeal.Facts] : Prop :=
  ∀ (m : (ℓ : Loc Cert.W2KernelIdeal.nD Cert.W2KernelIdeal.τ Cert.W2KernelIdeal.sig) → Buf (Elt Ideal) ℓ) (g : Dev Cert.W2KernelIdeal.nD → PrngReg)
    (m' : (ℓ : Loc Cert.W2ReferenceIdeal.nD Cert.W2ReferenceIdeal.τ Cert.W2ReferenceIdeal.sig) → Buf (Elt Ideal) ℓ) (g' : Dev Cert.W2ReferenceIdeal.nD → PrngReg), Pre_W2KernelIdeal m →
    (∀ c : Dev Cert.W2KernelIdeal.nD,
      m' ((c.tc : Thread Cert.W2ReferenceIdeal.nD Cert.W2ReferenceIdeal.τ).loc Cert.W2ReferenceIdeal.main_arg0) = m ((c.tc : Thread Cert.W2KernelIdeal.nD Cert.W2KernelIdeal.τ).loc Cert.W2KernelIdeal.main_arg0)
      ∧ m' ((c.tc : Thread Cert.W2ReferenceIdeal.nD Cert.W2ReferenceIdeal.τ).loc Cert.W2ReferenceIdeal.main_arg1) = m ((c.tc : Thread Cert.W2KernelIdeal.nD Cert.W2KernelIdeal.τ).loc Cert.W2KernelIdeal.main_arg1)
      ∧ m' ((c.tc : Thread Cert.W2ReferenceIdeal.nD Cert.W2ReferenceIdeal.τ).loc Cert.W2ReferenceIdeal.main_arg2) = m ((c.tc : Thread Cert.W2KernelIdeal.nD Cert.W2KernelIdeal.τ).loc Cert.W2KernelIdeal.main_arg2)
      ∧ m' ((c.tc : Thread Cert.W2ReferenceIdeal.nD Cert.W2ReferenceIdeal.τ).loc Cert.W2ReferenceIdeal.main_arg3) = m ((c.tc : Thread Cert.W2KernelIdeal.nD Cert.W2KernelIdeal.τ).loc Cert.W2KernelIdeal.main_arg3)) →
    ∃ (v0 : (c : Dev Cert.W2KernelIdeal.nD) → Buf (Elt Ideal) ((c.tc : Thread Cert.W2KernelIdeal.nD Cert.W2KernelIdeal.τ).loc Cert.W2KernelIdeal.main_v8)),
      θ_run (Cert.W2KernelIdeal.defs (F := Ideal)) (onTc (τ := Cert.W2KernelIdeal.τ) (Cert.W2KernelIdeal.main (F := Ideal))) ⟨m, fun _ => 0, g⟩ (fun r => ∀ c : Dev Cert.W2KernelIdeal.nD,
          r.2.mem ((c.tc : Thread Cert.W2KernelIdeal.nD Cert.W2KernelIdeal.τ).loc Cert.W2KernelIdeal.main_v8) = v0 c
          ∧ r.2.mem ((c.tc : Thread Cert.W2KernelIdeal.nD Cert.W2KernelIdeal.τ).loc Cert.W2KernelIdeal.main_arg0) = m ((c.tc : Thread Cert.W2KernelIdeal.nD Cert.W2KernelIdeal.τ).loc Cert.W2KernelIdeal.main_arg0)
          ∧ r.2.mem ((c.tc : Thread Cert.W2KernelIdeal.nD Cert.W2KernelIdeal.τ).loc Cert.W2KernelIdeal.main_arg1) = m ((c.tc : Thread Cert.W2KernelIdeal.nD Cert.W2KernelIdeal.τ).loc Cert.W2KernelIdeal.main_arg1)
          ∧ r.2.mem ((c.tc : Thread Cert.W2KernelIdeal.nD Cert.W2KernelIdeal.τ).loc Cert.W2KernelIdeal.main_arg2) = m ((c.tc : Thread Cert.W2KernelIdeal.nD Cert.W2KernelIdeal.τ).loc Cert.W2KernelIdeal.main_arg2)
          ∧ r.2.mem ((c.tc : Thread Cert.W2KernelIdeal.nD Cert.W2KernelIdeal.τ).loc Cert.W2KernelIdeal.main_arg3) = m ((c.tc : Thread Cert.W2KernelIdeal.nD Cert.W2KernelIdeal.τ).loc Cert.W2KernelIdeal.main_arg3))
      ∧ θ_run (Cert.W2ReferenceIdeal.defs (F := Ideal)) (onTc (τ := Cert.W2ReferenceIdeal.τ) (Cert.W2ReferenceIdeal.main (F := Ideal))) ⟨m', fun _ => 0, g'⟩ (fun r => ∀ c : Dev Cert.W2ReferenceIdeal.nD,
          r.2.mem ((c.tc : Thread Cert.W2ReferenceIdeal.nD Cert.W2ReferenceIdeal.τ).loc Cert.W2ReferenceIdeal.main_v9) = v0 c
          ∧ r.2.mem ((c.tc : Thread Cert.W2ReferenceIdeal.nD Cert.W2ReferenceIdeal.τ).loc Cert.W2ReferenceIdeal.main_arg0) = m' ((c.tc : Thread Cert.W2ReferenceIdeal.nD Cert.W2ReferenceIdeal.τ).loc Cert.W2ReferenceIdeal.main_arg0)
          ∧ r.2.mem ((c.tc : Thread Cert.W2ReferenceIdeal.nD Cert.W2ReferenceIdeal.τ).loc Cert.W2ReferenceIdeal.main_arg1) = m' ((c.tc : Thread Cert.W2ReferenceIdeal.nD Cert.W2ReferenceIdeal.τ).loc Cert.W2ReferenceIdeal.main_arg1)
          ∧ r.2.mem ((c.tc : Thread Cert.W2ReferenceIdeal.nD Cert.W2ReferenceIdeal.τ).loc Cert.W2ReferenceIdeal.main_arg2) = m' ((c.tc : Thread Cert.W2ReferenceIdeal.nD Cert.W2ReferenceIdeal.τ).loc Cert.W2ReferenceIdeal.main_arg2)
          ∧ r.2.mem ((c.tc : Thread Cert.W2ReferenceIdeal.nD Cert.W2ReferenceIdeal.τ).loc Cert.W2ReferenceIdeal.main_arg3) = m' ((c.tc : Thread Cert.W2ReferenceIdeal.nD Cert.W2ReferenceIdeal.τ).loc Cert.W2ReferenceIdeal.main_arg3))

def preserves_W1SibKernel_W1SibKernelIdeal : Prop :=
  True

def algebraic_W1SibKernelIdeal_W1SibReferenceIdeal [hW1SibKernelIdeal : Cert.W1SibKernelIdeal.Facts] [hW1SibReferenceIdeal : Cert.W1SibReferenceIdeal.Facts] : Prop :=
  ∀ (m : (ℓ : Loc Cert.W1SibKernelIdeal.nD Cert.W1SibKernelIdeal.τ Cert.W1SibKernelIdeal.sig) → Buf (Elt Ideal) ℓ) (g : Dev Cert.W1SibKernelIdeal.nD → PrngReg)
    (m' : (ℓ : Loc Cert.W1SibReferenceIdeal.nD Cert.W1SibReferenceIdeal.τ Cert.W1SibReferenceIdeal.sig) → Buf (Elt Ideal) ℓ) (g' : Dev Cert.W1SibReferenceIdeal.nD → PrngReg), Pre_W1SibKernelIdeal m →
    (∀ c : Dev Cert.W1SibKernelIdeal.nD,
      m' ((c.tc : Thread Cert.W1SibReferenceIdeal.nD Cert.W1SibReferenceIdeal.τ).loc Cert.W1SibReferenceIdeal.main_arg0) = m ((c.tc : Thread Cert.W1SibKernelIdeal.nD Cert.W1SibKernelIdeal.τ).loc Cert.W1SibKernelIdeal.main_arg0)
      ∧ m' ((c.tc : Thread Cert.W1SibReferenceIdeal.nD Cert.W1SibReferenceIdeal.τ).loc Cert.W1SibReferenceIdeal.main_arg1) = m ((c.tc : Thread Cert.W1SibKernelIdeal.nD Cert.W1SibKernelIdeal.τ).loc Cert.W1SibKernelIdeal.main_arg1)
      ∧ m' ((c.tc : Thread Cert.W1SibReferenceIdeal.nD Cert.W1SibReferenceIdeal.τ).loc Cert.W1SibReferenceIdeal.main_arg2) = m ((c.tc : Thread Cert.W1SibKernelIdeal.nD Cert.W1SibKernelIdeal.τ).loc Cert.W1SibKernelIdeal.main_arg2)) →
    ∃ (v0 : (c : Dev Cert.W1SibKernelIdeal.nD) → Buf (Elt Ideal) ((c.tc : Thread Cert.W1SibKernelIdeal.nD Cert.W1SibKernelIdeal.τ).loc Cert.W1SibKernelIdeal.main_v5)),
      θ_run (Cert.W1SibKernelIdeal.defs (F := Ideal)) (onTc (τ := Cert.W1SibKernelIdeal.τ) (Cert.W1SibKernelIdeal.main (F := Ideal))) ⟨m, fun _ => 0, g⟩ (fun r => ∀ c : Dev Cert.W1SibKernelIdeal.nD,
          r.2.mem ((c.tc : Thread Cert.W1SibKernelIdeal.nD Cert.W1SibKernelIdeal.τ).loc Cert.W1SibKernelIdeal.main_v5) = v0 c
          ∧ r.2.mem ((c.tc : Thread Cert.W1SibKernelIdeal.nD Cert.W1SibKernelIdeal.τ).loc Cert.W1SibKernelIdeal.main_arg0) = m ((c.tc : Thread Cert.W1SibKernelIdeal.nD Cert.W1SibKernelIdeal.τ).loc Cert.W1SibKernelIdeal.main_arg0)
          ∧ r.2.mem ((c.tc : Thread Cert.W1SibKernelIdeal.nD Cert.W1SibKernelIdeal.τ).loc Cert.W1SibKernelIdeal.main_arg1) = m ((c.tc : Thread Cert.W1SibKernelIdeal.nD Cert.W1SibKernelIdeal.τ).loc Cert.W1SibKernelIdeal.main_arg1)
          ∧ r.2.mem ((c.tc : Thread Cert.W1SibKernelIdeal.nD Cert.W1SibKernelIdeal.τ).loc Cert.W1SibKernelIdeal.main_arg2) = m ((c.tc : Thread Cert.W1SibKernelIdeal.nD Cert.W1SibKernelIdeal.τ).loc Cert.W1SibKernelIdeal.main_arg2))
      ∧ θ_run (Cert.W1SibReferenceIdeal.defs (F := Ideal)) (onTc (τ := Cert.W1SibReferenceIdeal.τ) (Cert.W1SibReferenceIdeal.main (F := Ideal))) ⟨m', fun _ => 0, g'⟩ (fun r => ∀ c : Dev Cert.W1SibReferenceIdeal.nD,
          r.2.mem ((c.tc : Thread Cert.W1SibReferenceIdeal.nD Cert.W1SibReferenceIdeal.τ).loc Cert.W1SibReferenceIdeal.main_v7) = v0 c
          ∧ r.2.mem ((c.tc : Thread Cert.W1SibReferenceIdeal.nD Cert.W1SibReferenceIdeal.τ).loc Cert.W1SibReferenceIdeal.main_arg0) = m' ((c.tc : Thread Cert.W1SibReferenceIdeal.nD Cert.W1SibReferenceIdeal.τ).loc Cert.W1SibReferenceIdeal.main_arg0)
          ∧ r.2.mem ((c.tc : Thread Cert.W1SibReferenceIdeal.nD Cert.W1SibReferenceIdeal.τ).loc Cert.W1SibReferenceIdeal.main_arg1) = m' ((c.tc : Thread Cert.W1SibReferenceIdeal.nD Cert.W1SibReferenceIdeal.τ).loc Cert.W1SibReferenceIdeal.main_arg1)
          ∧ r.2.mem ((c.tc : Thread Cert.W1SibReferenceIdeal.nD Cert.W1SibReferenceIdeal.τ).loc Cert.W1SibReferenceIdeal.main_arg2) = m' ((c.tc : Thread Cert.W1SibReferenceIdeal.nD Cert.W1SibReferenceIdeal.τ).loc Cert.W1SibReferenceIdeal.main_arg2))

def preserves_W1Kernel_W1KernelIdeal : Prop :=
  True

def algebraic_W1KernelIdeal_W1ReferenceIdeal [hW1KernelIdeal : Cert.W1KernelIdeal.Facts] [hW1ReferenceIdeal : Cert.W1ReferenceIdeal.Facts] : Prop :=
  ∀ (m : (ℓ : Loc Cert.W1KernelIdeal.nD Cert.W1KernelIdeal.τ Cert.W1KernelIdeal.sig) → Buf (Elt Ideal) ℓ) (g : Dev Cert.W1KernelIdeal.nD → PrngReg)
    (m' : (ℓ : Loc Cert.W1ReferenceIdeal.nD Cert.W1ReferenceIdeal.τ Cert.W1ReferenceIdeal.sig) → Buf (Elt Ideal) ℓ) (g' : Dev Cert.W1ReferenceIdeal.nD → PrngReg), Pre_W1KernelIdeal m →
    (∀ c : Dev Cert.W1KernelIdeal.nD,
      m' ((c.tc : Thread Cert.W1ReferenceIdeal.nD Cert.W1ReferenceIdeal.τ).loc Cert.W1ReferenceIdeal.main_arg0) = m ((c.tc : Thread Cert.W1KernelIdeal.nD Cert.W1KernelIdeal.τ).loc Cert.W1KernelIdeal.main_arg0)
      ∧ m' ((c.tc : Thread Cert.W1ReferenceIdeal.nD Cert.W1ReferenceIdeal.τ).loc Cert.W1ReferenceIdeal.main_arg1) = m ((c.tc : Thread Cert.W1KernelIdeal.nD Cert.W1KernelIdeal.τ).loc Cert.W1KernelIdeal.main_arg1)
      ∧ m' ((c.tc : Thread Cert.W1ReferenceIdeal.nD Cert.W1ReferenceIdeal.τ).loc Cert.W1ReferenceIdeal.main_arg2) = m ((c.tc : Thread Cert.W1KernelIdeal.nD Cert.W1KernelIdeal.τ).loc Cert.W1KernelIdeal.main_arg2)
      ∧ m' ((c.tc : Thread Cert.W1ReferenceIdeal.nD Cert.W1ReferenceIdeal.τ).loc Cert.W1ReferenceIdeal.main_arg3) = m ((c.tc : Thread Cert.W1KernelIdeal.nD Cert.W1KernelIdeal.τ).loc Cert.W1KernelIdeal.main_arg3)) →
    ∃ (v0 : (c : Dev Cert.W1KernelIdeal.nD) → Buf (Elt Ideal) ((c.tc : Thread Cert.W1KernelIdeal.nD Cert.W1KernelIdeal.τ).loc Cert.W1KernelIdeal.main_v5)),
      θ_run (Cert.W1KernelIdeal.defs (F := Ideal)) (onTc (τ := Cert.W1KernelIdeal.τ) (Cert.W1KernelIdeal.main (F := Ideal))) ⟨m, fun _ => 0, g⟩ (fun r => ∀ c : Dev Cert.W1KernelIdeal.nD,
          r.2.mem ((c.tc : Thread Cert.W1KernelIdeal.nD Cert.W1KernelIdeal.τ).loc Cert.W1KernelIdeal.main_v5) = v0 c
          ∧ r.2.mem ((c.tc : Thread Cert.W1KernelIdeal.nD Cert.W1KernelIdeal.τ).loc Cert.W1KernelIdeal.main_arg0) = m ((c.tc : Thread Cert.W1KernelIdeal.nD Cert.W1KernelIdeal.τ).loc Cert.W1KernelIdeal.main_arg0)
          ∧ r.2.mem ((c.tc : Thread Cert.W1KernelIdeal.nD Cert.W1KernelIdeal.τ).loc Cert.W1KernelIdeal.main_arg1) = m ((c.tc : Thread Cert.W1KernelIdeal.nD Cert.W1KernelIdeal.τ).loc Cert.W1KernelIdeal.main_arg1)
          ∧ r.2.mem ((c.tc : Thread Cert.W1KernelIdeal.nD Cert.W1KernelIdeal.τ).loc Cert.W1KernelIdeal.main_arg2) = m ((c.tc : Thread Cert.W1KernelIdeal.nD Cert.W1KernelIdeal.τ).loc Cert.W1KernelIdeal.main_arg2)
          ∧ r.2.mem ((c.tc : Thread Cert.W1KernelIdeal.nD Cert.W1KernelIdeal.τ).loc Cert.W1KernelIdeal.main_arg3) = m ((c.tc : Thread Cert.W1KernelIdeal.nD Cert.W1KernelIdeal.τ).loc Cert.W1KernelIdeal.main_arg3))
      ∧ θ_run (Cert.W1ReferenceIdeal.defs (F := Ideal)) (onTc (τ := Cert.W1ReferenceIdeal.τ) (Cert.W1ReferenceIdeal.main (F := Ideal))) ⟨m', fun _ => 0, g'⟩ (fun r => ∀ c : Dev Cert.W1ReferenceIdeal.nD,
          r.2.mem ((c.tc : Thread Cert.W1ReferenceIdeal.nD Cert.W1ReferenceIdeal.τ).loc Cert.W1ReferenceIdeal.main_v8) = v0 c
          ∧ r.2.mem ((c.tc : Thread Cert.W1ReferenceIdeal.nD Cert.W1ReferenceIdeal.τ).loc Cert.W1ReferenceIdeal.main_arg0) = m' ((c.tc : Thread Cert.W1ReferenceIdeal.nD Cert.W1ReferenceIdeal.τ).loc Cert.W1ReferenceIdeal.main_arg0)
          ∧ r.2.mem ((c.tc : Thread Cert.W1ReferenceIdeal.nD Cert.W1ReferenceIdeal.τ).loc Cert.W1ReferenceIdeal.main_arg1) = m' ((c.tc : Thread Cert.W1ReferenceIdeal.nD Cert.W1ReferenceIdeal.τ).loc Cert.W1ReferenceIdeal.main_arg1)
          ∧ r.2.mem ((c.tc : Thread Cert.W1ReferenceIdeal.nD Cert.W1ReferenceIdeal.τ).loc Cert.W1ReferenceIdeal.main_arg2) = m' ((c.tc : Thread Cert.W1ReferenceIdeal.nD Cert.W1ReferenceIdeal.τ).loc Cert.W1ReferenceIdeal.main_arg2)
          ∧ r.2.mem ((c.tc : Thread Cert.W1ReferenceIdeal.nD Cert.W1ReferenceIdeal.τ).loc Cert.W1ReferenceIdeal.main_arg3) = m' ((c.tc : Thread Cert.W1ReferenceIdeal.nD Cert.W1ReferenceIdeal.τ).loc Cert.W1ReferenceIdeal.main_arg3))

def preserves_WOutSibKernel_WOutSibKernelIdeal : Prop :=
  True

def algebraic_WOutSibKernelIdeal_WOutSibReferenceIdeal [hWOutSibKernelIdeal : Cert.WOutSibKernelIdeal.Facts] [hWOutSibReferenceIdeal : Cert.WOutSibReferenceIdeal.Facts] : Prop :=
  ∀ (m : (ℓ : Loc Cert.WOutSibKernelIdeal.nD Cert.WOutSibKernelIdeal.τ Cert.WOutSibKernelIdeal.sig) → Buf (Elt Ideal) ℓ) (g : Dev Cert.WOutSibKernelIdeal.nD → PrngReg)
    (m' : (ℓ : Loc Cert.WOutSibReferenceIdeal.nD Cert.WOutSibReferenceIdeal.τ Cert.WOutSibReferenceIdeal.sig) → Buf (Elt Ideal) ℓ) (g' : Dev Cert.WOutSibReferenceIdeal.nD → PrngReg), Pre_WOutSibKernelIdeal m →
    (∀ c : Dev Cert.WOutSibKernelIdeal.nD,
      m' ((c.tc : Thread Cert.WOutSibReferenceIdeal.nD Cert.WOutSibReferenceIdeal.τ).loc Cert.WOutSibReferenceIdeal.main_arg0) = m ((c.tc : Thread Cert.WOutSibKernelIdeal.nD Cert.WOutSibKernelIdeal.τ).loc Cert.WOutSibKernelIdeal.main_arg0)
      ∧ m' ((c.tc : Thread Cert.WOutSibReferenceIdeal.nD Cert.WOutSibReferenceIdeal.τ).loc Cert.WOutSibReferenceIdeal.main_arg1) = m ((c.tc : Thread Cert.WOutSibKernelIdeal.nD Cert.WOutSibKernelIdeal.τ).loc Cert.WOutSibKernelIdeal.main_arg1)
      ∧ m' ((c.tc : Thread Cert.WOutSibReferenceIdeal.nD Cert.WOutSibReferenceIdeal.τ).loc Cert.WOutSibReferenceIdeal.main_arg2) = m ((c.tc : Thread Cert.WOutSibKernelIdeal.nD Cert.WOutSibKernelIdeal.τ).loc Cert.WOutSibKernelIdeal.main_arg2)) →
    ∃ (v0 : (c : Dev Cert.WOutSibKernelIdeal.nD) → Buf (Elt Ideal) ((c.tc : Thread Cert.WOutSibKernelIdeal.nD Cert.WOutSibKernelIdeal.τ).loc Cert.WOutSibKernelIdeal.main_v5)),
      θ_run (Cert.WOutSibKernelIdeal.defs (F := Ideal)) (onTc (τ := Cert.WOutSibKernelIdeal.τ) (Cert.WOutSibKernelIdeal.main (F := Ideal))) ⟨m, fun _ => 0, g⟩ (fun r => ∀ c : Dev Cert.WOutSibKernelIdeal.nD,
          r.2.mem ((c.tc : Thread Cert.WOutSibKernelIdeal.nD Cert.WOutSibKernelIdeal.τ).loc Cert.WOutSibKernelIdeal.main_v5) = v0 c
          ∧ r.2.mem ((c.tc : Thread Cert.WOutSibKernelIdeal.nD Cert.WOutSibKernelIdeal.τ).loc Cert.WOutSibKernelIdeal.main_arg0) = m ((c.tc : Thread Cert.WOutSibKernelIdeal.nD Cert.WOutSibKernelIdeal.τ).loc Cert.WOutSibKernelIdeal.main_arg0)
          ∧ r.2.mem ((c.tc : Thread Cert.WOutSibKernelIdeal.nD Cert.WOutSibKernelIdeal.τ).loc Cert.WOutSibKernelIdeal.main_arg1) = m ((c.tc : Thread Cert.WOutSibKernelIdeal.nD Cert.WOutSibKernelIdeal.τ).loc Cert.WOutSibKernelIdeal.main_arg1)
          ∧ r.2.mem ((c.tc : Thread Cert.WOutSibKernelIdeal.nD Cert.WOutSibKernelIdeal.τ).loc Cert.WOutSibKernelIdeal.main_arg2) = m ((c.tc : Thread Cert.WOutSibKernelIdeal.nD Cert.WOutSibKernelIdeal.τ).loc Cert.WOutSibKernelIdeal.main_arg2))
      ∧ θ_run (Cert.WOutSibReferenceIdeal.defs (F := Ideal)) (onTc (τ := Cert.WOutSibReferenceIdeal.τ) (Cert.WOutSibReferenceIdeal.main (F := Ideal))) ⟨m', fun _ => 0, g'⟩ (fun r => ∀ c : Dev Cert.WOutSibReferenceIdeal.nD,
          r.2.mem ((c.tc : Thread Cert.WOutSibReferenceIdeal.nD Cert.WOutSibReferenceIdeal.τ).loc Cert.WOutSibReferenceIdeal.main_v6) = v0 c
          ∧ r.2.mem ((c.tc : Thread Cert.WOutSibReferenceIdeal.nD Cert.WOutSibReferenceIdeal.τ).loc Cert.WOutSibReferenceIdeal.main_arg0) = m' ((c.tc : Thread Cert.WOutSibReferenceIdeal.nD Cert.WOutSibReferenceIdeal.τ).loc Cert.WOutSibReferenceIdeal.main_arg0)
          ∧ r.2.mem ((c.tc : Thread Cert.WOutSibReferenceIdeal.nD Cert.WOutSibReferenceIdeal.τ).loc Cert.WOutSibReferenceIdeal.main_arg1) = m' ((c.tc : Thread Cert.WOutSibReferenceIdeal.nD Cert.WOutSibReferenceIdeal.τ).loc Cert.WOutSibReferenceIdeal.main_arg1)
          ∧ r.2.mem ((c.tc : Thread Cert.WOutSibReferenceIdeal.nD Cert.WOutSibReferenceIdeal.τ).loc Cert.WOutSibReferenceIdeal.main_arg2) = m' ((c.tc : Thread Cert.WOutSibReferenceIdeal.nD Cert.WOutSibReferenceIdeal.τ).loc Cert.WOutSibReferenceIdeal.main_arg2))

def preserves_WOutKernel_WOutKernelIdeal : Prop :=
  True

def algebraic_WOutKernelIdeal_WOutReferenceIdeal [hWOutKernelIdeal : Cert.WOutKernelIdeal.Facts] [hWOutReferenceIdeal : Cert.WOutReferenceIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutKernelIdeal m →
    (∀ c : Dev Cert.WOutKernelIdeal.nD,
      m' ((c.tc : Thread Cert.WOutReferenceIdeal.nD Cert.WOutReferenceIdeal.τ).loc Cert.WOutReferenceIdeal.main_arg0) = m ((c.tc : Thread Cert.WOutKernelIdeal.nD Cert.WOutKernelIdeal.τ).loc Cert.WOutKernelIdeal.main_arg0)
      ∧ m' ((c.tc : Thread Cert.WOutReferenceIdeal.nD Cert.WOutReferenceIdeal.τ).loc Cert.WOutReferenceIdeal.main_arg1) = m ((c.tc : Thread Cert.WOutKernelIdeal.nD Cert.WOutKernelIdeal.τ).loc Cert.WOutKernelIdeal.main_arg1)
      ∧ m' ((c.tc : Thread Cert.WOutReferenceIdeal.nD Cert.WOutReferenceIdeal.τ).loc Cert.WOutReferenceIdeal.main_arg2) = m ((c.tc : Thread Cert.WOutKernelIdeal.nD Cert.WOutKernelIdeal.τ).loc Cert.WOutKernelIdeal.main_arg2)
      ∧ m' ((c.tc : Thread Cert.WOutReferenceIdeal.nD Cert.WOutReferenceIdeal.τ).loc Cert.WOutReferenceIdeal.main_arg3) = m ((c.tc : Thread Cert.WOutKernelIdeal.nD Cert.WOutKernelIdeal.τ).loc Cert.WOutKernelIdeal.main_arg3)) →
    ∃ (v0 : (c : Dev Cert.WOutKernelIdeal.nD) → Buf (Elt Ideal) ((c.tc : Thread Cert.WOutKernelIdeal.nD Cert.WOutKernelIdeal.τ).loc Cert.WOutKernelIdeal.main_v5)),
      θ_run (Cert.WOutKernelIdeal.defs (F := Ideal)) (onTc (τ := Cert.WOutKernelIdeal.τ) (Cert.WOutKernelIdeal.main (F := Ideal))) ⟨m, fun _ => 0, g⟩ (fun r => ∀ c : Dev Cert.WOutKernelIdeal.nD,
          r.2.mem ((c.tc : Thread Cert.WOutKernelIdeal.nD Cert.WOutKernelIdeal.τ).loc Cert.WOutKernelIdeal.main_v5) = v0 c
          ∧ r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
          ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
          ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2)
          ∧ r.2.mem ((c.tc : Thread Cert.WOutKernelIdeal.nD Cert.WOutKernelIdeal.τ).loc Cert.WOutKernelIdeal.main_arg3) = m ((c.tc : Thread Cert.WOutKernelIdeal.nD Cert.WOutKernelIdeal.τ).loc Cert.WOutKernelIdeal.main_arg3))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v7) = v0 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2)
          ∧ r.2.mem ((c.tc : Thread Cert.WOutReferenceIdeal.nD Cert.WOutReferenceIdeal.τ).loc Cert.WOutReferenceIdeal.main_arg3) = m' ((c.tc : Thread Cert.WOutReferenceIdeal.nD Cert.WOutReferenceIdeal.τ).loc Cert.WOutReferenceIdeal.main_arg3))

def preserves_WInSibKernel_WInSibKernelIdeal : Prop :=
  True

def algebraic_WInSibKernelIdeal_WInSibReferenceIdeal [hWInSibKernelIdeal : Cert.WInSibKernelIdeal.Facts] [hWInSibReferenceIdeal : Cert.WInSibReferenceIdeal.Facts] : Prop :=
  ∀ (m : (ℓ : Loc Cert.WInSibKernelIdeal.nD Cert.WInSibKernelIdeal.τ Cert.WInSibKernelIdeal.sig) → Buf (Elt Ideal) ℓ) (g : Dev Cert.WInSibKernelIdeal.nD → PrngReg)
    (m' : (ℓ : Loc Cert.WInSibReferenceIdeal.nD Cert.WInSibReferenceIdeal.τ Cert.WInSibReferenceIdeal.sig) → Buf (Elt Ideal) ℓ) (g' : Dev Cert.WInSibReferenceIdeal.nD → PrngReg), Pre_WInSibKernelIdeal m →
    (∀ c : Dev Cert.WInSibKernelIdeal.nD,
      m' ((c.tc : Thread Cert.WInSibReferenceIdeal.nD Cert.WInSibReferenceIdeal.τ).loc Cert.WInSibReferenceIdeal.main_arg0) = m ((c.tc : Thread Cert.WInSibKernelIdeal.nD Cert.WInSibKernelIdeal.τ).loc Cert.WInSibKernelIdeal.main_arg0)
      ∧ m' ((c.tc : Thread Cert.WInSibReferenceIdeal.nD Cert.WInSibReferenceIdeal.τ).loc Cert.WInSibReferenceIdeal.main_arg1) = m ((c.tc : Thread Cert.WInSibKernelIdeal.nD Cert.WInSibKernelIdeal.τ).loc Cert.WInSibKernelIdeal.main_arg1)
      ∧ m' ((c.tc : Thread Cert.WInSibReferenceIdeal.nD Cert.WInSibReferenceIdeal.τ).loc Cert.WInSibReferenceIdeal.main_arg2) = m ((c.tc : Thread Cert.WInSibKernelIdeal.nD Cert.WInSibKernelIdeal.τ).loc Cert.WInSibKernelIdeal.main_arg2)) →
    ∃ (v0 : (c : Dev Cert.WInSibKernelIdeal.nD) → Buf (Elt Ideal) ((c.tc : Thread Cert.WInSibKernelIdeal.nD Cert.WInSibKernelIdeal.τ).loc Cert.WInSibKernelIdeal.main_v5)),
      θ_run (Cert.WInSibKernelIdeal.defs (F := Ideal)) (onTc (τ := Cert.WInSibKernelIdeal.τ) (Cert.WInSibKernelIdeal.main (F := Ideal))) ⟨m, fun _ => 0, g⟩ (fun r => ∀ c : Dev Cert.WInSibKernelIdeal.nD,
          r.2.mem ((c.tc : Thread Cert.WInSibKernelIdeal.nD Cert.WInSibKernelIdeal.τ).loc Cert.WInSibKernelIdeal.main_v5) = v0 c
          ∧ r.2.mem ((c.tc : Thread Cert.WInSibKernelIdeal.nD Cert.WInSibKernelIdeal.τ).loc Cert.WInSibKernelIdeal.main_arg0) = m ((c.tc : Thread Cert.WInSibKernelIdeal.nD Cert.WInSibKernelIdeal.τ).loc Cert.WInSibKernelIdeal.main_arg0)
          ∧ r.2.mem ((c.tc : Thread Cert.WInSibKernelIdeal.nD Cert.WInSibKernelIdeal.τ).loc Cert.WInSibKernelIdeal.main_arg1) = m ((c.tc : Thread Cert.WInSibKernelIdeal.nD Cert.WInSibKernelIdeal.τ).loc Cert.WInSibKernelIdeal.main_arg1)
          ∧ r.2.mem ((c.tc : Thread Cert.WInSibKernelIdeal.nD Cert.WInSibKernelIdeal.τ).loc Cert.WInSibKernelIdeal.main_arg2) = m ((c.tc : Thread Cert.WInSibKernelIdeal.nD Cert.WInSibKernelIdeal.τ).loc Cert.WInSibKernelIdeal.main_arg2))
      ∧ θ_run (Cert.WInSibReferenceIdeal.defs (F := Ideal)) (onTc (τ := Cert.WInSibReferenceIdeal.τ) (Cert.WInSibReferenceIdeal.main (F := Ideal))) ⟨m', fun _ => 0, g'⟩ (fun r => ∀ c : Dev Cert.WInSibReferenceIdeal.nD,
          r.2.mem ((c.tc : Thread Cert.WInSibReferenceIdeal.nD Cert.WInSibReferenceIdeal.τ).loc Cert.WInSibReferenceIdeal.main_v7) = v0 c
          ∧ r.2.mem ((c.tc : Thread Cert.WInSibReferenceIdeal.nD Cert.WInSibReferenceIdeal.τ).loc Cert.WInSibReferenceIdeal.main_arg0) = m' ((c.tc : Thread Cert.WInSibReferenceIdeal.nD Cert.WInSibReferenceIdeal.τ).loc Cert.WInSibReferenceIdeal.main_arg0)
          ∧ r.2.mem ((c.tc : Thread Cert.WInSibReferenceIdeal.nD Cert.WInSibReferenceIdeal.τ).loc Cert.WInSibReferenceIdeal.main_arg1) = m' ((c.tc : Thread Cert.WInSibReferenceIdeal.nD Cert.WInSibReferenceIdeal.τ).loc Cert.WInSibReferenceIdeal.main_arg1)
          ∧ r.2.mem ((c.tc : Thread Cert.WInSibReferenceIdeal.nD Cert.WInSibReferenceIdeal.τ).loc Cert.WInSibReferenceIdeal.main_arg2) = m' ((c.tc : Thread Cert.WInSibReferenceIdeal.nD Cert.WInSibReferenceIdeal.τ).loc Cert.WInSibReferenceIdeal.main_arg2))

def preserves_WInKernel_WInKernelIdeal : Prop :=
  True

def algebraic_WInKernelIdeal_WInReferenceIdeal [hWInKernelIdeal : Cert.WInKernelIdeal.Facts] [hWInReferenceIdeal : Cert.WInReferenceIdeal.Facts] : Prop :=
  ∀ (m : (ℓ : Loc Cert.WInKernelIdeal.nD Cert.WInKernelIdeal.τ Cert.WInKernelIdeal.sig) → Buf (Elt Ideal) ℓ) (g : Dev Cert.WInKernelIdeal.nD → PrngReg)
    (m' : (ℓ : Loc Cert.WInReferenceIdeal.nD Cert.WInReferenceIdeal.τ Cert.WInReferenceIdeal.sig) → Buf (Elt Ideal) ℓ) (g' : Dev Cert.WInReferenceIdeal.nD → PrngReg), Pre_WInKernelIdeal m →
    (∀ c : Dev Cert.WInKernelIdeal.nD,
      m' ((c.tc : Thread Cert.WInReferenceIdeal.nD Cert.WInReferenceIdeal.τ).loc Cert.WInReferenceIdeal.main_arg0) = m ((c.tc : Thread Cert.WInKernelIdeal.nD Cert.WInKernelIdeal.τ).loc Cert.WInKernelIdeal.main_arg0)
      ∧ m' ((c.tc : Thread Cert.WInReferenceIdeal.nD Cert.WInReferenceIdeal.τ).loc Cert.WInReferenceIdeal.main_arg1) = m ((c.tc : Thread Cert.WInKernelIdeal.nD Cert.WInKernelIdeal.τ).loc Cert.WInKernelIdeal.main_arg1)
      ∧ m' ((c.tc : Thread Cert.WInReferenceIdeal.nD Cert.WInReferenceIdeal.τ).loc Cert.WInReferenceIdeal.main_arg2) = m ((c.tc : Thread Cert.WInKernelIdeal.nD Cert.WInKernelIdeal.τ).loc Cert.WInKernelIdeal.main_arg2)
      ∧ m' ((c.tc : Thread Cert.WInReferenceIdeal.nD Cert.WInReferenceIdeal.τ).loc Cert.WInReferenceIdeal.main_arg3) = m ((c.tc : Thread Cert.WInKernelIdeal.nD Cert.WInKernelIdeal.τ).loc Cert.WInKernelIdeal.main_arg3)) →
    ∃ (v0 : (c : Dev Cert.WInKernelIdeal.nD) → Buf (Elt Ideal) ((c.tc : Thread Cert.WInKernelIdeal.nD Cert.WInKernelIdeal.τ).loc Cert.WInKernelIdeal.main_v5)),
      θ_run (Cert.WInKernelIdeal.defs (F := Ideal)) (onTc (τ := Cert.WInKernelIdeal.τ) (Cert.WInKernelIdeal.main (F := Ideal))) ⟨m, fun _ => 0, g⟩ (fun r => ∀ c : Dev Cert.WInKernelIdeal.nD,
          r.2.mem ((c.tc : Thread Cert.WInKernelIdeal.nD Cert.WInKernelIdeal.τ).loc Cert.WInKernelIdeal.main_v5) = v0 c
          ∧ r.2.mem ((c.tc : Thread Cert.WInKernelIdeal.nD Cert.WInKernelIdeal.τ).loc Cert.WInKernelIdeal.main_arg0) = m ((c.tc : Thread Cert.WInKernelIdeal.nD Cert.WInKernelIdeal.τ).loc Cert.WInKernelIdeal.main_arg0)
          ∧ r.2.mem ((c.tc : Thread Cert.WInKernelIdeal.nD Cert.WInKernelIdeal.τ).loc Cert.WInKernelIdeal.main_arg1) = m ((c.tc : Thread Cert.WInKernelIdeal.nD Cert.WInKernelIdeal.τ).loc Cert.WInKernelIdeal.main_arg1)
          ∧ r.2.mem ((c.tc : Thread Cert.WInKernelIdeal.nD Cert.WInKernelIdeal.τ).loc Cert.WInKernelIdeal.main_arg2) = m ((c.tc : Thread Cert.WInKernelIdeal.nD Cert.WInKernelIdeal.τ).loc Cert.WInKernelIdeal.main_arg2)
          ∧ r.2.mem ((c.tc : Thread Cert.WInKernelIdeal.nD Cert.WInKernelIdeal.τ).loc Cert.WInKernelIdeal.main_arg3) = m ((c.tc : Thread Cert.WInKernelIdeal.nD Cert.WInKernelIdeal.τ).loc Cert.WInKernelIdeal.main_arg3))
      ∧ θ_run (Cert.WInReferenceIdeal.defs (F := Ideal)) (onTc (τ := Cert.WInReferenceIdeal.τ) (Cert.WInReferenceIdeal.main (F := Ideal))) ⟨m', fun _ => 0, g'⟩ (fun r => ∀ c : Dev Cert.WInReferenceIdeal.nD,
          r.2.mem ((c.tc : Thread Cert.WInReferenceIdeal.nD Cert.WInReferenceIdeal.τ).loc Cert.WInReferenceIdeal.main_v8) = v0 c
          ∧ r.2.mem ((c.tc : Thread Cert.WInReferenceIdeal.nD Cert.WInReferenceIdeal.τ).loc Cert.WInReferenceIdeal.main_arg0) = m' ((c.tc : Thread Cert.WInReferenceIdeal.nD Cert.WInReferenceIdeal.τ).loc Cert.WInReferenceIdeal.main_arg0)
          ∧ r.2.mem ((c.tc : Thread Cert.WInReferenceIdeal.nD Cert.WInReferenceIdeal.τ).loc Cert.WInReferenceIdeal.main_arg1) = m' ((c.tc : Thread Cert.WInReferenceIdeal.nD Cert.WInReferenceIdeal.τ).loc Cert.WInReferenceIdeal.main_arg1)
          ∧ r.2.mem ((c.tc : Thread Cert.WInReferenceIdeal.nD Cert.WInReferenceIdeal.τ).loc Cert.WInReferenceIdeal.main_arg2) = m' ((c.tc : Thread Cert.WInReferenceIdeal.nD Cert.WInReferenceIdeal.τ).loc Cert.WInReferenceIdeal.main_arg2)
          ∧ r.2.mem ((c.tc : Thread Cert.WInReferenceIdeal.nD Cert.WInReferenceIdeal.τ).loc Cert.WInReferenceIdeal.main_arg3) = m' ((c.tc : Thread Cert.WInReferenceIdeal.nD Cert.WInReferenceIdeal.τ).loc Cert.WInReferenceIdeal.main_arg3))

def preserves_MlpInKernel_MlpInKernelIdeal : Prop :=
  True

def algebraic_MlpInKernelIdeal_MlpInReferenceIdeal [hMlpInKernelIdeal : Cert.MlpInKernelIdeal.Facts] [hMlpInReferenceIdeal : Cert.MlpInReferenceIdeal.Facts] : Prop :=
  ∀ (m : (ℓ : Loc Cert.MlpInKernelIdeal.nD Cert.MlpInKernelIdeal.τ Cert.MlpInKernelIdeal.sig) → Buf (Elt Ideal) ℓ) (g : Dev Cert.MlpInKernelIdeal.nD → PrngReg)
    (m' : (ℓ : Loc Cert.MlpInReferenceIdeal.nD Cert.MlpInReferenceIdeal.τ Cert.MlpInReferenceIdeal.sig) → Buf (Elt Ideal) ℓ) (g' : Dev Cert.MlpInReferenceIdeal.nD → PrngReg), Pre_MlpInKernelIdeal m →
    (∀ c : Dev Cert.MlpInKernelIdeal.nD,
      m' ((c.tc : Thread Cert.MlpInReferenceIdeal.nD Cert.MlpInReferenceIdeal.τ).loc Cert.MlpInReferenceIdeal.main_arg0) = m ((c.tc : Thread Cert.MlpInKernelIdeal.nD Cert.MlpInKernelIdeal.τ).loc Cert.MlpInKernelIdeal.main_arg0)
      ∧ m' ((c.tc : Thread Cert.MlpInReferenceIdeal.nD Cert.MlpInReferenceIdeal.τ).loc Cert.MlpInReferenceIdeal.main_arg1) = m ((c.tc : Thread Cert.MlpInKernelIdeal.nD Cert.MlpInKernelIdeal.τ).loc Cert.MlpInKernelIdeal.main_arg1)
      ∧ m' ((c.tc : Thread Cert.MlpInReferenceIdeal.nD Cert.MlpInReferenceIdeal.τ).loc Cert.MlpInReferenceIdeal.main_arg2) = m ((c.tc : Thread Cert.MlpInKernelIdeal.nD Cert.MlpInKernelIdeal.τ).loc Cert.MlpInKernelIdeal.main_arg2)) →
    ∃ (v0 : (c : Dev Cert.MlpInKernelIdeal.nD) → Buf (Elt Ideal) ((c.tc : Thread Cert.MlpInKernelIdeal.nD Cert.MlpInKernelIdeal.τ).loc Cert.MlpInKernelIdeal.main_v5_0)) (v1 : (c : Dev Cert.MlpInKernelIdeal.nD) → Buf (Elt Ideal) ((c.tc : Thread Cert.MlpInKernelIdeal.nD Cert.MlpInKernelIdeal.τ).loc Cert.MlpInKernelIdeal.main_v5_1)),
      θ_run (Cert.MlpInKernelIdeal.defs (F := Ideal)) (onTc (τ := Cert.MlpInKernelIdeal.τ) (Cert.MlpInKernelIdeal.main (F := Ideal))) ⟨m, fun _ => 0, g⟩ (fun r => ∀ c : Dev Cert.MlpInKernelIdeal.nD,
          r.2.mem ((c.tc : Thread Cert.MlpInKernelIdeal.nD Cert.MlpInKernelIdeal.τ).loc Cert.MlpInKernelIdeal.main_v5_0) = v0 c
          ∧ r.2.mem ((c.tc : Thread Cert.MlpInKernelIdeal.nD Cert.MlpInKernelIdeal.τ).loc Cert.MlpInKernelIdeal.main_v5_1) = v1 c
          ∧ r.2.mem ((c.tc : Thread Cert.MlpInKernelIdeal.nD Cert.MlpInKernelIdeal.τ).loc Cert.MlpInKernelIdeal.main_arg0) = m ((c.tc : Thread Cert.MlpInKernelIdeal.nD Cert.MlpInKernelIdeal.τ).loc Cert.MlpInKernelIdeal.main_arg0)
          ∧ r.2.mem ((c.tc : Thread Cert.MlpInKernelIdeal.nD Cert.MlpInKernelIdeal.τ).loc Cert.MlpInKernelIdeal.main_arg1) = m ((c.tc : Thread Cert.MlpInKernelIdeal.nD Cert.MlpInKernelIdeal.τ).loc Cert.MlpInKernelIdeal.main_arg1)
          ∧ r.2.mem ((c.tc : Thread Cert.MlpInKernelIdeal.nD Cert.MlpInKernelIdeal.τ).loc Cert.MlpInKernelIdeal.main_arg2) = m ((c.tc : Thread Cert.MlpInKernelIdeal.nD Cert.MlpInKernelIdeal.τ).loc Cert.MlpInKernelIdeal.main_arg2))
      ∧ θ_run (Cert.MlpInReferenceIdeal.defs (F := Ideal)) (onTc (τ := Cert.MlpInReferenceIdeal.τ) (Cert.MlpInReferenceIdeal.main (F := Ideal))) ⟨m', fun _ => 0, g'⟩ (fun r => ∀ c : Dev Cert.MlpInReferenceIdeal.nD,
          r.2.mem ((c.tc : Thread Cert.MlpInReferenceIdeal.nD Cert.MlpInReferenceIdeal.τ).loc Cert.MlpInReferenceIdeal.main_v2) = v0 c
          ∧ r.2.mem ((c.tc : Thread Cert.MlpInReferenceIdeal.nD Cert.MlpInReferenceIdeal.τ).loc Cert.MlpInReferenceIdeal.main_v5) = v1 c
          ∧ r.2.mem ((c.tc : Thread Cert.MlpInReferenceIdeal.nD Cert.MlpInReferenceIdeal.τ).loc Cert.MlpInReferenceIdeal.main_arg0) = m' ((c.tc : Thread Cert.MlpInReferenceIdeal.nD Cert.MlpInReferenceIdeal.τ).loc Cert.MlpInReferenceIdeal.main_arg0)
          ∧ r.2.mem ((c.tc : Thread Cert.MlpInReferenceIdeal.nD Cert.MlpInReferenceIdeal.τ).loc Cert.MlpInReferenceIdeal.main_arg1) = m' ((c.tc : Thread Cert.MlpInReferenceIdeal.nD Cert.MlpInReferenceIdeal.τ).loc Cert.MlpInReferenceIdeal.main_arg1)
          ∧ r.2.mem ((c.tc : Thread Cert.MlpInReferenceIdeal.nD Cert.MlpInReferenceIdeal.τ).loc Cert.MlpInReferenceIdeal.main_arg2) = m' ((c.tc : Thread Cert.MlpInReferenceIdeal.nD Cert.MlpInReferenceIdeal.τ).loc Cert.MlpInReferenceIdeal.main_arg2))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)) →
    ∃ (v0 : (c : Dev Cert.DxKernelIdeal.nD) → Buf (Elt Ideal) ((c.tc : Thread Cert.DxKernelIdeal.nD Cert.DxKernelIdeal.τ).loc Cert.DxKernelIdeal.main_v4)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v4) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v7) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v4) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_MlpOutKernel_MlpOutKernelIdeal : Prop :=
  True

def algebraic_MlpOutKernelIdeal_MlpOutReferenceIdeal_pre_mlp_out_finite [hMlpOutKernelIdeal : Cert.MlpOutKernelIdeal.Facts] [hMlpOutReferenceIdeal : Cert.MlpOutReferenceIdeal.Facts] [hPre_mlp_out_finite : Cert.Pre_mlp_out_finite.Facts] : Prop :=
  ∀ (m : (ℓ : Loc Cert.MlpOutKernelIdeal.nD Cert.MlpOutKernelIdeal.τ Cert.MlpOutKernelIdeal.sig) → Buf (Elt Ideal) ℓ) (g : Dev Cert.MlpOutKernelIdeal.nD → PrngReg)
    (m' : (ℓ : Loc Cert.MlpOutReferenceIdeal.nD Cert.MlpOutReferenceIdeal.τ Cert.MlpOutReferenceIdeal.sig) → Buf (Elt Ideal) ℓ) (g' : Dev Cert.MlpOutReferenceIdeal.nD → PrngReg), Pre_MlpOutKernelIdeal_mlp_out_finite m →
    (∀ c : Dev Cert.MlpOutKernelIdeal.nD,
      m' ((c.tc : Thread Cert.MlpOutReferenceIdeal.nD Cert.MlpOutReferenceIdeal.τ).loc Cert.MlpOutReferenceIdeal.main_arg0) = m ((c.tc : Thread Cert.MlpOutKernelIdeal.nD Cert.MlpOutKernelIdeal.τ).loc Cert.MlpOutKernelIdeal.main_arg0)
      ∧ m' ((c.tc : Thread Cert.MlpOutReferenceIdeal.nD Cert.MlpOutReferenceIdeal.τ).loc Cert.MlpOutReferenceIdeal.main_arg1) = m ((c.tc : Thread Cert.MlpOutKernelIdeal.nD Cert.MlpOutKernelIdeal.τ).loc Cert.MlpOutKernelIdeal.main_arg1)
      ∧ m' ((c.tc : Thread Cert.MlpOutReferenceIdeal.nD Cert.MlpOutReferenceIdeal.τ).loc Cert.MlpOutReferenceIdeal.main_arg2) = m ((c.tc : Thread Cert.MlpOutKernelIdeal.nD Cert.MlpOutKernelIdeal.τ).loc Cert.MlpOutKernelIdeal.main_arg2)
      ∧ m' ((c.tc : Thread Cert.MlpOutReferenceIdeal.nD Cert.MlpOutReferenceIdeal.τ).loc Cert.MlpOutReferenceIdeal.main_arg3) = m ((c.tc : Thread Cert.MlpOutKernelIdeal.nD Cert.MlpOutKernelIdeal.τ).loc Cert.MlpOutKernelIdeal.main_arg3)
      ∧ m' ((c.tc : Thread Cert.MlpOutReferenceIdeal.nD Cert.MlpOutReferenceIdeal.τ).loc Cert.MlpOutReferenceIdeal.main_arg4) = m ((c.tc : Thread Cert.MlpOutKernelIdeal.nD Cert.MlpOutKernelIdeal.τ).loc Cert.MlpOutKernelIdeal.main_arg4)
      ∧ m' ((c.tc : Thread Cert.MlpOutReferenceIdeal.nD Cert.MlpOutReferenceIdeal.τ).loc Cert.MlpOutReferenceIdeal.main_arg5) = m ((c.tc : Thread Cert.MlpOutKernelIdeal.nD Cert.MlpOutKernelIdeal.τ).loc Cert.MlpOutKernelIdeal.main_arg5)
      ∧ m' ((c.tc : Thread Cert.MlpOutReferenceIdeal.nD Cert.MlpOutReferenceIdeal.τ).loc Cert.MlpOutReferenceIdeal.main_arg6) = m ((c.tc : Thread Cert.MlpOutKernelIdeal.nD Cert.MlpOutKernelIdeal.τ).loc Cert.MlpOutKernelIdeal.main_arg6)
      ∧ m' ((c.tc : Thread Cert.MlpOutReferenceIdeal.nD Cert.MlpOutReferenceIdeal.τ).loc Cert.MlpOutReferenceIdeal.main_arg7) = m ((c.tc : Thread Cert.MlpOutKernelIdeal.nD Cert.MlpOutKernelIdeal.τ).loc Cert.MlpOutKernelIdeal.main_arg7)) →
    ∃ (v0 : (c : Dev Cert.MlpOutKernelIdeal.nD) → Buf (Elt Ideal) ((c.tc : Thread Cert.MlpOutKernelIdeal.nD Cert.MlpOutKernelIdeal.τ).loc Cert.MlpOutKernelIdeal.main_v4)) (v1 : (c : Dev Cert.MlpOutKernelIdeal.nD) → Buf (Elt Ideal) ((c.tc : Thread Cert.MlpOutKernelIdeal.nD Cert.MlpOutKernelIdeal.τ).loc Cert.MlpOutKernelIdeal.main_v2_0)) (v2 : (c : Dev Cert.MlpOutKernelIdeal.nD) → Buf (Elt Ideal) ((c.tc : Thread Cert.MlpOutKernelIdeal.nD Cert.MlpOutKernelIdeal.τ).loc Cert.MlpOutKernelIdeal.main_v2_1)) (v3 : (c : Dev Cert.MlpOutKernelIdeal.nD) → Buf (Elt Ideal) ((c.tc : Thread Cert.MlpOutKernelIdeal.nD Cert.MlpOutKernelIdeal.τ).loc Cert.MlpOutKernelIdeal.main_v5)) (v4 : (c : Dev Cert.MlpOutKernelIdeal.nD) → Buf (Elt Ideal) ((c.tc : Thread Cert.MlpOutKernelIdeal.nD Cert.MlpOutKernelIdeal.τ).loc Cert.MlpOutKernelIdeal.main_v6)),
      θ_run (Cert.MlpOutKernelIdeal.defs (F := Ideal)) (onTc (τ := Cert.MlpOutKernelIdeal.τ) (Cert.MlpOutKernelIdeal.main (F := Ideal))) ⟨m, fun _ => 0, g⟩ (fun r => ∀ c : Dev Cert.MlpOutKernelIdeal.nD,
          r.2.mem ((c.tc : Thread Cert.MlpOutKernelIdeal.nD Cert.MlpOutKernelIdeal.τ).loc Cert.MlpOutKernelIdeal.main_v4) = v0 c
          ∧ r.2.mem ((c.tc : Thread Cert.MlpOutKernelIdeal.nD Cert.MlpOutKernelIdeal.τ).loc Cert.MlpOutKernelIdeal.main_v2_0) = v1 c
          ∧ r.2.mem ((c.tc : Thread Cert.MlpOutKernelIdeal.nD Cert.MlpOutKernelIdeal.τ).loc Cert.MlpOutKernelIdeal.main_v2_1) = v2 c
          ∧ r.2.mem ((c.tc : Thread Cert.MlpOutKernelIdeal.nD Cert.MlpOutKernelIdeal.τ).loc Cert.MlpOutKernelIdeal.main_v5) = v3 c
          ∧ r.2.mem ((c.tc : Thread Cert.MlpOutKernelIdeal.nD Cert.MlpOutKernelIdeal.τ).loc Cert.MlpOutKernelIdeal.main_v6) = v4 c
          ∧ r.2.mem ((c.tc : Thread Cert.MlpOutKernelIdeal.nD Cert.MlpOutKernelIdeal.τ).loc Cert.MlpOutKernelIdeal.main_arg0) = m ((c.tc : Thread Cert.MlpOutKernelIdeal.nD Cert.MlpOutKernelIdeal.τ).loc Cert.MlpOutKernelIdeal.main_arg0)
          ∧ r.2.mem ((c.tc : Thread Cert.MlpOutKernelIdeal.nD Cert.MlpOutKernelIdeal.τ).loc Cert.MlpOutKernelIdeal.main_arg1) = m ((c.tc : Thread Cert.MlpOutKernelIdeal.nD Cert.MlpOutKernelIdeal.τ).loc Cert.MlpOutKernelIdeal.main_arg1)
          ∧ r.2.mem ((c.tc : Thread Cert.MlpOutKernelIdeal.nD Cert.MlpOutKernelIdeal.τ).loc Cert.MlpOutKernelIdeal.main_arg2) = m ((c.tc : Thread Cert.MlpOutKernelIdeal.nD Cert.MlpOutKernelIdeal.τ).loc Cert.MlpOutKernelIdeal.main_arg2)
          ∧ r.2.mem ((c.tc : Thread Cert.MlpOutKernelIdeal.nD Cert.MlpOutKernelIdeal.τ).loc Cert.MlpOutKernelIdeal.main_arg3) = m ((c.tc : Thread Cert.MlpOutKernelIdeal.nD Cert.MlpOutKernelIdeal.τ).loc Cert.MlpOutKernelIdeal.main_arg3)
          ∧ r.2.mem ((c.tc : Thread Cert.MlpOutKernelIdeal.nD Cert.MlpOutKernelIdeal.τ).loc Cert.MlpOutKernelIdeal.main_arg4) = m ((c.tc : Thread Cert.MlpOutKernelIdeal.nD Cert.MlpOutKernelIdeal.τ).loc Cert.MlpOutKernelIdeal.main_arg4)
          ∧ r.2.mem ((c.tc : Thread Cert.MlpOutKernelIdeal.nD Cert.MlpOutKernelIdeal.τ).loc Cert.MlpOutKernelIdeal.main_arg5) = m ((c.tc : Thread Cert.MlpOutKernelIdeal.nD Cert.MlpOutKernelIdeal.τ).loc Cert.MlpOutKernelIdeal.main_arg5)
          ∧ r.2.mem ((c.tc : Thread Cert.MlpOutKernelIdeal.nD Cert.MlpOutKernelIdeal.τ).loc Cert.MlpOutKernelIdeal.main_arg6) = m ((c.tc : Thread Cert.MlpOutKernelIdeal.nD Cert.MlpOutKernelIdeal.τ).loc Cert.MlpOutKernelIdeal.main_arg6)
          ∧ r.2.mem ((c.tc : Thread Cert.MlpOutKernelIdeal.nD Cert.MlpOutKernelIdeal.τ).loc Cert.MlpOutKernelIdeal.main_arg7) = m ((c.tc : Thread Cert.MlpOutKernelIdeal.nD Cert.MlpOutKernelIdeal.τ).loc Cert.MlpOutKernelIdeal.main_arg7))
      ∧ θ_run (Cert.MlpOutReferenceIdeal.defs (F := Ideal)) (onTc (τ := Cert.MlpOutReferenceIdeal.τ) (Cert.MlpOutReferenceIdeal.main (F := Ideal))) ⟨m', fun _ => 0, g'⟩ (fun r => ∀ c : Dev Cert.MlpOutReferenceIdeal.nD,
          r.2.mem ((c.tc : Thread Cert.MlpOutReferenceIdeal.nD Cert.MlpOutReferenceIdeal.τ).loc Cert.MlpOutReferenceIdeal.main_v43) = v0 c
          ∧ r.2.mem ((c.tc : Thread Cert.MlpOutReferenceIdeal.nD Cert.MlpOutReferenceIdeal.τ).loc Cert.MlpOutReferenceIdeal.main_v80) = v1 c
          ∧ r.2.mem ((c.tc : Thread Cert.MlpOutReferenceIdeal.nD Cert.MlpOutReferenceIdeal.τ).loc Cert.MlpOutReferenceIdeal.main_v81) = v2 c
          ∧ r.2.mem ((c.tc : Thread Cert.MlpOutReferenceIdeal.nD Cert.MlpOutReferenceIdeal.τ).loc Cert.MlpOutReferenceIdeal.main_v82) = v3 c
          ∧ r.2.mem ((c.tc : Thread Cert.MlpOutReferenceIdeal.nD Cert.MlpOutReferenceIdeal.τ).loc Cert.MlpOutReferenceIdeal.main_v83) = v4 c
          ∧ r.2.mem ((c.tc : Thread Cert.MlpOutReferenceIdeal.nD Cert.MlpOutReferenceIdeal.τ).loc Cert.MlpOutReferenceIdeal.main_arg0) = m' ((c.tc : Thread Cert.MlpOutReferenceIdeal.nD Cert.MlpOutReferenceIdeal.τ).loc Cert.MlpOutReferenceIdeal.main_arg0)
          ∧ r.2.mem ((c.tc : Thread Cert.MlpOutReferenceIdeal.nD Cert.MlpOutReferenceIdeal.τ).loc Cert.MlpOutReferenceIdeal.main_arg1) = m' ((c.tc : Thread Cert.MlpOutReferenceIdeal.nD Cert.MlpOutReferenceIdeal.τ).loc Cert.MlpOutReferenceIdeal.main_arg1)
          ∧ r.2.mem ((c.tc : Thread Cert.MlpOutReferenceIdeal.nD Cert.MlpOutReferenceIdeal.τ).loc Cert.MlpOutReferenceIdeal.main_arg2) = m' ((c.tc : Thread Cert.MlpOutReferenceIdeal.nD Cert.MlpOutReferenceIdeal.τ).loc Cert.MlpOutReferenceIdeal.main_arg2)
          ∧ r.2.mem ((c.tc : Thread Cert.MlpOutReferenceIdeal.nD Cert.MlpOutReferenceIdeal.τ).loc Cert.MlpOutReferenceIdeal.main_arg3) = m' ((c.tc : Thread Cert.MlpOutReferenceIdeal.nD Cert.MlpOutReferenceIdeal.τ).loc Cert.MlpOutReferenceIdeal.main_arg3)
          ∧ r.2.mem ((c.tc : Thread Cert.MlpOutReferenceIdeal.nD Cert.MlpOutReferenceIdeal.τ).loc Cert.MlpOutReferenceIdeal.main_arg4) = m' ((c.tc : Thread Cert.MlpOutReferenceIdeal.nD Cert.MlpOutReferenceIdeal.τ).loc Cert.MlpOutReferenceIdeal.main_arg4)
          ∧ r.2.mem ((c.tc : Thread Cert.MlpOutReferenceIdeal.nD Cert.MlpOutReferenceIdeal.τ).loc Cert.MlpOutReferenceIdeal.main_arg5) = m' ((c.tc : Thread Cert.MlpOutReferenceIdeal.nD Cert.MlpOutReferenceIdeal.τ).loc Cert.MlpOutReferenceIdeal.main_arg5)
          ∧ r.2.mem ((c.tc : Thread Cert.MlpOutReferenceIdeal.nD Cert.MlpOutReferenceIdeal.τ).loc Cert.MlpOutReferenceIdeal.main_arg6) = m' ((c.tc : Thread Cert.MlpOutReferenceIdeal.nD Cert.MlpOutReferenceIdeal.τ).loc Cert.MlpOutReferenceIdeal.main_arg6)
          ∧ r.2.mem ((c.tc : Thread Cert.MlpOutReferenceIdeal.nD Cert.MlpOutReferenceIdeal.τ).loc Cert.MlpOutReferenceIdeal.main_arg7) = m' ((c.tc : Thread Cert.MlpOutReferenceIdeal.nD Cert.MlpOutReferenceIdeal.τ).loc Cert.MlpOutReferenceIdeal.main_arg7))

def preserves_Dx1Kernel_Dx1KernelIdeal : Prop :=
  True

def algebraic_Dx1KernelIdeal_Dx1ReferenceIdeal_pre_dx1_finite [hDx1KernelIdeal : Cert.Dx1KernelIdeal.Facts] [hDx1ReferenceIdeal : Cert.Dx1ReferenceIdeal.Facts] [hPre_dx1_finite : Cert.Pre_dx1_finite.Facts] : Prop :=
  ∀ (m : (ℓ : Loc Cert.Dx1KernelIdeal.nD Cert.Dx1KernelIdeal.τ Cert.Dx1KernelIdeal.sig) → Buf (Elt Ideal) ℓ) (g : Dev Cert.Dx1KernelIdeal.nD → PrngReg)
    (m' : (ℓ : Loc Cert.Dx1ReferenceIdeal.nD Cert.Dx1ReferenceIdeal.τ Cert.Dx1ReferenceIdeal.sig) → Buf (Elt Ideal) ℓ) (g' : Dev Cert.Dx1ReferenceIdeal.nD → PrngReg), Pre_Dx1KernelIdeal_dx1_finite m →
    (∀ c : Dev Cert.Dx1KernelIdeal.nD,
      m' ((c.tc : Thread Cert.Dx1ReferenceIdeal.nD Cert.Dx1ReferenceIdeal.τ).loc Cert.Dx1ReferenceIdeal.main_arg0) = m ((c.tc : Thread Cert.Dx1KernelIdeal.nD Cert.Dx1KernelIdeal.τ).loc Cert.Dx1KernelIdeal.main_arg0)
      ∧ m' ((c.tc : Thread Cert.Dx1ReferenceIdeal.nD Cert.Dx1ReferenceIdeal.τ).loc Cert.Dx1ReferenceIdeal.main_arg1) = m ((c.tc : Thread Cert.Dx1KernelIdeal.nD Cert.Dx1KernelIdeal.τ).loc Cert.Dx1KernelIdeal.main_arg1)
      ∧ m' ((c.tc : Thread Cert.Dx1ReferenceIdeal.nD Cert.Dx1ReferenceIdeal.τ).loc Cert.Dx1ReferenceIdeal.main_arg2) = m ((c.tc : Thread Cert.Dx1KernelIdeal.nD Cert.Dx1KernelIdeal.τ).loc Cert.Dx1KernelIdeal.main_arg2)
      ∧ m' ((c.tc : Thread Cert.Dx1ReferenceIdeal.nD Cert.Dx1ReferenceIdeal.τ).loc Cert.Dx1ReferenceIdeal.main_arg3) = m ((c.tc : Thread Cert.Dx1KernelIdeal.nD Cert.Dx1KernelIdeal.τ).loc Cert.Dx1KernelIdeal.main_arg3)
      ∧ m' ((c.tc : Thread Cert.Dx1ReferenceIdeal.nD Cert.Dx1ReferenceIdeal.τ).loc Cert.Dx1ReferenceIdeal.main_arg4) = m ((c.tc : Thread Cert.Dx1KernelIdeal.nD Cert.Dx1KernelIdeal.τ).loc Cert.Dx1KernelIdeal.main_arg4)
      ∧ m' ((c.tc : Thread Cert.Dx1ReferenceIdeal.nD Cert.Dx1ReferenceIdeal.τ).loc Cert.Dx1ReferenceIdeal.main_arg5) = m ((c.tc : Thread Cert.Dx1KernelIdeal.nD Cert.Dx1KernelIdeal.τ).loc Cert.Dx1KernelIdeal.main_arg5)
      ∧ m' ((c.tc : Thread Cert.Dx1ReferenceIdeal.nD Cert.Dx1ReferenceIdeal.τ).loc Cert.Dx1ReferenceIdeal.main_arg6) = m ((c.tc : Thread Cert.Dx1KernelIdeal.nD Cert.Dx1KernelIdeal.τ).loc Cert.Dx1KernelIdeal.main_arg6)) →
    ∃ (v0 : (c : Dev Cert.Dx1KernelIdeal.nD) → Buf (Elt Ideal) ((c.tc : Thread Cert.Dx1KernelIdeal.nD Cert.Dx1KernelIdeal.τ).loc Cert.Dx1KernelIdeal.main_v22_0)) (v1 : (c : Dev Cert.Dx1KernelIdeal.nD) → Buf (Elt Ideal) ((c.tc : Thread Cert.Dx1KernelIdeal.nD Cert.Dx1KernelIdeal.τ).loc Cert.Dx1KernelIdeal.main_v22_1)) (v2 : (c : Dev Cert.Dx1KernelIdeal.nD) → Buf (Elt Ideal) ((c.tc : Thread Cert.Dx1KernelIdeal.nD Cert.Dx1KernelIdeal.τ).loc Cert.Dx1KernelIdeal.main_v23)) (v3 : (c : Dev Cert.Dx1KernelIdeal.nD) → Buf (Elt Ideal) ((c.tc : Thread Cert.Dx1KernelIdeal.nD Cert.Dx1KernelIdeal.τ).loc Cert.Dx1KernelIdeal.main_v24)),
      θ_run (Cert.Dx1KernelIdeal.defs (F := Ideal)) (onTc (τ := Cert.Dx1KernelIdeal.τ) (Cert.Dx1KernelIdeal.main (F := Ideal))) ⟨m, fun _ => 0, g⟩ (fun r => ∀ c : Dev Cert.Dx1KernelIdeal.nD,
          r.2.mem ((c.tc : Thread Cert.Dx1KernelIdeal.nD Cert.Dx1KernelIdeal.τ).loc Cert.Dx1KernelIdeal.main_v22_0) = v0 c
          ∧ r.2.mem ((c.tc : Thread Cert.Dx1KernelIdeal.nD Cert.Dx1KernelIdeal.τ).loc Cert.Dx1KernelIdeal.main_v22_1) = v1 c
          ∧ r.2.mem ((c.tc : Thread Cert.Dx1KernelIdeal.nD Cert.Dx1KernelIdeal.τ).loc Cert.Dx1KernelIdeal.main_v23) = v2 c
          ∧ r.2.mem ((c.tc : Thread Cert.Dx1KernelIdeal.nD Cert.Dx1KernelIdeal.τ).loc Cert.Dx1KernelIdeal.main_v24) = v3 c
          ∧ r.2.mem ((c.tc : Thread Cert.Dx1KernelIdeal.nD Cert.Dx1KernelIdeal.τ).loc Cert.Dx1KernelIdeal.main_arg0) = m ((c.tc : Thread Cert.Dx1KernelIdeal.nD Cert.Dx1KernelIdeal.τ).loc Cert.Dx1KernelIdeal.main_arg0)
          ∧ r.2.mem ((c.tc : Thread Cert.Dx1KernelIdeal.nD Cert.Dx1KernelIdeal.τ).loc Cert.Dx1KernelIdeal.main_arg1) = m ((c.tc : Thread Cert.Dx1KernelIdeal.nD Cert.Dx1KernelIdeal.τ).loc Cert.Dx1KernelIdeal.main_arg1)
          ∧ r.2.mem ((c.tc : Thread Cert.Dx1KernelIdeal.nD Cert.Dx1KernelIdeal.τ).loc Cert.Dx1KernelIdeal.main_arg2) = m ((c.tc : Thread Cert.Dx1KernelIdeal.nD Cert.Dx1KernelIdeal.τ).loc Cert.Dx1KernelIdeal.main_arg2)
          ∧ r.2.mem ((c.tc : Thread Cert.Dx1KernelIdeal.nD Cert.Dx1KernelIdeal.τ).loc Cert.Dx1KernelIdeal.main_arg3) = m ((c.tc : Thread Cert.Dx1KernelIdeal.nD Cert.Dx1KernelIdeal.τ).loc Cert.Dx1KernelIdeal.main_arg3)
          ∧ r.2.mem ((c.tc : Thread Cert.Dx1KernelIdeal.nD Cert.Dx1KernelIdeal.τ).loc Cert.Dx1KernelIdeal.main_arg4) = m ((c.tc : Thread Cert.Dx1KernelIdeal.nD Cert.Dx1KernelIdeal.τ).loc Cert.Dx1KernelIdeal.main_arg4)
          ∧ r.2.mem ((c.tc : Thread Cert.Dx1KernelIdeal.nD Cert.Dx1KernelIdeal.τ).loc Cert.Dx1KernelIdeal.main_arg5) = m ((c.tc : Thread Cert.Dx1KernelIdeal.nD Cert.Dx1KernelIdeal.τ).loc Cert.Dx1KernelIdeal.main_arg5)
          ∧ r.2.mem ((c.tc : Thread Cert.Dx1KernelIdeal.nD Cert.Dx1KernelIdeal.τ).loc Cert.Dx1KernelIdeal.main_arg6) = m ((c.tc : Thread Cert.Dx1KernelIdeal.nD Cert.Dx1KernelIdeal.τ).loc Cert.Dx1KernelIdeal.main_arg6))
      ∧ θ_run (Cert.Dx1ReferenceIdeal.defs (F := Ideal)) (onTc (τ := Cert.Dx1ReferenceIdeal.τ) (Cert.Dx1ReferenceIdeal.main (F := Ideal))) ⟨m', fun _ => 0, g'⟩ (fun r => ∀ c : Dev Cert.Dx1ReferenceIdeal.nD,
          r.2.mem ((c.tc : Thread Cert.Dx1ReferenceIdeal.nD Cert.Dx1ReferenceIdeal.τ).loc Cert.Dx1ReferenceIdeal.main_v64) = v0 c
          ∧ r.2.mem ((c.tc : Thread Cert.Dx1ReferenceIdeal.nD Cert.Dx1ReferenceIdeal.τ).loc Cert.Dx1ReferenceIdeal.main_v65) = v1 c
          ∧ r.2.mem ((c.tc : Thread Cert.Dx1ReferenceIdeal.nD Cert.Dx1ReferenceIdeal.τ).loc Cert.Dx1ReferenceIdeal.main_v66) = v2 c
          ∧ r.2.mem ((c.tc : Thread Cert.Dx1ReferenceIdeal.nD Cert.Dx1ReferenceIdeal.τ).loc Cert.Dx1ReferenceIdeal.main_v67) = v3 c
          ∧ r.2.mem ((c.tc : Thread Cert.Dx1ReferenceIdeal.nD Cert.Dx1ReferenceIdeal.τ).loc Cert.Dx1ReferenceIdeal.main_arg0) = m' ((c.tc : Thread Cert.Dx1ReferenceIdeal.nD Cert.Dx1ReferenceIdeal.τ).loc Cert.Dx1ReferenceIdeal.main_arg0)
          ∧ r.2.mem ((c.tc : Thread Cert.Dx1ReferenceIdeal.nD Cert.Dx1ReferenceIdeal.τ).loc Cert.Dx1ReferenceIdeal.main_arg1) = m' ((c.tc : Thread Cert.Dx1ReferenceIdeal.nD Cert.Dx1ReferenceIdeal.τ).loc Cert.Dx1ReferenceIdeal.main_arg1)
          ∧ r.2.mem ((c.tc : Thread Cert.Dx1ReferenceIdeal.nD Cert.Dx1ReferenceIdeal.τ).loc Cert.Dx1ReferenceIdeal.main_arg2) = m' ((c.tc : Thread Cert.Dx1ReferenceIdeal.nD Cert.Dx1ReferenceIdeal.τ).loc Cert.Dx1ReferenceIdeal.main_arg2)
          ∧ r.2.mem ((c.tc : Thread Cert.Dx1ReferenceIdeal.nD Cert.Dx1ReferenceIdeal.τ).loc Cert.Dx1ReferenceIdeal.main_arg3) = m' ((c.tc : Thread Cert.Dx1ReferenceIdeal.nD Cert.Dx1ReferenceIdeal.τ).loc Cert.Dx1ReferenceIdeal.main_arg3)
          ∧ r.2.mem ((c.tc : Thread Cert.Dx1ReferenceIdeal.nD Cert.Dx1ReferenceIdeal.τ).loc Cert.Dx1ReferenceIdeal.main_arg4) = m' ((c.tc : Thread Cert.Dx1ReferenceIdeal.nD Cert.Dx1ReferenceIdeal.τ).loc Cert.Dx1ReferenceIdeal.main_arg4)
          ∧ r.2.mem ((c.tc : Thread Cert.Dx1ReferenceIdeal.nD Cert.Dx1ReferenceIdeal.τ).loc Cert.Dx1ReferenceIdeal.main_arg5) = m' ((c.tc : Thread Cert.Dx1ReferenceIdeal.nD Cert.Dx1ReferenceIdeal.τ).loc Cert.Dx1ReferenceIdeal.main_arg5)
          ∧ r.2.mem ((c.tc : Thread Cert.Dx1ReferenceIdeal.nD Cert.Dx1ReferenceIdeal.τ).loc Cert.Dx1ReferenceIdeal.main_arg6) = m' ((c.tc : Thread Cert.Dx1ReferenceIdeal.nD Cert.Dx1ReferenceIdeal.τ).loc Cert.Dx1ReferenceIdeal.main_arg6))

def preserves_OutLnKernel_OutLnKernelIdeal : Prop :=
  True

def algebraic_OutLnKernelIdeal_OutLnReferenceIdeal [hOutLnKernelIdeal : Cert.OutLnKernelIdeal.Facts] [hOutLnReferenceIdeal : Cert.OutLnReferenceIdeal.Facts] : Prop :=
  ∀ (m : (ℓ : Loc Cert.OutLnKernelIdeal.nD Cert.OutLnKernelIdeal.τ Cert.OutLnKernelIdeal.sig) → Buf (Elt Ideal) ℓ) (g : Dev Cert.OutLnKernelIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnKernelIdeal m →
    (∀ c : Dev Cert.OutLnKernelIdeal.nD,
      m' ((c.tc : Thread Cert.OutLnReferenceIdeal.nD Cert.OutLnReferenceIdeal.τ).loc Cert.OutLnReferenceIdeal.main_arg0) = m ((c.tc : Thread Cert.OutLnKernelIdeal.nD Cert.OutLnKernelIdeal.τ).loc Cert.OutLnKernelIdeal.main_arg0)
      ∧ m' ((c.tc : Thread Cert.OutLnReferenceIdeal.nD Cert.OutLnReferenceIdeal.τ).loc Cert.OutLnReferenceIdeal.main_arg1) = m ((c.tc : Thread Cert.OutLnKernelIdeal.nD Cert.OutLnKernelIdeal.τ).loc Cert.OutLnKernelIdeal.main_arg1)
      ∧ m' ((c.tc : Thread Cert.OutLnReferenceIdeal.nD Cert.OutLnReferenceIdeal.τ).loc Cert.OutLnReferenceIdeal.main_arg2) = m ((c.tc : Thread Cert.OutLnKernelIdeal.nD Cert.OutLnKernelIdeal.τ).loc Cert.OutLnKernelIdeal.main_arg2)
      ∧ m' ((c.tc : Thread Cert.OutLnReferenceIdeal.nD Cert.OutLnReferenceIdeal.τ).loc Cert.OutLnReferenceIdeal.main_arg3) = m ((c.tc : Thread Cert.OutLnKernelIdeal.nD Cert.OutLnKernelIdeal.τ).loc Cert.OutLnKernelIdeal.main_arg3)
      ∧ m' ((c.tc : Thread Cert.OutLnReferenceIdeal.nD Cert.OutLnReferenceIdeal.τ).loc Cert.OutLnReferenceIdeal.main_arg4) = m ((c.tc : Thread Cert.OutLnKernelIdeal.nD Cert.OutLnKernelIdeal.τ).loc Cert.OutLnKernelIdeal.main_arg4)
      ∧ m' ((c.tc : Thread Cert.OutLnReferenceIdeal.nD Cert.OutLnReferenceIdeal.τ).loc Cert.OutLnReferenceIdeal.main_arg5) = m ((c.tc : Thread Cert.OutLnKernelIdeal.nD Cert.OutLnKernelIdeal.τ).loc Cert.OutLnKernelIdeal.main_arg5)) →
    ∃ (v0 : (c : Dev Cert.OutLnKernelIdeal.nD) → Buf (Elt Ideal) ((c.tc : Thread Cert.OutLnKernelIdeal.nD Cert.OutLnKernelIdeal.τ).loc Cert.OutLnKernelIdeal.main_v2_0)) (v1 : (c : Dev Cert.OutLnKernelIdeal.nD) → Buf (Elt Ideal) ((c.tc : Thread Cert.OutLnKernelIdeal.nD Cert.OutLnKernelIdeal.τ).loc Cert.OutLnKernelIdeal.main_v2_1)) (v2 : (c : Dev Cert.OutLnKernelIdeal.nD) → Buf (Elt Ideal) ((c.tc : Thread Cert.OutLnKernelIdeal.nD Cert.OutLnKernelIdeal.τ).loc Cert.OutLnKernelIdeal.main_v2_2)),
      θ_run (Cert.OutLnKernelIdeal.defs (F := Ideal)) (onTc (τ := Cert.OutLnKernelIdeal.τ) (Cert.OutLnKernelIdeal.main (F := Ideal))) ⟨m, fun _ => 0, g⟩ (fun r => ∀ c : Dev Cert.OutLnKernelIdeal.nD,
          r.2.mem ((c.tc : Thread Cert.OutLnKernelIdeal.nD Cert.OutLnKernelIdeal.τ).loc Cert.OutLnKernelIdeal.main_v2_0) = v0 c
          ∧ r.2.mem ((c.tc : Thread Cert.OutLnKernelIdeal.nD Cert.OutLnKernelIdeal.τ).loc Cert.OutLnKernelIdeal.main_v2_1) = v1 c
          ∧ r.2.mem ((c.tc : Thread Cert.OutLnKernelIdeal.nD Cert.OutLnKernelIdeal.τ).loc Cert.OutLnKernelIdeal.main_v2_2) = v2 c
          ∧ r.2.mem ((c.tc : Thread Cert.OutLnKernelIdeal.nD Cert.OutLnKernelIdeal.τ).loc Cert.OutLnKernelIdeal.main_arg0) = m ((c.tc : Thread Cert.OutLnKernelIdeal.nD Cert.OutLnKernelIdeal.τ).loc Cert.OutLnKernelIdeal.main_arg0)
          ∧ r.2.mem ((c.tc : Thread Cert.OutLnKernelIdeal.nD Cert.OutLnKernelIdeal.τ).loc Cert.OutLnKernelIdeal.main_arg1) = m ((c.tc : Thread Cert.OutLnKernelIdeal.nD Cert.OutLnKernelIdeal.τ).loc Cert.OutLnKernelIdeal.main_arg1)
          ∧ r.2.mem ((c.tc : Thread Cert.OutLnKernelIdeal.nD Cert.OutLnKernelIdeal.τ).loc Cert.OutLnKernelIdeal.main_arg2) = m ((c.tc : Thread Cert.OutLnKernelIdeal.nD Cert.OutLnKernelIdeal.τ).loc Cert.OutLnKernelIdeal.main_arg2)
          ∧ r.2.mem ((c.tc : Thread Cert.OutLnKernelIdeal.nD Cert.OutLnKernelIdeal.τ).loc Cert.OutLnKernelIdeal.main_arg3) = m ((c.tc : Thread Cert.OutLnKernelIdeal.nD Cert.OutLnKernelIdeal.τ).loc Cert.OutLnKernelIdeal.main_arg3)
          ∧ r.2.mem ((c.tc : Thread Cert.OutLnKernelIdeal.nD Cert.OutLnKernelIdeal.τ).loc Cert.OutLnKernelIdeal.main_arg4) = m ((c.tc : Thread Cert.OutLnKernelIdeal.nD Cert.OutLnKernelIdeal.τ).loc Cert.OutLnKernelIdeal.main_arg4)
          ∧ r.2.mem ((c.tc : Thread Cert.OutLnKernelIdeal.nD Cert.OutLnKernelIdeal.τ).loc Cert.OutLnKernelIdeal.main_arg5) = m ((c.tc : Thread Cert.OutLnKernelIdeal.nD Cert.OutLnKernelIdeal.τ).loc Cert.OutLnKernelIdeal.main_arg5))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v21) = v0 c
          ∧ r.2.mem ((c.tc : Thread Cert.OutLnReferenceIdeal.nD Cert.OutLnReferenceIdeal.τ).loc Cert.OutLnReferenceIdeal.main_v30) = v1 c
          ∧ r.2.mem ((c.tc : Thread Cert.OutLnReferenceIdeal.nD Cert.OutLnReferenceIdeal.τ).loc Cert.OutLnReferenceIdeal.main_v17) = v2 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4)
          ∧ r.2.mem ((c.tc : Thread Cert.OutLnReferenceIdeal.nD Cert.OutLnReferenceIdeal.τ).loc Cert.OutLnReferenceIdeal.main_arg5) = m' ((c.tc : Thread Cert.OutLnReferenceIdeal.nD Cert.OutLnReferenceIdeal.τ).loc Cert.OutLnReferenceIdeal.main_arg5))

def Claim : Prop :=
  ∃ (hMlpKernel : Cert.MlpKernel.Facts) (hMlpKernelIdeal : Cert.MlpKernelIdeal.Facts) (hMlpReferenceIdeal : Cert.MlpReferenceIdeal.Facts) (hW2SibKernel : Cert.W2SibKernel.Facts) (hW2SibKernelIdeal : Cert.W2SibKernelIdeal.Facts) (hW2SibReferenceIdeal : Cert.W2SibReferenceIdeal.Facts) (hW2Kernel : Cert.W2Kernel.Facts) (hW2KernelIdeal : Cert.W2KernelIdeal.Facts) (hW2ReferenceIdeal : Cert.W2ReferenceIdeal.Facts) (hW1SibKernel : Cert.W1SibKernel.Facts) (hW1SibKernelIdeal : Cert.W1SibKernelIdeal.Facts) (hW1SibReferenceIdeal : Cert.W1SibReferenceIdeal.Facts) (hW1Kernel : Cert.W1Kernel.Facts) (hW1KernelIdeal : Cert.W1KernelIdeal.Facts) (hW1ReferenceIdeal : Cert.W1ReferenceIdeal.Facts) (hWOutSibKernel : Cert.WOutSibKernel.Facts) (hWOutSibKernelIdeal : Cert.WOutSibKernelIdeal.Facts) (hWOutSibReferenceIdeal : Cert.WOutSibReferenceIdeal.Facts) (hWOutKernel : Cert.WOutKernel.Facts) (hWOutKernelIdeal : Cert.WOutKernelIdeal.Facts) (hWOutReferenceIdeal : Cert.WOutReferenceIdeal.Facts) (hWInSibKernel : Cert.WInSibKernel.Facts) (hWInSibKernelIdeal : Cert.WInSibKernelIdeal.Facts) (hWInSibReferenceIdeal : Cert.WInSibReferenceIdeal.Facts) (hWInKernel : Cert.WInKernel.Facts) (hWInKernelIdeal : Cert.WInKernelIdeal.Facts) (hWInReferenceIdeal : Cert.WInReferenceIdeal.Facts) (hMlpInKernel : Cert.MlpInKernel.Facts) (hMlpInKernelIdeal : Cert.MlpInKernelIdeal.Facts) (hMlpInReferenceIdeal : Cert.MlpInReferenceIdeal.Facts) (hDxKernel : Cert.DxKernel.Facts) (hDxKernelIdeal : Cert.DxKernelIdeal.Facts) (hDxReferenceIdeal : Cert.DxReferenceIdeal.Facts) (hProjKernel : Cert.ProjKernel.Facts) (hProjKernelIdeal : Cert.ProjKernelIdeal.Facts) (hProjReferenceIdeal : Cert.ProjReferenceIdeal.Facts) (hMlpOutKernel : Cert.MlpOutKernel.Facts) (hMlpOutKernelIdeal : Cert.MlpOutKernelIdeal.Facts) (hMlpOutReferenceIdeal : Cert.MlpOutReferenceIdeal.Facts) (hDx1Kernel : Cert.Dx1Kernel.Facts) (hDx1KernelIdeal : Cert.Dx1KernelIdeal.Facts) (hDx1ReferenceIdeal : Cert.Dx1ReferenceIdeal.Facts) (hOutLnKernel : Cert.OutLnKernel.Facts) (hOutLnKernelIdeal : Cert.OutLnKernelIdeal.Facts) (hOutLnReferenceIdeal : Cert.OutLnReferenceIdeal.Facts) (hPre_mlp_out_finite : Cert.Pre_mlp_out_finite.Facts) (hPre_dx1_finite : Cert.Pre_dx1_finite.Facts),
    quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_W2SibKernel (hW2SibKernel := hW2SibKernel)
    ∧ quiescent_W2SibKernelIdeal (hW2SibKernelIdeal := hW2SibKernelIdeal)
    ∧ quiescent_W2SibReferenceIdeal (hW2SibReferenceIdeal := hW2SibReferenceIdeal)
    ∧ quiescent_W2Kernel (hW2Kernel := hW2Kernel)
    ∧ quiescent_W2KernelIdeal (hW2KernelIdeal := hW2KernelIdeal)
    ∧ quiescent_W2ReferenceIdeal (hW2ReferenceIdeal := hW2ReferenceIdeal)
    ∧ quiescent_W1SibKernel (hW1SibKernel := hW1SibKernel)
    ∧ quiescent_W1SibKernelIdeal (hW1SibKernelIdeal := hW1SibKernelIdeal)
    ∧ quiescent_W1SibReferenceIdeal (hW1SibReferenceIdeal := hW1SibReferenceIdeal)
    ∧ quiescent_W1Kernel (hW1Kernel := hW1Kernel)
    ∧ quiescent_W1KernelIdeal (hW1KernelIdeal := hW1KernelIdeal)
    ∧ quiescent_W1ReferenceIdeal (hW1ReferenceIdeal := hW1ReferenceIdeal)
    ∧ quiescent_WOutSibKernel (hWOutSibKernel := hWOutSibKernel)
    ∧ quiescent_WOutSibKernelIdeal (hWOutSibKernelIdeal := hWOutSibKernelIdeal)
    ∧ quiescent_WOutSibReferenceIdeal (hWOutSibReferenceIdeal := hWOutSibReferenceIdeal)
    ∧ quiescent_WOutKernel (hWOutKernel := hWOutKernel)
    ∧ quiescent_WOutKernelIdeal (hWOutKernelIdeal := hWOutKernelIdeal)
    ∧ quiescent_WOutReferenceIdeal (hWOutReferenceIdeal := hWOutReferenceIdeal)
    ∧ quiescent_WInSibKernel (hWInSibKernel := hWInSibKernel)
    ∧ quiescent_WInSibKernelIdeal (hWInSibKernelIdeal := hWInSibKernelIdeal)
    ∧ quiescent_WInSibReferenceIdeal (hWInSibReferenceIdeal := hWInSibReferenceIdeal)
    ∧ quiescent_WInKernel (hWInKernel := hWInKernel)
    ∧ quiescent_WInKernelIdeal (hWInKernelIdeal := hWInKernelIdeal)
    ∧ quiescent_WInReferenceIdeal (hWInReferenceIdeal := hWInReferenceIdeal)
    ∧ quiescent_MlpInKernel (hMlpInKernel := hMlpInKernel)
    ∧ quiescent_MlpInKernelIdeal (hMlpInKernelIdeal := hMlpInKernelIdeal)
    ∧ quiescent_MlpInReferenceIdeal (hMlpInReferenceIdeal := hMlpInReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_MlpOutKernel (hMlpOutKernel := hMlpOutKernel)
    ∧ quiescent_MlpOutKernelIdeal (hMlpOutKernelIdeal := hMlpOutKernelIdeal)
    ∧ quiescent_MlpOutKernelIdeal_pre_mlp_out_finite (hMlpOutKernelIdeal := hMlpOutKernelIdeal) (hPre_mlp_out_finite := hPre_mlp_out_finite)
    ∧ quiescent_MlpOutReferenceIdeal (hMlpOutReferenceIdeal := hMlpOutReferenceIdeal)
    ∧ quiescent_MlpOutReferenceIdeal_pre_mlp_out_finite (hMlpOutReferenceIdeal := hMlpOutReferenceIdeal) (hPre_mlp_out_finite := hPre_mlp_out_finite)
    ∧ quiescent_Dx1Kernel (hDx1Kernel := hDx1Kernel)
    ∧ quiescent_Dx1KernelIdeal (hDx1KernelIdeal := hDx1KernelIdeal)
    ∧ quiescent_Dx1KernelIdeal_pre_dx1_finite (hDx1KernelIdeal := hDx1KernelIdeal) (hPre_dx1_finite := hPre_dx1_finite)
    ∧ quiescent_Dx1ReferenceIdeal (hDx1ReferenceIdeal := hDx1ReferenceIdeal)
    ∧ quiescent_Dx1ReferenceIdeal_pre_dx1_finite (hDx1ReferenceIdeal := hDx1ReferenceIdeal) (hPre_dx1_finite := hPre_dx1_finite)
    ∧ quiescent_OutLnKernel (hOutLnKernel := hOutLnKernel)
    ∧ quiescent_OutLnKernelIdeal (hOutLnKernelIdeal := hOutLnKernelIdeal)
    ∧ quiescent_OutLnReferenceIdeal (hOutLnReferenceIdeal := hOutLnReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_W2SibKernel_W2SibKernelIdeal
    ∧ algebraic_W2SibKernelIdeal_W2SibReferenceIdeal (hW2SibKernelIdeal := hW2SibKernelIdeal) (hW2SibReferenceIdeal := hW2SibReferenceIdeal)
    ∧ preserves_W2Kernel_W2KernelIdeal
    ∧ algebraic_W2KernelIdeal_W2ReferenceIdeal (hW2KernelIdeal := hW2KernelIdeal) (hW2ReferenceIdeal := hW2ReferenceIdeal)
    ∧ preserves_W1SibKernel_W1SibKernelIdeal
    ∧ algebraic_W1SibKernelIdeal_W1SibReferenceIdeal (hW1SibKernelIdeal := hW1SibKernelIdeal) (hW1SibReferenceIdeal := hW1SibReferenceIdeal)
    ∧ preserves_W1Kernel_W1KernelIdeal
    ∧ algebraic_W1KernelIdeal_W1ReferenceIdeal (hW1KernelIdeal := hW1KernelIdeal) (hW1ReferenceIdeal := hW1ReferenceIdeal)
    ∧ preserves_WOutSibKernel_WOutSibKernelIdeal
    ∧ algebraic_WOutSibKernelIdeal_WOutSibReferenceIdeal (hWOutSibKernelIdeal := hWOutSibKernelIdeal) (hWOutSibReferenceIdeal := hWOutSibReferenceIdeal)
    ∧ preserves_WOutKernel_WOutKernelIdeal
    ∧ algebraic_WOutKernelIdeal_WOutReferenceIdeal (hWOutKernelIdeal := hWOutKernelIdeal) (hWOutReferenceIdeal := hWOutReferenceIdeal)
    ∧ preserves_WInSibKernel_WInSibKernelIdeal
    ∧ algebraic_WInSibKernelIdeal_WInSibReferenceIdeal (hWInSibKernelIdeal := hWInSibKernelIdeal) (hWInSibReferenceIdeal := hWInSibReferenceIdeal)
    ∧ preserves_WInKernel_WInKernelIdeal
    ∧ algebraic_WInKernelIdeal_WInReferenceIdeal (hWInKernelIdeal := hWInKernelIdeal) (hWInReferenceIdeal := hWInReferenceIdeal)
    ∧ preserves_MlpInKernel_MlpInKernelIdeal
    ∧ algebraic_MlpInKernelIdeal_MlpInReferenceIdeal (hMlpInKernelIdeal := hMlpInKernelIdeal) (hMlpInReferenceIdeal := hMlpInReferenceIdeal)
    ∧ preserves_DxKernel_DxKernelIdeal
    ∧ algebraic_DxKernelIdeal_DxReferenceIdeal (hDxKernelIdeal := hDxKernelIdeal) (hDxReferenceIdeal := hDxReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_MlpOutKernel_MlpOutKernelIdeal
    ∧ algebraic_MlpOutKernelIdeal_MlpOutReferenceIdeal_pre_mlp_out_finite (hMlpOutKernelIdeal := hMlpOutKernelIdeal) (hMlpOutReferenceIdeal := hMlpOutReferenceIdeal) (hPre_mlp_out_finite := hPre_mlp_out_finite)
    ∧ preserves_Dx1Kernel_Dx1KernelIdeal
    ∧ algebraic_Dx1KernelIdeal_Dx1ReferenceIdeal_pre_dx1_finite (hDx1KernelIdeal := hDx1KernelIdeal) (hDx1ReferenceIdeal := hDx1ReferenceIdeal) (hPre_dx1_finite := hPre_dx1_finite)
    ∧ preserves_OutLnKernel_OutLnKernelIdeal
    ∧ algebraic_OutLnKernelIdeal_OutLnReferenceIdeal (hOutLnKernelIdeal := hOutLnKernelIdeal) (hOutLnReferenceIdeal := hOutLnReferenceIdeal)
-- ==== Pre_dx1_finite.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S8x128 : Shape := ⟨2, ![8, 128]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg5 : FVec F S4096x2048 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S1x2048 .f32) (main_arg2 : FVec F S1x2048 .f32) (main_arg3 : FVec F S2048x8192 .f32) (main_arg4 : FVec F S4096x8192 .f32) (main_arg5 : FVec F S4096x2048 .f32) (main_arg6 : FVec F S8x128 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg5 main_v13 main_v16
-- ==== Pre_mlp_out_finite.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S4096x2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  main_v38

def fn_part1 {F : FTy → Type} [FloatOps F] (main_arg4 : FVec F S1x2048 .f32) (main_arg5 : FVec F S1x2048 .f32) (main_arg6 : FVec F S1x2048 .f32) (main_arg7 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_v33

def fn {F : FTy → Type} [FloatOps F] (main_arg0 : FVec F S4096x8192 .f32) (main_arg1 : FVec F S8192x2048 .f32) (main_arg2 : FVec F S4096x2048 .f32) (main_arg3 : FVec F S1x2048 .f32) (main_arg4 : FVec F S1x2048 .f32) (main_arg5 : FVec F S1x2048 .f32) (main_arg6 : FVec F S1x2048 .f32) (main_arg7 : FVec F S4096x2048 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_arg7 main_v13 main_v16
-- ==== MlpKernel.lean ====
abbrev S4096x8192 : Shape := ⟨2, ![4096, 8192]⟩
abbrev S8192x2048 : Shape := ⟨2, ![8192, 2048]⟩
abbrev S4096x2048 : Shape := ⟨2, ![4096, 2048]⟩
abbrev S8x128 : Shape := ⟨2, ![8, 128]⟩
abbrev S_ : Shape := ⟨0, ![]⟩
abbrev S1024x2048 : Shape := ⟨2, ![1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S8x128, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S8192x2048, .bf16⟩
  | .hbm, ⟨10, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpReferenceIdeal.lean ====
abbrev S4096x8192 : Shape := ⟨2, ![4096, 8192]⟩
abbrev S8192x2048 : Shape := ⟨2, ![8192, 2048]⟩
abbrev S4096x2048 : Shape := ⟨2, ![4096, 2048]⟩
abbrev S8x128 : Shape := ⟨2, ![8, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S8x128, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== W2SibKernel.lean ====
abbrev S4096x8192 : Shape := ⟨2, ![4096, 8192]⟩
abbrev S4096x2048 : Shape := ⟨2, ![4096, 2048]⟩
abbrev S8x128 : Shape := ⟨2, ![8, 128]⟩
abbrev S_ : Shape := ⟨0, ![]⟩
abbrev S1 : Shape := ⟨1, ![1]⟩
abbrev S4x1024x2048 : Shape := ⟨3, ![4, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 14
  | .vmem => 6
  | .smem => 1
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S8x128, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x2048, .bf16⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S4x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .smem, ⟨0, _⟩ => ⟨S1, .i32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v8 : Ref sig .tc := ⟨.hbm, 13, rfl⟩
abbrev main_v7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32 : BitVec 32 := 2#32
  let v18 : BitVec 32 := Scalar.muli v17 c2_i32
  let v19 : BitVec 32 := Scalar.addi v18 v0
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W2SibReferenceIdeal.lean ====
abbrev S4096x8192 : Shape := ⟨2, ![4096, 8192]⟩
abbrev S4096x2048 : Shape := ⟨2, ![4096, 2048]⟩
abbrev S8x128 : Shape := ⟨2, ![8, 128]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S8x128, .f32⟩
  | .hbm, ⟨3, _⟩ => ⟨S_, .f32⟩
  | .hbm, ⟨4, _⟩ => ⟨S8192x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S2048x8192, .f32⟩
  | .hbm, ⟨11, _⟩ => ⟨S8192x2048, .f32⟩
  | .hbm, ⟨12, _⟩ => ⟨S4x2x1024x2048, .f32⟩
  | .hbm, ⟨13, _⟩ => ⟨S4x1x1024x2048, .f32⟩
  | .hbm, ⟨14, _⟩ => ⟨S4x1024x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== W2Kernel.lean ====
abbrev S4096x8192 : Shape := ⟨2, ![4096, 8192]⟩
abbrev S4096x2048 : Shape := ⟨2, ![4096, 2048]⟩
abbrev S4x1024x2048 : Shape := ⟨3, ![4, 1024, 2048]⟩
abbrev S8x128 : Shape := ⟨2, ![8, 128]⟩
abbrev S_ : Shape := ⟨0, ![]⟩
abbrev S1 : Shape := ⟨1, ![1]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 15
  | .vmem => 8
  | .smem => 1
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4x1024x2048, .f32⟩
  | .hbm, ⟨3, _⟩ => ⟨S8x128, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S4096x2048, .bf16⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S4x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .smem, ⟨0, _⟩ => ⟨S1, .i32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32 : BitVec 32 := 2#32
  let v18 : BitVec 32 := Scalar.muli v17 c2_i32
  let v19 : BitVec 32 := Scalar.addi v18 v0
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== W2ReferenceIdeal.lean ====
abbrev S4096x8192 : Shape := ⟨2, ![4096, 8192]⟩
abbrev S4096x2048 : Shape := ⟨2, ![4096, 2048]⟩
abbrev S4x1024x2048 : Shape := ⟨3, ![4, 1024, 2048]⟩
abbrev S8x128 : Shape := ⟨2, ![8, 128]⟩
abbrev S_ : Shape := ⟨0, ![]⟩
abbrev S8192x2048 : Shape := ⟨2, ![8192, 2048]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4x1024x2048, .f32⟩
  | .hbm, ⟨3, _⟩ => ⟨S8x128, .f32⟩
  | .hbm, ⟨4, _⟩ => ⟨S_, .f32⟩
  | .hbm, ⟨5, _⟩ => ⟨S8192x2048, .f32⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S2048x8192, .f32⟩
  | .hbm, ⟨12, _⟩ => ⟨S8192x2048, .f32⟩
  | .hbm, ⟨13, _⟩ => ⟨S4x2x1024x2048, .f32⟩
  | .hbm, ⟨14, _⟩ => ⟨S4x1x1024x2048, .f32⟩
  | .hbm, ⟨15, _⟩ => ⟨S4x1024x2048, .f32⟩
  | .hbm, ⟨16, _⟩ => ⟨S4x1024x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== W1SibKernel.lean ====
abbrev S4096x2048 : Shape := ⟨2, ![4096, 2048]⟩
abbrev S4096x8192 : Shape := ⟨2, ![4096, 8192]⟩
abbrev S8x128 : Shape := ⟨2, ![8, 128]⟩
abbrev S_ : Shape := ⟨0, ![]⟩
abbrev S1 : Shape := ⟨1, ![1]⟩
abbrev S4x1024x2048 : Shape := ⟨3, ![4, 1024, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 10
  | .vmem => 5
  | .smem => 1
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S8x128, .f32⟩
  | .hbm, ⟨3, _⟩ => ⟨S4096x2048, .bf16⟩
  | .hbm, ⟨4, _⟩ => ⟨S4096x8192, .bf16⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S4x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v5 : Ref sig .tc := ⟨.hbm, 9, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== W1SibReferenceIdeal.lean ====
abbrev S4096x2048 : Shape := ⟨2, ![4096, 2048]⟩
abbrev S4096x8192 : Shape := ⟨2, ![4096, 8192]⟩
abbrev S8x128 : Shape := ⟨2, ![8, 128]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S2x4x1024x2048 : Shape := ⟨4, ![2, 4, 1024, 2048]⟩
abbrev S1x4x1024x2048 : Shape := ⟨4, ![1, 4, 1024, 2048]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S8x128, .f32⟩
  | .hbm, ⟨3, _⟩ => ⟨S_, .f32⟩
  | .hbm, ⟨4, _⟩ => ⟨S2048x8192, .f32⟩
  | .hbm, ⟨5, _⟩ => ⟨S4096x8192, .f32⟩
  | .hbm, ⟨6, _⟩ => ⟨S8192x2048, .f32⟩
  | .hbm, ⟨7, _⟩ => ⟨S2048x8192, .f32⟩
  | .hbm, ⟨8, _⟩ => ⟨S2x1024x4x2048, .f32⟩
  | .hbm, ⟨9, _⟩ => ⟨S2x4x1024x2048, .f32⟩
  | .hbm, ⟨10, _⟩ => ⟨S1x4x1024x2048, .f32⟩
  | .hbm, ⟨11, _⟩ => ⟨S4x1024x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== W1Kernel.lean ====
abbrev S4096x2048 : Shape := ⟨2, ![4096, 2048]⟩
abbrev S4096x8192 : Shape := ⟨2, ![4096, 8192]⟩
abbrev S4x1024x2048 : Shape := ⟨3, ![4, 1024, 2048]⟩
abbrev S8x128 : Shape := ⟨2, ![8, 128]⟩
abbrev S_ : Shape := ⟨0, ![]⟩
abbrev S1 : Shape := ⟨1, ![1]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 11
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4x1024x2048, .f32⟩
  | .hbm, ⟨3, _⟩ => ⟨S8x128, .f32⟩
  | .hbm, ⟨4, _⟩ => ⟨S4096x2048, .bf16⟩
  | .hbm, ⟨5, _⟩ => ⟨S4096x8192, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S4x1024x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== W1ReferenceIdeal.lean ====
abbrev S4096x2048 : Shape := ⟨2, ![4096, 2048]⟩
abbrev S4096x8192 : Shape := ⟨2, ![4096, 8192]⟩
abbrev S4x1024x2048 : Shape := ⟨3, ![4, 1024, 2048]⟩
abbrev S8x128 : Shape := ⟨2, ![8, 128]⟩
abbrev S_ : Shape := ⟨0, ![]⟩
abbrev S2048x8192 : Shape := ⟨2, ![2048, 8192]⟩
abbrev S8192x2048 : Shape := ⟨2, ![8192, 2048]⟩
abbrev S2x1024x4x2048 : Shape := ⟨4, ![2, 1024, 4, 2048]⟩
abbrev S2x4x1024x2048 : Shape := ⟨4, ![2, 4, 1024, 2048]⟩
abbrev S1x4x1024x2048 : Shape := ⟨4, ![1, 4, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4x1024x2048, .f32⟩
  | .hbm, ⟨3, _⟩ => ⟨S8x128, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2x1024x4x2048, .f32⟩
  | .hbm, ⟨10, _⟩ => ⟨S2x4x1024x2048, .f32⟩
  | .hbm, ⟨11, _⟩ => ⟨S1x4x1024x2048, .f32⟩
  | .hbm, ⟨12, _⟩ => ⟨S4x1024x2048, .f32⟩
  | .hbm, ⟨13, _⟩ => ⟨S4x1024x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== WOutSibKernel.lean ====
abbrev S4096x2048 : Shape := ⟨2, ![4096, 2048]⟩
abbrev S8x128 : Shape := ⟨2, ![8, 128]⟩
abbrev S_ : Shape := ⟨0, ![]⟩
abbrev S1 : Shape := ⟨1, ![1]⟩
abbrev S4x256x2048 : Shape := ⟨3, ![4, 256, 2048]⟩
abbrev S4096x256 : Shape := ⟨2, ![4096, 256]⟩
abbrev S1x256x2048 : Shape := ⟨3, ![1, 256, 2048]⟩
abbrev S256x2048 : Shape := ⟨2, ![256, 2048]⟩

abbrev nBuf : Space → Nat
  | .hbm => 10
  | .vmem => 5
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x128, .f32⟩
  | .hbm, ⟨3, _⟩ => ⟨S4096x2048, .bf16⟩
  | .hbm, ⟨4, _⟩ => ⟨S4096x2048, .bf16⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S4x256x2048, .f32⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S1x256x2048, .f32⟩
  | .local _ .vmem, ⟨4, _⟩ => ⟨S1x256x2048, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v5 : Ref sig .tc := ⟨.hbm, 9, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32 : BitVec 32 := 2#32
  let v18 : BitVec 32 := Scalar.muli v17 c2_i32
  let v19 : BitVec 32 := Scalar.addi v18 v0
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WOutSibReferenceIdeal.lean ====
abbrev S4096x2048 : Shape := ⟨2, ![4096, 2048]⟩
abbrev S8x128 : Shape := ⟨2, ![8, 128]⟩
abbrev S_ : Shape := ⟨0, ![]⟩
abbrev S2048x2048 : Shape := ⟨2, ![2048, 2048]⟩
abbrev S4x2x256x2048 : Shape := ⟨4, ![4, 2, 256, 2048]⟩
abbrev S4x1x256x2048 : Shape := ⟨4, ![4, 1, 256, 2048]⟩
abbrev S4x256x2048 : Shape := ⟨3, ![4, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S8x128, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S4x2x256x2048, .f32⟩
  | .hbm, ⟨9, _⟩ => ⟨S4x1x256x2048, .f32⟩
  | .hbm, ⟨10, _⟩ => ⟨S4x256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== WOutKernel.lean ====
abbrev S4096x2048 : Shape := ⟨2, ![4096, 2048]⟩
abbrev S4x256x2048 : Shape := ⟨3, ![4, 256, 2048]⟩
abbrev S8x128 : Shape := ⟨2, ![8, 128]⟩
abbrev S_ : Shape := ⟨0, ![]⟩
abbrev S1 : Shape := ⟨1, ![1]⟩
abbrev S4096x256 : Shape := ⟨2, ![4096, 256]⟩
abbrev S1x256x2048 : Shape := ⟨3, ![1, 256, 2048]⟩
abbrev S256x2048 : Shape := ⟨2, ![256, 2048]⟩

abbrev nBuf : Space → Nat
  | .hbm => 11
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x256x2048, .f32⟩
  | .hbm, ⟨3, _⟩ => ⟨S8x128, .f32⟩
  | .hbm, ⟨4, _⟩ => ⟨S4096x2048, .bf16⟩
  | .hbm, ⟨5, _⟩ => ⟨S4096x2048, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S4x256x2048, .f32⟩
  | .local _ .vmem, ⟨0, _⟩ => ⟨S4096x256, .bf16⟩
  | .local _ .vmem, ⟨1, _⟩ => ⟨S4096x256, .bf16⟩
  | .local _ .vmem, ⟨2, _⟩ => ⟨S4096x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.divsi arg0 c1_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32 : BitVec 32 := 2#32
  let v18 : BitVec 32 := Scalar.muli v17 c2_i32
  let v19 : BitVec 32 := Scalar.addi v18 v0
  let c1_i32_5 : BitVec 32 := 1#32
  let v20 : BitVec 32 := Scalar.muli v19 c1_i32_5
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi arg0 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_12 : BitVec 32 := 0#32
  ![arg2.toNat, v31.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WOutReferenceIdeal.lean ====
abbrev S4096x2048 : Shape := ⟨2, ![4096, 2048]⟩
abbrev S4x256x2048 : Shape := ⟨3, ![4, 256, 2048]⟩
abbrev S8x128 : Shape := ⟨2, ![8, 128]⟩
abbrev S_ : Shape := ⟨0, ![]⟩
abbrev S2048x2048 : Shape := ⟨2, ![2048, 2048]⟩
abbrev S4x2x256x2048 : Shape := ⟨4, ![4, 2, 256, 2048]⟩
abbrev S4x1x256x2048 : Shape := ⟨4, ![4, 1, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4x256x2048, .f32⟩
  | .hbm, ⟨3, _⟩ => ⟨S8x128, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4x2x256x2048, .f32⟩
  | .hbm, ⟨10, _⟩ => ⟨S4x1x256x2048, .f32⟩
  | .hbm, ⟨11, _⟩ => ⟨S4x256x2048, .f32⟩
  | .hbm, ⟨12, _⟩ => ⟨S4x256x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== WInSibKernel.lean ====
abbrev S4096x2048 : Shape := ⟨2, ![4096, 2048]⟩
abbrev S4096x3072 : Shape := ⟨2, ![4096, 3072]⟩
abbrev S8x128 : Shape := ⟨2, ![8, 128]⟩
abbrev S_ : Shape := ⟨0, ![]⟩
abbrev S1 : Shape := ⟨1, ![1]⟩
abbrev S4x1024x768 : Shape := ⟨3, ![4, 1024, 768]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 10
  | .vmem => 5
  | .smem => 1
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S8x128, .f32⟩
  | .hbm, ⟨3, _⟩ => ⟨S4096x2048, .bf16⟩
  | .hbm, ⟨4, _⟩ => ⟨S4096x3072, .bf16⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S4x1024x768, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .f32⟩
  | .local _ .vmem, ⟨4, _⟩ => ⟨S1x1024x768, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v5 : Ref sig .tc := ⟨.hbm, 9, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WInSibReferenceIdeal.lean ====
abbrev S4096x2048 : Shape := ⟨2, ![4096, 2048]⟩
abbrev S4096x3072 : Shape := ⟨2, ![4096, 3072]⟩
abbrev S8x128 : Shape := ⟨2, ![8, 128]⟩
abbrev S_ : Shape := ⟨0, ![]⟩
abbrev S2048x3072 : Shape := ⟨2, ![2048, 3072]⟩
abbrev S3072x2048 : Shape := ⟨2, ![3072, 2048]⟩
abbrev S2x1024x4x768 : Shape := ⟨4, ![2, 1024, 4, 768]⟩
abbrev S2x4x1024x768 : Shape := ⟨4, ![2, 4, 1024, 768]⟩
abbrev S1x4x1024x768 : Shape := ⟨4, ![1, 4, 1024, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S8x128, .f32⟩
  | .hbm, ⟨3, _⟩ => ⟨S_, .f32⟩
  | .hbm, ⟨4, _⟩ => ⟨S2048x3072, .f32⟩
  | .hbm, ⟨5, _⟩ => ⟨S4096x3072, .f32⟩
  | .hbm, ⟨6, _⟩ => ⟨S3072x2048, .f32⟩
  | .hbm, ⟨7, _⟩ => ⟨S2048x3072, .f32⟩
  | .hbm, ⟨8, _⟩ => ⟨S2x1024x4x768, .f32⟩
  | .hbm, ⟨9, _⟩ => ⟨S2x4x1024x768, .f32⟩
  | .hbm, ⟨10, _⟩ => ⟨S1x4x1024x768, .f32⟩
  | .hbm, ⟨11, _⟩ => ⟨S4x1024x768, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== WInKernel.lean ====
abbrev S4096x2048 : Shape := ⟨2, ![4096, 2048]⟩
abbrev S4096x3072 : Shape := ⟨2, ![4096, 3072]⟩
abbrev S4x1024x768 : Shape := ⟨3, ![4, 1024, 768]⟩
abbrev S8x128 : Shape := ⟨2, ![8, 128]⟩
abbrev S_ : Shape := ⟨0, ![]⟩
abbrev S1 : Shape := ⟨1, ![1]⟩
abbrev S4096x1024 : Shape := ⟨2, ![4096, 1024]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 11
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4x1024x768, .f32⟩
  | .hbm, ⟨3, _⟩ => ⟨S8x128, .f32⟩
  | .hbm, ⟨4, _⟩ => ⟨S4096x2048, .bf16⟩
  | .hbm, ⟨5, _⟩ => ⟨S4096x3072, .bf16⟩
  | .hbm, ⟨6, _⟩ => ⟨S_, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S4x1024x768, .f32⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .f32⟩
  | .local _ .vmem, ⟨4, _⟩ => ⟨S1x1024x768, .f32⟩
  | .local _ .vmem, ⟨5, _⟩ => ⟨S1x1024x768, .f32⟩
  | .local _ .vmem, ⟨6, _⟩ => ⟨S1x1024x768, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== WInReferenceIdeal.lean ====
abbrev S4096x2048 : Shape := ⟨2, ![4096, 2048]⟩
abbrev S4096x3072 : Shape := ⟨2, ![4096, 3072]⟩
abbrev S4x1024x768 : Shape := ⟨3, ![4, 1024, 768]⟩
abbrev S8x128 : Shape := ⟨2, ![8, 128]⟩
abbrev S_ : Shape := ⟨0, ![]⟩
abbrev S2048x3072 : Shape := ⟨2, ![2048, 3072]⟩
abbrev S3072x2048 : Shape := ⟨2, ![3072, 2048]⟩
abbrev S2x1024x4x768 : Shape := ⟨4, ![2, 1024, 4, 768]⟩
abbrev S2x4x1024x768 : Shape := ⟨4, ![2, 4, 1024, 768]⟩
abbrev S1x4x1024x768 : Shape := ⟨4, ![1, 4, 1024, 768]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4x1024x768, .f32⟩
  | .hbm, ⟨3, _⟩ => ⟨S8x128, .f32⟩
  | .hbm, ⟨4, _⟩ => ⟨S_, .f32⟩
  | .hbm, ⟨5, _⟩ => ⟨S2048x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2x1024x4x768, .f32⟩
  | .hbm, ⟨10, _⟩ => ⟨S2x4x1024x768, .f32⟩
  | .hbm, ⟨11, _⟩ => ⟨S1x4x1024x768, .f32⟩
  | .hbm, ⟨12, _⟩ => ⟨S4x1024x768, .f32⟩
  | .hbm, ⟨13, _⟩ => ⟨S4x1024x768, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpInKernel.lean ====
abbrev S4096x2048 : Shape := ⟨2, ![4096, 2048]⟩
abbrev S2048x8192 : Shape := ⟨2, ![2048, 8192]⟩
abbrev S8x128 : Shape := ⟨2, ![8, 128]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8x128, .f32⟩
  | .hbm, ⟨3, _⟩ => ⟨S4096x2048, .bf16⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S4096x8192, .bf16⟩
  | .hbm, ⟨8, _⟩ => ⟨S4096x8192, .bf16⟩
  | .hbm, ⟨9, _⟩ => ⟨S4096x8192, .bf16⟩
  | .hbm, ⟨10, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048x1024, .bf16⟩
  | .local _ .vmem, ⟨11, _⟩ => ⟨S1x2048x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi c4_i32_4 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc1_transform_5 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== MlpInReferenceIdeal.lean ====
abbrev S4096x2048 : Shape := ⟨2, ![4096, 2048]⟩
abbrev S2048x8192 : Shape := ⟨2, ![2048, 8192]⟩
abbrev S8x128 : Shape := ⟨2, ![8, 128]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8x128, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_call1_cst : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== DxKernel.lean ====
abbrev S4096x3072 : Shape := ⟨2, ![4096, 3072]⟩
abbrev S2048x3072 : Shape := ⟨2, ![2048, 3072]⟩
abbrev S4096x2048 : Shape := ⟨2, ![4096, 2048]⟩
abbrev S8x128 : Shape := ⟨2, ![8, 128]⟩
abbrev S2048x4x768 : Shape := ⟨3, ![2048, 4, 768]⟩
abbrev S4x2048x768 : Shape := ⟨3, ![4, 2048, 768]⟩
abbrev S512x3072 : Shape := ⟨2, ![512, 3072]⟩
abbrev S512x2048 : Shape := ⟨2, ![512, 2048]⟩
abbrev S4 : Shape := ⟨1, ![4]⟩
abbrev S1 : Shape := ⟨1, ![1]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 9
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S4096x2048, .f32⟩
  | .hbm, ⟨3, _⟩ => ⟨S8x128, .f32⟩
  | .hbm, ⟨4, _⟩ => ⟨S2048x3072, .bf16⟩
  | .hbm, ⟨5, _⟩ => ⟨S2048x4x768, .bf16⟩
  | .hbm, ⟨6, _⟩ => ⟨S4x2048x768, .bf16⟩
  | .hbm, ⟨7, _⟩ => ⟨S4096x3072, .bf16⟩
  | .hbm, ⟨8, _⟩ => ⟨S4096x2048, .f32⟩
  | .local _ .vmem, ⟨0, _⟩ => ⟨S512x3072, .bf16⟩
  | .local _ .vmem, ⟨1, _⟩ => ⟨S512x3072, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x3072, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DxReferenceIdeal.lean ====
abbrev S4096x3072 : Shape := ⟨2, ![4096, 3072]⟩
abbrev S2048x3072 : Shape := ⟨2, ![2048, 3072]⟩
abbrev S4096x2048 : Shape := ⟨2, ![4096, 2048]⟩
abbrev S8x128 : Shape := ⟨2, ![8, 128]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S2048x3072, .f32⟩
  | .hbm, ⟨2, _⟩ => ⟨S4096x2048, .f32⟩
  | .hbm, ⟨3, _⟩ => ⟨S8x128, .f32⟩
  | .hbm, ⟨4, _⟩ => ⟨S_, .f32⟩
  | .hbm, ⟨5, _⟩ => ⟨S4096x2048, .f32⟩
  | .hbm, ⟨6, _⟩ => ⟨S4096x3072, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== ProjKernel.lean ====
abbrev S4096x2048 : Shape := ⟨2, ![4096, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S4096x3072 : Shape := ⟨2, ![4096, 3072]⟩
abbrev S512x2048 : Shape := ⟨2, ![512, 2048]⟩
abbrev S512x3072 : Shape := ⟨2, ![512, 3072]⟩
abbrev S4 : Shape := ⟨1, ![4]⟩
abbrev S1 : Shape := ⟨1, ![1]⟩
abbrev S_ : Shape := ⟨0, ![]⟩
abbrev S2048x768 : Shape := ⟨2, ![2048, 768]⟩
abbrev S1x2048x768 : Shape := ⟨3, ![1, 2048, 768]⟩

abbrev nBuf : Space → Nat
  | .hbm => 7
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S2048x3072, .bf16⟩
  | .hbm, ⟨3, _⟩ => ⟨S2048x4x768, .bf16⟩
  | .hbm, ⟨4, _⟩ => ⟨S4x2048x768, .bf16⟩
  | .hbm, ⟨5, _⟩ => ⟨S4096x2048, .bf16⟩
  | .hbm, ⟨6, _⟩ => ⟨S4096x3072, .f32⟩
  | .local _ .vmem, ⟨0, _⟩ => ⟨S512x2048, .bf16⟩
  | .local _ .vmem, ⟨1, _⟩ => ⟨S512x2048, .bf16⟩
  | .local _ .vmem, ⟨2, _⟩ => ⟨S512x3072, .f32⟩
  | .local _ .vmem, ⟨3, _⟩ => ⟨S512x3072, .f32⟩
  | .local _ .vmem, ⟨4, _⟩ => ⟨S2048x3072, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ProjReferenceIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlpOutKernel.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S8x2048 : Shape := ⟨2, ![8, 2048]⟩
abbrev S512x2048 : Shape := ⟨2, ![512, 2048]⟩
abbrev S2048x2048 : Shape := ⟨2, ![2048, 2048]⟩
abbrev S8 : Shape := ⟨1, ![8]⟩
abbrev S8x1 : Shape := ⟨2, ![8, 1]⟩
abbrev S_ : Shape := ⟨0, ![]⟩
abbrev S2048 : Shape := ⟨1, ![2048]⟩

abbrev nBuf : Space → Nat
  | .hbm => 23
  | .vmem => 20
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x8192, .bf16⟩
  | .hbm, ⟨9, _⟩ => ⟨S8192x2048, .bf16⟩
  | .hbm, ⟨10, _⟩ => ⟨S4096x2048, .f32⟩
  | .hbm, ⟨11, _⟩ => ⟨S4096x2048, .bf16⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S_, .f32⟩
  | .hbm, ⟨22, _⟩ => ⟨S2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S8x2048, .f32⟩
  | .local _ .vmem, ⟨17, _⟩ => ⟨S8x2048, .f32⟩
  | .local _ .vmem, ⟨18, _⟩ => ⟨S8x2048, .f32⟩
  | .local _ .vmem, ⟨19, _⟩ => ⟨S512x2048, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_11 : BitVec 32 := 0#32
  let v20 : BitVec 1 := Scalar.cmpi .ne v19 c0_i32_11
  v20

@[reducible] def k0_t1_loop : Scf.Loop 32 :=
  let c0_i32_20 : BitVec 32 := 0#32
  let c8_i32 : BitVec 32 := 8#32
  let v25 : BitVec 32 := Scalar.addi c0_i32_20 c8_i32
  let c1_i32 : BitVec 32 := 1#32
  ⟨c0_i32_20, v25, c1_i32⟩
def k0_mult1 (k0_t1 : Fin k0_t1_loop.trips) : BitVec 32 :=
  let c0_i32_20 : BitVec 32 := 0#32
  let c1_i32 : BitVec 32 := 1#32
  let arg16 : BitVec 32 := Scf.iv c0_i32_20 c1_i32 k0_t1
  let c64_i32 : BitVec 32 := 64#32
  let v30 : BitVec 32 := Scalar.muli arg16 c64_i32
  v30
def k0_off1 (k0_t1 : Fin k0_t1_loop.trips) (c0_i32_26 : BitVec 32) : Fin 2 → Nat :=
  let c0_i32_20 : BitVec 32 := 0#32
  let c1_i32 : BitVec 32 := 1#32
  let arg16 : BitVec 32 := Scf.iv c0_i32_20 c1_i32 k0_t1
  let c64_i32 : BitVec 32 := 64#32
  let v30 : BitVec 32 := Scalar.muli arg16 c64_i32
  let v31 : BitVec 32 := v30
  let v32 : BitVec 32 := Scalar.addi v31 c0_i32_26
  let v33 : Index := Scalar.indexCast v32
  let c0_27 : Index := 0#32
  ![v33.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== MlpOutReferenceIdeal.lean ====
abbrev S4096x8192 : Shape := ⟨2, ![4096, 8192]⟩
abbrev S8192x2048 : Shape := ⟨2, ![8192, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 117
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S4096x2048, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S4096x2048, .f32⟩
  | .hbm, ⟨82, _⟩ => ⟨S4096x2048, .f32⟩
  | .hbm, ⟨83, _⟩ => ⟨S4096x2048, .f32⟩
  | .hbm, ⟨84, _⟩ => ⟨S_, .f32⟩
  | .hbm, ⟨85, _⟩ => ⟨S4096, .f32⟩
  | .hbm, ⟨86, _⟩ => ⟨S4096x1, .f32⟩
  | .hbm, ⟨87, _⟩ => ⟨S4096x2048, .f32⟩
  | .hbm, ⟨88, _⟩ => ⟨S4096x2048, .f32⟩
  | .hbm, ⟨89, _⟩ => ⟨S4096x1, .f32⟩
  | .hbm, ⟨90, _⟩ => ⟨S4096x2048, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x2048, .f32⟩
  | .hbm, ⟨100, _⟩ => ⟨S4096x2048, .f32⟩
  | .hbm, ⟨101, _⟩ => ⟨S4096x2048, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S4096x2048, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x2048, .f32⟩
  | .hbm, ⟨113, _⟩ => ⟨S4096x2048, .f32⟩
  | .hbm, ⟨114, _⟩ => ⟨S4096x2048, .bf16⟩
  | .hbm, ⟨115, _⟩ => ⟨S2048, .f32⟩
  | .hbm, ⟨116, _⟩ => ⟨S2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_cst_12 : Ref sig .tc := ⟨.hbm, 65, rfl⟩
abbrev main_cst_13 : Ref sig .tc := ⟨.hbm, 66, rfl⟩
abbrev main_v44 : Ref sig .tc := ⟨.hbm, 67, rfl⟩
abbrev main_v45 : Ref sig .tc := ⟨.hbm, 68, rfl⟩
abbrev main_cst_14 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_16 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_18 : Ref sig .tc := ⟨.hbm, 91, rfl⟩
abbrev main_v64 : Ref sig .tc := ⟨.hbm, 92, rfl⟩
abbrev main_v65 : Ref sig .tc := ⟨.hbm, 93, rfl⟩
abbrev main_cst_19 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_21 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_cst_23 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Dx1Kernel.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S2048x4x2048 : Shape := ⟨3, ![2048, 4, 2048]⟩
abbrev S4x2048x2048 : Shape := ⟨3, ![4, 2048, 2048]⟩
abbrev S8x2048 : Shape := ⟨2, ![8, 2048]⟩
abbrev S512x2048 : Shape := ⟨2, ![512, 2048]⟩
abbrev S1x2048x2048 : Shape := ⟨3, ![1, 2048, 2048]⟩
abbrev S512x1 : Shape := ⟨2, ![512, 1]⟩
abbrev S2048x2048 : Shape := ⟨2, ![2048, 2048]⟩
abbrev S8x1 : Shape := ⟨2, ![8, 1]⟩
abbrev S8 : Shape := ⟨1, ![8]⟩
abbrev S2048 : Shape := ⟨1, ![2048]⟩

abbrev nBuf : Space → Nat
  | .hbm => 42
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S4096x8192, .f32⟩
  | .hbm, ⟨5, _⟩ => ⟨S4096x2048, .f32⟩
  | .hbm, ⟨6, _⟩ => ⟨S8x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S2048x8192, .bf16⟩
  | .hbm, ⟨31, _⟩ => ⟨S2048x4x2048, .bf16⟩
  | .hbm, ⟨32, _⟩ => ⟨S4x2048x2048, .bf16⟩
  | .hbm, ⟨33, _⟩ => ⟨S4096x8192, .bf16⟩
  | .hbm, ⟨34, _⟩ => ⟨S4096x2048, .f32⟩
  | .hbm, ⟨35, _⟩ => ⟨S4096x2048, .bf16⟩
  | .hbm, ⟨36, _⟩ => ⟨S8x2048, .f32⟩
  | .hbm, ⟨37, _⟩ => ⟨S8x2048, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x1, .f32⟩
  | .local _ .vmem, ⟨9, _⟩ => ⟨S512x1, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S8x2048, .f32⟩
  | .local _ .vmem, ⟨16, _⟩ => ⟨S8x2048, .f32⟩
  | .local _ .vmem, ⟨17, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

@[reducible] def k0_t1_loop : Scf.Loop 32 :=
  let c0_i32_15 : BitVec 32 := 0#32
  let c8_i32 : BitVec 32 := 8#32
  let v22 : BitVec 32 := Scalar.addi c0_i32_15 c8_i32
  let c1_i32 : BitVec 32 := 1#32
  ⟨c0_i32_15, v22, c1_i32⟩
def k0_mult1 (k0_t1 : Fin k0_t1_loop.trips) : BitVec 32 :=
  let c0_i32_15 : BitVec 32 := 0#32
  let c1_i32 : BitVec 32 := 1#32
  let arg14 : BitVec 32 := Scf.iv c0_i32_15 c1_i32 k0_t1
  let c64_i32 : BitVec 32 := 64#32
  let v27 : BitVec 32 := Scalar.muli arg14 c64_i32
  v27
def k0_off1 (k0_t1 : Fin k0_t1_loop.trips) (c0_i32_21 : BitVec 32) : Fin 2 → Nat :=
  let c0_i32_15 : BitVec 32 := 0#32
  let c1_i32 : BitVec 32 := 1#32
  let arg14 : BitVec 32 := Scf.iv c0_i32_15 c1_i32 k0_t1
  let c64_i32 : BitVec 32 := 64#32
  let v27 : BitVec 32 := Scalar.muli arg14 c64_i32
  let v28 : BitVec 32 := v27
  let v29 : BitVec 32 := Scalar.addi v28 c0_i32_21
  let v30 : Index := Scalar.indexCast v29
  let c0_22 : Index := 0#32
  ![v30.toNat, 0]
def k0_off2 (k0_t1 : Fin k0_t1_loop.trips) (c0_i32_21 : BitVec 32) : Fin 2 → Nat :=
  let c0_i32_15 : BitVec 32 := 0#32
  let c1_i32 : BitVec 32 := 1#32
  let arg14 : BitVec 32 := Scf.iv c0_i32_15 c1_i32 k0_t1
  let c64_i32 : BitVec 32 := 64#32
  let v27 : BitVec 32 := Scalar.muli arg14 c64_i32
  let v28 : BitVec 32 := v27
  let v29 : BitVec 32 := Scalar.addi v28 c0_i32_21
  let v49 : Index := Scalar.indexCast v29
  let c0_34 : Index := 0#32
  ![v49.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Dx1ReferenceIdeal.lean ====
abbrev S4096x2048 : Shape := ⟨2, ![4096, 2048]⟩
abbrev S1x2048 : Shape := ⟨2, ![1, 2048]⟩
abbrev S2048x8192 : Shape := ⟨2, ![2048, 8192]⟩
abbrev S4096x8192 : Shape := ⟨2, ![4096, 8192]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 93
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x8192, .f32⟩
  | .hbm, ⟨4, _⟩ => ⟨S4096x8192, .f32⟩
  | .hbm, ⟨5, _⟩ => ⟨S4096x2048, .f32⟩
  | .hbm, ⟨6, _⟩ => ⟨S8x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x8192, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x2048, .f32⟩
  | .hbm, ⟨64, _⟩ => ⟨S4096x2048, .f32⟩
  | .hbm, ⟨65, _⟩ => ⟨S4096x1, .f32⟩
  | .hbm, ⟨66, _⟩ => ⟨S4096x2048, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x2048, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S_, .f32⟩
  | .hbm, ⟨87, _⟩ => ⟨S4096, .f32⟩
  | .hbm, ⟨88, _⟩ => ⟨S4096x2048, .f32⟩
  | .hbm, ⟨89, _⟩ => ⟨S4096x2048, .f32⟩
  | .hbm, ⟨90, _⟩ => ⟨S4096x2048, .bf16⟩
  | .hbm, ⟨91, _⟩ => ⟨S2048, .f32⟩
  | .hbm, ⟨92, _⟩ => ⟨S2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== OutLnKernel.lean ====
abbrev S4096x2048 : Shape := ⟨2, ![4096, 2048]⟩
abbrev S2048x2048 : Shape := ⟨2, ![2048, 2048]⟩
abbrev S1x2048 : Shape := ⟨2, ![1, 2048]⟩
abbrev S8x128 : Shape := ⟨2, ![8, 128]⟩
abbrev S4096x1 : Shape := ⟨2, ![4096, 1]⟩
abbrev S512x2048 : Shape := ⟨2, ![512, 2048]⟩
abbrev S512x1 : Shape := ⟨2, ![512, 1]⟩
abbrev S8x2048 : Shape := ⟨2, ![8, 2048]⟩
abbrev S8 : Shape := ⟨1, ![8]⟩
abbrev S8x1 : Shape := ⟨2, ![8, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S4096x2048, .bf16⟩
  | .hbm, ⟨7, _⟩ => ⟨S2048x2048, .bf16⟩
  | .hbm, ⟨8, _⟩ => ⟨S4096x2048, .f32⟩
  | .hbm, ⟨9, _⟩ => ⟨S4096x2048, .bf16⟩
  | .hbm, ⟨10, _⟩ => ⟨S4096x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x1, .f32⟩
  | .local _ .vmem, ⟨12, _⟩ => ⟨S512x1, .f32⟩
  | .local _ .vmem, ⟨13, _⟩ => ⟨S512x2048, .f32⟩
  | .local _ .vmem, ⟨14, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v10 : BitVec 32 := Scalar.addi c0_i32 c8_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v14 : BitVec 32 := Scalar.muli arg12 c64_i32
  v14
def k0_off1 (k0_t1 : Fin k0_t1_loop.trips) (c0_i32_14 : BitVec 32) : Fin 2 → Nat :=
  let c0_i32 : BitVec 32 := 0#32
  let c1_i32 : BitVec 32 := 1#32
  let arg12 : BitVec 32 := Scf.iv c0_i32 c1_i32 k0_t1
  let c64_i32 : BitVec 32 := 64#32
  let v14 : BitVec 32 := Scalar.muli arg12 c64_i32
  let v15 : BitVec 32 := v14
  let v16 : BitVec 32 := Scalar.addi v15 c0_i32_14
  let v17 : Index := Scalar.indexCast v16
  let c0_15 : Index := 0#32
  ![v17.toNat, 0]
def k0_off2 (k0_t1 : Fin k0_t1_loop.trips) (c0_i32_14 : BitVec 32) : Fin 2 → Nat :=
  let c0_i32 : BitVec 32 := 0#32
  let c1_i32 : BitVec 32 := 1#32
  let arg12 : BitVec 32 := Scf.iv c0_i32 c1_i32 k0_t1
  let c64_i32 : BitVec 32 := 64#32
  let v14 : BitVec 32 := Scalar.muli arg12 c64_i32
  let v15 : BitVec 32 := v14
  let v16 : BitVec 32 := Scalar.addi v15 c0_i32_14
  let v50 : Index := Scalar.indexCast v16
  let c0_25 : Index := 0#32
  ![v50.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnReferenceIdeal.lean ====
abbrev S4096x2048 : Shape := ⟨2, ![4096, 2048]⟩
abbrev S2048x2048 : Shape := ⟨2, ![2048, 2048]⟩
abbrev S1x2048 : Shape := ⟨2, ![1, 2048]⟩
abbrev S8x128 : Shape := ⟨2, ![8, 128]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S8x128, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Mlp.lean ====
/- The squared-relu MLP's backward pass through its second product: the value claim.

   The kernel walks 8 by 4 blocks of the (4096, 8192) result. A block is the product of 1024 rows of the
   cotangent with 1024 rows of the weights, over all 2048 columns, times twice the block of `max(u, 0)`.
   The reference is jax's own gradient of `u ↦ square(relu(u)) · w`: where `u > 0` the same product times twice
   `max(u, 0)`, elsewhere zero. The two agree at every extended real, so the claim has no precondition. -/
module

public import proofs.«01_k».proof.Defs
public import proofs.«01_k».proof.Proof.Gen.MlpKernel.Frame
public import proofs.«01_k».proof.Proof.Gen.MlpKernelIdeal.Value
public import proofs.«01_k».proof.Proof.Gen.MlpReferenceIdeal.Run
public import proofs.«01_k».proof.Proof.Gen.MlpReferenceIdeal.Read
public import Idealize.ShloMosaic.Lib.Pointwise

@[expose] public section

set_option maxRecDepth 16384

noncomputable section

namespace Cert.Proof.Mlp

open Cert.MlpKernelIdeal Cert.MlpKernelIdeal.Gen Cert.MlpKernelIdeal.Value
open Idealize.ShloMosaic Idealize.ShloMosaic.TcCoe Idealize.SL.Sem

/-- The gradient at a position and a hidden channel: the cotangent's row against the weights' row, times twice
    `max(u, 0)`. -/
def G (u : Vec Ideal S4096x8192 .f32) (w : Vec Ideal S8192x2048 .f32) (ct : Vec Ideal S4096x2048 .f32) :
    Vec Ideal S4096x8192 .bf16 := fun i =>
  (∑ k : Fin 2048, ct (ix2 (i 0) k) * w (ix2 (i 1) k)) * (Ideal.ofBits .f32 0x40000000#32 * max (u i) 0)

theorem hz : (![0, 0] : Fin 2 → Nat) = fun _ => 0 := funext fun a => by fin_cases a <;> rfl

/-- What a point leaves in the result's staging buffer: the body's one stored value, of the three blocks. -/
theorem out_eq (c : Dev nD) (i : grid0.Coords) (arg2 : Memref sig .tc .vmem S1024x2048 .bf16) (h2 : arg2.IsWhole)
    (arg3 : Memref sig .tc .vmem S1024x2048 .bf16) (h3 : arg3.IsWhole)
    (arg4 : Memref sig .tc .vmem S1024x1024 .bf16) (h4 : arg4.IsWhole)
    (arg6 : Memref sig .tc .vmem S1024x1024 .bf16) (h6 : arg6.IsWhole)
    (x0 : Vec Ideal S1024x2048 .bf16) (x1 : Vec Ideal S1024x2048 .bf16) (x2 : Vec Ideal S1024x1024 .bf16) :
    out0_A_3 c i arg2 h2 arg3 h3 arg4 h4 arg6 h6 x0 x1 x2 = k0_pay1 x0 x1 x2 := by
  unfold out0_A_3
  rw [View.read_writes_eq_canon _ _ _ (cover0_A_3 c _ _ _ _ _ _ _ _ _ _ _ _)]
  unfold kernelRun0_A
  dsimp only
  rw [View.canon_unit_zero hz]
  simp only [View.readAt_eq_ld, h2.read_unread, h3.read_unread, h4.read_unread, View.ld_unit_zero (S := S1024x2048) hz,
    View.ld_unit_zero (S := S1024x1024) hz]

variable (m : (ℓ : Loc nD τ sig) → Buf (Elt Ideal) ℓ) (ρ : Dev nD → PrngReg)

/-- Where each window's block stands at a grid point. -/
theorem idx_facts : ∀ t : Fin grid0.N,
    win0_0.index t (0 : Fin 2) = t.val % 4 ∧ win0_0.index t (1 : Fin 2) = 0
    ∧ win0_1.index t (0 : Fin 2) = t.val / 4 ∧ win0_1.index t (1 : Fin 2) = 0
    ∧ win0_2.index t (0 : Fin 2) = t.val % 4 ∧ win0_2.index t (1 : Fin 2) = t.val / 4
    ∧ win0_3.index t (0 : Fin 2) = t.val % 4 ∧ win0_3.index t (1 : Fin 2) = t.val / 4 := by
  decide +kernel

theorem t_lt (t : Fin cfg0.N) : t.val < 32 := by
  have h := t.isLt; have hN : cfg0.N = 32 := N_0; omega

/-- Row `a` of a point's block of rows, in the whole array. -/
def row (t : Fin cfg0.N) (a : Fin 1024) : Fin 4096 := ⟨t.val % 4 * 1024 + a.val, by omega⟩
/-- Column `a` of a point's block of hidden channels, in the whole array. -/
def col (t : Fin cfg0.N) (a : Fin 1024) : Fin 8192 := ⟨t.val / 4 * 1024 + a.val, by have := t_lt t; omega⟩

theorem emb0 (t : Fin cfg0.N) (j : S1024x2048.Idx) : ((cfg0.win 0).blk t).view.emb j = ix2 (row t (j 0)) (j 1) := by
  obtain ⟨e0, e1, -⟩ := idx_facts t
  funext a; apply Fin.ext
  match a with
  | ⟨0, _⟩ => show win0_0.index t (0 : Fin 2) * 1024 + 1 * (j 0).val = t.val % 4 * 1024 + (j 0).val; omega
  | ⟨1, _⟩ => show win0_0.index t (1 : Fin 2) * 2048 + 1 * (j 1).val = (j 1).val; omega

theorem emb1 (t : Fin cfg0.N) (j : S1024x2048.Idx) : ((cfg0.win 1).blk t).view.emb j = ix2 (col t (j 0)) (j 1) := by
  obtain ⟨-, -, e0, e1, -⟩ := idx_facts t
  funext a; apply Fin.ext
  match a with
  | ⟨0, _⟩ => show win0_1.index t (0 : Fin 2) * 1024 + 1 * (j 0).val = t.val / 4 * 1024 + (j 0).val; omega
  | ⟨1, _⟩ => show win0_1.index t (1 : Fin 2) * 2048 + 1 * (j 1).val = (j 1).val; omega

theorem emb2 (t : Fin cfg0.N) (j : S1024x1024.Idx) :
    ((cfg0.win 2).blk t).view.emb j = ix2 (row t (j 0)) (col t (j 1)) := by
  obtain ⟨-, -, -, -, e0, e1, -⟩ := idx_facts t
  funext a; apply Fin.ext
  match a with
  | ⟨0, _⟩ => show win0_2.index t (0 : Fin 2) * 1024 + 1 * (j 0).val = t.val % 4 * 1024 + (j 0).val; omega
  | ⟨1, _⟩ => show win0_2.index t (1 : Fin 2) * 1024 + 1 * (j 1).val = t.val / 4 * 1024 + (j 1).val; omega

theorem emb3 (t : Fin cfg0.N) (j : S1024x1024.Idx) :
    ((cfg0.win 3).blk t).view.emb j = ix2 (row t (j 0)) (col t (j 1)) := by
  obtain ⟨-, -, -, -, -, -, e0, e1⟩ := idx_facts t
  funext a; apply Fin.ext
  match a with
  | ⟨0, _⟩ => show win0_3.index t (0 : Fin 2) * 1024 + 1 * (j 0).val = t.val % 4 * 1024 + (j 0).val; omega
  | ⟨1, _⟩ => show win0_3.index t (1 : Fin 2) * 1024 + 1 * (j 1).val = t.val / 4 * 1024 + (j 1).val; omega

/-- The launch's arrays: the pre-activation, the weights and the cotangent. -/
abbrev aU (c : Dev nD) : Vec Ideal S4096x8192 .f32 := m ((c : Thread nD τ).loc main_arg0)
abbrev aW (c : Dev nD) : Vec Ideal S8192x2048 .f32 := m ((c : Thread nD τ).loc main_arg1)
abbrev aCt (c : Dev nD) : Vec Ideal S4096x2048 .f32 := m ((c : Thread nD τ).loc main_arg2)

/-- The three arrays the region stages, as the host code before it leaves them. -/
theorem V_v2 (c : Dev nD) : (V m c main_v2 : Vec Ideal S4096x8192 .bf16) = truncf .bf16 (maximumf (aU m c)
    (broadcastInDim S4096x8192 ![] bcast_S_S4096x8192 (constant (F := Ideal) S_ .f32 0x00000000#32))) bitsLt_bf16_f32 := by
  show StableHlo.after hostOps0 (fun b => m (c, b)) (Proc.devRef .tc main_v2) = _
  after_results

theorem V_v3 (c : Dev nD) : (V m c main_v3 : Vec Ideal S4096x2048 .bf16) = (truncf .bf16 (aCt m c) bitsLt_bf16_f32 : FVec Ideal S4096x2048 .bf16) := by
  show StableHlo.after hostOps0 (fun b => m (c, b)) (Proc.devRef .tc main_v3) = _
  after_results

theorem V_v4 (c : Dev nD) : (V m c main_v4 : Vec Ideal S8192x2048 .bf16) = (truncf .bf16 (aW m c) bitsLt_bf16_f32 : FVec Ideal S8192x2048 .bf16) := by
  show StableHlo.after hostOps0 (fun b => m (c, b)) (Proc.devRef .tc main_v4) = _
  after_results

/-- The result array as the launch's arguments determine it. -/
abbrev val (c : Dev nD) : Buf (Elt Ideal) ((c : Thread nD τ).loc main_v5) :=
  G (aU m c) (aW m c) (aCt m c)

/-- What a point writes back is its block of the gradient. -/
theorem flushed_eq (c : Dev nD) (t : Fin cfg0.N) :
    (dats m 0 c).flushed 3 t = ((cfg0.win 3).blk t).view.read (Elt Ideal) (val m c) := by
  rw [flushed3_A, out_eq]
  have h0 : ∀ j : S1024x2048.Idx, iblk m c 0 t j = aCt m c (ix2 (row t (j 0)) (j 1)) := fun j => by
    show V m c main_v3 (((cfg0.win 0).blk t).view.emb j) = _
    rw [emb0]; exact congrFun (V_v3 m c) _
  have h1 : ∀ j : S1024x2048.Idx, iblk m c 1 t j = aW m c (ix2 (col t (j 0)) (j 1)) := fun j => by
    show V m c main_v4 (((cfg0.win 1).blk t).view.emb j) = _
    rw [emb1]; exact congrFun (V_v4 m c) _
  have h2 : ∀ j : S1024x1024.Idx, iblk m c 2 t j = max (aU m c (ix2 (row t (j 0)) (col t (j 1)))) (0 : EReal) := fun j => by
    show V m c main_v2 (((cfg0.win 2).blk t).view.emb j) = _
    rw [emb2]; refine (congrFun (V_v2 m c) _).trans ?_
    pointwise
  funext j
  show k0_pay1 (iblk m c 0 t) (iblk m c 1 t) (iblk m c 2 t) j = val m c (((cfg0.win 3).blk t).view.emb j)
  rw [emb3]
  generalize iblk m c 0 t = x0 at h0 ⊢
  generalize iblk m c 1 t = x1 at h1 ⊢
  generalize iblk m c 2 t = x2 at h2 ⊢
  pointwise [k0_pay1]
  simp only [G, h0, h1, h2]
  rfl

/-- The blocks tile the result. -/
theorem cover (i : S4096x8192.Idx) :
    ∃ t : Fin cfg0.N, (cfg0.win 3).flush t = true ∧ i ∈ ((cfg0.win 3).blk t).view.set := by
  have i0 : (i 0).val < 4096 := (i 0).isLt
  have i1 : (i 1).val < 8192 := (i 1).isLt
  have hN : cfg0.N = 32 := N_0
  have ht : (i 1).val / 1024 * 4 + (i 0).val / 1024 < cfg0.N := by omega
  refine ⟨⟨_, ht⟩, flush0_3 _, ?_⟩
  have h := ((cfg0.win 3).blk ⟨_, ht⟩).view.emb_mem_set
    (ix2 (⟨(i 0).val % 1024, by omega⟩ : Fin 1024) (⟨(i 1).val % 1024, by omega⟩ : Fin 1024) : S1024x1024.Idx)
  rw [emb3] at h
  refine (Eq.subst (motive := fun x => x ∈ ((cfg0.win 3).blk ⟨_, ht⟩).view.set) ?_ h)
  funext a; apply Fin.ext; symm
  match a with
  | ⟨0, _⟩ => show (i 0).val = ((i 1).val / 1024 * 4 + (i 0).val / 1024) % 4 * 1024 + (i 0).val % 1024; omega
  | ⟨1, _⟩ => show (i 1).val = ((i 1).val / 1024 * 4 + (i 0).val / 1024) / 4 * 1024 + (i 1).val % 1024; omega

theorem final (c : Dev nD) : (dats m 0 c).arrAt 3 cfg0.N = val m c :=
  (dats m 0 c).arrAt_eq_of_cover 3 (val m c) (fun t _ => flushed_eq m c t) cover

open Cert.MlpReferenceIdeal.Value Cert.MlpReferenceIdeal.Read in
/-- The reference's gradient is the same function of the arguments. -/
theorem ref_eq (u : Vec Ideal S4096x8192 .f32) (w : Vec Ideal S8192x2048 .f32) (ct : Vec Ideal S4096x2048 .f32) :
    val_main_v12 u w ct = G u w ct := by
  funext i
  pointwise [val_main_v12, val_main_v11, val_main_v2, val_main_v1, val_main_cst, val_main_v9, val_main_v8, val_main_v6,
    val_main_v5, val_main_cst_1, val_main_v0, val_main_call0_v0, val_main_call0_cst, val_main_v10, val_main_cst_2, G]
  split_ifs with h
  · rfl
  · rw [max_eq_right (not_lt.mp h), mul_zero, mul_zero]

/-! ## The claims -/

theorem frame_k : Cert.quiescent_MlpKernel := fun m ρ _ => Cert.MlpKernel.Gen.frame m ρ
theorem frame_ki : Cert.quiescent_MlpKernelIdeal := fun m ρ _ => Cert.MlpKernelIdeal.Gen.frame m ρ
theorem frame_ri : Cert.quiescent_MlpReferenceIdeal := fun m ρ _ =>
  (θ_run Cert.MlpReferenceIdeal.defs _ _).mono (fun r h => ⟨fun c => (h c).2,
      Idealize.ShloMosaic.sem_eq_zero_of_no_sems (by decide) r.2⟩)
    (Cert.MlpReferenceIdeal.Value.run (F := Ideal) m ρ)

theorem preserves : Cert.preserves_MlpKernel_MlpKernelIdeal := trivial

theorem algebraic : Cert.algebraic_MlpKernelIdeal_MlpReferenceIdeal := by
  intro m ρ m' ρ' _ hagree
  refine ⟨fun c => val m c, ?_, ?_⟩
  · exact (θ_run Cert.MlpKernelIdeal.defs _ _).mono (fun _ h c => ⟨(h c).1.trans (final m c), (h c).2⟩)
      (run_blocks (F := Ideal) m ρ)
  refine (θ_run Cert.MlpReferenceIdeal.defs _ _).mono (fun _ h c => ⟨(h c).1.trans ?_, (h c).2⟩)
    (Cert.MlpReferenceIdeal.Value.run (F := Ideal) m' ρ')
  rw [(hagree c).1, (hagree c).2.1, (hagree c).2.2.1]
  exact (Cert.MlpReferenceIdeal.Read.val_main_v12_eq _ _ _).trans (ref_eq _ _ _)

end Cert.Proof.Mlp

end
-- ==== Proof.W2Sib.lean ====
/- The gradient of the MLP's second weight, the half that goes to the sibling core: frames and value.

   The kernel walks, for each of four chips, two blocks of 1024 columns of the cotangent; each is multiplied,
   over all 4096 rows, with the second half of the chip's columns of the activations. A table of one word, computed by the host, says which half. The
   reference is jax's own gradient of `w ↦ relu(u)² · w`, cut the same way. No precondition. -/
module

public import proofs.«01_k».proof.Defs
public import proofs.«01_k».proof.Proof.Gen.W2SibKernel.Frame
public import proofs.«01_k».proof.Proof.Gen.W2SibKernelIdeal.Frame
public import proofs.«01_k».proof.Proof.Gen.W2SibReferenceIdeal.Run
public import proofs.«01_k».proof.Proof.Gen.W2SibReferenceIdeal.Read
public import Idealize.ShloMosaic.Lib.Pointwise

@[expose] public section

set_option maxRecDepth 16384

noncomputable section

namespace Cert.Proof.W2Sib

open Idealize.ShloMosaic Idealize.ShloMosaic.TcCoe Idealize.SL.Sem
open Idealize.ShloMosaic.Pipeline (Dat)

/-! ## The table, in the kernel as it is run -/

namespace Kern

open Cert.W2SibKernel Cert.W2SibKernel.Gen

section
variable {F : FTy → Type} [FloatOps F] (m : (ℓ : Loc nD τ sig) → Buf (Elt F) ℓ)

/-- The table that the host hands the region holds the number of the half whose rows are taken. -/
theorem V_half (c : Dev nD) : (V m c main_v7 : IVec S1 32) = fun _ => 1#32 := by
  show StableHlo.after hostOps0 (fun b => m (c, b)) (Proc.devRef .tc main_v7) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v7 : IVec S1 32) _ = _
  rw [V_half]

/-- Where the first operand's block stands: the second half of a chip's columns. -/
theorem index_0 (i : grid0.Coords) : cc0_transform_0 inb_S1_S1_0 numel1_S1 (tbl m) i = ![0, (i 0).val * 2 + 1] := by
  unfold cc0_transform_0
  dsimp only
  rw [word]
  revert i
  decide +kernel

theorem ok : Ok m := by
  intro i
  rw [index_0]
  revert i
  decide +kernel
end

end Kern

/-! ## The table, in the idealized kernel -/

open Cert.W2SibKernelIdeal Cert.W2SibKernelIdeal.Gen

section
variable {F : FTy → Type} [FloatOps F] (m : (ℓ : Loc nD τ sig) → Buf (Elt F) ℓ)

/-- The table that the host hands the region holds the number of the half whose rows are taken. -/
theorem V_half (c : Dev nD) : (V m c main_v7 : IVec S1 32) = fun _ => 1#32 := by
  show StableHlo.after hostOps0 (fun b => m (c, b)) (Proc.devRef .tc main_v7) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v7 : IVec S1 32) _ = _
  rw [V_half]

/-- Where the first operand's block stands: the second half of a chip's columns. -/
theorem index_0 (i : grid0.Coords) : cc0_transform_0 inb_S1_S1_0 numel1_S1 (tbl m) i = ![0, (i 0).val * 2 + 1] := by
  unfold cc0_transform_0
  dsimp only
  rw [word]
  revert i
  decide +kernel

theorem ok : Ok m := by
  intro i
  rw [index_0]
  revert i
  decide +kernel
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the product of the two blocks. -/
theorem out_eq (c : Dev nD) (i : grid0.Coords) (arg4 : Memref sig .tc .vmem S4096x1024 .bf16) (h4 : arg4.IsWhole)
    (arg5 : Memref sig .tc .vmem S4096x1024 .bf16) (h5 : arg5.IsWhole)
    (arg7 : Memref sig .tc .vmem S1x1024x1024 .f32) (h7 : arg7.IsWhole) (hc0 : cond0_0 i)
    (x0 : Vec Ideal S4096x1024 .bf16) (x1 : Vec Ideal S4096x1024 .bf16) (xt0 : TbBuf0 (F := Ideal) c tbM0_0) :
    out0_A_2 c i arg4 h4 arg5 h5 arg7 h7 hc0 x0 x1 xt0 = k0_pay2 k0_pay1 x0 x1 := by
  unfold out0_A_2
  rw [View.read_writes_eq_canon _ _ _ (cover0_A_2 c _ _ _ _ _ _ _ _ _ _ _)]
  unfold kernelRun0_A
  dsimp only
  rw [View.canon_cons_unit_zero hz3]
  unfold kernelRun0_A.sl.v3 kernelRun0_A.sl.H2_1
  rw [View.readCov_unit_zero _ hz3]
  simp only [View.readAt_eq_ld, h4.read_unread, h5.read_unread, View.ld_unit_zero (S := S4096x1024) hz]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val % 2
    ∧ (grid0.coords t 0).val = t.val / 2
    ∧ cc0_transform_3 (grid0.coords t) (0 : Fin 3) = t.val / 2 ∧ cc0_transform_3 (grid0.coords t) (1 : Fin 3) = 0
    ∧ cc0_transform_3 (grid0.coords t) (2 : Fin 3) = t.val % 2 := by
  decide +kernel

/-- The pipeline at the table's contents. -/
abbrev cfg := cfgM m (ok m)

theorem N_eq : (cfg m).N = 8 := by
  show grid0.N = 8
  decide

theorem t_lt (t : Fin (cfg m).N) : t.val < 8 := by
  have h := t.isLt; have hN := N_eq m; omega

def col0 (t : Fin (cfg m).N) (a : Fin 1024) : Fin 8192 := ⟨t.val / 2 * 2048 + 1024 + a.val, by have := t_lt m t; omega⟩
def col1 (t : Fin (cfg m).N) (a : Fin 1024) : Fin 2048 := ⟨t.val % 2 * 1024 + a.val, by omega⟩
def chip (t : Fin (cfg m).N) : Fin 4 := ⟨t.val / 2, by have := t_lt m t; omega⟩
def col2 (t : Fin (cfg m).N) (a : Fin 1024) : Fin 2048 := ⟨t.val % 2 * 1024 + a.val, by omega⟩

theorem emb0 (t : Fin (cfg m).N) (j : S4096x1024.Idx) :
    (((cfg m).win 0).blk t).view.emb j = ix2 (j 0) (col0 m t (j 1)) := by
  have e := index_0 m (grid0.coords t)
  have e0 := congrFun e (0 : Fin 2)
  obtain ⟨-, -, f, -⟩ := idx_facts t
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = t.val / 2 * 2048 + 1024 + (j 1).val; rw [e1]; show ((grid0.coords t 0).val * 2 + 1) * 1024 + _ = _; omega

theorem emb1 (t : Fin (cfg m).N) (j : S4096x1024.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 1024 + 1 * (j 1).val = t.val % 2 * 1024 + (j 1).val; omega

theorem emb2 (t : Fin (cfg m).N) (j : S1x1024x1024.Idx) :
    (((cfg m).win 2).blk t).view.emb j = ix3 (chip m t) (j 1) (col2 m t (j 2)) := by
  obtain ⟨-, -, -, e0, e1, e2⟩ := idx_facts t
  funext a; apply Fin.ext
  match a with
  | ⟨0, _⟩ => show cc0_transform_3 (grid0.coords t) (0 : Fin 3) * 1 + 1 * (j 0).val = t.val / 2; have := (j 0).isLt; have : (j 0).val < 1 := this; omega
  | ⟨1, _⟩ => show cc0_transform_3 (grid0.coords t) (1 : Fin 3) * 1024 + 1 * (j 1).val = (j 1).val; omega
  | ⟨2, _⟩ => show cc0_transform_3 (grid0.coords t) (2 : Fin 3) * 1024 + 1 * (j 2).val = t.val % 2 * 1024 + (j 2).val; omega

/-- The launch's arrays: what comes before the activation and the cotangent. -/
abbrev aU (c : Dev nD) : Vec Ideal S4096x8192 .f32 := m ((c : Thread nD τ).loc main_arg0)
abbrev aCt (c : Dev nD) : Vec Ideal S4096x2048 .f32 := m ((c : Thread nD τ).loc main_arg1)

/-- The activation: the square of the positive part. -/
def act (u : Vec Ideal S4096x8192 .f32) (i : S4096x8192.Idx) : Ideal .f32 := max (u i) 0 * max (u i) 0

/-- The gradient's half for the sibling: a chip's shard, a row of its second half, a column of the shard. -/
def G (u : Vec Ideal S4096x8192 .f32) (ct : Vec Ideal S4096x2048 .f32) : Vec Ideal S4x1024x2048 .f32 := fun i =>
  ∑ k : Fin 4096, act u (ix2 k (⟨(i 0).val * 2048 + 1024 + (i 1).val, by
        have : (i 0).val < 4 := (i 0).isLt; have : (i 1).val < 1024 := (i 1).isLt; omega⟩ : Fin 8192))
    * ct (ix2 k (⟨(i 2).val, (i 2).isLt⟩ : Fin 2048))

theorem V_v0 (c : Dev nD) (i : S4096x8192.Idx) : (V m c main_v3 : Vec Ideal S4096x8192 .bf16) i = act (aU m c) i := by
  have e : (V m c main_v3 : Vec Ideal S4096x8192 .bf16) = (truncf .bf16 (mulf
      (maximumf (aU m c) (broadcastInDim S4096x8192 ![] bcast_S_S4096x8192 (constant (F := Ideal) S_ .f32 0x00000000#32)))
      (maximumf (aU m c) (broadcastInDim S4096x8192 ![] bcast_S_S4096x8192 (constant (F := Ideal) S_ .f32 0x00000000#32))))
      bitsLt_bf16_f32 : FVec Ideal S4096x8192 .bf16) := by
    show StableHlo.after hostOps0 (fun b => m (c, b)) (Proc.devRef .tc main_v3) = _
    after_results
  rw [e]
  pointwise [act]

theorem V_v1 (c : Dev nD) : (V m c main_v4 : Vec Ideal S4096x2048 .bf16) = (truncf .bf16 (aCt m c) bitsLt_bf16_f32 : FVec Ideal S4096x2048 .bf16) := by
  show StableHlo.after hostOps0 (fun b => m (c, b)) (Proc.devRef .tc main_v4) = _
  after_results

abbrev val (c : Dev nD) : Buf (Elt Ideal) ((c : Thread nD τ).loc main_v8) := G (aU m c) (aCt m c)

/-- The product of the two blocks, entry by entry. -/
theorem pay_eq (x0 x1 : Vec Ideal S4096x1024 .bf16) (j : S1x1024x1024.Idx) :
    k0_pay2 k0_pay1 x0 x1 j = ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 2 t = (((cfg m).win 2).blk t).view.read (Elt Ideal) (val m c) := by
  show ((cfg m).win 2).cut (grid0.coords t) ((dats m (ok m) 0 c).after 2 t) = _
  rw [after0_2, outsAt0]
  refine Eq.trans (congrArg (((cfg m).win 2).cut (grid0.coords t)) (out_eq c _ _ _ _ _ _ _ _ _ _ _)) ?_
  have h0 : ∀ j : S4096x1024.Idx, iblk m (ok m) c 0 t j = act (aU m c) (ix2 (j 0) (col0 m t (j 1))) := fun j => by
    show V m c main_v3 ((((cfg m).win 0).blk t).view.emb j) = _
    rw [emb0]; exact V_v0 m c _
  have h1 : ∀ j : S4096x1024.Idx, iblk m (ok m) c 1 t j = aCt m c (ix2 (j 0) (col1 m t (j 1))) := fun j => by
    show V m c main_v4 ((((cfg m).win 1).blk t).view.emb j) = _
    rw [emb1]; exact congrFun (V_v1 m c) _
  refine funext fun (j : S1x1024x1024.Idx) => ?_
  refine ((pay_eq (iblk m (ok m) c 0 t) (iblk m (ok m) c 1 t) j).trans ?_).trans (congrArg (val m c) (emb2 m t j)).symm
  refine Finset.sum_congr rfl fun k _ => congrArg₂ (· * ·) (h0 _) (h1 _)

/-- The blocks tile the result. -/
theorem cover (i : S4x1024x2048.Idx) :
    ∃ t : Fin (cfg m).N, ((cfg m).win 2).flush t = true ∧ i ∈ (((cfg m).win 2).blk t).view.set := by
  have i0 : (i 0).val < 4 := (i 0).isLt
  have i2 : (i 2).val < 2048 := (i 2).isLt
  have hN := N_eq m
  have ht : (i 0).val * 2 + (i 2).val / 1024 < (cfg m).N := by omega
  refine ⟨⟨_, ht⟩, flush0_2 _ _, ?_⟩
  have h := (((cfg m).win 2).blk ⟨_, ht⟩).view.emb_mem_set
    (ix3 (0 : Fin 1) (i 1) (⟨(i 2).val % 1024, by omega⟩ : Fin 1024) : S1x1024x1024.Idx)
  rw [emb2] at h
  refine (Eq.subst (motive := fun x => x ∈ (((cfg m).win 2).blk ⟨_, ht⟩).view.set) ?_ h)
  funext a; apply Fin.ext; symm
  match a with
  | ⟨0, _⟩ => show (i 0).val = ((i 0).val * 2 + (i 2).val / 1024) / 2; omega
  | ⟨1, _⟩ => rfl
  | ⟨2, _⟩ => show (i 2).val = ((i 0).val * 2 + (i 2).val / 1024) % 2 * 1024 + (i 2).val % 1024; omega

theorem final (c : Dev nD) : (dats m (ok m) 0 c).arrAt 2 (cfg m).N = val m c :=
  (dats m (ok m) 0 c).arrAt_eq_of_cover 2 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v8) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩)
    (θ_run_and (run_main m ρ (ok m)) (unchanged m ρ (ok m)))

open Cert.W2SibReferenceIdeal.Value Cert.W2SibReferenceIdeal.Read in
/-- The reference's gradient is the same function of the arguments. -/
theorem ref_eq (u : Vec Ideal S4096x8192 .f32) (ct : Vec Ideal S4096x2048 .f32) : val_main_v8 u ct = G u ct := by
  funext i
  pointwise [val_main_v8, val_main_v7, val_main_v6, val_main_v5, val_main_v4, val_main_v3, val_main_v2, val_main_v1, val_main_call0_v0, val_main_call0_cst, G, act]
  exact Finset.sum_congr rfl fun k _ => mul_comm _ _

/-! ## The claims -/

theorem frame_k : Cert.quiescent_W2SibKernel := fun m ρ _ => Cert.W2SibKernel.Gen.frame m ρ (Kern.ok m)
theorem frame_ki : Cert.quiescent_W2SibKernelIdeal := fun m ρ _ => Cert.W2SibKernelIdeal.Gen.frame m ρ (ok m)
theorem frame_ri : Cert.quiescent_W2SibReferenceIdeal := fun m ρ _ =>
  (θ_run Cert.W2SibReferenceIdeal.defs _ _).mono (fun r h => ⟨fun c => (h c).2,
      Idealize.ShloMosaic.sem_eq_zero_of_no_sems (by decide) r.2⟩)
    (Cert.W2SibReferenceIdeal.Value.run (F := Ideal) m ρ)

theorem preserves : Cert.preserves_W2SibKernel_W2SibKernelIdeal := trivial

theorem algebraic : Cert.algebraic_W2SibKernelIdeal_W2SibReferenceIdeal := by
  intro m ρ m' ρ' _ hagree
  refine ⟨fun c => val m c, run m ρ, ?_⟩
  refine (θ_run Cert.W2SibReferenceIdeal.defs _ _).mono (fun _ h c => ⟨(h c).1.trans ?_, (h c).2⟩)
    (Cert.W2SibReferenceIdeal.Value.run (F := Ideal) m' ρ')
  rw [(hagree c).1, (hagree c).2.1]
  exact (Cert.W2SibReferenceIdeal.Read.val_main_v8_eq _ _).trans (ref_eq _ _)

end Cert.Proof.W2Sib

end
-- ==== Proof.W2.lean ====
/- The gradient of the MLP's second weight, the half that a core keeps: frames and value.

   The kernel walks, for each of four chips, two blocks of 1024 columns of the cotangent; each is multiplied,
   over all 4096 rows, with the first half of the chip's columns of the activations, and what the sibling sent is added. A table of one word says which
   half. The reference is jax's own gradient of `w ↦ relu(u)² · w`, cut the same way, plus what came from the sibling. No
   precondition. -/
module

public import proofs.«01_k».proof.Defs
public import proofs.«01_k».proof.Proof.Gen.W2Kernel.Frame
public import proofs.«01_k».proof.Proof.Gen.W2KernelIdeal.Frame
public import proofs.«01_k».proof.Proof.Gen.W2ReferenceIdeal.Run
public import proofs.«01_k».proof.Proof.Gen.W2ReferenceIdeal.Read
public import Idealize.ShloMosaic.Lib.Pointwise

@[expose] public section

set_option maxRecDepth 16384

noncomputable section

namespace Cert.Proof.W2

open Idealize.ShloMosaic Idealize.ShloMosaic.TcCoe Idealize.SL.Sem
open Idealize.ShloMosaic.Pipeline (Dat)

/-! ## The table, in the kernel as it is run -/

namespace Kern

open Cert.W2Kernel Cert.W2Kernel.Gen

section
variable {F : FTy → Type} [FloatOps F] (m : (ℓ : Loc nD τ sig) → Buf (Elt F) ℓ)

/-- The table that the host hands the region holds the number of the half whose rows are taken. -/
theorem V_half (c : Dev nD) : (V m c main_v5 : IVec S1 32) = fun _ => 0#32 := by
  show StableHlo.after hostOps0 (fun b => m (c, b)) (Proc.devRef .tc main_v5) = _
  after_results
  funext y
  simp [constantI, shapeCast]

theorem word : (tbl m).at 0 (Rect.unit (s := S1) ![0] S1.size inb_S1_S1_0) numel1_S1 = (0#32 : BitVec 32) := by
  show (V m 0 main_v5 : IVec S1 32) _ = _
  rw [V_half]

/-- Where the first operand's block stands: the first half of a chip's columns. -/
theorem index_0 (i : grid0.Coords) : cc0_transform_0 inb_S1_S1_0 numel1_S1 (tbl m) i = ![0, (i 0).val * 2 + 0] := by
  unfold cc0_transform_0
  dsimp only
  rw [word]
  revert i
  decide +kernel

theorem ok : Ok m := by
  intro i
  rw [index_0]
  revert i
  decide +kernel
end

end Kern

/-! ## The table, in the idealized kernel -/

open Cert.W2KernelIdeal Cert.W2KernelIdeal.Gen

section
variable {F : FTy → Type} [FloatOps F] (m : (ℓ : Loc nD τ sig) → Buf (Elt F) ℓ)

/-- The table that the host hands the region holds the number of the half whose rows are taken. -/
theorem V_half (c : Dev nD) : (V m c main_v5 : IVec S1 32) = fun _ => 0#32 := by
  show StableHlo.after hostOps0 (fun b => m (c, b)) (Proc.devRef .tc main_v5) = _
  after_results
  funext y
  simp [constantI, shapeCast]

theorem word : (tbl m).at 0 (Rect.unit (s := S1) ![0] S1.size inb_S1_S1_0) numel1_S1 = (0#32 : BitVec 32) := by
  show (V m 0 main_v5 : IVec S1 32) _ = _
  rw [V_half]

/-- Where the first operand's block stands: the first half of a chip's columns. -/
theorem index_0 (i : grid0.Coords) : cc0_transform_0 inb_S1_S1_0 numel1_S1 (tbl m) i = ![0, (i 0).val * 2 + 0] := by
  unfold cc0_transform_0
  dsimp only
  rw [word]
  revert i
  decide +kernel

theorem ok : Ok m := by
  intro i
  rw [index_0]
  revert i
  decide +kernel
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the sibling's block plus the product of the two blocks. -/
theorem out_eq (c : Dev nD) (i : grid0.Coords) (arg4 : Memref sig .tc .vmem S4096x1024 .bf16) (h4 : arg4.IsWhole)
    (arg5 : Memref sig .tc .vmem S4096x1024 .bf16) (h5 : arg5.IsWhole)
    (arg6 : Memref sig .tc .vmem S1x1024x1024 .f32) (h6 : arg6.IsWhole)
    (arg8 : Memref sig .tc .vmem S1x1024x1024 .f32) (h8 : arg8.IsWhole) (hc0 : cond0_0 i)
    (x0 : Vec Ideal S4096x1024 .bf16) (x1 : Vec Ideal S4096x1024 .bf16) (x2 : Vec Ideal S1x1024x1024 .f32) (xt0 : TbBuf0 (F := Ideal) c tbM0_0) :
    out0_A_3 c i arg4 h4 arg5 h5 arg6 h6 arg8 h8 hc0 x0 x1 x2 xt0 = k0_pay2 (k0_pay1 x2) x0 x1 := by
  unfold out0_A_3
  rw [View.read_writes_eq_canon _ _ _ (cover0_A_3 c _ _ _ _ _ _ _ _ _ _ _ _ _ _)]
  unfold kernelRun0_A
  dsimp only
  rw [View.canon_cons_unit_zero hz3]
  unfold kernelRun0_A.sl.v3 kernelRun0_A.sl.H3_1
  rw [View.readCov_unit_zero _ hz3]
  simp only [View.readAt_eq_ld, h4.read_unread, h5.read_unread, h6.read_unread, View.ld_unit_zero (S := S4096x1024) hz,
    View.ld_unit_zero (S := S1x1024x1024) hz3]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val % 2
    ∧ (grid0.coords t 0).val = t.val / 2
    ∧ cc0_transform_4 (grid0.coords t) (0 : Fin 3) = t.val / 2 ∧ cc0_transform_4 (grid0.coords t) (1 : Fin 3) = 0
    ∧ cc0_transform_4 (grid0.coords t) (2 : Fin 3) = t.val % 2 := by
  decide +kernel

/-- The block of what came from the sibling stands where the result's does. -/
theorem idx_facts_2 : ∀ t : Fin grid0.N, cc0_transform_2 (grid0.coords t) = cc0_transform_4 (grid0.coords t) := by
  decide +kernel

/-- The pipeline at the table's contents. -/
abbrev cfg := cfgM m (ok m)

theorem N_eq : (cfg m).N = 8 := by
  show grid0.N = 8
  decide

theorem t_lt (t : Fin (cfg m).N) : t.val < 8 := by
  have h := t.isLt; have hN := N_eq m; omega

def col0 (t : Fin (cfg m).N) (a : Fin 1024) : Fin 8192 := ⟨t.val / 2 * 2048 + a.val, by have := t_lt m t; omega⟩
def col1 (t : Fin (cfg m).N) (a : Fin 1024) : Fin 2048 := ⟨t.val % 2 * 1024 + a.val, by omega⟩
def chip (t : Fin (cfg m).N) : Fin 4 := ⟨t.val / 2, by have := t_lt m t; omega⟩
def col2 (t : Fin (cfg m).N) (a : Fin 1024) : Fin 2048 := ⟨t.val % 2 * 1024 + a.val, by omega⟩

theorem emb0 (t : Fin (cfg m).N) (j : S4096x1024.Idx) :
    (((cfg m).win 0).blk t).view.emb j = ix2 (j 0) (col0 m t (j 1)) := by
  have e := index_0 m (grid0.coords t)
  have e0 := congrFun e (0 : Fin 2)
  obtain ⟨-, -, f, -⟩ := idx_facts t
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = t.val / 2 * 2048 + (j 1).val; rw [e1]; show ((grid0.coords t 0).val * 2 + 0) * 1024 + _ = _; omega

theorem emb1 (t : Fin (cfg m).N) (j : S4096x1024.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 1024 + 1 * (j 1).val = t.val % 2 * 1024 + (j 1).val; omega

theorem emb2 (t : Fin (cfg m).N) (j : S1x1024x1024.Idx) :
    (((cfg m).win 2).blk t).view.emb j = ix3 (chip m t) (j 1) (col2 m t (j 2)) := by
  obtain ⟨-, -, -, f0, f1, f2⟩ := idx_facts t
  have e := idx_facts_2 t
  have e0 := (congrFun e (0 : Fin 3)).trans f0
  have e1 := (congrFun e (1 : Fin 3)).trans f1
  have e2 := (congrFun e (2 : Fin 3)).trans f2
  funext a; apply Fin.ext
  match a with
  | ⟨0, _⟩ => show cc0_transform_2 (grid0.coords t) (0 : Fin 3) * 1 + 1 * (j 0).val = t.val / 2; have := (j 0).isLt; have : (j 0).val < 1 := this; omega
  | ⟨1, _⟩ => show cc0_transform_2 (grid0.coords t) (1 : Fin 3) * 1024 + 1 * (j 1).val = (j 1).val; omega
  | ⟨2, _⟩ => show cc0_transform_2 (grid0.coords t) (2 : Fin 3) * 1024 + 1 * (j 2).val = t.val % 2 * 1024 + (j 2).val; omega

theorem emb3 (t : Fin (cfg m).N) (j : S1x1024x1024.Idx) :
    (((cfg m).win 3).blk t).view.emb j = ix3 (chip m t) (j 1) (col2 m t (j 2)) := by
  obtain ⟨-, -, -, e0, e1, e2⟩ := idx_facts t
  funext a; apply Fin.ext
  match a with
  | ⟨0, _⟩ => show cc0_transform_4 (grid0.coords t) (0 : Fin 3) * 1 + 1 * (j 0).val = t.val / 2; have := (j 0).isLt; have : (j 0).val < 1 := this; omega
  | ⟨1, _⟩ => show cc0_transform_4 (grid0.coords t) (1 : Fin 3) * 1024 + 1 * (j 1).val = (j 1).val; omega
  | ⟨2, _⟩ => show cc0_transform_4 (grid0.coords t) (2 : Fin 3) * 1024 + 1 * (j 2).val = t.val % 2 * 1024 + (j 2).val; omega

/-- The launch's arrays: what comes before the activation, the cotangent and what came from the sibling. -/
abbrev aU (c : Dev nD) : Vec Ideal S4096x8192 .f32 := m ((c : Thread nD τ).loc main_arg0)
abbrev aCt (c : Dev nD) : Vec Ideal S4096x2048 .f32 := m ((c : Thread nD τ).loc main_arg1)
abbrev aSib (c : Dev nD) : Vec Ideal S4x1024x2048 .f32 := m ((c : Thread nD τ).loc main_arg2)

/-- The activation: the square of the positive part. -/
def act (u : Vec Ideal S4096x8192 .f32) (i : S4096x8192.Idx) : Ideal .f32 := max (u i) 0 * max (u i) 0

/-- What came from the sibling, and the kept half of the gradient: a chip's shard, a row of its first half, a column. -/
def G (u : Vec Ideal S4096x8192 .f32) (ct : Vec Ideal S4096x2048 .f32) (s : Vec Ideal S4x1024x2048 .f32) : Vec Ideal S4x1024x2048 .f32 := fun i =>
  s i + ∑ k : Fin 4096, act u (ix2 k (⟨(i 0).val * 2048 + (i 1).val, by
        have : (i 0).val < 4 := (i 0).isLt; have : (i 1).val < 1024 := (i 1).isLt; omega⟩ : Fin 8192))
    * ct (ix2 k (⟨(i 2).val, (i 2).isLt⟩ : Fin 2048))

theorem V_v0 (c : Dev nD) (i : S4096x8192.Idx) : (V m c main_v3 : Vec Ideal S4096x8192 .bf16) i = act (aU m c) i := by
  have e : (V m c main_v3 : Vec Ideal S4096x8192 .bf16) = (truncf .bf16 (mulf
      (maximumf (aU m c) (broadcastInDim S4096x8192 ![] bcast_S_S4096x8192 (constant (F := Ideal) S_ .f32 0x00000000#32)))
      (maximumf (aU m c) (broadcastInDim S4096x8192 ![] bcast_S_S4096x8192 (constant (F := Ideal) S_ .f32 0x00000000#32))))
      bitsLt_bf16_f32 : FVec Ideal S4096x8192 .bf16) := by
    show StableHlo.after hostOps0 (fun b => m (c, b)) (Proc.devRef .tc main_v3) = _
    after_results
  rw [e]
  pointwise [act]

theorem V_v1 (c : Dev nD) : (V m c main_v4 : Vec Ideal S4096x2048 .bf16) = (truncf .bf16 (aCt m c) bitsLt_bf16_f32 : FVec Ideal S4096x2048 .bf16) := by
  show StableHlo.after hostOps0 (fun b => m (c, b)) (Proc.devRef .tc main_v4) = _
  after_results

theorem V_arg2 (c : Dev nD) : (V m c main_arg2 : Vec Ideal S4x1024x2048 .f32) = aSib m c := by
  show StableHlo.after hostOps0 (fun b => m (c, b)) (Proc.devRef .tc main_arg2) = _
  after_results

abbrev val (c : Dev nD) : Buf (Elt Ideal) ((c : Thread nD τ).loc main_v8) := G (aU m c) (aCt m c) (aSib m c)

/-- The sibling's block plus the product, entry by entry. -/
theorem pay_eq (x0 x1 : Vec Ideal S4096x1024 .bf16) (x2 : Vec Ideal S1x1024x1024 .f32) (j : S1x1024x1024.Idx) :
    k0_pay2 (k0_pay1 x2) x0 x1 j = x2 (ix3 (j 0) (j 1) (j 2)) + ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 3 t = (((cfg m).win 3).blk t).view.read (Elt Ideal) (val m c) := by
  show ((cfg m).win 3).cut (grid0.coords t) ((dats m (ok m) 0 c).after 3 t) = _
  rw [after0_3, outsAt0]
  refine Eq.trans (congrArg (((cfg m).win 3).cut (grid0.coords t)) (out_eq c _ _ _ _ _ _ _ _ _ _ _ _ _ _)) ?_
  have h0 : ∀ j : S4096x1024.Idx, iblk m (ok m) c 0 t j = act (aU m c) (ix2 (j 0) (col0 m t (j 1))) := fun j => by
    show V m c main_v3 ((((cfg m).win 0).blk t).view.emb j) = _
    rw [emb0]; exact V_v0 m c _
  have h1 : ∀ j : S4096x1024.Idx, iblk m (ok m) c 1 t j = aCt m c (ix2 (j 0) (col1 m t (j 1))) := fun j => by
    show V m c main_v4 ((((cfg m).win 1).blk t).view.emb j) = _
    rw [emb1]; exact congrFun (V_v1 m c) _
  have h2 : ∀ j : S1x1024x1024.Idx, iblk m (ok m) c 2 t j = aSib m c (ix3 (chip m t) (j 1) (col2 m t (j 2))) := fun j => by
    show V m c main_arg2 ((((cfg m).win 2).blk t).view.emb j) = _
    rw [emb2]; exact congrFun (V_arg2 m c) _
  refine funext fun (j : S1x1024x1024.Idx) => ?_
  refine ((pay_eq (iblk m (ok m) c 0 t) (iblk m (ok m) c 1 t) (iblk m (ok m) c 2 t) j).trans ?_).trans (congrArg (val m c) (emb3 m t j)).symm
  refine congrArg₂ (· + ·) (h2 _) (Finset.sum_congr rfl fun k _ => congrArg₂ (· * ·) (h0 _) (h1 _))

/-- The blocks tile the result. -/
theorem cover (i : S4x1024x2048.Idx) :
    ∃ t : Fin (cfg m).N, ((cfg m).win 3).flush t = true ∧ i ∈ (((cfg m).win 3).blk t).view.set := by
  have i0 : (i 0).val < 4 := (i 0).isLt
  have i2 : (i 2).val < 2048 := (i 2).isLt
  have hN := N_eq m
  have ht : (i 0).val * 2 + (i 2).val / 1024 < (cfg m).N := by omega
  refine ⟨⟨_, ht⟩, flush0_3 _ _, ?_⟩
  have h := (((cfg m).win 3).blk ⟨_, ht⟩).view.emb_mem_set
    (ix3 (0 : Fin 1) (i 1) (⟨(i 2).val % 1024, by omega⟩ : Fin 1024) : S1x1024x1024.Idx)
  rw [emb3] at h
  refine (Eq.subst (motive := fun x => x ∈ (((cfg m).win 3).blk ⟨_, ht⟩).view.set) ?_ h)
  funext a; apply Fin.ext; symm
  match a with
  | ⟨0, _⟩ => show (i 0).val = ((i 0).val * 2 + (i 2).val / 1024) / 2; omega
  | ⟨1, _⟩ => rfl
  | ⟨2, _⟩ => show (i 2).val = ((i 0).val * 2 + (i 2).val / 1024) % 2 * 1024 + (i 2).val % 1024; omega

theorem final (c : Dev nD) : (dats m (ok m) 0 c).arrAt 3 (cfg m).N = val m c :=
  (dats m (ok m) 0 c).arrAt_eq_of_cover 3 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v8) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 3).trans (final m c), h.2 c⟩)
    (θ_run_and (run_main m ρ (ok m)) (unchanged m ρ (ok m)))

open Cert.W2ReferenceIdeal.Value Cert.W2ReferenceIdeal.Read in
/-- The reference's gradient is the same function of the arguments. -/
theorem ref_eq (u : Vec Ideal S4096x8192 .f32) (ct : Vec Ideal S4096x2048 .f32) (s : Vec Ideal S4x1024x2048 .f32) :
    val_main_v9 u ct s = G u ct s := by
  funext i
  pointwise [val_main_v9, val_main_v8, val_main_v7, val_main_v6, val_main_v5, val_main_v2, val_main_v3, val_main_v2, val_main_v1, val_main_call0_v0, val_main_call0_cst, G, act]
  refine congrArg (s i + ·) ?_
  pointwise [val_main_v4, val_main_v3, val_main_v2, val_main_v1, val_main_call0_v0, val_main_call0_cst]
  exact Finset.sum_congr rfl fun k _ => mul_comm _ _

/-! ## The claims -/

theorem frame_k : Cert.quiescent_W2Kernel := fun m ρ _ => Cert.W2Kernel.Gen.frame m ρ (Kern.ok m)
theorem frame_ki : Cert.quiescent_W2KernelIdeal := fun m ρ _ => Cert.W2KernelIdeal.Gen.frame m ρ (ok m)
theorem frame_ri : Cert.quiescent_W2ReferenceIdeal := fun m ρ _ =>
  (θ_run Cert.W2ReferenceIdeal.defs _ _).mono (fun r h => ⟨fun c => (h c).2,
      Idealize.ShloMosaic.sem_eq_zero_of_no_sems (by decide) r.2⟩)
    (Cert.W2ReferenceIdeal.Value.run (F := Ideal) m ρ)

theorem preserves : Cert.preserves_W2Kernel_W2KernelIdeal := trivial

theorem algebraic : Cert.algebraic_W2KernelIdeal_W2ReferenceIdeal := by
  intro m ρ m' ρ' _ hagree
  refine ⟨fun c => val m c, run m ρ, ?_⟩
  refine (θ_run Cert.W2ReferenceIdeal.defs _ _).mono (fun _ h c => ⟨(h c).1.trans ?_, (h c).2⟩)
    (Cert.W2ReferenceIdeal.Value.run (F := Ideal) m' ρ')
  rw [(hagree c).1, (hagree c).2.1, (hagree c).2.2.1]
  exact (Cert.W2ReferenceIdeal.Read.val_main_v9_eq _ _ _).trans (ref_eq _ _ _)

end Cert.Proof.W2

end
-- ==== Proof.W1Sib.lean ====
/- The gradient of the MLP's first weight, the half that goes to the sibling core: frames and value.

   The kernel walks eight blocks of 1024 columns of the cotangent; each is multiplied, over all 4096 rows, with
   the second half of the activations' columns. A table of one word, computed by the host, says which half. The
   reference is jax's own gradient of `w ↦ x · w`, cut the same way. No precondition. -/
module

public import proofs.«01_k».proof.Defs
public import proofs.«01_k».proof.Proof.Gen.W1SibKernel.Frame
public import proofs.«01_k».proof.Proof.Gen.W1SibKernelIdeal.Frame
public import proofs.«01_k».proof.Proof.Gen.W1SibReferenceIdeal.Run
public import proofs.«01_k».proof.Proof.Gen.W1SibReferenceIdeal.Read
public import Idealize.ShloMosaic.Lib.Pointwise

@[expose] public section

set_option maxRecDepth 16384

noncomputable section

namespace Cert.Proof.W1Sib

open Idealize.ShloMosaic Idealize.ShloMosaic.TcCoe Idealize.SL.Sem
open Idealize.ShloMosaic.Pipeline (Dat)

/-! ## The table, in the kernel as it is run -/

namespace Kern

open Cert.W1SibKernel Cert.W1SibKernel.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of its columns. -/
theorem index_0 (i : grid0.Coords) : cc0_transform_0 inb_S1_S1_0 numel1_S1 (tbl m) i = ![0, 1] := by
  unfold cc0_transform_0
  dsimp only
  rw [word]
  revert i
  decide +kernel

theorem ok : Ok m := by
  intro i
  rw [index_0]
  exact ⟨by decide, Or.inr (by decide)⟩
end

end Kern

/-! ## The table, in the idealized kernel -/

open Cert.W1SibKernelIdeal Cert.W1SibKernelIdeal.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of its columns. -/
theorem index_0 (i : grid0.Coords) : cc0_transform_0 inb_S1_S1_0 numel1_S1 (tbl m) i = ![0, 1] := by
  unfold cc0_transform_0
  dsimp only
  rw [word]
  revert i
  decide +kernel

theorem ok : Ok m := by
  intro i
  rw [index_0]
  exact ⟨by decide, Or.inr (by decide)⟩
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the product of the two blocks. -/
theorem out_eq (c : Dev nD) (i : grid0.Coords) (arg4 : Memref sig .tc .vmem S4096x1024 .bf16) (h4 : arg4.IsWhole)
    (arg5 : Memref sig .tc .vmem S4096x1024 .bf16) (h5 : arg5.IsWhole)
    (arg7 : Memref sig .tc .vmem S1x1024x1024 .f32) (h7 : arg7.IsWhole) (hc0 : cond0_0 i)
    (x0 : Vec Ideal S4096x1024 .bf16) (x1 : Vec Ideal S4096x1024 .bf16) (xt0 : TbBuf0 (F := Ideal) c tbM0_0) :
    out0_A_2 c i arg4 h4 arg5 h5 arg7 h7 hc0 x0 x1 xt0 = k0_pay2 k0_pay1 x0 x1 := by
  unfold out0_A_2
  rw [View.read_writes_eq_canon _ _ _ (cover0_A_2 c _ _ _ _ _ _ _ _ _ _ _)]
  unfold kernelRun0_A
  dsimp only
  rw [View.canon_cons_unit_zero hz3]
  unfold kernelRun0_A.sl.v3 kernelRun0_A.sl.H2_1
  rw [View.readCov_unit_zero _ hz3]
  simp only [View.readAt_eq_ld, h4.read_unread, h5.read_unread, View.ld_unit_zero (S := S4096x1024) hz]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val
    ∧ cc0_transform_3 (grid0.coords t) (0 : Fin 3) = t.val / 2 ∧ cc0_transform_3 (grid0.coords t) (1 : Fin 3) = 0
    ∧ cc0_transform_3 (grid0.coords t) (2 : Fin 3) = t.val % 2 := by
  decide +kernel

/-- The pipeline at the table's contents. -/
abbrev cfg := cfgM m (ok m)

theorem N_eq : (cfg m).N = 8 := by
  show grid0.N = 8
  decide

theorem t_lt (t : Fin (cfg m).N) : t.val < 8 := by
  have h := t.isLt; have hN := N_eq m; omega

def col0 (a : Fin 1024) : Fin 2048 := ⟨1024 + a.val, by omega⟩
def col1 (t : Fin (cfg m).N) (a : Fin 1024) : Fin 8192 := ⟨t.val * 1024 + a.val, by have := t_lt m t; omega⟩
def chip (t : Fin (cfg m).N) : Fin 4 := ⟨t.val / 2, by have := t_lt m t; omega⟩
def col2 (t : Fin (cfg m).N) (a : Fin 1024) : Fin 2048 := ⟨t.val % 2 * 1024 + a.val, by omega⟩

theorem emb0 (t : Fin (cfg m).N) (j : S4096x1024.Idx) :
    (((cfg m).win 0).blk t).view.emb j = ix2 (j 0) (col0 (j 1)) := by
  have e := index_0 m (grid0.coords t)
  have e0 := congrFun e (0 : Fin 2)
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = 1024 + (j 1).val; rw [e1]; show 1 * 1024 + _ = _; omega

theorem emb1 (t : Fin (cfg m).N) (j : S4096x1024.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 1024 + 1 * (j 1).val = t.val * 1024 + (j 1).val; omega

theorem emb2 (t : Fin (cfg m).N) (j : S1x1024x1024.Idx) :
    (((cfg m).win 2).blk t).view.emb j = ix3 (chip m t) (j 1) (col2 m t (j 2)) := by
  obtain ⟨-, -, e0, e1, e2⟩ := idx_facts t
  funext a; apply Fin.ext
  match a with
  | ⟨0, _⟩ => show cc0_transform_3 (grid0.coords t) (0 : Fin 3) * 1 + 1 * (j 0).val = t.val / 2; have := (j 0).isLt; have : (j 0).val < 1 := this; omega
  | ⟨1, _⟩ => show cc0_transform_3 (grid0.coords t) (1 : Fin 3) * 1024 + 1 * (j 1).val = (j 1).val; omega
  | ⟨2, _⟩ => show cc0_transform_3 (grid0.coords t) (2 : Fin 3) * 1024 + 1 * (j 2).val = t.val % 2 * 1024 + (j 2).val; omega

/-- The launch's arrays: the activations and the cotangent. -/
abbrev aX (c : Dev nD) : Vec Ideal S4096x2048 .f32 := m ((c : Thread nD τ).loc main_arg0)
abbrev aCt (c : Dev nD) : Vec Ideal S4096x8192 .f32 := m ((c : Thread nD τ).loc main_arg1)

/-- The gradient's half for the sibling: a chip's shard, a row of its second half, a column of the shard. -/
def G (x : Vec Ideal S4096x2048 .f32) (ct : Vec Ideal S4096x8192 .f32) : Vec Ideal S4x1024x2048 .f32 := fun i =>
  ∑ k : Fin 4096, x (ix2 k (⟨1024 + (i 1).val, by have : (i 1).val < 1024 := (i 1).isLt; omega⟩ : Fin 2048))
    * ct (ix2 k (⟨(i 0).val * 2048 + (i 2).val, by
        have : (i 0).val < 4 := (i 0).isLt; have : (i 2).val < 2048 := (i 2).isLt; omega⟩ : Fin 8192))

theorem V_v0 (c : Dev nD) : (V m c main_v0 : Vec Ideal S4096x2048 .bf16) = (truncf .bf16 (aX m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x8192 .bf16) = (truncf .bf16 (aCt m c) bitsLt_bf16_f32 : FVec Ideal S4096x8192 .bf16) := by
  show StableHlo.after hostOps0 (fun b => m (c, b)) (Proc.devRef .tc main_v1) = _
  after_results

abbrev val (c : Dev nD) : Buf (Elt Ideal) ((c : Thread nD τ).loc main_v5) := G (aX m c) (aCt m c)

/-- The product of the two blocks, entry by entry. -/
theorem pay_eq (x0 x1 : Vec Ideal S4096x1024 .bf16) (j : S1x1024x1024.Idx) :
    k0_pay2 k0_pay1 x0 x1 j = ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 2 t = (((cfg m).win 2).blk t).view.read (Elt Ideal) (val m c) := by
  show ((cfg m).win 2).cut (grid0.coords t) ((dats m (ok m) 0 c).after 2 t) = _
  rw [after0_2, outsAt0]
  refine Eq.trans (congrArg (((cfg m).win 2).cut (grid0.coords t)) (out_eq c _ _ _ _ _ _ _ _ _ _ _)) ?_
  have h0 : ∀ j : S4096x1024.Idx, iblk m (ok m) c 0 t j = aX m c (ix2 (j 0) (col0 (j 1))) := fun j => by
    show V m c main_v0 ((((cfg m).win 0).blk t).view.emb j) = _
    rw [emb0]; exact congrFun (V_v0 m c) _
  have h1 : ∀ j : S4096x1024.Idx, iblk m (ok m) c 1 t j = aCt m c (ix2 (j 0) (col1 m t (j 1))) := fun j => by
    show V m c main_v1 ((((cfg m).win 1).blk t).view.emb j) = _
    rw [emb1]; exact congrFun (V_v1 m c) _
  refine funext fun (j : S1x1024x1024.Idx) => ?_
  refine ((pay_eq (iblk m (ok m) c 0 t) (iblk m (ok m) c 1 t) j).trans ?_).trans (congrArg (val m c) (emb2 m t j)).symm
  refine Finset.sum_congr rfl fun k _ => congrArg₂ (· * ·) (h0 _)
    ((h1 _).trans (congrArg (aCt m c) (congrArg (ix2 k) (Fin.ext ?_))))
  show t.val * 1024 + (j 2).val = t.val / 2 * 2048 + (t.val % 2 * 1024 + (j 2).val)
  omega

/-- The blocks tile the result. -/
theorem cover (i : S4x1024x2048.Idx) :
    ∃ t : Fin (cfg m).N, ((cfg m).win 2).flush t = true ∧ i ∈ (((cfg m).win 2).blk t).view.set := by
  have i0 : (i 0).val < 4 := (i 0).isLt
  have i2 : (i 2).val < 2048 := (i 2).isLt
  have hN := N_eq m
  have ht : (i 0).val * 2 + (i 2).val / 1024 < (cfg m).N := by omega
  refine ⟨⟨_, ht⟩, flush0_2 _ _, ?_⟩
  have h := (((cfg m).win 2).blk ⟨_, ht⟩).view.emb_mem_set
    (ix3 (0 : Fin 1) (i 1) (⟨(i 2).val % 1024, by omega⟩ : Fin 1024) : S1x1024x1024.Idx)
  rw [emb2] at h
  refine (Eq.subst (motive := fun x => x ∈ (((cfg m).win 2).blk ⟨_, ht⟩).view.set) ?_ h)
  funext a; apply Fin.ext; symm
  match a with
  | ⟨0, _⟩ => show (i 0).val = ((i 0).val * 2 + (i 2).val / 1024) / 2; omega
  | ⟨1, _⟩ => rfl
  | ⟨2, _⟩ => show (i 2).val = ((i 0).val * 2 + (i 2).val / 1024) % 2 * 1024 + (i 2).val % 1024; omega

theorem final (c : Dev nD) : (dats m (ok m) 0 c).arrAt 2 (cfg m).N = val m c :=
  (dats m (ok m) 0 c).arrAt_eq_of_cover 2 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩)
    (θ_run_and (run_main m ρ (ok m)) (unchanged m ρ (ok m)))

open Cert.W1SibReferenceIdeal.Value Cert.W1SibReferenceIdeal.Read in
/-- The reference's gradient is the same function of the arguments. -/
theorem ref_eq (x : Vec Ideal S4096x2048 .f32) (ct : Vec Ideal S4096x8192 .f32) : val_main_v7 x ct = G x ct := by
  funext i
  pointwise [val_main_v7, val_main_v6, val_main_v5, val_main_v4, val_main_v3, val_main_v2, G]
  exact Finset.sum_congr rfl fun k _ => mul_comm _ _

/-! ## The claims -/

theorem frame_k : Cert.quiescent_W1SibKernel := fun m ρ _ => Cert.W1SibKernel.Gen.frame m ρ (Kern.ok m)
theorem frame_ki : Cert.quiescent_W1SibKernelIdeal := fun m ρ _ => Cert.W1SibKernelIdeal.Gen.frame m ρ (ok m)
theorem frame_ri : Cert.quiescent_W1SibReferenceIdeal := fun m ρ _ =>
  (θ_run Cert.W1SibReferenceIdeal.defs _ _).mono (fun r h => ⟨fun c => (h c).2,
      Idealize.ShloMosaic.sem_eq_zero_of_no_sems (by decide) r.2⟩)
    (Cert.W1SibReferenceIdeal.Value.run (F := Ideal) m ρ)

theorem preserves : Cert.preserves_W1SibKernel_W1SibKernelIdeal := trivial

theorem algebraic : Cert.algebraic_W1SibKernelIdeal_W1SibReferenceIdeal := by
  intro m ρ m' ρ' _ hagree
  refine ⟨fun c => val m c, run m ρ, ?_⟩
  refine (θ_run Cert.W1SibReferenceIdeal.defs _ _).mono (fun _ h c => ⟨(h c).1.trans ?_, (h c).2⟩)
    (Cert.W1SibReferenceIdeal.Value.run (F := Ideal) m' ρ')
  rw [(hagree c).1, (hagree c).2.1]
  exact (Cert.W1SibReferenceIdeal.Read.val_main_v7_eq _ _).trans (ref_eq _ _)

end Cert.Proof.W1Sib

end
-- ==== Proof.W1.lean ====
/- The gradient of the MLP's first weight, the half that a core keeps: frames and value.

   The kernel walks eight blocks of 1024 columns of the cotangent; each is multiplied, over all 4096 rows, with
   the first half of the activations' columns, and what the sibling sent is added. A table of one word says which
   half. The reference is jax's own gradient of `w ↦ x · w`, cut the same way, plus what came from the sibling. No
   precondition. -/
module

public import proofs.«01_k».proof.Defs
public import proofs.«01_k».proof.Proof.Gen.W1Kernel.Frame
public import proofs.«01_k».proof.Proof.Gen.W1KernelIdeal.Frame
public import proofs.«01_k».proof.Proof.Gen.W1ReferenceIdeal.Run
public import proofs.«01_k».proof.Proof.Gen.W1ReferenceIdeal.Read
public import Idealize.ShloMosaic.Lib.Pointwise

@[expose] public section

set_option maxRecDepth 16384

noncomputable section

namespace Cert.Proof.W1

open Idealize.ShloMosaic Idealize.ShloMosaic.TcCoe Idealize.SL.Sem
open Idealize.ShloMosaic.Pipeline (Dat)

/-! ## The table, in the kernel as it is run -/

namespace Kern

open Cert.W1Kernel Cert.W1Kernel.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of its columns. -/
theorem index_0 (i : grid0.Coords) : cc0_transform_0 inb_S1_S1_0 numel1_S1 (tbl m) i = ![0, 0] := by
  unfold cc0_transform_0
  dsimp only
  rw [word]
  revert i
  decide +kernel

theorem ok : Ok m := by
  intro i
  rw [index_0]
  exact ⟨by decide, Or.inr (by decide)⟩
end

end Kern

/-! ## The table, in the idealized kernel -/

open Cert.W1KernelIdeal Cert.W1KernelIdeal.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of its columns. -/
theorem index_0 (i : grid0.Coords) : cc0_transform_0 inb_S1_S1_0 numel1_S1 (tbl m) i = ![0, 0] := by
  unfold cc0_transform_0
  dsimp only
  rw [word]
  revert i
  decide +kernel

theorem ok : Ok m := by
  intro i
  rw [index_0]
  exact ⟨by decide, Or.inr (by decide)⟩
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the sibling's block plus the product of the two blocks. -/
theorem out_eq (c : Dev nD) (i : grid0.Coords) (arg4 : Memref sig .tc .vmem S4096x1024 .bf16) (h4 : arg4.IsWhole)
    (arg5 : Memref sig .tc .vmem S4096x1024 .bf16) (h5 : arg5.IsWhole)
    (arg6 : Memref sig .tc .vmem S1x1024x1024 .f32) (h6 : arg6.IsWhole)
    (arg8 : Memref sig .tc .vmem S1x1024x1024 .f32) (h8 : arg8.IsWhole) (hc0 : cond0_0 i)
    (x0 : Vec Ideal S4096x1024 .bf16) (x1 : Vec Ideal S4096x1024 .bf16) (x2 : Vec Ideal S1x1024x1024 .f32) (xt0 : TbBuf0 (F := Ideal) c tbM0_0) :
    out0_A_3 c i arg4 h4 arg5 h5 arg6 h6 arg8 h8 hc0 x0 x1 x2 xt0 = k0_pay2 (k0_pay1 x2) x0 x1 := by
  unfold out0_A_3
  rw [View.read_writes_eq_canon _ _ _ (cover0_A_3 c _ _ _ _ _ _ _ _ _ _ _ _ _ _)]
  unfold kernelRun0_A
  dsimp only
  rw [View.canon_cons_unit_zero hz3]
  unfold kernelRun0_A.sl.v3 kernelRun0_A.sl.H3_1
  rw [View.readCov_unit_zero _ hz3]
  simp only [View.readAt_eq_ld, h4.read_unread, h5.read_unread, h6.read_unread, View.ld_unit_zero (S := S4096x1024) hz,
    View.ld_unit_zero (S := S1x1024x1024) hz3]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val
    ∧ cc0_transform_4 (grid0.coords t) (0 : Fin 3) = t.val / 2 ∧ cc0_transform_4 (grid0.coords t) (1 : Fin 3) = 0
    ∧ cc0_transform_4 (grid0.coords t) (2 : Fin 3) = t.val % 2 := by
  decide +kernel

/-- The block of what came from the sibling stands where the result's does. -/
theorem idx_facts_2 : ∀ t : Fin grid0.N, cc0_transform_2 (grid0.coords t) = cc0_transform_4 (grid0.coords t) := by
  decide +kernel

/-- The pipeline at the table's contents. -/
abbrev cfg := cfgM m (ok m)

theorem N_eq : (cfg m).N = 8 := by
  show grid0.N = 8
  decide

theorem t_lt (t : Fin (cfg m).N) : t.val < 8 := by
  have h := t.isLt; have hN := N_eq m; omega

def col0 (a : Fin 1024) : Fin 2048 := ⟨a.val, by omega⟩
def col1 (t : Fin (cfg m).N) (a : Fin 1024) : Fin 8192 := ⟨t.val * 1024 + a.val, by have := t_lt m t; omega⟩
def chip (t : Fin (cfg m).N) : Fin 4 := ⟨t.val / 2, by have := t_lt m t; omega⟩
def col2 (t : Fin (cfg m).N) (a : Fin 1024) : Fin 2048 := ⟨t.val % 2 * 1024 + a.val, by omega⟩

theorem emb0 (t : Fin (cfg m).N) (j : S4096x1024.Idx) :
    (((cfg m).win 0).blk t).view.emb j = ix2 (j 0) (col0 (j 1)) := by
  have e := index_0 m (grid0.coords t)
  have e0 := congrFun e (0 : Fin 2)
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = (j 1).val; rw [e1]; show 0 * 1024 + _ = _; omega

theorem emb1 (t : Fin (cfg m).N) (j : S4096x1024.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 1024 + 1 * (j 1).val = t.val * 1024 + (j 1).val; omega

theorem emb2 (t : Fin (cfg m).N) (j : S1x1024x1024.Idx) :
    (((cfg m).win 2).blk t).view.emb j = ix3 (chip m t) (j 1) (col2 m t (j 2)) := by
  obtain ⟨-, -, f0, f1, f2⟩ := idx_facts t
  have e := idx_facts_2 t
  have e0 := (congrFun e (0 : Fin 3)).trans f0
  have e1 := (congrFun e (1 : Fin 3)).trans f1
  have e2 := (congrFun e (2 : Fin 3)).trans f2
  funext a; apply Fin.ext
  match a with
  | ⟨0, _⟩ => show cc0_transform_2 (grid0.coords t) (0 : Fin 3) * 1 + 1 * (j 0).val = t.val / 2; have := (j 0).isLt; have : (j 0).val < 1 := this; omega
  | ⟨1, _⟩ => show cc0_transform_2 (grid0.coords t) (1 : Fin 3) * 1024 + 1 * (j 1).val = (j 1).val; omega
  | ⟨2, _⟩ => show cc0_transform_2 (grid0.coords t) (2 : Fin 3) * 1024 + 1 * (j 2).val = t.val % 2 * 1024 + (j 2).val; omega

theorem emb3 (t : Fin (cfg m).N) (j : S1x1024x1024.Idx) :
    (((cfg m).win 3).blk t).view.emb j = ix3 (chip m t) (j 1) (col2 m t (j 2)) := by
  obtain ⟨-, -, e0, e1, e2⟩ := idx_facts t
  funext a; apply Fin.ext
  match a with
  | ⟨0, _⟩ => show cc0_transform_4 (grid0.coords t) (0 : Fin 3) * 1 + 1 * (j 0).val = t.val / 2; have := (j 0).isLt; have : (j 0).val < 1 := this; omega
  | ⟨1, _⟩ => show cc0_transform_4 (grid0.coords t) (1 : Fin 3) * 1024 + 1 * (j 1).val = (j 1).val; omega
  | ⟨2, _⟩ => show cc0_transform_4 (grid0.coords t) (2 : Fin 3) * 1024 + 1 * (j 2).val = t.val % 2 * 1024 + (j 2).val; omega

/-- The launch's arrays: the activations, the cotangent and what came from the sibling. -/
abbrev aX (c : Dev nD) : Vec Ideal S4096x2048 .f32 := m ((c : Thread nD τ).loc main_arg0)
abbrev aCt (c : Dev nD) : Vec Ideal S4096x8192 .f32 := m ((c : Thread nD τ).loc main_arg1)
abbrev aSib (c : Dev nD) : Vec Ideal S4x1024x2048 .f32 := m ((c : Thread nD τ).loc main_arg2)

/-- What came from the sibling, and the kept half of the gradient: a chip's shard, a row of its first half, a column. -/
def G (x : Vec Ideal S4096x2048 .f32) (ct : Vec Ideal S4096x8192 .f32) (s : Vec Ideal S4x1024x2048 .f32) : Vec Ideal S4x1024x2048 .f32 := fun i =>
  s i + ∑ k : Fin 4096, x (ix2 k (⟨(i 1).val, by have : (i 1).val < 1024 := (i 1).isLt; omega⟩ : Fin 2048))
    * ct (ix2 k (⟨(i 0).val * 2048 + (i 2).val, by
        have : (i 0).val < 4 := (i 0).isLt; have : (i 2).val < 2048 := (i 2).isLt; omega⟩ : Fin 8192))

theorem V_v0 (c : Dev nD) : (V m c main_v0 : Vec Ideal S4096x2048 .bf16) = (truncf .bf16 (aX m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x8192 .bf16) = (truncf .bf16 (aCt m c) bitsLt_bf16_f32 : FVec Ideal S4096x8192 .bf16) := by
  show StableHlo.after hostOps0 (fun b => m (c, b)) (Proc.devRef .tc main_v1) = _
  after_results

theorem V_arg2 (c : Dev nD) : (V m c main_arg2 : Vec Ideal S4x1024x2048 .f32) = aSib m c := by
  show StableHlo.after hostOps0 (fun b => m (c, b)) (Proc.devRef .tc main_arg2) = _
  after_results

abbrev val (c : Dev nD) : Buf (Elt Ideal) ((c : Thread nD τ).loc main_v5) := G (aX m c) (aCt m c) (aSib m c)

/-- The sibling's block plus the product, entry by entry. -/
theorem pay_eq (x0 x1 : Vec Ideal S4096x1024 .bf16) (x2 : Vec Ideal S1x1024x1024 .f32) (j : S1x1024x1024.Idx) :
    k0_pay2 (k0_pay1 x2) x0 x1 j = x2 (ix3 (j 0) (j 1) (j 2)) + ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 3 t = (((cfg m).win 3).blk t).view.read (Elt Ideal) (val m c) := by
  show ((cfg m).win 3).cut (grid0.coords t) ((dats m (ok m) 0 c).after 3 t) = _
  rw [after0_3, outsAt0]
  refine Eq.trans (congrArg (((cfg m).win 3).cut (grid0.coords t)) (out_eq c _ _ _ _ _ _ _ _ _ _ _ _ _ _)) ?_
  have h0 : ∀ j : S4096x1024.Idx, iblk m (ok m) c 0 t j = aX m c (ix2 (j 0) (col0 (j 1))) := fun j => by
    show V m c main_v0 ((((cfg m).win 0).blk t).view.emb j) = _
    rw [emb0]; exact congrFun (V_v0 m c) _
  have h1 : ∀ j : S4096x1024.Idx, iblk m (ok m) c 1 t j = aCt m c (ix2 (j 0) (col1 m t (j 1))) := fun j => by
    show V m c main_v1 ((((cfg m).win 1).blk t).view.emb j) = _
    rw [emb1]; exact congrFun (V_v1 m c) _
  have h2 : ∀ j : S1x1024x1024.Idx, iblk m (ok m) c 2 t j = aSib m c (ix3 (chip m t) (j 1) (col2 m t (j 2))) := fun j => by
    show V m c main_arg2 ((((cfg m).win 2).blk t).view.emb j) = _
    rw [emb2]; exact congrFun (V_arg2 m c) _
  refine funext fun (j : S1x1024x1024.Idx) => ?_
  refine ((pay_eq (iblk m (ok m) c 0 t) (iblk m (ok m) c 1 t) (iblk m (ok m) c 2 t) j).trans ?_).trans (congrArg (val m c) (emb3 m t j)).symm
  refine congrArg₂ (· + ·) (h2 _) (Finset.sum_congr rfl fun k _ => congrArg₂ (· * ·) (h0 _)
    ((h1 _).trans (congrArg (aCt m c) (congrArg (ix2 k) (Fin.ext ?_)))))
  show t.val * 1024 + (j 2).val = t.val / 2 * 2048 + (t.val % 2 * 1024 + (j 2).val)
  omega

/-- The blocks tile the result. -/
theorem cover (i : S4x1024x2048.Idx) :
    ∃ t : Fin (cfg m).N, ((cfg m).win 3).flush t = true ∧ i ∈ (((cfg m).win 3).blk t).view.set := by
  have i0 : (i 0).val < 4 := (i 0).isLt
  have i2 : (i 2).val < 2048 := (i 2).isLt
  have hN := N_eq m
  have ht : (i 0).val * 2 + (i 2).val / 1024 < (cfg m).N := by omega
  refine ⟨⟨_, ht⟩, flush0_3 _ _, ?_⟩
  have h := (((cfg m).win 3).blk ⟨_, ht⟩).view.emb_mem_set
    (ix3 (0 : Fin 1) (i 1) (⟨(i 2).val % 1024, by omega⟩ : Fin 1024) : S1x1024x1024.Idx)
  rw [emb3] at h
  refine (Eq.subst (motive := fun x => x ∈ (((cfg m).win 3).blk ⟨_, ht⟩).view.set) ?_ h)
  funext a; apply Fin.ext; symm
  match a with
  | ⟨0, _⟩ => show (i 0).val = ((i 0).val * 2 + (i 2).val / 1024) / 2; omega
  | ⟨1, _⟩ => rfl
  | ⟨2, _⟩ => show (i 2).val = ((i 0).val * 2 + (i 2).val / 1024) % 2 * 1024 + (i 2).val % 1024; omega

theorem final (c : Dev nD) : (dats m (ok m) 0 c).arrAt 3 (cfg m).N = val m c :=
  (dats m (ok m) 0 c).arrAt_eq_of_cover 3 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 3).trans (final m c), h.2 c⟩)
    (θ_run_and (run_main m ρ (ok m)) (unchanged m ρ (ok m)))

open Cert.W1ReferenceIdeal.Value Cert.W1ReferenceIdeal.Read in
/-- The reference's gradient is the same function of the arguments. -/
theorem ref_eq (x : Vec Ideal S4096x2048 .f32) (ct : Vec Ideal S4096x8192 .f32) (s : Vec Ideal S4x1024x2048 .f32) :
    val_main_v8 x ct s = G x ct s := by
  funext i
  pointwise [val_main_v8, val_main_v7, val_main_v6, val_main_v5, val_main_v2, val_main_v3, val_main_v2, G]
  refine congrArg (s i + ·) ?_
  pointwise [val_main_v4, val_main_v3, val_main_v2]
  exact Finset.sum_congr rfl fun k _ => mul_comm _ _

/-! ## The claims -/

theorem frame_k : Cert.quiescent_W1Kernel := fun m ρ _ => Cert.W1Kernel.Gen.frame m ρ (Kern.ok m)
theorem frame_ki : Cert.quiescent_W1KernelIdeal := fun m ρ _ => Cert.W1KernelIdeal.Gen.frame m ρ (ok m)
theorem frame_ri : Cert.quiescent_W1ReferenceIdeal := fun m ρ _ =>
  (θ_run Cert.W1ReferenceIdeal.defs _ _).mono (fun r h => ⟨fun c => (h c).2,
      Idealize.ShloMosaic.sem_eq_zero_of_no_sems (by decide) r.2⟩)
    (Cert.W1ReferenceIdeal.Value.run (F := Ideal) m ρ)

theorem preserves : Cert.preserves_W1Kernel_W1KernelIdeal := trivial

theorem algebraic : Cert.algebraic_W1KernelIdeal_W1ReferenceIdeal := by
  intro m ρ m' ρ' _ hagree
  refine ⟨fun c => val m c, run m ρ, ?_⟩
  refine (θ_run Cert.W1ReferenceIdeal.defs _ _).mono (fun _ h c => ⟨(h c).1.trans ?_, (h c).2⟩)
    (Cert.W1ReferenceIdeal.Value.run (F := Ideal) m' ρ')
  rw [(hagree c).1, (hagree c).2.1, (hagree c).2.2.1]
  exact (Cert.W1ReferenceIdeal.Read.val_main_v8_eq _ _ _).trans (ref_eq _ _ _)

end Cert.Proof.W1

end
-- ==== Proof.WOutSib.lean ====
/- The gradient of the mixer's output projection, the half that goes to the sibling core: frames and value.

   The kernel walks the four chips; the cotangent is multiplied, over all 4096 rows, with the second half of the
   chip's columns of the mixer's output. A table of one word says which half. The reference is
   jax's own gradient of `w ↦ y · w`, cut the same way. No precondition. -/
module

public import proofs.«01_k».proof.Defs
public import proofs.«01_k».proof.Proof.Gen.WOutSibKernel.Frame
public import proofs.«01_k».proof.Proof.Gen.WOutSibKernelIdeal.Frame
public import proofs.«01_k».proof.Proof.Gen.WOutSibReferenceIdeal.Run
public import proofs.«01_k».proof.Proof.Gen.WOutSibReferenceIdeal.Read
public import Idealize.ShloMosaic.Lib.Pointwise

@[expose] public section

set_option maxRecDepth 16384

noncomputable section

namespace Cert.Proof.WOutSib

open Idealize.ShloMosaic Idealize.ShloMosaic.TcCoe Idealize.SL.Sem
open Idealize.ShloMosaic.Pipeline (Dat)

/-! ## The table, in the kernel as it is run -/

namespace Kern

open Cert.WOutSibKernel Cert.WOutSibKernel.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of a chip's columns. -/
theorem index_0 (i : grid0.Coords) : cc0_transform_0 inb_S1_S1_0 numel1_S1 (tbl m) i = ![0, (i 0).val * 2 + 1] := by
  unfold cc0_transform_0
  dsimp only
  rw [word]
  revert i
  decide +kernel

theorem ok : Ok m := by
  intro i
  rw [index_0]
  revert i
  decide +kernel
end

end Kern

/-! ## The table, in the idealized kernel -/

open Cert.WOutSibKernelIdeal Cert.WOutSibKernelIdeal.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of a chip's columns. -/
theorem index_0 (i : grid0.Coords) : cc0_transform_0 inb_S1_S1_0 numel1_S1 (tbl m) i = ![0, (i 0).val * 2 + 1] := by
  unfold cc0_transform_0
  dsimp only
  rw [word]
  revert i
  decide +kernel

theorem ok : Ok m := by
  intro i
  rw [index_0]
  revert i
  decide +kernel
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the product of the two blocks. -/
theorem out_eq (c : Dev nD) (i : grid0.Coords) (arg4 : Memref sig .tc .vmem S4096x256 .bf16) (h4 : arg4.IsWhole)
    (arg5 : Memref sig .tc .vmem S4096x2048 .bf16) (h5 : arg5.IsWhole)
    (arg7 : Memref sig .tc .vmem S1x256x2048 .f32) (h7 : arg7.IsWhole) (hc0 : cond0_0 i)
    (x0 : Vec Ideal S4096x256 .bf16) (x1 : Vec Ideal S4096x2048 .bf16) (xt0 : TbBuf0 (F := Ideal) c tbM0_0) :
    out0_A_2 c i arg4 h4 arg5 h5 arg7 h7 hc0 x0 x1 xt0 = k0_pay2 k0_pay1 x0 x1 := by
  unfold out0_A_2
  rw [View.read_writes_eq_canon _ _ _ (cover0_A_2 c _ _ _ _ _ _ _ _ _ _ _)]
  unfold kernelRun0_A
  dsimp only
  rw [View.canon_cons_unit_zero hz3]
  unfold kernelRun0_A.sl.v3 kernelRun0_A.sl.H2_1
  rw [View.readCov_unit_zero _ hz3]
  simp only [View.readAt_eq_ld, h4.read_unread, h5.read_unread, View.ld_unit_zero (S := S4096x256) hz, View.ld_unit_zero (S := S4096x2048) hz]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = 0
    ∧ (grid0.coords t 0).val = t.val
    ∧ cc0_transform_3 (grid0.coords t) (0 : Fin 3) = t.val ∧ cc0_transform_3 (grid0.coords t) (1 : Fin 3) = 0
    ∧ cc0_transform_3 (grid0.coords t) (2 : Fin 3) = 0 := by
  decide +kernel

/-- The pipeline at the table's contents. -/
abbrev cfg := cfgM m (ok m)

theorem N_eq : (cfg m).N = 4 := by
  show grid0.N = 4
  decide

theorem t_lt (t : Fin (cfg m).N) : t.val < 4 := by
  have h := t.isLt; have hN := N_eq m; omega

def col0 (t : Fin (cfg m).N) (a : Fin 256) : Fin 2048 := ⟨t.val * 512 + 256 + a.val, by have := t_lt m t; omega⟩
def chip (t : Fin (cfg m).N) : Fin 4 := ⟨t.val, t_lt m t⟩

theorem emb0 (t : Fin (cfg m).N) (j : S4096x256.Idx) :
    (((cfg m).win 0).blk t).view.emb j = ix2 (j 0) (col0 m t (j 1)) := by
  have e := index_0 m (grid0.coords t)
  have e0 := congrFun e (0 : Fin 2)
  obtain ⟨-, -, f, -⟩ := idx_facts t
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 256 + 1 * (j 1).val = t.val * 512 + 256 + (j 1).val; rw [e1]; show ((grid0.coords t 0).val * 2 + 1) * 256 + _ = _; omega

theorem emb1 (t : Fin (cfg m).N) (j : S4096x2048.Idx) :
    (((cfg m).win 1).blk t).view.emb j = ix2 (j 0) (j 1) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 2048 + 1 * (j 1).val = (j 1).val; omega

theorem emb2 (t : Fin (cfg m).N) (j : S1x256x2048.Idx) :
    (((cfg m).win 2).blk t).view.emb j = ix3 (chip m t) (j 1) (j 2) := by
  obtain ⟨-, -, -, e0, e1, e2⟩ := idx_facts t
  funext a; apply Fin.ext
  match a with
  | ⟨0, _⟩ => show cc0_transform_3 (grid0.coords t) (0 : Fin 3) * 1 + 1 * (j 0).val = t.val; have := (j 0).isLt; have : (j 0).val < 1 := this; omega
  | ⟨1, _⟩ => show cc0_transform_3 (grid0.coords t) (1 : Fin 3) * 256 + 1 * (j 1).val = (j 1).val; omega
  | ⟨2, _⟩ => show cc0_transform_3 (grid0.coords t) (2 : Fin 3) * 2048 + 1 * (j 2).val = (j 2).val; omega

/-- The launch's arrays: the mixer's output and the cotangent. -/
abbrev aY (c : Dev nD) : Vec Ideal S4096x2048 .f32 := m ((c : Thread nD τ).loc main_arg0)
abbrev aCt (c : Dev nD) : Vec Ideal S4096x2048 .f32 := m ((c : Thread nD τ).loc main_arg1)

/-- The gradient's half for the sibling: a chip's shard, a row of its second half, a column of the shard. -/
def G (y : Vec Ideal S4096x2048 .f32) (ct : Vec Ideal S4096x2048 .f32) : Vec Ideal S4x256x2048 .f32 := fun i =>
  ∑ k : Fin 4096, y (ix2 k (⟨(i 0).val * 512 + 256 + (i 1).val, by
      have : (i 0).val < 4 := (i 0).isLt; have : (i 1).val < 256 := (i 1).isLt; omega⟩ : Fin 2048))
    * ct (ix2 k (⟨(i 2).val, (i 2).isLt⟩ : Fin 2048))

theorem V_v0 (c : Dev nD) : (V m c main_v0 : Vec Ideal S4096x2048 .bf16) = (truncf .bf16 (aY m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x2048 .bf16) = (truncf .bf16 (aCt m c) bitsLt_bf16_f32 : FVec Ideal S4096x2048 .bf16) := by
  show StableHlo.after hostOps0 (fun b => m (c, b)) (Proc.devRef .tc main_v1) = _
  after_results

abbrev val (c : Dev nD) : Buf (Elt Ideal) ((c : Thread nD τ).loc main_v5) := G (aY m c) (aCt m c)

/-- The product of the two blocks, entry by entry. -/
theorem pay_eq (x0 : Vec Ideal S4096x256 .bf16) (x1 : Vec Ideal S4096x2048 .bf16) (j : S1x256x2048.Idx) :
    k0_pay2 k0_pay1 x0 x1 j = ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 2 t = (((cfg m).win 2).blk t).view.read (Elt Ideal) (val m c) := by
  show ((cfg m).win 2).cut (grid0.coords t) ((dats m (ok m) 0 c).after 2 t) = _
  rw [after0_2, outsAt0]
  refine Eq.trans (congrArg (((cfg m).win 2).cut (grid0.coords t)) (out_eq c _ _ _ _ _ _ _ _ _ _ _)) ?_
  have h0 : ∀ j : S4096x256.Idx, iblk m (ok m) c 0 t j = aY m c (ix2 (j 0) (col0 m t (j 1))) := fun j => by
    show V m c main_v0 ((((cfg m).win 0).blk t).view.emb j) = _
    rw [emb0]; exact congrFun (V_v0 m c) _
  have h1 : ∀ j : S4096x2048.Idx, iblk m (ok m) c 1 t j = aCt m c (ix2 (j 0) (j 1)) := fun j => by
    show V m c main_v1 ((((cfg m).win 1).blk t).view.emb j) = _
    rw [emb1]; exact congrFun (V_v1 m c) _
  refine funext fun (j : S1x256x2048.Idx) => ?_
  refine ((pay_eq (iblk m (ok m) c 0 t) (iblk m (ok m) c 1 t) j).trans ?_).trans (congrArg (val m c) (emb2 m t j)).symm
  exact Finset.sum_congr rfl fun k _ => congrArg₂ (· * ·) (h0 _) (h1 _)

/-- The blocks tile the result. -/
theorem cover (i : S4x256x2048.Idx) :
    ∃ t : Fin (cfg m).N, ((cfg m).win 2).flush t = true ∧ i ∈ (((cfg m).win 2).blk t).view.set := by
  have i0 : (i 0).val < 4 := (i 0).isLt
  have hN := N_eq m
  have ht : (i 0).val < (cfg m).N := by omega
  refine ⟨⟨_, ht⟩, flush0_2 _ _, ?_⟩
  have h := (((cfg m).win 2).blk ⟨_, ht⟩).view.emb_mem_set
    (ix3 (0 : Fin 1) (i 1) (i 2) : S1x256x2048.Idx)
  rw [emb2] at h
  refine (Eq.subst (motive := fun x => x ∈ (((cfg m).win 2).blk ⟨_, ht⟩).view.set) ?_ h)
  funext a; apply Fin.ext; symm
  match a with
  | ⟨0, _⟩ => rfl
  | ⟨1, _⟩ => rfl
  | ⟨2, _⟩ => rfl

theorem final (c : Dev nD) : (dats m (ok m) 0 c).arrAt 2 (cfg m).N = val m c :=
  (dats m (ok m) 0 c).arrAt_eq_of_cover 2 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩)
    (θ_run_and (run_main m ρ (ok m)) (unchanged m ρ (ok m)))

open Cert.WOutSibReferenceIdeal.Value Cert.WOutSibReferenceIdeal.Read in
/-- The reference's gradient is the same function of the arguments. -/
theorem ref_eq (y : Vec Ideal S4096x2048 .f32) (ct : Vec Ideal S4096x2048 .f32) : val_main_v6 y ct = G y ct := by
  funext i
  pointwise [val_main_v6, val_main_v5, val_main_v4, val_main_v3, val_main_v2, G]
  exact Finset.sum_congr rfl fun k _ => mul_comm _ _

/-! ## The claims -/

theorem frame_k : Cert.quiescent_WOutSibKernel := fun m ρ _ => Cert.WOutSibKernel.Gen.frame m ρ (Kern.ok m)
theorem frame_ki : Cert.quiescent_WOutSibKernelIdeal := fun m ρ _ => Cert.WOutSibKernelIdeal.Gen.frame m ρ (ok m)
theorem frame_ri : Cert.quiescent_WOutSibReferenceIdeal := fun m ρ _ =>
  (θ_run Cert.WOutSibReferenceIdeal.defs _ _).mono (fun r h => ⟨fun c => (h c).2,
      Idealize.ShloMosaic.sem_eq_zero_of_no_sems (by decide) r.2⟩)
    (Cert.WOutSibReferenceIdeal.Value.run (F := Ideal) m ρ)

theorem preserves : Cert.preserves_WOutSibKernel_WOutSibKernelIdeal := trivial

theorem algebraic : Cert.algebraic_WOutSibKernelIdeal_WOutSibReferenceIdeal := by
  intro m ρ m' ρ' _ hagree
  refine ⟨fun c => val m c, run m ρ, ?_⟩
  refine (θ_run Cert.WOutSibReferenceIdeal.defs _ _).mono (fun _ h c => ⟨(h c).1.trans ?_, (h c).2⟩)
    (Cert.WOutSibReferenceIdeal.Value.run (F := Ideal) m' ρ')
  rw [(hagree c).1, (hagree c).2.1]
  exact (Cert.WOutSibReferenceIdeal.Read.val_main_v6_eq _ _).trans (ref_eq _ _)

end Cert.Proof.WOutSib

end
-- ==== Proof.WOut.lean ====
/- The gradient of the mixer's output projection, the half that a core keeps: frames and value.

   The kernel walks the four chips; the cotangent is multiplied, over all 4096 rows, with the first half of the
   chip's columns of the mixer's output, and what the sibling sent is added. A table of one word says which half. The reference is
   jax's own gradient of `w ↦ y · w`, cut the same way, plus what came from the sibling. No precondition. -/
module

public import proofs.«01_k».proof.Defs
public import proofs.«01_k».proof.Proof.Gen.WOutKernel.Frame
public import proofs.«01_k».proof.Proof.Gen.WOutKernelIdeal.Frame
public import proofs.«01_k».proof.Proof.Gen.WOutReferenceIdeal.Run
public import proofs.«01_k».proof.Proof.Gen.WOutReferenceIdeal.Read
public import Idealize.ShloMosaic.Lib.Pointwise

@[expose] public section

set_option maxRecDepth 16384

noncomputable section

namespace Cert.Proof.WOut

open Idealize.ShloMosaic Idealize.ShloMosaic.TcCoe Idealize.SL.Sem
open Idealize.ShloMosaic.Pipeline (Dat)

/-! ## The table, in the kernel as it is run -/

namespace Kern

open Cert.WOutKernel Cert.WOutKernel.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of a chip's columns. -/
theorem index_0 (i : grid0.Coords) : cc0_transform_0 inb_S1_S1_0 numel1_S1 (tbl m) i = ![0, (i 0).val * 2 + 0] := by
  unfold cc0_transform_0
  dsimp only
  rw [word]
  revert i
  decide +kernel

theorem ok : Ok m := by
  intro i
  rw [index_0]
  revert i
  decide +kernel
end

end Kern

/-! ## The table, in the idealized kernel -/

open Cert.WOutKernelIdeal Cert.WOutKernelIdeal.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of a chip's columns. -/
theorem index_0 (i : grid0.Coords) : cc0_transform_0 inb_S1_S1_0 numel1_S1 (tbl m) i = ![0, (i 0).val * 2 + 0] := by
  unfold cc0_transform_0
  dsimp only
  rw [word]
  revert i
  decide +kernel

theorem ok : Ok m := by
  intro i
  rw [index_0]
  revert i
  decide +kernel
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the sibling's block plus the product of the two blocks. -/
theorem out_eq (c : Dev nD) (i : grid0.Coords) (arg4 : Memref sig .tc .vmem S4096x256 .bf16) (h4 : arg4.IsWhole)
    (arg5 : Memref sig .tc .vmem S4096x2048 .bf16) (h5 : arg5.IsWhole)
    (arg6 : Memref sig .tc .vmem S1x256x2048 .f32) (h6 : arg6.IsWhole)
    (arg8 : Memref sig .tc .vmem S1x256x2048 .f32) (h8 : arg8.IsWhole) (hc0 : cond0_0 i)
    (x0 : Vec Ideal S4096x256 .bf16) (x1 : Vec Ideal S4096x2048 .bf16) (x2 : Vec Ideal S1x256x2048 .f32) (xt0 : TbBuf0 (F := Ideal) c tbM0_0) :
    out0_A_3 c i arg4 h4 arg5 h5 arg6 h6 arg8 h8 hc0 x0 x1 x2 xt0 = k0_pay2 (k0_pay1 x2) x0 x1 := by
  unfold out0_A_3
  rw [View.read_writes_eq_canon _ _ _ (cover0_A_3 c _ _ _ _ _ _ _ _ _ _ _ _ _ _)]
  unfold kernelRun0_A
  dsimp only
  rw [View.canon_cons_unit_zero hz3]
  unfold kernelRun0_A.sl.v3 kernelRun0_A.sl.H3_1
  rw [View.readCov_unit_zero _ hz3]
  simp only [View.readAt_eq_ld, h4.read_unread, h5.read_unread, h6.read_unread, View.ld_unit_zero (S := S4096x256) hz, View.ld_unit_zero (S := S4096x2048) hz,
    View.ld_unit_zero (S := S1x256x2048) hz3]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = 0
    ∧ (grid0.coords t 0).val = t.val
    ∧ cc0_transform_4 (grid0.coords t) (0 : Fin 3) = t.val ∧ cc0_transform_4 (grid0.coords t) (1 : Fin 3) = 0
    ∧ cc0_transform_4 (grid0.coords t) (2 : Fin 3) = 0 := by
  decide +kernel

/-- The block of what came from the sibling stands where the result's does. -/
theorem idx_facts_2 : ∀ t : Fin grid0.N, cc0_transform_2 (grid0.coords t) = cc0_transform_4 (grid0.coords t) := by
  decide +kernel

/-- The pipeline at the table's contents. -/
abbrev cfg := cfgM m (ok m)

theorem N_eq : (cfg m).N = 4 := by
  show grid0.N = 4
  decide

theorem t_lt (t : Fin (cfg m).N) : t.val < 4 := by
  have h := t.isLt; have hN := N_eq m; omega

def col0 (t : Fin (cfg m).N) (a : Fin 256) : Fin 2048 := ⟨t.val * 512 + a.val, by have := t_lt m t; omega⟩
def chip (t : Fin (cfg m).N) : Fin 4 := ⟨t.val, t_lt m t⟩

theorem emb0 (t : Fin (cfg m).N) (j : S4096x256.Idx) :
    (((cfg m).win 0).blk t).view.emb j = ix2 (j 0) (col0 m t (j 1)) := by
  have e := index_0 m (grid0.coords t)
  have e0 := congrFun e (0 : Fin 2)
  obtain ⟨-, -, f, -⟩ := idx_facts t
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 256 + 1 * (j 1).val = t.val * 512 + (j 1).val; rw [e1]; show ((grid0.coords t 0).val * 2 + 0) * 256 + _ = _; omega

theorem emb1 (t : Fin (cfg m).N) (j : S4096x2048.Idx) :
    (((cfg m).win 1).blk t).view.emb j = ix2 (j 0) (j 1) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 2048 + 1 * (j 1).val = (j 1).val; omega

theorem emb2 (t : Fin (cfg m).N) (j : S1x256x2048.Idx) :
    (((cfg m).win 2).blk t).view.emb j = ix3 (chip m t) (j 1) (j 2) := by
  obtain ⟨-, -, -, f0, f1, f2⟩ := idx_facts t
  have e := idx_facts_2 t
  have e0 := (congrFun e (0 : Fin 3)).trans f0
  have e1 := (congrFun e (1 : Fin 3)).trans f1
  have e2 := (congrFun e (2 : Fin 3)).trans f2
  funext a; apply Fin.ext
  match a with
  | ⟨0, _⟩ => show cc0_transform_2 (grid0.coords t) (0 : Fin 3) * 1 + 1 * (j 0).val = t.val; have := (j 0).isLt; have : (j 0).val < 1 := this; omega
  | ⟨1, _⟩ => show cc0_transform_2 (grid0.coords t) (1 : Fin 3) * 256 + 1 * (j 1).val = (j 1).val; omega
  | ⟨2, _⟩ => show cc0_transform_2 (grid0.coords t) (2 : Fin 3) * 2048 + 1 * (j 2).val = (j 2).val; omega

theorem emb3 (t : Fin (cfg m).N) (j : S1x256x2048.Idx) :
    (((cfg m).win 3).blk t).view.emb j = ix3 (chip m t) (j 1) (j 2) := by
  obtain ⟨-, -, -, e0, e1, e2⟩ := idx_facts t
  funext a; apply Fin.ext
  match a with
  | ⟨0, _⟩ => show cc0_transform_4 (grid0.coords t) (0 : Fin 3) * 1 + 1 * (j 0).val = t.val; have := (j 0).isLt; have : (j 0).val < 1 := this; omega
  | ⟨1, _⟩ => show cc0_transform_4 (grid0.coords t) (1 : Fin 3) * 256 + 1 * (j 1).val = (j 1).val; omega
  | ⟨2, _⟩ => show cc0_transform_4 (grid0.coords t) (2 : Fin 3) * 2048 + 1 * (j 2).val = (j 2).val; omega

/-- The launch's arrays: the mixer's output, the cotangent and what came from the sibling. -/
abbrev aY (c : Dev nD) : Vec Ideal S4096x2048 .f32 := m ((c : Thread nD τ).loc main_arg0)
abbrev aCt (c : Dev nD) : Vec Ideal S4096x2048 .f32 := m ((c : Thread nD τ).loc main_arg1)
abbrev aSib (c : Dev nD) : Vec Ideal S4x256x2048 .f32 := m ((c : Thread nD τ).loc main_arg2)

/-- What came from the sibling, and the kept half of the gradient: a chip's shard, a row of its first half, a column. -/
def G (y : Vec Ideal S4096x2048 .f32) (ct : Vec Ideal S4096x2048 .f32) (s : Vec Ideal S4x256x2048 .f32) : Vec Ideal S4x256x2048 .f32 := fun i =>
  s i + ∑ k : Fin 4096, y (ix2 k (⟨(i 0).val * 512 + (i 1).val, by
      have : (i 0).val < 4 := (i 0).isLt; have : (i 1).val < 256 := (i 1).isLt; omega⟩ : Fin 2048))
    * ct (ix2 k (⟨(i 2).val, (i 2).isLt⟩ : Fin 2048))

theorem V_v0 (c : Dev nD) : (V m c main_v0 : Vec Ideal S4096x2048 .bf16) = (truncf .bf16 (aY m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x2048 .bf16) = (truncf .bf16 (aCt m c) bitsLt_bf16_f32 : FVec Ideal S4096x2048 .bf16) := by
  show StableHlo.after hostOps0 (fun b => m (c, b)) (Proc.devRef .tc main_v1) = _
  after_results

theorem V_arg2 (c : Dev nD) : (V m c main_arg2 : Vec Ideal S4x256x2048 .f32) = aSib m c := by
  show StableHlo.after hostOps0 (fun b => m (c, b)) (Proc.devRef .tc main_arg2) = _
  after_results

abbrev val (c : Dev nD) : Buf (Elt Ideal) ((c : Thread nD τ).loc main_v5) := G (aY m c) (aCt m c) (aSib m c)

/-- The sibling's block plus the product, entry by entry. -/
theorem pay_eq (x0 : Vec Ideal S4096x256 .bf16) (x1 : Vec Ideal S4096x2048 .bf16) (x2 : Vec Ideal S1x256x2048 .f32) (j : S1x256x2048.Idx) :
    k0_pay2 (k0_pay1 x2) x0 x1 j = x2 (ix3 (j 0) (j 1) (j 2)) + ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 3 t = (((cfg m).win 3).blk t).view.read (Elt Ideal) (val m c) := by
  show ((cfg m).win 3).cut (grid0.coords t) ((dats m (ok m) 0 c).after 3 t) = _
  rw [after0_3, outsAt0]
  refine Eq.trans (congrArg (((cfg m).win 3).cut (grid0.coords t)) (out_eq c _ _ _ _ _ _ _ _ _ _ _ _ _ _)) ?_
  have h0 : ∀ j : S4096x256.Idx, iblk m (ok m) c 0 t j = aY m c (ix2 (j 0) (col0 m t (j 1))) := fun j => by
    show V m c main_v0 ((((cfg m).win 0).blk t).view.emb j) = _
    rw [emb0]; exact congrFun (V_v0 m c) _
  have h1 : ∀ j : S4096x2048.Idx, iblk m (ok m) c 1 t j = aCt m c (ix2 (j 0) (j 1)) := fun j => by
    show V m c main_v1 ((((cfg m).win 1).blk t).view.emb j) = _
    rw [emb1]; exact congrFun (V_v1 m c) _
  have h2 : ∀ j : S1x256x2048.Idx, iblk m (ok m) c 2 t j = aSib m c (ix3 (chip m t) (j 1) (j 2)) := fun j => by
    show V m c main_arg2 ((((cfg m).win 2).blk t).view.emb j) = _
    rw [emb2]; exact congrFun (V_arg2 m c) _
  refine funext fun (j : S1x256x2048.Idx) => ?_
  refine ((pay_eq (iblk m (ok m) c 0 t) (iblk m (ok m) c 1 t) (iblk m (ok m) c 2 t) j).trans ?_).trans (congrArg (val m c) (emb3 m t j)).symm
  refine congrArg₂ (· + ·) (h2 _) (Finset.sum_congr rfl fun k _ => congrArg₂ (· * ·) (h0 _) (h1 _))

/-- The blocks tile the result. -/
theorem cover (i : S4x256x2048.Idx) :
    ∃ t : Fin (cfg m).N, ((cfg m).win 3).flush t = true ∧ i ∈ (((cfg m).win 3).blk t).view.set := by
  have i0 : (i 0).val < 4 := (i 0).isLt
  have hN := N_eq m
  have ht : (i 0).val < (cfg m).N := by omega
  refine ⟨⟨_, ht⟩, flush0_3 _ _, ?_⟩
  have h := (((cfg m).win 3).blk ⟨_, ht⟩).view.emb_mem_set
    (ix3 (0 : Fin 1) (i 1) (i 2) : S1x256x2048.Idx)
  rw [emb3] at h
  refine (Eq.subst (motive := fun x => x ∈ (((cfg m).win 3).blk ⟨_, ht⟩).view.set) ?_ h)
  funext a; apply Fin.ext; symm
  match a with
  | ⟨0, _⟩ => rfl
  | ⟨1, _⟩ => rfl
  | ⟨2, _⟩ => rfl

theorem final (c : Dev nD) : (dats m (ok m) 0 c).arrAt 3 (cfg m).N = val m c :=
  (dats m (ok m) 0 c).arrAt_eq_of_cover 3 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 3).trans (final m c), h.2 c⟩)
    (θ_run_and (run_main m ρ (ok m)) (unchanged m ρ (ok m)))

open Cert.WOutReferenceIdeal.Value Cert.WOutReferenceIdeal.Read in
/-- The reference's gradient is the same function of the arguments. -/
theorem ref_eq (y : Vec Ideal S4096x2048 .f32) (ct : Vec Ideal S4096x2048 .f32) (s : Vec Ideal S4x256x2048 .f32) :
    val_main_v7 y ct s = G y ct s := by
  funext i
  pointwise [val_main_v7, val_main_v6, val_main_v5, val_main_v2, val_main_v3, val_main_v2, G]
  refine congrArg (s i + ·) ?_
  pointwise [val_main_v4, val_main_v3, val_main_v2]
  exact Finset.sum_congr rfl fun k _ => mul_comm _ _

/-! ## The claims -/

theorem frame_k : Cert.quiescent_WOutKernel := fun m ρ _ => Cert.WOutKernel.Gen.frame m ρ (Kern.ok m)
theorem frame_ki : Cert.quiescent_WOutKernelIdeal := fun m ρ _ => Cert.WOutKernelIdeal.Gen.frame m ρ (ok m)
theorem frame_ri : Cert.quiescent_WOutReferenceIdeal := fun m ρ _ =>
  (θ_run Cert.WOutReferenceIdeal.defs _ _).mono (fun r h => ⟨fun c => (h c).2,
      Idealize.ShloMosaic.sem_eq_zero_of_no_sems (by decide) r.2⟩)
    (Cert.WOutReferenceIdeal.Value.run (F := Ideal) m ρ)

theorem preserves : Cert.preserves_WOutKernel_WOutKernelIdeal := trivial

theorem algebraic : Cert.algebraic_WOutKernelIdeal_WOutReferenceIdeal := by
  intro m ρ m' ρ' _ hagree
  refine ⟨fun c => val m c, run m ρ, ?_⟩
  refine (θ_run Cert.WOutReferenceIdeal.defs _ _).mono (fun _ h c => ⟨(h c).1.trans ?_, (h c).2⟩)
    (Cert.WOutReferenceIdeal.Value.run (F := Ideal) m' ρ')
  rw [(hagree c).1, (hagree c).2.1, (hagree c).2.2.1]
  exact (Cert.WOutReferenceIdeal.Read.val_main_v7_eq _ _ _).trans (ref_eq _ _ _)

end Cert.Proof.WOut

end
-- ==== Proof.WInSib.lean ====
/- The gradient of the mixer's input projection, the half that goes to the sibling core: frames and value.

   The kernel walks four blocks of 768 columns, a chip's shard each, of the cotangent; each is multiplied, over all 4096 rows,
   with the second half of the layer's input's columns. A table of one word, computed by the host, says which half. The
   reference is jax's own gradient of `w ↦ x · w`, cut the same way. No precondition. -/
module

public import proofs.«01_k».proof.Defs
public import proofs.«01_k».proof.Proof.Gen.WInSibKernel.Frame
public import proofs.«01_k».proof.Proof.Gen.WInSibKernelIdeal.Frame
public import proofs.«01_k».proof.Proof.Gen.WInSibReferenceIdeal.Run
public import proofs.«01_k».proof.Proof.Gen.WInSibReferenceIdeal.Read
public import Idealize.ShloMosaic.Lib.Pointwise

@[expose] public section

set_option maxRecDepth 16384

noncomputable section

namespace Cert.Proof.WInSib

open Idealize.ShloMosaic Idealize.ShloMosaic.TcCoe Idealize.SL.Sem
open Idealize.ShloMosaic.Pipeline (Dat)

/-! ## The table, in the kernel as it is run -/

namespace Kern

open Cert.WInSibKernel Cert.WInSibKernel.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of its columns. -/
theorem index_0 (i : grid0.Coords) : cc0_transform_0 inb_S1_S1_0 numel1_S1 (tbl m) i = ![0, 1] := by
  unfold cc0_transform_0
  dsimp only
  rw [word]
  revert i
  decide +kernel

theorem ok : Ok m := by
  intro i
  rw [index_0]
  exact ⟨by decide, Or.inr (by decide)⟩
end

end Kern

/-! ## The table, in the idealized kernel -/

open Cert.WInSibKernelIdeal Cert.WInSibKernelIdeal.Gen

section
variable {F : FTy → Type} [FloatOps F] (m : (ℓ : Loc nD τ sig) → Buf (Elt F) ℓ)

/-- The table that the host hands the region holds the number of the half whose rows are taken. -/
theorem V_half (c : Dev nD) : (V m c main_v4 : IVec S1 32) = fun _ => 1#32 := by
  show StableHlo.after hostOps0 (fun b => m (c, b)) (Proc.devRef .tc main_v4) = _
  after_results
  funext y
  simp [subi, broadcastInDim, constantI, shapeCast, IntOp.subi]

theorem word : (tbl m).at 0 (Rect.unit (s := S1) ![0] S1.size inb_S1_S1_0) numel1_S1 = (1#32 : BitVec 32) := by
  show (V m 0 main_v4 : IVec S1 32) _ = _
  rw [V_half]

/-- Where the first operand's block stands: the second half of its columns. -/
theorem index_0 (i : grid0.Coords) : cc0_transform_0 inb_S1_S1_0 numel1_S1 (tbl m) i = ![0, 1] := by
  unfold cc0_transform_0
  dsimp only
  rw [word]
  revert i
  decide +kernel

theorem ok : Ok m := by
  intro i
  rw [index_0]
  exact ⟨by decide, Or.inr (by decide)⟩
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the product of the two blocks. -/
theorem out_eq (c : Dev nD) (i : grid0.Coords) (arg4 : Memref sig .tc .vmem S4096x1024 .bf16) (h4 : arg4.IsWhole)
    (arg5 : Memref sig .tc .vmem S4096x768 .bf16) (h5 : arg5.IsWhole)
    (arg7 : Memref sig .tc .vmem S1x1024x768 .f32) (h7 : arg7.IsWhole) (hc0 : cond0_0 i)
    (x0 : Vec Ideal S4096x1024 .bf16) (x1 : Vec Ideal S4096x768 .bf16) (xt0 : TbBuf0 (F := Ideal) c tbM0_0) :
    out0_A_2 c i arg4 h4 arg5 h5 arg7 h7 hc0 x0 x1 xt0 = k0_pay2 k0_pay1 x0 x1 := by
  unfold out0_A_2
  rw [View.read_writes_eq_canon _ _ _ (cover0_A_2 c _ _ _ _ _ _ _ _ _ _ _)]
  unfold kernelRun0_A
  dsimp only
  rw [View.canon_cons_unit_zero hz3]
  unfold kernelRun0_A.sl.v3 kernelRun0_A.sl.H2_1
  rw [View.readCov_unit_zero _ hz3]
  simp only [View.readAt_eq_ld, h4.read_unread, h5.read_unread, View.ld_unit_zero (S := S4096x1024) hz, View.ld_unit_zero (S := S4096x768) hz]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val
    ∧ cc0_transform_3 (grid0.coords t) (0 : Fin 3) = t.val ∧ cc0_transform_3 (grid0.coords t) (1 : Fin 3) = 0
    ∧ cc0_transform_3 (grid0.coords t) (2 : Fin 3) = 0 := by
  decide +kernel

/-- The pipeline at the table's contents. -/
abbrev cfg := cfgM m (ok m)

theorem N_eq : (cfg m).N = 4 := by
  show grid0.N = 4
  decide

theorem t_lt (t : Fin (cfg m).N) : t.val < 4 := by
  have h := t.isLt; have hN := N_eq m; omega

def col0 (a : Fin 1024) : Fin 2048 := ⟨1024 + a.val, by omega⟩
def col1 (t : Fin (cfg m).N) (a : Fin 768) : Fin 3072 := ⟨t.val * 768 + a.val, by have := t_lt m t; omega⟩
def chip (t : Fin (cfg m).N) : Fin 4 := ⟨t.val, t_lt m t⟩

theorem emb0 (t : Fin (cfg m).N) (j : S4096x1024.Idx) :
    (((cfg m).win 0).blk t).view.emb j = ix2 (j 0) (col0 (j 1)) := by
  have e := index_0 m (grid0.coords t)
  have e0 := congrFun e (0 : Fin 2)
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = 1024 + (j 1).val; rw [e1]; show 1 * 1024 + _ = _; omega

theorem emb1 (t : Fin (cfg m).N) (j : S4096x768.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 768 + 1 * (j 1).val = t.val * 768 + (j 1).val; omega

theorem emb2 (t : Fin (cfg m).N) (j : S1x1024x768.Idx) :
    (((cfg m).win 2).blk t).view.emb j = ix3 (chip m t) (j 1) (j 2) := by
  obtain ⟨-, -, e0, e1, e2⟩ := idx_facts t
  funext a; apply Fin.ext
  match a with
  | ⟨0, _⟩ => show cc0_transform_3 (grid0.coords t) (0 : Fin 3) * 1 + 1 * (j 0).val = t.val; have := (j 0).isLt; have : (j 0).val < 1 := this; omega
  | ⟨1, _⟩ => show cc0_transform_3 (grid0.coords t) (1 : Fin 3) * 1024 + 1 * (j 1).val = (j 1).val; omega
  | ⟨2, _⟩ => show cc0_transform_3 (grid0.coords t) (2 : Fin 3) * 768 + 1 * (j 2).val = (j 2).val; omega

/-- The launch's arrays: the activations and the cotangent. -/
abbrev aX (c : Dev nD) : Vec Ideal S4096x2048 .f32 := m ((c : Thread nD τ).loc main_arg0)
abbrev aCt (c : Dev nD) : Vec Ideal S4096x3072 .f32 := m ((c : Thread nD τ).loc main_arg1)

/-- The gradient's half for the sibling: a chip's shard, a row of its second half, a column of the shard. -/
def G (x : Vec Ideal S4096x2048 .f32) (ct : Vec Ideal S4096x3072 .f32) : Vec Ideal S4x1024x768 .f32 := fun i =>
  ∑ k : Fin 4096, x (ix2 k (⟨1024 + (i 1).val, by have : (i 1).val < 1024 := (i 1).isLt; omega⟩ : Fin 2048))
    * ct (ix2 k (⟨(i 0).val * 768 + (i 2).val, by
        have : (i 0).val < 4 := (i 0).isLt; have : (i 2).val < 768 := (i 2).isLt; omega⟩ : Fin 3072))

theorem V_v0 (c : Dev nD) : (V m c main_v0 : Vec Ideal S4096x2048 .bf16) = (truncf .bf16 (aX m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x3072 .bf16) = (truncf .bf16 (aCt m c) bitsLt_bf16_f32 : FVec Ideal S4096x3072 .bf16) := by
  show StableHlo.after hostOps0 (fun b => m (c, b)) (Proc.devRef .tc main_v1) = _
  after_results

abbrev val (c : Dev nD) : Buf (Elt Ideal) ((c : Thread nD τ).loc main_v5) := G (aX m c) (aCt m c)

/-- The product of the two blocks, entry by entry. -/
theorem pay_eq (x0 : Vec Ideal S4096x1024 .bf16) (x1 : Vec Ideal S4096x768 .bf16) (j : S1x1024x768.Idx) :
    k0_pay2 k0_pay1 x0 x1 j = ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 2 t = (((cfg m).win 2).blk t).view.read (Elt Ideal) (val m c) := by
  show ((cfg m).win 2).cut (grid0.coords t) ((dats m (ok m) 0 c).after 2 t) = _
  rw [after0_2, outsAt0]
  refine Eq.trans (congrArg (((cfg m).win 2).cut (grid0.coords t)) (out_eq c _ _ _ _ _ _ _ _ _ _ _)) ?_
  have h0 : ∀ j : S4096x1024.Idx, iblk m (ok m) c 0 t j = aX m c (ix2 (j 0) (col0 (j 1))) := fun j => by
    show V m c main_v0 ((((cfg m).win 0).blk t).view.emb j) = _
    rw [emb0]; exact congrFun (V_v0 m c) _
  have h1 : ∀ j : S4096x768.Idx, iblk m (ok m) c 1 t j = aCt m c (ix2 (j 0) (col1 m t (j 1))) := fun j => by
    show V m c main_v1 ((((cfg m).win 1).blk t).view.emb j) = _
    rw [emb1]; exact congrFun (V_v1 m c) _
  refine funext fun (j : S1x1024x768.Idx) => ?_
  refine ((pay_eq (iblk m (ok m) c 0 t) (iblk m (ok m) c 1 t) j).trans ?_).trans (congrArg (val m c) (emb2 m t j)).symm
  exact Finset.sum_congr rfl fun k _ => congrArg₂ (· * ·) (h0 _) (h1 _)

/-- The blocks tile the result. -/
theorem cover (i : S4x1024x768.Idx) :
    ∃ t : Fin (cfg m).N, ((cfg m).win 2).flush t = true ∧ i ∈ (((cfg m).win 2).blk t).view.set := by
  have i0 : (i 0).val < 4 := (i 0).isLt
  have hN := N_eq m
  have ht : (i 0).val < (cfg m).N := by omega
  refine ⟨⟨_, ht⟩, flush0_2 _ _, ?_⟩
  have h := (((cfg m).win 2).blk ⟨_, ht⟩).view.emb_mem_set
    (ix3 (0 : Fin 1) (i 1) (i 2) : S1x1024x768.Idx)
  rw [emb2] at h
  refine (Eq.subst (motive := fun x => x ∈ (((cfg m).win 2).blk ⟨_, ht⟩).view.set) ?_ h)
  funext a; apply Fin.ext; symm
  match a with
  | ⟨0, _⟩ => rfl
  | ⟨1, _⟩ => rfl
  | ⟨2, _⟩ => rfl

theorem final (c : Dev nD) : (dats m (ok m) 0 c).arrAt 2 (cfg m).N = val m c :=
  (dats m (ok m) 0 c).arrAt_eq_of_cover 2 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 2).trans (final m c), h.2 c⟩)
    (θ_run_and (run_main m ρ (ok m)) (unchanged m ρ (ok m)))

open Cert.WInSibReferenceIdeal.Value Cert.WInSibReferenceIdeal.Read in
/-- The reference's gradient is the same function of the arguments. -/
theorem ref_eq (x : Vec Ideal S4096x2048 .f32) (ct : Vec Ideal S4096x3072 .f32) : val_main_v7 x ct = G x ct := by
  funext i
  pointwise [val_main_v7, val_main_v6, val_main_v5, val_main_v4, val_main_v3, val_main_v2, G]
  exact Finset.sum_congr rfl fun k _ => mul_comm _ _

/-! ## The claims -/

theorem frame_k : Cert.quiescent_WInSibKernel := fun m ρ _ => Cert.WInSibKernel.Gen.frame m ρ (Kern.ok m)
theorem frame_ki : Cert.quiescent_WInSibKernelIdeal := fun m ρ _ => Cert.WInSibKernelIdeal.Gen.frame m ρ (ok m)
theorem frame_ri : Cert.quiescent_WInSibReferenceIdeal := fun m ρ _ =>
  (θ_run Cert.WInSibReferenceIdeal.defs _ _).mono (fun r h => ⟨fun c => (h c).2,
      Idealize.ShloMosaic.sem_eq_zero_of_no_sems (by decide) r.2⟩)
    (Cert.WInSibReferenceIdeal.Value.run (F := Ideal) m ρ)

theorem preserves : Cert.preserves_WInSibKernel_WInSibKernelIdeal := trivial

theorem algebraic : Cert.algebraic_WInSibKernelIdeal_WInSibReferenceIdeal := by
  intro m ρ m' ρ' _ hagree
  refine ⟨fun c => val m c, run m ρ, ?_⟩
  refine (θ_run Cert.WInSibReferenceIdeal.defs _ _).mono (fun _ h c => ⟨(h c).1.trans ?_, (h c).2⟩)
    (Cert.WInSibReferenceIdeal.Value.run (F := Ideal) m' ρ')
  rw [(hagree c).1, (hagree c).2.1]
  exact (Cert.WInSibReferenceIdeal.Read.val_main_v7_eq _ _).trans (ref_eq _ _)

end Cert.Proof.WInSib

end
-- ==== Proof.WIn.lean ====
/- The gradient of the mixer's input projection, the half that a core keeps: frames and value.

   The kernel walks four blocks of 768 columns, a chip's shard each, of the cotangent; each is multiplied, over all 4096 rows,
   with the first half of the layer's input's columns, and what the sibling sent is added. A table of one word says which
   half. The reference is jax's own gradient of `w ↦ x · w`, cut the same way, plus what came from the sibling. No
   precondition. -/
module

public import proofs.«01_k».proof.Defs
public import proofs.«01_k».proof.Proof.Gen.WInKernel.Frame
public import proofs.«01_k».proof.Proof.Gen.WInKernelIdeal.Frame
public import proofs.«01_k».proof.Proof.Gen.WInReferenceIdeal.Run
public import proofs.«01_k».proof.Proof.Gen.WInReferenceIdeal.Read
public import Idealize.ShloMosaic.Lib.Pointwise

@[expose] public section

set_option maxRecDepth 16384

noncomputable section

namespace Cert.Proof.WIn

open Idealize.ShloMosaic Idealize.ShloMosaic.TcCoe Idealize.SL.Sem
open Idealize.ShloMosaic.Pipeline (Dat)

/-! ## The table, in the kernel as it is run -/

namespace Kern

open Cert.WInKernel Cert.WInKernel.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of its columns. -/
theorem index_0 (i : grid0.Coords) : cc0_transform_0 inb_S1_S1_0 numel1_S1 (tbl m) i = ![0, 0] := by
  unfold cc0_transform_0
  dsimp only
  rw [word]
  revert i
  decide +kernel

theorem ok : Ok m := by
  intro i
  rw [index_0]
  exact ⟨by decide, Or.inr (by decide)⟩
end

end Kern

/-! ## The table, in the idealized kernel -/

open Cert.WInKernelIdeal Cert.WInKernelIdeal.Gen

section
variable {F : FTy → Type} [FloatOps F] (m : (ℓ : Loc nD τ sig) → Buf (Elt F) ℓ)

/-- The table that the host hands the region holds the number of the half whose rows are taken. -/
theorem V_half (c : Dev nD) : (V m c main_v2 : IVec S1 32) = fun _ => 0#32 := by
  show StableHlo.after hostOps0 (fun b => m (c, b)) (Proc.devRef .tc main_v2) = _
  after_results
  funext y
  simp [constantI, shapeCast]

theorem word : (tbl m).at 0 (Rect.unit (s := S1) ![0] S1.size inb_S1_S1_0) numel1_S1 = (0#32 : BitVec 32) := by
  show (V m 0 main_v2 : IVec S1 32) _ = _
  rw [V_half]

/-- Where the first operand's block stands: the first half of its columns. -/
theorem index_0 (i : grid0.Coords) : cc0_transform_0 inb_S1_S1_0 numel1_S1 (tbl m) i = ![0, 0] := by
  unfold cc0_transform_0
  dsimp only
  rw [word]
  revert i
  decide +kernel

theorem ok : Ok m := by
  intro i
  rw [index_0]
  exact ⟨by decide, Or.inr (by decide)⟩
end

/-! ## The value -/

theorem hz : (![0, 0] : Fin 2 → Nat) = fun _ => 0 := funext fun a => by fin_cases a <;> rfl
theorem hz3 : (![0, 0, 0] : Fin 3 → Nat) = fun _ => 0 := funext fun a => by fin_cases a <;> rfl

/-- What a point leaves in the result's staging buffer: the sibling's block plus the product of the two blocks. -/
theorem out_eq (c : Dev nD) (i : grid0.Coords) (arg4 : Memref sig .tc .vmem S4096x1024 .bf16) (h4 : arg4.IsWhole)
    (arg5 : Memref sig .tc .vmem S4096x768 .bf16) (h5 : arg5.IsWhole)
    (arg6 : Memref sig .tc .vmem S1x1024x768 .f32) (h6 : arg6.IsWhole)
    (arg8 : Memref sig .tc .vmem S1x1024x768 .f32) (h8 : arg8.IsWhole) (hc0 : cond0_0 i)
    (x0 : Vec Ideal S4096x1024 .bf16) (x1 : Vec Ideal S4096x768 .bf16) (x2 : Vec Ideal S1x1024x768 .f32) (xt0 : TbBuf0 (F := Ideal) c tbM0_0) :
    out0_A_3 c i arg4 h4 arg5 h5 arg6 h6 arg8 h8 hc0 x0 x1 x2 xt0 = k0_pay2 (k0_pay1 x2) x0 x1 := by
  unfold out0_A_3
  rw [View.read_writes_eq_canon _ _ _ (cover0_A_3 c _ _ _ _ _ _ _ _ _ _ _ _ _ _)]
  unfold kernelRun0_A
  dsimp only
  rw [View.canon_cons_unit_zero hz3]
  unfold kernelRun0_A.sl.v3 kernelRun0_A.sl.H3_1
  rw [View.readCov_unit_zero _ hz3]
  simp only [View.readAt_eq_ld, h4.read_unread, h5.read_unread, h6.read_unread, View.ld_unit_zero (S := S4096x1024) hz, View.ld_unit_zero (S := S4096x768) hz,
    View.ld_unit_zero (S := S1x1024x768) hz3]

variable (m : (ℓ : Loc nD τ sig) → Buf (Elt Ideal) ℓ) (ρ : Dev nD → PrngReg)

/-- Where the other windows' blocks stand at a grid point. -/
theorem idx_facts : ∀ t : Fin grid0.N,
    cc0_transform_1 (grid0.coords t) (0 : Fin 2) = 0 ∧ cc0_transform_1 (grid0.coords t) (1 : Fin 2) = t.val
    ∧ cc0_transform_4 (grid0.coords t) (0 : Fin 3) = t.val ∧ cc0_transform_4 (grid0.coords t) (1 : Fin 3) = 0
    ∧ cc0_transform_4 (grid0.coords t) (2 : Fin 3) = 0 := by
  decide +kernel

/-- The block of what came from the sibling stands where the result's does. -/
theorem idx_facts_2 : ∀ t : Fin grid0.N, cc0_transform_2 (grid0.coords t) = cc0_transform_4 (grid0.coords t) := by
  decide +kernel

/-- The pipeline at the table's contents. -/
abbrev cfg := cfgM m (ok m)

theorem N_eq : (cfg m).N = 4 := by
  show grid0.N = 4
  decide

theorem t_lt (t : Fin (cfg m).N) : t.val < 4 := by
  have h := t.isLt; have hN := N_eq m; omega

def col0 (a : Fin 1024) : Fin 2048 := ⟨a.val, by omega⟩
def col1 (t : Fin (cfg m).N) (a : Fin 768) : Fin 3072 := ⟨t.val * 768 + a.val, by have := t_lt m t; omega⟩
def chip (t : Fin (cfg m).N) : Fin 4 := ⟨t.val, t_lt m t⟩

theorem emb0 (t : Fin (cfg m).N) (j : S4096x1024.Idx) :
    (((cfg m).win 0).blk t).view.emb j = ix2 (j 0) (col0 (j 1)) := by
  have e := index_0 m (grid0.coords t)
  have e0 := congrFun e (0 : Fin 2)
  have e1 := congrFun e (1 : Fin 2)
  funext a; apply Fin.ext
  match a with
  | ⟨0, _⟩ => show cc0_transform_0 inb_S1_S1_0 numel1_S1 (tbl m) (grid0.coords t) (0 : Fin 2) * 4096 + 1 * (j 0).val = (j 0).val; rw [e0]; show 0 * 4096 + _ = _; omega
  | ⟨1, _⟩ => show cc0_transform_0 inb_S1_S1_0 numel1_S1 (tbl m) (grid0.coords t) (1 : Fin 2) * 1024 + 1 * (j 1).val = (j 1).val; rw [e1]; show 0 * 1024 + _ = _; omega

theorem emb1 (t : Fin (cfg m).N) (j : S4096x768.Idx) :
    (((cfg m).win 1).blk t).view.emb j = ix2 (j 0) (col1 m t (j 1)) := by
  obtain ⟨e0, e1, -⟩ := idx_facts t
  funext a; apply Fin.ext
  match a with
  | ⟨0, _⟩ => show cc0_transform_1 (grid0.coords t) (0 : Fin 2) * 4096 + 1 * (j 0).val = (j 0).val; omega
  | ⟨1, _⟩ => show cc0_transform_1 (grid0.coords t) (1 : Fin 2) * 768 + 1 * (j 1).val = t.val * 768 + (j 1).val; omega

theorem emb2 (t : Fin (cfg m).N) (j : S1x1024x768.Idx) :
    (((cfg m).win 2).blk t).view.emb j = ix3 (chip m t) (j 1) (j 2) := by
  obtain ⟨-, -, f0, f1, f2⟩ := idx_facts t
  have e := idx_facts_2 t
  have e0 := (congrFun e (0 : Fin 3)).trans f0
  have e1 := (congrFun e (1 : Fin 3)).trans f1
  have e2 := (congrFun e (2 : Fin 3)).trans f2
  funext a; apply Fin.ext
  match a with
  | ⟨0, _⟩ => show cc0_transform_2 (grid0.coords t) (0 : Fin 3) * 1 + 1 * (j 0).val = t.val; have := (j 0).isLt; have : (j 0).val < 1 := this; omega
  | ⟨1, _⟩ => show cc0_transform_2 (grid0.coords t) (1 : Fin 3) * 1024 + 1 * (j 1).val = (j 1).val; omega
  | ⟨2, _⟩ => show cc0_transform_2 (grid0.coords t) (2 : Fin 3) * 768 + 1 * (j 2).val = (j 2).val; omega

theorem emb3 (t : Fin (cfg m).N) (j : S1x1024x768.Idx) :
    (((cfg m).win 3).blk t).view.emb j = ix3 (chip m t) (j 1) (j 2) := by
  obtain ⟨-, -, e0, e1, e2⟩ := idx_facts t
  funext a; apply Fin.ext
  match a with
  | ⟨0, _⟩ => show cc0_transform_4 (grid0.coords t) (0 : Fin 3) * 1 + 1 * (j 0).val = t.val; have := (j 0).isLt; have : (j 0).val < 1 := this; omega
  | ⟨1, _⟩ => show cc0_transform_4 (grid0.coords t) (1 : Fin 3) * 1024 + 1 * (j 1).val = (j 1).val; omega
  | ⟨2, _⟩ => show cc0_transform_4 (grid0.coords t) (2 : Fin 3) * 768 + 1 * (j 2).val = (j 2).val; omega

/-- The launch's arrays: the activations, the cotangent and what came from the sibling. -/
abbrev aX (c : Dev nD) : Vec Ideal S4096x2048 .f32 := m ((c : Thread nD τ).loc main_arg0)
abbrev aCt (c : Dev nD) : Vec Ideal S4096x3072 .f32 := m ((c : Thread nD τ).loc main_arg1)
abbrev aSib (c : Dev nD) : Vec Ideal S4x1024x768 .f32 := m ((c : Thread nD τ).loc main_arg2)

/-- What came from the sibling, and the kept half of the gradient: a chip's shard, a row of its first half, a column. -/
def G (x : Vec Ideal S4096x2048 .f32) (ct : Vec Ideal S4096x3072 .f32) (s : Vec Ideal S4x1024x768 .f32) : Vec Ideal S4x1024x768 .f32 := fun i =>
  s i + ∑ k : Fin 4096, x (ix2 k (⟨(i 1).val, by have : (i 1).val < 1024 := (i 1).isLt; omega⟩ : Fin 2048))
    * ct (ix2 k (⟨(i 0).val * 768 + (i 2).val, by
        have : (i 0).val < 4 := (i 0).isLt; have : (i 2).val < 768 := (i 2).isLt; omega⟩ : Fin 3072))

theorem V_v0 (c : Dev nD) : (V m c main_v0 : Vec Ideal S4096x2048 .bf16) = (truncf .bf16 (aX m c) bitsLt_bf16_f32 : FVec Ideal S4096x2048 .bf16) := by
  show StableHlo.after hostOps0 (fun b => m (c, b)) (Proc.devRef .tc main_v0) = _
  after_results

theorem V_v1 (c : Dev nD) : (V m c main_v1 : Vec Ideal S4096x3072 .bf16) = (truncf .bf16 (aCt m c) bitsLt_bf16_f32 : FVec Ideal S4096x3072 .bf16) := by
  show StableHlo.after hostOps0 (fun b => m (c, b)) (Proc.devRef .tc main_v1) = _
  after_results

theorem V_arg2 (c : Dev nD) : (V m c main_arg2 : Vec Ideal S4x1024x768 .f32) = aSib m c := by
  show StableHlo.after hostOps0 (fun b => m (c, b)) (Proc.devRef .tc main_arg2) = _
  after_results

abbrev val (c : Dev nD) : Buf (Elt Ideal) ((c : Thread nD τ).loc main_v5) := G (aX m c) (aCt m c) (aSib m c)

/-- The sibling's block plus the product, entry by entry. -/
theorem pay_eq (x0 : Vec Ideal S4096x1024 .bf16) (x1 : Vec Ideal S4096x768 .bf16) (x2 : Vec Ideal S1x1024x768 .f32) (j : S1x1024x768.Idx) :
    k0_pay2 (k0_pay1 x2) x0 x1 j = x2 (ix3 (j 0) (j 1) (j 2)) + ∑ k : Fin 4096, x0 (ix2 k (j 1)) * x1 (ix2 k (j 2)) := by
  pointwise [k0_pay2, k0_pay1]

/-- What a point writes back is its block of the gradient. -/
theorem flushed_eq (c : Dev nD) (t : Fin (cfg m).N) :
    (dats m (ok m) 0 c).flushed 3 t = (((cfg m).win 3).blk t).view.read (Elt Ideal) (val m c) := by
  show ((cfg m).win 3).cut (grid0.coords t) ((dats m (ok m) 0 c).after 3 t) = _
  rw [after0_3, outsAt0]
  refine Eq.trans (congrArg (((cfg m).win 3).cut (grid0.coords t)) (out_eq c _ _ _ _ _ _ _ _ _ _ _ _ _ _)) ?_
  have h0 : ∀ j : S4096x1024.Idx, iblk m (ok m) c 0 t j = aX m c (ix2 (j 0) (col0 (j 1))) := fun j => by
    show V m c main_v0 ((((cfg m).win 0).blk t).view.emb j) = _
    rw [emb0]; exact congrFun (V_v0 m c) _
  have h1 : ∀ j : S4096x768.Idx, iblk m (ok m) c 1 t j = aCt m c (ix2 (j 0) (col1 m t (j 1))) := fun j => by
    show V m c main_v1 ((((cfg m).win 1).blk t).view.emb j) = _
    rw [emb1]; exact congrFun (V_v1 m c) _
  have h2 : ∀ j : S1x1024x768.Idx, iblk m (ok m) c 2 t j = aSib m c (ix3 (chip m t) (j 1) (j 2)) := fun j => by
    show V m c main_arg2 ((((cfg m).win 2).blk t).view.emb j) = _
    rw [emb2]; exact congrFun (V_arg2 m c) _
  refine funext fun (j : S1x1024x768.Idx) => ?_
  refine ((pay_eq (iblk m (ok m) c 0 t) (iblk m (ok m) c 1 t) (iblk m (ok m) c 2 t) j).trans ?_).trans (congrArg (val m c) (emb3 m t j)).symm
  refine congrArg₂ (· + ·) (h2 _) (Finset.sum_congr rfl fun k _ => congrArg₂ (· * ·) (h0 _) (h1 _))

/-- The blocks tile the result. -/
theorem cover (i : S4x1024x768.Idx) :
    ∃ t : Fin (cfg m).N, ((cfg m).win 3).flush t = true ∧ i ∈ (((cfg m).win 3).blk t).view.set := by
  have i0 : (i 0).val < 4 := (i 0).isLt
  have hN := N_eq m
  have ht : (i 0).val < (cfg m).N := by omega
  refine ⟨⟨_, ht⟩, flush0_3 _ _, ?_⟩
  have h := (((cfg m).win 3).blk ⟨_, ht⟩).view.emb_mem_set
    (ix3 (0 : Fin 1) (i 1) (i 2) : S1x1024x768.Idx)
  rw [emb3] at h
  refine (Eq.subst (motive := fun x => x ∈ (((cfg m).win 3).blk ⟨_, ht⟩).view.set) ?_ h)
  funext a; apply Fin.ext; symm
  match a with
  | ⟨0, _⟩ => rfl
  | ⟨1, _⟩ => rfl
  | ⟨2, _⟩ => rfl

theorem final (c : Dev nD) : (dats m (ok m) 0 c).arrAt 3 (cfg m).N = val m c :=
  (dats m (ok m) 0 c).arrAt_eq_of_cover 3 (val m c) (fun t _ => flushed_eq m c t) (cover m)

/-- The kernel's run: the gradient in the result, the arguments as launched. -/
theorem run : θ_run defs (onTc (τ := τ) (main (F := Ideal))) ⟨m, fun _ => 0, ρ⟩ fun r => ∀ c : Dev nD,
      r.2.mem ((c : Thread nD τ).loc main_v5) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 3).trans (final m c), h.2 c⟩)
    (θ_run_and (run_main m ρ (ok m)) (unchanged m ρ (ok m)))

open Cert.WInReferenceIdeal.Value Cert.WInReferenceIdeal.Read in
/-- The reference's gradient is the same function of the arguments. -/
theorem ref_eq (x : Vec Ideal S4096x2048 .f32) (ct : Vec Ideal S4096x3072 .f32) (s : Vec Ideal S4x1024x768 .f32) :
    val_main_v8 x ct s = G x ct s := by
  funext i
  pointwise [val_main_v8, val_main_v7, val_main_v6, val_main_v5, val_main_v2, val_main_v3, val_main_v2, G]
  refine congrArg (s i + ·) ?_
  pointwise [val_main_v4, val_main_v3, val_main_v2]
  exact Finset.sum_congr rfl fun k _ => mul_comm _ _

/-! ## The claims -/

theorem frame_k : Cert.quiescent_WInKernel := fun m ρ _ => Cert.WInKernel.Gen.frame m ρ (Kern.ok m)
theorem frame_ki : Cert.quiescent_WInKernelIdeal := fun m ρ _ => Cert.WInKernelIdeal.Gen.frame m ρ (ok m)
theorem frame_ri : Cert.quiescent_WInReferenceIdeal := fun m ρ _ =>
  (θ_run Cert.WInReferenceIdeal.defs _ _).mono (fun r h => ⟨fun c => (h c).2,
      Idealize.ShloMosaic.sem_eq_zero_of_no_sems (by decide) r.2⟩)
    (Cert.WInReferenceIdeal.Value.run (F := Ideal) m ρ)

theorem preserves : Cert.preserves_WInKernel_WInKernelIdeal := trivial

theorem algebraic : Cert.algebraic_WInKernelIdeal_WInReferenceIdeal := by
  intro m ρ m' ρ' _ hagree
  refine ⟨fun c => val m c, run m ρ, ?_⟩
  refine (θ_run Cert.WInReferenceIdeal.defs _ _).mono (fun _ h c => ⟨(h c).1.trans ?_, (h c).2⟩)
    (Cert.WInReferenceIdeal.Value.run (F := Ideal) m' ρ')
  rw [(hagree c).1, (hagree c).2.1, (hagree c).2.2.1]
  exact (Cert.WInReferenceIdeal.Read.val_main_v8_eq _ _ _).trans (ref_eq _ _ _)

end Cert.Proof.WIn

end
-- ==== Proof.MlpIn.lean ====
/- The squared-relu MLP's forward pass through its first product: the value claim.

   Two calls make the two results, `relu(x · w)` and its square. Each walks 4 by 4 blocks of 1024 rows and 1024 columns
   of the (4096, 8192) results: the first call the left half of the columns, the second the right half, in place,
   around what the first left. A block is the product of 1024 rows of `x` with 1024 columns of the weights, which
   are held as the four chips' shards of 2048 columns. The two halves together are the reference's results at
   every extended real, so the claim has no precondition. -/
module

public import proofs.«01_k».proof.Defs
public import proofs.«01_k».proof.Proof.Gen.MlpInKernel.Frame
public import proofs.«01_k».proof.Proof.Gen.MlpInKernelIdeal.Frame
public import proofs.«01_k».proof.Proof.Gen.MlpInReferenceIdeal.Run
public import proofs.«01_k».proof.Proof.Gen.MlpInReferenceIdeal.Read
public import Idealize.ShloMosaic.Lib.Pointwise

@[expose] public section

set_option maxRecDepth 16384

noncomputable section

namespace Cert.Proof.MlpIn

open Cert.MlpInKernelIdeal Cert.MlpInKernelIdeal.Gen
open Idealize.ShloMosaic Idealize.ShloMosaic.TcCoe Idealize.SL.Sem
open Idealize.SL Idealize.SL.RA Idealize.SL.BI Idealize.SL.BI.BIBase Idealize.SL.BI.Laws Idealize.SL.ProofMode
open Idealize.ShloMosaic.Rounds
open Idealize.ShloMosaic.Pipeline (Dat Cfg Window BodyObligation cellOf)
open scoped Idealize.SL.BI

theorem hz : (![0, 0] : Fin 2 → Nat) = fun _ => 0 := funext fun a => by fin_cases a <;> rfl
theorem hz3 : (![0, 0, 0] : Fin 3 → Nat) = fun _ => 0 := funext fun a => by fin_cases a <;> rfl

/-- The relu of the product, and its square. -/
def rAct (x : Vec Ideal S4096x2048 .f32) (w : Vec Ideal S2048x8192 .f32) : Vec Ideal S4096x8192 .bf16 := fun i =>
  max (∑ k : Fin 2048, x (ix2 (i 0) k) * w (ix2 k (i 1))) 0
def hSq (x : Vec Ideal S4096x2048 .f32) (w : Vec Ideal S2048x8192 .f32) : Vec Ideal S4096x8192 .bf16 := fun i =>
  max (∑ k : Fin 2048, x (ix2 (i 0) k) * w (ix2 k (i 1))) 0 * max (∑ k : Fin 2048, x (ix2 (i 0) k) * w (ix2 k (i 1))) 0

/-- The weights as the four chips' shards of their columns. -/
def shards (w : Vec Ideal S2048x8192 .f32) : Vec Ideal S4x2048x2048 .bf16 := fun i =>
  w (ix2 (i 1) (⟨(i 0).val * 2048 + (i 2).val, by
    have : (i 0).val < 4 := (i 0).isLt; have : (i 2).val < 2048 := (i 2).isLt; omega⟩ : Fin 8192))

/-- The two stored values of a block, entry by entry. -/
theorem pay2_eq (x0 : Vec Ideal S1024x2048 .bf16) (x1 : Vec Ideal S1x2048x1024 .bf16) (j : S1024x1024.Idx) :
    k0_pay2 x0 x1 j = max (∑ k : Fin 2048, x0 (ix2 (j 0) k) * x1 (ix3 0 k (j 1))) 0 := by
  pointwise [k0_pay2, k0_pay1]

theorem pay3_eq (x0 : Vec Ideal S1024x2048 .bf16) (x1 : Vec Ideal S1x2048x1024 .bf16) (j : S1024x1024.Idx) :
    k0_pay3 x0 x1 j = max (∑ k : Fin 2048, x0 (ix2 (j 0) k) * x1 (ix3 0 k (j 1))) 0
      * max (∑ k : Fin 2048, x0 (ix2 (j 0) k) * x1 (ix3 0 k (j 1))) 0 := by
  pointwise [k0_pay3, k0_pay1]

/-! ## The first call -/

namespace R0

/-- What a point leaves in the two results' staging buffers: the body's stored values, of the two blocks. -/
theorem out_eq2 (c : Dev nD) (i : grid0.Coords) (arg2 : Memref sig .tc .vmem S1024x2048 .bf16) (h2 : arg2.IsWhole)
    (arg3 : Memref sig .tc .vmem S1x2048x1024 .bf16) (h3 : arg3.IsWhole)
    (a : Memref sig .tc .vmem S1024x1024 .bf16) (ha : a.IsWhole) (b : Memref sig .tc .vmem S1024x1024 .bf16) (hb : b.IsWhole)
    (x0 : Vec Ideal S1024x2048 .bf16) (x1 : Vec Ideal S1x2048x1024 .bf16) :
    out0_A_2 c i arg2 h2 arg3 h3 a ha b hb x0 x1 = k0_pay2 x0 x1 := by
  unfold out0_A_2
  rw [View.read_writes_eq_canon _ _ _ (cover0_A_2 c _ _ _ _ _ _ _ _ _ _ _)]
  unfold kernelRun0_A
  dsimp only
  rw [View.canon_unit_zero hz]
  simp only [View.readAt_eq_ld, h2.read_unread, h3.read_unread, View.ld_unit_zero (S := S1024x2048) hz,
    View.ld_unit_zero (S := S1x2048x1024) hz3]

theorem out_eq3 (c : Dev nD) (i : grid0.Coords) (arg2 : Memref sig .tc .vmem S1024x2048 .bf16) (h2 : arg2.IsWhole)
    (arg3 : Memref sig .tc .vmem S1x2048x1024 .bf16) (h3 : arg3.IsWhole)
    (a : Memref sig .tc .vmem S1024x1024 .bf16) (ha : a.IsWhole) (b : Memref sig .tc .vmem S1024x1024 .bf16) (hb : b.IsWhole)
    (x0 : Vec Ideal S1024x2048 .bf16) (x1 : Vec Ideal S1x2048x1024 .bf16) :
    out0_A_3 c i arg2 h2 arg3 h3 a ha b hb x0 x1 = k0_pay3 x0 x1 := by
  unfold out0_A_3
  rw [View.read_writes_eq_canon _ _ _ (cover0_A_3 c _ _ _ _ _ _ _ _ _ _ _)]
  unfold kernelRun0_A
  dsimp only
  rw [View.canon_unit_zero hz]
  simp only [View.readAt_eq_ld, h2.read_unread, h3.read_unread, View.ld_unit_zero (S := S1024x2048) hz,
    View.ld_unit_zero (S := S1x2048x1024) hz3]

/-- Where each window's block stands at a grid point. -/
theorem idx_facts : ∀ t : Fin grid0.N,
    win0_0.index t (0 : Fin 2) = t.val % 4 ∧ win0_0.index t (1 : Fin 2) = 0
    ∧ win0_1.index t (0 : Fin 3) = (0 + t.val / 4) / 2 ∧ win0_1.index t (1 : Fin 3) = 0
    ∧ win0_1.index t (2 : Fin 3) = (0 + t.val / 4) % 2
    ∧ win0_2.index t (0 : Fin 2) = t.val % 4 ∧ win0_2.index t (1 : Fin 2) = 0 + t.val / 4
    ∧ win0_3.index t (0 : Fin 2) = t.val % 4 ∧ win0_3.index t (1 : Fin 2) = 0 + t.val / 4 := by
  decide +kernel

theorem t_lt (t : Fin cfg0.N) : t.val < 16 := by
  have h := t.isLt; have hN : cfg0.N = 16 := N_0; omega

/-- Row `a` of a point's block of rows, in the whole array. -/
def row (t : Fin cfg0.N) (a : Fin 1024) : Fin 4096 := ⟨t.val % 4 * 1024 + a.val, by omega⟩
/-- Column `a` of a point's block of columns, in the whole array; its chip, and its column in the chip's shard. -/
def col (t : Fin cfg0.N) (a : Fin 1024) : Fin 8192 := ⟨(0 + t.val / 4) * 1024 + a.val, by have := t_lt t; omega⟩
def chip (t : Fin cfg0.N) : Fin 4 := ⟨(0 + t.val / 4) / 2, by have := t_lt t; omega⟩
def shardCol (t : Fin cfg0.N) (a : Fin 1024) : Fin 2048 := ⟨(0 + t.val / 4) % 2 * 1024 + a.val, by omega⟩

theorem emb0 (t : Fin cfg0.N) (j : S1024x2048.Idx) : ((cfg0.win 0).blk t).view.emb j = ix2 (row t (j 0)) (j 1) := by
  obtain ⟨e0, e1, -⟩ := idx_facts t
  funext a; apply Fin.ext
  match a with
  | ⟨0, _⟩ => show win0_0.index t (0 : Fin 2) * 1024 + 1 * (j 0).val = t.val % 4 * 1024 + (j 0).val; omega
  | ⟨1, _⟩ => show win0_0.index t (1 : Fin 2) * 2048 + 1 * (j 1).val = (j 1).val; omega

theorem emb1 (t : Fin cfg0.N) (j : S1x2048x1024.Idx) :
    ((cfg0.win 1).blk t).view.emb j = ix3 (chip t) (j 1) (shardCol t (j 2)) := by
  obtain ⟨-, -, e0, e1, e2, -⟩ := idx_facts t
  funext a; apply Fin.ext
  match a with
  | ⟨0, _⟩ => show win0_1.index t (0 : Fin 3) * 1 + 1 * (j 0).val = (0 + t.val / 4) / 2; have : (j 0).val < 1 := (j 0).isLt; omega
  | ⟨1, _⟩ => show win0_1.index t (1 : Fin 3) * 2048 + 1 * (j 1).val = (j 1).val; omega
  | ⟨2, _⟩ => show win0_1.index t (2 : Fin 3) * 1024 + 1 * (j 2).val = (0 + t.val / 4) % 2 * 1024 + (j 2).val; omega

theorem emb2 (t : Fin cfg0.N) (j : S1024x1024.Idx) :
    ((cfg0.win 2).blk t).view.emb j = ix2 (row t (j 0)) (col t (j 1)) := by
  obtain ⟨-, -, -, -, -, e0, e1, -⟩ := idx_facts t
  funext a; apply Fin.ext
  match a with
  | ⟨0, _⟩ => show win0_2.index t (0 : Fin 2) * 1024 + 1 * (j 0).val = t.val % 4 * 1024 + (j 0).val; omega
  | ⟨1, _⟩ => show win0_2.index t (1 : Fin 2) * 1024 + 1 * (j 1).val = (0 + t.val / 4) * 1024 + (j 1).val; omega

theorem emb3 (t : Fin cfg0.N) (j : S1024x1024.Idx) :
    ((cfg0.win 3).blk t).view.emb j = ix2 (row t (j 0)) (col t (j 1)) := by
  obtain ⟨-, -, -, -, -, -, -, e0, e1⟩ := idx_facts t
  funext a; apply Fin.ext
  match a with
  | ⟨0, _⟩ => show win0_3.index t (0 : Fin 2) * 1024 + 1 * (j 0).val = t.val % 4 * 1024 + (j 0).val; omega
  | ⟨1, _⟩ => show win0_3.index t (1 : Fin 2) * 1024 + 1 * (j 1).val = (0 + t.val / 4) * 1024 + (j 1).val; omega

section
variable (V : (c : Dev nD) → (b : Ref sig .tc) → Buf (Elt Ideal) ((c : Thread nD τ).loc b)) (c : Dev nD)
  {x : Vec Ideal S4096x2048 .f32} {w : Vec Ideal S2048x8192 .f32}
  (hx : (V c main_v0 : Vec Ideal S4096x2048 .bf16) = x) (hw : (V c main_v3 : Vec Ideal S4x2048x2048 .bf16) = shards w)
include hx hw

theorem blk0 (t : Fin cfg0.N) (j : S1024x2048.Idx) : iblk0 V c 0 t j = x (ix2 (row t (j 0)) (j 1)) := by
  show V c main_v0 (((cfg0.win 0).blk t).view.emb j) = _
  rw [emb0]; exact congrFun hx _

theorem blk1 (t : Fin cfg0.N) (j : S1x2048x1024.Idx) : iblk0 V c 1 t j = w (ix2 (j 1) (col t (j 2))) := by
  show V c main_v3 (((cfg0.win 1).blk t).view.emb j) = _
  rw [emb1]; refine (congrFun hw _).trans (congrArg w (congrArg (ix2 (j 1)) (Fin.ext ?_)))
  show (0 + t.val / 4) / 2 * 2048 + ((0 + t.val / 4) % 2 * 1024 + (j 2).val) = (0 + t.val / 4) * 1024 + (j 2).val
  omega

/-- What a point writes back are its blocks of the two results. -/
theorem flushed2 (t : Fin cfg0.N) : (dat0 V c).flushed 2 t = ((cfg0.win 2).blk t).view.read (Elt Ideal) (rAct x w) := by
  show (cfg0.win 2).cut (grid0.coords t) ((dat0 V c).after 2 t) = _
  have e : (dat0 V c).after 2 t = k0_pay2 (iblk0 V c 0 t) (iblk0 V c 1 t) := by
    rw [after0_2]
    unfold outsAt0
    dsimp only
    exact out_eq2 c _ _ _ _ _ _ _ _ _ _ _
  rw [e]
  refine funext fun (j : S1024x1024.Idx) => ?_
  refine Eq.trans (pay2_eq (iblk0 V c 0 t) (iblk0 V c 1 t) j) (Eq.trans ?_ (congrArg (rAct x w) (emb2 t j)).symm)
  exact congrArg (max · (0 : EReal)) (Finset.sum_congr rfl fun k _ => congrArg₂ (· * ·) (blk0 V c hx hw t _) (blk1 V c hx hw t _))

theorem flushed3 (t : Fin cfg0.N) : (dat0 V c).flushed 3 t = ((cfg0.win 3).blk t).view.read (Elt Ideal) (hSq x w) := by
  show (cfg0.win 3).cut (grid0.coords t) ((dat0 V c).after 3 t) = _
  have e : (dat0 V c).after 3 t = k0_pay3 (iblk0 V c 0 t) (iblk0 V c 1 t) := by
    rw [after0_3]
    unfold outsAt0
    dsimp only
    exact out_eq3 c _ _ _ _ _ _ _ _ _ _ _
  rw [e]
  refine funext fun (j : S1024x1024.Idx) => ?_
  refine Eq.trans (pay3_eq (iblk0 V c 0 t) (iblk0 V c 1 t) j) (Eq.trans ?_ (congrArg (hSq x w) (emb3 t j)).symm)
  exact congrArg (fun s : EReal => max s 0 * max s 0)
    (Finset.sum_congr rfl fun k _ => congrArg₂ (· * ·) (blk0 V c hx hw t _) (blk1 V c hx hw t _))
end

/-- The blocks tile the columns below 4096 of each result. -/
theorem cover2 (i : S4096x8192.Idx) (hi : (i 1).val < 4096) :
    ∃ t : Fin cfg0.N, (cfg0.win 2).flush t = true ∧ i ∈ ((cfg0.win 2).blk t).view.set := by
  have i0 : (i 0).val < 4096 := (i 0).isLt
  have i1 : (i 1).val < 8192 := (i 1).isLt
  have hN : cfg0.N = 16 := N_0
  have ht : ((i 1).val / 1024 - 0) * 4 + (i 0).val / 1024 < cfg0.N := by omega
  refine ⟨⟨_, ht⟩, flush0_2 _, ?_⟩
  have h := ((cfg0.win 2).blk ⟨_, ht⟩).view.emb_mem_set
    (ix2 (⟨(i 0).val % 1024, by omega⟩ : Fin 1024) (⟨(i 1).val % 1024, by omega⟩ : Fin 1024) : S1024x1024.Idx)
  rw [emb2] at h
  refine (Eq.subst (motive := fun x => x ∈ ((cfg0.win 2).blk ⟨_, ht⟩).view.set) ?_ h)
  funext a; apply Fin.ext; symm
  match a with
  | ⟨0, _⟩ => show (i 0).val = (((i 1).val / 1024 - 0) * 4 + (i 0).val / 1024) % 4 * 1024 + (i 0).val % 1024; omega
  | ⟨1, _⟩ => show (i 1).val = (0 + (((i 1).val / 1024 - 0) * 4 + (i 0).val / 1024) / 4) * 1024 + (i 1).val % 1024; omega

theorem cover3 (i : S4096x8192.Idx) (hi : (i 1).val < 4096) :
    ∃ t : Fin cfg0.N, (cfg0.win 3).flush t = true ∧ i ∈ ((cfg0.win 3).blk t).view.set := by
  have i0 : (i 0).val < 4096 := (i 0).isLt
  have i1 : (i 1).val < 8192 := (i 1).isLt
  have hN : cfg0.N = 16 := N_0
  have ht : ((i 1).val / 1024 - 0) * 4 + (i 0).val / 1024 < cfg0.N := by omega
  refine ⟨⟨_, ht⟩, flush0_3 _, ?_⟩
  have h := ((cfg0.win 3).blk ⟨_, ht⟩).view.emb_mem_set
    (ix2 (⟨(i 0).val % 1024, by omega⟩ : Fin 1024) (⟨(i 1).val % 1024, by omega⟩ : Fin 1024) : S1024x1024.Idx)
  rw [emb3] at h
  refine (Eq.subst (motive := fun x => x ∈ ((cfg0.win 3).blk ⟨_, ht⟩).view.set) ?_ h)
  funext a; apply Fin.ext; symm
  match a with
  | ⟨0, _⟩ => show (i 0).val = (((i 1).val / 1024 - 0) * 4 + (i 0).val / 1024) % 4 * 1024 + (i 0).val % 1024; omega
  | ⟨1, _⟩ => show (i 1).val = (0 + (((i 1).val / 1024 - 0) * 4 + (i 0).val / 1024) / 4) * 1024 + (i 1).val % 1024; omega

end R0

/-! ## The second call -/

namespace R1

/-- What a point leaves in the two results' staging buffers: the body's stored values, of the two blocks. -/
theorem out_eq2 (c : Dev nD) (i : grid1.Coords) (arg2 : Memref sig .tc .vmem S1024x2048 .bf16) (h2 : arg2.IsWhole)
    (arg3 : Memref sig .tc .vmem S1x2048x1024 .bf16) (h3 : arg3.IsWhole)
    (a : Memref sig .tc .vmem S1024x1024 .bf16) (ha : a.IsWhole) (b : Memref sig .tc .vmem S1024x1024 .bf16) (hb : b.IsWhole)
    (x0 : Vec Ideal S1024x2048 .bf16) (x1 : Vec Ideal S1x2048x1024 .bf16) :
    out1_A_2 c i arg2 h2 arg3 h3 a ha b hb x0 x1 = k1_pay2 x0 x1 := by
  unfold out1_A_2
  rw [View.read_writes_eq_canon _ _ _ (cover1_A_2 c _ _ _ _ _ _ _ _ _ _ _)]
  unfold kernelRun1_A
  dsimp only
  rw [View.canon_unit_zero hz]
  simp only [View.readAt_eq_ld, h2.read_unread, h3.read_unread, View.ld_unit_zero (S := S1024x2048) hz,
    View.ld_unit_zero (S := S1x2048x1024) hz3]

theorem out_eq3 (c : Dev nD) (i : grid1.Coords) (arg2 : Memref sig .tc .vmem S1024x2048 .bf16) (h2 : arg2.IsWhole)
    (arg3 : Memref sig .tc .vmem S1x2048x1024 .bf16) (h3 : arg3.IsWhole)
    (a : Memref sig .tc .vmem S1024x1024 .bf16) (ha : a.IsWhole) (b : Memref sig .tc .vmem S1024x1024 .bf16) (hb : b.IsWhole)
    (x0 : Vec Ideal S1024x2048 .bf16) (x1 : Vec Ideal S1x2048x1024 .bf16) :
    out1_A_3 c i arg2 h2 arg3 h3 a ha b hb x0 x1 = k1_pay3 x0 x1 := by
  unfold out1_A_3
  rw [View.read_writes_eq_canon _ _ _ (cover1_A_3 c _ _ _ _ _ _ _ _ _ _ _)]
  unfold kernelRun1_A
  dsimp only
  rw [View.canon_unit_zero hz]
  simp only [View.readAt_eq_ld, h2.read_unread, h3.read_unread, View.ld_unit_zero (S := S1024x2048) hz,
    View.ld_unit_zero (S := S1x2048x1024) hz3]

/-- Where each window's block stands at a grid point. -/
theorem idx_facts : ∀ t : Fin grid1.N,
    win1_0.index t (0 : Fin 2) = t.val % 4 ∧ win1_0.index t (1 : Fin 2) = 0
    ∧ win1_1.index t (0 : Fin 3) = (4 + t.val / 4) / 2 ∧ win1_1.index t (1 : Fin 3) = 0
    ∧ win1_1.index t (2 : Fin 3) = (4 + t.val / 4) % 2
    ∧ win1_2.index t (0 : Fin 2) = t.val % 4 ∧ win1_2.index t (1 : Fin 2) = 4 + t.val / 4
    ∧ win1_3.index t (0 : Fin 2) = t.val % 4 ∧ win1_3.index t (1 : Fin 2) = 4 + t.val / 4 := by
  decide +kernel

theorem t_lt (t : Fin cfg1.N) : t.val < 16 := by
  have h := t.isLt; have hN : cfg1.N = 16 := N_1; omega

/-- Row `a` of a point's block of rows, in the whole array. -/
def row (t : Fin cfg1.N) (a : Fin 1024) : Fin 4096 := ⟨t.val % 4 * 1024 + a.val, by omega⟩
/-- Column `a` of a point's block of columns, in the whole array; its chip, and its column in the chip's shard. -/
def col (t : Fin cfg1.N) (a : Fin 1024) : Fin 8192 := ⟨(4 + t.val / 4) * 1024 + a.val, by have := t_lt t; omega⟩
def chip (t : Fin cfg1.N) : Fin 4 := ⟨(4 + t.val / 4) / 2, by have := t_lt t; omega⟩
def shardCol (t : Fin cfg1.N) (a : Fin 1024) : Fin 2048 := ⟨(4 + t.val / 4) % 2 * 1024 + a.val, by omega⟩

theorem emb0 (t : Fin cfg1.N) (j : S1024x2048.Idx) : ((cfg1.win 0).blk t).view.emb j = ix2 (row t (j 0)) (j 1) := by
  obtain ⟨e0, e1, -⟩ := idx_facts t
  funext a; apply Fin.ext
  match a with
  | ⟨0, _⟩ => show win1_0.index t (0 : Fin 2) * 1024 + 1 * (j 0).val = t.val % 4 * 1024 + (j 0).val; omega
  | ⟨1, _⟩ => show win1_0.index t (1 : Fin 2) * 2048 + 1 * (j 1).val = (j 1).val; omega

theorem emb1 (t : Fin cfg1.N) (j : S1x2048x1024.Idx) :
    ((cfg1.win 1).blk t).view.emb j = ix3 (chip t) (j 1) (shardCol t (j 2)) := by
  obtain ⟨-, -, e0, e1, e2, -⟩ := idx_facts t
  funext a; apply Fin.ext
  match a with
  | ⟨0, _⟩ => show win1_1.index t (0 : Fin 3) * 1 + 1 * (j 0).val = (4 + t.val / 4) / 2; have : (j 0).val < 1 := (j 0).isLt; omega
  | ⟨1, _⟩ => show win1_1.index t (1 : Fin 3) * 2048 + 1 * (j 1).val = (j 1).val; omega
  | ⟨2, _⟩ => show win1_1.index t (2 : Fin 3) * 1024 + 1 * (j 2).val = (4 + t.val / 4) % 2 * 1024 + (j 2).val; omega

theorem emb2 (t : Fin cfg1.N) (j : S1024x1024.Idx) :
    ((cfg1.win 2).blk t).view.emb j = ix2 (row t (j 0)) (col t (j 1)) := by
  obtain ⟨-, -, -, -, -, e0, e1, -⟩ := idx_facts t
  funext a; apply Fin.ext
  match a with
  | ⟨0, _⟩ => show win1_2.index t (0 : Fin 2) * 1024 + 1 * (j 0).val = t.val % 4 * 1024 + (j 0).val; omega
  | ⟨1, _⟩ => show win1_2.index t (1 : Fin 2) * 1024 + 1 * (j 1).val = (4 + t.val / 4) * 1024 + (j 1).val; omega

theorem emb3 (t : Fin cfg1.N) (j : S1024x1024.Idx) :
    ((cfg1.win 3).blk t).view.emb j = ix2 (row t (j 0)) (col t (j 1)) := by
  obtain ⟨-, -, -, -, -, -, -, e0, e1⟩ := idx_facts t
  funext a; apply Fin.ext
  match a with
  | ⟨0, _⟩ => show win1_3.index t (0 : Fin 2) * 1024 + 1 * (j 0).val = t.val % 4 * 1024 + (j 0).val; omega
  | ⟨1, _⟩ => show win1_3.index t (1 : Fin 2) * 1024 + 1 * (j 1).val = (4 + t.val / 4) * 1024 + (j 1).val; omega

section
variable (V : (c : Dev nD) → (b : Ref sig .tc) → Buf (Elt Ideal) ((c : Thread nD τ).loc b)) (c : Dev nD)
  {x : Vec Ideal S4096x2048 .f32} {w : Vec Ideal S2048x8192 .f32}
  (hx : (V c main_v0 : Vec Ideal S4096x2048 .bf16) = x) (hw : (V c main_v3 : Vec Ideal S4x2048x2048 .bf16) = shards w)
include hx hw

theorem blk0 (t : Fin cfg1.N) (j : S1024x2048.Idx) : iblk1 V c 0 t j = x (ix2 (row t (j 0)) (j 1)) := by
  show V c main_v0 (((cfg1.win 0).blk t).view.emb j) = _
  rw [emb0]; exact congrFun hx _

theorem blk1 (t : Fin cfg1.N) (j : S1x2048x1024.Idx) : iblk1 V c 1 t j = w (ix2 (j 1) (col t (j 2))) := by
  show V c main_v3 (((cfg1.win 1).blk t).view.emb j) = _
  rw [emb1]; refine (congrFun hw _).trans (congrArg w (congrArg (ix2 (j 1)) (Fin.ext ?_)))
  show (4 + t.val / 4) / 2 * 2048 + ((4 + t.val / 4) % 2 * 1024 + (j 2).val) = (4 + t.val / 4) * 1024 + (j 2).val
  omega

/-- What a point writes back are its blocks of the two results. -/
theorem flushed2 (t : Fin cfg1.N) : (dat1 V c).flushed 2 t = ((cfg1.win 2).blk t).view.read (Elt Ideal) (rAct x w) := by
  show (cfg1.win 2).cut (grid1.coords t) ((dat1 V c).after 2 t) = _
  have e : (dat1 V c).after 2 t = k1_pay2 (iblk1 V c 0 t) (iblk1 V c 1 t) := by
    rw [after1_2]
    unfold outsAt1
    dsimp only
    exact out_eq2 c _ _ _ _ _ _ _ _ _ _ _
  rw [e]
  refine funext fun (j : S1024x1024.Idx) => ?_
  refine Eq.trans (pay2_eq (iblk1 V c 0 t) (iblk1 V c 1 t) j) (Eq.trans ?_ (congrArg (rAct x w) (emb2 t j)).symm)
  exact congrArg (max · (0 : EReal)) (Finset.sum_congr rfl fun k _ => congrArg₂ (· * ·) (blk0 V c hx hw t _) (blk1 V c hx hw t _))

theorem flushed3 (t : Fin cfg1.N) : (dat1 V c).flushed 3 t = ((cfg1.win 3).blk t).view.read (Elt Ideal) (hSq x w) := by
  show (cfg1.win 3).cut (grid1.coords t) ((dat1 V c).after 3 t) = _
  have e : (dat1 V c).after 3 t = k1_pay3 (iblk1 V c 0 t) (iblk1 V c 1 t) := by
    rw [after1_3]
    unfold outsAt1
    dsimp only
    exact out_eq3 c _ _ _ _ _ _ _ _ _ _ _
  rw [e]
  refine funext fun (j : S1024x1024.Idx) => ?_
  refine Eq.trans (pay3_eq (iblk1 V c 0 t) (iblk1 V c 1 t) j) (Eq.trans ?_ (congrArg (hSq x w) (emb3 t j)).symm)
  exact congrArg (fun s : EReal => max s 0 * max s 0)
    (Finset.sum_congr rfl fun k _ => congrArg₂ (· * ·) (blk0 V c hx hw t _) (blk1 V c hx hw t _))
end

/-- The blocks tile the columns from 4096 on of each result. -/
theorem cover2 (i : S4096x8192.Idx) (hi : 4096 ≤ (i 1).val) :
    ∃ t : Fin cfg1.N, (cfg1.win 2).flush t = true ∧ i ∈ ((cfg1.win 2).blk t).view.set := by
  have i0 : (i 0).val < 4096 := (i 0).isLt
  have i1 : (i 1).val < 8192 := (i 1).isLt
  have hN : cfg1.N = 16 := N_1
  have ht : ((i 1).val / 1024 - 4) * 4 + (i 0).val / 1024 < cfg1.N := by omega
  refine ⟨⟨_, ht⟩, flush1_2 _, ?_⟩
  have h := ((cfg1.win 2).blk ⟨_, ht⟩).view.emb_mem_set
    (ix2 (⟨(i 0).val % 1024, by omega⟩ : Fin 1024) (⟨(i 1).val % 1024, by omega⟩ : Fin 1024) : S1024x1024.Idx)
  rw [emb2] at h
  refine (Eq.subst (motive := fun x => x ∈ ((cfg1.win 2).blk ⟨_, ht⟩).view.set) ?_ h)
  funext a; apply Fin.ext; symm
  match a with
  | ⟨0, _⟩ => show (i 0).val = (((i 1).val / 1024 - 4) * 4 + (i 0).val / 1024) % 4 * 1024 + (i 0).val % 1024; omega
  | ⟨1, _⟩ => show (i 1).val = (4 + (((i 1).val / 1024 - 4) * 4 + (i 0).val / 1024) / 4) * 1024 + (i 1).val % 1024; omega

theorem cover3 (i : S4096x8192.Idx) (hi : 4096 ≤ (i 1).val) :
    ∃ t : Fin cfg1.N, (cfg1.win 3).flush t = true ∧ i ∈ ((cfg1.win 3).blk t).view.set := by
  have i0 : (i 0).val < 4096 := (i 0).isLt
  have i1 : (i 1).val < 8192 := (i 1).isLt
  have hN : cfg1.N = 16 := N_1
  have ht : ((i 1).val / 1024 - 4) * 4 + (i 0).val / 1024 < cfg1.N := by omega
  refine ⟨⟨_, ht⟩, flush1_3 _, ?_⟩
  have h := ((cfg1.win 3).blk ⟨_, ht⟩).view.emb_mem_set
    (ix2 (⟨(i 0).val % 1024, by omega⟩ : Fin 1024) (⟨(i 1).val % 1024, by omega⟩ : Fin 1024) : S1024x1024.Idx)
  rw [emb3] at h
  refine (Eq.subst (motive := fun x => x ∈ ((cfg1.win 3).blk ⟨_, ht⟩).view.set) ?_ h)
  funext a; apply Fin.ext; symm
  match a with
  | ⟨0, _⟩ => show (i 0).val = (((i 1).val / 1024 - 4) * 4 + (i 0).val / 1024) % 4 * 1024 + (i 0).val % 1024; omega
  | ⟨1, _⟩ => show (i 1).val = (4 + (((i 1).val / 1024 - 4) * 4 + (i 0).val / 1024) / 4) * 1024 + (i 1).val % 1024; omega

end R1

/-! ## The two calls together -/

variable (m : (ℓ : Loc nD τ sig) → Buf (Elt Ideal) ℓ) (ρ : Dev nD → PrngReg)

/-- The launch's arrays: the activations and the weights. -/
abbrev aX (c : Dev nD) : Vec Ideal S4096x2048 .f32 := m ((c : Thread nD τ).loc main_arg0)
abbrev aW (c : Dev nD) : Vec Ideal S2048x8192 .f32 := m ((c : Thread nD τ).loc main_arg1)

/-- What the host code leaves in the two arrays that the calls stage. -/
theorem V1_x (c : Dev nD) : (V1 m ρ c main_v0 : Vec Ideal S4096x2048 .bf16) = aX m c := by
  show StableHlo.after hostOps0 (W0 m ρ c) (Proc.devRef .tc main_v0) = _
  after_results
  rfl

theorem V1_w (c : Dev nD) : (V1 m ρ c main_v3 : Vec Ideal S4x2048x2048 .bf16) = shards (aW m c) := by
  have h : (V1 m ρ c main_v3 : Vec Ideal S4x2048x2048 .bf16)
      = transpose S4x2048x2048 [1, 0, 2] (shapeCast S2048x4x2048 (truncf .bf16 (aW m c) bitsLt_bf16_f32 : FVec Ideal S2048x8192 .bf16)
          shapeCasts_S2048x8192_S2048x4x2048) transposes_S2048x4x2048_S4x2048x2048_1_0_2 := by
    show StableHlo.after hostOps0 (W0 m ρ c) (Proc.devRef .tc main_v3) = _
    after_results
    rfl
  rw [h]
  funext i
  pointwise [shards]

theorem V3_x (c : Dev nD) : (V3 m ρ c main_v0 : Vec Ideal S4096x2048 .bf16) = aX m c :=
  (W3_of m ρ c main_v0 (by decide)).trans ((W2_of m ρ c main_v0 (by decide)).trans (V1_x m ρ c))
theorem V3_w (c : Dev nD) : (V3 m ρ c main_v3 : Vec Ideal S4x2048x2048 .bf16) = shards (aW m c) :=
  (W3_of m ρ c main_v3 (by decide)).trans ((W2_of m ρ c main_v3 (by decide)).trans (V1_w m ρ c))

/-- The second call finds in its results what the first left in its own. -/
theorem V3_r (c : Dev nD) : (V3 m ρ c main_v5_0 : Vec Ideal S4096x8192 .bf16) = (dat0 (V1 m ρ) c).arrAt 2 cfg0.N := by
  refine Eq.trans ?_ (W2_arr m ρ c 2)
  show StableHlo.after hostOps1 (W2 m ρ c) (Proc.devRef .tc main_v5_0) = W2 m ρ c (Proc.devRef .tc main_v4_0)
  after_results
  rfl
theorem V3_q (c : Dev nD) : (V3 m ρ c main_v5_1 : Vec Ideal S4096x8192 .bf16) = (dat0 (V1 m ρ) c).arrAt 3 cfg0.N := by
  refine Eq.trans ?_ (W2_arr m ρ c 3)
  show StableHlo.after hostOps1 (W2 m ρ c) (Proc.devRef .tc main_v5_1) = W2 m ρ c (Proc.devRef .tc main_v4_1)
  after_results
  rfl

theorem final2 (c : Dev nD) : (dat1 (V3 m ρ) c).arrAt 2 cfg1.N = rAct (aX m c) (aW m c) := by
  have hG := fun t (_ : (cfg1.win 2).flush t = true) => R1.flushed2 (V3 m ρ) c (V3_x m ρ c) (V3_w m ρ c) t
  refine funext fun (i : S4096x8192.Idx) => ((dat1 (V3 m ρ) c).arrAt_eq_piecewise 2 (rAct (aX m c) (aW m c)) hG i).trans ?_
  split_ifs with h
  · rfl
  have hi : (i 1).val < 4096 := by_contra fun hn => h (R1.cover2 i (by omega))
  refine (congrFun ((A_eq1 (V3 m ρ) c 2).trans (V3_r m ρ c)) i).trans ?_
  obtain ⟨t, hf, ht⟩ := R0.cover2 i hi
  exact (dat0 (V1 m ρ) c).arrAt_apply_of_mem 2 (rAct (aX m c) (aW m c))
    (fun t _ => R0.flushed2 (V1 m ρ) c (V1_x m ρ c) (V1_w m ρ c) t) cfg0.N t i t.isLt hf ht

theorem final3 (c : Dev nD) : (dat1 (V3 m ρ) c).arrAt 3 cfg1.N = hSq (aX m c) (aW m c) := by
  have hG := fun t (_ : (cfg1.win 3).flush t = true) => R1.flushed3 (V3 m ρ) c (V3_x m ρ c) (V3_w m ρ c) t
  refine funext fun (i : S4096x8192.Idx) => ((dat1 (V3 m ρ) c).arrAt_eq_piecewise 3 (hSq (aX m c) (aW m c)) hG i).trans ?_
  split_ifs with h
  · rfl
  have hi : (i 1).val < 4096 := by_contra fun hn => h (R1.cover3 i (by omega))
  refine (congrFun ((A_eq1 (V3 m ρ) c 3).trans (V3_q m ρ c)) i).trans ?_
  obtain ⟨t, hf, ht⟩ := R0.cover3 i hi
  exact (dat0 (V1 m ρ) c).arrAt_apply_of_mem 3 (hSq (aX m c) (aW m c))
    (fun t _ => R0.flushed3 (V1 m ρ) c (V1_x m ρ c) (V1_w m ρ c) t) cfg0.N t i t.isLt hf ht

local notation "𝕄" => MT nD τ sig Unit (Elt Ideal) ℕ (UR sig nD τ) ℕ

set_option backward.isDefEq.respectTransparency.types false in
/-- The run: the two results at their values, the arguments as launched. -/
theorem run : θ_run defs (onTc (τ := τ) (main (F := Ideal))) ⟨m, fun _ => 0, ρ⟩ fun r => ∀ c : Dev nD,
      r.2.mem ((c : Thread nD τ).loc main_v5_0) = rAct (aX m c) (aW m c)
      ∧ r.2.mem ((c : Thread nD τ).loc main_v5_1) = hSq (aX m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨((h c _ (mem_uc main_v5_0 (by decide))).trans (W4_arr m ρ c 2)).trans (final2 m ρ c),
       ((h c _ (mem_uc main_v5_1 (by decide))).trans (W4_arr m ρ c 3)).trans (final3 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

open Cert.MlpInReferenceIdeal.Value Cert.MlpInReferenceIdeal.Read in
/-- The reference's results are the same functions of the arguments. -/
theorem ref_r (x : Vec Ideal S4096x2048 .f32) (w : Vec Ideal S2048x8192 .f32) : val_main_v2 x w = rAct x w := by
  funext i
  pointwise [val_main_v2, val_main_v1, val_main_v0, val_main_call0_v0, val_main_call0_cst, rAct]

open Cert.MlpInReferenceIdeal.Value Cert.MlpInReferenceIdeal.Read in
theorem ref_q (x : Vec Ideal S4096x2048 .f32) (w : Vec Ideal S2048x8192 .f32) : val_main_v5 x w = hSq x w := by
  funext i
  pointwise [val_main_v5, val_main_v4, val_main_v3, val_main_v0, val_main_call1_v0, val_main_call1_cst, hSq]

/-! ## The claims -/

theorem frame_k : Cert.quiescent_MlpInKernel := fun m ρ _ => Cert.MlpInKernel.Gen.frame m ρ
theorem frame_ki : Cert.quiescent_MlpInKernelIdeal := fun m ρ _ => Cert.MlpInKernelIdeal.Gen.frame m ρ
theorem frame_ri : Cert.quiescent_MlpInReferenceIdeal := fun m ρ _ =>
  (θ_run Cert.MlpInReferenceIdeal.defs _ _).mono (fun r h => ⟨fun c => (h c).2.2,
      Idealize.ShloMosaic.sem_eq_zero_of_no_sems (by decide) r.2⟩)
    (Cert.MlpInReferenceIdeal.Value.run (F := Ideal) m ρ)

theorem preserves : Cert.preserves_MlpInKernel_MlpInKernelIdeal := trivial

theorem algebraic : Cert.algebraic_MlpInKernelIdeal_MlpInReferenceIdeal := by
  intro m ρ m' ρ' _ hagree
  refine ⟨fun c => rAct (aX m c) (aW m c), fun c => hSq (aX m c) (aW m c), run m ρ, ?_⟩
  refine (θ_run Cert.MlpInReferenceIdeal.defs _ _).mono (fun _ h c => ⟨(h c).1.trans ?_, (h c).2.1.trans ?_, (h c).2.2⟩)
    (Cert.MlpInReferenceIdeal.Value.run (F := Ideal) m' ρ')
  · rw [(hagree c).1, (hagree c).2.1]
    exact (Cert.MlpInReferenceIdeal.Read.val_main_v2_eq _ _).trans (ref_r _ _)
  · rw [(hagree c).1, (hagree c).2.1]
    exact (Cert.MlpInReferenceIdeal.Read.val_main_v5_eq _ _).trans (ref_q _ _)

end Cert.Proof.MlpIn

end
-- ==== Proof.DxRun.lean ====
/-
# Gradient at the block's input: one run of the body

The first point copies the four shards of the gathered input weight into scratch memory, side by side; every point
then multiplies its block of rows by that weight. Both triples are stated over any values.
-/
module

public import proofs.«01_k».proof.Proof.Gen.DxKernelIdeal.Frame.Runs
public import Idealize.ShloMosaic.Lib.Pointwise
public import Idealize.ShloMosaic.Lib.ValueLayout
public import Idealize.ShloMosaic.Lib.VecWindow
public import Idealize.ShloMosaic.Lib.Pipeline.ValueKit.Tiles

@[expose] public section

set_option maxRecDepth 16384

noncomputable section

namespace Cert.Proof.Dx

open Cert.DxKernelIdeal Cert.DxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Shard `k` of the gathered weight. -/
def shard (g : Vec F S4x2048x768 .bf16) (k : Fin 4) : Vec F S2048x768 .bf16 := fun y => g (ix3 k (y 0) (y 1))

/-- The four shards side by side: column `j` is column `j % 768` of shard `j / 768`. -/
def joined (g : Vec F S4x2048x768 .bf16) : Vec F S2048x3072 .bf16 := fun i =>
  g (ix3 (⟨(i 1).val / 768, by have : (i 1).val < 3072 := (i 1).isLt; omega⟩ : Fin 4) (i 0)
    (⟨(i 1).val % 768, Nat.mod_lt _ (by norm_num)⟩ : Fin 768))

/-- The copy's source for shard `k`, the gathered weight cut at its first index and that index dropped, reads as shard `k`. -/
theorem read_shard (k : Fin 4) (c : Dev nD) (g : HbBuf0 (F := F) c hbM0_0) (off : Fin 3 → Nat) (hoff : off = ![k.val, 0, 0])
    (inb : ∀ a, off a + S1x2048x768.size a ≤ S4x2048x768.size a) (h) :
    View.read (Elt F) (((Memref.whole main_v2).slice (Rect.unit off S1x2048x768.size inb) h).squeeze
        S2048x768 squeezes_S1x2048x768_S2048x768).view g = shard g k := by
  subst hoff
  funext y
  obtain ⟨a, b, rfl⟩ : ∃ a b, y = ix2 a b := ⟨y 0, y 1, by funext d; fin_cases d <;> rfl⟩
  show g ((Rect.unit (s := S4x2048x768) ![k.val, 0, 0] S1x2048x768.size inb).emb
    (Shape.reshapeEquiv squeezes_S1x2048x768_S2048x768.numel_eq (ix2 a b))) = g _
  refine (congrArg (fun t => g ((Rect.unit (s := S4x2048x768) ![k.val, 0, 0] S1x2048x768.size inb).emb t))
    (ValueIdx.reshapeEquiv_ix2_1ab squeezes_S1x2048x768_S2048x768.numel_eq a b)).trans ?_
  show g _ = g _
  congr 1
  funext d
  apply Fin.ext
  fin_cases d
  · show k.val + 1 * 0 = k.val; omega
  · show 0 + 1 * a.val = a.val; omega
  · show 0 + 1 * b.val = b.val; omega

theorem shard_eq_joined (g : Vec F S4x2048x768 .bf16) (k : Fin 4) (x : S2048x768.Idx) (y : S2048x3072.Idx)
    (h0 : (y 0).val = (x 0).val) (h1 : (y 1).val = 768 * k.val + (x 1).val) : shard g k x = joined g y := by
  have b : (x 1).val < 768 := (x 1).isLt
  show g _ = g _
  congr 1
  funext d
  apply Fin.ext
  fin_cases d
  · show k.val = (y 1).val / 768; omega
  · show (x 0).val = (y 0).val; omega
  · show (x 1).val = (y 1).val % 768; omega

/-- What the four copies leave in the scratch weight, last first. -/
abbrev pieces (g : Vec F S4x2048x768 .bf16) : List (View.Piece (Elt F) S2048x3072 .bf16) :=
  [⟨Rect.unit ![0, 2304] S2048x768.size inb_S2048x3072_S2048x768_0_2304, shard g 3⟩,
    ⟨Rect.unit ![0, 1536] S2048x768.size inb_S2048x3072_S2048x768_0_1536, shard g 2⟩,
    ⟨Rect.unit ![0, 768] S2048x768.size inb_S2048x3072_S2048x768_0_768, shard g 1⟩,
    ⟨Rect.unit ![0, 0] S2048x768.size inb_S2048x3072_S2048x768_0_0, shard g 0⟩]

theorem pieces_cover (g : Vec F S4x2048x768 .bf16) (y : S2048x3072.Idx) : ∃ p ∈ pieces g, y ∈ p.1.set :=
  View.cover_of_tiledL (pieces g) S2048x768.size (by sl_kernel_rfl) y

/-- The four copies together leave the shards side by side. -/
theorem canon_pieces (g : Vec F S4x2048x768 .bf16) : View.canon (pieces g) = joined g := by
  funext y
  refine View.canon_eq_of_allAt _ y _ (pieces_cover g y) ?_
  refine View.allAt_cons_unit _ _ _ _ _ (fun x hx => shard_eq_joined g 3 x y ?_ ?_)
    (View.allAt_cons_unit _ _ _ _ _ (fun x hx => shard_eq_joined g 2 x y ?_ ?_)
    (View.allAt_cons_unit _ _ _ _ _ (fun x hx => shard_eq_joined g 1 x y ?_ ?_)
    (View.allAt_cons_unit _ _ _ _ _ (fun x hx => shard_eq_joined g 0 x y ?_ ?_) (View.allAt_nil _ _))))
  all_goals first | exact (hx 0).trans (Nat.zero_add _) | exact hx 1

theorem hz : (![0, 0] : Fin 2 → Nat) = fun _ => 0 := funext fun a => by fin_cases a <;> rfl

/-- One store of the whole block leaves its payload. -/
theorem read_store (v : View sig .tc .vmem S512x2048 .f32) (f : BufTy.Contents (Elt F) v.ty) (w : Vec F S512x2048 .f32) :
    View.read (Elt F) v (v.writes (Elt F) f [⟨Rect.unit ![0, 0] ![512, 2048] inb_S512x2048_S512x2048_0_0, w⟩]) = w := by
  rw [View.read_writes_eq_canon _ _ _ (fun y => ⟨_, List.mem_singleton_self _,
    View.mem_set_unit_zero hz inb_S512x2048_S512x2048_0_0 y⟩)]
  exact View.canon_unit_zero hz _ _

set_option sl_exec.dmaWindow true in
set_option sl_exec.dmaWindowSet true in
set_option maxHeartbeats 1000000 in
/-- The first point: the shards are copied into the scratch weight, whatever it held, and the block is multiplied. -/
theorem run_first (c : Dev nD) (i : grid0.Coords) (arg1 : Memref sig .tc .vmem S512x3072 .bf16) (harg1 : arg1.IsWhole)
    (arg3 : Memref sig .tc .vmem S512x2048 .f32) (harg3 : arg3.IsWhole)
    (arg5 : Memref sig .tc .vmem S512x2048 .f32) (harg5 : arg5.IsWhole)
    (arg6 : Memref sig .tc .vmem S2048x3072 .bf16) (harg6 : arg6.IsWhole) (hc0 : cond0_0 i)
    (x0 : Vec F S512x3072 .bf16) (x1 : Vec F S512x2048 .f32) (g : HbBuf0 (F := F) c hbM0_0)
    (z : HbBuf0 (F := F) c hbM0_1) (W : Waits sig Unit) (K : PUnit → sProp 𝕄) :
    iprop(owns (c : Thread nD τ) arg1 fullShare x0 ∗ owns (c : Thread nD τ) arg3 fullShare x1
        ∗ (∃ d, owns (c : Thread nD τ) arg5 fullShare d) ∗ (∃ d, owns (c : Thread nD τ) arg6 fullShare d)
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0
        ∗ hbPt0 c hbM0_0 g ∗ hbPt0 c hbM0_1 z ∗ owes (c : Thread nD τ) 0 W
        ∗ (iprop(owns (c : Thread nD τ) arg1 fullShare x0 ∗ owns (c : Thread nD τ) arg3 fullShare x1
            ∗ owns (c : Thread nD τ) arg5 fullShare (k0_pay1 x1 x0 (joined g))
            ∗ owns (c : Thread nD τ) arg6 fullShare (joined g)
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ hbPt0 c hbM0_0 g ∗ hbPt0 c hbM0_1 z ∗ (∃ W', owes (c : Thread nD τ) 0 W')) -∗ K ⟨⟩))
      ⊢ wp frame (wpE (defs₀ (F := F)) Variants.none c none) Set.univ
          (cc0_grad_x i arg1 harg1 (Memref.whole main_v2) (Memref.isWhole_whole _) arg3 harg3 (Memref.whole main_arg3)
            (Memref.isWhole_whole _) arg5 harg5 arg6 harg6 cc0_scratch1) K := by
  simp only [cc0_grad_x_eq_skeleton]; unfold cc0_grad_x_skel
  simp only [k0_part1_eq_skeleton]
  unfold owns
  iintro ⟨⟨%f0, %hf0, H0⟩, ⟨%f1, %hf1, H1⟩, ⟨%d2, %f2, -, H2⟩, ⟨%ds0, %fs0, -, HS0⟩, Hq0, Hq1, Hq2, Hq3, Hh0, Hh1,
    HW, Hk⟩
  obtain rfl := harg1.eq_unread hf0; obtain rfl := harg3.eq_unread hf1
  sl_exec (disch := first | sl_exact hc0)
  have e0 : run_first.sl.dma0 c g = shard g 0 := read_shard 0 c g _ rfl inb_S4x2048x768_S1x2048x768_0_0_0 _
  have e1 : run_first.sl.dma0_1 c g = shard g 1 := read_shard 1 c g _ rfl inb_S4x2048x768_S1x2048x768_1_0_0 _
  have e2 : run_first.sl.dma0_2 c g = shard g 2 := read_shard 2 c g _ rfl inb_S4x2048x768_S1x2048x768_2_0_0 _
  have e3 : run_first.sl.dma0_3 c g = shard g 3 := read_shard 3 c g _ rfl inb_S4x2048x768_S1x2048x768_3_0_0 _
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr
    swap; · iexact H2
    ipureintro
    refine (read_store _ _ _).trans ?_
    congr 1
    · exact (View.readAt_full arg3.view _ inb_S512x2048_S512x2048_0_0).trans (harg3.read_unread _)
    · exact (View.readAt_full arg1.view _ inb_S512x3072_S512x3072_0_0).trans (harg1.read_unread _)
    · unfold run_first.sl.v8
      rw [e0, e1, e2, e3]
      refine (View.readCov_eq_canon_ld _ (pieces g) _ (pieces_cover g)).trans ?_
      rw [canon_pieces]
      exact View.ld_unit_zero hz inb_S2048x3072_S2048x3072_0_0 (joined g)
  isplitl [HS0]
  · iexists _; isplitr
    swap; · iexact HS0
    ipureintro
    rw [e0, e1, e2, e3]
    exact (View.read_writes_eq_canon _ _ (pieces g) (pieces_cover g)).trans (canon_pieces g)
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

set_option maxHeartbeats 1000000 in
/-- Every later point: the scratch weight stays as it is. -/
theorem run_rest (c : Dev nD) (i : grid0.Coords) (arg1 : Memref sig .tc .vmem S512x3072 .bf16) (harg1 : arg1.IsWhole)
    (arg3 : Memref sig .tc .vmem S512x2048 .f32) (harg3 : arg3.IsWhole)
    (arg5 : Memref sig .tc .vmem S512x2048 .f32) (harg5 : arg5.IsWhole)
    (arg6 : Memref sig .tc .vmem S2048x3072 .bf16) (harg6 : arg6.IsWhole) (hc0 : ¬cond0_0 i)
    (x0 : Vec F S512x3072 .bf16) (x1 : Vec F S512x2048 .f32) (w : Vec F S2048x3072 .bf16) (g : HbBuf0 (F := F) c hbM0_0)
    (z : HbBuf0 (F := F) c hbM0_1) (W : Waits sig Unit) (K : PUnit → sProp 𝕄) :
    iprop(owns (c : Thread nD τ) arg1 fullShare x0 ∗ owns (c : Thread nD τ) arg3 fullShare x1
        ∗ (∃ d, owns (c : Thread nD τ) arg5 fullShare d) ∗ owns (c : Thread nD τ) arg6 fullShare w
        ∗ semVal ((c : Thread nD τ), SemLoc.dma 6) 0 ∗ semVal ((c : Thread nD τ), SemLoc.dma 7) 0
        ∗ semVal ((c : Thread nD τ), SemLoc.dma 8) 0 ∗ semVal ((c : Thread nD τ), SemLoc.dma 9) 0
        ∗ hbPt0 c hbM0_0 g ∗ hbPt0 c hbM0_1 z ∗ owes (c : Thread nD τ) 0 W
        ∗ (iprop(owns (c : Thread nD τ) arg1 fullShare x0 ∗ owns (c : Thread nD τ) arg3 fullShare x1
            ∗ owns (c : Thread nD τ) arg5 fullShare (k0_pay1 x1 x0 w)
            ∗ owns (c : Thread nD τ) arg6 fullShare w
            ∗ semVal ((c : Thread nD τ), SemLoc.dma 6) 0 ∗ semVal ((c : Thread nD τ), SemLoc.dma 7) 0
            ∗ semVal ((c : Thread nD τ), SemLoc.dma 8) 0 ∗ semVal ((c : Thread nD τ), SemLoc.dma 9) 0
            ∗ hbPt0 c hbM0_0 g ∗ hbPt0 c hbM0_1 z ∗ (∃ W', owes (c : Thread nD τ) 0 W')) -∗ K ⟨⟩))
      ⊢ wp frame (wpE (defs₀ (F := F)) Variants.none c none) Set.univ
          (cc0_grad_x i arg1 harg1 (Memref.whole main_v2) (Memref.isWhole_whole _) arg3 harg3 (Memref.whole main_arg3)
            (Memref.isWhole_whole _) arg5 harg5 arg6 harg6 cc0_scratch1) K := by
  simp only [cc0_grad_x_eq_skeleton]; unfold cc0_grad_x_skel
  simp only [k0_part1_eq_skeleton]
  unfold owns
  iintro ⟨⟨%f0, %hf0, H0⟩, ⟨%f1, %hf1, H1⟩, ⟨%d2, %f2, -, H2⟩, ⟨%fs0, %hs0, HS0⟩, Hq0, Hq1, Hq2, Hq3, Hh0, Hh1, HW, Hk⟩
  obtain rfl := harg1.eq_unread hf0; obtain rfl := harg3.eq_unread hf1; obtain rfl := harg6.eq_unread hs0
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr
    swap; · iexact H2
    ipureintro
    refine (read_store _ _ _).trans ?_
    congr 1
    · exact (View.readAt_full arg3.view _ inb_S512x2048_S512x2048_0_0).trans (harg3.read_unread _)
    · exact (View.readAt_full arg1.view _ inb_S512x3072_S512x3072_0_0).trans (harg1.read_unread _)
    · exact (View.readAt_full arg6.view _ inb_S2048x3072_S2048x3072_0_0).trans (harg6.read_unread _)
  isplitl [HS0]
  · iexists _; isplitr
    swap; · iexact HS0
    ipureintro
    exact harg6.read_unread _
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  iexists _; iexact HW

end Cert.Proof.Dx

end
-- ==== Proof.DxFrame.lean ====
/- Gradient at the block's input: the run of the whole call.

   Between the points the scratch memory holds the gathered weight, its shards side by side, from the first point on.
   The block of the result at a point is that point's block of the cotangent, scaled, plus the product of its rows with
   the weight. The frame claims of the printed program and of its idealized text are this one run. -/
module

public import proofs.«01_k».proof.Proof.DxRun
public import proofs.«01_k».proof.Proof.Gen.DxKernel.Launch
public import Idealize.ShloMosaic.Lib.Claim

@[expose] public section

set_option maxRecDepth 16384

noncomputable section

namespace Cert.Proof.Dx

open Cert.DxKernelIdeal Cert.DxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weight as the first point leaves it in the scratch memory. -/
abbrev weight (c : Dev nD) : Vec F S2048x3072 .bf16 := joined (V m c main_v2)

/-- The body's own resources, the scratch memory given apart. -/
abbrev aside (c : Dev nD) : sProp 𝕄 :=
  iprop((∃ r, prngReg c r)
    ∗ iprop(semVal ((c : Thread nD τ), SemLoc.dma 6) 0 ∗ semVal ((c : Thread nD τ), SemLoc.dma 7) 0
      ∗ semVal ((c : Thread nD τ), SemLoc.dma 8) 0 ∗ semVal ((c : Thread nD τ), SemLoc.dma 9) 0)
    ∗ iprop(hbPt0 c hbM0_0 (V m c main_v2) ∗ hbPt0 c hbM0_1 (V m c main_arg3)))

/-- Before point `n`: what the launch gives at first, and the weight in the scratch memory from then on. -/
def between (c : Dev nD) : ℕ → sProp 𝕄
  | 0 => Pipeline.ΦD osem0 spec0 H0 (V m) c
  | _ + 1 => iprop(iprop(owns (c : Thread nD τ) scM0_0 fullShare (weight m c)) ∗ aside m c)

theorem between_zero (c : Dev nD) (n : ℕ) (h : n = 0) : between m c n = Pipeline.ΦD osem0 spec0 H0 (V m) c := by
  subst h; rfl

theorem between_pos (c : Dev nD) (n : ℕ) (h : n ≠ 0) :
    between m c n = iprop(iprop(owns (c : Thread nD τ) scM0_0 fullShare (weight m c)) ∗ aside m c) := by
  cases n with
  | zero => exact absurd rfl h
  | succ n => rfl

/-- The block of the result at point `t`. -/
abbrev block (c : Dev nD) (t : Fin cfg0.N) : Vec F S512x2048 .f32 := k0_pay1 (iblk m c 1 t) (iblk m c 0 t) (weight m c)

/-- The proof data: inputs stay at their blocks, the output's buffer holds `block`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => block m c t
  Φ t := between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = block m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 3200000 in
/-- The body at any point: the first by `run_first`, the others by `run_rest`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = between m c (t.val + 1) from rfl, between_pos m c _ (Nat.succ_ne_zero _),
    show (dats m 0 c).Φ t.castSucc = between m c t.val from rfl, after0_0, after0_1, after0_2]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases ht : t.val = 0
  · have h0 : cond0_0 (grid0.coords t) := (hcond0_0 t).mpr (by omega)
    rw [between_zero m c _ ht, PhiD0_eq]
    iintro ⟨⟨HS0, Hg, ⟨Hq0, Hq1, Hq2, Hq3⟩, ⟨Hh0, Hh1⟩⟩, ⟨%W, -, HW⟩, ⟨%d0, H0⟩, ⟨%d1, H1⟩, ⟨%d2, H2⟩⟩
    iapply (run_first c (grid0.coords t) _ _ _ _ _ _ _ _ h0 (iblk m c 0 t) (iblk m c 1 t) (V m c main_v2) (V m c main_arg3) W _)
    isplitl [H0]; · iexact H0
    isplitl [H1]; · iexact H1
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, HS0, Hq0, Hq1, Hq2, Hq3, Hh0, Hh1, ⟨%W', HW'⟩⟩
    isplitl [HS0 Hg Hq0 Hq1 Hq2 Hq3 Hh0 Hh1]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    iexact H2
  · have h0 : ¬cond0_0 (grid0.coords t) := fun h => ht (by have := (hcond0_0 t).mp h; omega)
    rw [between_pos m c _ ht]
    iintro ⟨⟨HS0, Hg, ⟨Hq0, Hq1, Hq2, Hq3⟩, ⟨Hh0, Hh1⟩⟩, ⟨%W, -, HW⟩, ⟨%d0, H0⟩, ⟨%d1, H1⟩, ⟨%d2, H2⟩⟩
    iapply (run_rest c (grid0.coords t) _ _ _ _ _ _ _ _ h0 (iblk m c 0 t) (iblk m c 1 t) (weight m c) (V m c main_v2)
      (V m c main_arg3) W _)
    isplitl [H0]; · iexact H0
    isplitl [H1]; · iexact H1
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨H0, H1, H2, HS0, Hq0, Hq1, Hq2, Hq3, Hh0, Hh1, ⟨%W', HW'⟩⟩
    isplitl [HS0 Hg Hq0 Hq1 Hq2 Hq3 Hh0 Hh1]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW']
    · iexists W'; isplitr; · ipureintro; exact fun _ _ => Or.inl trivial
      iexact HW'
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = between m c 0 from rfl, between_zero m c 0 rfl]
  try exact Idealize.SL.BI.Entails.refl _

/-- After the last point the scratch memory's contents are forgotten. -/
theorem hout (c : Dev nD) : (dats m 0 c).Φ (Fin.last cfg0.N) ⊢ Pipeline.ΦD osem0 spec0 H0 (V m) c := by
  have hN : (Fin.last cfg0.N).val ≠ 0 := by rw [Fin.val_last]; have : cfg0.N = 8 := N_0; omega
  rw [show (dats m 0 c).Φ (Fin.last cfg0.N) = between m c (Fin.last cfg0.N).val from rfl, between_pos m c _ hN, PhiD0_eq]
  iintro ⟨HS0, H⟩
  isplitl [HS0]
  · iexists _; iexact HS0
  iexact H

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The idealized text's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.Proof.Dx

namespace Cert.Proof.DxPrinted

open Cert.DxKernel Cert.DxKernel.Gen
open Idealize.ShloMosaic Idealize.ShloMosaic.TcCoe Idealize.ShloMosaic.Tactic Idealize.SL.Sem

/-- The printed program's frame: its text is the idealized one's. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Eq.mp (by sl_kernel_rfl) (Cert.Proof.Dx.frame m ρ)

end Cert.Proof.DxPrinted

end
-- ==== Proof.Dx.lean ====
/- Gradient at the block's input: the value claim.

   The kernel walks 8 blocks of 512 rows of the (4096, 2048) result. A block is the residual's scale times the block of
   the cotangent, plus the product of 512 rows of the projection's cotangent with the input weight, which the first
   point gathers into scratch memory from the four chips' shards of 768 columns. The reference is jax's own gradient of
   `x ↦ (x · w, ALPHA * x)`. The two agree at every extended real, so the claim has no precondition. -/
module

public import proofs.«01_k».proof.Defs
public import proofs.«01_k».proof.Proof.DxFrame
public import proofs.«01_k».proof.Proof.Gen.DxReferenceIdeal.Run
public import proofs.«01_k».proof.Proof.Gen.DxReferenceIdeal.Read

@[expose] public section

set_option maxRecDepth 16384

noncomputable section

namespace Cert.Proof.Dx

open Cert.DxKernelIdeal Cert.DxKernelIdeal.Gen
open Idealize.ShloMosaic Idealize.ShloMosaic.TcCoe Idealize.SL.Sem

/-- The gradient at a position and a channel: the scaled cotangent, plus the projection's cotangent's row against the
    weight's row. -/
def G (p : Vec Ideal S4096x3072 .f32) (w : Vec Ideal S2048x3072 .f32) (z : Vec Ideal S4096x2048 .f32) :
    Vec Ideal S4096x2048 .f32 := fun i =>
  Ideal.ofBits .f32 0x3F9837F0#32 * z i + ∑ k : Fin 3072, p (ix2 (i 0) k) * w (ix2 (i 1) k)

variable (m : (ℓ : Loc nD τ sig) → Buf (Elt Ideal) ℓ) (ρ : Dev nD → PrngReg)

/-- Where each window's block stands at a grid point. -/
theorem idx_facts : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 := by
  decide +kernel

theorem t_lt (t : Fin cfg0.N) : t.val < 8 := by
  have h := t.isLt; have hN : cfg0.N = 8 := N_0; omega

/-- Row `a` of a point's block of rows, in the whole array. -/
def row (t : Fin cfg0.N) (a : Fin 512) : Fin 4096 := ⟨t.val * 512 + a.val, by have := t_lt t; omega⟩

theorem emb0 (t : Fin cfg0.N) (j : S512x3072.Idx) : ((cfg0.win 0).blk t).view.emb j = ix2 (row t (j 0)) (j 1) := by
  obtain ⟨e0, e1, -⟩ := idx_facts t
  funext a; apply Fin.ext
  match a with
  | ⟨0, _⟩ => show win0_0.index t (0 : Fin 2) * 512 + 1 * (j 0).val = t.val * 512 + (j 0).val; omega
  | ⟨1, _⟩ => show win0_0.index t (1 : Fin 2) * 3072 + 1 * (j 1).val = (j 1).val; omega

theorem emb1 (t : Fin cfg0.N) (j : S512x2048.Idx) : ((cfg0.win 1).blk t).view.emb j = ix2 (row t (j 0)) (j 1) := by
  obtain ⟨-, -, e0, e1, -⟩ := idx_facts t
  funext a; apply Fin.ext
  match a with
  | ⟨0, _⟩ => show win0_1.index t (0 : Fin 2) * 512 + 1 * (j 0).val = t.val * 512 + (j 0).val; omega
  | ⟨1, _⟩ => show win0_1.index t (1 : Fin 2) * 2048 + 1 * (j 1).val = (j 1).val; omega

theorem emb2 (t : Fin cfg0.N) (j : S512x2048.Idx) : ((cfg0.win 2).blk t).view.emb j = ix2 (row t (j 0)) (j 1) := by
  obtain ⟨-, -, -, -, e0, e1⟩ := idx_facts t
  funext a; apply Fin.ext
  match a with
  | ⟨0, _⟩ => show win0_2.index t (0 : Fin 2) * 512 + 1 * (j 0).val = t.val * 512 + (j 0).val; omega
  | ⟨1, _⟩ => show win0_2.index t (1 : Fin 2) * 2048 + 1 * (j 1).val = (j 1).val; omega

/-- The launch's arrays: the projection's cotangent, the weight, and the residual's cotangent. -/
abbrev aP (c : Dev nD) : Vec Ideal S4096x3072 .f32 := m ((c : Thread nD τ).loc main_arg0)
abbrev aW (c : Dev nD) : Vec Ideal S2048x3072 .f32 := m ((c : Thread nD τ).loc main_arg1)
abbrev aZ (c : Dev nD) : Vec Ideal S4096x2048 .f32 := m ((c : Thread nD τ).loc main_arg2)

theorem V_p (c : Dev nD) : (V m c main_v3 : Vec Ideal S4096x3072 .bf16) = aP m c := by
  show StableHlo.after hostOps0 (fun b => m (c, b)) (Proc.devRef .tc main_v3) = _
  have h : StableHlo.after hostOps0 (fun b => m (c, b)) (Proc.devRef .tc main_v3)
      = (truncf .bf16 (aP m c) bitsLt_bf16_f32 : FVec Ideal S4096x3072 .bf16) := by after_results
  rw [h]; rfl

/-- The shards side by side are the weight. -/
theorem weight_eq (c : Dev nD) : (weight m c : Vec Ideal S2048x3072 .bf16) = aW m c := by
  have h : (V m c main_v2 : Vec Ideal S4x2048x768 .bf16)
      = transpose S4x2048x768 [1, 0, 2] (shapeCast S2048x4x768 (truncf .bf16 (aW m c) bitsLt_bf16_f32 : FVec Ideal S2048x3072 .bf16)
          shapeCasts_S2048x3072_S2048x4x768) transposes_S2048x4x768_S4x2048x768_1_0_2 := by
    show StableHlo.after hostOps0 (fun b => m (c, b)) (Proc.devRef .tc main_v2) = _
    after_results
    rfl
  unfold weight
  rw [h]
  funext i
  pointwise [joined]

/-- The result array as the launch's arguments determine it. -/
abbrev val (c : Dev nD) : Buf (Elt Ideal) ((c : Thread nD τ).loc main_v4) := G (aP m c) (aW m c) (aZ m c)

/-- What a point writes back is its block of the gradient. -/
theorem flushed_eq (c : Dev nD) (t : Fin cfg0.N) :
    (dats m 0 c).flushed 2 t = ((cfg0.win 2).blk t).view.read (Elt Ideal) (val m c) := by
  have e : (dats m 0 c).flushed 2 t = block m c t := after0_2 m c t
  rw [e]
  have h0 : ∀ j : S512x3072.Idx, iblk m c 0 t j = aP m c (ix2 (row t (j 0)) (j 1)) := fun j => by
    show V m c main_v3 (((cfg0.win 0).blk t).view.emb j) = _
    rw [emb0]; exact congrFun (V_p m c) _
  have h1 : ∀ j : S512x2048.Idx, iblk m c 1 t j = aZ m c (ix2 (row t (j 0)) (j 1)) := fun j => by
    show V m c main_arg2 (((cfg0.win 1).blk t).view.emb j) = _
    rw [emb1]; exact congrFun (V_main_arg2 m c) _
  funext j
  show k0_pay1 (iblk m c 1 t) (iblk m c 0 t) (weight m c) j = val m c (((cfg0.win 2).blk t).view.emb j)
  rw [emb2, weight_eq]
  generalize iblk m c 0 t = x0 at h0 ⊢
  generalize iblk m c 1 t = x1 at h1 ⊢
  pointwise [k0_pay1]
  simp only [G, h0, h1]
  rfl

/-- The blocks tile the result. -/
theorem cover (i : S4096x2048.Idx) :
    ∃ t : Fin cfg0.N, (cfg0.win 2).flush t = true ∧ i ∈ ((cfg0.win 2).blk t).view.set := by
  have i0 : (i 0).val < 4096 := (i 0).isLt
  have hN : cfg0.N = 8 := N_0
  have ht : (i 0).val / 512 < cfg0.N := by omega
  refine ⟨⟨_, ht⟩, flush0_2 _, ?_⟩
  have h := ((cfg0.win 2).blk ⟨_, ht⟩).view.emb_mem_set
    (ix2 (⟨(i 0).val % 512, by omega⟩ : Fin 512) (i 1) : S512x2048.Idx)
  rw [emb2] at h
  refine (Eq.subst (motive := fun x => x ∈ ((cfg0.win 2).blk ⟨_, ht⟩).view.set) ?_ h)
  funext a; apply Fin.ext; symm
  match a with
  | ⟨0, _⟩ => show (i 0).val = (i 0).val / 512 * 512 + (i 0).val % 512; omega
  | ⟨1, _⟩ => rfl

theorem final (c : Dev nD) : (dats m 0 c).arrAt 2 cfg0.N = val m c :=
  (dats m 0 c).arrAt_eq_of_cover 2 (val m c) (fun t _ => flushed_eq m c t) cover

open Cert.DxReferenceIdeal.Value Cert.DxReferenceIdeal.Read in
/-- The reference's gradient is the same function of the arguments. -/
theorem ref_eq (p : Vec Ideal S4096x3072 .f32) (w : Vec Ideal S2048x3072 .f32) (z : Vec Ideal S4096x2048 .f32) :
    val_main_v7 p w z = G p w z := by
  funext i
  pointwise [val_main_v7, val_main_v6, val_main_v5, val_main_v4, val_main_cst_1, G]

/-! ## The claims -/

theorem frame_k : Cert.quiescent_DxKernel := fun m ρ _ => Cert.Proof.DxPrinted.frame m ρ
theorem frame_ki : Cert.quiescent_DxKernelIdeal := fun m ρ _ => frame m ρ
theorem frame_ri : Cert.quiescent_DxReferenceIdeal := fun m ρ _ =>
  (θ_run Cert.DxReferenceIdeal.defs _ _).mono (fun r h => ⟨fun c => (h c).2,
      Idealize.ShloMosaic.sem_eq_zero_of_no_sems (by decide) r.2⟩)
    (Cert.DxReferenceIdeal.Value.run (F := Ideal) m ρ)

theorem preserves : Cert.preserves_DxKernel_DxKernelIdeal := trivial

theorem algebraic : Cert.algebraic_DxKernelIdeal_DxReferenceIdeal := by
  intro m ρ m' ρ' _ hagree
  refine ⟨fun c => val m c, ?_, ?_⟩
  · exact (θ_run Cert.DxKernelIdeal.defs _ _).mono (fun _ h c => ⟨((h.1 c).1 2).trans (final m c), h.2.1 c⟩)
      (θ_run_and (run_main m ρ) (frame m ρ))
  refine (θ_run Cert.DxReferenceIdeal.defs _ _).mono (fun _ h c => ⟨(h c).1.trans ?_, (h c).2⟩)
    (Cert.DxReferenceIdeal.Value.run (F := Ideal) m' ρ')
  rw [(hagree c).1, (hagree c).2.1, (hagree c).2.2.1]
  exact (Cert.DxReferenceIdeal.Read.val_main_v7_eq _ _ _).trans (ref_eq _ _ _)

end Cert.Proof.Dx

end
-- ==== Proof.ProjRun.lean ====
/-
# The input projection: one run of the body

As at the gradient of the same product (`DxRun`, whose lemmas on the shards serve here), the first point copies the four shards of the gathered input weight into scratch memory, side by side; every point
then multiplies its block of rows by that weight. Both triples are stated over any values.
-/
module

public import proofs.«01_k».proof.Proof.Gen.ProjKernelIdeal.Frame.Runs
public import proofs.«01_k».proof.Proof.DxRun

@[expose] public section

set_option maxRecDepth 16384

noncomputable section

namespace Cert.Proof.Proj

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dx (shard joined pieces pieces_cover canon_pieces hz)

variable {F : FTy → Type} [FloatOps F]

local notation "𝕄" => MT nD τ sig Unit (Elt F) ℕ (Pipeline.UD sig nD τ) ℕ

/-- The copy's source for shard `k`, the gathered weight cut at its first index and that index dropped, reads as shard `k`. -/
theorem read_shard (k : Fin 4) (c : Dev nD) (g : HbBuf0 (F := F) c hbM0_0) (off : Fin 3 → Nat) (hoff : off = ![k.val, 0, 0])
    (inb : ∀ a, off a + S1x2048x768.size a ≤ S4x2048x768.size a) (h) :
    View.read (Elt F) (((Memref.whole main_v2).slice (Rect.unit off S1x2048x768.size inb) h).squeeze
        S2048x768 squeezes_S1x2048x768_S2048x768).view g = shard g k := by
  subst hoff
  funext y
  obtain ⟨a, b, rfl⟩ : ∃ a b, y = ix2 a b := ⟨y 0, y 1, by funext d; fin_cases d <;> rfl⟩
  show g ((Rect.unit (s := S4x2048x768) ![k.val, 0, 0] S1x2048x768.size inb).emb
    (Shape.reshapeEquiv squeezes_S1x2048x768_S2048x768.numel_eq (ix2 a b))) = g _
  refine (congrArg (fun t => g ((Rect.unit (s := S4x2048x768) ![k.val, 0, 0] S1x2048x768.size inb).emb t))
    (ValueIdx.reshapeEquiv_ix2_1ab squeezes_S1x2048x768_S2048x768.numel_eq a b)).trans ?_
  show g _ = g _
  congr 1
  funext d
  apply Fin.ext
  fin_cases d
  · show k.val + 1 * 0 = k.val; omega
  · show 0 + 1 * a.val = a.val; omega
  · show 0 + 1 * b.val = b.val; omega

/-- One store of the whole block leaves its payload. -/
theorem read_store (v : View sig .tc .vmem S512x3072 .f32) (f : BufTy.Contents (Elt F) v.ty) (w : Vec F S512x3072 .f32) :
    View.read (Elt F) v (v.writes (Elt F) f [⟨Rect.unit ![0, 0] ![512, 3072] inb_S512x3072_S512x3072_0_0, w⟩]) = w := by
  rw [View.read_writes_eq_canon _ _ _ (fun y => ⟨_, List.mem_singleton_self _,
    View.mem_set_unit_zero hz inb_S512x3072_S512x3072_0_0 y⟩)]
  exact View.canon_unit_zero hz _ _

set_option sl_exec.dmaWindow true in
set_option sl_exec.dmaWindowSet true in
set_option maxHeartbeats 1000000 in
/-- The first point: the shards are copied into the scratch weight, whatever it held, and the block is multiplied. -/
theorem run_first (c : Dev nD) (i : grid0.Coords) (arg1 : Memref sig .tc .vmem S512x2048 .bf16) (harg1 : arg1.IsWhole)
    (arg3 : Memref sig .tc .vmem S512x3072 .f32) (harg3 : arg3.IsWhole)
    (arg4 : Memref sig .tc .vmem S2048x3072 .bf16) (harg4 : arg4.IsWhole) (hc0 : cond0_0 i)
    (x0 : Vec F S512x2048 .bf16) (g : HbBuf0 (F := F) c hbM0_0) (W : Waits sig Unit) (K : PUnit → sProp 𝕄) :
    iprop(owns (c : Thread nD τ) arg1 fullShare x0
        ∗ (∃ d, owns (c : Thread nD τ) arg3 fullShare d) ∗ (∃ d, owns (c : Thread nD τ) arg4 fullShare d)
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ hbPt0 c hbM0_0 g ∗ owes (c : Thread nD τ) 0 W
        ∗ (iprop(owns (c : Thread nD τ) arg1 fullShare x0
            ∗ owns (c : Thread nD τ) arg3 fullShare (k0_pay1 x0 (joined g))
            ∗ owns (c : Thread nD τ) arg4 fullShare (joined g)
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ hbPt0 c hbM0_0 g ∗ (∃ W', owes (c : Thread nD τ) 0 W')) -∗ K ⟨⟩))
      ⊢ wp frame (wpE (defs₀ (F := F)) Variants.none c none) Set.univ
          (cc0_proj i arg1 harg1 (Memref.whole main_v2) (Memref.isWhole_whole _) arg3 harg3 arg4 harg4 cc0_scratch1) K := by
  simp only [cc0_proj_eq_skeleton]; unfold cc0_proj_skel
  simp only [k0_part1_eq_skeleton]
  unfold owns
  iintro ⟨⟨%f0, %hf0, H0⟩, ⟨%d2, %f2, -, H2⟩, ⟨%ds0, %fs0, -, HS0⟩, Hq0, Hq1, Hq2, Hq3, Hh0,
    HW, Hk⟩
  obtain rfl := harg1.eq_unread hf0
  sl_exec (disch := first | sl_exact hc0)
  have e0 : run_first.sl.dma0 c g = shard g 0 := read_shard 0 c g _ rfl inb_S4x2048x768_S1x2048x768_0_0_0 _
  have e1 : run_first.sl.dma0_1 c g = shard g 1 := read_shard 1 c g _ rfl inb_S4x2048x768_S1x2048x768_1_0_0 _
  have e2 : run_first.sl.dma0_2 c g = shard g 2 := read_shard 2 c g _ rfl inb_S4x2048x768_S1x2048x768_2_0_0 _
  have e3 : run_first.sl.dma0_3 c g = shard g 3 := read_shard 3 c g _ rfl inb_S4x2048x768_S1x2048x768_3_0_0 _
  sl_step
  iapply Hk
  isplitl [H0]
  · iexists _; isplitr; · ipureintro; exact harg1.read_unread _
    iexact H0
  isplitl [H2]
  · iexists _; isplitr
    swap; · iexact H2
    ipureintro
    refine (read_store _ _ _).trans ?_
    congr 1
    · exact (View.readAt_full arg1.view _ inb_S512x2048_S512x2048_0_0).trans (harg1.read_unread _)
    · unfold run_first.sl.v5
      rw [e0, e1, e2, e3]
      refine (View.readCov_eq_canon_ld _ (pieces g) _ (pieces_cover g)).trans ?_
      rw [canon_pieces]
      exact View.ld_unit_zero hz inb_S2048x3072_S2048x3072_0_0 (joined g)
  isplitl [HS0]
  · iexists _; isplitr
    swap; · iexact HS0
    ipureintro
    rw [e0, e1, e2, e3]
    exact (View.read_writes_eq_canon _ _ (pieces g) (pieces_cover g)).trans (canon_pieces g)
  isplitl [Hq0]; · iexact Hq0
  isplitl [Hq1]; · iexact Hq1
  isplitl [Hq2]; · iexact Hq2
  isplitl [Hq3]; · iexact Hq3
  isplitl [Hh0]; · iexact Hh0
  iexists _; iexact HW

set_option maxHeartbeats 1000000 in
/-- Every later point: the scratch weight stays as it is. -/
theorem run_rest (c : Dev nD) (i : grid0.Coords) (arg1 : Memref sig .tc .vmem S512x2048 .bf16) (harg1 : arg1.IsWhole)
    (arg3 : Memref sig .tc .vmem S512x3072 .f32) (harg3 : arg3.IsWhole)
    (arg4 : Memref sig .tc .vmem S2048x3072 .bf16) (harg4 : arg4.IsWhole) (hc0 : ¬cond0_0 i)
    (x0 : Vec F S512x2048 .bf16) (w : Vec F S2048x3072 .bf16) (g : HbBuf0 (F := F) c hbM0_0) (W : Waits sig Unit) (K : PUnit → sProp 𝕄) :
    iprop(owns (c : Thread nD τ) arg1 fullShare x0
        ∗ (∃ d, owns (c : Thread nD τ) arg3 fullShare d) ∗ owns (c : Thread nD τ) arg4 fullShare w
        ∗ semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ hbPt0 c hbM0_0 g ∗ owes (c : Thread nD τ) 0 W
        ∗ (iprop(owns (c : Thread nD τ) arg1 fullShare x0
            ∗ owns (c : Thread nD τ) arg3 fullShare (k0_pay1 x0 w)
            ∗ owns (c : Thread nD τ) arg4 fullShare w
            ∗ semVal ((c : Thread nD τ), SemLoc.dma 4) 0 ∗ semVal ((c : Thread nD τ), SemLoc.dma 5) 0
            ∗ semVal ((c : Thread nD τ), SemLoc.dma 6) 0 ∗ semVal ((c : Thread nD τ), SemLoc.dma 7) 0
            ∗ hbPt0 c hbM0_0 g ∗ (∃ W', owes (c : Thread nD τ) 0 W')) -∗ K ⟨⟩))
      ⊢ wp frame (wpE (defs₀ (F := F)) Variants.none c none) Set.univ
          (cc0_proj i arg1 harg1 (Memref.whole main_v2) (Memref.isWhole_whole _) arg3 harg3 arg4 harg4 cc0_scratch1) K := by
  simp only [cc0_proj_eq_skeleton]; unfold cc0_proj_skel
  simp only [k0_part1_eq_skeleton]
  unfold owns
  iintro ⟨⟨%f0, %hf0, H0⟩, ⟨%d2, %f2, -, H2⟩, ⟨%fs0, %hs0, HS0⟩, Hq0, Hq1, Hq2, Hq3, Hh0, HW, Hk⟩
  obtain rfl := harg1.eq_unread hf0; obtain rfl := harg4.eq_unread hs0
  sl_exec (disch := first | sl_exact hc0)
  sl_step
  iapply Hk
  isplitl [H0]
  · iexists _; isplitr; · ipureintro; exact harg1.read_unread _
    iexact H0
  isplitl [H2]
  · iexists _; isplitr
    swap; · iexact H2
    ipureintro
    refine (read_store _ _ _).trans ?_
    congr 1
    · exact (View.readAt_full arg1.view _ inb_S512x2048_S512x2048_0_0).trans (harg1.read_unread _)
    · exact (View.readAt_full arg4.view _ inb_S2048x3072_S2048x3072_0_0).trans (harg4.read_unread _)
  isplitl [HS0]
  · iexists _; isplitr
    swap; · iexact HS0
    ipureintro
    exact harg4.read_unread _
  isplitl [Hq0]; · iexact Hq0
  isplitl [Hq1]; · iexact Hq1
  isplitl [Hq2]; · iexact Hq2
  isplitl [Hq3]; · iexact Hq3
  isplitl [Hh0]; · iexact Hh0
  iexists _; iexact HW

end Cert.Proof.Proj

end
-- ==== Proof.ProjFrame.lean ====
/- The input projection: the run of the whole call.

   Between the points the scratch memory holds the gathered weight, its shards side by side, from the first point on.
   The block of the result at a point is the product of its rows with the weight. The frame claims of the printed
   program and of its idealized text are this one run. -/
module

public import proofs.«01_k».proof.Proof.ProjRun
public import proofs.«01_k».proof.Proof.Gen.ProjKernel.Launch
public import Idealize.ShloMosaic.Lib.Claim

@[expose] public section

set_option maxRecDepth 16384

noncomputable section

namespace Cert.Proof.Proj

open Cert.ProjKernelIdeal Cert.ProjKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Dx (joined)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The weight as the first point leaves it in the scratch memory. -/
abbrev weight (c : Dev nD) : Vec F S2048x3072 .bf16 := joined (V m c main_v2)

/-- The body's own resources, the scratch memory given apart. -/
abbrev aside (c : Dev nD) : sProp 𝕄 :=
  iprop((∃ r, prngReg c r)
    ∗ iprop(semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0)
    ∗ hbPt0 c hbM0_0 (V m c main_v2))

/-- Before point `n`: what the launch gives at first, and the weight in the scratch memory from then on. -/
def between (c : Dev nD) : ℕ → sProp 𝕄
  | 0 => Pipeline.ΦD osem0 spec0 H0 (V m) c
  | _ + 1 => iprop(iprop(owns (c : Thread nD τ) scM0_0 fullShare (weight m c)) ∗ aside m c)

theorem between_zero (c : Dev nD) (n : ℕ) (h : n = 0) : between m c n = Pipeline.ΦD osem0 spec0 H0 (V m) c := by
  subst h; rfl

theorem between_pos (c : Dev nD) (n : ℕ) (h : n ≠ 0) :
    between m c n = iprop(iprop(owns (c : Thread nD τ) scM0_0 fullShare (weight m c)) ∗ aside m c) := by
  cases n with
  | zero => exact absurd rfl h
  | succ n => rfl

/-- The block of the result at point `t`. -/
abbrev block (c : Dev nD) (t : Fin cfg0.N) : Vec F S512x3072 .f32 := k0_pay1 (iblk m c 0 t) (weight m c)

/-- The proof data: inputs stay at their blocks, the output's buffer holds `block`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => block m c t
  Φ t := between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = block m c t := by dsimp only [dats]

theorem before0_0 (c : Dev nD) (t : Fin cfg0.N) (d) : (dats m 0 c).before 0 t d = iblk m c 0 t :=
  before0_0_of m (dats m 0 c) (A_eq m c 0) (after0_0 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 3200000 in
/-- The body at any point: the first by `run_first`, the others by `run_rest`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = between m c (t.val + 1) from rfl, between_pos m c _ (Nat.succ_ne_zero _),
    show (dats m 0 c).Φ t.castSucc = between m c t.val from rfl, after0_0, after0_1]
  unfold Dat.owesAt Pipeline.owesWithin
  rw [show (dats m 0 c).owed t.castSucc = 0 from rfl, show (dats m 0 c).owed t.succ = 0 from rfl]
  have hN : t.val < 8 := lt_of_lt_of_eq t.isLt (show cfg0.N = 8 from N_0)
  by_cases ht : t.val = 0
  · have h0 : cond0_0 (grid0.coords t) := (hcond0_0 t).mpr (by omega)
    rw [between_zero m c _ ht, PhiD0_eq]
    iintro ⟨⟨HS0, Hg, ⟨Hq0, Hq1, Hq2, Hq3⟩, Hh0⟩, ⟨%W, -, HW⟩, ⟨%d0, H0⟩, ⟨%d2, H2⟩⟩
    iapply (run_first c (grid0.coords t) _ _ _ _ _ _ h0 (iblk m c 0 t) (V m c main_v2) W _)
    isplitl [H0]; · iexact H0
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H2, HS0, Hq0, Hq1, Hq2, Hq3, Hh0, ⟨%W', HW'⟩⟩
    isplitl [HS0 Hg Hq0 Hq1 Hq2 Hq3 Hh0]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    iexact H2
  · have h0 : ¬cond0_0 (grid0.coords t) := fun h => ht (by have := (hcond0_0 t).mp h; omega)
    rw [between_pos m c _ ht]
    iintro ⟨⟨HS0, Hg, ⟨Hq0, Hq1, Hq2, Hq3⟩, Hh0⟩, ⟨%W, -, HW⟩, ⟨%d0, H0⟩, ⟨%d2, H2⟩⟩
    iapply (run_rest c (grid0.coords t) _ _ _ _ _ _ h0 (iblk m c 0 t) (weight m c) (V m c main_v2) W _)
    isplitl [H0]; · iexact H0
    isplitl [H2]; · iexists _; iexact H2
    isplitl [HS0]; · iexact HS0
    isplitl [Hq0]; · iexact Hq0
    isplitl [Hq1]; · iexact Hq1
    isplitl [Hq2]; · iexact Hq2
    isplitl [Hq3]; · iexact Hq3
    isplitl [Hh0]; · iexact Hh0
    isplitl [HW]; · iexact HW
    iintro ⟨H0, H2, HS0, Hq0, Hq1, Hq2, Hq3, Hh0, ⟨%W', HW'⟩⟩
    isplitl [HS0 Hg Hq0 Hq1 Hq2 Hq3 Hh0]
    · isplitl [HS0]
      · iexact HS0
      isplitl [Hg]
      · iexact Hg
      isplitl [Hq0 Hq1 Hq2 Hq3]
      · isplitl [Hq0]; · iexact Hq0
        isplitl [Hq1]; · iexact Hq1
        isplitl [Hq2]; · iexact Hq2
        iexact Hq3
      iexact Hh0
    isplitl [HW']
    · iexists W'; isplitr; · ipureintro; exact fun _ _ => Or.inl trivial
      iexact HW'
    isplitl [H0]; · iexact H0
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = between m c 0 from rfl, between_zero m c 0 rfl]
  try exact Idealize.SL.BI.Entails.refl _

/-- After the last point the scratch memory's contents are forgotten. -/
theorem hout (c : Dev nD) : (dats m 0 c).Φ (Fin.last cfg0.N) ⊢ Pipeline.ΦD osem0 spec0 H0 (V m) c := by
  have hN : (Fin.last cfg0.N).val ≠ 0 := by rw [Fin.val_last]; have : cfg0.N = 8 := N_0; omega
  rw [show (dats m 0 c).Φ (Fin.last cfg0.N) = between m c (Fin.last cfg0.N).val from rfl, between_pos m c _ hN, PhiD0_eq]
  iintro ⟨HS0, H⟩
  isplitl [HS0]
  · iexists _; iexact HS0
  iexact H

set_option backward.isDefEq.respectTransparency.types false in
theorem run_main_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The idealized text's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ))
    ((θ_run defs _ _).mono (fun _ h => h.2) (run_main_quiescent m ρ))

end Cert.Proof.Proj

namespace Cert.Proof.ProjPrinted

open Cert.ProjKernel Cert.ProjKernel.Gen
open Idealize.ShloMosaic Idealize.ShloMosaic.TcCoe Idealize.ShloMosaic.Tactic Idealize.SL.Sem

/-- The printed program's frame: its text is the idealized one's. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Eq.mp (by sl_kernel_rfl) (Cert.Proof.Proj.frame m ρ)

end Cert.Proof.ProjPrinted

end
-- ==== Proof.Proj.lean ====
/- The input projection: the value claim.

   The kernel walks 8 blocks of 512 rows of the (4096, 3072) result. A block is the product of 512 rows of the block's
   input with the input weight, which the first point gathers into scratch memory from the four chips' shards of 768
   columns. The two programs agree at every extended real, so the claim has no precondition. -/
module

public import proofs.«01_k».proof.Defs
public import proofs.«01_k».proof.Proof.ProjFrame
public import proofs.«01_k».proof.Proof.Gen.ProjReferenceIdeal.Run
public import proofs.«01_k».proof.Proof.Gen.ProjReferenceIdeal.Read

@[expose] public section

set_option maxRecDepth 16384

noncomputable section

namespace Cert.Proof.Proj

open Cert.ProjKernelIdeal Cert.ProjKernelIdeal.Gen
open Idealize.ShloMosaic Idealize.ShloMosaic.TcCoe Idealize.SL.Sem

/-- The projection at a position and a channel: the input's row against the weight's column. -/
def G (x : Vec Ideal S4096x2048 .f32) (w : Vec Ideal S2048x3072 .f32) : Vec Ideal S4096x3072 .f32 := fun i =>
  ∑ k : Fin 2048, x (ix2 (i 0) k) * w (ix2 k (i 1))

variable (m : (ℓ : Loc nD τ sig) → Buf (Elt Ideal) ℓ) (ρ : Dev nD → PrngReg)

/-- Where each window's block stands at a grid point. -/
theorem idx_facts : ∀ t : Fin grid0.N,
    win0_0.index t (0 : Fin 2) = t.val ∧ win0_0.index t (1 : Fin 2) = 0
    ∧ win0_1.index t (0 : Fin 2) = t.val ∧ win0_1.index t (1 : Fin 2) = 0 := by
  decide +kernel

theorem t_lt (t : Fin cfg0.N) : t.val < 8 := by
  have h := t.isLt; have hN : cfg0.N = 8 := N_0; omega

/-- Row `a` of a point's block of rows, in the whole array. -/
def row (t : Fin cfg0.N) (a : Fin 512) : Fin 4096 := ⟨t.val * 512 + a.val, by have := t_lt t; omega⟩

theorem emb0 (t : Fin cfg0.N) (j : S512x2048.Idx) : ((cfg0.win 0).blk t).view.emb j = ix2 (row t (j 0)) (j 1) := by
  obtain ⟨e0, e1, -⟩ := idx_facts t
  funext a; apply Fin.ext
  match a with
  | ⟨0, _⟩ => show win0_0.index t (0 : Fin 2) * 512 + 1 * (j 0).val = t.val * 512 + (j 0).val; omega
  | ⟨1, _⟩ => show win0_0.index t (1 : Fin 2) * 2048 + 1 * (j 1).val = (j 1).val; omega

theorem emb1 (t : Fin cfg0.N) (j : S512x3072.Idx) : ((cfg0.win 1).blk t).view.emb j = ix2 (row t (j 0)) (j 1) := by
  obtain ⟨-, -, e0, e1⟩ := idx_facts t
  funext a; apply Fin.ext
  match a with
  | ⟨0, _⟩ => show win0_1.index t (0 : Fin 2) * 512 + 1 * (j 0).val = t.val * 512 + (j 0).val; omega
  | ⟨1, _⟩ => show win0_1.index t (1 : Fin 2) * 3072 + 1 * (j 1).val = (j 1).val; omega

/-- The launch's arrays: the block's input and the weight. -/
abbrev aX (c : Dev nD) : Vec Ideal S4096x2048 .f32 := m ((c : Thread nD τ).loc main_arg0)
abbrev aW (c : Dev nD) : Vec Ideal S2048x3072 .f32 := m ((c : Thread nD τ).loc main_arg1)

theorem V_x (c : Dev nD) : (V m c main_v3 : Vec Ideal S4096x2048 .bf16) = aX m c := by
  show StableHlo.after hostOps0 (fun b => m (c, b)) (Proc.devRef .tc main_v3) = _
  have h : StableHlo.after hostOps0 (fun b => m (c, b)) (Proc.devRef .tc main_v3)
      = (truncf .bf16 (aX m c) bitsLt_bf16_f32 : FVec Ideal S4096x2048 .bf16) := by after_results
  rw [h]; rfl

/-- The shards side by side are the weight. -/
theorem weight_eq (c : Dev nD) : (weight m c : Vec Ideal S2048x3072 .bf16) = aW m c := by
  have h : (V m c main_v2 : Vec Ideal S4x2048x768 .bf16)
      = transpose S4x2048x768 [1, 0, 2] (shapeCast S2048x4x768 (truncf .bf16 (aW m c) bitsLt_bf16_f32 : FVec Ideal S2048x3072 .bf16)
          shapeCasts_S2048x3072_S2048x4x768) transposes_S2048x4x768_S4x2048x768_1_0_2 := by
    show StableHlo.after hostOps0 (fun b => m (c, b)) (Proc.devRef .tc main_v2) = _
    after_results
    rfl
  unfold weight
  rw [h]
  funext i
  pointwise [Cert.Proof.Dx.joined]

/-- The result array as the launch's arguments determine it. -/
abbrev val (c : Dev nD) : Buf (Elt Ideal) ((c : Thread nD τ).loc main_v4) := G (aX m c) (aW m c)

/-- What a point writes back is its block of the product. -/
theorem flushed_eq (c : Dev nD) (t : Fin cfg0.N) :
    (dats m 0 c).flushed 1 t = ((cfg0.win 1).blk t).view.read (Elt Ideal) (val m c) := by
  have e : (dats m 0 c).flushed 1 t = block m c t := after0_1 m c t
  rw [e]
  have h0 : ∀ j : S512x2048.Idx, iblk m c 0 t j = aX m c (ix2 (row t (j 0)) (j 1)) := fun j => by
    show V m c main_v3 (((cfg0.win 0).blk t).view.emb j) = _
    rw [emb0]; exact congrFun (V_x m c) _
  funext j
  show k0_pay1 (iblk m c 0 t) (weight m c) j = val m c (((cfg0.win 1).blk t).view.emb j)
  rw [emb1, weight_eq]
  generalize iblk m c 0 t = x0 at h0 ⊢
  pointwise [k0_pay1]
  simp only [G, h0]
  rfl

/-- The blocks tile the result. -/
theorem cover (i : S4096x3072.Idx) :
    ∃ t : Fin cfg0.N, (cfg0.win 1).flush t = true ∧ i ∈ ((cfg0.win 1).blk t).view.set := by
  have i0 : (i 0).val < 4096 := (i 0).isLt
  have hN : cfg0.N = 8 := N_0
  have ht : (i 0).val / 512 < cfg0.N := by omega
  refine ⟨⟨_, ht⟩, flush0_1 _, ?_⟩
  have h := ((cfg0.win 1).blk ⟨_, ht⟩).view.emb_mem_set
    (ix2 (⟨(i 0).val % 512, by omega⟩ : Fin 512) (i 1) : S512x3072.Idx)
  rw [emb1] at h
  refine (Eq.subst (motive := fun x => x ∈ ((cfg0.win 1).blk ⟨_, ht⟩).view.set) ?_ h)
  funext a; apply Fin.ext; symm
  match a with
  | ⟨0, _⟩ => show (i 0).val = (i 0).val / 512 * 512 + (i 0).val % 512; omega
  | ⟨1, _⟩ => rfl

theorem final (c : Dev nD) : (dats m 0 c).arrAt 1 cfg0.N = val m c :=
  (dats m 0 c).arrAt_eq_of_cover 1 (val m c) (fun t _ => flushed_eq m c t) cover

open Cert.ProjReferenceIdeal.Value Cert.ProjReferenceIdeal.Read in
/-- The reference's product is the same function of the arguments. -/
theorem ref_eq (x : Vec Ideal S4096x2048 .f32) (w : Vec Ideal S2048x3072 .f32) : val_main_v0 x w = G x w := by
  funext i
  pointwise [val_main_v0, G]

/-! ## The claims -/

theorem frame_k : Cert.quiescent_ProjKernel := fun m ρ _ => Cert.Proof.ProjPrinted.frame m ρ
theorem frame_ki : Cert.quiescent_ProjKernelIdeal := fun m ρ _ => frame m ρ
theorem frame_ri : Cert.quiescent_ProjReferenceIdeal := fun m ρ _ =>
  (θ_run Cert.ProjReferenceIdeal.defs _ _).mono (fun r h => ⟨fun c => (h c).2,
      Idealize.ShloMosaic.sem_eq_zero_of_no_sems (by decide) r.2⟩)
    (Cert.ProjReferenceIdeal.Value.run (F := Ideal) m ρ)

theorem preserves : Cert.preserves_ProjKernel_ProjKernelIdeal := trivial

theorem algebraic : Cert.algebraic_ProjKernelIdeal_ProjReferenceIdeal := by
  intro m ρ m' ρ' _ hagree
  refine ⟨fun c => val m c, ?_, ?_⟩
  · exact (θ_run Cert.ProjKernelIdeal.defs _ _).mono (fun _ h c => ⟨((h.1 c).1 1).trans (final m c), h.2.1 c⟩)
      (θ_run_and (run_main m ρ) (frame m ρ))
  refine (θ_run Cert.ProjReferenceIdeal.defs _ _).mono (fun _ h c => ⟨(h c).1.trans ?_, (h c).2⟩)
    (Cert.ProjReferenceIdeal.Value.run (F := Ideal) m' ρ')
  rw [(hagree c).1, (hagree c).2]
  exact (Cert.ProjReferenceIdeal.Read.val_main_v0_eq _ _).trans (ref_eq _ _)

end Cert.Proof.Proj

end
-- ==== Proof.MlpOutTrip.lean ====
/- The MLP's second product, the last layer norm and the loss: one trip of the counted loop.

   The loop goes through the 512 rows of a block in chunks of eight, eight chunks a trip. A chunk normalizes its rows, adds
   to the running loss and to the running gradients of the layer norm's two weights, and writes its rows of the gradient at
   the layer norm's input. -/
module

public import proofs.«01_k».proof.Proof.Gen.MlpOutKernelIdeal.Loops
public import proofs.«01_k».proof.Proof.Gen.MlpOutKernelIdeal.Frame
public import Idealize.ShloMosaic.Lib.VecWindow
public import Idealize.ShloMosaic.Lib.Pointwise

@[expose] public section

set_option maxRecDepth 16384

noncomputable section

namespace Cert.Proof.MlpOut

open Cert.MlpOutKernelIdeal Cert.MlpOutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eight rows of a block, from row `r` on. -/
def rows (x : Vec F S512x2048 .f32) (r : ℕ) : Vec F S8x2048 .f32 := fun j =>
  x (ix2 (⟨(r + (j 0).val) % 512, Nat.mod_lt _ (by decide)⟩ : Fin 512) (j 1))

theorem readAt_chunk (v : View sig .tc .vmem S512x2048 .f32) (f : BufTy.Contents (Elt F) v.ty) {off : Fin 2 → ℕ}
    {n : ℕ} (inb : ∀ a, off a + S8x2048.size a ≤ S512x2048.size a) (x : Vec F S512x2048 .f32) (h : off = ![n, 0])
    (hx : v.read (Elt F) f = x) :
    v.readAt (Elt F) (Rect.unit (s := S512x2048) off S8x2048.size inb).toLoadRect f = rows x n := by
  subst h hx
  have hn : n + 8 ≤ 512 := inb 0
  funext j
  refine congrArg (v.read (Elt F) f) (funext fun a => Fin.ext ?_)
  have h0 : (j 0).val < 8 := (j 0).isLt
  fin_cases a
  · show n + 1 * (j 0).val = (n + (j 0).val) % 512; omega
  · show 0 + 1 * (j 1).val = (j 1).val; omega

/-- The reciprocal of the row length, by which the loss's gradient is divided. -/
def perRow : F .f32 := Scalar.ofBits .f32 0x3A000000#32

/-- Eight rows normalized: `g`, `b` the first layer norm's weights, `x` its normalized rows, `a` the product. -/
def normed (g b : Vec F S1x2048 .f32) (x a : Vec F S8x2048 .f32) : Vec F S8x2048 .f32 := k0_pay9 g b x a

/-- Eight rows of the difference to the target `t`; `g'`, `b'` the last layer norm's weights. -/
def diff (g b g' b' : Vec F S1x2048 .f32) (x a t : Vec F S8x2048 .f32) : Vec F S8x2048 .f32 := k0_pay10 g b g' b' x a t

/-- The running loss after `n` chunks, from `L`. -/
def lossSum (g b g' b' : Vec F S1x2048 .f32) (x a t : Vec F S512x2048 .f32) (L : Vec F S8x2048 .f32) : ℕ → Vec F S8x2048 .f32
  | 0 => L
  | n + 1 => k0_pay11 g b g' b' (rows x (8 * n)) (rows a (8 * n)) (rows t (8 * n)) (lossSum g b g' b' x a t L n)

/-- The running gradient of the last layer norm's scale. -/
def scaleGrad (g b g' b' : Vec F S1x2048 .f32) (x a t : Vec F S512x2048 .f32) (G : Vec F S8x2048 .f32) : ℕ → Vec F S8x2048 .f32
  | 0 => G
  | n + 1 => k0_pay13 (normed g b (rows x (8 * n)) (rows a (8 * n)))
      (diff g b g' b' (rows x (8 * n)) (rows a (8 * n)) (rows t (8 * n))) perRow (scaleGrad g b g' b' x a t G n)

/-- The running gradient of its shift. -/
def shiftGrad (g b g' b' : Vec F S1x2048 .f32) (x a t : Vec F S512x2048 .f32) (B : Vec F S8x2048 .f32) : ℕ → Vec F S8x2048 .f32
  | 0 => B
  | n + 1 => k0_pay14 (diff g b g' b' (rows x (8 * n)) (rows a (8 * n)) (rows t (8 * n))) perRow
      (shiftGrad g b g' b' x a t B n)

/-- A chunk's rows of the gradient at the last layer norm's input. -/
def chunk (g b g' b' : Vec F S1x2048 .f32) (x a t : Vec F S8x2048 .f32) : Vec F S8x2048 .f32 :=
  k0_pay15 g' (k0_pay8 g b x a) (normed g b x a) (diff g b g' b' x a t) perRow

/-- The block of that gradient after `n` chunks, over `D`. -/
def inputGrad (g b g' b' : Vec F S1x2048 .f32) (x a t : Vec F S512x2048 .f32) (D : Vec F S512x2048 .f32) :
    ℕ → Vec F S512x2048 .f32
  | 0 => D
  | n + 1 => VecWindow.put (inputGrad g b g' b' x a t D n) ![8 * n, 0] ![8, 2048]
      (chunk g b g' b' (rows x (8 * n)) (rows a (8 * n)) (rows t (8 * n)))

theorem trips_eq : k0_t1_loop.trips = 8 := by decide

theorem off1_eq (k : Fin k0_t1_loop.trips) (u : Fin 8) :
    k0_off1 k (BitVec.ofNat 32 (8 * u.val)) = ![8 * (8 * k.val + u.val), 0] := by
  have h : ∀ (k : Fin k0_t1_loop.trips) (u : Fin 8),
      k0_off1 k (BitVec.ofNat 32 (8 * u.val)) 0 = 8 * (8 * k.val + u.val) := by decide +kernel
  funext a
  fin_cases a
  · exact h k u
  · rfl

set_option maxHeartbeats 800000 in
/-- One trip: eight chunks. -/
theorem trip (𝒱 : Variants) (c : Dev nD) (bd : Option 𝒱.V) (E : Set ℕ)
    (i : grid0.Coords) (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole) (arg5 : Memref sig .tc .vmem S1x2048 .f32)
    (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32)
    (harg8 : arg8.IsWhole) (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole) (arg13 : Memref sig .tc .vmem S8x2048 .f32)
    (harg13 : arg13.IsWhole) (arg14 : Memref sig .tc .vmem S8x2048 .f32) (harg14 : arg14.IsWhole)
    (arg15 : Memref sig .tc .vmem S512x2048 .f32) (harg15 : arg15.IsWhole) (k0_h3 : k0_cond3 i = 1#1)
    (v21 : Vec F S1x2048 .f32) (v22 : Vec F S1x2048 .f32) (v23 : Vec F S1x2048 .f32) (v24 : Vec F S1x2048 .f32)
    (X4 : BufTy.Contents (Elt F) arg4.view.ty)
    (X9 : BufTy.Contents (Elt F) arg9.view.ty)
    (X15 : BufTy.Contents (Elt F) arg15.view.ty)
    (f10 : BufTy.Contents (Elt F) arg10.view.ty)
    (f12 : BufTy.Contents (Elt F) arg12.view.ty)
    (f13 : BufTy.Contents (Elt F) arg13.view.ty)
    (f14 : BufTy.Contents (Elt F) arg14.view.ty)
    (k : Fin k0_t1_loop.trips) (x a t : Vec F S512x2048 .f32) (D : Vec F S512x2048 .f32) (L G B : Vec F S8x2048 .f32)
    (h4 : arg4.view.read (Elt F) X4 = x) (h15 : arg15.view.read (Elt F) X15 = a) (h9 : arg9.view.read (Elt F) X9 = t)
    (h10 : arg10.view.read (Elt F) f10 = inputGrad v21 v22 v23 v24 x a t D (8 * k.val))
    (h12 : arg12.view.read (Elt F) f12 = lossSum v21 v22 v23 v24 x a t L (8 * k.val))
    (h13 : arg13.view.read (Elt F) f13 = scaleGrad v21 v22 v23 v24 x a t G (8 * k.val))
    (h14 : arg14.view.read (Elt F) f14 = shiftGrad v21 v22 v23 v24 x a t B (8 * k.val)) :
    (iprop((arg4.view.loc (c : Thread nD τ) ↦[arg4.view.set]{fullShare} X4)
      ∗ (arg9.view.loc (c : Thread nD τ) ↦[arg9.view.set]{fullShare} X9)
      ∗ (arg15.view.loc (c : Thread nD τ) ↦[arg15.view.set]{fullShare} X15)
      ∗ (arg10.view.loc (c : Thread nD τ) ↦[arg10.view.set]{fullShare} f10)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14)) : sProp 𝕄)
    ⊢ wp frame (wpE (defs₀ (F := F)) 𝒱 (c : Thread nD τ) bd) E
        (k0_t1_body (F := F)
          i arg2 harg2 arg3 harg3 arg4 harg4 arg5 harg5 arg6 harg6 arg7 harg7 arg8 harg8 arg9 harg9 arg10 harg10
          arg11 harg11 arg12 harg12 arg13 harg13 arg14 harg14 arg15 harg15 k0_h3 v21 v22 v23 v24 k PUnit.unit)
        (fun _ => iprop((arg4.view.loc (c : Thread nD τ) ↦[arg4.view.set]{fullShare} X4)
          ∗ (arg9.view.loc (c : Thread nD τ) ↦[arg9.view.set]{fullShare} X9)
          ∗ (arg15.view.loc (c : Thread nD τ) ↦[arg15.view.set]{fullShare} X15)
          ∗ (∃ f, (arg10.view.loc (c : Thread nD τ) ↦[arg10.view.set]{fullShare} f)
              ∗ ⌜arg10.view.read (Elt F) f = inputGrad v21 v22 v23 v24 x a t D (8 * (k.val + 1))⌝)
          ∗ (∃ f, (arg12.view.loc (c : Thread nD τ) ↦[arg12.view.set]{fullShare} f)
              ∗ ⌜arg12.view.read (Elt F) f = lossSum v21 v22 v23 v24 x a t L (8 * (k.val + 1))⌝)
          ∗ (∃ f, (arg13.view.loc (c : Thread nD τ) ↦[arg13.view.set]{fullShare} f)
              ∗ ⌜arg13.view.read (Elt F) f = scaleGrad v21 v22 v23 v24 x a t G (8 * (k.val + 1))⌝)
          ∗ (∃ f, (arg14.view.loc (c : Thread nD τ) ↦[arg14.view.set]{fullShare} f)
              ∗ ⌜arg14.view.read (Elt F) f = shiftGrad v21 v22 v23 v24 x a t B (8 * (k.val + 1))⌝))) := by
  have hk : k.val < 8 := Nat.lt_of_lt_of_le k.isLt k0_t1_abs.2.1
  unfold k0_t1_body
  iintro ⟨H4, H9, H15, H10, H12, H13, H14⟩
  sl_exec
  sl_step
  isplitl [H4]; · iexact H4
  isplitl [H9]; · iexact H9
  isplitl [H15]; · iexact H15
  have R4_0 : (arg4.view.readAt (Elt F) (Rect.unit (s := S512x2048) (k0_off1 k 0#32) S8x2048.size (k0_off1_inb i k k0_h3 0)).toLoadRect X4)
      = rows x (8 * (8 * k.val)) :=
    readAt_chunk _ _ _ _ (off1_eq k 0) h4
  have R9_0 : (arg9.view.readAt (Elt F) (Rect.unit (s := S512x2048) (k0_off1 k 0#32) S8x2048.size (k0_off1_inb i k k0_h3 0)).toLoadRect X9)
      = rows t (8 * (8 * k.val)) :=
    readAt_chunk _ _ _ _ (off1_eq k 0) h9
  have R15_0 : (arg15.view.readAt (Elt F) (Rect.unit (s := S512x2048) (k0_off1 k 0#32) S8x2048.size (k0_off1_inb i k k0_h3 0)).toLoadRect X15)
      = rows a (8 * (8 * k.val)) :=
    readAt_chunk _ _ _ _ (off1_eq k 0) h15
  have R4_1 : (arg4.view.readAt (Elt F) (Rect.unit (s := S512x2048) (k0_off1 k 8#32) S8x2048.size (k0_off1_inb i k k0_h3 1)).toLoadRect X4)
      = rows x (8 * (8 * k.val + 1)) :=
    readAt_chunk _ _ _ _ (off1_eq k 1) h4
  have R9_1 : (arg9.view.readAt (Elt F) (Rect.unit (s := S512x2048) (k0_off1 k 8#32) S8x2048.size (k0_off1_inb i k k0_h3 1)).toLoadRect X9)
      = rows t (8 * (8 * k.val + 1)) :=
    readAt_chunk _ _ _ _ (off1_eq k 1) h9
  have R15_1 : (arg15.view.readAt (Elt F) (Rect.unit (s := S512x2048) (k0_off1 k 8#32) S8x2048.size (k0_off1_inb i k k0_h3 1)).toLoadRect X15)
      = rows a (8 * (8 * k.val + 1)) :=
    readAt_chunk _ _ _ _ (off1_eq k 1) h15
  have R4_2 : (arg4.view.readAt (Elt F) (Rect.unit (s := S512x2048) (k0_off1 k 16#32) S8x2048.size (k0_off1_inb i k k0_h3 2)).toLoadRect X4)
      = rows x (8 * (8 * k.val + 2)) :=
    readAt_chunk _ _ _ _ (off1_eq k 2) h4
  have R9_2 : (arg9.view.readAt (Elt F) (Rect.unit (s := S512x2048) (k0_off1 k 16#32) S8x2048.size (k0_off1_inb i k k0_h3 2)).toLoadRect X9)
      = rows t (8 * (8 * k.val + 2)) :=
    readAt_chunk _ _ _ _ (off1_eq k 2) h9
  have R15_2 : (arg15.view.readAt (Elt F) (Rect.unit (s := S512x2048) (k0_off1 k 16#32) S8x2048.size (k0_off1_inb i k k0_h3 2)).toLoadRect X15)
      = rows a (8 * (8 * k.val + 2)) :=
    readAt_chunk _ _ _ _ (off1_eq k 2) h15
  have R4_3 : (arg4.view.readAt (Elt F) (Rect.unit (s := S512x2048) (k0_off1 k 24#32) S8x2048.size (k0_off1_inb i k k0_h3 3)).toLoadRect X4)
      = rows x (8 * (8 * k.val + 3)) :=
    readAt_chunk _ _ _ _ (off1_eq k 3) h4
  have R9_3 : (arg9.view.readAt (Elt F) (Rect.unit (s := S512x2048) (k0_off1 k 24#32) S8x2048.size (k0_off1_inb i k k0_h3 3)).toLoadRect X9)
      = rows t (8 * (8 * k.val + 3)) :=
    readAt_chunk _ _ _ _ (off1_eq k 3) h9
  have R15_3 : (arg15.view.readAt (Elt F) (Rect.unit (s := S512x2048) (k0_off1 k 24#32) S8x2048.size (k0_off1_inb i k k0_h3 3)).toLoadRect X15)
      = rows a (8 * (8 * k.val + 3)) :=
    readAt_chunk _ _ _ _ (off1_eq k 3) h15
  have R4_4 : (arg4.view.readAt (Elt F) (Rect.unit (s := S512x2048) (k0_off1 k 32#32) S8x2048.size (k0_off1_inb i k k0_h3 4)).toLoadRect X4)
      = rows x (8 * (8 * k.val + 4)) :=
    readAt_chunk _ _ _ _ (off1_eq k 4) h4
  have R9_4 : (arg9.view.readAt (Elt F) (Rect.unit (s := S512x2048) (k0_off1 k 32#32) S8x2048.size (k0_off1_inb i k k0_h3 4)).toLoadRect X9)
      = rows t (8 * (8 * k.val + 4)) :=
    readAt_chunk _ _ _ _ (off1_eq k 4) h9
  have R15_4 : (arg15.view.readAt (Elt F) (Rect.unit (s := S512x2048) (k0_off1 k 32#32) S8x2048.size (k0_off1_inb i k k0_h3 4)).toLoadRect X15)
      = rows a (8 * (8 * k.val + 4)) :=
    readAt_chunk _ _ _ _ (off1_eq k 4) h15
  have R4_5 : (arg4.view.readAt (Elt F) (Rect.unit (s := S512x2048) (k0_off1 k 40#32) S8x2048.size (k0_off1_inb i k k0_h3 5)).toLoadRect X4)
      = rows x (8 * (8 * k.val + 5)) :=
    readAt_chunk _ _ _ _ (off1_eq k 5) h4
  have R9_5 : (arg9.view.readAt (Elt F) (Rect.unit (s := S512x2048) (k0_off1 k 40#32) S8x2048.size (k0_off1_inb i k k0_h3 5)).toLoadRect X9)
      = rows t (8 * (8 * k.val + 5)) :=
    readAt_chunk _ _ _ _ (off1_eq k 5) h9
  have R15_5 : (arg15.view.readAt (Elt F) (Rect.unit (s := S512x2048) (k0_off1 k 40#32) S8x2048.size (k0_off1_inb i k k0_h3 5)).toLoadRect X15)
      = rows a (8 * (8 * k.val + 5)) :=
    readAt_chunk _ _ _ _ (off1_eq k 5) h15
  have R4_6 : (arg4.view.readAt (Elt F) (Rect.unit (s := S512x2048) (k0_off1 k 48#32) S8x2048.size (k0_off1_inb i k k0_h3 6)).toLoadRect X4)
      = rows x (8 * (8 * k.val + 6)) :=
    readAt_chunk _ _ _ _ (off1_eq k 6) h4
  have R9_6 : (arg9.view.readAt (Elt F) (Rect.unit (s := S512x2048) (k0_off1 k 48#32) S8x2048.size (k0_off1_inb i k k0_h3 6)).toLoadRect X9)
      = rows t (8 * (8 * k.val + 6)) :=
    readAt_chunk _ _ _ _ (off1_eq k 6) h9
  have R15_6 : (arg15.view.readAt (Elt F) (Rect.unit (s := S512x2048) (k0_off1 k 48#32) S8x2048.size (k0_off1_inb i k k0_h3 6)).toLoadRect X15)
      = rows a (8 * (8 * k.val + 6)) :=
    readAt_chunk _ _ _ _ (off1_eq k 6) h15
  have R4_7 : (arg4.view.readAt (Elt F) (Rect.unit (s := S512x2048) (k0_off1 k 56#32) S8x2048.size (k0_off1_inb i k k0_h3 7)).toLoadRect X4)
      = rows x (8 * (8 * k.val + 7)) :=
    readAt_chunk _ _ _ _ (off1_eq k 7) h4
  have R9_7 : (arg9.view.readAt (Elt F) (Rect.unit (s := S512x2048) (k0_off1 k 56#32) S8x2048.size (k0_off1_inb i k k0_h3 7)).toLoadRect X9)
      = rows t (8 * (8 * k.val + 7)) :=
    readAt_chunk _ _ _ _ (off1_eq k 7) h9
  have R15_7 : (arg15.view.readAt (Elt F) (Rect.unit (s := S512x2048) (k0_off1 k 56#32) S8x2048.size (k0_off1_inb i k k0_h3 7)).toLoadRect X15)
      = rows a (8 * (8 * k.val + 7)) :=
    readAt_chunk _ _ _ _ (off1_eq k 7) h15
  isplitl [H10]
  · iexists _; isplitl [H10]; · iexact H10
    ipureintro
    refine (View.read_writes_cons_put _ _ _ _ _ (off1_eq k 7)).trans ?_
    refine congrArg₂ (fun (b : Vec F S512x2048 .f32) (w : Vec F S8x2048 .f32) => VecWindow.put b ![8 * (8 * k.val + 7), 0] ![8, 2048] w) ?_ ?_
    swap
    · refine Eq.trans (b := chunk v21 v22 v23 v24 (arg4.view.readAt (Elt F) (Rect.unit (s := S512x2048) (k0_off1 k 56#32) S8x2048.size (k0_off1_inb i k k0_h3 7)).toLoadRect X4)
        (arg15.view.readAt (Elt F) (Rect.unit (s := S512x2048) (k0_off1 k 56#32) S8x2048.size (k0_off1_inb i k k0_h3 7)).toLoadRect X15)
        (arg9.view.readAt (Elt F) (Rect.unit (s := S512x2048) (k0_off1 k 56#32) S8x2048.size (k0_off1_inb i k k0_h3 7)).toLoadRect X9)) rfl ?_
      rw [R4_7, R15_7, R9_7]; rfl
    refine (View.read_writes_cons_put _ _ _ _ _ (off1_eq k 6)).trans ?_
    refine congrArg₂ (fun (b : Vec F S512x2048 .f32) (w : Vec F S8x2048 .f32) => VecWindow.put b ![8 * (8 * k.val + 6), 0] ![8, 2048] w) ?_ ?_
    swap
    · refine Eq.trans (b := chunk v21 v22 v23 v24 (arg4.view.readAt (Elt F) (Rect.unit (s := S512x2048) (k0_off1 k 48#32) S8x2048.size (k0_off1_inb i k k0_h3 6)).toLoadRect X4)
        (arg15.view.readAt (Elt F) (Rect.unit (s := S512x2048) (k0_off1 k 48#32) S8x2048.size (k0_off1_inb i k k0_h3 6)).toLoadRect X15)
        (arg9.view.readAt (Elt F) (Rect.unit (s := S512x2048) (k0_off1 k 48#32) S8x2048.size (k0_off1_inb i k k0_h3 6)).toLoadRect X9)) rfl ?_
      rw [R4_6, R15_6, R9_6]; rfl
    refine (View.read_writes_cons_put _ _ _ _ _ (off1_eq k 5)).trans ?_
    refine congrArg₂ (fun (b : Vec F S512x2048 .f32) (w : Vec F S8x2048 .f32) => VecWindow.put b ![8 * (8 * k.val + 5), 0] ![8, 2048] w) ?_ ?_
    swap
    · refine Eq.trans (b := chunk v21 v22 v23 v24 (arg4.view.readAt (Elt F) (Rect.unit (s := S512x2048) (k0_off1 k 40#32) S8x2048.size (k0_off1_inb i k k0_h3 5)).toLoadRect X4)
        (arg15.view.readAt (Elt F) (Rect.unit (s := S512x2048) (k0_off1 k 40#32) S8x2048.size (k0_off1_inb i k k0_h3 5)).toLoadRect X15)
        (arg9.view.readAt (Elt F) (Rect.unit (s := S512x2048) (k0_off1 k 40#32) S8x2048.size (k0_off1_inb i k k0_h3 5)).toLoadRect X9)) rfl ?_
      rw [R4_5, R15_5, R9_5]; rfl
    refine (View.read_writes_cons_put _ _ _ _ _ (off1_eq k 4)).trans ?_
    refine congrArg₂ (fun (b : Vec F S512x2048 .f32) (w : Vec F S8x2048 .f32) => VecWindow.put b ![8 * (8 * k.val + 4), 0] ![8, 2048] w) ?_ ?_
    swap
    · refine Eq.trans (b := chunk v21 v22 v23 v24 (arg4.view.readAt (Elt F) (Rect.unit (s := S512x2048) (k0_off1 k 32#32) S8x2048.size (k0_off1_inb i k k0_h3 4)).toLoadRect X4)
        (arg15.view.readAt (Elt F) (Rect.unit (s := S512x2048) (k0_off1 k 32#32) S8x2048.size (k0_off1_inb i k k0_h3 4)).toLoadRect X15)
        (arg9.view.readAt (Elt F) (Rect.unit (s := S512x2048) (k0_off1 k 32#32) S8x2048.size (k0_off1_inb i k k0_h3 4)).toLoadRect X9)) rfl ?_
      rw [R4_4, R15_4, R9_4]; rfl
    refine (View.read_writes_cons_put _ _ _ _ _ (off1_eq k 3)).trans ?_
    refine congrArg₂ (fun (b : Vec F S512x2048 .f32) (w : Vec F S8x2048 .f32) => VecWindow.put b ![8 * (8 * k.val + 3), 0] ![8, 2048] w) ?_ ?_
    swap
    · refine Eq.trans (b := chunk v21 v22 v23 v24 (arg4.view.readAt (Elt F) (Rect.unit (s := S512x2048) (k0_off1 k 24#32) S8x2048.size (k0_off1_inb i k k0_h3 3)).toLoadRect X4)
        (arg15.view.readAt (Elt F) (Rect.unit (s := S512x2048) (k0_off1 k 24#32) S8x2048.size (k0_off1_inb i k k0_h3 3)).toLoadRect X15)
        (arg9.view.readAt (Elt F) (Rect.unit (s := S512x2048) (k0_off1 k 24#32) S8x2048.size (k0_off1_inb i k k0_h3 3)).toLoadRect X9)) rfl ?_
      rw [R4_3, R15_3, R9_3]; rfl
    refine (View.read_writes_cons_put _ _ _ _ _ (off1_eq k 2)).trans ?_
    refine congrArg₂ (fun (b : Vec F S512x2048 .f32) (w : Vec F S8x2048 .f32) => VecWindow.put b ![8 * (8 * k.val + 2), 0] ![8, 2048] w) ?_ ?_
    swap
    · refine Eq.trans (b := chunk v21 v22 v23 v24 (arg4.view.readAt (Elt F) (Rect.unit (s := S512x2048) (k0_off1 k 16#32) S8x2048.size (k0_off1_inb i k k0_h3 2)).toLoadRect X4)
        (arg15.view.readAt (Elt F) (Rect.unit (s := S512x2048) (k0_off1 k 16#32) S8x2048.size (k0_off1_inb i k k0_h3 2)).toLoadRect X15)
        (arg9.view.readAt (Elt F) (Rect.unit (s := S512x2048) (k0_off1 k 16#32) S8x2048.size (k0_off1_inb i k k0_h3 2)).toLoadRect X9)) rfl ?_
      rw [R4_2, R15_2, R9_2]; rfl
    refine (View.read_writes_cons_put _ _ _ _ _ (off1_eq k 1)).trans ?_
    refine congrArg₂ (fun (b : Vec F S512x2048 .f32) (w : Vec F S8x2048 .f32) => VecWindow.put b ![8 * (8 * k.val + 1), 0] ![8, 2048] w) ?_ ?_
    swap
    · refine Eq.trans (b := chunk v21 v22 v23 v24 (arg4.view.readAt (Elt F) (Rect.unit (s := S512x2048) (k0_off1 k 8#32) S8x2048.size (k0_off1_inb i k k0_h3 1)).toLoadRect X4)
        (arg15.view.readAt (Elt F) (Rect.unit (s := S512x2048) (k0_off1 k 8#32) S8x2048.size (k0_off1_inb i k k0_h3 1)).toLoadRect X15)
        (arg9.view.readAt (Elt F) (Rect.unit (s := S512x2048) (k0_off1 k 8#32) S8x2048.size (k0_off1_inb i k k0_h3 1)).toLoadRect X9)) rfl ?_
      rw [R4_1, R15_1, R9_1]; rfl
    refine (View.read_writes_cons_put _ _ _ _ _ (off1_eq k 0)).trans ?_
    refine congrArg₂ (fun (b : Vec F S512x2048 .f32) (w : Vec F S8x2048 .f32) => VecWindow.put b ![8 * (8 * k.val), 0] ![8, 2048] w) ?_ ?_
    swap
    · refine Eq.trans (b := chunk v21 v22 v23 v24 (arg4.view.readAt (Elt F) (Rect.unit (s := S512x2048) (k0_off1 k 0#32) S8x2048.size (k0_off1_inb i k k0_h3 0)).toLoadRect X4)
        (arg15.view.readAt (Elt F) (Rect.unit (s := S512x2048) (k0_off1 k 0#32) S8x2048.size (k0_off1_inb i k k0_h3 0)).toLoadRect X15)
        (arg9.view.readAt (Elt F) (Rect.unit (s := S512x2048) (k0_off1 k 0#32) S8x2048.size (k0_off1_inb i k k0_h3 0)).toLoadRect X9)) rfl ?_
      rw [R4_0, R15_0, R9_0]; rfl
    exact h10
  isplitl [H12]
  · iexists _; isplitl [H12]; · iexact H12
    ipureintro
    have s0 : (arg12.view.readAt (Elt F) (Rect.unit (s := S8x2048) ![0, 0] S8x2048.size inb_S8x2048_S8x2048_0_0).toLoadRect f12) = lossSum v21 v22 v23 v24 x a t L (8 * k.val) :=
      (View.readAt_full _ _ _).trans h12
    have s1 : (trip.sl.v138 i arg4 arg9 arg12 arg15 k0_h3 v21 v22 v23 v24 X4 X9 X15 f12 k)
        = lossSum v21 v22 v23 v24 x a t L (8 * k.val + 1) := by
      refine (View.readCov_full arg12.view _ _ _ _).trans ?_
      refine Eq.trans (b := k0_pay11 v21 v22 v23 v24 (arg4.view.readAt (Elt F) (Rect.unit (s := S512x2048) (k0_off1 k 0#32) S8x2048.size (k0_off1_inb i k k0_h3 0)).toLoadRect X4)
        (arg15.view.readAt (Elt F) (Rect.unit (s := S512x2048) (k0_off1 k 0#32) S8x2048.size (k0_off1_inb i k k0_h3 0)).toLoadRect X15)
        (arg9.view.readAt (Elt F) (Rect.unit (s := S512x2048) (k0_off1 k 0#32) S8x2048.size (k0_off1_inb i k k0_h3 0)).toLoadRect X9)
        (arg12.view.readAt (Elt F) (Rect.unit (s := S8x2048) ![0, 0] S8x2048.size inb_S8x2048_S8x2048_0_0).toLoadRect f12)) rfl ?_
      rw [R4_0, R15_0, R9_0, s0]; rfl
    have s2 : (trip.sl.v209 i arg4 arg9 arg12 arg15 k0_h3 v21 v22 v23 v24 X4 X9 X15 f12 k)
        = lossSum v21 v22 v23 v24 x a t L (8 * k.val + 2) := by
      refine (View.readCov_full arg12.view _ _ _ _).trans ?_
      refine Eq.trans (b := k0_pay11 v21 v22 v23 v24 (arg4.view.readAt (Elt F) (Rect.unit (s := S512x2048) (k0_off1 k 8#32) S8x2048.size (k0_off1_inb i k k0_h3 1)).toLoadRect X4)
        (arg15.view.readAt (Elt F) (Rect.unit (s := S512x2048) (k0_off1 k 8#32) S8x2048.size (k0_off1_inb i k k0_h3 1)).toLoadRect X15)
        (arg9.view.readAt (Elt F) (Rect.unit (s := S512x2048) (k0_off1 k 8#32) S8x2048.size (k0_off1_inb i k k0_h3 1)).toLoadRect X9)
        (trip.sl.v138 i arg4 arg9 arg12 arg15 k0_h3 v21 v22 v23 v24 X4 X9 X15 f12 k)) rfl ?_
      rw [R4_1, R15_1, R9_1, s1]; rfl
    have s3 : (trip.sl.v280 i arg4 arg9 arg12 arg15 k0_h3 v21 v22 v23 v24 X4 X9 X15 f12 k)
        = lossSum v21 v22 v23 v24 x a t L (8 * k.val + 3) := by
      refine (View.readCov_full arg12.view _ _ _ _).trans ?_
      refine Eq.trans (b := k0_pay11 v21 v22 v23 v24 (arg4.view.readAt (Elt F) (Rect.unit (s := S512x2048) (k0_off1 k 16#32) S8x2048.size (k0_off1_inb i k k0_h3 2)).toLoadRect X4)
        (arg15.view.readAt (Elt F) (Rect.unit (s := S512x2048) (k0_off1 k 16#32) S8x2048.size (k0_off1_inb i k k0_h3 2)).toLoadRect X15)
        (arg9.view.readAt (Elt F) (Rect.unit (s := S512x2048) (k0_off1 k 16#32) S8x2048.size (k0_off1_inb i k k0_h3 2)).toLoadRect X9)
        (trip.sl.v209 i arg4 arg9 arg12 arg15 k0_h3 v21 v22 v23 v24 X4 X9 X15 f12 k)) rfl ?_
      rw [R4_2, R15_2, R9_2, s2]; rfl
    have s4 : (trip.sl.v351 i arg4 arg9 arg12 arg15 k0_h3 v21 v22 v23 v24 X4 X9 X15 f12 k)
        = lossSum v21 v22 v23 v24 x a t L (8 * k.val + 4) := by
      refine (View.readCov_full arg12.view _ _ _ _).trans ?_
      refine Eq.trans (b := k0_pay11 v21 v22 v23 v24 (arg4.view.readAt (Elt F) (Rect.unit (s := S512x2048) (k0_off1 k 24#32) S8x2048.size (k0_off1_inb i k k0_h3 3)).toLoadRect X4)
        (arg15.view.readAt (Elt F) (Rect.unit (s := S512x2048) (k0_off1 k 24#32) S8x2048.size (k0_off1_inb i k k0_h3 3)).toLoadRect X15)
        (arg9.view.readAt (Elt F) (Rect.unit (s := S512x2048) (k0_off1 k 24#32) S8x2048.size (k0_off1_inb i k k0_h3 3)).toLoadRect X9)
        (trip.sl.v280 i arg4 arg9 arg12 arg15 k0_h3 v21 v22 v23 v24 X4 X9 X15 f12 k)) rfl ?_
      rw [R4_3, R15_3, R9_3, s3]; rfl
    have s5 : (trip.sl.v422 i arg4 arg9 arg12 arg15 k0_h3 v21 v22 v23 v24 X4 X9 X15 f12 k)
        = lossSum v21 v22 v23 v24 x a t L (8 * k.val + 5) := by
      refine (View.readCov_full arg12.view _ _ _ _).trans ?_
      refine Eq.trans (b := k0_pay11 v21 v22 v23 v24 (arg4.view.readAt (Elt F) (Rect.unit (s := S512x2048) (k0_off1 k 32#32) S8x2048.size (k0_off1_inb i k k0_h3 4)).toLoadRect X4)
        (arg15.view.readAt (Elt F) (Rect.unit (s := S512x2048) (k0_off1 k 32#32) S8x2048.size (k0_off1_inb i k k0_h3 4)).toLoadRect X15)
        (arg9.view.readAt (Elt F) (Rect.unit (s := S512x2048) (k0_off1 k 32#32) S8x2048.size (k0_off1_inb i k k0_h3 4)).toLoadRect X9)
        (trip.sl.v351 i arg4 arg9 arg12 arg15 k0_h3 v21 v22 v23 v24 X4 X9 X15 f12 k)) rfl ?_
      rw [R4_4, R15_4, R9_4, s4]; rfl
    have s6 : (trip.sl.v493 i arg4 arg9 arg12 arg15 k0_h3 v21 v22 v23 v24 X4 X9 X15 f12 k)
        = lossSum v21 v22 v23 v24 x a t L (8 * k.val + 6) := by
      refine (View.readCov_full arg12.view _ _ _ _).trans ?_
      refine Eq.trans (b := k0_pay11 v21 v22 v23 v24 (arg4.view.readAt (Elt F) (Rect.unit (s := S512x2048) (k0_off1 k 40#32) S8x2048.size (k0_off1_inb i k k0_h3 5)).toLoadRect X4)
        (arg15.view.readAt (Elt F) (Rect.unit (s := S512x2048) (k0_off1 k 40#32) S8x2048.size (k0_off1_inb i k k0_h3 5)).toLoadRect X15)
        (arg9.view.readAt (Elt F) (Rect.unit (s := S512x2048) (k0_off1 k 40#32) S8x2048.size (k0_off1_inb i k k0_h3 5)).toLoadRect X9)
        (trip.sl.v422 i arg4 arg9 arg12 arg15 k0_h3 v21 v22 v23 v24 X4 X9 X15 f12 k)) rfl ?_
      rw [R4_5, R15_5, R9_5, s5]; rfl
    have s7 : (trip.sl.v564 i arg4 arg9 arg12 arg15 k0_h3 v21 v22 v23 v24 X4 X9 X15 f12 k)
        = lossSum v21 v22 v23 v24 x a t L (8 * k.val + 7) := by
      refine (View.readCov_full arg12.view _ _ _ _).trans ?_
      refine Eq.trans (b := k0_pay11 v21 v22 v23 v24 (arg4.view.readAt (Elt F) (Rect.unit (s := S512x2048) (k0_off1 k 48#32) S8x2048.size (k0_off1_inb i k k0_h3 6)).toLoadRect X4)
        (arg15.view.readAt (Elt F) (Rect.unit (s := S512x2048) (k0_off1 k 48#32) S8x2048.size (k0_off1_inb i k k0_h3 6)).toLoadRect X15)
        (arg9.view.readAt (Elt F) (Rect.unit (s := S512x2048) (k0_off1 k 48#32) S8x2048.size (k0_off1_inb i k k0_h3 6)).toLoadRect X9)
        (trip.sl.v493 i arg4 arg9 arg12 arg15 k0_h3 v21 v22 v23 v24 X4 X9 X15 f12 k)) rfl ?_
      rw [R4_6, R15_6, R9_6, s6]; rfl
    refine (View.read_writes_full _ _ _ _ _).trans ?_
    refine Eq.trans (b := k0_pay11 v21 v22 v23 v24 (arg4.view.readAt (Elt F) (Rect.unit (s := S512x2048) (k0_off1 k 56#32) S8x2048.size (k0_off1_inb i k k0_h3 7)).toLoadRect X4)
      (arg15.view.readAt (Elt F) (Rect.unit (s := S512x2048) (k0_off1 k 56#32) S8x2048.size (k0_off1_inb i k k0_h3 7)).toLoadRect X15)
      (arg9.view.readAt (Elt F) (Rect.unit (s := S512x2048) (k0_off1 k 56#32) S8x2048.size (k0_off1_inb i k k0_h3 7)).toLoadRect X9)
      (trip.sl.v564 i arg4 arg9 arg12 arg15 k0_h3 v21 v22 v23 v24 X4 X9 X15 f12 k)) rfl ?_
    rw [R4_7, R15_7, R9_7, s7]; rfl
  isplitl [H13]
  · iexists _; isplitl [H13]; · iexact H13
    ipureintro
    have s0 : (arg13.view.readAt (Elt F) (Rect.unit (s := S8x2048) ![0, 0] S8x2048.size inb_S8x2048_S8x2048_0_0).toLoadRect f13) = scaleGrad v21 v22 v23 v24 x a t G (8 * k.val) :=
      (View.readAt_full _ _ _).trans h13
    have s1 : (trip.sl.v145 i arg4 arg9 arg13 arg15 k0_h3 v21 v22 v23 v24 X4 X9 X15 f13 k)
        = scaleGrad v21 v22 v23 v24 x a t G (8 * k.val + 1) := by
      refine (View.readCov_full arg13.view _ _ _ _).trans ?_
      refine Eq.trans (b := k0_pay13 (normed v21 v22 (arg4.view.readAt (Elt F) (Rect.unit (s := S512x2048) (k0_off1 k 0#32) S8x2048.size (k0_off1_inb i k k0_h3 0)).toLoadRect X4)
        (arg15.view.readAt (Elt F) (Rect.unit (s := S512x2048) (k0_off1 k 0#32) S8x2048.size (k0_off1_inb i k k0_h3 0)).toLoadRect X15))
        (diff v21 v22 v23 v24 (arg4.view.readAt (Elt F) (Rect.unit (s := S512x2048) (k0_off1 k 0#32) S8x2048.size (k0_off1_inb i k k0_h3 0)).toLoadRect X4)
        (arg15.view.readAt (Elt F) (Rect.unit (s := S512x2048) (k0_off1 k 0#32) S8x2048.size (k0_off1_inb i k k0_h3 0)).toLoadRect X15)
        (arg9.view.readAt (Elt F) (Rect.unit (s := S512x2048) (k0_off1 k 0#32) S8x2048.size (k0_off1_inb i k k0_h3 0)).toLoadRect X9)) perRow
        (arg13.view.readAt (Elt F) (Rect.unit (s := S8x2048) ![0, 0] S8x2048.size inb_S8x2048_S8x2048_0_0).toLoadRect f13)) rfl ?_
      rw [R4_0, R15_0, R9_0, s0]; rfl
    have s2 : (trip.sl.v216 i arg4 arg9 arg13 arg15 k0_h3 v21 v22 v23 v24 X4 X9 X15 f13 k)
        = scaleGrad v21 v22 v23 v24 x a t G (8 * k.val + 2) := by
      refine (View.readCov_full arg13.view _ _ _ _).trans ?_
      refine Eq.trans (b := k0_pay13 (normed v21 v22 (arg4.view.readAt (Elt F) (Rect.unit (s := S512x2048) (k0_off1 k 8#32) S8x2048.size (k0_off1_inb i k k0_h3 1)).toLoadRect X4)
        (arg15.view.readAt (Elt F) (Rect.unit (s := S512x2048) (k0_off1 k 8#32) S8x2048.size (k0_off1_inb i k k0_h3 1)).toLoadRect X15))
        (diff v21 v22 v23 v24 (arg4.view.readAt (Elt F) (Rect.unit (s := S512x2048) (k0_off1 k 8#32) S8x2048.size (k0_off1_inb i k k0_h3 1)).toLoadRect X4)
        (arg15.view.readAt (Elt F) (Rect.unit (s := S512x2048) (k0_off1 k 8#32) S8x2048.size (k0_off1_inb i k k0_h3 1)).toLoadRect X15)
        (arg9.view.readAt (Elt F) (Rect.unit (s := S512x2048) (k0_off1 k 8#32) S8x2048.size (k0_off1_inb i k k0_h3 1)).toLoadRect X9)) perRow
        (trip.sl.v145 i arg4 arg9 arg13 arg15 k0_h3 v21 v22 v23 v24 X4 X9 X15 f13 k)) rfl ?_
      rw [R4_1, R15_1, R9_1, s1]; rfl
    have s3 : (trip.sl.v287 i arg4 arg9 arg13 arg15 k0_h3 v21 v22 v23 v24 X4 X9 X15 f13 k)
        = scaleGrad v21 v22 v23 v24 x a t G (8 * k.val + 3) := by
      refine (View.readCov_full arg13.view _ _ _ _).trans ?_
      refine Eq.trans (b := k0_pay13 (normed v21 v22 (arg4.view.readAt (Elt F) (Rect.unit (s := S512x2048) (k0_off1 k 16#32) S8x2048.size (k0_off1_inb i k k0_h3 2)).toLoadRect X4)
        (arg15.view.readAt (Elt F) (Rect.unit (s := S512x2048) (k0_off1 k 16#32) S8x2048.size (k0_off1_inb i k k0_h3 2)).toLoadRect X15))
        (diff v21 v22 v23 v24 (arg4.view.readAt (Elt F) (Rect.unit (s := S512x2048) (k0_off1 k 16#32) S8x2048.size (k0_off1_inb i k k0_h3 2)).toLoadRect X4)
        (arg15.view.readAt (Elt F) (Rect.unit (s := S512x2048) (k0_off1 k 16#32) S8x2048.size (k0_off1_inb i k k0_h3 2)).toLoadRect X15)
        (arg9.view.readAt (Elt F) (Rect.unit (s := S512x2048) (k0_off1 k 16#32) S8x2048.size (k0_off1_inb i k k0_h3 2)).toLoadRect X9)) perRow
        (trip.sl.v216 i arg4 arg9 arg13 arg15 k0_h3 v21 v22 v23 v24 X4 X9 X15 f13 k)) rfl ?_
      rw [R4_2, R15_2, R9_2, s2]; rfl
    have s4 : (trip.sl.v358 i arg4 arg9 arg13 arg15 k0_h3 v21 v22 v23 v24 X4 X9 X15 f13 k)
        = scaleGrad v21 v22 v23 v24 x a t G (8 * k.val + 4) := by
      refine (View.readCov_full arg13.view _ _ _ _).trans ?_
      refine Eq.trans (b := k0_pay13 (normed v21 v22 (arg4.view.readAt (Elt F) (Rect.unit (s := S512x2048) (k0_off1 k 24#32) S8x2048.size (k0_off1_inb i k k0_h3 3)).toLoadRect X4)
        (arg15.view.readAt (Elt F) (Rect.unit (s := S512x2048) (k0_off1 k 24#32) S8x2048.size (k0_off1_inb i k k0_h3 3)).toLoadRect X15))
        (diff v21 v22 v23 v24 (arg4.view.readAt (Elt F) (Rect.unit (s := S512x2048) (k0_off1 k 24#32) S8x2048.size (k0_off1_inb i k k0_h3 3)).toLoadRect X4)
        (arg15.view.readAt (Elt F) (Rect.unit (s := S512x2048) (k0_off1 k 24#32) S8x2048.size (k0_off1_inb i k k0_h3 3)).toLoadRect X15)
        (arg9.view.readAt (Elt F) (Rect.unit (s := S512x2048) (k0_off1 k 24#32) S8x2048.size (k0_off1_inb i k k0_h3 3)).toLoadRect X9)) perRow
        (trip.sl.v287 i arg4 arg9 arg13 arg15 k0_h3 v21 v22 v23 v24 X4 X9 X15 f13 k)) rfl ?_
      rw [R4_3, R15_3, R9_3, s3]; rfl
    have s5 : (trip.sl.v429 i arg4 arg9 arg13 arg15 k0_h3 v21 v22 v23 v24 X4 X9 X15 f13 k)
        = scaleGrad v21 v22 v23 v24 x a t G (8 * k.val + 5) := by
      refine (View.readCov_full arg13.view _ _ _ _).trans ?_
      refine Eq.trans (b := k0_pay13 (normed v21 v22 (arg4.view.readAt (Elt F) (Rect.unit (s := S512x2048) (k0_off1 k 32#32) S8x2048.size (k0_off1_inb i k k0_h3 4)).toLoadRect X4)
        (arg15.view.readAt (Elt F) (Rect.unit (s := S512x2048) (k0_off1 k 32#32) S8x2048.size (k0_off1_inb i k k0_h3 4)).toLoadRect X15))
        (diff v21 v22 v23 v24 (arg4.view.readAt (Elt F) (Rect.unit (s := S512x2048) (k0_off1 k 32#32) S8x2048.size (k0_off1_inb i k k0_h3 4)).toLoadRect X4)
        (arg15.view.readAt (Elt F) (Rect.unit (s := S512x2048) (k0_off1 k 32#32) S8x2048.size (k0_off1_inb i k k0_h3 4)).toLoadRect X15)
        (arg9.view.readAt (Elt F) (Rect.unit (s := S512x2048) (k0_off1 k 32#32) S8x2048.size (k0_off1_inb i k k0_h3 4)).toLoadRect X9)) perRow
        (trip.sl.v358 i arg4 arg9 arg13 arg15 k0_h3 v21 v22 v23 v24 X4 X9 X15 f13 k)) rfl ?_
      rw [R4_4, R15_4, R9_4, s4]; rfl
    have s6 : (trip.sl.v500 i arg4 arg9 arg13 arg15 k0_h3 v21 v22 v23 v24 X4 X9 X15 f13 k)
        = scaleGrad v21 v22 v23 v24 x a t G (8 * k.val + 6) := by
      refine (View.readCov_full arg13.view _ _ _ _).trans ?_
      refine Eq.trans (b := k0_pay13 (normed v21 v22 (arg4.view.readAt (Elt F) (Rect.unit (s := S512x2048) (k0_off1 k 40#32) S8x2048.size (k0_off1_inb i k k0_h3 5)).toLoadRect X4)
        (arg15.view.readAt (Elt F) (Rect.unit (s := S512x2048) (k0_off1 k 40#32) S8x2048.size (k0_off1_inb i k k0_h3 5)).toLoadRect X15))
        (diff v21 v22 v23 v24 (arg4.view.readAt (Elt F) (Rect.unit (s := S512x2048) (k0_off1 k 40#32) S8x2048.size (k0_off1_inb i k k0_h3 5)).toLoadRect X4)
        (arg15.view.readAt (Elt F) (Rect.unit (s := S512x2048) (k0_off1 k 40#32) S8x2048.size (k0_off1_inb i k k0_h3 5)).toLoadRect X15)
        (arg9.view.readAt (Elt F) (Rect.unit (s := S512x2048) (k0_off1 k 40#32) S8x2048.size (k0_off1_inb i k k0_h3 5)).toLoadRect X9)) perRow
        (trip.sl.v429 i arg4 arg9 arg13 arg15 k0_h3 v21 v22 v23 v24 X4 X9 X15 f13 k)) rfl ?_
      rw [R4_5, R15_5, R9_5, s5]; rfl
    have s7 : (trip.sl.v571 i arg4 arg9 arg13 arg15 k0_h3 v21 v22 v23 v24 X4 X9 X15 f13 k)
        = scaleGrad v21 v22 v23 v24 x a t G (8 * k.val + 7) := by
      refine (View.readCov_full arg13.view _ _ _ _).trans ?_
      refine Eq.trans (b := k0_pay13 (normed v21 v22 (arg4.view.readAt (Elt F) (Rect.unit (s := S512x2048) (k0_off1 k 48#32) S8x2048.size (k0_off1_inb i k k0_h3 6)).toLoadRect X4)
        (arg15.view.readAt (Elt F) (Rect.unit (s := S512x2048) (k0_off1 k 48#32) S8x2048.size (k0_off1_inb i k k0_h3 6)).toLoadRect X15))
        (diff v21 v22 v23 v24 (arg4.view.readAt (Elt F) (Rect.unit (s := S512x2048) (k0_off1 k 48#32) S8x2048.size (k0_off1_inb i k k0_h3 6)).toLoadRect X4)
        (arg15.view.readAt (Elt F) (Rect.unit (s := S512x2048) (k0_off1 k 48#32) S8x2048.size (k0_off1_inb i k k0_h3 6)).toLoadRect X15)
        (arg9.view.readAt (Elt F) (Rect.unit (s := S512x2048) (k0_off1 k 48#32) S8x2048.size (k0_off1_inb i k k0_h3 6)).toLoadRect X9)) perRow
        (trip.sl.v500 i arg4 arg9 arg13 arg15 k0_h3 v21 v22 v23 v24 X4 X9 X15 f13 k)) rfl ?_
      rw [R4_6, R15_6, R9_6, s6]; rfl
    refine (View.read_writes_full _ _ _ _ _).trans ?_
    refine Eq.trans (b := k0_pay13 (normed v21 v22 (arg4.view.readAt (Elt F) (Rect.unit (s := S512x2048) (k0_off1 k 56#32) S8x2048.size (k0_off1_inb i k k0_h3 7)).toLoadRect X4)
      (arg15.view.readAt (Elt F) (Rect.unit (s := S512x2048) (k0_off1 k 56#32) S8x2048.size (k0_off1_inb i k k0_h3 7)).toLoadRect X15))
      (diff v21 v22 v23 v24 (arg4.view.readAt (Elt F) (Rect.unit (s := S512x2048) (k0_off1 k 56#32) S8x2048.size (k0_off1_inb i k k0_h3 7)).toLoadRect X4)
      (arg15.view.readAt (Elt F) (Rect.unit (s := S512x2048) (k0_off1 k 56#32) S8x2048.size (k0_off1_inb i k k0_h3 7)).toLoadRect X15)
      (arg9.view.readAt (Elt F) (Rect.unit (s := S512x2048) (k0_off1 k 56#32) S8x2048.size (k0_off1_inb i k k0_h3 7)).toLoadRect X9)) perRow
      (trip.sl.v571 i arg4 arg9 arg13 arg15 k0_h3 v21 v22 v23 v24 X4 X9 X15 f13 k)) rfl ?_
    rw [R4_7, R15_7, R9_7, s7]; rfl
  iexists _; isplitl [H14]; · iexact H14
  ipureintro
  have s0 : (arg14.view.readAt (Elt F) (Rect.unit (s := S8x2048) ![0, 0] S8x2048.size inb_S8x2048_S8x2048_0_0).toLoadRect f14) = shiftGrad v21 v22 v23 v24 x a t B (8 * k.val) :=
    (View.readAt_full _ _ _).trans h14
  have s1 : (trip.sl.v150 i arg4 arg9 arg14 arg15 k0_h3 v21 v22 v23 v24 X4 X9 X15 f14 k)
      = shiftGrad v21 v22 v23 v24 x a t B (8 * k.val + 1) := by
    refine (View.readCov_full arg14.view _ _ _ _).trans ?_
    refine Eq.trans (b := k0_pay14 (diff v21 v22 v23 v24 (arg4.view.readAt (Elt F) (Rect.unit (s := S512x2048) (k0_off1 k 0#32) S8x2048.size (k0_off1_inb i k k0_h3 0)).toLoadRect X4)
      (arg15.view.readAt (Elt F) (Rect.unit (s := S512x2048) (k0_off1 k 0#32) S8x2048.size (k0_off1_inb i k k0_h3 0)).toLoadRect X15)
      (arg9.view.readAt (Elt F) (Rect.unit (s := S512x2048) (k0_off1 k 0#32) S8x2048.size (k0_off1_inb i k k0_h3 0)).toLoadRect X9)) perRow
      (arg14.view.readAt (Elt F) (Rect.unit (s := S8x2048) ![0, 0] S8x2048.size inb_S8x2048_S8x2048_0_0).toLoadRect f14)) rfl ?_
    rw [R4_0, R15_0, R9_0, s0]; rfl
  have s2 : (trip.sl.v221 i arg4 arg9 arg14 arg15 k0_h3 v21 v22 v23 v24 X4 X9 X15 f14 k)
      = shiftGrad v21 v22 v23 v24 x a t B (8 * k.val + 2) := by
    refine (View.readCov_full arg14.view _ _ _ _).trans ?_
    refine Eq.trans (b := k0_pay14 (diff v21 v22 v23 v24 (arg4.view.readAt (Elt F) (Rect.unit (s := S512x2048) (k0_off1 k 8#32) S8x2048.size (k0_off1_inb i k k0_h3 1)).toLoadRect X4)
      (arg15.view.readAt (Elt F) (Rect.unit (s := S512x2048) (k0_off1 k 8#32) S8x2048.size (k0_off1_inb i k k0_h3 1)).toLoadRect X15)
      (arg9.view.readAt (Elt F) (Rect.unit (s := S512x2048) (k0_off1 k 8#32) S8x2048.size (k0_off1_inb i k k0_h3 1)).toLoadRect X9)) perRow
      (trip.sl.v150 i arg4 arg9 arg14 arg15 k0_h3 v21 v22 v23 v24 X4 X9 X15 f14 k)) rfl ?_
    rw [R4_1, R15_1, R9_1, s1]; rfl
  have s3 : (trip.sl.v292 i arg4 arg9 arg14 arg15 k0_h3 v21 v22 v23 v24 X4 X9 X15 f14 k)
      = shiftGrad v21 v22 v23 v24 x a t B (8 * k.val + 3) := by
    refine (View.readCov_full arg14.view _ _ _ _).trans ?_
    refine Eq.trans (b := k0_pay14 (diff v21 v22 v23 v24 (arg4.view.readAt (Elt F) (Rect.unit (s := S512x2048) (k0_off1 k 16#32) S8x2048.size (k0_off1_inb i k k0_h3 2)).toLoadRect X4)
      (arg15.view.readAt (Elt F) (Rect.unit (s := S512x2048) (k0_off1 k 16#32) S8x2048.size (k0_off1_inb i k k0_h3 2)).toLoadRect X15)
      (arg9.view.readAt (Elt F) (Rect.unit (s := S512x2048) (k0_off1 k 16#32) S8x2048.size (k0_off1_inb i k k0_h3 2)).toLoadRect X9)) perRow
      (trip.sl.v221 i arg4 arg9 arg14 arg15 k0_h3 v21 v22 v23 v24 X4 X9 X15 f14 k)) rfl ?_
    rw [R4_2, R15_2, R9_2, s2]; rfl
  have s4 : (trip.sl.v363 i arg4 arg9 arg14 arg15 k0_h3 v21 v22 v23 v24 X4 X9 X15 f14 k)
      = shiftGrad v21 v22 v23 v24 x a t B (8 * k.val + 4) := by
    refine (View.readCov_full arg14.view _ _ _ _).trans ?_
    refine Eq.trans (b := k0_pay14 (diff v21 v22 v23 v24 (arg4.view.readAt (Elt F) (Rect.unit (s := S512x2048) (k0_off1 k 24#32) S8x2048.size (k0_off1_inb i k k0_h3 3)).toLoadRect X4)
      (arg15.view.readAt (Elt F) (Rect.unit (s := S512x2048) (k0_off1 k 24#32) S8x2048.size (k0_off1_inb i k k0_h3 3)).toLoadRect X15)
      (arg9.view.readAt (Elt F) (Rect.unit (s := S512x2048) (k0_off1 k 24#32) S8x2048.size (k0_off1_inb i k k0_h3 3)).toLoadRect X9)) perRow
      (trip.sl.v292 i arg4 arg9 arg14 arg15 k0_h3 v21 v22 v23 v24 X4 X9 X15 f14 k)) rfl ?_
    rw [R4_3, R15_3, R9_3, s3]; rfl
  have s5 : (trip.sl.v434 i arg4 arg9 arg14 arg15 k0_h3 v21 v22 v23 v24 X4 X9 X15 f14 k)
      = shiftGrad v21 v22 v23 v24 x a t B (8 * k.val + 5) := by
    refine (View.readCov_full arg14.view _ _ _ _).trans ?_
    refine Eq.trans (b := k0_pay14 (diff v21 v22 v23 v24 (arg4.view.readAt (Elt F) (Rect.unit (s := S512x2048) (k0_off1 k 32#32) S8x2048.size (k0_off1_inb i k k0_h3 4)).toLoadRect X4)
      (arg15.view.readAt (Elt F) (Rect.unit (s := S512x2048) (k0_off1 k 32#32) S8x2048.size (k0_off1_inb i k k0_h3 4)).toLoadRect X15)
      (arg9.view.readAt (Elt F) (Rect.unit (s := S512x2048) (k0_off1 k 32#32) S8x2048.size (k0_off1_inb i k k0_h3 4)).toLoadRect X9)) perRow
      (trip.sl.v363 i arg4 arg9 arg14 arg15 k0_h3 v21 v22 v23 v24 X4 X9 X15 f14 k)) rfl ?_
    rw [R4_4, R15_4, R9_4, s4]; rfl
  have s6 : (trip.sl.v505 i arg4 arg9 arg14 arg15 k0_h3 v21 v22 v23 v24 X4 X9 X15 f14 k)
      = shiftGrad v21 v22 v23 v24 x a t B (8 * k.val + 6) := by
    refine (View.readCov_full arg14.view _ _ _ _).trans ?_
    refine Eq.trans (b := k0_pay14 (diff v21 v22 v23 v24 (arg4.view.readAt (Elt F) (Rect.unit (s := S512x2048) (k0_off1 k 40#32) S8x2048.size (k0_off1_inb i k k0_h3 5)).toLoadRect X4)
      (arg15.view.readAt (Elt F) (Rect.unit (s := S512x2048) (k0_off1 k 40#32) S8x2048.size (k0_off1_inb i k k0_h3 5)).toLoadRect X15)
      (arg9.view.readAt (Elt F) (Rect.unit (s := S512x2048) (k0_off1 k 40#32) S8x2048.size (k0_off1_inb i k k0_h3 5)).toLoadRect X9)) perRow
      (trip.sl.v434 i arg4 arg9 arg14 arg15 k0_h3 v21 v22 v23 v24 X4 X9 X15 f14 k)) rfl ?_
    rw [R4_5, R15_5, R9_5, s5]; rfl
  have s7 : (trip.sl.v576 i arg4 arg9 arg14 arg15 k0_h3 v21 v22 v23 v24 X4 X9 X15 f14 k)
      = shiftGrad v21 v22 v23 v24 x a t B (8 * k.val + 7) := by
    refine (View.readCov_full arg14.view _ _ _ _).trans ?_
    refine Eq.trans (b := k0_pay14 (diff v21 v22 v23 v24 (arg4.view.readAt (Elt F) (Rect.unit (s := S512x2048) (k0_off1 k 48#32) S8x2048.size (k0_off1_inb i k k0_h3 6)).toLoadRect X4)
      (arg15.view.readAt (Elt F) (Rect.unit (s := S512x2048) (k0_off1 k 48#32) S8x2048.size (k0_off1_inb i k k0_h3 6)).toLoadRect X15)
      (arg9.view.readAt (Elt F) (Rect.unit (s := S512x2048) (k0_off1 k 48#32) S8x2048.size (k0_off1_inb i k k0_h3 6)).toLoadRect X9)) perRow
      (trip.sl.v505 i arg4 arg9 arg14 arg15 k0_h3 v21 v22 v23 v24 X4 X9 X15 f14 k)) rfl ?_
    rw [R4_6, R15_6, R9_6, s6]; rfl
  refine (View.read_writes_full _ _ _ _ _).trans ?_
  refine Eq.trans (b := k0_pay14 (diff v21 v22 v23 v24 (arg4.view.readAt (Elt F) (Rect.unit (s := S512x2048) (k0_off1 k 56#32) S8x2048.size (k0_off1_inb i k k0_h3 7)).toLoadRect X4)
    (arg15.view.readAt (Elt F) (Rect.unit (s := S512x2048) (k0_off1 k 56#32) S8x2048.size (k0_off1_inb i k k0_h3 7)).toLoadRect X15)
    (arg9.view.readAt (Elt F) (Rect.unit (s := S512x2048) (k0_off1 k 56#32) S8x2048.size (k0_off1_inb i k k0_h3 7)).toLoadRect X9)) perRow
    (trip.sl.v576 i arg4 arg9 arg14 arg15 k0_h3 v21 v22 v23 v24 X4 X9 X15 f14 k)) rfl ?_
  rw [R4_7, R15_7, R9_7, s7]; rfl

set_option warn.classDefReducibility false in
/-- The loop's invariant before trip `k`: eight chunks a trip are done. -/
@[sl_loop] def loopInv (𝒱 : Variants) (c : Dev nD) (bd : Option 𝒱.V) (E : Set ℕ)
    (i : grid0.Coords) (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole) (arg5 : Memref sig .tc .vmem S1x2048 .f32)
    (harg5 : arg5.IsWhole) (arg6 : Memref sig .tc .vmem S1x2048 .f32) (harg6 : arg6.IsWhole)
    (arg7 : Memref sig .tc .vmem S1x2048 .f32) (harg7 : arg7.IsWhole) (arg8 : Memref sig .tc .vmem S1x2048 .f32)
    (harg8 : arg8.IsWhole) (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole) (arg13 : Memref sig .tc .vmem S8x2048 .f32)
    (harg13 : arg13.IsWhole) (arg14 : Memref sig .tc .vmem S8x2048 .f32) (harg14 : arg14.IsWhole)
    (arg15 : Memref sig .tc .vmem S512x2048 .f32) (harg15 : arg15.IsWhole) (k0_h3 : k0_cond3 i = 1#1)
    (v21 : Vec F S1x2048 .f32) (v22 : Vec F S1x2048 .f32) (v23 : Vec F S1x2048 .f32) (v24 : Vec F S1x2048 .f32)
    (X_arg4 : BufTy.Contents (Elt F) arg4.view.ty)
    (X_arg9 : BufTy.Contents (Elt F) arg9.view.ty)
    (X_arg15 : BufTy.Contents (Elt F) arg15.view.ty)
    (G_arg10 : BufTy.Contents (Elt F) arg10.view.ty)
    (G_arg12 : BufTy.Contents (Elt F) arg12.view.ty)
    (G_arg13 : BufTy.Contents (Elt F) arg13.view.ty)
    (G_arg14 : BufTy.Contents (Elt F) arg14.view.ty) :
    LoopInvTy_k0_t1 (F := F) Unit ℕ (UR sig nD τ) ℕ 𝒱 c bd E
          i arg2 harg2 arg3 harg3 arg4 harg4 arg5 harg5 arg6 harg6 arg7 harg7 arg8 harg8 arg9 harg9 arg10 harg10
          arg11 harg11 arg12 harg12 arg13 harg13 arg14 harg14 arg15 harg15 k0_h3 v21 v22 v23 v24 where
  inv k _ := iprop((arg4.view.loc (c : Thread nD τ) ↦[arg4.view.set]{fullShare} X_arg4)
    ∗ (arg9.view.loc (c : Thread nD τ) ↦[arg9.view.set]{fullShare} X_arg9)
    ∗ (arg15.view.loc (c : Thread nD τ) ↦[arg15.view.set]{fullShare} X_arg15)
    ∗ (∃ f, (arg10.view.loc (c : Thread nD τ) ↦[arg10.view.set]{fullShare} f)
        ∗ ⌜arg10.view.read (Elt F) f = inputGrad v21 v22 v23 v24 (arg4.view.read (Elt F) X_arg4) (arg15.view.read (Elt F) X_arg15)
            (arg9.view.read (Elt F) X_arg9) (arg10.view.read (Elt F) G_arg10) (8 * k)⌝)
    ∗ (∃ f, (arg12.view.loc (c : Thread nD τ) ↦[arg12.view.set]{fullShare} f)
        ∗ ⌜arg12.view.read (Elt F) f = lossSum v21 v22 v23 v24 (arg4.view.read (Elt F) X_arg4) (arg15.view.read (Elt F) X_arg15)
            (arg9.view.read (Elt F) X_arg9) (arg12.view.read (Elt F) G_arg12) (8 * k)⌝)
    ∗ (∃ f, (arg13.view.loc (c : Thread nD τ) ↦[arg13.view.set]{fullShare} f)
        ∗ ⌜arg13.view.read (Elt F) f = scaleGrad v21 v22 v23 v24 (arg4.view.read (Elt F) X_arg4) (arg15.view.read (Elt F) X_arg15)
            (arg9.view.read (Elt F) X_arg9) (arg13.view.read (Elt F) G_arg13) (8 * k)⌝)
    ∗ (∃ f, (arg14.view.loc (c : Thread nD τ) ↦[arg14.view.set]{fullShare} f)
        ∗ ⌜arg14.view.read (Elt F) f = shiftGrad v21 v22 v23 v24 (arg4.view.read (Elt F) X_arg4) (arg15.view.read (Elt F) X_arg15)
            (arg9.view.read (Elt F) X_arg9) (arg14.view.read (Elt F) G_arg14) (8 * k)⌝))
  step k acc := by
    iintro ⟨H4, H9, H15, ⟨%f10, H10, %h10⟩, ⟨%f12, H12, %h12⟩, ⟨%f13, H13, %h13⟩, ⟨%f14, H14, %h14⟩⟩
    iapply (trip (F := F) 𝒱 c bd E
          i arg2 harg2 arg3 harg3 arg4 harg4 arg5 harg5 arg6 harg6 arg7 harg7 arg8 harg8 arg9 harg9 arg10 harg10
          arg11 harg11 arg12 harg12 arg13 harg13 arg14 harg14 arg15 harg15 k0_h3 v21 v22 v23 v24
      X_arg4 X_arg9 X_arg15 f10 f12 f13 f14 k _ _ _ _ _ _ _ rfl rfl rfl h10 h12 h13 h14)
    isplitl [H4]; · iexact H4
    isplitl [H9]; · iexact H9
    isplitl [H15]; · iexact H15
    isplitl [H10]; · iexact H10
    isplitl [H12]; · iexact H12
    isplitl [H13]; · iexact H13
    iexact H14

end Cert.Proof.MlpOut

end
-- ==== Proof.MlpOutRun.lean ====
/- The MLP's second product, the last layer norm and the loss: the body's runs.

   The reduction goes over four blocks of the hidden features. Its first point clears the running product, every point adds
   its block's part, and after the last the loop over the rows runs. The first point of all clears the running loss and the
   running gradients of the layer norm's two weights. Everything is stated over any values. -/
module

public import proofs.«01_k».proof.Proof.MlpOutTrip

@[expose] public section

set_option maxRecDepth 16384

noncomputable section

namespace Cert.Proof.MlpOut

open Cert.MlpOutKernelIdeal Cert.MlpOutKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first point of all, -/
abbrev isFirst (i : grid0.Coords) : Prop := k0_cond1 i = 1#1
/-- of the first block of features, -/
abbrev isStart (i : grid0.Coords) : Prop :=
  (Scalar.cmpi .ne (Scalar.extui (Scalar.cmpi .eq (BitVec.ofNat 32 (i 1).val) 0#32)) 0#32) = 1#1
/-- and of the last block of features. -/
abbrev isEnd (i : grid0.Coords) : Prop := k0_cond3 i = 1#1

theorem isFirst_iff (t : Fin cfg0.N) : isFirst (grid0.coords t) ↔ t.val % 32 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [isFirst, k0_cond1, e0, e1]
  word_cmp

theorem isStart_iff (t : Fin cfg0.N) : isStart (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [isStart, e1]
  word_cmp

theorem isEnd_iff (t : Fin cfg0.N) : isEnd (grid0.coords t) ↔ t.val % 4 = 3 := by
  have ht : t.val < 32 := Nat.lt_of_lt_of_eq t.isLt N_0
  have e1 : (grid0.coords t 1).val = t.val / 1 % 4 := Pipeline.Grid.coords_val t 1 (by decide) rfl
  simp only [isEnd, k0_cond3, e1]
  word_cmp

/-- The gradient at the layer norm's input, each row out of its chunk. -/
def inputBlock (g b g' b' : Vec F S1x2048 .f32) (x a t : Vec F S512x2048 .f32) : Vec F S512x2048 .f32 :=
  fun y => chunk g b g' b' (rows x (8 * ((y 0).val / 8))) (rows a (8 * ((y 0).val / 8))) (rows t (8 * ((y 0).val / 8)))
    (ix2 (⟨(y 0).val % 8, Nat.mod_lt _ (by decide)⟩ : Fin 8) (y 1))

/-- After `n` chunks the first `8 * n` rows are done, whatever was there before. -/
theorem inputGrad_eq (g b g' b' : Vec F S1x2048 .f32) (x a t : Vec F S512x2048 .f32)
    (D : Vec F S512x2048 .f32) (n : ℕ) (y : S512x2048.Idx) (hy : (y 0).val < 8 * n) :
    inputGrad g b g' b' x a t D n y = inputBlock g b g' b' x a t y := by
  induction n with
  | zero => exact absurd hy (by omega)
  | succ n ih =>
    have h1 : (y 1).val < 2048 := (y 1).isLt
    by_cases h : (y 0).val < 8 * n
    · refine Eq.trans (dif_neg fun hall => ?_) (ih h)
      have : 8 * n ≤ (y 0).val := (hall 0).1
      omega
    · have hq : (y 0).val / 8 = n := by omega
      have hall : ∀ d : Fin 2, (![8 * n, 0] : Fin 2 → ℕ) d ≤ (y d).val
          ∧ (y d).val < (![8 * n, 0] : Fin 2 → ℕ) d + (![8, 2048] : Fin 2 → ℕ) d := fun d => by
        fin_cases d
        · show 8 * n ≤ (y 0).val ∧ (y 0).val < 8 * n + 8; omega
        · show 0 ≤ (y 1).val ∧ (y 1).val < 0 + 2048; omega
      refine (dif_pos hall).trans ?_
      unfold inputBlock
      rw [hq]
      congr 1
      funext d
      apply Fin.ext
      fin_cases d
      · show (y 0).val - 8 * n = (y 0).val % 8; omega
      · show (y 1).val - 0 = (y 1).val; omega

theorem inputGrad_all (g b g' b' : Vec F S1x2048 .f32) (x a t : Vec F S512x2048 .f32)
    (D : Vec F S512x2048 .f32) : inputGrad g b g' b' x a t D 64 = inputBlock g b g' b' x a t :=
  funext fun y => inputGrad_eq g b g' b' x a t D 64 y (Nat.lt_of_lt_of_eq (y 0).isLt rfl)

set_option maxHeartbeats 1000000 in
/-- The first point of all. -/
theorem run_first (c : Dev nD) (i : grid0.Coords)
    (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole)
    (arg13 : Memref sig .tc .vmem S8x2048 .f32) (harg13 : arg13.IsWhole)
    (arg14 : Memref sig .tc .vmem S8x2048 .f32) (harg14 : arg14.IsWhole)
    (arg15 : Memref sig .tc .vmem S512x2048 .f32) (harg15 : arg15.IsWhole)
    (hc0 : isFirst i) (hc1 : isStart i) (hc2 : ¬isEnd i)
    (x : Vec F S512x2048 .bf16) (w : Vec F S2048x2048 .bf16) (K : PUnit → sProp 𝕄) :
    iprop(owns (c : Thread nD τ) arg2 fullShare x
        ∗ owns (c : Thread nD τ) arg3 fullShare w
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg2 fullShare x
            ∗ owns (c : Thread nD τ) arg3 fullShare w
            ∗ owns (c : Thread nD τ) arg12 fullShare (k0_pay1 (F := F))
            ∗ owns (c : Thread nD τ) arg13 fullShare (k0_pay2 (F := F))
            ∗ owns (c : Thread nD τ) arg14 fullShare (k0_pay3 (F := F))
            ∗ owns (c : Thread nD τ) arg15 fullShare (k0_pay5 (k0_pay4 (F := F)) x w)) -∗ K ⟨⟩))
      ⊢ wp frame (wpE (defs₀ (F := F)) Variants.none c none) Set.univ
          (cc0_mlp_out_ln2 i arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0_mlp_out_ln2_eq_skeleton]; unfold cc0_mlp_out_ln2_skel
  unfold owns
  iintro ⟨⟨%f2, %hf2, H2⟩, ⟨%f3, %hf3, H3⟩, ⟨%d12, %f12, -, H12⟩, ⟨%d13, %f13, -, H13⟩, ⟨%d14, %f14, -, H14⟩, ⟨%d15, %f15, -, H15⟩, Hk⟩
  obtain rfl := harg2.eq_unread hf2
  obtain rfl := harg3.eq_unread hf3
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H12]
  · iexists _; isplitr
    swap; · iexact H12
    ipureintro
    exact (View.read_writes_full _ _ _ _ _)
  isplitl [H13]
  · iexists _; isplitr
    swap; · iexact H13
    ipureintro
    exact (View.read_writes_full _ _ _ _ _)
  isplitl [H14]
  · iexists _; isplitr
    swap; · iexact H14
    ipureintro
    exact (View.read_writes_full _ _ _ _ _)
  iexists _; isplitr
  swap; · iexact H15
  ipureintro
  refine (View.read_writes_full _ _ _ _ _).trans ?_
  rw [show run_first.sl.v8 c arg15 = k0_pay4 (F := F) from View.readCov_full _ _ _ _ _, View.readAt_full arg2.view, harg2.read_unread, View.readAt_full arg3.view, harg3.read_unread]

set_option maxHeartbeats 1000000 in
/-- The first block of features of a later block of rows. -/
theorem run_start (c : Dev nD) (i : grid0.Coords)
    (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole)
    (arg13 : Memref sig .tc .vmem S8x2048 .f32) (harg13 : arg13.IsWhole)
    (arg14 : Memref sig .tc .vmem S8x2048 .f32) (harg14 : arg14.IsWhole)
    (arg15 : Memref sig .tc .vmem S512x2048 .f32) (harg15 : arg15.IsWhole)
    (hc0 : ¬isFirst i) (hc1 : isStart i) (hc2 : ¬isEnd i)
    (x : Vec F S512x2048 .bf16) (w : Vec F S2048x2048 .bf16) (K : PUnit → sProp 𝕄) :
    iprop(owns (c : Thread nD τ) arg2 fullShare x
        ∗ owns (c : Thread nD τ) arg3 fullShare w
        ∗ (∃ d, owns (c : Thread nD τ) arg15 fullShare d)
        ∗ (iprop(owns (c : Thread nD τ) arg2 fullShare x
            ∗ owns (c : Thread nD τ) arg3 fullShare w
            ∗ owns (c : Thread nD τ) arg15 fullShare (k0_pay5 (k0_pay4 (F := F)) x w)) -∗ K ⟨⟩))
      ⊢ wp frame (wpE (defs₀ (F := F)) Variants.none c none) Set.univ
          (cc0_mlp_out_ln2 i arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0_mlp_out_ln2_eq_skeleton]; unfold cc0_mlp_out_ln2_skel
  unfold owns
  iintro ⟨⟨%f2, %hf2, H2⟩, ⟨%f3, %hf3, H3⟩, ⟨%d15, %f15, -, H15⟩, Hk⟩
  obtain rfl := harg2.eq_unread hf2
  obtain rfl := harg3.eq_unread hf3
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H15
  ipureintro
  refine (View.read_writes_full _ _ _ _ _).trans ?_
  rw [show run_start.sl.v8 c arg15 = k0_pay4 (F := F) from View.readCov_full _ _ _ _ _, View.readAt_full arg2.view, harg2.read_unread, View.readAt_full arg3.view, harg3.read_unread]

set_option maxHeartbeats 1000000 in
/-- A block of features between the first and the last. -/
theorem run_inner (c : Dev nD) (i : grid0.Coords)
    (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole)
    (arg13 : Memref sig .tc .vmem S8x2048 .f32) (harg13 : arg13.IsWhole)
    (arg14 : Memref sig .tc .vmem S8x2048 .f32) (harg14 : arg14.IsWhole)
    (arg15 : Memref sig .tc .vmem S512x2048 .f32) (harg15 : arg15.IsWhole)
    (hc0 : ¬isFirst i) (hc1 : ¬isStart i) (hc2 : ¬isEnd i)
    (x : Vec F S512x2048 .bf16) (w : Vec F S2048x2048 .bf16) (p : Vec F S512x2048 .f32) (K : PUnit → sProp 𝕄) :
    iprop(owns (c : Thread nD τ) arg2 fullShare x
        ∗ owns (c : Thread nD τ) arg3 fullShare w
        ∗ owns (c : Thread nD τ) arg15 fullShare p
        ∗ (iprop(owns (c : Thread nD τ) arg2 fullShare x
            ∗ owns (c : Thread nD τ) arg3 fullShare w
            ∗ owns (c : Thread nD τ) arg15 fullShare (k0_pay5 p x w)) -∗ K ⟨⟩))
      ⊢ wp frame (wpE (defs₀ (F := F)) Variants.none c none) Set.univ
          (cc0_mlp_out_ln2 i arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0_mlp_out_ln2_eq_skeleton]; unfold cc0_mlp_out_ln2_skel
  unfold owns
  iintro ⟨⟨%f2, %hf2, H2⟩, ⟨%f3, %hf3, H3⟩, ⟨%f15, %hf15, H15⟩, Hk⟩
  obtain rfl := harg2.eq_unread hf2
  obtain rfl := harg3.eq_unread hf3
  obtain rfl := harg15.eq_unread hf15
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H15
  ipureintro
  refine (View.read_writes_full _ _ _ _ _).trans ?_
  rw [View.readAt_full arg15.view, harg15.read_unread, View.readAt_full arg2.view, harg2.read_unread, View.readAt_full arg3.view, harg3.read_unread]

set_option maxHeartbeats 1000000 in
/-- The last block of features: the product is whole and the loop goes over its rows. -/
theorem run_end (c : Dev nD) (i : grid0.Coords)
    (arg2 : Memref sig .tc .vmem S512x2048 .bf16) (harg2 : arg2.IsWhole)
    (arg3 : Memref sig .tc .vmem S2048x2048 .bf16) (harg3 : arg3.IsWhole)
    (arg4 : Memref sig .tc .vmem S512x2048 .f32) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1x2048 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .bf16) (harg11 : arg11.IsWhole)
    (arg12 : Memref sig .tc .vmem S8x2048 .f32) (harg12 : arg12.IsWhole)
    (arg13 : Memref sig .tc .vmem S8x2048 .f32) (harg13 : arg13.IsWhole)
    (arg14 : Memref sig .tc .vmem S8x2048 .f32) (harg14 : arg14.IsWhole)
    (arg15 : Memref sig .tc .vmem S512x2048 .f32) (harg15 : arg15.IsWhole)
    (hc0 : ¬isFirst i) (hc1 : ¬isStart i) (hc2 : isEnd i)
    (x : Vec F S512x2048 .bf16) (w : Vec F S2048x2048 .bf16) (xh : Vec F S512x2048 .f32) (g : Vec F S1x2048 .f32) (b : Vec F S1x2048 .f32) (g' : Vec F S1x2048 .f32) (b' : Vec F S1x2048 .f32) (t : Vec F S512x2048 .f32) (L : Vec F S8x2048 .f32) (G : Vec F S8x2048 .f32) (B : Vec F S8x2048 .f32) (p : Vec F S512x2048 .f32) (K : PUnit → sProp 𝕄) :
    iprop(owns (c : Thread nD τ) arg2 fullShare x
        ∗ owns (c : Thread nD τ) arg3 fullShare w
        ∗ owns (c : Thread nD τ) arg4 fullShare xh
        ∗ owns (c : Thread nD τ) arg5 fullShare g
        ∗ owns (c : Thread nD τ) arg6 fullShare b
        ∗ owns (c : Thread nD τ) arg7 fullShare g'
        ∗ owns (c : Thread nD τ) arg8 fullShare b'
        ∗ owns (c : Thread nD τ) arg9 fullShare t
        ∗ owns (c : Thread nD τ) arg12 fullShare L
        ∗ owns (c : Thread nD τ) arg13 fullShare G
        ∗ owns (c : Thread nD τ) arg14 fullShare B
        ∗ owns (c : Thread nD τ) arg15 fullShare p
        ∗ (∃ d, owns (c : Thread nD τ) arg10 fullShare d)
        ∗ (∃ d, owns (c : Thread nD τ) arg11 fullShare d)
        ∗ (iprop(owns (c : Thread nD τ) arg2 fullShare x
            ∗ owns (c : Thread nD τ) arg3 fullShare w
            ∗ owns (c : Thread nD τ) arg4 fullShare xh
            ∗ owns (c : Thread nD τ) arg5 fullShare g
            ∗ owns (c : Thread nD τ) arg6 fullShare b
            ∗ owns (c : Thread nD τ) arg7 fullShare g'
            ∗ owns (c : Thread nD τ) arg8 fullShare b'
            ∗ owns (c : Thread nD τ) arg9 fullShare t
            ∗ owns (c : Thread nD τ) arg12 fullShare (lossSum g b g' b' xh (k0_pay5 p x w) t L 64)
            ∗ owns (c : Thread nD τ) arg13 fullShare (scaleGrad g b g' b' xh (k0_pay5 p x w) t G 64)
            ∗ owns (c : Thread nD τ) arg14 fullShare (shiftGrad g b g' b' xh (k0_pay5 p x w) t B 64)
            ∗ owns (c : Thread nD τ) arg15 fullShare (k0_pay5 p x w)
            ∗ owns (c : Thread nD τ) arg10 fullShare (inputBlock g b g' b' xh (k0_pay5 p x w) t)
            ∗ owns (c : Thread nD τ) arg11 fullShare (k0_pay6 (inputBlock g b g' b' xh (k0_pay5 p x w) t))) -∗ K ⟨⟩))
      ⊢ wp frame (wpE (defs₀ (F := F)) Variants.none c none) Set.univ
          (cc0_mlp_out_ln2 i arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0_mlp_out_ln2_eq_skeleton]; unfold cc0_mlp_out_ln2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f12, %hf12, H12⟩, ⟨%f13, %hf13, H13⟩, ⟨%f14, %hf14, H14⟩, ⟨%f15, %hf15, H15⟩, ⟨%d10, %f10, -, H10⟩, ⟨%d11, %f11, -, H11⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg12.eq_unread hf12
  obtain rfl := harg13.eq_unread hf13
  obtain rfl := harg14.eq_unread hf14
  obtain rfl := harg15.eq_unread hf15
  sl_exec (disch := first | sl_exact hc0 | sl_exact hc1 | sl_exact hc2)
  sl_step
  have eP : View.read (Elt F) arg15.view (arg15.view.writes (Elt F) arg15.view.junk
      (run_end.sl.H15_1 c arg2 harg2 arg3 harg3 arg15 harg15 x w p)) = k0_pay5 p x w := by
    refine (View.read_writes_full _ _ _ _ _).trans ?_
    rw [View.readAt_full arg15.view, harg15.read_unread, View.readAt_full arg2.view, harg2.read_unread,
      View.readAt_full arg3.view, harg3.read_unread]
  have e64 : 8 * Scf.trips k0_t1_loop.lb k0_t1_loop.ub k0_t1_loop.st = 64 := by decide
  rw [eP, harg4.read_unread, harg9.read_unread, View.readAt_full arg5.view, harg5.read_unread,
    View.readAt_full arg6.view, harg6.read_unread, View.readAt_full arg7.view, harg7.read_unread,
    View.readAt_full arg8.view, harg8.read_unread, e64, inputGrad_all] at hL4
  rw [eP, harg4.read_unread, harg9.read_unread, View.readAt_full arg5.view, harg5.read_unread,
    View.readAt_full arg6.view, harg6.read_unread, View.readAt_full arg7.view, harg7.read_unread,
    View.readAt_full arg8.view, harg8.read_unread, harg12.read_unread, e64] at hL6
  rw [eP, harg4.read_unread, harg9.read_unread, View.readAt_full arg5.view, harg5.read_unread,
    View.readAt_full arg6.view, harg6.read_unread, View.readAt_full arg7.view, harg7.read_unread,
    View.readAt_full arg8.view, harg8.read_unread, harg13.read_unread, e64] at hL8
  rw [eP, harg4.read_unread, harg9.read_unread, View.readAt_full arg5.view, harg5.read_unread,
    View.readAt_full arg6.view, harg6.read_unread, View.readAt_full arg7.view, harg7.read_unread,
    View.readAt_full arg8.view, harg8.read_unread, harg14.read_unread, e64] at hL10
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H12]
  · iexists _; isplitr
    swap; · iexact H12
    ipureintro
    exact hL6
  isplitl [H13]
  · iexists _; isplitr
    swap; · iexact H13
    ipureintro
    exact hL8
  isplitl [H14]
  · iexists _; isplitr
    swap; · iexact H14
    ipureintro
    exact hL10
  isplitl [H15]
  · iexists _; isplitr
    swap; · iexact H15
    ipureintro
    refine (View.read_writes_full _ _ _ _ _).trans ?_
    rw [View.readAt_full arg15.view, harg15.read_unread, View.readAt_full arg2.view, harg2.read_unread, View.readAt_full arg3.view, harg3.read_unread]
  isplitl [H10]
  · iexists _; isplitr
    swap; · iexact H10
    ipureintro
    exact hL4
  iexists _; isplitr
  swap; · iexact H11
  ipureintro
  exact (View.read_writes_full _ _ _ _ _).trans (congrArg k0_pay6 ((View.readAt_full arg10.view _ _).trans hL4))

end Cert.Proof.MlpOut

end
-- ==== Proof.MlpOutFrame.lean ====
/- The MLP's second product, the last layer norm and the loss: the run of the whole call.

   Between the points the scratch memory holds the product's part over the blocks of features so far. The running loss and
   the two gradients of the layer norm's weights stay in their buffers over the whole grid and grow by a block of rows at
   each last block of features; the block of the gradient at the layer norm's input is written there. The frame claims of
   the printed program and of its idealized text are this one run. -/
module

public import proofs.«01_k».proof.Proof.MlpOutRun
public import proofs.«01_k».proof.Proof.Gen.MlpOutKernel.Launch
public import Idealize.ShloMosaic.Lib.Claim

@[expose] public section

set_option maxRecDepth 16384

noncomputable section

namespace Cert.Proof.MlpOut

open Cert.MlpOutKernelIdeal Cert.MlpOutKernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch memory's name as a memref. -/
abbrev scratch : Memref sig .tc .vmem S512x2048 .f32 := Memref.whole cc0_scratch0

/-- The product of a block of rows, over the blocks of features up to point `n`'s. -/
def partialSum (c : Dev nD) : (n : ℕ) → n < cfg0.N → Vec F S512x2048 .f32
  | 0, h => k0_pay5 (k0_pay4 (F := F)) (iblk m c 0 ⟨0, h⟩) (iblk m c 1 ⟨0, h⟩)
  | n + 1, h => k0_pay5 (if (n + 1) % 4 = 0 then k0_pay4 (F := F) else partialSum c n (Nat.lt_of_succ_lt h))
      (iblk m c 0 ⟨n + 1, h⟩) (iblk m c 1 ⟨n + 1, h⟩)

theorem partialSum_start (c : Dev nD) (t : Fin cfg0.N) (h : t.val % 4 = 0) :
    partialSum m c t.val t.isLt = k0_pay5 (k0_pay4 (F := F)) (iblk m c 0 t) (iblk m c 1 t) := by
  obtain ⟨n, hn⟩ := t
  cases n with
  | zero => rfl
  | succ n => show k0_pay5 (if (n + 1) % 4 = 0 then _ else _) _ _ = _; rw [if_pos h]

theorem partialSum_inner (c : Dev nD) (t : Fin cfg0.N) (h : t.val % 4 ≠ 0) :
    partialSum m c t.val t.isLt = k0_pay5 (partialSum m c (t.val - 1) (Nat.lt_of_le_of_lt (Nat.sub_le _ _) t.isLt))
      (iblk m c 0 t) (iblk m c 1 t) := by
  obtain ⟨n, hn⟩ := t
  cases n with
  | zero => exact absurd rfl h
  | succ n => show k0_pay5 (if (n + 1) % 4 = 0 then _ else _) _ _ = _; rw [if_neg h]; rfl

/-- The last point of block `b` of the rows. -/
def endOf (b : ℕ) : Fin cfg0.N := ⟨(4 * b + 3) % 32, Nat.lt_of_lt_of_eq (Nat.mod_lt _ (by decide)) N_0.symm⟩

theorem endOf_eq (t : Fin cfg0.N) (h : t.val % 4 = 3) : endOf (t.val / 4) = t := by
  have ht : t.val < 32 := Nat.lt_of_lt_of_eq t.isLt N_0
  apply Fin.ext
  show (4 * (t.val / 4) + 3) % 32 = t.val
  omega

/-- The whole product of block `b`. -/
abbrev product (c : Dev nD) (b : ℕ) : Vec F S512x2048 .f32 := partialSum m c (endOf b).val (endOf b).isLt

/-- The loss over the first `b` blocks of rows, -/
def lossAll (c : Dev nD) : ℕ → Vec F S8x2048 .f32
  | 0 => k0_pay1
  | b + 1 => lossSum (iblk m c 3 (endOf b)) (iblk m c 4 (endOf b)) (iblk m c 5 (endOf b)) (iblk m c 6 (endOf b)) (iblk m c 2 (endOf b))
      (product m c b) (iblk m c 7 (endOf b)) (lossAll c b) 64

/-- the gradient of the layer norm's scale, -/
def scaleSum (c : Dev nD) : ℕ → Vec F S8x2048 .f32
  | 0 => k0_pay2
  | b + 1 => scaleGrad (iblk m c 3 (endOf b)) (iblk m c 4 (endOf b)) (iblk m c 5 (endOf b)) (iblk m c 6 (endOf b)) (iblk m c 2 (endOf b))
      (product m c b) (iblk m c 7 (endOf b)) (scaleSum c b) 64

/-- and of its shift. -/
def shiftSum (c : Dev nD) : ℕ → Vec F S8x2048 .f32
  | 0 => k0_pay3
  | b + 1 => shiftGrad (iblk m c 3 (endOf b)) (iblk m c 4 (endOf b)) (iblk m c 5 (endOf b)) (iblk m c 6 (endOf b)) (iblk m c 2 (endOf b))
      (product m c b) (iblk m c 7 (endOf b)) (shiftSum c b) 64

theorem lossAll_end (c : Dev nD) (t : Fin cfg0.N) (h : t.val % 4 = 3) : lossAll m c (t.val / 4 + 1)
    = lossSum (iblk m c 3 t) (iblk m c 4 t) (iblk m c 5 t) (iblk m c 6 t) (iblk m c 2 t)
      (partialSum m c t.val t.isLt) (iblk m c 7 t) (lossAll m c (t.val / 4)) 64 := by
  have key : ∀ (e : Fin cfg0.N), e = t → ∀ s, lossSum (iblk m c 3 e) (iblk m c 4 e) (iblk m c 5 e) (iblk m c 6 e) (iblk m c 2 e)
        (partialSum m c e.val e.isLt) (iblk m c 7 e) s 64
      = lossSum (iblk m c 3 t) (iblk m c 4 t) (iblk m c 5 t) (iblk m c 6 t) (iblk m c 2 t)
        (partialSum m c t.val t.isLt) (iblk m c 7 t) s 64 := by
    rintro _ rfl _; rfl
  exact key _ (endOf_eq t h) _

theorem scaleSum_end (c : Dev nD) (t : Fin cfg0.N) (h : t.val % 4 = 3) : scaleSum m c (t.val / 4 + 1)
    = scaleGrad (iblk m c 3 t) (iblk m c 4 t) (iblk m c 5 t) (iblk m c 6 t) (iblk m c 2 t)
      (partialSum m c t.val t.isLt) (iblk m c 7 t) (scaleSum m c (t.val / 4)) 64 := by
  have key : ∀ (e : Fin cfg0.N), e = t → ∀ s, scaleGrad (iblk m c 3 e) (iblk m c 4 e) (iblk m c 5 e) (iblk m c 6 e) (iblk m c 2 e)
        (partialSum m c e.val e.isLt) (iblk m c 7 e) s 64
      = scaleGrad (iblk m c 3 t) (iblk m c 4 t) (iblk m c 5 t) (iblk m c 6 t) (iblk m c 2 t)
        (partialSum m c t.val t.isLt) (iblk m c 7 t) s 64 := by
    rintro _ rfl _; rfl
  exact key _ (endOf_eq t h) _

theorem shiftSum_end (c : Dev nD) (t : Fin cfg0.N) (h : t.val % 4 = 3) : shiftSum m c (t.val / 4 + 1)
    = shiftGrad (iblk m c 3 t) (iblk m c 4 t) (iblk m c 5 t) (iblk m c 6 t) (iblk m c 2 t)
      (partialSum m c t.val t.isLt) (iblk m c 7 t) (shiftSum m c (t.val / 4)) 64 := by
  have key : ∀ (e : Fin cfg0.N), e = t → ∀ s, shiftGrad (iblk m c 3 e) (iblk m c 4 e) (iblk m c 5 e) (iblk m c 6 e) (iblk m c 2 e)
        (partialSum m c e.val e.isLt) (iblk m c 7 e) s 64
      = shiftGrad (iblk m c 3 t) (iblk m c 4 t) (iblk m c 5 t) (iblk m c 6 t) (iblk m c 2 t)
        (partialSum m c t.val t.isLt) (iblk m c 7 t) s 64 := by
    rintro _ rfl _; rfl
  exact key _ (endOf_eq t h) _

/-- The block of the gradient at the layer norm's input at point `t`. -/
def dzBlock (c : Dev nD) (t : Fin cfg0.N) : Vec F S512x2048 .f32 :=
  inputBlock (iblk m c 3 t) (iblk m c 4 t) (iblk m c 5 t) (iblk m c 6 t) (iblk m c 2 t)
    (partialSum m c t.val t.isLt) (iblk m c 7 t)

/-- Before point `n`: what the launch gives at first, and the running product in the scratch memory from then on. -/
def between (c : Dev nD) : (n : ℕ) → n ≤ cfg0.N → sProp 𝕄
  | 0, _ => Pipeline.ΦA spec0 c
  | n + 1, h => iprop(iprop(owns (c : Thread nD τ) scratch fullShare (partialSum m c n h)) ∗ (∃ r, prngReg c r))

theorem ΦA_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

theorem between_zero (c : Dev nD) (n : ℕ) (h : n ≤ cfg0.N) (hz : n = 0) : between m c n h = Pipeline.ΦA spec0 c := by
  subst hz; rfl

theorem between_succ (c : Dev nD) (n : ℕ) (h : n + 1 ≤ cfg0.N) : between m c (n + 1) h
    = iprop(iprop(owns (c : Thread nD τ) scratch fullShare (partialSum m c n h)) ∗ (∃ r, prngReg c r)) := rfl

theorem between_pos (c : Dev nD) (n : ℕ) (h : n ≤ cfg0.N) (hz : n ≠ 0) : between m c n h
    = iprop(iprop(owns (c : Thread nD τ) scratch fullShare (partialSum m c (n - 1) (by omega))) ∗ (∃ r, prngReg c r)) := by
  cases n with
  | zero => exact absurd rfl hz
  | succ n => rfl

/-- The proof data: inputs stay at their blocks, the outputs' buffers hold the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dzBlock m c t
    | ⟨9, _⟩ => k0_pay6 (dzBlock m c t)
    | ⟨10, _⟩ => lossAll m c ((t.val + 1) / 4)
    | ⟨11, _⟩ => scaleSum m c ((t.val + 1) / 4)
    | ⟨12, _⟩ => shiftSum m c ((t.val + 1) / 4)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = dzBlock m c t := by dsimp only [dats]
theorem after0_9 (c : Dev nD) (t : Fin cfg0.N) : (dats m 0 c).after 9 t = k0_pay6 (dzBlock m c t) := by dsimp only [dats]
theorem after0_10 (c : Dev nD) (t : Fin cfg0.N) : (dats m 0 c).after 10 t = lossAll m c ((t.val + 1) / 4) := by
  dsimp only [dats]
theorem after0_11 (c : Dev nD) (t : Fin cfg0.N) : (dats m 0 c).after 11 t = scaleSum m c ((t.val + 1) / 4) := by
  dsimp only [dats]
theorem after0_12 (c : Dev nD) (t : Fin cfg0.N) : (dats m 0 c).after 12 t = shiftSum m c ((t.val + 1) / 4) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Where the outputs' buffers are left alone -/

theorem idle0_8 (t : Fin cfg0.N) (h : t.val % 4 ≠ 3) : cfg0.idle 8 (grid0.coords t) = true := by
  show (!(k0_cond3 (grid0.coords t) == 1#1)) = true
  rw [beq_eq_false_iff_ne.mpr (fun e => h ((isEnd_iff t).mp e))]; rfl
theorem live0_8 (t : Fin cfg0.N) (h : t.val % 4 = 3) : cfg0.idle 8 (grid0.coords t) = false := by
  show (!(k0_cond3 (grid0.coords t) == 1#1)) = false
  rw [beq_iff_eq.mpr ((isEnd_iff t).mpr h)]; rfl
theorem keep0_8 (t : Fin cfg0.N) (h : t.val % 4 ≠ 3) : (cfg0.win 8).flush t = false :=
  Bool.eq_false_iff.mpr fun e => h ((flush0_8 t).mp e)
theorem idle0_9 (t : Fin cfg0.N) (h : t.val % 4 ≠ 3) : cfg0.idle 9 (grid0.coords t) = true := by
  show (!(k0_cond3 (grid0.coords t) == 1#1)) = true
  rw [beq_eq_false_iff_ne.mpr (fun e => h ((isEnd_iff t).mp e))]; rfl
theorem live0_9 (t : Fin cfg0.N) (h : t.val % 4 = 3) : cfg0.idle 9 (grid0.coords t) = false := by
  show (!(k0_cond3 (grid0.coords t) == 1#1)) = false
  rw [beq_iff_eq.mpr ((isEnd_iff t).mpr h)]; rfl
theorem keep0_9 (t : Fin cfg0.N) (h : t.val % 4 ≠ 3) : (cfg0.win 9).flush t = false :=
  Bool.eq_false_iff.mpr fun e => h ((flush0_9 t).mp e)
theorem idle0_10 (t : Fin cfg0.N) (h0 : t.val ≠ 0) (h : t.val % 4 ≠ 3) : cfg0.idle 10 (grid0.coords t) = true := by
  have ht : t.val < 32 := Nat.lt_of_lt_of_eq t.isLt N_0
  show (!(k0_cond1 (grid0.coords t) == 1#1) && !(k0_cond3 (grid0.coords t) == 1#1)) = true
  rw [beq_eq_false_iff_ne.mpr (fun e => h ((isEnd_iff t).mp e)),
    beq_eq_false_iff_ne.mpr (fun e => h0 (by have := (isFirst_iff t).mp e; omega))]; rfl
theorem live0_10 (t : Fin cfg0.N) (h : t.val = 0 ∨ t.val % 4 = 3) : cfg0.idle 10 (grid0.coords t) = false := by
  show (!(k0_cond1 (grid0.coords t) == 1#1) && !(k0_cond3 (grid0.coords t) == 1#1)) = false
  rcases h with h | h
  · rw [beq_iff_eq.mpr ((isFirst_iff t).mpr (by omega))]; rfl
  · rw [beq_iff_eq.mpr ((isEnd_iff t).mpr h)]; exact Bool.and_false _
theorem keep0_10 (t : Fin cfg0.N) (h : t.val ≠ 31) : (cfg0.win 10).flush t = false :=
  Bool.eq_false_iff.mpr fun e => h (by
    have ht : t.val < 32 := Nat.lt_of_lt_of_eq t.isLt N_0
    have := (flush0_10 t).mp e; omega)
theorem idle0_11 (t : Fin cfg0.N) (h0 : t.val ≠ 0) (h : t.val % 4 ≠ 3) : cfg0.idle 11 (grid0.coords t) = true := by
  have ht : t.val < 32 := Nat.lt_of_lt_of_eq t.isLt N_0
  show (!(k0_cond1 (grid0.coords t) == 1#1) && !(k0_cond3 (grid0.coords t) == 1#1)) = true
  rw [beq_eq_false_iff_ne.mpr (fun e => h ((isEnd_iff t).mp e)),
    beq_eq_false_iff_ne.mpr (fun e => h0 (by have := (isFirst_iff t).mp e; omega))]; rfl
theorem live0_11 (t : Fin cfg0.N) (h : t.val = 0 ∨ t.val % 4 = 3) : cfg0.idle 11 (grid0.coords t) = false := by
  show (!(k0_cond1 (grid0.coords t) == 1#1) && !(k0_cond3 (grid0.coords t) == 1#1)) = false
  rcases h with h | h
  · rw [beq_iff_eq.mpr ((isFirst_iff t).mpr (by omega))]; rfl
  · rw [beq_iff_eq.mpr ((isEnd_iff t).mpr h)]; exact Bool.and_false _
theorem keep0_11 (t : Fin cfg0.N) (h : t.val ≠ 31) : (cfg0.win 11).flush t = false :=
  Bool.eq_false_iff.mpr fun e => h (by
    have ht : t.val < 32 := Nat.lt_of_lt_of_eq t.isLt N_0
    have := (flush0_11 t).mp e; omega)
theorem idle0_12 (t : Fin cfg0.N) (h0 : t.val ≠ 0) (h : t.val % 4 ≠ 3) : cfg0.idle 12 (grid0.coords t) = true := by
  have ht : t.val < 32 := Nat.lt_of_lt_of_eq t.isLt N_0
  show (!(k0_cond1 (grid0.coords t) == 1#1) && !(k0_cond3 (grid0.coords t) == 1#1)) = true
  rw [beq_eq_false_iff_ne.mpr (fun e => h ((isEnd_iff t).mp e)),
    beq_eq_false_iff_ne.mpr (fun e => h0 (by have := (isFirst_iff t).mp e; omega))]; rfl
theorem live0_12 (t : Fin cfg0.N) (h : t.val = 0 ∨ t.val % 4 = 3) : cfg0.idle 12 (grid0.coords t) = false := by
  show (!(k0_cond1 (grid0.coords t) == 1#1) && !(k0_cond3 (grid0.coords t) == 1#1)) = false
  rcases h with h | h
  · rw [beq_iff_eq.mpr ((isFirst_iff t).mpr (by omega))]; rfl
  · rw [beq_iff_eq.mpr ((isEnd_iff t).mpr h)]; exact Bool.and_false _
theorem keep0_12 (t : Fin cfg0.N) (h : t.val ≠ 31) : (cfg0.win 12).flush t = false :=
  Bool.eq_false_iff.mpr fun e => h (by
    have ht : t.val < 32 := Nat.lt_of_lt_of_eq t.isLt N_0
    have := (flush0_12 t).mp e; omega)

/-- After the first point the buffer holds the blocks done so far. -/
theorem before0_10 (c : Dev nD) (n : ℕ) (h : n < cfg0.N) (h0 : n ≠ 0) (d) :
    (dats m 0 c).before 10 ⟨n, h⟩ d = lossAll m c (n / 4) := by
  have hN : n < 32 := Nat.lt_of_lt_of_eq h N_0
  induction n with
  | zero => exact absurd rfl h0
  | succ n ih =>
    have h' : n < cfg0.N := Nat.lt_of_succ_lt h
    rw [Dat.before_of_pos _ _ _ (by exact h0) (Window.fetch_out _ rfl _)]
    show (if (cfg0.win 10).flush ⟨n, h'⟩ = true then d else (dats m 0 c).left 10 ⟨n, h'⟩ d) = _
    rw [keep0_10 ⟨n, h'⟩ (by show n ≠ 31; omega), if_neg Bool.false_ne_true]
    by_cases hn : n = 0 ∨ n % 4 = 3
    · unfold Dat.left
      rw [live0_10 ⟨n, h'⟩ hn]
      exact after0_10 m c ⟨n, h'⟩
    · unfold Dat.left
      rw [idle0_10 ⟨n, h'⟩ (fun e => hn (.inl e)) (fun e => hn (.inr e))]
      refine (ih h' (fun e => hn (.inl e)) (by omega)).trans (congrArg (lossAll m c) ?_)
      omega

/-- After the first point the buffer holds the blocks done so far. -/
theorem before0_11 (c : Dev nD) (n : ℕ) (h : n < cfg0.N) (h0 : n ≠ 0) (d) :
    (dats m 0 c).before 11 ⟨n, h⟩ d = scaleSum m c (n / 4) := by
  have hN : n < 32 := Nat.lt_of_lt_of_eq h N_0
  induction n with
  | zero => exact absurd rfl h0
  | succ n ih =>
    have h' : n < cfg0.N := Nat.lt_of_succ_lt h
    rw [Dat.before_of_pos _ _ _ (by exact h0) (Window.fetch_out _ rfl _)]
    show (if (cfg0.win 11).flush ⟨n, h'⟩ = true then d else (dats m 0 c).left 11 ⟨n, h'⟩ d) = _
    rw [keep0_11 ⟨n, h'⟩ (by show n ≠ 31; omega), if_neg Bool.false_ne_true]
    by_cases hn : n = 0 ∨ n % 4 = 3
    · unfold Dat.left
      rw [live0_11 ⟨n, h'⟩ hn]
      exact after0_11 m c ⟨n, h'⟩
    · unfold Dat.left
      rw [idle0_11 ⟨n, h'⟩ (fun e => hn (.inl e)) (fun e => hn (.inr e))]
      refine (ih h' (fun e => hn (.inl e)) (by omega)).trans (congrArg (scaleSum m c) ?_)
      omega

/-- After the first point the buffer holds the blocks done so far. -/
theorem before0_12 (c : Dev nD) (n : ℕ) (h : n < cfg0.N) (h0 : n ≠ 0) (d) :
    (dats m 0 c).before 12 ⟨n, h⟩ d = shiftSum m c (n / 4) := by
  have hN : n < 32 := Nat.lt_of_lt_of_eq h N_0
  induction n with
  | zero => exact absurd rfl h0
  | succ n ih =>
    have h' : n < cfg0.N := Nat.lt_of_succ_lt h
    rw [Dat.before_of_pos _ _ _ (by exact h0) (Window.fetch_out _ rfl _)]
    show (if (cfg0.win 12).flush ⟨n, h'⟩ = true then d else (dats m 0 c).left 12 ⟨n, h'⟩ d) = _
    rw [keep0_12 ⟨n, h'⟩ (by show n ≠ 31; omega), if_neg Bool.false_ne_true]
    by_cases hn : n = 0 ∨ n % 4 = 3
    · unfold Dat.left
      rw [live0_12 ⟨n, h'⟩ hn]
      exact after0_12 m c ⟨n, h'⟩
    · unfold Dat.left
      rw [idle0_12 ⟨n, h'⟩ (fun e => hn (.inl e)) (fun e => hn (.inr e))]
      refine (ih h' (fun e => hn (.inl e)) (by omega)).trans (congrArg (shiftSum m c) ?_)
      omega

/-! ## The body at a point -/

abbrev ms0_0 (t : Fin cfg0.N) : Memref sig .tc .vmem S512x2048 .bf16 := win0_0.stage (cfg0.slots t 0)
abbrev ms0_1 (t : Fin cfg0.N) : Memref sig .tc .vmem S2048x2048 .bf16 := win0_1.stage (cfg0.slots t 1)
abbrev ms0_2 (t : Fin cfg0.N) : Memref sig .tc .vmem S512x2048 .f32 := win0_2.stage (cfg0.slots t 2)
abbrev ms0_3 (t : Fin cfg0.N) : Memref sig .tc .vmem S1x2048 .f32 := win0_3.stage (cfg0.slots t 3)
abbrev ms0_4 (t : Fin cfg0.N) : Memref sig .tc .vmem S1x2048 .f32 := win0_4.stage (cfg0.slots t 4)
abbrev ms0_5 (t : Fin cfg0.N) : Memref sig .tc .vmem S1x2048 .f32 := win0_5.stage (cfg0.slots t 5)
abbrev ms0_6 (t : Fin cfg0.N) : Memref sig .tc .vmem S1x2048 .f32 := win0_6.stage (cfg0.slots t 6)
abbrev ms0_7 (t : Fin cfg0.N) : Memref sig .tc .vmem S512x2048 .f32 := win0_7.stage (cfg0.slots t 7)
abbrev ms0_8 (t : Fin cfg0.N) : Memref sig .tc .vmem S512x2048 .f32 := win0_8.stage (cfg0.slots t 8)
abbrev ms0_9 (t : Fin cfg0.N) : Memref sig .tc .vmem S512x2048 .bf16 := win0_9.stage (cfg0.slots t 9)
abbrev ms0_10 (t : Fin cfg0.N) : Memref sig .tc .vmem S8x2048 .f32 := win0_10.stage (cfg0.slots t 10)
abbrev ms0_11 (t : Fin cfg0.N) : Memref sig .tc .vmem S8x2048 .f32 := win0_11.stage (cfg0.slots t 11)
abbrev ms0_12 (t : Fin cfg0.N) : Memref sig .tc .vmem S8x2048 .f32 := win0_12.stage (cfg0.slots t 12)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 3200000 in
/-- The body at any point: the first of all, the first block of features, the blocks of features between, the last block of features. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    show (dats m 0 c).Φ t.succ = between m c (t.val + 1) t.isLt from rfl, between_succ,
    show (dats m 0 c).Φ t.castSucc = between m c t.val (Nat.le_of_lt t.isLt) from rfl]
  have hN : t.val < 32 := Nat.lt_of_lt_of_eq t.isLt N_0
  rw [leaves_live m c 0 t rfl, after0_0, leaves_live m c 1 t rfl, after0_1, leaves_live m c 2 t rfl, after0_2, leaves_live m c 3 t rfl, after0_3, leaves_live m c 4 t rfl, after0_4, leaves_live m c 5 t rfl, after0_5, leaves_live m c 6 t rfl, after0_6, leaves_live m c 7 t rfl, after0_7]
  by_cases hz : t.val = 0
  · rw [between_zero m c _ _ hz, ΦA_eq, partialSum_start m c t (by omega),
      Dat.leavesExact_idle _ 8 t (idle0_8 t (by omega)) (keep0_8 t (by omega)),
      Dat.leavesExact_idle _ 9 t (idle0_9 t (by omega)) (keep0_9 t (by omega)),
      leaves_live m c 10 t (live0_10 t (.inl hz)), leaves_live m c 11 t (live0_11 t (.inl hz)),
      leaves_live m c 12 t (live0_12 t (.inl hz)), after0_10, after0_11, after0_12, show (t.val + 1) / 4 = 0 by omega]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid0.coords t) _ _ _ _ _ _ _ _ _ _ _ _ _ _ _ _ _ _ _ _ _ _ _ _ _ _ _ _
      ((isFirst_iff t).mpr (by omega)) ((isStart_iff t).mpr (by omega)) (fun e => by have := (isEnd_iff t).mp e; omega)
      (iblk m c 0 t) (iblk m c 1 t) _)
    isplitl [H0]; · iexact H0
    isplitl [H1]; · iexact H1
    isplitl [H10]; · iexists _; iexact H10
    isplitl [H11]; · iexists _; iexact H11
    isplitl [H12]; · iexists _; iexact H12
    isplitl [HS]; · iexact HS
    iintro ⟨H0, H1, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [H11]; · iexact H11
    iexact H12
  rw [between_pos m c _ _ hz]
  by_cases he : t.val % 4 = 3
  · rw [partialSum_inner m c t (by omega), leaves_live m c 8 t (live0_8 t he), leaves_live m c 9 t (live0_9 t he),
      leaves_live m c 10 t (live0_10 t (.inr he)), leaves_live m c 11 t (live0_11 t (.inr he)),
      leaves_live m c 12 t (live0_12 t (.inr he)), after0_8, after0_9, after0_10, after0_11, after0_12,
      show (t.val + 1) / 4 = t.val / 4 + 1 by omega, lossAll_end m c t he, scaleSum_end m c t he, shiftSum_end m c t he,
      dzBlock, partialSum_inner m c t (by omega)]
    simp only [show ∀ d, (dats m 0 c).before 10 t d = lossAll m c (t.val / 4) from fun d => before0_10 m c t.val t.isLt hz d,
      show ∀ d, (dats m 0 c).before 11 t d = scaleSum m c (t.val / 4) from fun d => before0_11 m c t.val t.isLt hz d,
      show ∀ d, (dats m 0 c).before 12 t d = shiftSum m c (t.val / 4) from fun d => before0_12 m c t.val t.isLt hz d]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_end c (grid0.coords t) _ _ _ _ _ _ _ _ _ _ _ _ _ _ _ _ _ _ _ _ _ _ _ _ _ _ _ _
      (fun e => by have := (isFirst_iff t).mp e; omega) (fun e => by have := (isStart_iff t).mp e; omega)
      ((isEnd_iff t).mpr he) (iblk m c 0 t) (iblk m c 1 t) (iblk m c 2 t) (iblk m c 3 t) (iblk m c 4 t) (iblk m c 5 t)
      (iblk m c 6 t) (iblk m c 7 t) (lossAll m c (t.val / 4)) (scaleSum m c (t.val / 4)) (shiftSum m c (t.val / 4)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H10]; · iexact H10
    isplitl [H11]; · iexact H11
    isplitl [H12]; · iexact H12
    isplitl [HS]; · iexact HS
    isplitl [H8]; · iexists _; iexact H8
    isplitl [H9]; · iexists _; iexact H9
    iintro ⟨H0, H1, H2, H3, H4, H5, H6, H7, H10, H11, H12, HS, H8, H9⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  rw [Dat.leavesExact_idle _ 8 t (idle0_8 t he) (keep0_8 t he), Dat.leavesExact_idle _ 9 t (idle0_9 t he) (keep0_9 t he),
    Dat.leavesExact_idle _ 10 t (idle0_10 t hz he) (keep0_10 t (by omega)),
    Dat.leavesExact_idle _ 11 t (idle0_11 t hz he) (keep0_11 t (by omega)),
    Dat.leavesExact_idle _ 12 t (idle0_12 t hz he) (keep0_12 t (by omega))]
  by_cases hs : t.val % 4 = 0
  · rw [partialSum_start m c t hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_start c (grid0.coords t) _ _ _ _ _ _ _ _ _ _ _ _ _ _ _ _ _ _ _ _ _ _ _ _ _ _ _ _
      (fun e => by have := (isFirst_iff t).mp e; omega) ((isStart_iff t).mpr hs)
      (fun e => he ((isEnd_iff t).mp e)) (iblk m c 0 t) (iblk m c 1 t) _)
    isplitl [H0]; · iexact H0
    isplitl [H1]; · iexact H1
    isplitl [HS]; · iexists _; iexact HS
    iintro ⟨H0, H1, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12
  · rw [partialSum_inner m c t hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_inner c (grid0.coords t) _ _ _ _ _ _ _ _ _ _ _ _ _ _ _ _ _ _ _ _ _ _ _ _ _ _ _ _
      (fun e => by have := (isFirst_iff t).mp e; omega) (fun e => hs ((isStart_iff t).mp e))
      (fun e => he ((isEnd_iff t).mp e)) (iblk m c 0 t) (iblk m c 1 t) _ _)
    isplitl [H0]; · iexact H0
    isplitl [H1]; · iexact H1
    isplitl [HS]; · iexact HS
    iintro ⟨H0, H1, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iexists _; iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

/-- After the last point the scratch memory's contents are forgotten. -/
theorem hout (c : Dev nD) : (dats m 0 c).Φ (Fin.last cfg0.N) ⊢ Pipeline.ΦA spec0 c := by
  have hN : (Fin.last cfg0.N).val ≠ 0 := by rw [Fin.val_last]; have : cfg0.N = 32 := N_0; omega
  rw [show (dats m 0 c).Φ (Fin.last cfg0.N) = between m c (Fin.last cfg0.N).val (Nat.le_refl _) from rfl,
    between_pos m c _ _ hN, ΦA_eq]
  iintro ⟨HS, Hg⟩
  isplitl [HS]
  · iexists _; iexact HS
  iexact Hg

set_option backward.isDefEq.respectTransparency.types false in
set_option maxHeartbeats 800000 in
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The idealized text's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ))
    ((θ_run defs _ _).mono (fun _ h => h.2) (run_main_quiescent m ρ))

end Cert.Proof.MlpOut

namespace Cert.Proof.MlpOutPrinted

open Cert.MlpOutKernel Cert.MlpOutKernel.Gen
open Idealize.ShloMosaic Idealize.ShloMosaic.TcCoe Idealize.ShloMosaic.Tactic Idealize.SL.Sem

/-- The printed program's frame: its text is the idealized one's. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Eq.mp (by sl_kernel_rfl) (Cert.Proof.MlpOut.frame m ρ)

end Cert.Proof.MlpOutPrinted

end
-- ==== Proof.LayerNorm.lean ====
/- Layer norm over a row of 2048 numbers, and its gradient at the row: the textbook formula
   `r · (d − mean d − x · mean (d · x))` against the one that jax's gradient gives.

   `z` is the row, `z − mean z` the centred row, `r` the reciprocal of its deviation, `d` the gradient at the normalized
   row. Both formulas agree where the row and the gradient are finite. -/
module

public import Idealize.ShloMosaic.PureOps.Ideal.Laws
public import Idealize.ShloMosaic.Lib.IdealHost
public import Idealize.ShloMosaic.Lib.Pointwise

@[expose] public section

noncomputable section

namespace Cert.Proof.LayerNorm

open Idealize.ShloMosaic
open scoped BigOperators

/-- The constants: the row's length, the small number under the root, two, and minus a half. -/
abbrev len : EReal := Ideal.ofBits .f32 0x45000000#32
abbrev eps : EReal := Ideal.ofBits .f32 0x3727C5AC#32
abbrev two : EReal := Ideal.ofBits .f32 0x40000000#32
abbrev minusHalf : EReal := Ideal.ofBits .f32 0xBF000000#32

theorem len_eq : len = ((2048 : ℝ) : EReal) := by
  simp [Ideal.ofBits, Ideal.ieee, -EReal.coe_mul]; norm_num
theorem two_eq : two = ((2 : ℝ) : EReal) := by
  simp [Ideal.ofBits, Ideal.ieee, -EReal.coe_mul]; norm_num
theorem minusHalf_eq : minusHalf = ((-(1 / 2) : ℝ) : EReal) := by
  simp [Ideal.ofBits, Ideal.ieee, -EReal.coe_mul, -EReal.coe_neg]; norm_num
theorem eps_eq : ∃ e : ℝ, 0 < e ∧ eps = (e : EReal) := by
  refine ⟨_, ?_, by simp [Ideal.ofBits, Ideal.ieee, -EReal.coe_mul]; rfl⟩
  norm_num

theorem div_coe (a b : ℝ) (h : b ≠ 0) : Ideal.div (a : EReal) (b : EReal) = ((a / b : ℝ) : EReal) := by
  have hb : (b : EReal) ≠ 0 := by exact_mod_cast h
  unfold Ideal.div
  rw [if_neg hb, ← EReal.coe_inv, ← EReal.coe_mul, div_eq_mul_inv]

theorem rsqrt_coe (v : ℝ) (h : 0 < v) : Ideal.rsqrt (v : EReal) = ((Real.sqrt v)⁻¹ : ℝ) := by
  show (if v < 0 then ⊥ else if v = 0 then ⊤ else (((Real.sqrt v)⁻¹ : ℝ) : EReal)) = _
  rw [if_neg (not_lt.mpr h.le), if_neg h.ne']

theorem sum_coe {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- A row of finite numbers is a row of reals. -/
theorem real_of_finite {n : ℕ} (x : Fin n → EReal) (h : ∀ k, x k ≠ ⊤ ∧ x k ≠ ⊥) : ∃ y : Fin n → ℝ, x = fun k => (y k : EReal) :=
  ⟨fun k => (x k).toReal, funext fun k => (EReal.coe_toReal (h k).1 (h k).2).symm⟩

/-- The row's mean, its centred row, its variance and the reciprocal of the deviation. -/
def mean (z : Fin 2048 → EReal) : EReal := Ideal.div (∑ k, z k) len
def centred (z : Fin 2048 → EReal) (j : Fin 2048) : EReal := z j - mean z
def spread (z : Fin 2048 → EReal) : EReal := Ideal.div (∑ k, centred z k * centred z k) len + eps
def scale (z : Fin 2048 → EReal) : EReal := Ideal.rsqrt (spread z)

/-- The textbook gradient at the row, -/
def back (z d : Fin 2048 → EReal) (j : Fin 2048) : EReal :=
  scale z * ((d j - Ideal.div (∑ k, d k) len)
    - (centred z j * scale z) * Ideal.div (∑ k, d k * (centred z k * scale z)) len)

/-- and the one that goes back through the variance and the mean, step by step. -/
def steps (z d : Fin 2048 → EReal) (j : Fin 2048) : EReal :=
  (d j * scale z + Ideal.div ((∑ k, centred z k * d k) * (minusHalf * Ideal.div (scale z) (spread z))) len * (two * centred z j))
    + Ideal.div ((∑ k, -(d k * scale z))
        + ∑ k, -(Ideal.div ((∑ k, centred z k * d k) * (minusHalf * Ideal.div (scale z) (spread z))) len * (two * centred z k))) len

theorem real_identity (x d : Fin 2048 → ℝ) (v : ℝ) (hv : 0 < v) (hx : ∑ k, x k = 0) (j : Fin 2048) :
    (Real.sqrt v)⁻¹ * ((d j - (∑ k, d k) / 2048) - (x j * (Real.sqrt v)⁻¹) * ((∑ k, d k * (x k * (Real.sqrt v)⁻¹)) / 2048))
    = (d j * (Real.sqrt v)⁻¹ + (∑ k, x k * d k) * (-(1 / 2) * ((Real.sqrt v)⁻¹ / v)) / 2048 * (2 * x j))
      + ((∑ k, -(d k * (Real.sqrt v)⁻¹))
        + ∑ k, -((∑ k, x k * d k) * (-(1 / 2) * ((Real.sqrt v)⁻¹ / v)) / 2048 * (2 * x k))) / 2048 := by
  obtain ⟨s, hs, hsv⟩ : ∃ s : ℝ, 0 < s ∧ v = s * s := ⟨Real.sqrt v, Real.sqrt_pos.mpr hv, (Real.mul_self_sqrt hv.le).symm⟩
  rw [show Real.sqrt v = s by rw [hsv]; exact Real.sqrt_mul_self hs.le]
  have e1 : (∑ k, d k * (x k * s⁻¹)) = (∑ k, x k * d k) * s⁻¹ := by
    rw [Finset.sum_mul]; exact Finset.sum_congr rfl fun k _ => by ring
  have e2 : (∑ k, -(d k * s⁻¹)) = -((∑ k, d k) * s⁻¹) := by rw [Finset.sum_neg_distrib, Finset.sum_mul]
  have e3 : ∀ a : ℝ, (∑ k, -(a * (2 * x k))) = 0 := fun a => by
    rw [Finset.sum_neg_distrib, ← Finset.mul_sum, ← Finset.mul_sum, hx]; ring
  rw [e1, e2, e3, hsv]
  have := hs.ne'
  field_simp
  ring

theorem back_eq_steps (z d : Fin 2048 → EReal) (hz : ∀ k, z k ≠ ⊤ ∧ z k ≠ ⊥) (hd : ∀ k, d k ≠ ⊤ ∧ d k ≠ ⊥) (j : Fin 2048) :
    back z d j = steps z d j := by
  obtain ⟨y, rfl⟩ := real_of_finite z hz
  obtain ⟨d, rfl⟩ := real_of_finite d hd
  obtain ⟨e, he, hee⟩ := eps_eq
  have hμ : mean (fun k => (y k : EReal)) = (((∑ k, y k) / 2048 : ℝ) : EReal) := by
    unfold mean; rw [sum_coe, len_eq, div_coe _ _ (by norm_num)]
  have hc : ∀ k, centred (fun k => (y k : EReal)) k = ((y k - (∑ k, y k) / 2048 : ℝ) : EReal) := fun k => by
    unfold centred; rw [hμ, ← EReal.coe_sub]
  have h0 : ∑ k, (y k - (∑ k, y k) / 2048) = 0 := by
    rw [Finset.sum_sub_distrib, Finset.sum_const, Finset.card_univ, Fintype.card_fin, nsmul_eq_mul]
    push_cast
    ring
  obtain ⟨x, hx⟩ : ∃ x : Fin 2048 → ℝ, ∀ k, x k = y k - (∑ k, y k) / 2048 := ⟨_, fun _ => rfl⟩
  simp only [← hx] at hc h0
  have hv : 0 < (∑ k, x k * x k) / 2048 + e :=
    add_pos_of_nonneg_of_pos (div_nonneg (Finset.sum_nonneg fun k _ => mul_self_nonneg _) (by norm_num)) he
  have hs : spread (fun k => (y k : EReal)) = (((∑ k, x k * x k) / 2048 + e : ℝ) : EReal) := by
    unfold spread
    simp only [hc, ← EReal.coe_mul]
    rw [sum_coe, len_eq, div_coe _ _ (by norm_num), hee, ← EReal.coe_add]
  generalize (∑ k, x k * x k) / 2048 + e = v at hv hs
  have hr : scale (fun k => (y k : EReal)) = (((Real.sqrt v)⁻¹ : ℝ) : EReal) := by
    unfold scale; rw [hs, rsqrt_coe v hv]
  have h2048 : (2048 : ℝ) ≠ 0 := by norm_num
  unfold back steps
  simp only [hc, hs, hr, len_eq, two_eq, minusHalf_eq, div_coe _ _ hv.ne', div_coe _ _ h2048, sum_coe, ← EReal.coe_mul,
    ← EReal.coe_neg, ← EReal.coe_add, ← EReal.coe_sub]
  exact congrArg _ (real_identity x d v hv h0 j)

/-- The textbook formula from the reciprocal deviation `r`, the gradient `d` and the normalized row `u`. -/
def textbook (r : EReal) (d u : Fin 2048 → EReal) (j : Fin 2048) : EReal :=
  r * ((d j - Ideal.div (∑ k, d k) len) - u j * Ideal.div (∑ k, d k * u k) len)

theorem back_eq (z d : Fin 2048 → EReal) (j : Fin 2048) :
    back z d j = textbook (scale z) d (fun k => centred z k * scale z) j := rfl

/-- Sums over 4096 positions, kept as 8 partial ones: the part `s` gathers the positions `8 q + s`. -/
theorem regroup (f : ℕ → EReal) : ∑ s : Fin 8, ∑ q ∈ Finset.range (64 * 8), f (8 * q + s.val) = ∑ p : Fin 4096, f p.val := by
  rw [Fin.sum_univ_tiles 512 8 (by norm_num) (fun p : Fin 4096 => f p.val), Finset.sum_comm]
  refine (Finset.sum_range (n := 512) fun q => ∑ s : Fin 8, f (8 * q + s.val)).trans ?_
  refine Finset.sum_congr rfl fun q _ => Finset.sum_congr rfl fun s _ => ?_
  show f (8 * q.val + s.val) = f (q.val * 8 + s.val)
  rw [Nat.mul_comm]

end Cert.Proof.LayerNorm

end
-- ==== Proof.Finite.lean ====
/- Finite numbers among the extended reals: sums and products of them, and the test by which a precondition asks for them.

   A precondition asks of every entry of an array that its absolute value lies below the infinity. Read as an equation of
   one bit, it says that no entry is an infinity. -/
module

public import Idealize.ShloMosaic.PureOps.Ideal.Laws
public import Idealize.ShloMosaic.Lib.IdealHost
public import Idealize.ShloMosaic.Lib.Affine
public import Idealize.ShloMosaic.Lib.ReduceAll
public import proofs.«01_k».proof.Proof.LayerNorm

@[expose] public section

noncomputable section

namespace Cert.Proof.Finite

open Idealize.ShloMosaic
open scoped BigOperators

/-- A sum and a product of finite numbers is finite. -/
theorem fin_add {a b : EReal} (ha : a ≠ ⊤ ∧ a ≠ ⊥) (hb : b ≠ ⊤ ∧ b ≠ ⊥) : a + b ≠ ⊤ ∧ a + b ≠ ⊥ := by
  rw [← EReal.coe_toReal ha.1 ha.2, ← EReal.coe_toReal hb.1 hb.2, ← EReal.coe_add]
  exact ⟨EReal.coe_ne_top _, EReal.coe_ne_bot _⟩
theorem fin_sub {a b : EReal} (ha : a ≠ ⊤ ∧ a ≠ ⊥) (hb : b ≠ ⊤ ∧ b ≠ ⊥) : a - b ≠ ⊤ ∧ a - b ≠ ⊥ := by
  rw [← EReal.coe_toReal ha.1 ha.2, ← EReal.coe_toReal hb.1 hb.2, ← EReal.coe_sub]
  exact ⟨EReal.coe_ne_top _, EReal.coe_ne_bot _⟩
theorem fin_mul {a b : EReal} (ha : a ≠ ⊤ ∧ a ≠ ⊥) (hb : b ≠ ⊤ ∧ b ≠ ⊥) : a * b ≠ ⊤ ∧ a * b ≠ ⊥ := by
  rw [← EReal.coe_toReal ha.1 ha.2, ← EReal.coe_toReal hb.1 hb.2, ← EReal.coe_mul]
  exact ⟨EReal.coe_ne_top _, EReal.coe_ne_bot _⟩
theorem fin_sum {n : ℕ} (f : Fin n → EReal) (h : ∀ k, f k ≠ ⊤ ∧ f k ≠ ⊥) : (∑ k, f k) ≠ ⊤ ∧ (∑ k, f k) ≠ ⊥ := by
  obtain ⟨y, rfl⟩ := LayerNorm.real_of_finite f h
  rw [LayerNorm.sum_coe]
  exact ⟨EReal.coe_ne_top _, EReal.coe_ne_bot _⟩

/-- The residual's scale, about 1.189. -/
theorem alpha_fin : Ideal.ofBits .f32 0x3F9837F0#32 ≠ ⊤ ∧ Ideal.ofBits .f32 0x3F9837F0#32 ≠ ⊥ := by
  obtain ⟨r, hr⟩ : ∃ r : ℝ, Ideal.ofBits .f32 0x3F9837F0#32 = (r : EReal) :=
    ⟨_, by simp [Ideal.ofBits, Ideal.ieee, -EReal.coe_mul]; rfl⟩
  rw [hr]
  exact ⟨EReal.coe_ne_top _, EReal.coe_ne_bot _⟩

/-- A finite row's normalized entries are finite. -/
theorem fin_norm (z : Fin 2048 → EReal) (hz : ∀ k, z k ≠ ⊤ ∧ z k ≠ ⊥) (j : Fin 2048) :
    LayerNorm.centred z j * LayerNorm.scale z ≠ ⊤ ∧ LayerNorm.centred z j * LayerNorm.scale z ≠ ⊥ := by
  obtain ⟨y, rfl⟩ := LayerNorm.real_of_finite z hz
  obtain ⟨e, he, hee⟩ := LayerNorm.eps_eq
  have hμ : LayerNorm.mean (fun k => (y k : EReal)) = (((∑ k, y k) / 2048 : ℝ) : EReal) := by
    unfold LayerNorm.mean; rw [LayerNorm.sum_coe, LayerNorm.len_eq, LayerNorm.div_coe _ _ (by norm_num)]
  have hc : ∀ k, LayerNorm.centred (fun k => (y k : EReal)) k = ((y k - (∑ k, y k) / 2048 : ℝ) : EReal) := fun k => by
    unfold LayerNorm.centred; rw [hμ, ← EReal.coe_sub]
  obtain ⟨x, hx⟩ : ∃ x : Fin 2048 → ℝ, ∀ k, x k = y k - (∑ k, y k) / 2048 := ⟨_, fun _ => rfl⟩
  simp only [← hx] at hc
  have hv : 0 < (∑ k, x k * x k) / 2048 + e :=
    add_pos_of_nonneg_of_pos (div_nonneg (Finset.sum_nonneg fun k _ => mul_self_nonneg _) (by norm_num)) he
  have hs : LayerNorm.spread (fun k => (y k : EReal)) = (((∑ k, x k * x k) / 2048 + e : ℝ) : EReal) := by
    unfold LayerNorm.spread
    simp only [hc, ← EReal.coe_mul]
    rw [LayerNorm.sum_coe, LayerNorm.len_eq, LayerNorm.div_coe _ _ (by norm_num), hee, ← EReal.coe_add]
  unfold LayerNorm.scale
  rw [hs, LayerNorm.rsqrt_coe _ hv, hc, ← EReal.coe_mul]
  exact ⟨EReal.coe_ne_top _, EReal.coe_ne_bot _⟩

/-- A number whose absolute value is below the infinity is neither infinity. -/
theorem finite_of_abs_lt {x : EReal} (h : max x (-x) < ⊤) : x ≠ ⊤ ∧ x ≠ ⊥ :=
  ⟨fun e => absurd h (by rw [e]; simp), fun e => absurd h (by rw [e]; simp)⟩

/-- The shape of a single number. -/
abbrev scalar : Shape := ⟨0, ![]⟩

theorem idx0_subsingleton : Subsingleton scalar.Idx := ⟨fun a b => funext fun i => i.elim0⟩

/-- One array of a precondition: all its absolute values lie below the infinity, so all its entries are finite. -/
theorem all_finite {s : Shape} (x : Vec Ideal s .f32) (hb : scalar.BroadcastsInDim s (![] : Fin 0 → Fin s.rank))
    {axes : List (Fin s.rank)} (hr : s.ReducesTo axes scalar) (hu : 0 < scalar.numel) (j : scalar.Idx)
    (h : Host.reduce IntOp.andi (cmpf .olt (Host.absf (F := Ideal) (φ := .f32) x) (broadcastInDim s ![] hb
        (constant scalar .f32 0x7F800000#32))) (constantI scalar 1 1#1) hr hu j = 1#1)
    (i : s.Idx) : x i ≠ ⊤ ∧ x i ≠ ⊥ := by
  haveI := idx0_subsingleton
  have e := Host.reduce_andi_all _ _ hr hu j h i
  have e' : Ideal.cmp .olt (max (x i) (-(x i))) (Ideal.ofBits .f32 0x7F800000#32) = 1#1 := e
  have top : Ideal.ofBits .f32 0x7F800000#32 = ⊤ := by simp [Ideal.ofBits, Ideal.ieee]
  rw [top] at e'
  refine finite_of_abs_lt ?_
  by_contra hn
  simp [Ideal.cmp, hn] at e'

end Cert.Proof.Finite

end
-- ==== Proof.MlpOutRef.lean ====
/- The MLP's second product, the last layer norm and the loss: what the call computes, and the reference read down to it.

   At position `p` the last layer norm normalizes the row `ALPHA * (xh p * g + b) + hsq p · w2`; with its weights `g'` and
   `b'` and the target `T` this leaves the row of differences `err p`. The loss is half the sum of the means of their
   squares, so that `err p / 2048` is the gradient at the layer norm's result. -/
module

public import proofs.«01_k».proof.Proof.Finite
public import proofs.«01_k».proof.Proof.Gen.MlpOutReferenceIdeal.Read
public import Idealize.ShloMosaic.Lib.Pointwise

@[expose] public section

set_option maxRecDepth 16384

noncomputable section

namespace Cert.Proof.MlpOut

open Cert.MlpOutReferenceIdeal Cert.MlpOutReferenceIdeal.Gen
open Idealize.ShloMosaic
open Cert.Proof.LayerNorm (mean centred spread scale back steps)
open Cert.Proof.Finite (fin_add fin_sub fin_mul fin_sum fin_norm alpha_fin)

/-- The reciprocal of the row length, and half of it. -/
abbrev slope : EReal := Ideal.ofBits .f32 0x3A000000#32
abbrev halfSlope : EReal := Ideal.ofBits .f32 0x39800000#32

theorem slope_eq : slope = ((1 / 2048 : ℝ) : EReal) := by
  simp [Ideal.ofBits, Ideal.ieee, -EReal.coe_mul]; norm_num
theorem halfSlope_eq : halfSlope = ((1 / 4096 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num

/-- The gradient of half the mean of the squares. -/
theorem slope_mul (x : EReal) : Ideal.div (Ideal.ofBits .f32 0x3F000000#32) LayerNorm.len
    * (LayerNorm.two * x) = x * slope := by
  rw [half_eq, LayerNorm.len_eq, LayerNorm.div_coe _ _ (by norm_num), LayerNorm.two_eq, ← mul_assoc,
    ← EReal.coe_mul, slope_eq, mul_comm x]
  congr 2
  norm_num

/-- Dividing by the row length is multiplying by its reciprocal. -/
theorem div_len (x : EReal) : Ideal.div x LayerNorm.len = ((1 / 2048 : ℝ) : EReal) * x := by
  have h : ((2048 : ℝ) : EReal) ≠ 0 := by exact_mod_cast (by norm_num : (2048 : ℝ) ≠ 0)
  rw [LayerNorm.len_eq]
  unfold Ideal.div
  rw [if_neg h, ← EReal.coe_inv, mul_comm]
  norm_num

/-- A factor between the infinities that isn't negative goes into a sum. -/
theorem mul_sum_real {n : ℕ} (r : ℝ) (hr : 0 ≤ r) (f : Fin n → EReal) : (r : EReal) * ∑ k, f k = ∑ k, (r : EReal) * f k := by
  induction n with
  | zero => simp
  | succ n ih =>
    rw [Fin.sum_univ_succ, Fin.sum_univ_succ,
      EReal.left_distrib_of_nonneg_of_ne_top (by exact_mod_cast hr) (EReal.coe_ne_top r), ih]

/-- Half the sum of the means is the whole sum divided by twice the row length. -/
theorem half_means (f : Fin 4096 → EReal) :
    Ideal.ofBits .f32 0x3F000000#32 * ∑ p, Ideal.div (f p) LayerNorm.len = (∑ p, f p) * halfSlope := by
  simp only [div_len]
  rw [← mul_sum_real _ (by norm_num), half_eq, ← mul_assoc, ← EReal.coe_mul, halfSlope_eq, mul_comm]
  congr 2
  norm_num

section values
variable (H : Vec Ideal S4096x8192 .f32) (W : Vec Ideal S8192x2048 .f32) (X : Vec Ideal S4096x2048 .f32)
  (g b g' b' : Vec Ideal S1x2048 .f32) (T : Vec Ideal S4096x2048 .f32)

/-- Row `p` of the last layer norm's input. -/
def rowOf (p : Fin 4096) : Fin 2048 → EReal := fun k =>
  Ideal.ofBits .f32 0x3F9837F0#32 * (X (ix2 p k) * g (ix2 (0 : Fin 1) k) + b (ix2 (0 : Fin 1) k))
    + ∑ f : Fin 8192, H (ix2 p f) * W (ix2 f k)

/-- Its row of differences to the target, from the row `z` of the input. -/
def errOf (z : Fin 2048 → EReal) (p : Fin 4096) : Fin 2048 → EReal := fun k =>
  centred z k * scale z * g' (ix2 (0 : Fin 1) k) + b' (ix2 (0 : Fin 1) k) - T (ix2 p k)

abbrev err (p : Fin 4096) : Fin 2048 → EReal := errOf g' b' T (rowOf H W X g b p) p

/-- The loss, -/
def lossVal : Vec Ideal S_ .f32 := fun _ =>
  (∑ p : Fin 4096, ∑ k : Fin 2048, err H W X g b g' b' T p k * err H W X g b g' b' T p k) * halfSlope

/-- the gradient at the layer norm's input, -/
def inputVal : Vec Ideal S4096x2048 .f32 := fun i =>
  back (rowOf H W X g b (i 0)) (fun k => err H W X g b g' b' T (i 0) k * slope * g' (ix2 (0 : Fin 1) k)) (i 1)

/-- the gradient of its scale, -/
def scaleVal : Vec Ideal S2048 .f32 := fun i =>
  ∑ p : Fin 4096, err H W X g b g' b' T p (i 0) * slope
    * (centred (rowOf H W X g b p) (i 0) * scale (rowOf H W X g b p))

/-- and the gradient of its shift. -/
def shiftVal : Vec Ideal S2048 .f32 := fun i => ∑ p : Fin 4096, err H W X g b g' b' T p (i 0) * slope

open Cert.MlpOutReferenceIdeal.Read

theorem ref_row (p : Fin 4096) (j : Fin 2048) : val_main_v7 H W X g b (ix2 p j) = rowOf H W X g b p j := by
  pointwise [val_main_v7, val_main_v6, val_main_v5, val_main_v4, val_main_cst, val_main_v3, val_main_v2, val_main_v1, val_main_v0]
  rfl

theorem ref_mean (p : Fin 4096) (z : Fin 1) : val_main_v11 H W X g b (ix2 p z) = mean (rowOf H W X g b p) := by
  pointwise [val_main_v11, val_main_v10, val_main_v9, val_main_v8, val_main_cst_0, val_main_cst_1]
  simp only [Ideal.ofBits_zero_f32, zero_add, ref_row]
  rfl

theorem ref_centred (p : Fin 4096) (j : Fin 2048) : val_main_v13 H W X g b (ix2 p j) = centred (rowOf H W X g b p) j := by
  pointwise [val_main_v13, val_main_v12]
  rw [ref_mean, ref_row]; rfl

theorem ref_centred' (p : Fin 4096) (j : Fin 2048) : val_main_v22 H W X g b (ix2 p j) = centred (rowOf H W X g b p) j := by
  pointwise [val_main_v22, val_main_v21]
  rw [ref_mean, ref_row]; rfl

theorem ref_spread (p : Fin 4096) (z : Fin 1) : val_main_v24 H W X g b (ix2 p z) = spread (rowOf H W X g b p) := by
  pointwise [val_main_v24, val_main_v23, val_main_cst_5, val_main_v20, val_main_v19, val_main_cst_4, val_main_v18, val_main_v17,
    val_main_cst_3, val_main_v14]
  simp only [Ideal.ofBits_zero_f32, zero_add, ref_centred]
  rfl

theorem ref_scale (p : Fin 4096) (z : Fin 1) : val_main_v25 H W X g b (ix2 p z) = scale (rowOf H W X g b p) := by
  pointwise [val_main_v25]
  rw [ref_spread]; rfl

theorem ref_slope (p : Fin 4096) (z : Fin 1) : val_main_v28 H W X g b (ix2 p z)
    = LayerNorm.minusHalf * Ideal.div (scale (rowOf H W X g b p)) (spread (rowOf H W X g b p)) := by
  pointwise [val_main_v28, val_main_v27, val_main_cst_6, val_main_v26]
  rw [ref_spread, ref_scale]

theorem ref_norm (p : Fin 4096) (j : Fin 2048) :
    val_main_v30 H W X g b (ix2 p j) = centred (rowOf H W X g b p) j * scale (rowOf H W X g b p) := by
  pointwise [val_main_v30, val_main_v29]
  rw [ref_centred', ref_scale]

theorem ref_err (p : Fin 4096) (j : Fin 2048) :
    val_main_v35 H W X g b g' b' T (ix2 p j) = err H W X g b g' b' T p j := by
  pointwise [val_main_v35, val_main_v34, val_main_v33, val_main_v32, val_main_v31]
  rw [ref_norm]; rfl

/-- The gradient at the layer norm's result. -/
theorem ref_out (p : Fin 4096) (j : Fin 2048) :
    val_main_v49 H W X g b g' b' T (ix2 p j) = err H W X g b g' b' T p j * slope := by
  pointwise [val_main_v49, val_main_v48, val_main_v47, val_main_v46, val_main_cst_14, val_main_v45, val_main_v44, val_main_cst_13,
    val_main_cst_12, val_main_v38, val_main_v37, val_main_cst_7]
  rw [ref_err]
  exact slope_mul _

theorem ref_scaled (p : Fin 4096) (j : Fin 2048) :
    val_main_v56 H W X g b g' b' T (ix2 p j) = err H W X g b g' b' T p j * slope * g' (ix2 (0 : Fin 1) j) := by
  pointwise [val_main_v56, val_main_v55]
  rw [ref_out]

theorem ref_direct (p : Fin 4096) (j : Fin 2048) : val_main_v61 H W X g b g' b' T (ix2 p j)
    = err H W X g b g' b' T p j * slope * g' (ix2 (0 : Fin 1) j) * scale (rowOf H W X g b p) := by
  pointwise [val_main_v61, val_main_v60]
  rw [ref_scaled, ref_scale]

/-- The part that goes back through the variance. -/
theorem ref_curved (p : Fin 4096) (j : Fin 2048) : val_main_v70 H W X g b g' b' T (ix2 p j)
    = Ideal.div ((∑ k, centred (rowOf H W X g b p) k * (err H W X g b g' b' T p k * slope * g' (ix2 (0 : Fin 1) k)))
        * (LayerNorm.minusHalf * Ideal.div (scale (rowOf H W X g b p)) (spread (rowOf H W X g b p)))) LayerNorm.len
      * (LayerNorm.two * centred (rowOf H W X g b p) j) := by
  pointwise [val_main_v70, val_main_v69, val_main_v68, val_main_cst_20, val_main_v67, val_main_v66, val_main_cst_19, val_main_v62,
    val_main_v59, val_main_v58, val_main_cst_17, val_main_v57, val_main_v16, val_main_v15, val_main_cst_2]
  simp only [Ideal.ofBits_zero_f32, zero_add, ref_centred, ref_centred', ref_scaled, ref_slope, Finset.univ_unique, Finset.sum_singleton]

theorem ref_input (p : Fin 4096) (j : Fin 2048) : val_main_v80 H W X g b g' b' T (ix2 p j)
    = steps (rowOf H W X g b p) (fun k => err H W X g b g' b' T p k * slope * g' (ix2 (0 : Fin 1) k)) j := by
  pointwise [val_main_v80, val_main_v79, val_main_v78, val_main_cst_23, val_main_v77, val_main_v76, val_main_cst_22, val_main_v75,
    val_main_v74, val_main_v73, val_main_v72, val_main_cst_21, val_main_v71, val_main_v65, val_main_v64, val_main_cst_18,
    val_main_v63]
  simp only [Ideal.ofBits_zero_f32, zero_add, ref_direct, ref_curved, Finset.univ_unique, Finset.sum_singleton]
  rfl

/-- The reference's loss. -/
theorem ref_loss : val_main_v43 H W X g b g' b' T = lossVal H W X g b g' b' T := by
  funext i
  obtain rfl : i = ix0 := funext fun a => a.elim0
  pointwise [val_main_v43, val_main_cst_11, val_main_v42, val_main_cst_10, val_main_v41, val_main_v40, val_main_cst_9, val_main_v39,
    val_main_cst_8, val_main_v36]
  simp only [Ideal.ofBits_zero_f32, zero_add, ref_err]
  exact half_means _

/-- The reference's gradient of the scale. -/
theorem ref_dscale : val_main_v82 H W X g b g' b' T = scaleVal H W X g b g' b' T := by
  funext i
  obtain ⟨j, rfl⟩ : ∃ j : Fin 2048, i = ix1 j := ⟨i 0, eq_ix1 i⟩
  pointwise [val_main_v82, val_main_v54, val_main_v53, val_main_cst_16, val_main_v52]
  simp only [ref_norm, ref_out]
  exact Finset.sum_congr rfl fun p _ => mul_comm _ _

/-- The reference's gradient of the shift. -/
theorem ref_dshift : val_main_v83 H W X g b g' b' T = shiftVal H W X g b g' b' T := by
  funext i
  obtain ⟨j, rfl⟩ : ∃ j : Fin 2048, i = ix1 j := ⟨i 0, eq_ix1 i⟩
  pointwise [val_main_v83, val_main_v51, val_main_v50, val_main_cst_15]
  simp only [ref_out]
  rfl

end values

/-- Of finite arguments the two gradients at the layer norm's input are one. -/
theorem ref_dinput (H : Vec Ideal S4096x8192 .f32) (W : Vec Ideal S8192x2048 .f32) (X : Vec Ideal S4096x2048 .f32)
    (g b g' b' : Vec Ideal S1x2048 .f32) (T : Vec Ideal S4096x2048 .f32) (hH : ∀ i, H i ≠ ⊤ ∧ H i ≠ ⊥)
    (hW : ∀ i, W i ≠ ⊤ ∧ W i ≠ ⊥) (hX : ∀ i, X i ≠ ⊤ ∧ X i ≠ ⊥) (hg : ∀ i, g i ≠ ⊤ ∧ g i ≠ ⊥) (hb : ∀ i, b i ≠ ⊤ ∧ b i ≠ ⊥)
    (hg' : ∀ i, g' i ≠ ⊤ ∧ g' i ≠ ⊥) (hb' : ∀ i, b' i ≠ ⊤ ∧ b' i ≠ ⊥) (hT : ∀ i, T i ≠ ⊤ ∧ T i ≠ ⊥) :
    Cert.MlpOutReferenceIdeal.Read.val_main_v80 H W X g b g' b' T = inputVal H W X g b g' b' T := by
  funext i
  obtain ⟨p, j, rfl⟩ : ∃ (p : Fin 4096) (j : Fin 2048), i = ix2 p j := ⟨i 0, i 1, by
    funext a; match a with | ⟨0, _⟩ => rfl | ⟨1, _⟩ => rfl⟩
  rw [ref_input]
  have hz : ∀ k, rowOf H W X g b p k ≠ ⊤ ∧ rowOf H W X g b p k ≠ ⊥ := fun k =>
    fin_add (fin_mul alpha_fin (fin_add (fin_mul (hX _) (hg _)) (hb _))) (fin_sum _ fun f => fin_mul (hH _) (hW _))
  have hs : slope ≠ ⊤ ∧ slope ≠ ⊥ := by rw [slope_eq]; exact ⟨EReal.coe_ne_top _, EReal.coe_ne_bot _⟩
  exact (LayerNorm.back_eq_steps _ _ hz (fun k => fin_mul (fin_mul (fin_sub (fin_add (fin_mul (fin_norm _ hz k) (hg' _)) (hb' _))
    (hT _)) hs) (hg' _)) _).symm

end Cert.Proof.MlpOut

end
-- ==== Proof.MlpOutValue.lean ====
/- The MLP's second product, the last layer norm and the loss: what the kernel's arrays hold at the end.

   The product over the 8192 features comes in four parts of 2048. A finished block of 512 rows is worked off in 64 chunks
   of 8 rows. The loss and the gradients of the layer norm's weights are kept as 8 partial rows, row `s` gathering the
   positions `8 q + s`; the host adds them up. -/
module

public import proofs.«01_k».proof.Proof.MlpOutFrame
public import proofs.«01_k».proof.Proof.MlpOutRef
public import Idealize.ShloMosaic.Lib.Pointwise

@[expose] public section

set_option maxRecDepth 16384

noncomputable section

namespace Cert.Proof.MlpOut

open Cert.MlpOutKernelIdeal Cert.MlpOutKernelIdeal.Gen
open Idealize.ShloMosaic Idealize.ShloMosaic.TcCoe Idealize.SL.Sem
open Idealize.ShloMosaic.Pipeline (Dat)
open Cert.Proof.LayerNorm (mean centred spread scale back textbook back_eq regroup)

variable (m : (ℓ : Loc nD τ sig) → Buf (Elt Ideal) ℓ)

/-- The launch's arrays: the features and the weight, the first layer norm's normalized rows and weights, the last one's
weights, and the target. -/
abbrev aH (c : Dev nD) : Vec Ideal S4096x8192 .f32 := m ((c : Thread nD τ).loc main_arg0)
abbrev aW (c : Dev nD) : Vec Ideal S8192x2048 .f32 := m ((c : Thread nD τ).loc main_arg1)
abbrev aX (c : Dev nD) : Vec Ideal S4096x2048 .f32 := m ((c : Thread nD τ).loc main_arg2)
abbrev aG (c : Dev nD) : Vec Ideal S1x2048 .f32 := m ((c : Thread nD τ).loc main_arg3)
abbrev aB (c : Dev nD) : Vec Ideal S1x2048 .f32 := m ((c : Thread nD τ).loc main_arg4)
abbrev aG' (c : Dev nD) : Vec Ideal S1x2048 .f32 := m ((c : Thread nD τ).loc main_arg5)
abbrev aB' (c : Dev nD) : Vec Ideal S1x2048 .f32 := m ((c : Thread nD τ).loc main_arg6)
abbrev aT (c : Dev nD) : Vec Ideal S4096x2048 .f32 := m ((c : Thread nD τ).loc main_arg7)

/-- Row `p` of the last layer norm's input, and of the differences to the target, from the launch's arrays. -/
abbrev zRow (c : Dev nD) (p : Fin 4096) : Fin 2048 → EReal := rowOf (aH m c) (aW m c) (aX m c) (aG m c) (aB m c) p
abbrev eRow (c : Dev nD) (p : Fin 4096) : Fin 2048 → EReal :=
  err (aH m c) (aW m c) (aX m c) (aG m c) (aB m c) (aG' m c) (aB' m c) (aT m c) p

/-- The gradient at the last layer norm's input, from the launch's arrays. -/
abbrev inputAll (c : Dev nD) : Vec Ideal S4096x2048 .f32 :=
  inputVal (aH m c) (aW m c) (aX m c) (aG m c) (aB m c) (aG' m c) (aB' m c) (aT m c)

/-! ## What the host prepares -/

theorem V_h (c : Dev nD) : (V m c main_v0 : Vec Ideal S4096x8192 .bf16) = aH m c := by
  show StableHlo.after hostOps0 (fun b => m (c, b)) (Proc.devRef .tc main_v0) = _
  have h : StableHlo.after hostOps0 (fun b => m (c, b)) (Proc.devRef .tc main_v0)
      = (truncf .bf16 (aH m c) bitsLt_bf16_f32 : FVec Ideal S4096x8192 .bf16) := by after_results
  rw [h]; rfl

theorem V_w (c : Dev nD) : (V m c main_v1 : Vec Ideal S8192x2048 .bf16) = aW m c := by
  show StableHlo.after hostOps0 (fun b => m (c, b)) (Proc.devRef .tc main_v1) = _
  have h : StableHlo.after hostOps0 (fun b => m (c, b)) (Proc.devRef .tc main_v1)
      = (truncf .bf16 (aW m c) bitsLt_bf16_f32 : FVec Ideal S8192x2048 .bf16) := by after_results
  rw [h]; rfl

/-! ## The blocks -/

/-- Where each window's block stands at a grid point. -/
theorem idx_facts : ∀ t : Fin grid0.N,
    (win0_0.index t (0 : Fin 2) = t.val / 4 ∧ win0_0.index t (1 : Fin 2) = t.val % 4)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_7.index t (0 : Fin 2) = t.val / 4 ∧ win0_7.index t (1 : Fin 2) = 0)
    ∧ (win0_8.index t (0 : Fin 2) = t.val / 4 ∧ win0_8.index t (1 : Fin 2) = 0)
    ∧ (win0_9.index t (0 : Fin 2) = t.val / 4 ∧ win0_9.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) := by
  decide +kernel

theorem t_lt (t : Fin cfg0.N) : t.val < 32 := Nat.lt_of_lt_of_eq t.isLt N_0

/-- Row `a` of block `b` of the rows, in the whole array; and feature `b` of part `k`. -/
def row (b : ℕ) (a : Fin 512) : Fin 4096 := ⟨(b * 512 + a.val) % 4096, Nat.mod_lt _ (by decide)⟩
def col (k : ℕ) (b : Fin 2048) : Fin 8192 := ⟨(k * 2048 + b.val) % 8192, Nat.mod_lt _ (by decide)⟩

theorem row_val (t : Fin cfg0.N) (a : Fin 512) : (row (t.val / 4) a).val = t.val / 4 * 512 + a.val := by
  have := t_lt t; have := a.isLt
  show (t.val / 4 * 512 + a.val) % 4096 = _; omega
theorem col_val (k : ℕ) (hk : k < 4) (b : Fin 2048) : (col k b).val = k * 2048 + b.val := by
  have := b.isLt
  show (k * 2048 + b.val) % 8192 = _; omega

theorem emb0 (t : Fin cfg0.N) (a : Fin 512) (b : Fin 2048) :
    ((cfg0.win 0).blk t).view.emb (ix2 a b : S512x2048.Idx) = ix2 (row (t.val / 4) a) (col (t.val % 4) b) := by
  obtain ⟨⟨e0, e1⟩, -⟩ := idx_facts t
  have := row_val t a; have := col_val (t.val % 4) (by omega) b
  funext x; apply Fin.ext
  match x with
  | ⟨0, _⟩ => show win0_0.index t (0 : Fin 2) * 512 + 1 * a.val = (row (t.val / 4) a).val; omega
  | ⟨1, _⟩ => show win0_0.index t (1 : Fin 2) * 2048 + 1 * b.val = (col (t.val % 4) b).val; omega

theorem emb1 (t : Fin cfg0.N) (b i : Fin 2048) :
    ((cfg0.win 1).blk t).view.emb (ix2 b i : S2048x2048.Idx) = ix2 (col (t.val % 4) b) i := by
  obtain ⟨-, ⟨e0, e1⟩, -⟩ := idx_facts t
  have := col_val (t.val % 4) (by omega) b
  funext x; apply Fin.ext
  match x with
  | ⟨0, _⟩ => show win0_1.index t (0 : Fin 2) * 2048 + 1 * b.val = (col (t.val % 4) b).val; omega
  | ⟨1, _⟩ => show win0_1.index t (1 : Fin 2) * 2048 + 1 * i.val = i.val; omega

theorem emb2 (t : Fin cfg0.N) (a : Fin 512) (b : Fin 2048) :
    ((cfg0.win 2).blk t).view.emb (ix2 a b : S512x2048.Idx) = ix2 (row (t.val / 4) a) b := by
  obtain ⟨-, -, ⟨e0, e1⟩, -⟩ := idx_facts t
  have := row_val t a
  funext x; apply Fin.ext
  match x with
  | ⟨0, _⟩ => show win0_2.index t (0 : Fin 2) * 512 + 1 * a.val = (row (t.val / 4) a).val; omega
  | ⟨1, _⟩ => show win0_2.index t (1 : Fin 2) * 2048 + 1 * b.val = b.val; omega

theorem emb7 (t : Fin cfg0.N) (a : Fin 512) (b : Fin 2048) :
    ((cfg0.win 7).blk t).view.emb (ix2 a b : S512x2048.Idx) = ix2 (row (t.val / 4) a) b := by
  obtain ⟨-, -, -, ⟨e0, e1⟩, -⟩ := idx_facts t
  have := row_val t a
  funext x; apply Fin.ext
  match x with
  | ⟨0, _⟩ => show win0_7.index t (0 : Fin 2) * 512 + 1 * a.val = (row (t.val / 4) a).val; omega
  | ⟨1, _⟩ => show win0_7.index t (1 : Fin 2) * 2048 + 1 * b.val = b.val; omega

theorem emb8 (t : Fin cfg0.N) (a : Fin 512) (b : Fin 2048) :
    ((cfg0.win 8).blk t).view.emb (ix2 a b : S512x2048.Idx) = ix2 (row (t.val / 4) a) b := by
  obtain ⟨-, -, -, -, ⟨e0, e1⟩, -⟩ := idx_facts t
  have := row_val t a
  funext x; apply Fin.ext
  match x with
  | ⟨0, _⟩ => show win0_8.index t (0 : Fin 2) * 512 + 1 * a.val = (row (t.val / 4) a).val; omega
  | ⟨1, _⟩ => show win0_8.index t (1 : Fin 2) * 2048 + 1 * b.val = b.val; omega

theorem emb9 (t : Fin cfg0.N) (a : Fin 512) (b : Fin 2048) :
    ((cfg0.win 9).blk t).view.emb (ix2 a b : S512x2048.Idx) = ix2 (row (t.val / 4) a) b := by
  obtain ⟨-, -, -, -, -, ⟨e0, e1⟩, -⟩ := idx_facts t
  have := row_val t a
  funext x; apply Fin.ext
  match x with
  | ⟨0, _⟩ => show win0_9.index t (0 : Fin 2) * 512 + 1 * a.val = (row (t.val / 4) a).val; omega
  | ⟨1, _⟩ => show win0_9.index t (1 : Fin 2) * 2048 + 1 * b.val = b.val; omega

theorem emb3 (t : Fin cfg0.N) (y : S1x2048.Idx) : ((cfg0.win 3).blk t).view.emb y = y := by
  obtain ⟨-, -, -, -, -, -, ⟨e0, e1⟩, -⟩ := idx_facts t
  funext x; apply Fin.ext
  match x with
  | ⟨0, _⟩ => show win0_3.index t (0 : Fin 2) * 1 + 1 * (y 0).val = (y 0).val; omega
  | ⟨1, _⟩ => show win0_3.index t (1 : Fin 2) * 2048 + 1 * (y 1).val = (y 1).val; omega

theorem emb4 (t : Fin cfg0.N) (y : S1x2048.Idx) : ((cfg0.win 4).blk t).view.emb y = y := by
  obtain ⟨-, -, -, -, -, -, -, ⟨e0, e1⟩, -⟩ := idx_facts t
  funext x; apply Fin.ext
  match x with
  | ⟨0, _⟩ => show win0_4.index t (0 : Fin 2) * 1 + 1 * (y 0).val = (y 0).val; omega
  | ⟨1, _⟩ => show win0_4.index t (1 : Fin 2) * 2048 + 1 * (y 1).val = (y 1).val; omega

theorem emb5 (t : Fin cfg0.N) (y : S1x2048.Idx) : ((cfg0.win 5).blk t).view.emb y = y := by
  obtain ⟨-, -, -, -, -, -, -, -, ⟨e0, e1⟩, -⟩ := idx_facts t
  funext x; apply Fin.ext
  match x with
  | ⟨0, _⟩ => show win0_5.index t (0 : Fin 2) * 1 + 1 * (y 0).val = (y 0).val; omega
  | ⟨1, _⟩ => show win0_5.index t (1 : Fin 2) * 2048 + 1 * (y 1).val = (y 1).val; omega

theorem emb6 (t : Fin cfg0.N) (y : S1x2048.Idx) : ((cfg0.win 6).blk t).view.emb y = y := by
  obtain ⟨-, -, -, -, -, -, -, -, -, ⟨e0, e1⟩, -⟩ := idx_facts t
  funext x; apply Fin.ext
  match x with
  | ⟨0, _⟩ => show win0_6.index t (0 : Fin 2) * 1 + 1 * (y 0).val = (y 0).val; omega
  | ⟨1, _⟩ => show win0_6.index t (1 : Fin 2) * 2048 + 1 * (y 1).val = (y 1).val; omega

theorem emb10 (t : Fin cfg0.N) (y : S8x2048.Idx) : ((cfg0.win 10).blk t).view.emb y = y := by
  obtain ⟨-, -, -, -, -, -, -, -, -, -, ⟨e0, e1⟩, -⟩ := idx_facts t
  funext x; apply Fin.ext
  match x with
  | ⟨0, _⟩ => show win0_10.index t (0 : Fin 2) * 8 + 1 * (y 0).val = (y 0).val; omega
  | ⟨1, _⟩ => show win0_10.index t (1 : Fin 2) * 2048 + 1 * (y 1).val = (y 1).val; omega

theorem emb11 (t : Fin cfg0.N) (y : S8x2048.Idx) : ((cfg0.win 11).blk t).view.emb y = y := by
  obtain ⟨-, -, -, -, -, -, -, -, -, -, -, ⟨e0, e1⟩, -⟩ := idx_facts t
  funext x; apply Fin.ext
  match x with
  | ⟨0, _⟩ => show win0_11.index t (0 : Fin 2) * 8 + 1 * (y 0).val = (y 0).val; omega
  | ⟨1, _⟩ => show win0_11.index t (1 : Fin 2) * 2048 + 1 * (y 1).val = (y 1).val; omega

theorem emb12 (t : Fin cfg0.N) (y : S8x2048.Idx) : ((cfg0.win 12).blk t).view.emb y = y := by
  obtain ⟨-, -, -, -, -, -, -, -, -, -, -, -, e0, e1⟩ := idx_facts t
  funext x; apply Fin.ext
  match x with
  | ⟨0, _⟩ => show win0_12.index t (0 : Fin 2) * 8 + 1 * (y 0).val = (y 0).val; omega
  | ⟨1, _⟩ => show win0_12.index t (1 : Fin 2) * 2048 + 1 * (y 1).val = (y 1).val; omega

theorem blk0 (c : Dev nD) (t : Fin cfg0.N) (a : Fin 512) (b : Fin 2048) :
    iblk m c 0 t (ix2 a b : S512x2048.Idx) = aH m c (ix2 (row (t.val / 4) a) (col (t.val % 4) b)) := by
  show V m c main_v0 (((cfg0.win 0).blk t).view.emb (ix2 a b : S512x2048.Idx)) = _
  rw [emb0]; exact congrFun (V_h m c) _

theorem blk1 (c : Dev nD) (t : Fin cfg0.N) (b i : Fin 2048) :
    iblk m c 1 t (ix2 b i : S2048x2048.Idx) = aW m c (ix2 (col (t.val % 4) b) i) := by
  show V m c main_v1 (((cfg0.win 1).blk t).view.emb (ix2 b i : S2048x2048.Idx)) = _
  rw [emb1]; exact congrFun (V_w m c) _

theorem blk2 (c : Dev nD) (t : Fin cfg0.N) (a : Fin 512) (b : Fin 2048) :
    iblk m c 2 t (ix2 a b : S512x2048.Idx) = aX m c (ix2 (row (t.val / 4) a) b) := by
  show V m c main_arg2 (((cfg0.win 2).blk t).view.emb (ix2 a b : S512x2048.Idx)) = _
  rw [emb2]; exact congrFun (V_main_arg2 m c) _

theorem blk7 (c : Dev nD) (t : Fin cfg0.N) (a : Fin 512) (b : Fin 2048) :
    iblk m c 7 t (ix2 a b : S512x2048.Idx) = aT m c (ix2 (row (t.val / 4) a) b) := by
  show V m c main_arg7 (((cfg0.win 7).blk t).view.emb (ix2 a b : S512x2048.Idx)) = _
  rw [emb7]; exact congrFun (V_main_arg7 m c) _

theorem blk3 (c : Dev nD) (t : Fin cfg0.N) : (iblk m c 3 t : Vec Ideal S1x2048 .f32) = aG m c := by
  funext y
  show V m c main_arg3 (((cfg0.win 3).blk t).view.emb y) = _
  rw [emb3]; exact congrFun (V_main_arg3 m c) _

theorem blk4 (c : Dev nD) (t : Fin cfg0.N) : (iblk m c 4 t : Vec Ideal S1x2048 .f32) = aB m c := by
  funext y
  show V m c main_arg4 (((cfg0.win 4).blk t).view.emb y) = _
  rw [emb4]; exact congrFun (V_main_arg4 m c) _

theorem blk5 (c : Dev nD) (t : Fin cfg0.N) : (iblk m c 5 t : Vec Ideal S1x2048 .f32) = aG' m c := by
  funext y
  show V m c main_arg5 (((cfg0.win 5).blk t).view.emb y) = _
  rw [emb5]; exact congrFun (V_main_arg5 m c) _

theorem blk6 (c : Dev nD) (t : Fin cfg0.N) : (iblk m c 6 t : Vec Ideal S1x2048 .f32) = aB' m c := by
  funext y
  show V m c main_arg6 (((cfg0.win 6).blk t).view.emb y) = _
  rw [emb6]; exact congrFun (V_main_arg6 m c) _

/-! ## The product, part by part -/

/-- The part over the features of part `k`. -/
def part (c : Dev nD) (p : Fin 4096) (i : Fin 2048) (k : ℕ) : EReal :=
  ∑ b : Fin 2048, aH m c (ix2 p (col k b)) * aW m c (ix2 (col k b) i)

theorem zero_part (y : S512x2048.Idx) : k0_pay4 (F := Ideal) y = 0 := by
  pointwise [k0_pay4]

theorem add_part (v : Vec Ideal S512x2048 .f32) (x : Vec Ideal S512x2048 .bf16) (w : Vec Ideal S2048x2048 .bf16)
    (a : Fin 512) (i : Fin 2048) :
    k0_pay5 v x w (ix2 a i) = v (ix2 a i) + ∑ b : Fin 2048, x (ix2 a b) * w (ix2 b i) := by
  pointwise [k0_pay5]

theorem add_part_at (c : Dev nD) (t : Fin cfg0.N) (v : Vec Ideal S512x2048 .f32) (a : Fin 512) (i : Fin 2048) :
    k0_pay5 v (iblk m c 0 t) (iblk m c 1 t) (ix2 a i) = v (ix2 a i) + part m c (row (t.val / 4) a) i (t.val % 4) := by
  rw [add_part]
  exact congrArg (_ + ·) (Finset.sum_congr rfl fun b _ => congrArg₂ (· * ·) (blk0 m c t a b) (blk1 m c t b i))

theorem partialSum_eq (c : Dev nD) (n : ℕ) (h : n < cfg0.N) (a : Fin 512) (i : Fin 2048) :
    partialSum m c n h (ix2 a i) = ∑ k ∈ Finset.range (n % 4 + 1), part m c (row (n / 4) a) i k := by
  induction n with
  | zero =>
    refine (congrFun (partialSum_start m c ⟨0, h⟩ rfl) _).trans ?_
    rw [add_part_at, zero_part, zero_add, Finset.sum_range_one]
    rfl
  | succ n ih =>
    by_cases hs : (n + 1) % 4 = 0
    · refine (congrFun (partialSum_start m c ⟨n + 1, h⟩ hs) _).trans ?_
      rw [add_part_at, zero_part, zero_add, hs, Finset.sum_range_one]
    · refine (congrFun (partialSum_inner m c ⟨n + 1, h⟩ hs) _).trans ?_
      rw [add_part_at]
      have e := ih (Nat.lt_of_succ_lt h)
      rw [Finset.sum_range_succ]
      refine congrArg₂ (· + ·) (e.trans ?_) rfl
      rw [show (n + 1) % 4 = n % 4 + 1 by omega, show (n + 1) / 4 = n / 4 by omega]

theorem parts_eq (c : Dev nD) (p : Fin 4096) (i : Fin 2048) :
    ∑ k ∈ Finset.range 4, part m c p i k = ∑ f : Fin 8192, aH m c (ix2 p f) * aW m c (ix2 f i) := by
  rw [Fin.sum_univ_tiles 4 2048 (by norm_num), Finset.sum_range]
  refine Finset.sum_congr rfl fun k _ => Finset.sum_congr rfl fun b _ => ?_
  have e : ∀ h, col k.val b = ⟨k.val * 2048 + b.val, h⟩ := fun h => Fin.ext (col_val k.val k.isLt b)
  rw [e]

theorem whole_eq (c : Dev nD) (t : Fin cfg0.N) (h : t.val % 4 = 3) (a : Fin 512) (i : Fin 2048) :
    partialSum m c t.val t.isLt (ix2 a i)
      = ∑ f : Fin 8192, aH m c (ix2 (row (t.val / 4) a) f) * aW m c (ix2 f i) := by
  rw [partialSum_eq, h, parts_eq]

/-! ## A chunk's rows -/

/-- A row of the last layer norm's input from a row `x` of the first one's and a row `a` of the product, -/
def inRow (g b : Vec Ideal S1x2048 .f32) (x a : Fin 2048 → EReal) : Fin 2048 → EReal := fun k =>
  Ideal.ofBits .f32 0x3F9837F0#32 * (x k * g (ix2 (0 : Fin 1) k) + b (ix2 (0 : Fin 1) k)) + a k

/-- and of the differences to a row `t` of the target. -/
def diffRow (g' b' : Vec Ideal S1x2048 .f32) (z t : Fin 2048 → EReal) : Fin 2048 → EReal := fun k =>
  centred z k * scale z * g' (ix2 (0 : Fin 1) k) + b' (ix2 (0 : Fin 1) k) - t k

theorem centred_apply (g b : Vec Ideal S1x2048 .f32) (x a : Vec Ideal S8x2048 .f32) (s : Fin 8) (j : Fin 2048) :
    k0_pay7 g b x a (ix2 s j) = centred (inRow g b (fun k => x (ix2 s k)) (fun k => a (ix2 s k))) j := by
  pointwise [k0_pay7]
  rfl

theorem scale_apply (g b : Vec Ideal S1x2048 .f32) (x a : Vec Ideal S8x2048 .f32) (s : Fin 8) (z : Fin 1) :
    k0_pay8 g b x a (ix2 s z) = scale (inRow g b (fun k => x (ix2 s k)) (fun k => a (ix2 s k))) := by
  pointwise [k0_pay8]
  simp only [centred_apply]
  rfl

theorem normed_apply (g b : Vec Ideal S1x2048 .f32) (x a : Vec Ideal S8x2048 .f32) (s : Fin 8) (j : Fin 2048) :
    normed g b x a (ix2 s j) = centred (inRow g b (fun k => x (ix2 s k)) (fun k => a (ix2 s k))) j
      * scale (inRow g b (fun k => x (ix2 s k)) (fun k => a (ix2 s k))) := by
  pointwise [normed, k0_pay9]
  rw [centred_apply, scale_apply]

theorem diff_apply (g b g' b' : Vec Ideal S1x2048 .f32) (x a t : Vec Ideal S8x2048 .f32) (s : Fin 8) (j : Fin 2048) :
    diff g b g' b' x a t (ix2 s j)
      = diffRow g' b' (inRow g b (fun k => x (ix2 s k)) (fun k => a (ix2 s k))) (fun k => t (ix2 s k)) j := by
  unfold diff
  pointwise [k0_pay10]
  exact congrArg (fun n => n * g' (ix2 (0 : Fin 1) j) + b' (ix2 (0 : Fin 1) j) - t (ix2 s j)) (normed_apply g b x a s j)

/-- The formula for the gradient at the layer norm's input, at a chunk's row. -/
theorem formula_apply (g' : Vec Ideal S1x2048 .f32) (r : Vec Ideal S8x1 .f32) (u d : Vec Ideal S8x2048 .f32) (s : Fin 8)
    (j : Fin 2048) : k0_pay15 g' r u d (perRow (F := Ideal)) (ix2 s j)
    = textbook (r (ix2 s (0 : Fin 1))) (fun k => d (ix2 s k) * slope * g' (ix2 (0 : Fin 1) k)) (fun k => u (ix2 s k)) j := by
  pointwise [k0_pay15, k0_pay12, perRow]
  rfl

theorem chunk_apply (g b g' b' : Vec Ideal S1x2048 .f32) (x a t : Vec Ideal S8x2048 .f32) (s : Fin 8) (j : Fin 2048) :
    chunk g b g' b' x a t (ix2 s j) = back (inRow g b (fun k => x (ix2 s k)) (fun k => a (ix2 s k)))
      (fun k => diffRow g' b' (inRow g b (fun k => x (ix2 s k)) (fun k => a (ix2 s k))) (fun k => t (ix2 s k)) k * slope
        * g' (ix2 (0 : Fin 1) k)) j := by
  refine (formula_apply g' _ _ _ s j).trans ?_
  rw [back_eq, scale_apply]
  exact congrArg₂ (fun d u => textbook _ d u j)
    (funext fun k => congrArg (· * slope * g' (ix2 (0 : Fin 1) k)) (diff_apply g b g' b' x a t s k))
    (funext fun k => normed_apply g b x a s k)

/-! ## The gradient at the layer norm's input -/

/-- Row `a` of a block of rows, as a row. -/
abbrev at' (x : Vec Ideal S512x2048 .f32) (a : Fin 512) : Fin 2048 → EReal := fun k => x (ix2 a k)

theorem inputBlock_apply (g b g' b' : Vec Ideal S1x2048 .f32) (x y t : Vec Ideal S512x2048 .f32) (a : Fin 512) (j : Fin 2048) :
    inputBlock g b g' b' x y t (ix2 a j) = back (inRow g b (at' x a) (at' y a))
      (fun k => diffRow g' b' (inRow g b (at' x a) (at' y a)) (at' t a) k * slope * g' (ix2 (0 : Fin 1) k)) j := by
  have ha := a.isLt
  have er : (⟨(8 * (a.val / 8) + a.val % 8) % 512, Nat.mod_lt _ (by decide)⟩ : Fin 512) = a :=
    Fin.ext (by show (8 * (a.val / 8) + a.val % 8) % 512 = a.val; omega)
  have rowsAt : ∀ (v : Vec Ideal S512x2048 .f32) (k : Fin 2048),
      rows v (8 * (a.val / 8)) (ix2 (⟨a.val % 8, Nat.mod_lt _ (by decide)⟩ : Fin 8) k) = v (ix2 a k) :=
    fun v k => congrArg (fun q : Fin 512 => v (ix2 q k)) er
  have h := chunk_apply g b g' b' (rows x (8 * (a.val / 8))) (rows y (8 * (a.val / 8))) (rows t (8 * (a.val / 8)))
    (⟨a.val % 8, Nat.mod_lt _ (by decide)⟩ : Fin 8) j
  simp only [rowsAt] at h
  exact h

/-- A block's rows are the whole arrays'. -/
theorem inRow_eq (c : Dev nD) (t : Fin cfg0.N) (h : t.val % 4 = 3) (a : Fin 512) :
    inRow (iblk m c 3 t) (iblk m c 4 t) (at' (iblk m c 2 t) a) (at' (partialSum m c t.val t.isLt) a)
      = zRow m c (row (t.val / 4) a) := by
  rw [blk3, blk4]
  exact funext fun k => congrArg₂ (fun x y => Ideal.ofBits .f32 0x3F9837F0#32
    * (x * aG m c (ix2 (0 : Fin 1) k) + aB m c (ix2 (0 : Fin 1) k)) + y) (blk2 m c t a k) (whole_eq m c t h a k)

theorem diffRow_eq (c : Dev nD) (t : Fin cfg0.N) (h : t.val % 4 = 3) (a : Fin 512) :
    diffRow (iblk m c 5 t) (iblk m c 6 t)
      (inRow (iblk m c 3 t) (iblk m c 4 t) (at' (iblk m c 2 t) a) (at' (partialSum m c t.val t.isLt) a)) (at' (iblk m c 7 t) a)
      = eRow m c (row (t.val / 4) a) := by
  rw [inRow_eq m c t h, blk5, blk6]
  exact congrArg (fun u => diffRow (aG' m c) (aB' m c) (zRow m c (row (t.val / 4) a)) u) (funext fun k => blk7 m c t a k)

theorem dzBlock_eq (c : Dev nD) (t : Fin cfg0.N) (h : t.val % 4 = 3) (a : Fin 512) (j : Fin 2048) :
    dzBlock m c t (ix2 a j) = inputAll m c (ix2 (row (t.val / 4) a) j) := by
  refine (inputBlock_apply _ _ _ _ _ _ _ a j).trans ?_
  rw [diffRow_eq m c t h, inRow_eq m c t h, blk5]
  rfl

/-! ## The loss and the gradients of the layer norm's weights -/

/-- Row `s` of chunk `q`. -/
def rowIn (q : ℕ) (s : Fin 8) : Fin 512 := ⟨(8 * q + s.val) % 512, Nat.mod_lt _ (by decide)⟩

section sums
variable (g b g' b' : Vec Ideal S1x2048 .f32) (x y t : Vec Ideal S512x2048 .f32)

/-- A block's row of the layer norm's input, and of the differences. -/
abbrev inAt (a : Fin 512) : Fin 2048 → EReal := inRow g b (at' x a) (at' y a)
abbrev diffAt (a : Fin 512) : Fin 2048 → EReal := diffRow g' b' (inAt g b x y a) (at' t a)

theorem add_scaled (u d G : Vec Ideal S8x2048 .f32) (s : Fin 8) (j : Fin 2048) :
    k0_pay13 u d (perRow (F := Ideal)) G (ix2 s j) = G (ix2 s j) + d (ix2 s j) * slope * u (ix2 s j) := by
  pointwise [k0_pay13, k0_pay12, perRow]
theorem add_plain (d B : Vec Ideal S8x2048 .f32) (s : Fin 8) (j : Fin 2048) :
    k0_pay14 d (perRow (F := Ideal)) B (ix2 s j) = B (ix2 s j) + d (ix2 s j) * slope := by
  pointwise [k0_pay14, k0_pay12, perRow]
theorem add_loss (x' y' t' L : Vec Ideal S8x2048 .f32) (s : Fin 8) (j : Fin 2048) :
    k0_pay11 g b g' b' x' y' t' L (ix2 s j)
      = L (ix2 s j) + diff g b g' b' x' y' t' (ix2 s j) * diff g b g' b' x' y' t' (ix2 s j) := by
  unfold diff
  pointwise [k0_pay11]

theorem lossSum_eq (L : Vec Ideal S8x2048 .f32) (n : ℕ) (s : Fin 8) (j : Fin 2048) :
    lossSum g b g' b' x y t L n (ix2 s j) = L (ix2 s j) + ∑ q ∈ Finset.range n,
      diffAt g b g' b' x y t (rowIn q s) j * diffAt g b g' b' x y t (rowIn q s) j := by
  induction n with
  | zero => rw [Finset.sum_range_zero, add_zero]; rfl
  | succ n ih =>
    rw [Finset.sum_range_succ, ← add_assoc, ← ih]
    refine (add_loss g b g' b' _ _ _ _ s j).trans ?_
    rw [diff_apply]; rfl

theorem scaleGrad_eq (G : Vec Ideal S8x2048 .f32) (n : ℕ) (s : Fin 8) (j : Fin 2048) :
    scaleGrad g b g' b' x y t G n (ix2 s j) = G (ix2 s j) + ∑ q ∈ Finset.range n,
      diffAt g b g' b' x y t (rowIn q s) j * slope
        * (centred (inAt g b x y (rowIn q s)) j * scale (inAt g b x y (rowIn q s))) := by
  induction n with
  | zero => rw [Finset.sum_range_zero, add_zero]; rfl
  | succ n ih =>
    rw [Finset.sum_range_succ, ← add_assoc, ← ih]
    refine (add_scaled _ _ _ s j).trans ?_
    rw [diff_apply, normed_apply]; rfl

theorem shiftGrad_eq (B : Vec Ideal S8x2048 .f32) (n : ℕ) (s : Fin 8) (j : Fin 2048) :
    shiftGrad g b g' b' x y t B n (ix2 s j) = B (ix2 s j) + ∑ q ∈ Finset.range n,
      diffAt g b g' b' x y t (rowIn q s) j * slope := by
  induction n with
  | zero => rw [Finset.sum_range_zero, add_zero]; rfl
  | succ n ih =>
    rw [Finset.sum_range_succ, ← add_assoc, ← ih]
    refine (add_plain _ _ s j).trans ?_
    rw [diff_apply]; rfl

end sums

/-- Position `n`, and its terms in the three sums. -/
def pos (n : ℕ) : Fin 4096 := ⟨n % 4096, Nat.mod_lt _ (by decide)⟩
def lossTerm (c : Dev nD) (j : Fin 2048) (n : ℕ) : EReal := eRow m c (pos n) j * eRow m c (pos n) j
def scaleTerm (c : Dev nD) (j : Fin 2048) (n : ℕ) : EReal :=
  eRow m c (pos n) j * slope * (centred (zRow m c (pos n)) j * scale (zRow m c (pos n)))
def shiftTerm (c : Dev nD) (j : Fin 2048) (n : ℕ) : EReal := eRow m c (pos n) j * slope

theorem endOf_val (b : ℕ) (hb : b < 8) : (endOf b).val = 4 * b + 3 := by
  show (4 * b + 3) % 32 = _; omega

theorem row_pos (b : ℕ) (hb : b < 8) (q : ℕ) (hq : q < 64) (s : Fin 8) :
    row ((endOf b).val / 4) (rowIn q s) = pos (8 * (64 * b + q) + s.val) := by
  have hs := s.isLt
  have := endOf_val b hb
  apply Fin.ext
  show ((endOf b).val / 4 * 512 + (8 * q + s.val) % 512) % 4096 = (8 * (64 * b + q) + s.val) % 4096
  omega

theorem lossAll_eq (c : Dev nD) (b : ℕ) (hb : b ≤ 8) (s : Fin 8) (j : Fin 2048) :
    lossAll m c b (ix2 s j) = ∑ q ∈ Finset.range (64 * b), lossTerm m c j (8 * q + s.val) := by
  induction b with
  | zero =>
    show k0_pay1 (F := Ideal) (ix2 s j) = _
    rw [Nat.mul_zero, Finset.sum_range_zero]
    pointwise [k0_pay1]
  | succ b ih =>
    have h3 : (endOf b).val % 4 = 3 := by have := endOf_val b hb; omega
    refine (lossSum_eq _ _ _ _ _ _ _ _ 64 s j).trans ?_
    rw [ih (by omega), show 64 * (b + 1) = 64 * b + 64 by ring, Finset.sum_range_add]
    refine congrArg (_ + ·) (Finset.sum_congr rfl fun q hq => ?_)
    have ed : diffAt (iblk m c 3 (endOf b)) (iblk m c 4 (endOf b)) (iblk m c 5 (endOf b)) (iblk m c 6 (endOf b))
        (iblk m c 2 (endOf b)) (product m c b) (iblk m c 7 (endOf b)) (rowIn q s)
        = eRow m c (row ((endOf b).val / 4) (rowIn q s)) := diffRow_eq m c (endOf b) h3 _
    rw [ed, row_pos b hb q (Finset.mem_range.mp hq) s]
    rfl

theorem scaleSum_eq (c : Dev nD) (b : ℕ) (hb : b ≤ 8) (s : Fin 8) (j : Fin 2048) :
    scaleSum m c b (ix2 s j) = ∑ q ∈ Finset.range (64 * b), scaleTerm m c j (8 * q + s.val) := by
  induction b with
  | zero =>
    show k0_pay2 (F := Ideal) (ix2 s j) = _
    rw [Nat.mul_zero, Finset.sum_range_zero]
    pointwise [k0_pay2]
  | succ b ih =>
    have h3 : (endOf b).val % 4 = 3 := by have := endOf_val b hb; omega
    refine (scaleGrad_eq _ _ _ _ _ _ _ _ 64 s j).trans ?_
    rw [ih (by omega), show 64 * (b + 1) = 64 * b + 64 by ring, Finset.sum_range_add]
    refine congrArg (_ + ·) (Finset.sum_congr rfl fun q hq => ?_)
    have ed : diffAt (iblk m c 3 (endOf b)) (iblk m c 4 (endOf b)) (iblk m c 5 (endOf b)) (iblk m c 6 (endOf b))
        (iblk m c 2 (endOf b)) (product m c b) (iblk m c 7 (endOf b)) (rowIn q s)
        = eRow m c (row ((endOf b).val / 4) (rowIn q s)) := diffRow_eq m c (endOf b) h3 _
    have ez : inAt (iblk m c 3 (endOf b)) (iblk m c 4 (endOf b)) (iblk m c 2 (endOf b)) (product m c b) (rowIn q s)
        = zRow m c (row ((endOf b).val / 4) (rowIn q s)) := inRow_eq m c (endOf b) h3 _
    rw [ed, ez, row_pos b hb q (Finset.mem_range.mp hq) s]
    rfl

theorem shiftSum_eq (c : Dev nD) (b : ℕ) (hb : b ≤ 8) (s : Fin 8) (j : Fin 2048) :
    shiftSum m c b (ix2 s j) = ∑ q ∈ Finset.range (64 * b), shiftTerm m c j (8 * q + s.val) := by
  induction b with
  | zero =>
    show k0_pay3 (F := Ideal) (ix2 s j) = _
    rw [Nat.mul_zero, Finset.sum_range_zero]
    pointwise [k0_pay3]
  | succ b ih =>
    have h3 : (endOf b).val % 4 = 3 := by have := endOf_val b hb; omega
    refine (shiftGrad_eq _ _ _ _ _ _ _ _ 64 s j).trans ?_
    rw [ih (by omega), show 64 * (b + 1) = 64 * b + 64 by ring, Finset.sum_range_add]
    refine congrArg (_ + ·) (Finset.sum_congr rfl fun q hq => ?_)
    have ed : diffAt (iblk m c 3 (endOf b)) (iblk m c 4 (endOf b)) (iblk m c 5 (endOf b)) (iblk m c 6 (endOf b))
        (iblk m c 2 (endOf b)) (product m c b) (iblk m c 7 (endOf b)) (rowIn q s)
        = eRow m c (row ((endOf b).val / 4) (rowIn q s)) := diffRow_eq m c (endOf b) h3 _
    rw [ed, row_pos b hb q (Finset.mem_range.mp hq) s]
    rfl

theorem pos_val (p : Fin 4096) : pos p.val = p := Fin.ext (Nat.mod_eq_of_lt p.isLt)

/-! ## The arrays at the end -/

theorem flushed8 (c : Dev nD) (t : Fin cfg0.N) (h : t.val % 4 = 3) :
    (dats m 0 c).flushed 8 t = ((cfg0.win 8).blk t).view.read (Elt Ideal) (inputAll m c) := by
  have e : (dats m 0 c).flushed 8 t = dzBlock m c t := after0_8 m c t
  rw [e]
  funext y
  obtain ⟨a, j, rfl⟩ : ∃ (a : Fin 512) (j : Fin 2048), y = ix2 a j := ⟨y 0, y 1, by
    funext x; match x with | ⟨0, _⟩ => rfl | ⟨1, _⟩ => rfl⟩
  show _ = inputAll m c (((cfg0.win 8).blk t).view.emb (ix2 a j : S512x2048.Idx))
  rw [emb8]
  exact dzBlock_eq m c t h a j

theorem flushed9 (c : Dev nD) (t : Fin cfg0.N) (h : t.val % 4 = 3) : (dats m 0 c).flushed 9 t
    = ((cfg0.win 9).blk t).view.read (Elt Ideal) (inputAll m c : Vec Ideal S4096x2048 .bf16) := by
  have e : (dats m 0 c).flushed 9 t = k0_pay6 (dzBlock m c t) := after0_9 m c t
  rw [e]
  funext y
  obtain ⟨a, j, rfl⟩ : ∃ (a : Fin 512) (j : Fin 2048), y = ix2 a j := ⟨y 0, y 1, by
    funext x; match x with | ⟨0, _⟩ => rfl | ⟨1, _⟩ => rfl⟩
  show _ = inputAll m c (((cfg0.win 9).blk t).view.emb (ix2 a j : S512x2048.Idx))
  rw [emb9]
  refine Eq.trans ?_ (dzBlock_eq m c t h a j)
  generalize dzBlock m c t = d
  pointwise [k0_pay6]

theorem cover8 (i : S4096x2048.Idx) : ∃ t : Fin cfg0.N, (cfg0.win 8).flush t = true ∧ i ∈ ((cfg0.win 8).blk t).view.set := by
  obtain ⟨p, j, rfl⟩ : ∃ (p : Fin 4096) (j : Fin 2048), i = ix2 p j := ⟨i 0, i 1, by
    funext x; match x with | ⟨0, _⟩ => rfl | ⟨1, _⟩ => rfl⟩
  have i0 := p.isLt
  have ht : 4 * (p.val / 512) + 3 < cfg0.N := Nat.lt_of_lt_of_eq (by omega) N_0.symm
  refine ⟨⟨_, ht⟩, (flush0_8 _).mpr (by show (4 * (p.val / 512) + 3) % 4 = 3; omega), ?_⟩
  have h := ((cfg0.win 8).blk ⟨_, ht⟩).view.emb_mem_set (ix2 (⟨p.val % 512, by omega⟩ : Fin 512) j : S512x2048.Idx)
  rw [emb8] at h
  refine (Eq.subst (motive := fun x => x ∈ ((cfg0.win 8).blk ⟨_, ht⟩).view.set) ?_ h)
  funext a; apply Fin.ext; symm
  match a with
  | ⟨0, _⟩ =>
    show p.val = ((4 * (p.val / 512) + 3) / 4 * 512 + p.val % 512) % 4096
    omega
  | ⟨1, _⟩ => rfl

theorem final8 (c : Dev nD) : (dats m 0 c).arrAt 8 cfg0.N = inputAll m c :=
  (dats m 0 c).arrAt_eq_of_cover 8 (inputAll m c) (fun t ht => flushed8 m c t ((flush0_8 t).mp ht)) cover8

theorem cover9 (i : S4096x2048.Idx) : ∃ t : Fin cfg0.N, (cfg0.win 9).flush t = true ∧ i ∈ ((cfg0.win 9).blk t).view.set := by
  obtain ⟨p, j, rfl⟩ : ∃ (p : Fin 4096) (j : Fin 2048), i = ix2 p j := ⟨i 0, i 1, by
    funext x; match x with | ⟨0, _⟩ => rfl | ⟨1, _⟩ => rfl⟩
  have i0 := p.isLt
  have ht : 4 * (p.val / 512) + 3 < cfg0.N := Nat.lt_of_lt_of_eq (by omega) N_0.symm
  refine ⟨⟨_, ht⟩, (flush0_9 _).mpr (by show (4 * (p.val / 512) + 3) % 4 = 3; omega), ?_⟩
  have h := ((cfg0.win 9).blk ⟨_, ht⟩).view.emb_mem_set (ix2 (⟨p.val % 512, by omega⟩ : Fin 512) j : S512x2048.Idx)
  rw [emb9] at h
  refine (Eq.subst (motive := fun x => x ∈ ((cfg0.win 9).blk ⟨_, ht⟩).view.set) ?_ h)
  funext a; apply Fin.ext; symm
  match a with
  | ⟨0, _⟩ =>
    show p.val = ((4 * (p.val / 512) + 3) / 4 * 512 + p.val % 512) % 4096
    omega
  | ⟨1, _⟩ => rfl

theorem final9 (c : Dev nD) : (dats m 0 c).arrAt 9 cfg0.N = inputAll m c :=
  (dats m 0 c).arrAt_eq_of_cover 9 (inputAll m c) (fun t ht => flushed9 m c t ((flush0_9 t).mp ht)) cover9

theorem last_lt : 31 < cfg0.N := Nat.lt_of_lt_of_eq (by decide) N_0.symm

theorem final10 (c : Dev nD) : (dats m 0 c).arrAt 10 cfg0.N = lossAll m c 8 :=
  (dats m 0 c).arrAt_eq_of_cover 10 (lossAll m c 8)
    (fun t ht => by
      have h := (flush0_10 t).mp ht
      have e : (dats m 0 c).flushed 10 t = lossAll m c ((t.val + 1) / 4) := after0_10 m c t
      rw [e, show (t.val + 1) / 4 = 8 by have := t_lt t; omega]
      funext y
      show _ = lossAll m c 8 (((cfg0.win 10).blk t).view.emb y)
      rw [emb10])
    (fun i => ⟨⟨31, last_lt⟩, (flush0_10 _).mpr rfl, by
      have h := ((cfg0.win 10).blk ⟨31, last_lt⟩).view.emb_mem_set (i : S8x2048.Idx)
      rwa [emb10] at h⟩)

theorem final11 (c : Dev nD) : (dats m 0 c).arrAt 11 cfg0.N = scaleSum m c 8 :=
  (dats m 0 c).arrAt_eq_of_cover 11 (scaleSum m c 8)
    (fun t ht => by
      have h := (flush0_11 t).mp ht
      have e : (dats m 0 c).flushed 11 t = scaleSum m c ((t.val + 1) / 4) := after0_11 m c t
      rw [e, show (t.val + 1) / 4 = 8 by have := t_lt t; omega]
      funext y
      show _ = scaleSum m c 8 (((cfg0.win 11).blk t).view.emb y)
      rw [emb11])
    (fun i => ⟨⟨31, last_lt⟩, (flush0_11 _).mpr rfl, by
      have h := ((cfg0.win 11).blk ⟨31, last_lt⟩).view.emb_mem_set (i : S8x2048.Idx)
      rwa [emb11] at h⟩)

theorem final12 (c : Dev nD) : (dats m 0 c).arrAt 12 cfg0.N = shiftSum m c 8 :=
  (dats m 0 c).arrAt_eq_of_cover 12 (shiftSum m c 8)
    (fun t ht => by
      have h := (flush0_12 t).mp ht
      have e : (dats m 0 c).flushed 12 t = shiftSum m c ((t.val + 1) / 4) := after0_12 m c t
      rw [e, show (t.val + 1) / 4 = 8 by have := t_lt t; omega]
      funext y
      show _ = shiftSum m c 8 (((cfg0.win 12).blk t).view.emb y)
      rw [emb12])
    (fun i => ⟨⟨31, last_lt⟩, (flush0_12 _).mpr rfl, by
      have h := ((cfg0.win 12).blk ⟨31, last_lt⟩).view.emb_mem_set (i : S8x2048.Idx)
      rwa [emb12] at h⟩)

/-- The host's sums of the 8 partial rows. -/
theorem host_sum (x : Vec Ideal S8x2048 .f32) (j : Fin 2048) :
    Host.reduceAdd (F := Ideal) (φ := .f32) x (constant S_ .f32 0x00000000#32) reducesTo_S8x2048_S2048_d0 h_S_ (ix1 j) = ∑ s : Fin 8, x (ix2 s j) := by
  pointwise

theorem host_sum_all (x : Vec Ideal S8x2048 .f32) : mulf (Host.reduceAdd (F := Ideal) (φ := .f32) x
      (constant S_ .f32 0x00000000#32) reducesTo_S8x2048_S_d0_1 h_S_) (constant S_ .f32 0x39800000#32) ix0
    = (∑ s : Fin 8, ∑ j : Fin 2048, x (ix2 s j)) * halfSlope := by
  pointwise

theorem arrRef_inj : Function.Injective (Pipeline.arrRef spec0) := by decide

theorem tail_loss (c : Dev nD) : Pipeline.afterTail₀ cfgs (dats m) 0 (V0 m) [hostOps1] c main_v4
    = lossVal (aH m c) (aW m c) (aX m c) (aG m c) (aB m c) (aG' m c) (aB' m c) (aT m c) := by
  unfold Pipeline.afterTail₀
  have hw := (Pipeline.withArrays_arr spec0 arrRef_inj c (V0 m c) (fun w => (dats m 0 c).arrAt w cfg0.N) 10).trans (final10 m c)
  generalize Pipeline.withArrays (cfgs 0).spec c (V0 m c) (fun w => (dats m 0 c).arrAt w (cfgs 0).N) = U at hw ⊢
  have h : StableHlo.after [hostOps1].flatten U (Proc.devRef .tc main_v4)
      = mulf (Host.reduceAdd (lossAll m c 8) (constant S_ .f32 0x00000000#32) reducesTo_S8x2048_S_d0_1 h_S_)
        (constant S_ .f32 0x39800000#32) := by
    rw [← hw]
    show StableHlo.after hostOps1 U (Proc.devRef .tc main_v4) = _
    after_results
  rw [h]
  funext i
  obtain rfl : i = ix0 := funext fun a => a.elim0
  refine (host_sum_all _).trans (congrArg (· * halfSlope) ?_)
  rw [Finset.sum_comm]
  refine Eq.trans (Finset.sum_congr rfl fun j _ => (Finset.sum_congr rfl fun s _ => lossAll_eq m c 8 (le_refl 8) s j).trans
    (regroup (lossTerm m c j))) ?_
  rw [Finset.sum_comm]
  refine Finset.sum_congr rfl fun p _ => Finset.sum_congr rfl fun j _ => ?_
  unfold lossTerm
  rw [pos_val]

theorem tail_scale (c : Dev nD) : Pipeline.afterTail₀ cfgs (dats m) 0 (V0 m) [hostOps1] c main_v5
    = scaleVal (aH m c) (aW m c) (aX m c) (aG m c) (aB m c) (aG' m c) (aB' m c) (aT m c) := by
  unfold Pipeline.afterTail₀
  have hw := (Pipeline.withArrays_arr spec0 arrRef_inj c (V0 m c) (fun w => (dats m 0 c).arrAt w cfg0.N) 11).trans (final11 m c)
  generalize Pipeline.withArrays (cfgs 0).spec c (V0 m c) (fun w => (dats m 0 c).arrAt w (cfgs 0).N) = U at hw ⊢
  have h : StableHlo.after [hostOps1].flatten U (Proc.devRef .tc main_v5)
      = Host.reduceAdd (scaleSum m c 8) (constant S_ .f32 0x00000000#32) reducesTo_S8x2048_S2048_d0 h_S_ := by
    rw [← hw]
    show StableHlo.after hostOps1 U (Proc.devRef .tc main_v5) = _
    after_results
  rw [h]
  funext i
  obtain ⟨j, rfl⟩ : ∃ j : Fin 2048, i = ix1 j := ⟨i 0, eq_ix1 i⟩
  rw [host_sum]
  refine (Finset.sum_congr rfl fun s _ => scaleSum_eq m c 8 (le_refl 8) s j).trans ((regroup (scaleTerm m c j)).trans ?_)
  refine Finset.sum_congr rfl fun p _ => ?_
  unfold scaleTerm
  rw [pos_val]
  rfl

theorem tail_shift (c : Dev nD) : Pipeline.afterTail₀ cfgs (dats m) 0 (V0 m) [hostOps1] c main_v6
    = shiftVal (aH m c) (aW m c) (aX m c) (aG m c) (aB m c) (aG' m c) (aB' m c) (aT m c) := by
  unfold Pipeline.afterTail₀
  have hw := (Pipeline.withArrays_arr spec0 arrRef_inj c (V0 m c) (fun w => (dats m 0 c).arrAt w cfg0.N) 12).trans (final12 m c)
  generalize Pipeline.withArrays (cfgs 0).spec c (V0 m c) (fun w => (dats m 0 c).arrAt w (cfgs 0).N) = U at hw ⊢
  have h : StableHlo.after [hostOps1].flatten U (Proc.devRef .tc main_v6)
      = Host.reduceAdd (shiftSum m c 8) (constant S_ .f32 0x00000000#32) reducesTo_S8x2048_S2048_d0 h_S_ := by
    rw [← hw]
    show StableHlo.after hostOps1 U (Proc.devRef .tc main_v6) = _
    after_results
  rw [h]
  funext i
  obtain ⟨j, rfl⟩ : ∃ j : Fin 2048, i = ix1 j := ⟨i 0, eq_ix1 i⟩
  rw [host_sum]
  refine (Finset.sum_congr rfl fun s _ => shiftSum_eq m c 8 (le_refl 8) s j).trans ((regroup (shiftTerm m c j)).trans ?_)
  refine Finset.sum_congr rfl fun p _ => ?_
  unfold shiftTerm
  rw [pos_val]
  rfl

end Cert.Proof.MlpOut

end
-- ==== Proof.MlpOut.lean ====
/- The MLP's second product, the last layer norm and the loss: the claims.

   The precondition says that every entry of the eight arguments is finite. It is read here as "neither infinity". -/
module

public import proofs.«01_k».proof.Defs
public import proofs.«01_k».proof.Proof.MlpOutValue
public import proofs.«01_k».proof.Proof.Gen.MlpOutReferenceIdeal.Run

@[expose] public section

set_option maxRecDepth 16384

noncomputable section

namespace Cert.Proof.MlpOut

open Idealize.ShloMosaic Idealize.ShloMosaic.TcCoe Idealize.SL.Sem
open Cert.Proof.Finite (all_finite)

/-- The side conditions of the precondition's operations. -/
theorem preFacts : Cert.Pre_mlp_out_finite.Facts where
  bcast_S_S4096x8192 := by decide
  reducesTo_S4096x8192_S_d0_1 := by decide
  h_S_ := by decide
  bcast_S_S8192x2048 := by decide
  reducesTo_S8192x2048_S_d0_1 := by decide
  bcast_S_S4096x2048 := by decide
  reducesTo_S4096x2048_S_d0_1 := by decide
  bcast_S_S1x2048 := by decide
  reducesTo_S1x2048_S_d0_1 := by decide

instance : Cert.Pre_mlp_out_finite.Facts := preFacts

/-- What the precondition says of the eight arrays. -/
theorem pre_finite (H : Vec Ideal Cert.Pre_mlp_out_finite.S4096x8192 .f32) (W : Vec Ideal Cert.Pre_mlp_out_finite.S8192x2048 .f32)
    (X : Vec Ideal Cert.Pre_mlp_out_finite.S4096x2048 .f32) (g b g' b' : Vec Ideal Cert.Pre_mlp_out_finite.S1x2048 .f32)
    (T : Vec Ideal Cert.Pre_mlp_out_finite.S4096x2048 .f32) (j : Cert.Pre_mlp_out_finite.S_.Idx)
    (h : Cert.Pre_mlp_out_finite.fn (F := Ideal) H W X g b g' b' T j = 1#1) :
    (∀ i, H i ≠ ⊤ ∧ H i ≠ ⊥) ∧ (∀ i, W i ≠ ⊤ ∧ W i ≠ ⊥) ∧ (∀ i, X i ≠ ⊤ ∧ X i ≠ ⊥) ∧ (∀ i, g i ≠ ⊤ ∧ g i ≠ ⊥)
      ∧ (∀ i, b i ≠ ⊤ ∧ b i ≠ ⊥) ∧ (∀ i, g' i ≠ ⊤ ∧ g' i ≠ ⊥) ∧ (∀ i, b' i ≠ ⊤ ∧ b' i ≠ ⊥) ∧ (∀ i, T i ≠ ⊤ ∧ T i ≠ ⊥) := by
  dsimp only [Cert.Pre_mlp_out_finite.fn, Cert.Pre_mlp_out_finite.fn_part1, Cert.Pre_mlp_out_finite.fn_part2] at h
  obtain ⟨h, hT⟩ := IntOp.andi_eq_one.mp h
  obtain ⟨h, hb'⟩ := IntOp.andi_eq_one.mp h
  obtain ⟨h, hg'⟩ := IntOp.andi_eq_one.mp h
  obtain ⟨h, hb⟩ := IntOp.andi_eq_one.mp h
  obtain ⟨h, hg⟩ := IntOp.andi_eq_one.mp h
  obtain ⟨h, hX⟩ := IntOp.andi_eq_one.mp h
  obtain ⟨hH, hW⟩ := IntOp.andi_eq_one.mp h
  exact ⟨all_finite H _ _ _ j hH, all_finite W _ _ _ j hW, all_finite X _ _ _ j hX, all_finite g _ _ _ j hg,
    all_finite b _ _ _ j hb, all_finite g' _ _ _ j hg', all_finite b' _ _ _ j hb', all_finite T _ _ _ j hT⟩

theorem frame_k : Cert.quiescent_MlpOutKernel := fun m ρ _ => Cert.Proof.MlpOutPrinted.frame m ρ

theorem frame_ki : Cert.quiescent_MlpOutKernelIdeal := fun m ρ _ => frame m ρ

theorem frame_ki_pre : Cert.quiescent_MlpOutKernelIdeal_pre_mlp_out_finite := fun m ρ _ => frame m ρ

theorem frame_ri : Cert.quiescent_MlpOutReferenceIdeal := fun m ρ _ =>
  (θ_run Cert.MlpOutReferenceIdeal.defs _ _).mono (fun r h => ⟨fun c => (h c).2.2.2.2.2,
      Idealize.ShloMosaic.sem_eq_zero_of_no_sems (by decide) r.2⟩)
    (Cert.MlpOutReferenceIdeal.Value.run (F := Ideal) m ρ)

theorem frame_ri_pre : Cert.quiescent_MlpOutReferenceIdeal_pre_mlp_out_finite := fun m ρ _ => frame_ri m ρ trivial

theorem preserves : Cert.preserves_MlpOutKernel_MlpOutKernelIdeal := trivial

theorem algebraic : Cert.algebraic_MlpOutKernelIdeal_MlpOutReferenceIdeal_pre_mlp_out_finite := by
  intro m ρ m' ρ' hpre hagree
  refine ⟨fun c => lossVal (aH m c) (aW m c) (aX m c) (aG m c) (aB m c) (aG' m c) (aB' m c) (aT m c),
    fun c => inputAll m c, fun c => inputAll m c,
    fun c => scaleVal (aH m c) (aW m c) (aX m c) (aG m c) (aB m c) (aG' m c) (aB' m c) (aT m c),
    fun c => shiftVal (aH m c) (aW m c) (aX m c) (aG m c) (aB m c) (aG' m c) (aB' m c) (aT m c), ?_, ?_⟩
  · exact (θ_run Cert.MlpOutKernelIdeal.defs _ _).mono (fun _ h c => ⟨
        ((h.1 c).2 Cert.MlpOutKernelIdeal.main_v4 (Pipeline.mem_restRefs_of _ (by decide) (by decide))).trans (tail_loss m c),
        ((h.1 c).1 8).trans (final8 m c), ((h.1 c).1 9).trans (final9 m c),
        ((h.1 c).2 Cert.MlpOutKernelIdeal.main_v5 (Pipeline.mem_restRefs_of _ (by decide) (by decide))).trans (tail_scale m c),
        ((h.1 c).2 Cert.MlpOutKernelIdeal.main_v6 (Pipeline.mem_restRefs_of _ (by decide) (by decide))).trans (tail_shift m c),
        h.2.1 c⟩)
      (θ_run_and (run_main m ρ) (frame m ρ))
  refine (θ_run Cert.MlpOutReferenceIdeal.defs _ _).mono (fun _ h c => ?_)
    (Cert.MlpOutReferenceIdeal.Value.run (F := Ideal) m' ρ')
  obtain ⟨hH, hW, hX, hg, hb, hg', hb', hT⟩ := pre_finite _ _ _ _ _ _ _ _ (fun i => i.elim0) (congrFun (hpre c) _)
  obtain ⟨e0, e1, e2, e3, e4, e5, e6, e7⟩ := hagree c
  obtain ⟨r0, r1, r2, r3, r4, rest⟩ := h c
  have d := ref_dinput (aH m c) (aW m c) (aX m c) (aG m c) (aB m c) (aG' m c) (aB' m c) (aT m c) hH hW hX hg hb hg' hb' hT
  refine ⟨?_, ?_, ?_, ?_, ?_, rest⟩
  · refine r0.trans ((Cert.MlpOutReferenceIdeal.Read.val_main_v43_eq m' c).trans ?_)
    rw [e0, e1, e2, e3, e4, e5, e6, e7]
    exact ref_loss _ _ _ _ _ _ _ _
  · refine r1.trans ((Cert.MlpOutReferenceIdeal.Read.val_main_v80_eq m' c).trans ?_)
    rw [e0, e1, e2, e3, e4, e5, e6, e7]
    exact d
  · refine r2.trans ((Cert.MlpOutReferenceIdeal.Read.val_main_v81_eq m' c).trans ?_)
    rw [e0, e1, e2, e3, e4, e5, e6, e7]
    exact d
  · refine r3.trans ((Cert.MlpOutReferenceIdeal.Read.val_main_v82_eq m' c).trans ?_)
    rw [e0, e1, e2, e3, e4, e5, e6, e7]
    exact ref_dscale _ _ _ _ _ _ _ _
  · refine r4.trans ((Cert.MlpOutReferenceIdeal.Read.val_main_v83_eq m' c).trans ?_)
    rw [e0, e1, e2, e3, e4, e5, e6, e7]
    exact ref_dshift _ _ _ _ _ _ _ _

end Cert.Proof.MlpOut

end
-- ==== Proof.Dx1Trip.lean ====
/- Gradient at the input of the MLP, through the first layer norm: one trip of the counted loop.

   The loop goes through the 512 rows of a block in chunks of eight, eight chunks a trip. A chunk adds its rows to the
   running gradients of the layer norm's two weights and writes its rows of the gradient at the layer norm's input. -/
module

public import proofs.«01_k».proof.Proof.Gen.Dx1KernelIdeal.Loops
public import proofs.«01_k».proof.Proof.Gen.Dx1KernelIdeal.Frame
public import Idealize.ShloMosaic.Lib.VecWindow
public import Idealize.ShloMosaic.Lib.Pointwise

@[expose] public section

set_option maxRecDepth 16384

noncomputable section

namespace Cert.Proof.Dx1

open Cert.Dx1KernelIdeal Cert.Dx1KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Eight rows of a block, from row `r` on. -/
def rows (x : Vec F S512x2048 .f32) (r : ℕ) : Vec F S8x2048 .f32 := fun j =>
  x (ix2 (⟨(r + (j 0).val) % 512, Nat.mod_lt _ (by decide)⟩ : Fin 512) (j 1))

/-- The same of a column. -/
def rows1 (x : Vec F S512x1 .f32) (r : ℕ) : Vec F S8x1 .f32 := fun j =>
  x (ix2 (⟨(r + (j 0).val) % 512, Nat.mod_lt _ (by decide)⟩ : Fin 512) (j 1))

theorem readAt_rows (v : View sig .tc .vmem S512x2048 .f32) (f : BufTy.Contents (Elt F) v.ty) {off : Fin 2 → ℕ}
    (inb : ∀ a, off a + S8x2048.size a ≤ S512x2048.size a) :
    v.readAt (Elt F) (Rect.unit (s := S512x2048) off S8x2048.size inb).toLoadRect f = rows (v.read (Elt F) f) (off 0) := by
  have hn : off 0 + 8 ≤ 512 := inb 0
  have h1 : off 1 + 2048 ≤ 2048 := inb 1
  funext j
  refine congrArg (v.read (Elt F) f) (funext fun a => Fin.ext ?_)
  have h0 : (j 0).val < 8 := (j 0).isLt
  fin_cases a
  · show off 0 + 1 * (j 0).val = (off 0 + (j 0).val) % 512; omega
  · show off 1 + 1 * (j 1).val = (j 1).val; omega

theorem readAt_rows1 (v : View sig .tc .vmem S512x1 .f32) (f : BufTy.Contents (Elt F) v.ty) {off : Fin 2 → ℕ}
    (inb : ∀ a, off a + S8x1.size a ≤ S512x1.size a) :
    v.readAt (Elt F) (Rect.unit (s := S512x1) off S8x1.size inb).toLoadRect f = rows1 (v.read (Elt F) f) (off 0) := by
  have hn : off 0 + 8 ≤ 512 := inb 0
  have h1 : off 1 + 1 ≤ 1 := inb 1
  funext j
  refine congrArg (v.read (Elt F) f) (funext fun a => Fin.ext ?_)
  have h0 : (j 0).val < 8 := (j 0).isLt
  fin_cases a
  · show off 0 + 1 * (j 0).val = (off 0 + (j 0).val) % 512; omega
  · show off 1 + 1 * (j 1).val = (j 1).val; omega

/-- The running gradient of the layer norm's scale after `n` chunks, from `G`: `a` the product, `z` the next layer's
    gradient, `xh` the normalised rows. -/
def scaleGrad (a z xh : Vec F S512x2048 .f32) (G : Vec F S8x2048 .f32) : ℕ → Vec F S8x2048 .f32
  | 0 => G
  | n + 1 => k0_pay11 (rows a (8 * n)) (rows z (8 * n)) (rows xh (8 * n)) (scaleGrad a z xh G n)

/-- The running gradient of its shift. -/
def shiftGrad (a z : Vec F S512x2048 .f32) (B : Vec F S8x2048 .f32) : ℕ → Vec F S8x2048 .f32
  | 0 => B
  | n + 1 => k0_pay12 (rows a (8 * n)) (rows z (8 * n)) (shiftGrad a z B n)

/-- A chunk's rows of the gradient at the layer norm's input. -/
def chunk (g : Vec F S1x2048 .f32) (a z xh : Vec F S8x2048 .f32) (r : Vec F S8x1 .f32) : Vec F S8x2048 .f32 :=
  k0_pay17 (k0_pay10 xh) (k0_pay13 r) (k0_pay15 g a z xh) (k0_pay16 g a z)

/-- The block of that gradient after `n` chunks, over `D`. -/
def inputGrad (g : Vec F S1x2048 .f32) (a z xh : Vec F S512x2048 .f32) (r : Vec F S512x1 .f32)
    (D : Vec F S512x2048 .f32) : ℕ → Vec F S512x2048 .f32
  | 0 => D
  | n + 1 => VecWindow.put (inputGrad g a z xh r D n) ![8 * n, 0] ![8, 2048]
      (chunk g (rows a (8 * n)) (rows z (8 * n)) (rows xh (8 * n)) (rows1 r (8 * n)))

theorem trips_eq : k0_t1_loop.trips = 8 := by decide

theorem off1_eq (k : Fin k0_t1_loop.trips) (u : Fin 8) :
    k0_off1 k (BitVec.ofNat 32 (8 * u.val)) = ![8 * (8 * k.val + u.val), 0] := by
  have h : ∀ (k : Fin k0_t1_loop.trips) (u : Fin 8),
      k0_off1 k (BitVec.ofNat 32 (8 * u.val)) 0 = 8 * (8 * k.val + u.val) := by decide +kernel
  funext a
  fin_cases a
  · exact h k u
  · rfl

theorem off2_eq (k : Fin k0_t1_loop.trips) (u : Fin 8) :
    k0_off2 k (BitVec.ofNat 32 (8 * u.val)) = ![8 * (8 * k.val + u.val), 0] := by
  have h : ∀ (k : Fin k0_t1_loop.trips) (u : Fin 8),
      k0_off2 k (BitVec.ofNat 32 (8 * u.val)) 0 = 8 * (8 * k.val + u.val) := by decide +kernel
  funext a
  fin_cases a
  · exact h k u
  · rfl

theorem readAt_chunk (v : View sig .tc .vmem S512x2048 .f32) (f : BufTy.Contents (Elt F) v.ty) {off : Fin 2 → ℕ}
    {n : ℕ} (inb : ∀ a, off a + S8x2048.size a ≤ S512x2048.size a) (x : Vec F S512x2048 .f32) (h : off = ![n, 0])
    (hx : v.read (Elt F) f = x) :
    v.readAt (Elt F) (Rect.unit (s := S512x2048) off S8x2048.size inb).toLoadRect f = rows x n := by
  subst h hx; exact readAt_rows v f inb

theorem readAt_chunk1 (v : View sig .tc .vmem S512x1 .f32) (f : BufTy.Contents (Elt F) v.ty) {off : Fin 2 → ℕ}
    {n : ℕ} (inb : ∀ a, off a + S8x1.size a ≤ S512x1.size a) (x : Vec F S512x1 .f32) (h : off = ![n, 0])
    (hx : v.read (Elt F) f = x) :
    v.readAt (Elt F) (Rect.unit (s := S512x1) off S8x1.size inb).toLoadRect f = rows1 x n := by
  subst h hx; exact readAt_rows1 v f inb

set_option maxHeartbeats 400000 in
/-- One trip: eight chunks. -/
theorem trip (𝒱 : Variants) (c : Dev nD) (bd : Option 𝒱.V) (E : Set ℕ)
    (i : grid0.Coords) (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole) (arg5 : Memref sig .tc .vmem S512x2048 .f32)
    (harg5 : arg5.IsWhole) (arg6 : Memref sig .tc .vmem S512x1 .f32) (harg6 : arg6.IsWhole)
    (arg7 : Memref sig .tc .vmem S1x2048 .f32) (harg7 : arg7.IsWhole) (arg8 : Memref sig .tc .hbm S8x128 .f32)
    (harg8 : arg8.IsWhole) (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole) (arg12 : Memref sig .tc .vmem S8x2048 .f32)
    (harg12 : arg12.IsWhole) (arg13 : Memref sig .tc .vmem S512x2048 .f32) (harg13 : arg13.IsWhole)
    (k0_h3 : k0_cond3 i = 1#1) (v21 : Vec F S1x2048 .f32)
    (X4 : BufTy.Contents (Elt F) arg4.view.ty) (X5 : BufTy.Contents (Elt F) arg5.view.ty)
    (X6 : BufTy.Contents (Elt F) arg6.view.ty) (X13 : BufTy.Contents (Elt F) arg13.view.ty)
    (f9 : BufTy.Contents (Elt F) arg9.view.ty) (f11 : BufTy.Contents (Elt F) arg11.view.ty)
    (f12 : BufTy.Contents (Elt F) arg12.view.ty) (k : Fin k0_t1_loop.trips) (a z xh : Vec F S512x2048 .f32)
    (r : Vec F S512x1 .f32) (D : Vec F S512x2048 .f32) (G B : Vec F S8x2048 .f32)
    (h13 : arg13.view.read (Elt F) X13 = a) (h4 : arg4.view.read (Elt F) X4 = z)
    (h5 : arg5.view.read (Elt F) X5 = xh) (h6 : arg6.view.read (Elt F) X6 = r)
    (h9 : arg9.view.read (Elt F) f9 = inputGrad v21 a z xh r D (8 * k.val))
    (h11 : arg11.view.read (Elt F) f11 = scaleGrad a z xh G (8 * k.val))
    (h12 : arg12.view.read (Elt F) f12 = shiftGrad a z B (8 * k.val)) :
    (iprop((arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg13.view.loc (c : Thread nD τ) ↦[arg13.view.set]{fullShare} X13)
      ∗ (arg9.view.loc (c : Thread nD τ) ↦[arg9.view.set]{fullShare} f9)
      ∗ (arg11.view.loc (c : Thread nD τ) ↦[arg11.view.set]{fullShare} f11)
      ∗ (arg12.view.loc (c : Thread nD τ) ↦[arg12.view.set]{fullShare} f12)) : sProp 𝕄)
    ⊢ wp frame (wpE (defs₀ (F := F)) 𝒱 (c : Thread nD τ) bd) E
        (k0_t1_body (F := F)
          i arg2 harg2 arg3 harg3 arg4 harg4 arg5 harg5 arg6 harg6 arg7 harg7 arg8 harg8 arg9 harg9 arg10 harg10
          arg11 harg11 arg12 harg12 arg13 harg13 k0_h3 v21 k PUnit.unit)
        (fun _ => iprop((arg4.view.loc (c : Thread nD τ) ↦[arg4.view.set]{fullShare} X4)
          ∗ (arg5.view.loc (c : Thread nD τ) ↦[arg5.view.set]{fullShare} X5)
          ∗ (arg6.view.loc (c : Thread nD τ) ↦[arg6.view.set]{fullShare} X6)
          ∗ (arg13.view.loc (c : Thread nD τ) ↦[arg13.view.set]{fullShare} X13)
          ∗ (∃ f, (arg9.view.loc (c : Thread nD τ) ↦[arg9.view.set]{fullShare} f)
              ∗ ⌜arg9.view.read (Elt F) f = inputGrad v21 a z xh r D (8 * (k.val + 1))⌝)
          ∗ (∃ f, (arg11.view.loc (c : Thread nD τ) ↦[arg11.view.set]{fullShare} f)
              ∗ ⌜arg11.view.read (Elt F) f = scaleGrad a z xh G (8 * (k.val + 1))⌝)
          ∗ (∃ f, (arg12.view.loc (c : Thread nD τ) ↦[arg12.view.set]{fullShare} f)
              ∗ ⌜arg12.view.read (Elt F) f = shiftGrad a z B (8 * (k.val + 1))⌝))) := by
  have hk : k.val < 8 := Nat.lt_of_lt_of_le k.isLt k0_t1_abs.2.1
  unfold k0_t1_body
  iintro ⟨H4, H5, H6, H13, H9, H11, H12⟩
  sl_exec
  sl_step
  isplitl [H4]; · iexact H4
  isplitl [H5]; · iexact H5
  isplitl [H6]; · iexact H6
  isplitl [H13]; · iexact H13
  have R13_0 : (arg13.view.readAt (Elt F) (Rect.unit (s := S512x2048) (k0_off1 k 0#32) S8x2048.size (k0_off1_inb i k k0_h3 0)).toLoadRect X13)
      = rows a (8 * (8 * k.val)) :=
    readAt_chunk _ _ _ _ (off1_eq k 0) h13
  have R4_0 : (arg4.view.readAt (Elt F) (Rect.unit (s := S512x2048) (k0_off1 k 0#32) S8x2048.size (k0_off1_inb i k k0_h3 0)).toLoadRect X4)
      = rows z (8 * (8 * k.val)) :=
    readAt_chunk _ _ _ _ (off1_eq k 0) h4
  have R5_0 : (arg5.view.readAt (Elt F) (Rect.unit (s := S512x2048) (k0_off1 k 0#32) S8x2048.size (k0_off1_inb i k k0_h3 0)).toLoadRect X5)
      = rows xh (8 * (8 * k.val)) :=
    readAt_chunk _ _ _ _ (off1_eq k 0) h5
  have R6_0 : (arg6.view.readAt (Elt F) (Rect.unit (s := S512x1) (k0_off2 k 0#32) S8x1.size (k0_off2_inb i k k0_h3 0)).toLoadRect X6)
      = rows1 r (8 * (8 * k.val)) :=
    readAt_chunk1 _ _ _ _ (off2_eq k 0) h6
  have R13_1 : (arg13.view.readAt (Elt F) (Rect.unit (s := S512x2048) (k0_off1 k 8#32) S8x2048.size (k0_off1_inb i k k0_h3 1)).toLoadRect X13)
      = rows a (8 * (8 * k.val + 1)) :=
    readAt_chunk _ _ _ _ (off1_eq k 1) h13
  have R4_1 : (arg4.view.readAt (Elt F) (Rect.unit (s := S512x2048) (k0_off1 k 8#32) S8x2048.size (k0_off1_inb i k k0_h3 1)).toLoadRect X4)
      = rows z (8 * (8 * k.val + 1)) :=
    readAt_chunk _ _ _ _ (off1_eq k 1) h4
  have R5_1 : (arg5.view.readAt (Elt F) (Rect.unit (s := S512x2048) (k0_off1 k 8#32) S8x2048.size (k0_off1_inb i k k0_h3 1)).toLoadRect X5)
      = rows xh (8 * (8 * k.val + 1)) :=
    readAt_chunk _ _ _ _ (off1_eq k 1) h5
  have R6_1 : (arg6.view.readAt (Elt F) (Rect.unit (s := S512x1) (k0_off2 k 8#32) S8x1.size (k0_off2_inb i k k0_h3 1)).toLoadRect X6)
      = rows1 r (8 * (8 * k.val + 1)) :=
    readAt_chunk1 _ _ _ _ (off2_eq k 1) h6
  have R13_2 : (arg13.view.readAt (Elt F) (Rect.unit (s := S512x2048) (k0_off1 k 16#32) S8x2048.size (k0_off1_inb i k k0_h3 2)).toLoadRect X13)
      = rows a (8 * (8 * k.val + 2)) :=
    readAt_chunk _ _ _ _ (off1_eq k 2) h13
  have R4_2 : (arg4.view.readAt (Elt F) (Rect.unit (s := S512x2048) (k0_off1 k 16#32) S8x2048.size (k0_off1_inb i k k0_h3 2)).toLoadRect X4)
      = rows z (8 * (8 * k.val + 2)) :=
    readAt_chunk _ _ _ _ (off1_eq k 2) h4
  have R5_2 : (arg5.view.readAt (Elt F) (Rect.unit (s := S512x2048) (k0_off1 k 16#32) S8x2048.size (k0_off1_inb i k k0_h3 2)).toLoadRect X5)
      = rows xh (8 * (8 * k.val + 2)) :=
    readAt_chunk _ _ _ _ (off1_eq k 2) h5
  have R6_2 : (arg6.view.readAt (Elt F) (Rect.unit (s := S512x1) (k0_off2 k 16#32) S8x1.size (k0_off2_inb i k k0_h3 2)).toLoadRect X6)
      = rows1 r (8 * (8 * k.val + 2)) :=
    readAt_chunk1 _ _ _ _ (off2_eq k 2) h6
  have R13_3 : (arg13.view.readAt (Elt F) (Rect.unit (s := S512x2048) (k0_off1 k 24#32) S8x2048.size (k0_off1_inb i k k0_h3 3)).toLoadRect X13)
      = rows a (8 * (8 * k.val + 3)) :=
    readAt_chunk _ _ _ _ (off1_eq k 3) h13
  have R4_3 : (arg4.view.readAt (Elt F) (Rect.unit (s := S512x2048) (k0_off1 k 24#32) S8x2048.size (k0_off1_inb i k k0_h3 3)).toLoadRect X4)
      = rows z (8 * (8 * k.val + 3)) :=
    readAt_chunk _ _ _ _ (off1_eq k 3) h4
  have R5_3 : (arg5.view.readAt (Elt F) (Rect.unit (s := S512x2048) (k0_off1 k 24#32) S8x2048.size (k0_off1_inb i k k0_h3 3)).toLoadRect X5)
      = rows xh (8 * (8 * k.val + 3)) :=
    readAt_chunk _ _ _ _ (off1_eq k 3) h5
  have R6_3 : (arg6.view.readAt (Elt F) (Rect.unit (s := S512x1) (k0_off2 k 24#32) S8x1.size (k0_off2_inb i k k0_h3 3)).toLoadRect X6)
      = rows1 r (8 * (8 * k.val + 3)) :=
    readAt_chunk1 _ _ _ _ (off2_eq k 3) h6
  have R13_4 : (arg13.view.readAt (Elt F) (Rect.unit (s := S512x2048) (k0_off1 k 32#32) S8x2048.size (k0_off1_inb i k k0_h3 4)).toLoadRect X13)
      = rows a (8 * (8 * k.val + 4)) :=
    readAt_chunk _ _ _ _ (off1_eq k 4) h13
  have R4_4 : (arg4.view.readAt (Elt F) (Rect.unit (s := S512x2048) (k0_off1 k 32#32) S8x2048.size (k0_off1_inb i k k0_h3 4)).toLoadRect X4)
      = rows z (8 * (8 * k.val + 4)) :=
    readAt_chunk _ _ _ _ (off1_eq k 4) h4
  have R5_4 : (arg5.view.readAt (Elt F) (Rect.unit (s := S512x2048) (k0_off1 k 32#32) S8x2048.size (k0_off1_inb i k k0_h3 4)).toLoadRect X5)
      = rows xh (8 * (8 * k.val + 4)) :=
    readAt_chunk _ _ _ _ (off1_eq k 4) h5
  have R6_4 : (arg6.view.readAt (Elt F) (Rect.unit (s := S512x1) (k0_off2 k 32#32) S8x1.size (k0_off2_inb i k k0_h3 4)).toLoadRect X6)
      = rows1 r (8 * (8 * k.val + 4)) :=
    readAt_chunk1 _ _ _ _ (off2_eq k 4) h6
  have R13_5 : (arg13.view.readAt (Elt F) (Rect.unit (s := S512x2048) (k0_off1 k 40#32) S8x2048.size (k0_off1_inb i k k0_h3 5)).toLoadRect X13)
      = rows a (8 * (8 * k.val + 5)) :=
    readAt_chunk _ _ _ _ (off1_eq k 5) h13
  have R4_5 : (arg4.view.readAt (Elt F) (Rect.unit (s := S512x2048) (k0_off1 k 40#32) S8x2048.size (k0_off1_inb i k k0_h3 5)).toLoadRect X4)
      = rows z (8 * (8 * k.val + 5)) :=
    readAt_chunk _ _ _ _ (off1_eq k 5) h4
  have R5_5 : (arg5.view.readAt (Elt F) (Rect.unit (s := S512x2048) (k0_off1 k 40#32) S8x2048.size (k0_off1_inb i k k0_h3 5)).toLoadRect X5)
      = rows xh (8 * (8 * k.val + 5)) :=
    readAt_chunk _ _ _ _ (off1_eq k 5) h5
  have R6_5 : (arg6.view.readAt (Elt F) (Rect.unit (s := S512x1) (k0_off2 k 40#32) S8x1.size (k0_off2_inb i k k0_h3 5)).toLoadRect X6)
      = rows1 r (8 * (8 * k.val + 5)) :=
    readAt_chunk1 _ _ _ _ (off2_eq k 5) h6
  have R13_6 : (arg13.view.readAt (Elt F) (Rect.unit (s := S512x2048) (k0_off1 k 48#32) S8x2048.size (k0_off1_inb i k k0_h3 6)).toLoadRect X13)
      = rows a (8 * (8 * k.val + 6)) :=
    readAt_chunk _ _ _ _ (off1_eq k 6) h13
  have R4_6 : (arg4.view.readAt (Elt F) (Rect.unit (s := S512x2048) (k0_off1 k 48#32) S8x2048.size (k0_off1_inb i k k0_h3 6)).toLoadRect X4)
      = rows z (8 * (8 * k.val + 6)) :=
    readAt_chunk _ _ _ _ (off1_eq k 6) h4
  have R5_6 : (arg5.view.readAt (Elt F) (Rect.unit (s := S512x2048) (k0_off1 k 48#32) S8x2048.size (k0_off1_inb i k k0_h3 6)).toLoadRect X5)
      = rows xh (8 * (8 * k.val + 6)) :=
    readAt_chunk _ _ _ _ (off1_eq k 6) h5
  have R6_6 : (arg6.view.readAt (Elt F) (Rect.unit (s := S512x1) (k0_off2 k 48#32) S8x1.size (k0_off2_inb i k k0_h3 6)).toLoadRect X6)
      = rows1 r (8 * (8 * k.val + 6)) :=
    readAt_chunk1 _ _ _ _ (off2_eq k 6) h6
  have R13_7 : (arg13.view.readAt (Elt F) (Rect.unit (s := S512x2048) (k0_off1 k 56#32) S8x2048.size (k0_off1_inb i k k0_h3 7)).toLoadRect X13)
      = rows a (8 * (8 * k.val + 7)) :=
    readAt_chunk _ _ _ _ (off1_eq k 7) h13
  have R4_7 : (arg4.view.readAt (Elt F) (Rect.unit (s := S512x2048) (k0_off1 k 56#32) S8x2048.size (k0_off1_inb i k k0_h3 7)).toLoadRect X4)
      = rows z (8 * (8 * k.val + 7)) :=
    readAt_chunk _ _ _ _ (off1_eq k 7) h4
  have R5_7 : (arg5.view.readAt (Elt F) (Rect.unit (s := S512x2048) (k0_off1 k 56#32) S8x2048.size (k0_off1_inb i k k0_h3 7)).toLoadRect X5)
      = rows xh (8 * (8 * k.val + 7)) :=
    readAt_chunk _ _ _ _ (off1_eq k 7) h5
  have R6_7 : (arg6.view.readAt (Elt F) (Rect.unit (s := S512x1) (k0_off2 k 56#32) S8x1.size (k0_off2_inb i k k0_h3 7)).toLoadRect X6)
      = rows1 r (8 * (8 * k.val + 7)) :=
    readAt_chunk1 _ _ _ _ (off2_eq k 7) h6
  isplitl [H9]
  · iexists _; isplitl [H9]; · iexact H9
    ipureintro
    refine (View.read_writes_cons_put _ _ _ _ _ (off1_eq k 7)).trans ?_
    refine congrArg₂ (fun (b : Vec F S512x2048 .f32) (w : Vec F S8x2048 .f32) => VecWindow.put b ![8 * (8 * k.val + 7), 0] ![8, 2048] w) ?_ ?_
    swap
    · refine Eq.trans (b := chunk v21 (arg13.view.readAt (Elt F) (Rect.unit (s := S512x2048) (k0_off1 k 56#32) S8x2048.size (k0_off1_inb i k k0_h3 7)).toLoadRect X13)
        (arg4.view.readAt (Elt F) (Rect.unit (s := S512x2048) (k0_off1 k 56#32) S8x2048.size (k0_off1_inb i k k0_h3 7)).toLoadRect X4)
        (arg5.view.readAt (Elt F) (Rect.unit (s := S512x2048) (k0_off1 k 56#32) S8x2048.size (k0_off1_inb i k k0_h3 7)).toLoadRect X5)
        (arg6.view.readAt (Elt F) (Rect.unit (s := S512x1) (k0_off2 k 56#32) S8x1.size (k0_off2_inb i k k0_h3 7)).toLoadRect X6)) rfl ?_
      rw [R13_7, R4_7, R5_7, R6_7]; rfl
    refine (View.read_writes_cons_put _ _ _ _ _ (off1_eq k 6)).trans ?_
    refine congrArg₂ (fun (b : Vec F S512x2048 .f32) (w : Vec F S8x2048 .f32) => VecWindow.put b ![8 * (8 * k.val + 6), 0] ![8, 2048] w) ?_ ?_
    swap
    · refine Eq.trans (b := chunk v21 (arg13.view.readAt (Elt F) (Rect.unit (s := S512x2048) (k0_off1 k 48#32) S8x2048.size (k0_off1_inb i k k0_h3 6)).toLoadRect X13)
        (arg4.view.readAt (Elt F) (Rect.unit (s := S512x2048) (k0_off1 k 48#32) S8x2048.size (k0_off1_inb i k k0_h3 6)).toLoadRect X4)
        (arg5.view.readAt (Elt F) (Rect.unit (s := S512x2048) (k0_off1 k 48#32) S8x2048.size (k0_off1_inb i k k0_h3 6)).toLoadRect X5)
        (arg6.view.readAt (Elt F) (Rect.unit (s := S512x1) (k0_off2 k 48#32) S8x1.size (k0_off2_inb i k k0_h3 6)).toLoadRect X6)) rfl ?_
      rw [R13_6, R4_6, R5_6, R6_6]; rfl
    refine (View.read_writes_cons_put _ _ _ _ _ (off1_eq k 5)).trans ?_
    refine congrArg₂ (fun (b : Vec F S512x2048 .f32) (w : Vec F S8x2048 .f32) => VecWindow.put b ![8 * (8 * k.val + 5), 0] ![8, 2048] w) ?_ ?_
    swap
    · refine Eq.trans (b := chunk v21 (arg13.view.readAt (Elt F) (Rect.unit (s := S512x2048) (k0_off1 k 40#32) S8x2048.size (k0_off1_inb i k k0_h3 5)).toLoadRect X13)
        (arg4.view.readAt (Elt F) (Rect.unit (s := S512x2048) (k0_off1 k 40#32) S8x2048.size (k0_off1_inb i k k0_h3 5)).toLoadRect X4)
        (arg5.view.readAt (Elt F) (Rect.unit (s := S512x2048) (k0_off1 k 40#32) S8x2048.size (k0_off1_inb i k k0_h3 5)).toLoadRect X5)
        (arg6.view.readAt (Elt F) (Rect.unit (s := S512x1) (k0_off2 k 40#32) S8x1.size (k0_off2_inb i k k0_h3 5)).toLoadRect X6)) rfl ?_
      rw [R13_5, R4_5, R5_5, R6_5]; rfl
    refine (View.read_writes_cons_put _ _ _ _ _ (off1_eq k 4)).trans ?_
    refine congrArg₂ (fun (b : Vec F S512x2048 .f32) (w : Vec F S8x2048 .f32) => VecWindow.put b ![8 * (8 * k.val + 4), 0] ![8, 2048] w) ?_ ?_
    swap
    · refine Eq.trans (b := chunk v21 (arg13.view.readAt (Elt F) (Rect.unit (s := S512x2048) (k0_off1 k 32#32) S8x2048.size (k0_off1_inb i k k0_h3 4)).toLoadRect X13)
        (arg4.view.readAt (Elt F) (Rect.unit (s := S512x2048) (k0_off1 k 32#32) S8x2048.size (k0_off1_inb i k k0_h3 4)).toLoadRect X4)
        (arg5.view.readAt (Elt F) (Rect.unit (s := S512x2048) (k0_off1 k 32#32) S8x2048.size (k0_off1_inb i k k0_h3 4)).toLoadRect X5)
        (arg6.view.readAt (Elt F) (Rect.unit (s := S512x1) (k0_off2 k 32#32) S8x1.size (k0_off2_inb i k k0_h3 4)).toLoadRect X6)) rfl ?_
      rw [R13_4, R4_4, R5_4, R6_4]; rfl
    refine (View.read_writes_cons_put _ _ _ _ _ (off1_eq k 3)).trans ?_
    refine congrArg₂ (fun (b : Vec F S512x2048 .f32) (w : Vec F S8x2048 .f32) => VecWindow.put b ![8 * (8 * k.val + 3), 0] ![8, 2048] w) ?_ ?_
    swap
    · refine Eq.trans (b := chunk v21 (arg13.view.readAt (Elt F) (Rect.unit (s := S512x2048) (k0_off1 k 24#32) S8x2048.size (k0_off1_inb i k k0_h3 3)).toLoadRect X13)
        (arg4.view.readAt (Elt F) (Rect.unit (s := S512x2048) (k0_off1 k 24#32) S8x2048.size (k0_off1_inb i k k0_h3 3)).toLoadRect X4)
        (arg5.view.readAt (Elt F) (Rect.unit (s := S512x2048) (k0_off1 k 24#32) S8x2048.size (k0_off1_inb i k k0_h3 3)).toLoadRect X5)
        (arg6.view.readAt (Elt F) (Rect.unit (s := S512x1) (k0_off2 k 24#32) S8x1.size (k0_off2_inb i k k0_h3 3)).toLoadRect X6)) rfl ?_
      rw [R13_3, R4_3, R5_3, R6_3]; rfl
    refine (View.read_writes_cons_put _ _ _ _ _ (off1_eq k 2)).trans ?_
    refine congrArg₂ (fun (b : Vec F S512x2048 .f32) (w : Vec F S8x2048 .f32) => VecWindow.put b ![8 * (8 * k.val + 2), 0] ![8, 2048] w) ?_ ?_
    swap
    · refine Eq.trans (b := chunk v21 (arg13.view.readAt (Elt F) (Rect.unit (s := S512x2048) (k0_off1 k 16#32) S8x2048.size (k0_off1_inb i k k0_h3 2)).toLoadRect X13)
        (arg4.view.readAt (Elt F) (Rect.unit (s := S512x2048) (k0_off1 k 16#32) S8x2048.size (k0_off1_inb i k k0_h3 2)).toLoadRect X4)
        (arg5.view.readAt (Elt F) (Rect.unit (s := S512x2048) (k0_off1 k 16#32) S8x2048.size (k0_off1_inb i k k0_h3 2)).toLoadRect X5)
        (arg6.view.readAt (Elt F) (Rect.unit (s := S512x1) (k0_off2 k 16#32) S8x1.size (k0_off2_inb i k k0_h3 2)).toLoadRect X6)) rfl ?_
      rw [R13_2, R4_2, R5_2, R6_2]; rfl
    refine (View.read_writes_cons_put _ _ _ _ _ (off1_eq k 1)).trans ?_
    refine congrArg₂ (fun (b : Vec F S512x2048 .f32) (w : Vec F S8x2048 .f32) => VecWindow.put b ![8 * (8 * k.val + 1), 0] ![8, 2048] w) ?_ ?_
    swap
    · refine Eq.trans (b := chunk v21 (arg13.view.readAt (Elt F) (Rect.unit (s := S512x2048) (k0_off1 k 8#32) S8x2048.size (k0_off1_inb i k k0_h3 1)).toLoadRect X13)
        (arg4.view.readAt (Elt F) (Rect.unit (s := S512x2048) (k0_off1 k 8#32) S8x2048.size (k0_off1_inb i k k0_h3 1)).toLoadRect X4)
        (arg5.view.readAt (Elt F) (Rect.unit (s := S512x2048) (k0_off1 k 8#32) S8x2048.size (k0_off1_inb i k k0_h3 1)).toLoadRect X5)
        (arg6.view.readAt (Elt F) (Rect.unit (s := S512x1) (k0_off2 k 8#32) S8x1.size (k0_off2_inb i k k0_h3 1)).toLoadRect X6)) rfl ?_
      rw [R13_1, R4_1, R5_1, R6_1]; rfl
    refine (View.read_writes_cons_put _ _ _ _ _ (off1_eq k 0)).trans ?_
    refine congrArg₂ (fun (b : Vec F S512x2048 .f32) (w : Vec F S8x2048 .f32) => VecWindow.put b ![8 * (8 * k.val), 0] ![8, 2048] w) ?_ ?_
    swap
    · refine Eq.trans (b := chunk v21 (arg13.view.readAt (Elt F) (Rect.unit (s := S512x2048) (k0_off1 k 0#32) S8x2048.size (k0_off1_inb i k k0_h3 0)).toLoadRect X13)
        (arg4.view.readAt (Elt F) (Rect.unit (s := S512x2048) (k0_off1 k 0#32) S8x2048.size (k0_off1_inb i k k0_h3 0)).toLoadRect X4)
        (arg5.view.readAt (Elt F) (Rect.unit (s := S512x2048) (k0_off1 k 0#32) S8x2048.size (k0_off1_inb i k k0_h3 0)).toLoadRect X5)
        (arg6.view.readAt (Elt F) (Rect.unit (s := S512x1) (k0_off2 k 0#32) S8x1.size (k0_off2_inb i k k0_h3 0)).toLoadRect X6)) rfl ?_
      rw [R13_0, R4_0, R5_0, R6_0]; rfl
    exact h9
  isplitl [H11]
  · iexists _; isplitl [H11]; · iexact H11
    ipureintro
    have s0 : (arg11.view.readAt (Elt F) (Rect.unit (s := S8x2048) ![0, 0] S8x2048.size inb_S8x2048_S8x2048_0_0).toLoadRect f11) = scaleGrad a z xh G (8 * k.val) :=
      (View.readAt_full _ _ _).trans h11
    have s1 : (trip.sl.v83 i arg4 arg5 arg11 arg13 k0_h3 X4 X5 X13 f11 k)
        = scaleGrad a z xh G (8 * k.val + 1) := by
      refine (View.readCov_full arg11.view _ _ _ _).trans ?_
      refine Eq.trans (b := k0_pay11 (arg13.view.readAt (Elt F) (Rect.unit (s := S512x2048) (k0_off1 k 0#32) S8x2048.size (k0_off1_inb i k k0_h3 0)).toLoadRect X13)
        (arg4.view.readAt (Elt F) (Rect.unit (s := S512x2048) (k0_off1 k 0#32) S8x2048.size (k0_off1_inb i k k0_h3 0)).toLoadRect X4)
        (arg5.view.readAt (Elt F) (Rect.unit (s := S512x2048) (k0_off1 k 0#32) S8x2048.size (k0_off1_inb i k k0_h3 0)).toLoadRect X5)
        (arg11.view.readAt (Elt F) (Rect.unit (s := S8x2048) ![0, 0] S8x2048.size inb_S8x2048_S8x2048_0_0).toLoadRect f11)) rfl ?_
      rw [R13_0, R4_0, R5_0, s0]; rfl
    have s2 : (trip.sl.v126 i arg4 arg5 arg11 arg13 k0_h3 X4 X5 X13 f11 k)
        = scaleGrad a z xh G (8 * k.val + 2) := by
      refine (View.readCov_full arg11.view _ _ _ _).trans ?_
      refine Eq.trans (b := k0_pay11 (arg13.view.readAt (Elt F) (Rect.unit (s := S512x2048) (k0_off1 k 8#32) S8x2048.size (k0_off1_inb i k k0_h3 1)).toLoadRect X13)
        (arg4.view.readAt (Elt F) (Rect.unit (s := S512x2048) (k0_off1 k 8#32) S8x2048.size (k0_off1_inb i k k0_h3 1)).toLoadRect X4)
        (arg5.view.readAt (Elt F) (Rect.unit (s := S512x2048) (k0_off1 k 8#32) S8x2048.size (k0_off1_inb i k k0_h3 1)).toLoadRect X5)
        (trip.sl.v83 i arg4 arg5 arg11 arg13 k0_h3 X4 X5 X13 f11 k)) rfl ?_
      rw [R13_1, R4_1, R5_1, s1]; rfl
    have s3 : (trip.sl.v169 i arg4 arg5 arg11 arg13 k0_h3 X4 X5 X13 f11 k)
        = scaleGrad a z xh G (8 * k.val + 3) := by
      refine (View.readCov_full arg11.view _ _ _ _).trans ?_
      refine Eq.trans (b := k0_pay11 (arg13.view.readAt (Elt F) (Rect.unit (s := S512x2048) (k0_off1 k 16#32) S8x2048.size (k0_off1_inb i k k0_h3 2)).toLoadRect X13)
        (arg4.view.readAt (Elt F) (Rect.unit (s := S512x2048) (k0_off1 k 16#32) S8x2048.size (k0_off1_inb i k k0_h3 2)).toLoadRect X4)
        (arg5.view.readAt (Elt F) (Rect.unit (s := S512x2048) (k0_off1 k 16#32) S8x2048.size (k0_off1_inb i k k0_h3 2)).toLoadRect X5)
        (trip.sl.v126 i arg4 arg5 arg11 arg13 k0_h3 X4 X5 X13 f11 k)) rfl ?_
      rw [R13_2, R4_2, R5_2, s2]; rfl
    have s4 : (trip.sl.v212 i arg4 arg5 arg11 arg13 k0_h3 X4 X5 X13 f11 k)
        = scaleGrad a z xh G (8 * k.val + 4) := by
      refine (View.readCov_full arg11.view _ _ _ _).trans ?_
      refine Eq.trans (b := k0_pay11 (arg13.view.readAt (Elt F) (Rect.unit (s := S512x2048) (k0_off1 k 24#32) S8x2048.size (k0_off1_inb i k k0_h3 3)).toLoadRect X13)
        (arg4.view.readAt (Elt F) (Rect.unit (s := S512x2048) (k0_off1 k 24#32) S8x2048.size (k0_off1_inb i k k0_h3 3)).toLoadRect X4)
        (arg5.view.readAt (Elt F) (Rect.unit (s := S512x2048) (k0_off1 k 24#32) S8x2048.size (k0_off1_inb i k k0_h3 3)).toLoadRect X5)
        (trip.sl.v169 i arg4 arg5 arg11 arg13 k0_h3 X4 X5 X13 f11 k)) rfl ?_
      rw [R13_3, R4_3, R5_3, s3]; rfl
    have s5 : (trip.sl.v255 i arg4 arg5 arg11 arg13 k0_h3 X4 X5 X13 f11 k)
        = scaleGrad a z xh G (8 * k.val + 5) := by
      refine (View.readCov_full arg11.view _ _ _ _).trans ?_
      refine Eq.trans (b := k0_pay11 (arg13.view.readAt (Elt F) (Rect.unit (s := S512x2048) (k0_off1 k 32#32) S8x2048.size (k0_off1_inb i k k0_h3 4)).toLoadRect X13)
        (arg4.view.readAt (Elt F) (Rect.unit (s := S512x2048) (k0_off1 k 32#32) S8x2048.size (k0_off1_inb i k k0_h3 4)).toLoadRect X4)
        (arg5.view.readAt (Elt F) (Rect.unit (s := S512x2048) (k0_off1 k 32#32) S8x2048.size (k0_off1_inb i k k0_h3 4)).toLoadRect X5)
        (trip.sl.v212 i arg4 arg5 arg11 arg13 k0_h3 X4 X5 X13 f11 k)) rfl ?_
      rw [R13_4, R4_4, R5_4, s4]; rfl
    have s6 : (trip.sl.v298 i arg4 arg5 arg11 arg13 k0_h3 X4 X5 X13 f11 k)
        = scaleGrad a z xh G (8 * k.val + 6) := by
      refine (View.readCov_full arg11.view _ _ _ _).trans ?_
      refine Eq.trans (b := k0_pay11 (arg13.view.readAt (Elt F) (Rect.unit (s := S512x2048) (k0_off1 k 40#32) S8x2048.size (k0_off1_inb i k k0_h3 5)).toLoadRect X13)
        (arg4.view.readAt (Elt F) (Rect.unit (s := S512x2048) (k0_off1 k 40#32) S8x2048.size (k0_off1_inb i k k0_h3 5)).toLoadRect X4)
        (arg5.view.readAt (Elt F) (Rect.unit (s := S512x2048) (k0_off1 k 40#32) S8x2048.size (k0_off1_inb i k k0_h3 5)).toLoadRect X5)
        (trip.sl.v255 i arg4 arg5 arg11 arg13 k0_h3 X4 X5 X13 f11 k)) rfl ?_
      rw [R13_5, R4_5, R5_5, s5]; rfl
    have s7 : (trip.sl.v341 i arg4 arg5 arg11 arg13 k0_h3 X4 X5 X13 f11 k)
        = scaleGrad a z xh G (8 * k.val + 7) := by
      refine (View.readCov_full arg11.view _ _ _ _).trans ?_
      refine Eq.trans (b := k0_pay11 (arg13.view.readAt (Elt F) (Rect.unit (s := S512x2048) (k0_off1 k 48#32) S8x2048.size (k0_off1_inb i k k0_h3 6)).toLoadRect X13)
        (arg4.view.readAt (Elt F) (Rect.unit (s := S512x2048) (k0_off1 k 48#32) S8x2048.size (k0_off1_inb i k k0_h3 6)).toLoadRect X4)
        (arg5.view.readAt (Elt F) (Rect.unit (s := S512x2048) (k0_off1 k 48#32) S8x2048.size (k0_off1_inb i k k0_h3 6)).toLoadRect X5)
        (trip.sl.v298 i arg4 arg5 arg11 arg13 k0_h3 X4 X5 X13 f11 k)) rfl ?_
      rw [R13_6, R4_6, R5_6, s6]; rfl
    refine (View.read_writes_full _ _ _ _ _).trans ?_
    refine Eq.trans (b := k0_pay11 (arg13.view.readAt (Elt F) (Rect.unit (s := S512x2048) (k0_off1 k 56#32) S8x2048.size (k0_off1_inb i k k0_h3 7)).toLoadRect X13)
      (arg4.view.readAt (Elt F) (Rect.unit (s := S512x2048) (k0_off1 k 56#32) S8x2048.size (k0_off1_inb i k k0_h3 7)).toLoadRect X4)
      (arg5.view.readAt (Elt F) (Rect.unit (s := S512x2048) (k0_off1 k 56#32) S8x2048.size (k0_off1_inb i k k0_h3 7)).toLoadRect X5)
      (trip.sl.v341 i arg4 arg5 arg11 arg13 k0_h3 X4 X5 X13 f11 k)) rfl ?_
    rw [R13_7, R4_7, R5_7, s7]; rfl
  iexists _; isplitl [H12]; · iexact H12
  ipureintro
  have t0 : (arg12.view.readAt (Elt F) (Rect.unit (s := S8x2048) ![0, 0] S8x2048.size inb_S8x2048_S8x2048_0_0).toLoadRect f12) = shiftGrad a z B (8 * k.val) :=
    (View.readAt_full _ _ _).trans h12
  have t1 : (trip.sl.v88 i arg4 arg12 arg13 k0_h3 X4 X13 f12 k)
      = shiftGrad a z B (8 * k.val + 1) := by
    refine (View.readCov_full arg12.view _ _ _ _).trans ?_
    refine Eq.trans (b := k0_pay12 (arg13.view.readAt (Elt F) (Rect.unit (s := S512x2048) (k0_off1 k 0#32) S8x2048.size (k0_off1_inb i k k0_h3 0)).toLoadRect X13)
      (arg4.view.readAt (Elt F) (Rect.unit (s := S512x2048) (k0_off1 k 0#32) S8x2048.size (k0_off1_inb i k k0_h3 0)).toLoadRect X4)
      (arg12.view.readAt (Elt F) (Rect.unit (s := S8x2048) ![0, 0] S8x2048.size inb_S8x2048_S8x2048_0_0).toLoadRect f12)) rfl ?_
    rw [R13_0, R4_0, t0]; rfl
  have t2 : (trip.sl.v131 i arg4 arg12 arg13 k0_h3 X4 X13 f12 k)
      = shiftGrad a z B (8 * k.val + 2) := by
    refine (View.readCov_full arg12.view _ _ _ _).trans ?_
    refine Eq.trans (b := k0_pay12 (arg13.view.readAt (Elt F) (Rect.unit (s := S512x2048) (k0_off1 k 8#32) S8x2048.size (k0_off1_inb i k k0_h3 1)).toLoadRect X13)
      (arg4.view.readAt (Elt F) (Rect.unit (s := S512x2048) (k0_off1 k 8#32) S8x2048.size (k0_off1_inb i k k0_h3 1)).toLoadRect X4)
      (trip.sl.v88 i arg4 arg12 arg13 k0_h3 X4 X13 f12 k)) rfl ?_
    rw [R13_1, R4_1, t1]; rfl
  have t3 : (trip.sl.v174 i arg4 arg12 arg13 k0_h3 X4 X13 f12 k)
      = shiftGrad a z B (8 * k.val + 3) := by
    refine (View.readCov_full arg12.view _ _ _ _).trans ?_
    refine Eq.trans (b := k0_pay12 (arg13.view.readAt (Elt F) (Rect.unit (s := S512x2048) (k0_off1 k 16#32) S8x2048.size (k0_off1_inb i k k0_h3 2)).toLoadRect X13)
      (arg4.view.readAt (Elt F) (Rect.unit (s := S512x2048) (k0_off1 k 16#32) S8x2048.size (k0_off1_inb i k k0_h3 2)).toLoadRect X4)
      (trip.sl.v131 i arg4 arg12 arg13 k0_h3 X4 X13 f12 k)) rfl ?_
    rw [R13_2, R4_2, t2]; rfl
  have t4 : (trip.sl.v217 i arg4 arg12 arg13 k0_h3 X4 X13 f12 k)
      = shiftGrad a z B (8 * k.val + 4) := by
    refine (View.readCov_full arg12.view _ _ _ _).trans ?_
    refine Eq.trans (b := k0_pay12 (arg13.view.readAt (Elt F) (Rect.unit (s := S512x2048) (k0_off1 k 24#32) S8x2048.size (k0_off1_inb i k k0_h3 3)).toLoadRect X13)
      (arg4.view.readAt (Elt F) (Rect.unit (s := S512x2048) (k0_off1 k 24#32) S8x2048.size (k0_off1_inb i k k0_h3 3)).toLoadRect X4)
      (trip.sl.v174 i arg4 arg12 arg13 k0_h3 X4 X13 f12 k)) rfl ?_
    rw [R13_3, R4_3, t3]; rfl
  have t5 : (trip.sl.v260 i arg4 arg12 arg13 k0_h3 X4 X13 f12 k)
      = shiftGrad a z B (8 * k.val + 5) := by
    refine (View.readCov_full arg12.view _ _ _ _).trans ?_
    refine Eq.trans (b := k0_pay12 (arg13.view.readAt (Elt F) (Rect.unit (s := S512x2048) (k0_off1 k 32#32) S8x2048.size (k0_off1_inb i k k0_h3 4)).toLoadRect X13)
      (arg4.view.readAt (Elt F) (Rect.unit (s := S512x2048) (k0_off1 k 32#32) S8x2048.size (k0_off1_inb i k k0_h3 4)).toLoadRect X4)
      (trip.sl.v217 i arg4 arg12 arg13 k0_h3 X4 X13 f12 k)) rfl ?_
    rw [R13_4, R4_4, t4]; rfl
  have t6 : (trip.sl.v303 i arg4 arg12 arg13 k0_h3 X4 X13 f12 k)
      = shiftGrad a z B (8 * k.val + 6) := by
    refine (View.readCov_full arg12.view _ _ _ _).trans ?_
    refine Eq.trans (b := k0_pay12 (arg13.view.readAt (Elt F) (Rect.unit (s := S512x2048) (k0_off1 k 40#32) S8x2048.size (k0_off1_inb i k k0_h3 5)).toLoadRect X13)
      (arg4.view.readAt (Elt F) (Rect.unit (s := S512x2048) (k0_off1 k 40#32) S8x2048.size (k0_off1_inb i k k0_h3 5)).toLoadRect X4)
      (trip.sl.v260 i arg4 arg12 arg13 k0_h3 X4 X13 f12 k)) rfl ?_
    rw [R13_5, R4_5, t5]; rfl
  have t7 : (trip.sl.v346 i arg4 arg12 arg13 k0_h3 X4 X13 f12 k)
      = shiftGrad a z B (8 * k.val + 7) := by
    refine (View.readCov_full arg12.view _ _ _ _).trans ?_
    refine Eq.trans (b := k0_pay12 (arg13.view.readAt (Elt F) (Rect.unit (s := S512x2048) (k0_off1 k 48#32) S8x2048.size (k0_off1_inb i k k0_h3 6)).toLoadRect X13)
      (arg4.view.readAt (Elt F) (Rect.unit (s := S512x2048) (k0_off1 k 48#32) S8x2048.size (k0_off1_inb i k k0_h3 6)).toLoadRect X4)
      (trip.sl.v303 i arg4 arg12 arg13 k0_h3 X4 X13 f12 k)) rfl ?_
    rw [R13_6, R4_6, t6]; rfl
  refine (View.read_writes_full _ _ _ _ _).trans ?_
  refine Eq.trans (b := k0_pay12 (arg13.view.readAt (Elt F) (Rect.unit (s := S512x2048) (k0_off1 k 56#32) S8x2048.size (k0_off1_inb i k k0_h3 7)).toLoadRect X13)
    (arg4.view.readAt (Elt F) (Rect.unit (s := S512x2048) (k0_off1 k 56#32) S8x2048.size (k0_off1_inb i k k0_h3 7)).toLoadRect X4)
    (trip.sl.v346 i arg4 arg12 arg13 k0_h3 X4 X13 f12 k)) rfl ?_
  rw [R13_7, R4_7, t7]; rfl

set_option warn.classDefReducibility false in
/-- The loop's invariant before trip `k`: eight chunks a trip are done. -/
@[sl_loop] def loopInv (𝒱 : Variants) (c : Dev nD) (bd : Option 𝒱.V) (E : Set ℕ)
    (i : grid0.Coords) (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole) (arg5 : Memref sig .tc .vmem S512x2048 .f32)
    (harg5 : arg5.IsWhole) (arg6 : Memref sig .tc .vmem S512x1 .f32) (harg6 : arg6.IsWhole)
    (arg7 : Memref sig .tc .vmem S1x2048 .f32) (harg7 : arg7.IsWhole) (arg8 : Memref sig .tc .hbm S8x128 .f32)
    (harg8 : arg8.IsWhole) (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole) (arg12 : Memref sig .tc .vmem S8x2048 .f32)
    (harg12 : arg12.IsWhole) (arg13 : Memref sig .tc .vmem S512x2048 .f32) (harg13 : arg13.IsWhole)
    (k0_h3 : k0_cond3 i = 1#1) (v21 : Vec F S1x2048 .f32)
    (X_arg4 : BufTy.Contents (Elt F) arg4.view.ty) (X_arg5 : BufTy.Contents (Elt F) arg5.view.ty)
    (X_arg6 : BufTy.Contents (Elt F) arg6.view.ty) (X_arg13 : BufTy.Contents (Elt F) arg13.view.ty)
    (G_arg9 : BufTy.Contents (Elt F) arg9.view.ty) (G_arg11 : BufTy.Contents (Elt F) arg11.view.ty)
    (G_arg12 : BufTy.Contents (Elt F) arg12.view.ty) :
    LoopInvTy_k0_t1 (F := F) Unit ℕ (UR sig nD τ) ℕ 𝒱 c bd E
          i arg2 harg2 arg3 harg3 arg4 harg4 arg5 harg5 arg6 harg6 arg7 harg7 arg8 harg8 arg9 harg9 arg10 harg10
          arg11 harg11 arg12 harg12 arg13 harg13 k0_h3 v21 where
  inv k _ := iprop((arg4.view.loc (c : Thread nD τ) ↦[arg4.view.set]{fullShare} X_arg4)
    ∗ (arg5.view.loc (c : Thread nD τ) ↦[arg5.view.set]{fullShare} X_arg5)
    ∗ (arg6.view.loc (c : Thread nD τ) ↦[arg6.view.set]{fullShare} X_arg6)
    ∗ (arg13.view.loc (c : Thread nD τ) ↦[arg13.view.set]{fullShare} X_arg13)
    ∗ (∃ f, (arg9.view.loc (c : Thread nD τ) ↦[arg9.view.set]{fullShare} f)
        ∗ ⌜arg9.view.read (Elt F) f = inputGrad v21 (arg13.view.read (Elt F) X_arg13) (arg4.view.read (Elt F) X_arg4)
            (arg5.view.read (Elt F) X_arg5) (arg6.view.read (Elt F) X_arg6) (arg9.view.read (Elt F) G_arg9) (8 * k)⌝)
    ∗ (∃ f, (arg11.view.loc (c : Thread nD τ) ↦[arg11.view.set]{fullShare} f)
        ∗ ⌜arg11.view.read (Elt F) f = scaleGrad (arg13.view.read (Elt F) X_arg13) (arg4.view.read (Elt F) X_arg4)
            (arg5.view.read (Elt F) X_arg5) (arg11.view.read (Elt F) G_arg11) (8 * k)⌝)
    ∗ (∃ f, (arg12.view.loc (c : Thread nD τ) ↦[arg12.view.set]{fullShare} f)
        ∗ ⌜arg12.view.read (Elt F) f = shiftGrad (arg13.view.read (Elt F) X_arg13) (arg4.view.read (Elt F) X_arg4)
            (arg12.view.read (Elt F) G_arg12) (8 * k)⌝))
  step k acc := by
    iintro ⟨H4, H5, H6, H13, ⟨%f9, H9, %h9⟩, ⟨%f11, H11, %h11⟩, ⟨%f12, H12, %h12⟩⟩
    iapply (trip (F := F) 𝒱 c bd E
          i arg2 harg2 arg3 harg3 arg4 harg4 arg5 harg5 arg6 harg6 arg7 harg7 arg8 harg8 arg9 harg9 arg10 harg10
          arg11 harg11 arg12 harg12 arg13 harg13 k0_h3 v21
      X_arg4 X_arg5 X_arg6 X_arg13 f9 f11 f12 k _ _ _ _ _ _ _ rfl rfl rfl rfl h9 h11 h12)
    isplitl [H4]; · iexact H4
    isplitl [H5]; · iexact H5
    isplitl [H6]; · iexact H6
    isplitl [H13]; · iexact H13
    isplitl [H9]; · iexact H9
    isplitl [H11]; · iexact H11
    iexact H12

end Cert.Proof.Dx1

end
-- ==== Proof.Dx1Run.lean ====
/- Gradient at the input of the MLP, through the first layer norm: the body's runs.

   The reduction goes over four shards of the weight. Its first point clears the running product, every point adds its
   shard's part, and after the last the loop over the rows runs. The first point of all clears the gradients of the two
   weights of the layer norm. Everything is stated over any values. -/
module

public import proofs.«01_k».proof.Proof.Dx1Trip

@[expose] public section

set_option maxRecDepth 16384

noncomputable section

namespace Cert.Proof.Dx1

open Cert.Dx1KernelIdeal Cert.Dx1KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition of the first point of all, -/
abbrev isFirst (i : grid0.Coords) : Prop := k0_cond1 i = 1#1
/-- of the first shard, -/
abbrev isStart (i : grid0.Coords) : Prop :=
  (Scalar.cmpi .ne (Scalar.extui (Scalar.cmpi .eq (BitVec.ofNat 32 (i 1).val) 0#32)) 0#32) = 1#1
/-- and of the last shard. -/
abbrev isEnd (i : grid0.Coords) : Prop := k0_cond3 i = 1#1

theorem isFirst_iff (t : Fin cfg0.N) : isFirst (grid0.coords t) ↔ t.val % 32 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [isFirst, k0_cond1, e0, e1]
  word_cmp

theorem isStart_iff (t : Fin cfg0.N) : isStart (grid0.coords t) ↔ t.val % 4 = 0 := by
  have ht : t.val < 32 := Nat.lt_of_lt_of_eq t.isLt N_0
  have e1 : (grid0.coords t 1).val = t.val / 1 % 4 := Pipeline.Grid.coords_val t 1 (by decide) rfl
  simp only [isStart, e1]
  word_cmp

theorem isEnd_iff (t : Fin cfg0.N) : isEnd (grid0.coords t) ↔ t.val % 4 = 3 := by
  have ht : t.val < 32 := Nat.lt_of_lt_of_eq t.isLt N_0
  have e1 : (grid0.coords t 1).val = t.val / 1 % 4 := Pipeline.Grid.coords_val t 1 (by decide) rfl
  simp only [isEnd, k0_cond3, e1]
  word_cmp

/-- The gradient at the layer norm's input, each row out of its chunk. -/
def inputBlock (g : Vec F S1x2048 .f32) (a z xh : Vec F S512x2048 .f32) (r : Vec F S512x1 .f32) : Vec F S512x2048 .f32 :=
  fun y => chunk g (rows a (8 * ((y 0).val / 8))) (rows z (8 * ((y 0).val / 8))) (rows xh (8 * ((y 0).val / 8)))
    (rows1 r (8 * ((y 0).val / 8))) (ix2 (⟨(y 0).val % 8, Nat.mod_lt _ (by decide)⟩ : Fin 8) (y 1))

/-- After `n` chunks the first `8 * n` rows are done, whatever was there before. -/
theorem inputGrad_eq (g : Vec F S1x2048 .f32) (a z xh : Vec F S512x2048 .f32) (r : Vec F S512x1 .f32)
    (D : Vec F S512x2048 .f32) (n : ℕ) (y : S512x2048.Idx) (hy : (y 0).val < 8 * n) :
    inputGrad g a z xh r D n y = inputBlock g a z xh r y := by
  induction n with
  | zero => exact absurd hy (by omega)
  | succ n ih =>
    have h1 : (y 1).val < 2048 := (y 1).isLt
    by_cases h : (y 0).val < 8 * n
    · refine Eq.trans (dif_neg fun hall => ?_) (ih h)
      have : 8 * n ≤ (y 0).val := (hall 0).1
      omega
    · have hq : (y 0).val / 8 = n := by omega
      have hall : ∀ d : Fin 2, (![8 * n, 0] : Fin 2 → ℕ) d ≤ (y d).val
          ∧ (y d).val < (![8 * n, 0] : Fin 2 → ℕ) d + (![8, 2048] : Fin 2 → ℕ) d := fun d => by
        fin_cases d
        · show 8 * n ≤ (y 0).val ∧ (y 0).val < 8 * n + 8; omega
        · show 0 ≤ (y 1).val ∧ (y 1).val < 0 + 2048; omega
      refine (dif_pos hall).trans ?_
      unfold inputBlock
      rw [hq]
      congr 1
      funext d
      apply Fin.ext
      fin_cases d
      · show (y 0).val - 8 * n = (y 0).val % 8; omega
      · show (y 1).val - 0 = (y 1).val; omega

theorem inputGrad_all (g : Vec F S1x2048 .f32) (a z xh : Vec F S512x2048 .f32) (r : Vec F S512x1 .f32)
    (D : Vec F S512x2048 .f32) : inputGrad g a z xh r D 64 = inputBlock g a z xh r :=
  funext fun y => inputGrad_eq g a z xh r D 64 y (Nat.lt_of_lt_of_eq (y 0).isLt rfl)

set_option maxHeartbeats 1000000 in
/-- The first point of all. -/
theorem run_first (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S512x1 .f32) (harg6 : arg6.IsWhole)
    (arg7 : Memref sig .tc .vmem S1x2048 .f32) (harg7 : arg7.IsWhole)
    (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole)
    (arg12 : Memref sig .tc .vmem S8x2048 .f32) (harg12 : arg12.IsWhole)
    (arg13 : Memref sig .tc .vmem S512x2048 .f32) (harg13 : arg13.IsWhole)
    (hc0 : isFirst i) (hc1 : isStart i) (hc2 : ¬isEnd i)
    (x : Vec F S512x2048 .bf16) (w : Vec F S1x2048x2048 .bf16) (K : PUnit → sProp 𝕄) :
    iprop(owns (c : Thread nD τ) arg2 fullShare x
        ∗ owns (c : Thread nD τ) arg3 fullShare w
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x
            ∗ owns (c : Thread nD τ) arg3 fullShare w
            ∗ owns (c : Thread nD τ) arg11 fullShare (k0_pay1 (F := F))
            ∗ owns (c : Thread nD τ) arg12 fullShare (k0_pay2 (F := F))
            ∗ owns (c : Thread nD τ) arg13 fullShare (k0_pay4 (k0_pay3 (F := F)) x w)) -∗ K ⟨⟩))
      ⊢ wp frame (wpE (defs₀ (F := F)) Variants.none c none) Set.univ
          (cc0_dx1_ln1_bwd i arg2 harg2 arg3 harg3 arg4 harg4 arg5 harg5 arg6 harg6 arg7 harg7 (Memref.whole main_arg6)
            (Memref.isWhole_whole _) arg9 harg9 arg10 harg10 arg11 harg11 arg12 harg12 arg13 harg13) K := by
  simp only [cc0_dx1_ln1_bwd_eq_skeleton]; unfold cc0_dx1_ln1_bwd_skel
  unfold owns
  iintro ⟨⟨%f2, %hf2, H2⟩, ⟨%f3, %hf3, H3⟩, ⟨%d11, %f11, -, H11⟩, ⟨%d12, %f12, -, H12⟩, ⟨%d13, %f13, -, H13⟩, Hk⟩
  obtain rfl := harg2.eq_unread hf2
  obtain rfl := harg3.eq_unread hf3
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H11]
  · iexists _; isplitr
    swap; · iexact H11
    ipureintro
    exact (View.read_writes_full _ _ _ _ _)
  isplitl [H12]
  · iexists _; isplitr
    swap; · iexact H12
    ipureintro
    exact (View.read_writes_full _ _ _ _ _)
  iexists _; isplitr
  swap; · iexact H13
  ipureintro
  refine (View.read_writes_full _ _ _ _ _).trans ?_
  rw [show run_first.sl.v8 c arg13 = k0_pay3 (F := F) from View.readCov_full _ _ _ _ _, View.readAt_full arg2.view, harg2.read_unread, View.readAt_full arg3.view, harg3.read_unread]

set_option maxHeartbeats 1000000 in
/-- The first shard of a later block of rows. -/
theorem run_start (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S512x1 .f32) (harg6 : arg6.IsWhole)
    (arg7 : Memref sig .tc .vmem S1x2048 .f32) (harg7 : arg7.IsWhole)
    (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole)
    (arg12 : Memref sig .tc .vmem S8x2048 .f32) (harg12 : arg12.IsWhole)
    (arg13 : Memref sig .tc .vmem S512x2048 .f32) (harg13 : arg13.IsWhole)
    (hc0 : ¬isFirst i) (hc1 : isStart i) (hc2 : ¬isEnd i)
    (x : Vec F S512x2048 .bf16) (w : Vec F S1x2048x2048 .bf16) (K : PUnit → sProp 𝕄) :
    iprop(owns (c : Thread nD τ) arg2 fullShare x
        ∗ owns (c : Thread nD τ) arg3 fullShare w
        ∗ (∃ d, owns (c : Thread nD τ) arg13 fullShare d)
        ∗ (iprop(owns (c : Thread nD τ) arg2 fullShare x
            ∗ owns (c : Thread nD τ) arg3 fullShare w
            ∗ owns (c : Thread nD τ) arg13 fullShare (k0_pay4 (k0_pay3 (F := F)) x w)) -∗ K ⟨⟩))
      ⊢ wp frame (wpE (defs₀ (F := F)) Variants.none c none) Set.univ
          (cc0_dx1_ln1_bwd i arg2 harg2 arg3 harg3 arg4 harg4 arg5 harg5 arg6 harg6 arg7 harg7 (Memref.whole main_arg6)
            (Memref.isWhole_whole _) arg9 harg9 arg10 harg10 arg11 harg11 arg12 harg12 arg13 harg13) K := by
  simp only [cc0_dx1_ln1_bwd_eq_skeleton]; unfold cc0_dx1_ln1_bwd_skel
  unfold owns
  iintro ⟨⟨%f2, %hf2, H2⟩, ⟨%f3, %hf3, H3⟩, ⟨%d13, %f13, -, H13⟩, Hk⟩
  obtain rfl := harg2.eq_unread hf2
  obtain rfl := harg3.eq_unread hf3
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H13
  ipureintro
  refine (View.read_writes_full _ _ _ _ _).trans ?_
  rw [show run_start.sl.v8 c arg13 = k0_pay3 (F := F) from View.readCov_full _ _ _ _ _, View.readAt_full arg2.view, harg2.read_unread, View.readAt_full arg3.view, harg3.read_unread]

set_option maxHeartbeats 1000000 in
/-- A shard between the first and the last. -/
theorem run_inner (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S512x1 .f32) (harg6 : arg6.IsWhole)
    (arg7 : Memref sig .tc .vmem S1x2048 .f32) (harg7 : arg7.IsWhole)
    (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole)
    (arg12 : Memref sig .tc .vmem S8x2048 .f32) (harg12 : arg12.IsWhole)
    (arg13 : Memref sig .tc .vmem S512x2048 .f32) (harg13 : arg13.IsWhole)
    (hc0 : ¬isFirst i) (hc1 : ¬isStart i) (hc2 : ¬isEnd i)
    (x : Vec F S512x2048 .bf16) (w : Vec F S1x2048x2048 .bf16) (p : Vec F S512x2048 .f32) (K : PUnit → sProp 𝕄) :
    iprop(owns (c : Thread nD τ) arg2 fullShare x
        ∗ owns (c : Thread nD τ) arg3 fullShare w
        ∗ owns (c : Thread nD τ) arg13 fullShare p
        ∗ (iprop(owns (c : Thread nD τ) arg2 fullShare x
            ∗ owns (c : Thread nD τ) arg3 fullShare w
            ∗ owns (c : Thread nD τ) arg13 fullShare (k0_pay4 p x w)) -∗ K ⟨⟩))
      ⊢ wp frame (wpE (defs₀ (F := F)) Variants.none c none) Set.univ
          (cc0_dx1_ln1_bwd i arg2 harg2 arg3 harg3 arg4 harg4 arg5 harg5 arg6 harg6 arg7 harg7 (Memref.whole main_arg6)
            (Memref.isWhole_whole _) arg9 harg9 arg10 harg10 arg11 harg11 arg12 harg12 arg13 harg13) K := by
  simp only [cc0_dx1_ln1_bwd_eq_skeleton]; unfold cc0_dx1_ln1_bwd_skel
  unfold owns
  iintro ⟨⟨%f2, %hf2, H2⟩, ⟨%f3, %hf3, H3⟩, ⟨%f13, %hf13, H13⟩, Hk⟩
  obtain rfl := harg2.eq_unread hf2
  obtain rfl := harg3.eq_unread hf3
  obtain rfl := harg13.eq_unread hf13
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H13
  ipureintro
  refine (View.read_writes_full _ _ _ _ _).trans ?_
  rw [View.readAt_full arg13.view, harg13.read_unread, View.readAt_full arg2.view, harg2.read_unread, View.readAt_full arg3.view, harg3.read_unread]

set_option maxHeartbeats 1000000 in
/-- The last shard: the product is whole and the loop goes over its rows. -/
theorem run_end (c : Dev nD) (i : grid0.Coords)
    (arg2 : Memref sig .tc .vmem S512x2048 .bf16) (harg2 : arg2.IsWhole)
    (arg3 : Memref sig .tc .vmem S1x2048x2048 .bf16) (harg3 : arg3.IsWhole)
    (arg4 : Memref sig .tc .vmem S512x2048 .f32) (harg4 : arg4.IsWhole)
    (arg5 : Memref sig .tc .vmem S512x2048 .f32) (harg5 : arg5.IsWhole)
    (arg6 : Memref sig .tc .vmem S512x1 .f32) (harg6 : arg6.IsWhole)
    (arg7 : Memref sig .tc .vmem S1x2048 .f32) (harg7 : arg7.IsWhole)
    (arg9 : Memref sig .tc .vmem S512x2048 .f32) (harg9 : arg9.IsWhole)
    (arg10 : Memref sig .tc .vmem S512x2048 .bf16) (harg10 : arg10.IsWhole)
    (arg11 : Memref sig .tc .vmem S8x2048 .f32) (harg11 : arg11.IsWhole)
    (arg12 : Memref sig .tc .vmem S8x2048 .f32) (harg12 : arg12.IsWhole)
    (arg13 : Memref sig .tc .vmem S512x2048 .f32) (harg13 : arg13.IsWhole)
    (hc0 : ¬isFirst i) (hc1 : ¬isStart i) (hc2 : isEnd i)
    (x : Vec F S512x2048 .bf16) (w : Vec F S1x2048x2048 .bf16) (z : Vec F S512x2048 .f32) (xh : Vec F S512x2048 .f32) (r : Vec F S512x1 .f32) (g : Vec F S1x2048 .f32) (G : Vec F S8x2048 .f32) (B : Vec F S8x2048 .f32) (p : Vec F S512x2048 .f32) (K : PUnit → sProp 𝕄) :
    iprop(owns (c : Thread nD τ) arg2 fullShare x
        ∗ owns (c : Thread nD τ) arg3 fullShare w
        ∗ owns (c : Thread nD τ) arg4 fullShare z
        ∗ owns (c : Thread nD τ) arg5 fullShare xh
        ∗ owns (c : Thread nD τ) arg6 fullShare r
        ∗ owns (c : Thread nD τ) arg7 fullShare g
        ∗ owns (c : Thread nD τ) arg11 fullShare G
        ∗ owns (c : Thread nD τ) arg12 fullShare B
        ∗ owns (c : Thread nD τ) arg13 fullShare p
        ∗ (∃ d, owns (c : Thread nD τ) arg9 fullShare d)
        ∗ (∃ d, owns (c : Thread nD τ) arg10 fullShare d)
        ∗ (iprop(owns (c : Thread nD τ) arg2 fullShare x
            ∗ owns (c : Thread nD τ) arg3 fullShare w
            ∗ owns (c : Thread nD τ) arg4 fullShare z
            ∗ owns (c : Thread nD τ) arg5 fullShare xh
            ∗ owns (c : Thread nD τ) arg6 fullShare r
            ∗ owns (c : Thread nD τ) arg7 fullShare g
            ∗ owns (c : Thread nD τ) arg11 fullShare (scaleGrad (k0_pay4 p x w) z xh G 64)
            ∗ owns (c : Thread nD τ) arg12 fullShare (shiftGrad (k0_pay4 p x w) z B 64)
            ∗ owns (c : Thread nD τ) arg13 fullShare (k0_pay4 p x w)
            ∗ owns (c : Thread nD τ) arg9 fullShare (inputBlock g (k0_pay4 p x w) z xh r)
            ∗ owns (c : Thread nD τ) arg10 fullShare (k0_pay8 (inputBlock g (k0_pay4 p x w) z xh r))) -∗ K ⟨⟩))
      ⊢ wp frame (wpE (defs₀ (F := F)) Variants.none c none) Set.univ
          (cc0_dx1_ln1_bwd i arg2 harg2 arg3 harg3 arg4 harg4 arg5 harg5 arg6 harg6 arg7 harg7 (Memref.whole main_arg6)
            (Memref.isWhole_whole _) arg9 harg9 arg10 harg10 arg11 harg11 arg12 harg12 arg13 harg13) K := by
  simp only [cc0_dx1_ln1_bwd_eq_skeleton]; unfold cc0_dx1_ln1_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f11, %hf11, H11⟩, ⟨%f12, %hf12, H12⟩, ⟨%f13, %hf13, H13⟩, ⟨%d9, %f9, -, H9⟩, ⟨%d10, %f10, -, H10⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg11.eq_unread hf11
  obtain rfl := harg12.eq_unread hf12
  obtain rfl := harg13.eq_unread hf13
  sl_exec (disch := first | sl_exact hc0 | sl_exact hc1 | sl_exact hc2)
  sl_step
  have eP : View.read (Elt F) arg13.view (arg13.view.writes (Elt F) arg13.view.junk
      (run_end.sl.H13_1 c arg2 harg2 arg3 harg3 arg13 harg13 x w p)) = k0_pay4 p x w := by
    refine (View.read_writes_full _ _ _ _ _).trans ?_
    rw [View.readAt_full arg13.view, harg13.read_unread, View.readAt_full arg2.view, harg2.read_unread,
      View.readAt_full arg3.view, harg3.read_unread]
  have e64 : 8 * Scf.trips k0_t1_loop.lb k0_t1_loop.ub k0_t1_loop.st = 64 := by decide
  rw [eP, harg4.read_unread, harg5.read_unread, harg6.read_unread, View.readAt_full arg7.view, harg7.read_unread,
    e64, inputGrad_all] at hL5
  rw [eP, harg4.read_unread, harg5.read_unread, harg11.read_unread, e64] at hL7
  rw [eP, harg4.read_unread, harg12.read_unread, e64] at hL9
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H11]
  · iexists _; isplitr
    swap; · iexact H11
    ipureintro
    exact hL7
  isplitl [H12]
  · iexists _; isplitr
    swap; · iexact H12
    ipureintro
    exact hL9
  isplitl [H13]
  · iexists _; isplitr
    swap; · iexact H13
    ipureintro
    refine (View.read_writes_full _ _ _ _ _).trans ?_
    rw [View.readAt_full arg13.view, harg13.read_unread, View.readAt_full arg2.view, harg2.read_unread, View.readAt_full arg3.view, harg3.read_unread]
  isplitl [H9]
  · iexists _; isplitr
    swap; · iexact H9
    ipureintro
    exact hL5
  iexists _; isplitr
  swap; · iexact H10
  ipureintro
  exact (View.read_writes_full _ _ _ _ _).trans (congrArg k0_pay8 ((View.readAt_full arg9.view _ _).trans hL5))

end Cert.Proof.Dx1

end
-- ==== Proof.Dx1Frame.lean ====
/- Gradient at the input of the MLP, through the first layer norm: the run of the whole call.

   Between the points the scratch memory holds the product's part over the shards so far. The two gradients of the layer
   norm's weights stay in their buffers over the whole grid and grow by a block of rows at each last shard; the block of
   the gradient at the layer norm's input is written there. The frame claims of the printed program and of its idealized
   text are this one run. -/
module

public import proofs.«01_k».proof.Proof.Dx1Run
public import proofs.«01_k».proof.Proof.Gen.Dx1Kernel.Launch
public import Idealize.ShloMosaic.Lib.Claim

@[expose] public section

set_option maxRecDepth 16384

noncomputable section

namespace Cert.Proof.Dx1

open Cert.Dx1KernelIdeal Cert.Dx1KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch memory's name as a memref. -/
abbrev scratch : Memref sig .tc .vmem S512x2048 .f32 := Memref.whole cc0_scratch0

/-- The product of a block of rows, over the shards up to point `n`'s. -/
def partialSum (c : Dev nD) : (n : ℕ) → n < cfg0.N → Vec F S512x2048 .f32
  | 0, h => k0_pay4 (k0_pay3 (F := F)) (iblk m c 0 ⟨0, h⟩) (iblk m c 1 ⟨0, h⟩)
  | n + 1, h => k0_pay4 (if (n + 1) % 4 = 0 then k0_pay3 (F := F) else partialSum c n (Nat.lt_of_succ_lt h))
      (iblk m c 0 ⟨n + 1, h⟩) (iblk m c 1 ⟨n + 1, h⟩)

theorem partialSum_start (c : Dev nD) (t : Fin cfg0.N) (h : t.val % 4 = 0) :
    partialSum m c t.val t.isLt = k0_pay4 (k0_pay3 (F := F)) (iblk m c 0 t) (iblk m c 1 t) := by
  obtain ⟨n, hn⟩ := t
  cases n with
  | zero => rfl
  | succ n => show k0_pay4 (if (n + 1) % 4 = 0 then _ else _) _ _ = _; rw [if_pos h]

theorem partialSum_inner (c : Dev nD) (t : Fin cfg0.N) (h : t.val % 4 ≠ 0) :
    partialSum m c t.val t.isLt = k0_pay4 (partialSum m c (t.val - 1) (Nat.lt_of_le_of_lt (Nat.sub_le _ _) t.isLt))
      (iblk m c 0 t) (iblk m c 1 t) := by
  obtain ⟨n, hn⟩ := t
  cases n with
  | zero => exact absurd rfl h
  | succ n => show k0_pay4 (if (n + 1) % 4 = 0 then _ else _) _ _ = _; rw [if_neg h]; rfl

/-- The last point of block `b` of the rows. -/
def endOf (b : ℕ) : Fin cfg0.N := ⟨(4 * b + 3) % 32, Nat.lt_of_lt_of_eq (Nat.mod_lt _ (by decide)) N_0.symm⟩

theorem endOf_eq (t : Fin cfg0.N) (h : t.val % 4 = 3) : endOf (t.val / 4) = t := by
  have ht : t.val < 32 := Nat.lt_of_lt_of_eq t.isLt N_0
  apply Fin.ext
  show (4 * (t.val / 4) + 3) % 32 = t.val
  omega

/-- The whole product of block `b`. -/
abbrev product (c : Dev nD) (b : ℕ) : Vec F S512x2048 .f32 := partialSum m c (endOf b).val (endOf b).isLt

/-- The gradient of the layer norm's scale over the first `b` blocks of rows, -/
def scaleSum (c : Dev nD) : ℕ → Vec F S8x2048 .f32
  | 0 => k0_pay1
  | b + 1 => scaleGrad (product m c b) (iblk m c 2 (endOf b)) (iblk m c 3 (endOf b)) (scaleSum c b) 64

/-- and of its shift. -/
def shiftSum (c : Dev nD) : ℕ → Vec F S8x2048 .f32
  | 0 => k0_pay2
  | b + 1 => shiftGrad (product m c b) (iblk m c 2 (endOf b)) (shiftSum c b) 64

theorem scaleSum_end (c : Dev nD) (t : Fin cfg0.N) (h : t.val % 4 = 3) : scaleSum m c (t.val / 4 + 1)
    = scaleGrad (partialSum m c t.val t.isLt) (iblk m c 2 t) (iblk m c 3 t) (scaleSum m c (t.val / 4)) 64 := by
  have key : ∀ (e : Fin cfg0.N), e = t → ∀ s, scaleGrad (partialSum m c e.val e.isLt) (iblk m c 2 e) (iblk m c 3 e) s 64
      = scaleGrad (partialSum m c t.val t.isLt) (iblk m c 2 t) (iblk m c 3 t) s 64 := by rintro _ rfl _; rfl
  exact key _ (endOf_eq t h) _

theorem shiftSum_end (c : Dev nD) (t : Fin cfg0.N) (h : t.val % 4 = 3) : shiftSum m c (t.val / 4 + 1)
    = shiftGrad (partialSum m c t.val t.isLt) (iblk m c 2 t) (shiftSum m c (t.val / 4)) 64 := by
  have key : ∀ (e : Fin cfg0.N), e = t → ∀ s, shiftGrad (partialSum m c e.val e.isLt) (iblk m c 2 e) s 64
      = shiftGrad (partialSum m c t.val t.isLt) (iblk m c 2 t) s 64 := by rintro _ rfl _; rfl
  exact key _ (endOf_eq t h) _

/-- The block of the gradient at the layer norm's input at point `t`. -/
def dzBlock (c : Dev nD) (t : Fin cfg0.N) : Vec F S512x2048 .f32 :=
  inputBlock (iblk m c 5 t) (partialSum m c t.val t.isLt) (iblk m c 2 t) (iblk m c 3 t) (iblk m c 4 t)

/-- Before point `n`: what the launch gives at first, and the running product in the scratch memory from then on. -/
def between (c : Dev nD) : (n : ℕ) → n ≤ cfg0.N → sProp 𝕄
  | 0, _ => Pipeline.ΦA spec0 c
  | n + 1, h => iprop(iprop(owns (c : Thread nD τ) scratch fullShare (partialSum m c n h)) ∗ (∃ r, prngReg c r))

theorem ΦA_eq (c : Dev nD) : (Pipeline.ΦA spec0 c : sProp 𝕄)
    = iprop(iprop((∃ d, owns (c : Thread nD τ) scratch fullShare d)) ∗ (∃ r, prngReg c r)) := by
  unfold Pipeline.ΦA; rw [scopedRest0_eq]; simp only [scratch, owns_whole]; try rfl

theorem between_zero (c : Dev nD) (n : ℕ) (h : n ≤ cfg0.N) (hz : n = 0) : between m c n h = Pipeline.ΦA spec0 c := by
  subst hz; rfl

theorem between_succ (c : Dev nD) (n : ℕ) (h : n + 1 ≤ cfg0.N) : between m c (n + 1) h
    = iprop(iprop(owns (c : Thread nD τ) scratch fullShare (partialSum m c n h)) ∗ (∃ r, prngReg c r)) := rfl

theorem between_pos (c : Dev nD) (n : ℕ) (h : n ≤ cfg0.N) (hz : n ≠ 0) : between m c n h
    = iprop(iprop(owns (c : Thread nD τ) scratch fullShare (partialSum m c (n - 1) (by omega))) ∗ (∃ r, prngReg c r)) := by
  cases n with
  | zero => exact absurd rfl hz
  | succ n => rfl

/-- The proof data: inputs stay at their blocks, the outputs' buffers hold the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dzBlock m c t
    | ⟨7, _⟩ => k0_pay8 (dzBlock m c t)
    | ⟨8, _⟩ => scaleSum m c ((t.val + 1) / 4)
    | ⟨9, _⟩ => shiftSum m c ((t.val + 1) / 4)
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dzBlock m c t := by dsimp only [dats]
theorem after0_7 (c : Dev nD) (t : Fin cfg0.N) : (dats m 0 c).after 7 t = k0_pay8 (dzBlock m c t) := by dsimp only [dats]
theorem after0_8 (c : Dev nD) (t : Fin cfg0.N) : (dats m 0 c).after 8 t = scaleSum m c ((t.val + 1) / 4) := by
  dsimp only [dats]
theorem after0_9 (c : Dev nD) (t : Fin cfg0.N) : (dats m 0 c).after 9 t = shiftSum m c ((t.val + 1) / 4) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the outputs' buffers are left alone -/

theorem idle0_6 (t : Fin cfg0.N) (h : t.val % 4 ≠ 3) : cfg0.idle 6 (grid0.coords t) = true := by
  show (!(k0_cond3 (grid0.coords t) == 1#1)) = true
  rw [beq_eq_false_iff_ne.mpr (fun e => h ((isEnd_iff t).mp e))]; rfl
theorem live0_6 (t : Fin cfg0.N) (h : t.val % 4 = 3) : cfg0.idle 6 (grid0.coords t) = false := by
  show (!(k0_cond3 (grid0.coords t) == 1#1)) = false
  rw [beq_iff_eq.mpr ((isEnd_iff t).mpr h)]; rfl
theorem keep0_6 (t : Fin cfg0.N) (h : t.val % 4 ≠ 3) : (cfg0.win 6).flush t = false :=
  Bool.eq_false_iff.mpr fun e => h ((flush0_6 t).mp e)
theorem idle0_7 (t : Fin cfg0.N) (h : t.val % 4 ≠ 3) : cfg0.idle 7 (grid0.coords t) = true := by
  show (!(k0_cond3 (grid0.coords t) == 1#1)) = true
  rw [beq_eq_false_iff_ne.mpr (fun e => h ((isEnd_iff t).mp e))]; rfl
theorem live0_7 (t : Fin cfg0.N) (h : t.val % 4 = 3) : cfg0.idle 7 (grid0.coords t) = false := by
  show (!(k0_cond3 (grid0.coords t) == 1#1)) = false
  rw [beq_iff_eq.mpr ((isEnd_iff t).mpr h)]; rfl
theorem keep0_7 (t : Fin cfg0.N) (h : t.val % 4 ≠ 3) : (cfg0.win 7).flush t = false :=
  Bool.eq_false_iff.mpr fun e => h ((flush0_7 t).mp e)
theorem idle0_8 (t : Fin cfg0.N) (h0 : t.val ≠ 0) (h : t.val % 4 ≠ 3) : cfg0.idle 8 (grid0.coords t) = true := by
  have ht : t.val < 32 := Nat.lt_of_lt_of_eq t.isLt N_0
  show (!(k0_cond1 (grid0.coords t) == 1#1) && !(k0_cond3 (grid0.coords t) == 1#1)) = true
  rw [beq_eq_false_iff_ne.mpr (fun e => h ((isEnd_iff t).mp e)),
    beq_eq_false_iff_ne.mpr (fun e => h0 (by have := (isFirst_iff t).mp e; omega))]; rfl
theorem live0_8 (t : Fin cfg0.N) (h : t.val = 0 ∨ t.val % 4 = 3) : cfg0.idle 8 (grid0.coords t) = false := by
  show (!(k0_cond1 (grid0.coords t) == 1#1) && !(k0_cond3 (grid0.coords t) == 1#1)) = false
  rcases h with h | h
  · rw [beq_iff_eq.mpr ((isFirst_iff t).mpr (by omega))]; rfl
  · rw [beq_iff_eq.mpr ((isEnd_iff t).mpr h)]; exact Bool.and_false _
theorem keep0_8 (t : Fin cfg0.N) (h : t.val ≠ 31) : (cfg0.win 8).flush t = false :=
  Bool.eq_false_iff.mpr fun e => h (by
    have ht : t.val < 32 := Nat.lt_of_lt_of_eq t.isLt N_0
    have := (flush0_8 t).mp e; omega)
theorem idle0_9 (t : Fin cfg0.N) (h0 : t.val ≠ 0) (h : t.val % 4 ≠ 3) : cfg0.idle 9 (grid0.coords t) = true := by
  have ht : t.val < 32 := Nat.lt_of_lt_of_eq t.isLt N_0
  show (!(k0_cond1 (grid0.coords t) == 1#1) && !(k0_cond3 (grid0.coords t) == 1#1)) = true
  rw [beq_eq_false_iff_ne.mpr (fun e => h ((isEnd_iff t).mp e)),
    beq_eq_false_iff_ne.mpr (fun e => h0 (by have := (isFirst_iff t).mp e; omega))]; rfl
theorem live0_9 (t : Fin cfg0.N) (h : t.val = 0 ∨ t.val % 4 = 3) : cfg0.idle 9 (grid0.coords t) = false := by
  show (!(k0_cond1 (grid0.coords t) == 1#1) && !(k0_cond3 (grid0.coords t) == 1#1)) = false
  rcases h with h | h
  · rw [beq_iff_eq.mpr ((isFirst_iff t).mpr (by omega))]; rfl
  · rw [beq_iff_eq.mpr ((isEnd_iff t).mpr h)]; exact Bool.and_false _
theorem keep0_9 (t : Fin cfg0.N) (h : t.val ≠ 31) : (cfg0.win 9).flush t = false :=
  Bool.eq_false_iff.mpr fun e => h (by
    have ht : t.val < 32 := Nat.lt_of_lt_of_eq t.isLt N_0
    have := (flush0_9 t).mp e; omega)

/-- After the first point the buffer holds the blocks done so far. -/
theorem before0_8 (c : Dev nD) (n : ℕ) (h : n < cfg0.N) (h0 : n ≠ 0) (d) :
    (dats m 0 c).before 8 ⟨n, h⟩ d = scaleSum m c (n / 4) := by
  have hN : n < 32 := Nat.lt_of_lt_of_eq h N_0
  induction n with
  | zero => exact absurd rfl h0
  | succ n ih =>
    have h' : n < cfg0.N := Nat.lt_of_succ_lt h
    rw [Dat.before_of_pos _ _ _ (by exact h0) (Window.fetch_out _ rfl _)]
    show (if (cfg0.win 8).flush ⟨n, h'⟩ = true then d else (dats m 0 c).left 8 ⟨n, h'⟩ d) = _
    rw [keep0_8 ⟨n, h'⟩ (by show n ≠ 31; omega), if_neg Bool.false_ne_true]
    by_cases hn : n = 0 ∨ n % 4 = 3
    · unfold Dat.left
      rw [live0_8 ⟨n, h'⟩ hn]
      exact after0_8 m c ⟨n, h'⟩
    · unfold Dat.left
      rw [idle0_8 ⟨n, h'⟩ (fun e => hn (.inl e)) (fun e => hn (.inr e))]
      refine (ih h' (fun e => hn (.inl e)) (by omega)).trans (congrArg (scaleSum m c) ?_)
      omega

/-- After the first point the buffer holds the blocks done so far. -/
theorem before0_9 (c : Dev nD) (n : ℕ) (h : n < cfg0.N) (h0 : n ≠ 0) (d) :
    (dats m 0 c).before 9 ⟨n, h⟩ d = shiftSum m c (n / 4) := by
  have hN : n < 32 := Nat.lt_of_lt_of_eq h N_0
  induction n with
  | zero => exact absurd rfl h0
  | succ n ih =>
    have h' : n < cfg0.N := Nat.lt_of_succ_lt h
    rw [Dat.before_of_pos _ _ _ (by exact h0) (Window.fetch_out _ rfl _)]
    show (if (cfg0.win 9).flush ⟨n, h'⟩ = true then d else (dats m 0 c).left 9 ⟨n, h'⟩ d) = _
    rw [keep0_9 ⟨n, h'⟩ (by show n ≠ 31; omega), if_neg Bool.false_ne_true]
    by_cases hn : n = 0 ∨ n % 4 = 3
    · unfold Dat.left
      rw [live0_9 ⟨n, h'⟩ hn]
      exact after0_9 m c ⟨n, h'⟩
    · unfold Dat.left
      rw [idle0_9 ⟨n, h'⟩ (fun e => hn (.inl e)) (fun e => hn (.inr e))]
      refine (ih h' (fun e => hn (.inl e)) (by omega)).trans (congrArg (shiftSum m c) ?_)
      omega

/-! ## The body at a point -/

abbrev ms0_0 (t : Fin cfg0.N) : Memref sig .tc .vmem S512x2048 .bf16 := win0_0.stage (cfg0.slots t 0)
abbrev ms0_1 (t : Fin cfg0.N) : Memref sig .tc .vmem S1x2048x2048 .bf16 := win0_1.stage (cfg0.slots t 1)
abbrev ms0_2 (t : Fin cfg0.N) : Memref sig .tc .vmem S512x2048 .f32 := win0_2.stage (cfg0.slots t 2)
abbrev ms0_3 (t : Fin cfg0.N) : Memref sig .tc .vmem S512x2048 .f32 := win0_3.stage (cfg0.slots t 3)
abbrev ms0_4 (t : Fin cfg0.N) : Memref sig .tc .vmem S512x1 .f32 := win0_4.stage (cfg0.slots t 4)
abbrev ms0_5 (t : Fin cfg0.N) : Memref sig .tc .vmem S1x2048 .f32 := win0_5.stage (cfg0.slots t 5)
abbrev ms0_6 (t : Fin cfg0.N) : Memref sig .tc .vmem S512x2048 .f32 := win0_6.stage (cfg0.slots t 6)
abbrev ms0_7 (t : Fin cfg0.N) : Memref sig .tc .vmem S512x2048 .bf16 := win0_7.stage (cfg0.slots t 7)
abbrev ms0_8 (t : Fin cfg0.N) : Memref sig .tc .vmem S8x2048 .f32 := win0_8.stage (cfg0.slots t 8)
abbrev ms0_9 (t : Fin cfg0.N) : Memref sig .tc .vmem S8x2048 .f32 := win0_9.stage (cfg0.slots t 9)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 3200000 in
/-- The body at any point: the first of all, the first shard, the shards between, the last shard. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = between m c (t.val + 1) t.isLt from rfl, between_succ,
    show (dats m 0 c).Φ t.castSucc = between m c t.val (Nat.le_of_lt t.isLt) from rfl]
  have hN : t.val < 32 := Nat.lt_of_lt_of_eq t.isLt N_0
  rw [leaves_live m c 0 t rfl, after0_0, leaves_live m c 1 t rfl, after0_1, leaves_live m c 2 t rfl, after0_2, leaves_live m c 3 t rfl, after0_3, leaves_live m c 4 t rfl, after0_4, leaves_live m c 5 t rfl, after0_5]
  by_cases hz : t.val = 0
  · rw [between_zero m c _ _ hz, ΦA_eq, partialSum_start m c t (by omega),
      Dat.leavesExact_idle _ 6 t (idle0_6 t (by omega)) (keep0_6 t (by omega)),
      Dat.leavesExact_idle _ 7 t (idle0_7 t (by omega)) (keep0_7 t (by omega)),
      leaves_live m c 8 t (live0_8 t (.inl hz)), leaves_live m c 9 t (live0_9 t (.inl hz)), after0_8, after0_9,
      show (t.val + 1) / 4 = 0 by omega]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _
      ((isFirst_iff t).mpr (by omega)) ((isStart_iff t).mpr (by omega)) (fun e => by have := (isEnd_iff t).mp e; omega)
      (iblk m c 0 t) (iblk m c 1 t) _)
    isplitl [H0]; · iexact H0
    isplitl [H1]; · iexact H1
    isplitl [H8]; · iexists _; iexact H8
    isplitl [H9]; · iexists _; iexact H9
    isplitl [HS]; · iexact HS
    iintro ⟨H0, H1, H8, H9, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iexact H9
  rw [between_pos m c _ _ hz]
  by_cases he : t.val % 4 = 3
  · rw [partialSum_inner m c t (by omega), leaves_live m c 6 t (live0_6 t he), leaves_live m c 7 t (live0_7 t he),
      leaves_live m c 8 t (live0_8 t (.inr he)), leaves_live m c 9 t (live0_9 t (.inr he)), after0_6, after0_7, after0_8,
      after0_9, show (t.val + 1) / 4 = t.val / 4 + 1 by omega, scaleSum_end m c t he, shiftSum_end m c t he, dzBlock,
      partialSum_inner m c t (by omega)]
    simp only [show ∀ d, (dats m 0 c).before 8 t d = scaleSum m c (t.val / 4) from fun d => before0_8 m c t.val t.isLt hz d,
      show ∀ d, (dats m 0 c).before 9 t d = shiftSum m c (t.val / 4) from fun d => before0_9 m c t.val t.isLt hz d]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_end c (grid0.coords t) _ _ _ _ _ _ _ _ _ _ _ _ _ _ _ _ _ _ _ _ _ _
      (fun e => by have := (isFirst_iff t).mp e; omega) (fun e => by have := (isStart_iff t).mp e; omega)
      ((isEnd_iff t).mpr he) (iblk m c 0 t) (iblk m c 1 t) (iblk m c 2 t) (iblk m c 3 t) (iblk m c 4 t) (iblk m c 5 t)
      (scaleSum m c (t.val / 4)) (shiftSum m c (t.val / 4)) _ _)
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    isplitl [HS]; · iexact HS
    isplitl [H6]; · iexists _; iexact H6
    isplitl [H7]; · iexists _; iexact H7
    iintro ⟨H0, H1, H2, H3, H4, H5, H8, H9, HS, H6, H7⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [Dat.leavesExact_idle _ 6 t (idle0_6 t he) (keep0_6 t he), Dat.leavesExact_idle _ 7 t (idle0_7 t he) (keep0_7 t he),
    Dat.leavesExact_idle _ 8 t (idle0_8 t hz he) (keep0_8 t (by omega)),
    Dat.leavesExact_idle _ 9 t (idle0_9 t hz he) (keep0_9 t (by omega))]
  by_cases hs : t.val % 4 = 0
  · rw [partialSum_start m c t hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_start c (grid0.coords t) _ _ _ _ _ _ _ _ _ _ _ _ _ _ _ _ _ _ _ _ _ _
      (fun e => by have := (isFirst_iff t).mp e; omega) ((isStart_iff t).mpr hs)
      (fun e => he ((isEnd_iff t).mp e)) (iblk m c 0 t) (iblk m c 1 t) _)
    isplitl [H0]; · iexact H0
    isplitl [H1]; · iexact H1
    isplitl [HS]; · iexists _; iexact HS
    iintro ⟨H0, H1, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  · rw [partialSum_inner m c t hs]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_inner c (grid0.coords t) _ _ _ _ _ _ _ _ _ _ _ _ _ _ _ _ _ _ _ _ _ _
      (fun e => by have := (isFirst_iff t).mp e; omega) (fun e => hs ((isStart_iff t).mp e))
      (fun e => he ((isEnd_iff t).mp e)) (iblk m c 0 t) (iblk m c 1 t) _ _)
    isplitl [H0]; · iexact H0
    isplitl [H1]; · iexact H1
    isplitl [HS]; · iexact HS
    iintro ⟨H0, H1, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

/-- After the last point the scratch memory's contents are forgotten. -/
theorem hout (c : Dev nD) : (dats m 0 c).Φ (Fin.last cfg0.N) ⊢ Pipeline.ΦA spec0 c := by
  have hN : (Fin.last cfg0.N).val ≠ 0 := by rw [Fin.val_last]; have : cfg0.N = 32 := N_0; omega
  rw [show (dats m 0 c).Φ (Fin.last cfg0.N) = between m c (Fin.last cfg0.N).val (Nat.le_refl _) from rfl,
    between_pos m c _ _ hN, ΦA_eq]
  iintro ⟨HS, Hg⟩
  isplitl [HS]
  · iexists _; iexact HS
  iexact Hg

set_option backward.isDefEq.respectTransparency.types false in
set_option maxHeartbeats 800000 in
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The idealized text's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ))
    ((θ_run defs _ _).mono (fun _ h => h.2) (run_main_quiescent m ρ))

end Cert.Proof.Dx1

namespace Cert.Proof.Dx1Printed

open Cert.Dx1Kernel Cert.Dx1Kernel.Gen
open Idealize.ShloMosaic Idealize.ShloMosaic.TcCoe Idealize.ShloMosaic.Tactic Idealize.SL.Sem

/-- The printed program's frame: its text is the idealized one's. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Eq.mp (by sl_kernel_rfl) (Cert.Proof.Dx1.frame m ρ)

end Cert.Proof.Dx1Printed

end
-- ==== Proof.Dx1Ref.lean ====
/- Gradient at the input of the MLP, through the first layer norm: what the call computes, and the reference read down to
   it.

   At position `p` the MLP's input has the gradient `inner p i = ∑ f, dpre p f * w i f + ALPHA * dz2 p i`. Through the
   layer norm's scale `g` and its normalization this becomes the gradient at the layer norm's input; summed over the
   positions it gives the gradients of the layer norm's two weights. -/
module

public import proofs.«01_k».proof.Proof.Finite
public import proofs.«01_k».proof.Proof.Gen.Dx1ReferenceIdeal.Read
public import Idealize.ShloMosaic.Lib.Pointwise

@[expose] public section

set_option maxRecDepth 16384

noncomputable section

namespace Cert.Proof.Dx1

open Cert.Dx1ReferenceIdeal Cert.Dx1ReferenceIdeal.Gen
open Idealize.ShloMosaic
open Cert.Proof.LayerNorm (mean centred spread scale back steps)
open Cert.Proof.Finite (fin_add fin_mul fin_sum alpha_fin)

/-- Row `p` of the layer norm's input. -/
def rowOf (Z : Vec Ideal S4096x2048 .f32) (p : Fin 4096) : Fin 2048 → EReal := fun k => Z (ix2 p k)

/-- The gradient at the MLP's input. -/
def inner (W : Vec Ideal S2048x8192 .f32) (P : Vec Ideal S4096x8192 .f32) (D : Vec Ideal S4096x2048 .f32)
    (p : Fin 4096) (i : Fin 2048) : EReal :=
  (∑ f : Fin 8192, P (ix2 p f) * W (ix2 i f)) + Ideal.ofBits .f32 0x3F9837F0#32 * D (ix2 p i)

/-- The gradient at the normalized row. -/
def scaled (g : Vec Ideal S1x2048 .f32) (W : Vec Ideal S2048x8192 .f32) (P : Vec Ideal S4096x8192 .f32)
    (D : Vec Ideal S4096x2048 .f32) (p : Fin 4096) : Fin 2048 → EReal := fun k => inner W P D p k * g (ix2 (0 : Fin 1) k)

/-- The gradient at the layer norm's input, -/
def inputVal (Z : Vec Ideal S4096x2048 .f32) (g : Vec Ideal S1x2048 .f32) (W : Vec Ideal S2048x8192 .f32)
    (P : Vec Ideal S4096x8192 .f32) (D : Vec Ideal S4096x2048 .f32) : Vec Ideal S4096x2048 .f32 := fun i =>
  back (rowOf Z (i 0)) (scaled g W P D (i 0)) (i 1)

/-- the gradient of its scale, -/
def scaleVal (Z : Vec Ideal S4096x2048 .f32) (W : Vec Ideal S2048x8192 .f32) (P : Vec Ideal S4096x8192 .f32)
    (D : Vec Ideal S4096x2048 .f32) : Vec Ideal S2048 .f32 := fun i =>
  ∑ p : Fin 4096, inner W P D p (i 0) * (centred (rowOf Z p) (i 0) * scale (rowOf Z p))

/-- and the gradient of its shift. -/
def shiftVal (W : Vec Ideal S2048x8192 .f32) (P : Vec Ideal S4096x8192 .f32) (D : Vec Ideal S4096x2048 .f32) :
    Vec Ideal S2048 .f32 := fun i => ∑ p : Fin 4096, inner W P D p (i 0)

section reference
open Cert.Dx1ReferenceIdeal.Read

variable (Z : Vec Ideal S4096x2048 .f32) (g : Vec Ideal S1x2048 .f32) (W : Vec Ideal S2048x8192 .f32)
  (P : Vec Ideal S4096x8192 .f32) (D : Vec Ideal S4096x2048 .f32)

theorem ref_mean (p : Fin 4096) (z : Fin 1) : val_main_v3 Z (ix2 p z) = mean (rowOf Z p) := by
  pointwise [val_main_v3, val_main_v2, val_main_v1, val_main_v0, val_main_cst, val_main_cst_0]
  rfl

theorem ref_centred (p : Fin 4096) (j : Fin 2048) : val_main_v5 Z (ix2 p j) = centred (rowOf Z p) j := by
  pointwise [val_main_v5, val_main_v4]
  rw [ref_mean]; rfl

theorem ref_centred' (p : Fin 4096) (j : Fin 2048) : val_main_v14 Z (ix2 p j) = centred (rowOf Z p) j := by
  pointwise [val_main_v14, val_main_v13]
  rw [ref_mean]; rfl

theorem ref_spread (p : Fin 4096) (z : Fin 1) : val_main_v16 Z (ix2 p z) = spread (rowOf Z p) := by
  pointwise [val_main_v16, val_main_v15, val_main_cst_4, val_main_v12, val_main_v11, val_main_cst_3, val_main_v10, val_main_v9,
    val_main_cst_2, val_main_v6]
  simp only [Ideal.ofBits_zero_f32, zero_add, ref_centred]
  rfl

theorem ref_scale (p : Fin 4096) (z : Fin 1) : val_main_v17 Z (ix2 p z) = scale (rowOf Z p) := by
  pointwise [val_main_v17]
  rw [ref_spread]; rfl

theorem ref_slope (p : Fin 4096) (z : Fin 1) :
    val_main_v20 Z (ix2 p z) = LayerNorm.minusHalf * Ideal.div (scale (rowOf Z p)) (spread (rowOf Z p)) := by
  pointwise [val_main_v20, val_main_v19, val_main_cst_5, val_main_v18]
  rw [ref_spread, ref_scale]

theorem ref_norm (p : Fin 4096) (j : Fin 2048) :
    val_main_v22 Z (ix2 p j) = centred (rowOf Z p) j * scale (rowOf Z p) := by
  pointwise [val_main_v22, val_main_v21]
  rw [ref_centred', ref_scale]

theorem ref_inner (p : Fin 4096) (j : Fin 2048) : val_main_v33 W P D (ix2 p j) = inner W P D p j := by
  pointwise [val_main_v33, val_main_v31, val_main_v30, val_main_cst_7, val_main_v32]
  exact add_comm _ _

theorem ref_scaled (p : Fin 4096) (j : Fin 2048) : val_main_v40 g W P D (ix2 p j) = scaled g W P D p j := by
  pointwise [val_main_v40, val_main_v39]
  rw [ref_inner]; rfl

theorem ref_direct (p : Fin 4096) (j : Fin 2048) :
    val_main_v45 Z g W P D (ix2 p j) = scaled g W P D p j * scale (rowOf Z p) := by
  pointwise [val_main_v45, val_main_v44]
  rw [ref_scaled, ref_scale]

/-- The part that goes back through the variance. -/
theorem ref_curved (p : Fin 4096) (j : Fin 2048) : val_main_v54 Z g W P D (ix2 p j)
    = Ideal.div ((∑ k, centred (rowOf Z p) k * scaled g W P D p k)
        * (LayerNorm.minusHalf * Ideal.div (scale (rowOf Z p)) (spread (rowOf Z p)))) LayerNorm.len
      * (LayerNorm.two * centred (rowOf Z p) j) := by
  pointwise [val_main_v54, val_main_v53, val_main_v52, val_main_cst_13, val_main_v51, val_main_v50, val_main_cst_12, val_main_v46,
    val_main_v43, val_main_v42, val_main_cst_10, val_main_v41, val_main_v8, val_main_v7, val_main_cst_1]
  simp only [Ideal.ofBits_zero_f32, zero_add, ref_centred, ref_centred', ref_scaled, ref_slope, Finset.univ_unique, Finset.sum_singleton]

theorem ref_input (p : Fin 4096) (j : Fin 2048) :
    val_main_v64 Z g W P D (ix2 p j) = steps (rowOf Z p) (scaled g W P D p) j := by
  pointwise [val_main_v64, val_main_v63, val_main_v62, val_main_cst_16, val_main_v61, val_main_v60, val_main_cst_15, val_main_v59,
    val_main_v58, val_main_v57, val_main_v56, val_main_cst_14, val_main_v55, val_main_v49, val_main_v48, val_main_cst_11,
    val_main_v47]
  simp only [Ideal.ofBits_zero_f32, zero_add, ref_direct, ref_curved, Finset.univ_unique, Finset.sum_singleton]
  rfl

/-- The reference's gradient of the scale. -/
theorem ref_dscale : val_main_v66 Z W P D = scaleVal Z W P D := by
  funext i
  obtain ⟨j, rfl⟩ : ∃ j : Fin 2048, i = ix1 j := ⟨i 0, eq_ix1 i⟩
  pointwise [val_main_v66, val_main_v38, val_main_v37, val_main_cst_9, val_main_v36]
  simp only [ref_norm, ref_inner]
  exact Finset.sum_congr rfl fun p _ => mul_comm _ _

/-- The reference's gradient of the shift. -/
theorem ref_dshift : val_main_v67 W P D = shiftVal W P D := by
  funext i
  obtain ⟨j, rfl⟩ : ∃ j : Fin 2048, i = ix1 j := ⟨i 0, eq_ix1 i⟩
  pointwise [val_main_v67, val_main_v35, val_main_v34, val_main_cst_8]
  simp only [ref_inner]
  rfl

end reference

/-! ## Finite arguments -/

/-- Of finite arguments the two gradients at the layer norm's input are one. -/
theorem ref_dinput (Z : Vec Ideal S4096x2048 .f32) (g : Vec Ideal S1x2048 .f32) (W : Vec Ideal S2048x8192 .f32)
    (P : Vec Ideal S4096x8192 .f32) (D : Vec Ideal S4096x2048 .f32) (hZ : ∀ i, Z i ≠ ⊤ ∧ Z i ≠ ⊥) (hg : ∀ i, g i ≠ ⊤ ∧ g i ≠ ⊥)
    (hW : ∀ i, W i ≠ ⊤ ∧ W i ≠ ⊥) (hP : ∀ i, P i ≠ ⊤ ∧ P i ≠ ⊥) (hD : ∀ i, D i ≠ ⊤ ∧ D i ≠ ⊥) :
    Cert.Dx1ReferenceIdeal.Read.val_main_v64 Z g W P D = inputVal Z g W P D := by
  funext i
  obtain ⟨p, j, rfl⟩ : ∃ p j, i = ix2 p j := ⟨i 0, i 1, by
    funext a; match a with | ⟨0, _⟩ => rfl | ⟨1, _⟩ => rfl⟩
  rw [ref_input]
  exact (LayerNorm.back_eq_steps _ _ (fun k => hZ _) (fun k => fin_mul (fin_add (fin_sum _ fun f => fin_mul (hP _) (hW _))
    (fin_mul alpha_fin (hD _))) (hg _)) _).symm

end Cert.Proof.Dx1

end
-- ==== Proof.Dx1Value.lean ====
/- Gradient at the input of the MLP, through the first layer norm: what the kernel's arrays hold at the end.

   The product over the 8192 hidden channels comes in four parts, one for each shard of 2048. A block of 512 rows is
   worked off in 64 chunks of 8 rows; the gradients of the layer norm's weights are kept as 8 partial rows, row `s`
   gathering the positions `8 q + s`, and the host adds the 8 rows up. -/
module

public import proofs.«01_k».proof.Proof.Dx1Frame
public import proofs.«01_k».proof.Proof.Dx1Ref
public import Idealize.ShloMosaic.Lib.Pointwise

@[expose] public section

set_option maxRecDepth 16384

noncomputable section

namespace Cert.Proof.Dx1

open Cert.Dx1KernelIdeal Cert.Dx1KernelIdeal.Gen
open Idealize.ShloMosaic Idealize.ShloMosaic.TcCoe Idealize.SL.Sem
open Idealize.ShloMosaic.Pipeline (Dat)
open Cert.Proof.LayerNorm (mean centred spread scale back textbook back_eq regroup)

variable (m : (ℓ : Loc nD τ sig) → Buf (Elt Ideal) ℓ)

/-- The launch's arrays: the layer norm's input and scale, the weight, and the two cotangents. -/
abbrev aZ (c : Dev nD) : Vec Ideal S4096x2048 .f32 := m ((c : Thread nD τ).loc main_arg0)
abbrev aG (c : Dev nD) : Vec Ideal S1x2048 .f32 := m ((c : Thread nD τ).loc main_arg1)
abbrev aW (c : Dev nD) : Vec Ideal S2048x8192 .f32 := m ((c : Thread nD τ).loc main_arg3)
abbrev aP (c : Dev nD) : Vec Ideal S4096x8192 .f32 := m ((c : Thread nD τ).loc main_arg4)
abbrev aD (c : Dev nD) : Vec Ideal S4096x2048 .f32 := m ((c : Thread nD τ).loc main_arg5)

/-! ## What the host prepares -/

theorem V_p (c : Dev nD) : (V m c main_v21 : Vec Ideal S4096x8192 .bf16) = aP m c := by
  show StableHlo.after hostOps0 (fun b => m (c, b)) (Proc.devRef .tc main_v21) = _
  have h : StableHlo.after hostOps0 (fun b => m (c, b)) (Proc.devRef .tc main_v21)
      = (truncf .bf16 (aP m c) bitsLt_bf16_f32 : FVec Ideal S4096x8192 .bf16) := by after_results
  rw [h]; rfl

theorem V_w (c : Dev nD) : (V m c main_v20 : Vec Ideal S4x2048x2048 .bf16)
    = transpose S4x2048x2048 [1, 0, 2] (shapeCast S2048x4x2048 (truncf .bf16 (aW m c) bitsLt_bf16_f32 : FVec Ideal S2048x8192 .bf16)
        shapeCasts_S2048x8192_S2048x4x2048) transposes_S2048x4x2048_S4x2048x2048_1_0_2 := by
  show StableHlo.after hostOps0 (fun b => m (c, b)) (Proc.devRef .tc main_v20) = _
  after_results
  rfl

theorem V_scale (c : Dev nD) : (V m c main_v13 : Vec Ideal S4096x1 .f32) = Cert.Dx1ReferenceIdeal.Read.val_main_v17 (aZ m c) := by
  show StableHlo.after hostOps0 (fun b => m (c, b)) (Proc.devRef .tc main_v13) = _
  after_results
  rfl

theorem V_norm (c : Dev nD) : (V m c main_v17 : Vec Ideal S4096x2048 .f32) = Cert.Dx1ReferenceIdeal.Read.val_main_v22 (aZ m c) := by
  show StableHlo.after hostOps0 (fun b => m (c, b)) (Proc.devRef .tc main_v17) = _
  after_results
  rfl

/-! ## The blocks -/

/-- Where each window's block stands at a grid point. -/
theorem idx_facts : ∀ t : Fin grid0.N,
    win0_0.index t (0 : Fin 2) = t.val / 4 ∧ win0_0.index t (1 : Fin 2) = t.val % 4
    ∧ win0_1.index t (0 : Fin 3) = t.val % 4 ∧ win0_1.index t (1 : Fin 3) = 0 ∧ win0_1.index t (2 : Fin 3) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = 0 ∧ win0_5.index t (1 : Fin 2) = 0
    ∧ win0_6.index t (0 : Fin 2) = t.val / 4 ∧ win0_6.index t (1 : Fin 2) = 0
    ∧ win0_7.index t (0 : Fin 2) = t.val / 4 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 := by
  decide +kernel

theorem t_lt (t : Fin cfg0.N) : t.val < 32 := Nat.lt_of_lt_of_eq t.isLt N_0

/-- Row `a` of block `b` of the rows, in the whole array; and column `b` of shard `k`. -/
def row (b : ℕ) (a : Fin 512) : Fin 4096 := ⟨(b * 512 + a.val) % 4096, Nat.mod_lt _ (by decide)⟩
def col (k : ℕ) (b : Fin 2048) : Fin 8192 := ⟨(k * 2048 + b.val) % 8192, Nat.mod_lt _ (by decide)⟩

theorem row_val (t : Fin cfg0.N) (a : Fin 512) : (row (t.val / 4) a).val = t.val / 4 * 512 + a.val := by
  have := t_lt t; have := a.isLt
  show (t.val / 4 * 512 + a.val) % 4096 = _; omega
theorem col_val (k : ℕ) (hk : k < 4) (b : Fin 2048) : (col k b).val = k * 2048 + b.val := by
  have := b.isLt
  show (k * 2048 + b.val) % 8192 = _; omega

theorem emb0 (t : Fin cfg0.N) (a : Fin 512) (b : Fin 2048) :
    ((cfg0.win 0).blk t).view.emb (ix2 a b : S512x2048.Idx) = ix2 (row (t.val / 4) a) (col (t.val % 4) b) := by
  obtain ⟨e0, e1, -⟩ := idx_facts t
  have := row_val t a; have := col_val (t.val % 4) (by omega) b
  funext x; apply Fin.ext
  match x with
  | ⟨0, _⟩ => show win0_0.index t (0 : Fin 2) * 512 + 1 * a.val = (row (t.val / 4) a).val; omega
  | ⟨1, _⟩ => show win0_0.index t (1 : Fin 2) * 2048 + 1 * b.val = (col (t.val % 4) b).val; omega

theorem emb1 (t : Fin cfg0.N) (z : Fin 1) (i b : Fin 2048) :
    ((cfg0.win 1).blk t).view.emb (ix3 z i b : S1x2048x2048.Idx) = ix3 (⟨t.val % 4, Nat.mod_lt _ (by decide)⟩ : Fin 4) i b := by
  obtain ⟨-, -, e0, e1, e2, -⟩ := idx_facts t
  have := z.isLt
  funext x; apply Fin.ext
  match x with
  | ⟨0, _⟩ => show win0_1.index t (0 : Fin 3) * 1 + 1 * z.val = t.val % 4; omega
  | ⟨1, _⟩ => show win0_1.index t (1 : Fin 3) * 2048 + 1 * i.val = i.val; omega
  | ⟨2, _⟩ => show win0_1.index t (2 : Fin 3) * 2048 + 1 * b.val = b.val; omega

theorem emb2 (t : Fin cfg0.N) (a : Fin 512) (b : Fin 2048) :
    ((cfg0.win 2).blk t).view.emb (ix2 a b : S512x2048.Idx) = ix2 (row (t.val / 4) a) b := by
  obtain ⟨-, -, -, -, -, e0, e1, -⟩ := idx_facts t
  have := row_val t a
  funext x; apply Fin.ext
  match x with
  | ⟨0, _⟩ => show win0_2.index t (0 : Fin 2) * 512 + 1 * a.val = (row (t.val / 4) a).val; omega
  | ⟨1, _⟩ => show win0_2.index t (1 : Fin 2) * 2048 + 1 * b.val = b.val; omega

theorem emb3 (t : Fin cfg0.N) (a : Fin 512) (b : Fin 2048) :
    ((cfg0.win 3).blk t).view.emb (ix2 a b : S512x2048.Idx) = ix2 (row (t.val / 4) a) b := by
  obtain ⟨-, -, -, -, -, -, -, e0, e1, -⟩ := idx_facts t
  have := row_val t a
  funext x; apply Fin.ext
  match x with
  | ⟨0, _⟩ => show win0_3.index t (0 : Fin 2) * 512 + 1 * a.val = (row (t.val / 4) a).val; omega
  | ⟨1, _⟩ => show win0_3.index t (1 : Fin 2) * 2048 + 1 * b.val = b.val; omega

theorem emb4 (t : Fin cfg0.N) (a : Fin 512) (z : Fin 1) :
    ((cfg0.win 4).blk t).view.emb (ix2 a z : S512x1.Idx) = ix2 (row (t.val / 4) a) z := by
  obtain ⟨-, -, -, -, -, -, -, -, -, e0, e1, -⟩ := idx_facts t
  have := row_val t a
  funext x; apply Fin.ext
  match x with
  | ⟨0, _⟩ => show win0_4.index t (0 : Fin 2) * 512 + 1 * a.val = (row (t.val / 4) a).val; omega
  | ⟨1, _⟩ => show win0_4.index t (1 : Fin 2) * 1 + 1 * z.val = z.val; omega

theorem emb5 (t : Fin cfg0.N) (y : S1x2048.Idx) : ((cfg0.win 5).blk t).view.emb y = y := by
  obtain ⟨-, -, -, -, -, -, -, -, -, -, -, e0, e1, -⟩ := idx_facts t
  funext x; apply Fin.ext
  match x with
  | ⟨0, _⟩ => show win0_5.index t (0 : Fin 2) * 1 + 1 * (y 0).val = (y 0).val; omega
  | ⟨1, _⟩ => show win0_5.index t (1 : Fin 2) * 2048 + 1 * (y 1).val = (y 1).val; omega

theorem emb6 (t : Fin cfg0.N) (a : Fin 512) (b : Fin 2048) :
    ((cfg0.win 6).blk t).view.emb (ix2 a b : S512x2048.Idx) = ix2 (row (t.val / 4) a) b := by
  obtain ⟨-, -, -, -, -, -, -, -, -, -, -, -, -, e0, e1, -⟩ := idx_facts t
  have := row_val t a
  funext x; apply Fin.ext
  match x with
  | ⟨0, _⟩ => show win0_6.index t (0 : Fin 2) * 512 + 1 * a.val = (row (t.val / 4) a).val; omega
  | ⟨1, _⟩ => show win0_6.index t (1 : Fin 2) * 2048 + 1 * b.val = b.val; omega

theorem emb7 (t : Fin cfg0.N) (a : Fin 512) (b : Fin 2048) :
    ((cfg0.win 7).blk t).view.emb (ix2 a b : S512x2048.Idx) = ix2 (row (t.val / 4) a) b := by
  obtain ⟨-, -, -, -, -, -, -, -, -, -, -, -, -, -, -, e0, e1, -⟩ := idx_facts t
  have := row_val t a
  funext x; apply Fin.ext
  match x with
  | ⟨0, _⟩ => show win0_7.index t (0 : Fin 2) * 512 + 1 * a.val = (row (t.val / 4) a).val; omega
  | ⟨1, _⟩ => show win0_7.index t (1 : Fin 2) * 2048 + 1 * b.val = b.val; omega

theorem emb8 (t : Fin cfg0.N) (y : S8x2048.Idx) : ((cfg0.win 8).blk t).view.emb y = y := by
  obtain ⟨-, -, -, -, -, -, -, -, -, -, -, -, -, -, -, -, -, e0, e1, -⟩ := idx_facts t
  funext x; apply Fin.ext
  match x with
  | ⟨0, _⟩ => show win0_8.index t (0 : Fin 2) * 8 + 1 * (y 0).val = (y 0).val; omega
  | ⟨1, _⟩ => show win0_8.index t (1 : Fin 2) * 2048 + 1 * (y 1).val = (y 1).val; omega

theorem emb9 (t : Fin cfg0.N) (y : S8x2048.Idx) : ((cfg0.win 9).blk t).view.emb y = y := by
  obtain ⟨-, -, -, -, -, -, -, -, -, -, -, -, -, -, -, -, -, -, -, e0, e1⟩ := idx_facts t
  funext x; apply Fin.ext
  match x with
  | ⟨0, _⟩ => show win0_9.index t (0 : Fin 2) * 8 + 1 * (y 0).val = (y 0).val; omega
  | ⟨1, _⟩ => show win0_9.index t (1 : Fin 2) * 2048 + 1 * (y 1).val = (y 1).val; omega

theorem blk0 (c : Dev nD) (t : Fin cfg0.N) (a : Fin 512) (b : Fin 2048) :
    iblk m c 0 t (ix2 a b : S512x2048.Idx) = aP m c (ix2 (row (t.val / 4) a) (col (t.val % 4) b)) := by
  show V m c main_v21 (((cfg0.win 0).blk t).view.emb (ix2 a b : S512x2048.Idx)) = _
  rw [emb0]; exact congrFun (V_p m c) _

theorem blk1 (c : Dev nD) (t : Fin cfg0.N) (z : Fin 1) (i b : Fin 2048) :
    iblk m c 1 t (ix3 z i b : S1x2048x2048.Idx) = aW m c (ix2 i (col (t.val % 4) b)) := by
  show V m c main_v20 (((cfg0.win 1).blk t).view.emb (ix3 z i b : S1x2048x2048.Idx)) = _
  rw [emb1]
  refine (congrFun (V_w m c) _).trans ?_
  pointwise
  exact congrArg (fun q => aW m c (ix2 i q)) (Fin.ext (col_val (t.val % 4) (by omega) b).symm)

theorem blk2 (c : Dev nD) (t : Fin cfg0.N) (a : Fin 512) (b : Fin 2048) :
    iblk m c 2 t (ix2 a b : S512x2048.Idx) = aD m c (ix2 (row (t.val / 4) a) b) := by
  show V m c main_arg5 (((cfg0.win 2).blk t).view.emb (ix2 a b : S512x2048.Idx)) = _
  rw [emb2]; exact congrFun (V_main_arg5 m c) _

theorem blk3 (c : Dev nD) (t : Fin cfg0.N) (a : Fin 512) (b : Fin 2048) : iblk m c 3 t (ix2 a b : S512x2048.Idx)
    = centred (rowOf (aZ m c) (row (t.val / 4) a)) b * scale (rowOf (aZ m c) (row (t.val / 4) a)) := by
  show V m c main_v17 (((cfg0.win 3).blk t).view.emb (ix2 a b : S512x2048.Idx)) = _
  rw [emb3]; exact (congrFun (V_norm m c) _).trans (ref_norm _ _ _)

theorem blk4 (c : Dev nD) (t : Fin cfg0.N) (a : Fin 512) (z : Fin 1) :
    iblk m c 4 t (ix2 a z : S512x1.Idx) = scale (rowOf (aZ m c) (row (t.val / 4) a)) := by
  show V m c main_v13 (((cfg0.win 4).blk t).view.emb (ix2 a z : S512x1.Idx)) = _
  rw [emb4]; exact (congrFun (V_scale m c) _).trans (ref_scale _ _ _)

theorem blk5 (c : Dev nD) (t : Fin cfg0.N) : (iblk m c 5 t : Vec Ideal S1x2048 .f32) = aG m c := by
  funext y
  show V m c main_arg1 (((cfg0.win 5).blk t).view.emb y) = _
  rw [emb5]; exact congrFun (V_main_arg1 m c) _

/-! ## The product, part by part -/

/-- The part of shard `k`. -/
def part (c : Dev nD) (p : Fin 4096) (i : Fin 2048) (k : ℕ) : EReal :=
  ∑ b : Fin 2048, aP m c (ix2 p (col k b)) * aW m c (ix2 i (col k b))

theorem zero_part (y : S512x2048.Idx) : k0_pay3 (F := Ideal) y = 0 := by
  pointwise [k0_pay3]

theorem add_part (v : Vec Ideal S512x2048 .f32) (x : Vec Ideal S512x2048 .bf16) (w : Vec Ideal S1x2048x2048 .bf16)
    (a : Fin 512) (i : Fin 2048) :
    k0_pay4 v x w (ix2 a i) = v (ix2 a i) + ∑ b : Fin 2048, x (ix2 a b) * w (ix3 (0 : Fin 1) i b) := by
  pointwise [k0_pay4]

theorem add_part_at (c : Dev nD) (t : Fin cfg0.N) (v : Vec Ideal S512x2048 .f32) (a : Fin 512) (i : Fin 2048) :
    k0_pay4 v (iblk m c 0 t) (iblk m c 1 t) (ix2 a i) = v (ix2 a i) + part m c (row (t.val / 4) a) i (t.val % 4) := by
  rw [add_part]
  exact congrArg (_ + ·) (Finset.sum_congr rfl fun b _ => congrArg₂ (· * ·) (blk0 m c t a b) (blk1 m c t 0 i b))

theorem partialSum_eq (c : Dev nD) (n : ℕ) (h : n < cfg0.N) (a : Fin 512) (i : Fin 2048) :
    partialSum m c n h (ix2 a i) = ∑ k ∈ Finset.range (n % 4 + 1), part m c (row (n / 4) a) i k := by
  induction n with
  | zero =>
    refine (congrFun (partialSum_start m c ⟨0, h⟩ rfl) _).trans ?_
    rw [add_part_at, zero_part, zero_add, Finset.sum_range_one]
    rfl
  | succ n ih =>
    by_cases hs : (n + 1) % 4 = 0
    · refine (congrFun (partialSum_start m c ⟨n + 1, h⟩ hs) _).trans ?_
      rw [add_part_at, zero_part, zero_add, hs, Finset.sum_range_one]
    · refine (congrFun (partialSum_inner m c ⟨n + 1, h⟩ hs) _).trans ?_
      rw [add_part_at]
      have e := ih (Nat.lt_of_succ_lt h)
      rw [Finset.sum_range_succ]
      refine congrArg₂ (· + ·) (e.trans ?_) rfl
      rw [show (n + 1) % 4 = n % 4 + 1 by omega, show (n + 1) / 4 = n / 4 by omega]

theorem parts_eq (c : Dev nD) (p : Fin 4096) (i : Fin 2048) :
    ∑ k ∈ Finset.range 4, part m c p i k = ∑ f : Fin 8192, aP m c (ix2 p f) * aW m c (ix2 i f) := by
  rw [Fin.sum_univ_tiles 4 2048 (by norm_num), Finset.sum_range]
  refine Finset.sum_congr rfl fun k _ => Finset.sum_congr rfl fun b _ => ?_
  have e : ∀ h, col k.val b = ⟨k.val * 2048 + b.val, h⟩ := fun h => Fin.ext (col_val k.val k.isLt b)
  rw [e]

theorem whole_eq (c : Dev nD) (t : Fin cfg0.N) (h : t.val % 4 = 3) (a : Fin 512) (i : Fin 2048) :
    partialSum m c t.val t.isLt (ix2 a i)
      = ∑ f : Fin 8192, aP m c (ix2 (row (t.val / 4) a) f) * aW m c (ix2 i f) := by
  rw [partialSum_eq, h, parts_eq]

/-- The gradient at the MLP's input, in the block's own coordinates. -/
theorem inner_eq (c : Dev nD) (t : Fin cfg0.N) (h : t.val % 4 = 3) (a : Fin 512) (i : Fin 2048) :
    partialSum m c t.val t.isLt (ix2 a i) + Ideal.ofBits .f32 0x3F9837F0#32 * iblk m c 2 t (ix2 a i : S512x2048.Idx)
      = inner (aW m c) (aP m c) (aD m c) (row (t.val / 4) a) i := by
  rw [whole_eq m c t h, blk2]; rfl

/-! ## The gradient at the layer norm's input -/

/-- A chunk's numbers. -/
theorem chunk_apply (g : Vec Ideal S1x2048 .f32) (a z xh : Vec Ideal S8x2048 .f32) (r : Vec Ideal S8x1 .f32) (s : Fin 8)
    (j : Fin 2048) : chunk g a z xh r (ix2 s j)
    = textbook (r (ix2 s (0 : Fin 1)))
        (fun k => (a (ix2 s k) + Ideal.ofBits .f32 0x3F9837F0#32 * z (ix2 s k)) * g (ix2 (0 : Fin 1) k))
        (fun k => xh (ix2 s k)) j := by
  pointwise [chunk, k0_pay17, k0_pay10, k0_pay13, k0_pay15, k0_pay16, k0_pay14, k0_pay9]
  rfl

theorem inputBlock_apply (g : Vec Ideal S1x2048 .f32) (x z xh : Vec Ideal S512x2048 .f32) (r : Vec Ideal S512x1 .f32)
    (a : Fin 512) (j : Fin 2048) : inputBlock g x z xh r (ix2 a j)
    = textbook (r (ix2 a (0 : Fin 1)))
        (fun k => (x (ix2 a k) + Ideal.ofBits .f32 0x3F9837F0#32 * z (ix2 a k)) * g (ix2 (0 : Fin 1) k))
        (fun k => xh (ix2 a k)) j := by
  have ha := a.isLt
  have er : (⟨(8 * (a.val / 8) + a.val % 8) % 512, Nat.mod_lt _ (by decide)⟩ : Fin 512) = a :=
    Fin.ext (by show (8 * (a.val / 8) + a.val % 8) % 512 = a.val; omega)
  have rowsAt : ∀ (v : Vec Ideal S512x2048 .f32) (k : Fin 2048),
      rows v (8 * (a.val / 8)) (ix2 (⟨a.val % 8, Nat.mod_lt _ (by decide)⟩ : Fin 8) k) = v (ix2 a k) :=
    fun v k => congrArg (fun q : Fin 512 => v (ix2 q k)) er
  have rows1At : ∀ (v : Vec Ideal S512x1 .f32) (k : Fin 1),
      rows1 v (8 * (a.val / 8)) (ix2 (⟨a.val % 8, Nat.mod_lt _ (by decide)⟩ : Fin 8) k) = v (ix2 a k) :=
    fun v k => congrArg (fun q : Fin 512 => v (ix2 q k)) er
  have h := chunk_apply g (rows x (8 * (a.val / 8))) (rows z (8 * (a.val / 8))) (rows xh (8 * (a.val / 8)))
    (rows1 r (8 * (a.val / 8))) (⟨a.val % 8, Nat.mod_lt _ (by decide)⟩ : Fin 8) j
  simp only [rowsAt, rows1At] at h
  exact h

theorem dzBlock_eq (c : Dev nD) (t : Fin cfg0.N) (h : t.val % 4 = 3) (a : Fin 512) (j : Fin 2048) :
    dzBlock m c t (ix2 a j) = inputVal (aZ m c) (aG m c) (aW m c) (aP m c) (aD m c) (ix2 (row (t.val / 4) a) j) := by
  refine (inputBlock_apply _ _ _ _ _ a j).trans ?_
  show _ = back (rowOf (aZ m c) (row (t.val / 4) a)) (scaled (aG m c) (aW m c) (aP m c) (aD m c) (row (t.val / 4) a)) j
  rw [back_eq, blk4, blk5]
  have h1 : (fun k : Fin 2048 => (partialSum m c t.val t.isLt (ix2 a k)
      + Ideal.ofBits .f32 0x3F9837F0#32 * iblk m c 2 t (ix2 a k : S512x2048.Idx)) * aG m c (ix2 (0 : Fin 1) k))
      = scaled (aG m c) (aW m c) (aP m c) (aD m c) (row (t.val / 4) a) :=
    funext fun k => congrArg (· * aG m c (ix2 (0 : Fin 1) k)) (inner_eq m c t h a k)
  have h2 : (fun k : Fin 2048 => iblk m c 3 t (ix2 a k : S512x2048.Idx))
      = fun k => centred (rowOf (aZ m c) (row (t.val / 4) a)) k * scale (rowOf (aZ m c) (row (t.val / 4) a)) :=
    funext fun k => blk3 m c t a k
  exact congrArg₂ (fun d u => textbook (scale (rowOf (aZ m c) (row (t.val / 4) a))) d u j) h1 h2

/-! ## The gradients of the layer norm's weights -/

theorem scaleGrad_eq (a z xh : Vec Ideal S512x2048 .f32) (G : Vec Ideal S8x2048 .f32) (n : ℕ) (s : Fin 8) (j : Fin 2048) :
    scaleGrad a z xh G n (ix2 s j) = G (ix2 s j) + ∑ q ∈ Finset.range n,
      (a (ix2 (⟨(8 * q + s.val) % 512, Nat.mod_lt _ (by decide)⟩ : Fin 512) j)
        + Ideal.ofBits .f32 0x3F9837F0#32 * z (ix2 (⟨(8 * q + s.val) % 512, Nat.mod_lt _ (by decide)⟩ : Fin 512) j))
      * xh (ix2 (⟨(8 * q + s.val) % 512, Nat.mod_lt _ (by decide)⟩ : Fin 512) j) := by
  induction n with
  | zero => rw [Finset.sum_range_zero, add_zero]; rfl
  | succ n ih =>
    rw [Finset.sum_range_succ, ← add_assoc, ← ih]
    show k0_pay11 (rows a (8 * n)) (rows z (8 * n)) (rows xh (8 * n)) (scaleGrad a z xh G n) (ix2 s j) = _
    generalize scaleGrad a z xh G n = G'
    pointwise [k0_pay11, k0_pay9, k0_pay10]
    rfl

theorem shiftGrad_eq (a z : Vec Ideal S512x2048 .f32) (B : Vec Ideal S8x2048 .f32) (n : ℕ) (s : Fin 8) (j : Fin 2048) :
    shiftGrad a z B n (ix2 s j) = B (ix2 s j) + ∑ q ∈ Finset.range n,
      (a (ix2 (⟨(8 * q + s.val) % 512, Nat.mod_lt _ (by decide)⟩ : Fin 512) j)
        + Ideal.ofBits .f32 0x3F9837F0#32 * z (ix2 (⟨(8 * q + s.val) % 512, Nat.mod_lt _ (by decide)⟩ : Fin 512) j)) := by
  induction n with
  | zero => rw [Finset.sum_range_zero, add_zero]; rfl
  | succ n ih =>
    rw [Finset.sum_range_succ, ← add_assoc, ← ih]
    show k0_pay12 (rows a (8 * n)) (rows z (8 * n)) (shiftGrad a z B n) (ix2 s j) = _
    generalize shiftGrad a z B n = B'
    pointwise [k0_pay12, k0_pay9]
    rfl

/-- Position `n`, and its terms in the two sums. -/
def pos (n : ℕ) : Fin 4096 := ⟨n % 4096, Nat.mod_lt _ (by decide)⟩
def shiftTerm (c : Dev nD) (j : Fin 2048) (n : ℕ) : EReal := inner (aW m c) (aP m c) (aD m c) (pos n) j
def scaleTerm (c : Dev nD) (j : Fin 2048) (n : ℕ) : EReal :=
  inner (aW m c) (aP m c) (aD m c) (pos n) j * (centred (rowOf (aZ m c) (pos n)) j * scale (rowOf (aZ m c) (pos n)))

theorem endOf_val (b : ℕ) (hb : b < 8) : (endOf b).val = 4 * b + 3 := by
  show (4 * b + 3) % 32 = _; omega

theorem row_pos (b : ℕ) (hb : b < 8) (q : ℕ) (hq : q < 64) (s : Fin 8) :
    row ((endOf b).val / 4) (⟨(8 * q + s.val) % 512, Nat.mod_lt _ (by decide)⟩ : Fin 512) = pos (8 * (64 * b + q) + s.val) := by
  have hs := s.isLt
  have := endOf_val b hb
  apply Fin.ext
  show ((endOf b).val / 4 * 512 + (8 * q + s.val) % 512) % 4096 = (8 * (64 * b + q) + s.val) % 4096
  omega

theorem scaleSum_eq (c : Dev nD) (b : ℕ) (hb : b ≤ 8) (s : Fin 8) (j : Fin 2048) :
    scaleSum m c b (ix2 s j) = ∑ q ∈ Finset.range (64 * b), scaleTerm m c j (8 * q + s.val) := by
  induction b with
  | zero =>
    show k0_pay1 (F := Ideal) (ix2 s j) = _
    rw [Nat.mul_zero, Finset.sum_range_zero]
    pointwise [k0_pay1]
  | succ b ih =>
    have h3 : (endOf b).val % 4 = 3 := by have := endOf_val b hb; omega
    refine (scaleGrad_eq _ _ _ _ 64 s j).trans ?_
    rw [ih (by omega), show 64 * (b + 1) = 64 * b + 64 by ring, Finset.sum_range_add]
    refine congrArg (_ + ·) (Finset.sum_congr rfl fun q hq => ?_)
    have hq' := Finset.mem_range.mp hq
    refine (congrArg₂ (· * ·) (inner_eq m c (endOf b) h3 _ j) (blk3 m c (endOf b) _ j)).trans ?_
    rw [row_pos b hb q hq' s]
    rfl

theorem shiftSum_eq (c : Dev nD) (b : ℕ) (hb : b ≤ 8) (s : Fin 8) (j : Fin 2048) :
    shiftSum m c b (ix2 s j) = ∑ q ∈ Finset.range (64 * b), shiftTerm m c j (8 * q + s.val) := by
  induction b with
  | zero =>
    show k0_pay2 (F := Ideal) (ix2 s j) = _
    rw [Nat.mul_zero, Finset.sum_range_zero]
    pointwise [k0_pay2]
  | succ b ih =>
    have h3 : (endOf b).val % 4 = 3 := by have := endOf_val b hb; omega
    refine (shiftGrad_eq _ _ _ 64 s j).trans ?_
    rw [ih (by omega), show 64 * (b + 1) = 64 * b + 64 by ring, Finset.sum_range_add]
    refine congrArg (_ + ·) (Finset.sum_congr rfl fun q hq => ?_)
    have hq' := Finset.mem_range.mp hq
    refine (inner_eq m c (endOf b) h3 _ j).trans ?_
    rw [row_pos b hb q hq' s]
    rfl

theorem pos_val (p : Fin 4096) : pos p.val = p := Fin.ext (Nat.mod_eq_of_lt p.isLt)

/-! ## The arrays at the end -/

theorem flushed6 (c : Dev nD) (t : Fin cfg0.N) (h : t.val % 4 = 3) : (dats m 0 c).flushed 6 t
    = ((cfg0.win 6).blk t).view.read (Elt Ideal) (inputVal (aZ m c) (aG m c) (aW m c) (aP m c) (aD m c)) := by
  have e : (dats m 0 c).flushed 6 t = dzBlock m c t := after0_6 m c t
  rw [e]
  funext y
  obtain ⟨a, j, rfl⟩ : ∃ (a : Fin 512) (j : Fin 2048), y = ix2 a j := ⟨y 0, y 1, by
    funext x; match x with | ⟨0, _⟩ => rfl | ⟨1, _⟩ => rfl⟩
  show _ = inputVal (aZ m c) (aG m c) (aW m c) (aP m c) (aD m c) (((cfg0.win 6).blk t).view.emb (ix2 a j : S512x2048.Idx))
  rw [emb6]
  exact dzBlock_eq m c t h a j

theorem flushed7 (c : Dev nD) (t : Fin cfg0.N) (h : t.val % 4 = 3) : (dats m 0 c).flushed 7 t
    = ((cfg0.win 7).blk t).view.read (Elt Ideal)
      (inputVal (aZ m c) (aG m c) (aW m c) (aP m c) (aD m c) : Vec Ideal S4096x2048 .bf16) := by
  have e : (dats m 0 c).flushed 7 t = k0_pay8 (dzBlock m c t) := after0_7 m c t
  rw [e]
  funext y
  obtain ⟨a, j, rfl⟩ : ∃ (a : Fin 512) (j : Fin 2048), y = ix2 a j := ⟨y 0, y 1, by
    funext x; match x with | ⟨0, _⟩ => rfl | ⟨1, _⟩ => rfl⟩
  show _ = inputVal (aZ m c) (aG m c) (aW m c) (aP m c) (aD m c) (((cfg0.win 7).blk t).view.emb (ix2 a j : S512x2048.Idx))
  rw [emb7]
  refine Eq.trans ?_ (dzBlock_eq m c t h a j)
  generalize dzBlock m c t = d
  pointwise [k0_pay8]

theorem cover6 (i : S4096x2048.Idx) : ∃ t : Fin cfg0.N, (cfg0.win 6).flush t = true ∧ i ∈ ((cfg0.win 6).blk t).view.set := by
  obtain ⟨p, j, rfl⟩ : ∃ (p : Fin 4096) (j : Fin 2048), i = ix2 p j := ⟨i 0, i 1, by
    funext x; match x with | ⟨0, _⟩ => rfl | ⟨1, _⟩ => rfl⟩
  have i0 := p.isLt
  have ht : 4 * (p.val / 512) + 3 < cfg0.N := Nat.lt_of_lt_of_eq (by omega) N_0.symm
  refine ⟨⟨_, ht⟩, (flush0_6 _).mpr (by show (4 * (p.val / 512) + 3) % 4 = 3; omega), ?_⟩
  have h := ((cfg0.win 6).blk ⟨_, ht⟩).view.emb_mem_set (ix2 (⟨p.val % 512, by omega⟩ : Fin 512) j : S512x2048.Idx)
  rw [emb6] at h
  refine (Eq.subst (motive := fun x => x ∈ ((cfg0.win 6).blk ⟨_, ht⟩).view.set) ?_ h)
  funext a; apply Fin.ext; symm
  match a with
  | ⟨0, _⟩ =>
    show p.val = ((4 * (p.val / 512) + 3) / 4 * 512 + p.val % 512) % 4096
    omega
  | ⟨1, _⟩ => rfl

theorem cover7 (i : S4096x2048.Idx) : ∃ t : Fin cfg0.N, (cfg0.win 7).flush t = true ∧ i ∈ ((cfg0.win 7).blk t).view.set := by
  obtain ⟨p, j, rfl⟩ : ∃ (p : Fin 4096) (j : Fin 2048), i = ix2 p j := ⟨i 0, i 1, by
    funext x; match x with | ⟨0, _⟩ => rfl | ⟨1, _⟩ => rfl⟩
  have i0 := p.isLt
  have ht : 4 * (p.val / 512) + 3 < cfg0.N := Nat.lt_of_lt_of_eq (by omega) N_0.symm
  refine ⟨⟨_, ht⟩, (flush0_7 _).mpr (by show (4 * (p.val / 512) + 3) % 4 = 3; omega), ?_⟩
  have h := ((cfg0.win 7).blk ⟨_, ht⟩).view.emb_mem_set (ix2 (⟨p.val % 512, by omega⟩ : Fin 512) j : S512x2048.Idx)
  rw [emb7] at h
  refine (Eq.subst (motive := fun x => x ∈ ((cfg0.win 7).blk ⟨_, ht⟩).view.set) ?_ h)
  funext a; apply Fin.ext; symm
  match a with
  | ⟨0, _⟩ =>
    show p.val = ((4 * (p.val / 512) + 3) / 4 * 512 + p.val % 512) % 4096
    omega
  | ⟨1, _⟩ => rfl

theorem final6 (c : Dev nD) : (dats m 0 c).arrAt 6 cfg0.N = inputVal (aZ m c) (aG m c) (aW m c) (aP m c) (aD m c) :=
  (dats m 0 c).arrAt_eq_of_cover 6 (inputVal (aZ m c) (aG m c) (aW m c) (aP m c) (aD m c))
    (fun t ht => flushed6 m c t ((flush0_6 t).mp ht)) cover6

theorem final7 (c : Dev nD) : (dats m 0 c).arrAt 7 cfg0.N = (inputVal (aZ m c) (aG m c) (aW m c) (aP m c) (aD m c)) :=
  (dats m 0 c).arrAt_eq_of_cover 7 (inputVal (aZ m c) (aG m c) (aW m c) (aP m c) (aD m c))
    (fun t ht => flushed7 m c t ((flush0_7 t).mp ht)) cover7

theorem last_lt : 31 < cfg0.N := Nat.lt_of_lt_of_eq (by decide) N_0.symm

theorem final8 (c : Dev nD) : (dats m 0 c).arrAt 8 cfg0.N = scaleSum m c 8 :=
  (dats m 0 c).arrAt_eq_of_cover 8 (scaleSum m c 8)
    (fun t ht => by
      have h := (flush0_8 t).mp ht
      have e : (dats m 0 c).flushed 8 t = scaleSum m c ((t.val + 1) / 4) := after0_8 m c t
      rw [e, show (t.val + 1) / 4 = 8 by have := t_lt t; omega]
      funext y
      show _ = scaleSum m c 8 (((cfg0.win 8).blk t).view.emb y)
      rw [emb8])
    (fun i => ⟨⟨31, last_lt⟩, (flush0_8 _).mpr rfl, by
      have h := ((cfg0.win 8).blk ⟨31, last_lt⟩).view.emb_mem_set (i : S8x2048.Idx)
      rwa [emb8] at h⟩)

theorem final9 (c : Dev nD) : (dats m 0 c).arrAt 9 cfg0.N = shiftSum m c 8 :=
  (dats m 0 c).arrAt_eq_of_cover 9 (shiftSum m c 8)
    (fun t ht => by
      have h := (flush0_9 t).mp ht
      have e : (dats m 0 c).flushed 9 t = shiftSum m c ((t.val + 1) / 4) := after0_9 m c t
      rw [e, show (t.val + 1) / 4 = 8 by have := t_lt t; omega]
      funext y
      show _ = shiftSum m c 8 (((cfg0.win 9).blk t).view.emb y)
      rw [emb9])
    (fun i => ⟨⟨31, last_lt⟩, (flush0_9 _).mpr rfl, by
      have h := ((cfg0.win 9).blk ⟨31, last_lt⟩).view.emb_mem_set (i : S8x2048.Idx)
      rwa [emb9] at h⟩)

/-- The host's sum of the 8 partial rows. -/
theorem host_sum (x : Vec Ideal S8x2048 .f32) (j : Fin 2048) :
    Host.reduceAdd (F := Ideal) (φ := .f32) x (constant S_ .f32 0x00000000#32) reducesTo_S8x2048_S2048_d0 h_S_ (ix1 j) = ∑ s : Fin 8, x (ix2 s j) := by
  pointwise

theorem arrRef_inj : Function.Injective (Pipeline.arrRef spec0) := by decide

theorem tail_scale (c : Dev nD) :
    Pipeline.afterTail₀ cfgs (dats m) 0 (V0 m) [hostOps1] c main_v23 = scaleVal (aZ m c) (aW m c) (aP m c) (aD m c) := by
  unfold Pipeline.afterTail₀
  have hw := (Pipeline.withArrays_arr spec0 arrRef_inj c (V0 m c) (fun w => (dats m 0 c).arrAt w cfg0.N) 8).trans (final8 m c)
  generalize Pipeline.withArrays (cfgs 0).spec c (V0 m c) (fun w => (dats m 0 c).arrAt w (cfgs 0).N) = U at hw ⊢
  have h : StableHlo.after [hostOps1].flatten U (Proc.devRef .tc main_v23)
      = Host.reduceAdd (scaleSum m c 8) (constant S_ .f32 0x00000000#32) reducesTo_S8x2048_S2048_d0 h_S_ := by
    rw [← hw]
    show StableHlo.after hostOps1 U (Proc.devRef .tc main_v23) = _
    after_results
  rw [h]
  funext i
  obtain ⟨j, rfl⟩ : ∃ j : Fin 2048, i = ix1 j := ⟨i 0, eq_ix1 i⟩
  rw [host_sum]
  refine (Finset.sum_congr rfl fun s _ => scaleSum_eq m c 8 (le_refl 8) s j).trans ((regroup (scaleTerm m c j)).trans ?_)
  refine Finset.sum_congr rfl fun p _ => ?_
  unfold scaleTerm
  rw [pos_val]
  rfl

theorem tail_shift (c : Dev nD) :
    Pipeline.afterTail₀ cfgs (dats m) 0 (V0 m) [hostOps1] c main_v24 = shiftVal (aW m c) (aP m c) (aD m c) := by
  unfold Pipeline.afterTail₀
  have hw := (Pipeline.withArrays_arr spec0 arrRef_inj c (V0 m c) (fun w => (dats m 0 c).arrAt w cfg0.N) 9).trans (final9 m c)
  generalize Pipeline.withArrays (cfgs 0).spec c (V0 m c) (fun w => (dats m 0 c).arrAt w (cfgs 0).N) = U at hw ⊢
  have h : StableHlo.after [hostOps1].flatten U (Proc.devRef .tc main_v24)
      = Host.reduceAdd (shiftSum m c 8) (constant S_ .f32 0x00000000#32) reducesTo_S8x2048_S2048_d0 h_S_ := by
    rw [← hw]
    show StableHlo.after hostOps1 U (Proc.devRef .tc main_v24) = _
    after_results
  rw [h]
  funext i
  obtain ⟨j, rfl⟩ : ∃ j : Fin 2048, i = ix1 j := ⟨i 0, eq_ix1 i⟩
  rw [host_sum]
  refine (Finset.sum_congr rfl fun s _ => shiftSum_eq m c 8 (le_refl 8) s j).trans ((regroup (shiftTerm m c j)).trans ?_)
  refine Finset.sum_congr rfl fun p _ => ?_
  unfold shiftTerm
  rw [pos_val]
  rfl

end Cert.Proof.Dx1

end
-- ==== Proof.Dx1.lean ====
/- Gradient at the input of the MLP, through the first layer norm: the claims.

   The precondition says that every entry the formula for the input's gradient reads is finite. It is read here as
   "neither infinity". -/
module

public import proofs.«01_k».proof.Defs
public import proofs.«01_k».proof.Proof.Dx1Value
public import proofs.«01_k».proof.Proof.Gen.Dx1ReferenceIdeal.Run

@[expose] public section

set_option maxRecDepth 16384

noncomputable section

namespace Cert.Proof.Dx1

open Idealize.ShloMosaic Idealize.ShloMosaic.TcCoe Idealize.SL.Sem
open Cert.Proof.Finite (all_finite)

/-- The side conditions of the precondition's operations. -/
theorem preFacts : Cert.Pre_dx1_finite.Facts where
  bcast_S_S4096x2048 := by decide
  reducesTo_S4096x2048_S_d0_1 := by decide
  h_S_ := by decide
  bcast_S_S1x2048 := by decide
  reducesTo_S1x2048_S_d0_1 := by decide
  bcast_S_S2048x8192 := by decide
  reducesTo_S2048x8192_S_d0_1 := by decide
  bcast_S_S4096x8192 := by decide
  reducesTo_S4096x8192_S_d0_1 := by decide

instance : Cert.Pre_dx1_finite.Facts := preFacts

/-- What the precondition says of the five arrays it reads. -/
theorem pre_finite (Z : Vec Ideal Cert.Pre_dx1_finite.S4096x2048 .f32) (g : Vec Ideal Cert.Pre_dx1_finite.S1x2048 .f32)
    (b : Vec Ideal Cert.Pre_dx1_finite.S1x2048 .f32) (W : Vec Ideal Cert.Pre_dx1_finite.S2048x8192 .f32)
    (P : Vec Ideal Cert.Pre_dx1_finite.S4096x8192 .f32) (D : Vec Ideal Cert.Pre_dx1_finite.S4096x2048 .f32)
    (o : Vec Ideal Cert.Pre_dx1_finite.S8x128 .f32) (j : Cert.Pre_dx1_finite.S_.Idx)
    (h : Cert.Pre_dx1_finite.fn (F := Ideal) Z g b W P D o j = 1#1) :
    (∀ i, Z i ≠ ⊤ ∧ Z i ≠ ⊥) ∧ (∀ i, g i ≠ ⊤ ∧ g i ≠ ⊥) ∧ (∀ i, W i ≠ ⊤ ∧ W i ≠ ⊥) ∧ (∀ i, P i ≠ ⊤ ∧ P i ≠ ⊥)
      ∧ (∀ i, D i ≠ ⊤ ∧ D i ≠ ⊥) := by
  dsimp only [Cert.Pre_dx1_finite.fn, Cert.Pre_dx1_finite.fn_part1] at h
  obtain ⟨h, hD⟩ := IntOp.andi_eq_one.mp h
  obtain ⟨h, hP⟩ := IntOp.andi_eq_one.mp h
  obtain ⟨h, hW⟩ := IntOp.andi_eq_one.mp h
  obtain ⟨hZ, hg⟩ := IntOp.andi_eq_one.mp h
  exact ⟨all_finite Z _ _ _ j hZ, all_finite g _ _ _ j hg, all_finite W _ _ _ j hW, all_finite P _ _ _ j hP,
    all_finite D _ _ _ j hD⟩

theorem frame_k : Cert.quiescent_Dx1Kernel := fun m ρ _ => Cert.Proof.Dx1Printed.frame m ρ

theorem frame_ki : Cert.quiescent_Dx1KernelIdeal := fun m ρ _ => frame m ρ

theorem frame_ki_pre : Cert.quiescent_Dx1KernelIdeal_pre_dx1_finite := fun m ρ _ => frame m ρ

theorem frame_ri : Cert.quiescent_Dx1ReferenceIdeal := fun m ρ _ =>
  (θ_run Cert.Dx1ReferenceIdeal.defs _ _).mono (fun r h => ⟨fun c => (h c).2.2.2.2,
      Idealize.ShloMosaic.sem_eq_zero_of_no_sems (by decide) r.2⟩)
    (Cert.Dx1ReferenceIdeal.Value.run (F := Ideal) m ρ)

theorem frame_ri_pre : Cert.quiescent_Dx1ReferenceIdeal_pre_dx1_finite := fun m ρ _ => frame_ri m ρ trivial

theorem preserves : Cert.preserves_Dx1Kernel_Dx1KernelIdeal := trivial

theorem algebraic : Cert.algebraic_Dx1KernelIdeal_Dx1ReferenceIdeal_pre_dx1_finite := by
  intro m ρ m' ρ' hpre hagree
  refine ⟨fun c => inputVal (aZ m c) (aG m c) (aW m c) (aP m c) (aD m c),
    fun c => inputVal (aZ m c) (aG m c) (aW m c) (aP m c) (aD m c),
    fun c => scaleVal (aZ m c) (aW m c) (aP m c) (aD m c), fun c => shiftVal (aW m c) (aP m c) (aD m c), ?_, ?_⟩
  · exact (θ_run Cert.Dx1KernelIdeal.defs _ _).mono (fun _ h c => ⟨((h.1 c).1 6).trans (final6 m c),
        ((h.1 c).1 7).trans (final7 m c),
        ((h.1 c).2 Cert.Dx1KernelIdeal.main_v23 (Pipeline.mem_restRefs_of _ (by decide) (by decide))).trans (tail_scale m c),
        ((h.1 c).2 Cert.Dx1KernelIdeal.main_v24 (Pipeline.mem_restRefs_of _ (by decide) (by decide))).trans (tail_shift m c),
        h.2.1 c⟩)
      (θ_run_and (run_main m ρ) (frame m ρ))
  refine (θ_run Cert.Dx1ReferenceIdeal.defs _ _).mono (fun _ h c => ?_)
    (Cert.Dx1ReferenceIdeal.Value.run (F := Ideal) m' ρ')
  obtain ⟨hZ, hg, hW, hP, hD⟩ := pre_finite _ _ _ _ _ _ _ (fun i => i.elim0) (congrFun (hpre c) _)
  obtain ⟨e0, e1, _, e3, e4, e5, _⟩ := hagree c
  obtain ⟨r0, r1, r2, r3, rest⟩ := h c
  have d := ref_dinput (aZ m c) (aG m c) (aW m c) (aP m c) (aD m c) hZ hg hW hP hD
  refine ⟨?_, ?_, ?_, ?_, rest⟩
  · refine r0.trans ((Cert.Dx1ReferenceIdeal.Read.val_main_v64_eq m' c).trans ?_)
    rw [e0, e1, e3, e4, e5]
    exact d
  · refine r1.trans ((Cert.Dx1ReferenceIdeal.Read.val_main_v65_eq m' c).trans ?_)
    rw [e0, e1, e3, e4, e5]
    exact d
  · refine r2.trans ?_
    rw [e0, e3, e4, e5]
    exact (Cert.Dx1ReferenceIdeal.Read.val_main_v66_eq _ _ _ _).trans (ref_dscale _ _ _ _)
  · refine r3.trans ?_
    rw [e3, e4, e5]
    exact (Cert.Dx1ReferenceIdeal.Read.val_main_v67_eq _ _ _).trans (ref_dshift _ _ _)

end Cert.Proof.Dx1
-- ==== Proof.OutLnBlock.lean ====
/- The mixer's output product and the first layer norm: a block of rows.

   A block's product is stored whole; then a loop goes through the block's 512 rows in chunks of eight, eight chunks a trip.
   A chunk normalizes its rows and writes them, the reciprocals of their deviations, and the rows scaled and shifted. Every
   piece that a trip writes is the same function's rows, so the block is that function wherever it is read. -/
module

public import proofs.«01_k».proof.Proof.Gen.OutLnKernelIdeal.Value
public import Idealize.ShloMosaic.Lib.Pointwise

@[expose] public section

set_option maxRecDepth 16384

noncomputable section

namespace Cert.Proof.OutLn

open Cert.OutLnKernelIdeal Cert.OutLnKernelIdeal.Gen
open Idealize.ShloMosaic Idealize.ShloMosaic.TcCoe Idealize.ShloMosaic.Tactic
open Idealize.SL.Sem

variable {F : FTy → Type} [FloatOps F]

/-- Eight rows of a block, from row `r` on. -/
def rows (x : Vec F S512x2048 .f32) (r : ℕ) : Vec F S8x2048 .f32 := fun j =>
  x (ix2 (⟨(r + (j 0).val) % 512, Nat.mod_lt _ (by decide)⟩ : Fin 512) (j 1))

theorem readAt_chunk (v : View sig .tc .vmem S512x2048 .f32) (f : BufTy.Contents (Elt F) v.ty) {off : Fin 2 → ℕ}
    {n : ℕ} (inb : ∀ a, off a + S8x2048.size a ≤ S512x2048.size a) (x : Vec F S512x2048 .f32) (h : off = ![n, 0])
    (hx : v.read (Elt F) f = x) :
    v.readAt (Elt F) (Rect.unit (s := S512x2048) off S8x2048.size inb).toLoadRect f = rows x n := by
  subst h hx
  have hn : n + 8 ≤ 512 := inb 0
  funext j
  refine congrArg (v.read (Elt F) f) (funext fun a => Fin.ext ?_)
  have h0 : (j 0).val < 8 := (j 0).isLt
  fin_cases a
  · show n + 1 * (j 0).val = (n + (j 0).val) % 512; omega
  · show 0 + 1 * (j 1).val = (j 1).val; omega

/-- Eight rows of the residual `x` and the product `a`, normalized, -/
abbrev norm (x a : Vec F S8x2048 .f32) : Vec F S8x2048 .f32 := k0_pay9 x a
/-- the reciprocals of their deviations, -/
abbrev dev (x a : Vec F S8x2048 .f32) : Vec F S8x1 .f32 := k0_pay8 x a
/-- and the rows scaled and shifted. -/
abbrev affine (g b : Vec F S1x2048 .f32) (x a : Vec F S8x2048 .f32) : Vec F S8x2048 .f32 := k0_pay10 g b x a

/-- A block of rows out of its chunks: `f n` the eight rows from row `n` on. -/
def wide (f : ℕ → Vec F S8x2048 .f32) : Vec F S512x2048 .f32 := fun y =>
  f (8 * ((y 0).val / 8)) (ix2 (⟨(y 0).val % 8, Nat.mod_lt _ (by decide)⟩ : Fin 8) (y 1))
/-- The same of one column. -/
def narrow (f : ℕ → Vec F S8x1 .f32) : Vec F S512x1 .f32 := fun y =>
  f (8 * ((y 0).val / 8)) (ix2 (⟨(y 0).val % 8, Nat.mod_lt _ (by decide)⟩ : Fin 8) (y 1))

theorem wide_at (f : ℕ → Vec F S8x2048 .f32) {off : Fin 2 → ℕ} {n : ℕ}
    (inb : ∀ a, off a + S8x2048.size a ≤ S512x2048.size a) (h : off = ![8 * n, 0]) (w : Vec F S8x2048 .f32)
    (hw : w = f (8 * n)) (j : S8x2048.Idx) :
    w j = wide f ((Rect.unit (s := S512x2048) off S8x2048.size inb).emb j) := by
  subst h hw
  have h0 : (j 0).val < 8 := (j 0).isLt
  have e0 : (((Rect.unit (s := S512x2048) ![8 * n, 0] S8x2048.size inb).emb j) 0).val = 8 * n + 1 * (j 0).val := rfl
  have eq : 8 * ((((Rect.unit (s := S512x2048) ![8 * n, 0] S8x2048.size inb).emb j) 0).val / 8) = 8 * n := by rw [e0]; omega
  refine congr (congrArg f eq.symm) (funext fun a => Fin.ext ?_)
  fin_cases a
  · show (j 0).val = (8 * n + 1 * (j 0).val) % 8; omega
  · show (j 1).val = 0 + 1 * (j 1).val; omega

theorem narrow_at (f : ℕ → Vec F S8x1 .f32) {off : Fin 2 → ℕ} {n : ℕ}
    (inb : ∀ a, off a + S8x1.size a ≤ S512x1.size a) (h : off = ![8 * n, 0]) (w : Vec F S8x1 .f32)
    (hw : w = f (8 * n)) (j : S8x1.Idx) :
    w j = narrow f ((Rect.unit (s := S512x1) off S8x1.size inb).emb j) := by
  subst h hw
  have h0 : (j 0).val < 8 := (j 0).isLt
  have e0 : (((Rect.unit (s := S512x1) ![8 * n, 0] S8x1.size inb).emb j) 0).val = 8 * n + 1 * (j 0).val := rfl
  have eq : 8 * ((((Rect.unit (s := S512x1) ![8 * n, 0] S8x1.size inb).emb j) 0).val / 8) = 8 * n := by rw [e0]; omega
  refine congr (congrArg f eq.symm) (funext fun a => Fin.ext ?_)
  fin_cases a
  · show (j 0).val = (8 * n + 1 * (j 0).val) % 8; omega
  · show (j 1).val = 0 + 1 * (j 1).val; omega

theorem trips_eq : k0_t1_loop.trips = 8 := by decide

theorem off1_eq (k : Fin k0_t1_loop.trips) (u : Fin 8) :
    k0_off1 k (BitVec.ofNat 32 (8 * u.val)) = ![8 * (8 * k.val + u.val), 0] := by
  have h : ∀ (k : Fin k0_t1_loop.trips) (u : Fin 8),
      k0_off1 k (BitVec.ofNat 32 (8 * u.val)) 0 = 8 * (8 * k.val + u.val) := by decide +kernel
  funext a
  fin_cases a
  · exact h k u
  · rfl

theorem off2_eq (k : Fin k0_t1_loop.trips) (u : Fin 8) :
    k0_off2 k (BitVec.ofNat 32 (8 * u.val)) = ![8 * (8 * k.val + u.val), 0] := by
  have h : ∀ (k : Fin k0_t1_loop.trips) (u : Fin 8),
      k0_off2 k (BitVec.ofNat 32 (8 * u.val)) 0 = 8 * (8 * k.val + u.val) := by decide +kernel
  funext a
  fin_cases a
  · exact h k u
  · rfl

/-- Every piece of a list is rows of `G`. -/
def PiecesOf {s : Shape} (G : Vec F s .f32) (L : List (View.Piece (Elt F) s .f32)) : Prop :=
  ∀ p ∈ L, ∀ j : p.1.shape.Idx, p.2 j = G (p.1.emb j)

set_option maxHeartbeats 1600000 in
/-- What a trip writes: eight chunks of each result. -/
theorem trip_pieces (𝒱 : Variants) (c : Dev nD) (bd : Option 𝒱.V)
    (i : grid0.Coords) (arg1 : Memref sig .tc .vmem S512x2048 .bf16) (harg1 : arg1.IsWhole)
    (arg2 : Memref sig .tc .vmem S2048x2048 .bf16) (harg2 : arg2.IsWhole)
    (arg3 : Memref sig .tc .vmem S512x2048 .f32) (harg3 : arg3.IsWhole) (arg4 : Memref sig .tc .vmem S1x2048 .f32)
    (harg4 : arg4.IsWhole) (arg5 : Memref sig .tc .vmem S1x2048 .f32) (harg5 : arg5.IsWhole)
    (arg6 : Memref sig .tc .hbm S8x128 .f32) (harg6 : arg6.IsWhole) (arg7 : Memref sig .tc .vmem S512x2048 .f32)
    (harg7 : arg7.IsWhole) (arg8 : Memref sig .tc .vmem S512x2048 .bf16) (harg8 : arg8.IsWhole)
    (arg9 : Memref sig .tc .vmem S512x1 .f32) (harg9 : arg9.IsWhole) (arg10 : Memref sig .tc .vmem S512x2048 .f32)
    (harg10 : arg10.IsWhole) (arg11 : Memref sig .tc .vmem S512x2048 .f32) (harg11 : arg11.IsWhole)
    (v8 : Vec F S1x2048 .f32) (v9 : Vec F S1x2048 .f32)
    (X3 : BufTy.Contents (Elt F) arg3.view.ty) (X10 : BufTy.Contents (Elt F) arg10.view.ty)
    (k : Fin k0_t1_loop.trips) (x a : Vec F S512x2048 .f32)
    (h3 : arg3.view.read (Elt F) X3 = x) (h10 : arg10.view.read (Elt F) X10 = a) :
    PiecesOf (wide fun n => norm (rows x n) (rows a n)) (tripL_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).1
    ∧ PiecesOf (narrow fun n => dev (rows x n) (rows a n)) (tripL_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).2.1
    ∧ PiecesOf (wide fun n => affine v8 v9 (rows x n) (rows a n)) (tripL_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).2.2 := by
  have R3 : ∀ (off : Fin 2 → ℕ) (n : ℕ) (inb : ∀ a, off a + S8x2048.size a ≤ S512x2048.size a), off = ![n, 0] →
      arg3.view.readAt (Elt F) (Rect.unit (s := S512x2048) off S8x2048.size inb).toLoadRect X3 = rows x n :=
    fun _ _ inb h => readAt_chunk _ _ inb _ h h3
  have R10 : ∀ (off : Fin 2 → ℕ) (n : ℕ) (inb : ∀ a, off a + S8x2048.size a ≤ S512x2048.size a), off = ![n, 0] →
      arg10.view.readAt (Elt F) (Rect.unit (s := S512x2048) off S8x2048.size inb).toLoadRect X10 = rows a n :=
    fun _ _ inb h => readAt_chunk _ _ inb _ h h10
  unfold tripL_k0_t1 trip_k0_t1
  dsimp only
  refine ⟨?_, ?_, ?_⟩
  · refine List.forall_mem_cons.mpr ⟨wide_at _ (k0_off1_inb k 7) (off1_eq k 7) _ (Eq.trans (b := norm
        (arg3.view.readAt (Elt F) (Rect.unit (s := S512x2048) (k0_off1 k 56#32) S8x2048.size (k0_off1_inb k 7)).toLoadRect X3)
        (arg10.view.readAt (Elt F) (Rect.unit (s := S512x2048) (k0_off1 k 56#32) S8x2048.size (k0_off1_inb k 7)).toLoadRect X10)) rfl ?_), ?_⟩
    · exact congrArg₂ norm (R3 _ _ _ (off1_eq k 7)) (R10 _ _ _ (off1_eq k 7))
    refine List.forall_mem_cons.mpr ⟨wide_at _ (k0_off1_inb k 6) (off1_eq k 6) _ (Eq.trans (b := norm
        (arg3.view.readAt (Elt F) (Rect.unit (s := S512x2048) (k0_off1 k 48#32) S8x2048.size (k0_off1_inb k 6)).toLoadRect X3)
        (arg10.view.readAt (Elt F) (Rect.unit (s := S512x2048) (k0_off1 k 48#32) S8x2048.size (k0_off1_inb k 6)).toLoadRect X10)) rfl ?_), ?_⟩
    · exact congrArg₂ norm (R3 _ _ _ (off1_eq k 6)) (R10 _ _ _ (off1_eq k 6))
    refine List.forall_mem_cons.mpr ⟨wide_at _ (k0_off1_inb k 5) (off1_eq k 5) _ (Eq.trans (b := norm
        (arg3.view.readAt (Elt F) (Rect.unit (s := S512x2048) (k0_off1 k 40#32) S8x2048.size (k0_off1_inb k 5)).toLoadRect X3)
        (arg10.view.readAt (Elt F) (Rect.unit (s := S512x2048) (k0_off1 k 40#32) S8x2048.size (k0_off1_inb k 5)).toLoadRect X10)) rfl ?_), ?_⟩
    · exact congrArg₂ norm (R3 _ _ _ (off1_eq k 5)) (R10 _ _ _ (off1_eq k 5))
    refine List.forall_mem_cons.mpr ⟨wide_at _ (k0_off1_inb k 4) (off1_eq k 4) _ (Eq.trans (b := norm
        (arg3.view.readAt (Elt F) (Rect.unit (s := S512x2048) (k0_off1 k 32#32) S8x2048.size (k0_off1_inb k 4)).toLoadRect X3)
        (arg10.view.readAt (Elt F) (Rect.unit (s := S512x2048) (k0_off1 k 32#32) S8x2048.size (k0_off1_inb k 4)).toLoadRect X10)) rfl ?_), ?_⟩
    · exact congrArg₂ norm (R3 _ _ _ (off1_eq k 4)) (R10 _ _ _ (off1_eq k 4))
    refine List.forall_mem_cons.mpr ⟨wide_at _ (k0_off1_inb k 3) (off1_eq k 3) _ (Eq.trans (b := norm
        (arg3.view.readAt (Elt F) (Rect.unit (s := S512x2048) (k0_off1 k 24#32) S8x2048.size (k0_off1_inb k 3)).toLoadRect X3)
        (arg10.view.readAt (Elt F) (Rect.unit (s := S512x2048) (k0_off1 k 24#32) S8x2048.size (k0_off1_inb k 3)).toLoadRect X10)) rfl ?_), ?_⟩
    · exact congrArg₂ norm (R3 _ _ _ (off1_eq k 3)) (R10 _ _ _ (off1_eq k 3))
    refine List.forall_mem_cons.mpr ⟨wide_at _ (k0_off1_inb k 2) (off1_eq k 2) _ (Eq.trans (b := norm
        (arg3.view.readAt (Elt F) (Rect.unit (s := S512x2048) (k0_off1 k 16#32) S8x2048.size (k0_off1_inb k 2)).toLoadRect X3)
        (arg10.view.readAt (Elt F) (Rect.unit (s := S512x2048) (k0_off1 k 16#32) S8x2048.size (k0_off1_inb k 2)).toLoadRect X10)) rfl ?_), ?_⟩
    · exact congrArg₂ norm (R3 _ _ _ (off1_eq k 2)) (R10 _ _ _ (off1_eq k 2))
    refine List.forall_mem_cons.mpr ⟨wide_at _ (k0_off1_inb k 1) (off1_eq k 1) _ (Eq.trans (b := norm
        (arg3.view.readAt (Elt F) (Rect.unit (s := S512x2048) (k0_off1 k 8#32) S8x2048.size (k0_off1_inb k 1)).toLoadRect X3)
        (arg10.view.readAt (Elt F) (Rect.unit (s := S512x2048) (k0_off1 k 8#32) S8x2048.size (k0_off1_inb k 1)).toLoadRect X10)) rfl ?_), ?_⟩
    · exact congrArg₂ norm (R3 _ _ _ (off1_eq k 1)) (R10 _ _ _ (off1_eq k 1))
    refine List.forall_mem_cons.mpr ⟨wide_at _ (k0_off1_inb k 0) (off1_eq k 0) _ (Eq.trans (b := norm
        (arg3.view.readAt (Elt F) (Rect.unit (s := S512x2048) (k0_off1 k 0#32) S8x2048.size (k0_off1_inb k 0)).toLoadRect X3)
        (arg10.view.readAt (Elt F) (Rect.unit (s := S512x2048) (k0_off1 k 0#32) S8x2048.size (k0_off1_inb k 0)).toLoadRect X10)) rfl ?_), ?_⟩
    · exact congrArg₂ norm (R3 _ _ _ (off1_eq k 0)) (R10 _ _ _ (off1_eq k 0))
    exact fun p hp => absurd hp List.not_mem_nil
  · refine List.forall_mem_cons.mpr ⟨narrow_at _ (k0_off2_inb k 7) (off2_eq k 7) _ (Eq.trans (b := dev
        (arg3.view.readAt (Elt F) (Rect.unit (s := S512x2048) (k0_off1 k 56#32) S8x2048.size (k0_off1_inb k 7)).toLoadRect X3)
        (arg10.view.readAt (Elt F) (Rect.unit (s := S512x2048) (k0_off1 k 56#32) S8x2048.size (k0_off1_inb k 7)).toLoadRect X10)) rfl ?_), ?_⟩
    · exact congrArg₂ dev (R3 _ _ _ (off1_eq k 7)) (R10 _ _ _ (off1_eq k 7))
    refine List.forall_mem_cons.mpr ⟨narrow_at _ (k0_off2_inb k 6) (off2_eq k 6) _ (Eq.trans (b := dev
        (arg3.view.readAt (Elt F) (Rect.unit (s := S512x2048) (k0_off1 k 48#32) S8x2048.size (k0_off1_inb k 6)).toLoadRect X3)
        (arg10.view.readAt (Elt F) (Rect.unit (s := S512x2048) (k0_off1 k 48#32) S8x2048.size (k0_off1_inb k 6)).toLoadRect X10)) rfl ?_), ?_⟩
    · exact congrArg₂ dev (R3 _ _ _ (off1_eq k 6)) (R10 _ _ _ (off1_eq k 6))
    refine List.forall_mem_cons.mpr ⟨narrow_at _ (k0_off2_inb k 5) (off2_eq k 5) _ (Eq.trans (b := dev
        (arg3.view.readAt (Elt F) (Rect.unit (s := S512x2048) (k0_off1 k 40#32) S8x2048.size (k0_off1_inb k 5)).toLoadRect X3)
        (arg10.view.readAt (Elt F) (Rect.unit (s := S512x2048) (k0_off1 k 40#32) S8x2048.size (k0_off1_inb k 5)).toLoadRect X10)) rfl ?_), ?_⟩
    · exact congrArg₂ dev (R3 _ _ _ (off1_eq k 5)) (R10 _ _ _ (off1_eq k 5))
    refine List.forall_mem_cons.mpr ⟨narrow_at _ (k0_off2_inb k 4) (off2_eq k 4) _ (Eq.trans (b := dev
        (arg3.view.readAt (Elt F) (Rect.unit (s := S512x2048) (k0_off1 k 32#32) S8x2048.size (k0_off1_inb k 4)).toLoadRect X3)
        (arg10.view.readAt (Elt F) (Rect.unit (s := S512x2048) (k0_off1 k 32#32) S8x2048.size (k0_off1_inb k 4)).toLoadRect X10)) rfl ?_), ?_⟩
    · exact congrArg₂ dev (R3 _ _ _ (off1_eq k 4)) (R10 _ _ _ (off1_eq k 4))
    refine List.forall_mem_cons.mpr ⟨narrow_at _ (k0_off2_inb k 3) (off2_eq k 3) _ (Eq.trans (b := dev
        (arg3.view.readAt (Elt F) (Rect.unit (s := S512x2048) (k0_off1 k 24#32) S8x2048.size (k0_off1_inb k 3)).toLoadRect X3)
        (arg10.view.readAt (Elt F) (Rect.unit (s := S512x2048) (k0_off1 k 24#32) S8x2048.size (k0_off1_inb k 3)).toLoadRect X10)) rfl ?_), ?_⟩
    · exact congrArg₂ dev (R3 _ _ _ (off1_eq k 3)) (R10 _ _ _ (off1_eq k 3))
    refine List.forall_mem_cons.mpr ⟨narrow_at _ (k0_off2_inb k 2) (off2_eq k 2) _ (Eq.trans (b := dev
        (arg3.view.readAt (Elt F) (Rect.unit (s := S512x2048) (k0_off1 k 16#32) S8x2048.size (k0_off1_inb k 2)).toLoadRect X3)
        (arg10.view.readAt (Elt F) (Rect.unit (s := S512x2048) (k0_off1 k 16#32) S8x2048.size (k0_off1_inb k 2)).toLoadRect X10)) rfl ?_), ?_⟩
    · exact congrArg₂ dev (R3 _ _ _ (off1_eq k 2)) (R10 _ _ _ (off1_eq k 2))
    refine List.forall_mem_cons.mpr ⟨narrow_at _ (k0_off2_inb k 1) (off2_eq k 1) _ (Eq.trans (b := dev
        (arg3.view.readAt (Elt F) (Rect.unit (s := S512x2048) (k0_off1 k 8#32) S8x2048.size (k0_off1_inb k 1)).toLoadRect X3)
        (arg10.view.readAt (Elt F) (Rect.unit (s := S512x2048) (k0_off1 k 8#32) S8x2048.size (k0_off1_inb k 1)).toLoadRect X10)) rfl ?_), ?_⟩
    · exact congrArg₂ dev (R3 _ _ _ (off1_eq k 1)) (R10 _ _ _ (off1_eq k 1))
    refine List.forall_mem_cons.mpr ⟨narrow_at _ (k0_off2_inb k 0) (off2_eq k 0) _ (Eq.trans (b := dev
        (arg3.view.readAt (Elt F) (Rect.unit (s := S512x2048) (k0_off1 k 0#32) S8x2048.size (k0_off1_inb k 0)).toLoadRect X3)
        (arg10.view.readAt (Elt F) (Rect.unit (s := S512x2048) (k0_off1 k 0#32) S8x2048.size (k0_off1_inb k 0)).toLoadRect X10)) rfl ?_), ?_⟩
    · exact congrArg₂ dev (R3 _ _ _ (off1_eq k 0)) (R10 _ _ _ (off1_eq k 0))
    exact fun p hp => absurd hp List.not_mem_nil
  · refine List.forall_mem_cons.mpr ⟨wide_at _ (k0_off1_inb k 7) (off1_eq k 7) _ (Eq.trans (b := affine v8 v9
        (arg3.view.readAt (Elt F) (Rect.unit (s := S512x2048) (k0_off1 k 56#32) S8x2048.size (k0_off1_inb k 7)).toLoadRect X3)
        (arg10.view.readAt (Elt F) (Rect.unit (s := S512x2048) (k0_off1 k 56#32) S8x2048.size (k0_off1_inb k 7)).toLoadRect X10)) rfl ?_), ?_⟩
    · exact congrArg₂ (affine v8 v9) (R3 _ _ _ (off1_eq k 7)) (R10 _ _ _ (off1_eq k 7))
    refine List.forall_mem_cons.mpr ⟨wide_at _ (k0_off1_inb k 6) (off1_eq k 6) _ (Eq.trans (b := affine v8 v9
        (arg3.view.readAt (Elt F) (Rect.unit (s := S512x2048) (k0_off1 k 48#32) S8x2048.size (k0_off1_inb k 6)).toLoadRect X3)
        (arg10.view.readAt (Elt F) (Rect.unit (s := S512x2048) (k0_off1 k 48#32) S8x2048.size (k0_off1_inb k 6)).toLoadRect X10)) rfl ?_), ?_⟩
    · exact congrArg₂ (affine v8 v9) (R3 _ _ _ (off1_eq k 6)) (R10 _ _ _ (off1_eq k 6))
    refine List.forall_mem_cons.mpr ⟨wide_at _ (k0_off1_inb k 5) (off1_eq k 5) _ (Eq.trans (b := affine v8 v9
        (arg3.view.readAt (Elt F) (Rect.unit (s := S512x2048) (k0_off1 k 40#32) S8x2048.size (k0_off1_inb k 5)).toLoadRect X3)
        (arg10.view.readAt (Elt F) (Rect.unit (s := S512x2048) (k0_off1 k 40#32) S8x2048.size (k0_off1_inb k 5)).toLoadRect X10)) rfl ?_), ?_⟩
    · exact congrArg₂ (affine v8 v9) (R3 _ _ _ (off1_eq k 5)) (R10 _ _ _ (off1_eq k 5))
    refine List.forall_mem_cons.mpr ⟨wide_at _ (k0_off1_inb k 4) (off1_eq k 4) _ (Eq.trans (b := affine v8 v9
        (arg3.view.readAt (Elt F) (Rect.unit (s := S512x2048) (k0_off1 k 32#32) S8x2048.size (k0_off1_inb k 4)).toLoadRect X3)
        (arg10.view.readAt (Elt F) (Rect.unit (s := S512x2048) (k0_off1 k 32#32) S8x2048.size (k0_off1_inb k 4)).toLoadRect X10)) rfl ?_), ?_⟩
    · exact congrArg₂ (affine v8 v9) (R3 _ _ _ (off1_eq k 4)) (R10 _ _ _ (off1_eq k 4))
    refine List.forall_mem_cons.mpr ⟨wide_at _ (k0_off1_inb k 3) (off1_eq k 3) _ (Eq.trans (b := affine v8 v9
        (arg3.view.readAt (Elt F) (Rect.unit (s := S512x2048) (k0_off1 k 24#32) S8x2048.size (k0_off1_inb k 3)).toLoadRect X3)
        (arg10.view.readAt (Elt F) (Rect.unit (s := S512x2048) (k0_off1 k 24#32) S8x2048.size (k0_off1_inb k 3)).toLoadRect X10)) rfl ?_), ?_⟩
    · exact congrArg₂ (affine v8 v9) (R3 _ _ _ (off1_eq k 3)) (R10 _ _ _ (off1_eq k 3))
    refine List.forall_mem_cons.mpr ⟨wide_at _ (k0_off1_inb k 2) (off1_eq k 2) _ (Eq.trans (b := affine v8 v9
        (arg3.view.readAt (Elt F) (Rect.unit (s := S512x2048) (k0_off1 k 16#32) S8x2048.size (k0_off1_inb k 2)).toLoadRect X3)
        (arg10.view.readAt (Elt F) (Rect.unit (s := S512x2048) (k0_off1 k 16#32) S8x2048.size (k0_off1_inb k 2)).toLoadRect X10)) rfl ?_), ?_⟩
    · exact congrArg₂ (affine v8 v9) (R3 _ _ _ (off1_eq k 2)) (R10 _ _ _ (off1_eq k 2))
    refine List.forall_mem_cons.mpr ⟨wide_at _ (k0_off1_inb k 1) (off1_eq k 1) _ (Eq.trans (b := affine v8 v9
        (arg3.view.readAt (Elt F) (Rect.unit (s := S512x2048) (k0_off1 k 8#32) S8x2048.size (k0_off1_inb k 1)).toLoadRect X3)
        (arg10.view.readAt (Elt F) (Rect.unit (s := S512x2048) (k0_off1 k 8#32) S8x2048.size (k0_off1_inb k 1)).toLoadRect X10)) rfl ?_), ?_⟩
    · exact congrArg₂ (affine v8 v9) (R3 _ _ _ (off1_eq k 1)) (R10 _ _ _ (off1_eq k 1))
    refine List.forall_mem_cons.mpr ⟨wide_at _ (k0_off1_inb k 0) (off1_eq k 0) _ (Eq.trans (b := affine v8 v9
        (arg3.view.readAt (Elt F) (Rect.unit (s := S512x2048) (k0_off1 k 0#32) S8x2048.size (k0_off1_inb k 0)).toLoadRect X3)
        (arg10.view.readAt (Elt F) (Rect.unit (s := S512x2048) (k0_off1 k 0#32) S8x2048.size (k0_off1_inb k 0)).toLoadRect X10)) rfl ?_), ?_⟩
    · exact congrArg₂ (affine v8 v9) (R3 _ _ _ (off1_eq k 0)) (R10 _ _ _ (off1_eq k 0))
    exact fun p hp => absurd hp List.not_mem_nil

/-- So is what the trips before `k` write. -/
theorem loop_pieces (𝒱 : Variants) (c : Dev nD) (bd : Option 𝒱.V)
    (i : grid0.Coords) (arg1 : Memref sig .tc .vmem S512x2048 .bf16) (harg1 : arg1.IsWhole)
    (arg2 : Memref sig .tc .vmem S2048x2048 .bf16) (harg2 : arg2.IsWhole)
    (arg3 : Memref sig .tc .vmem S512x2048 .f32) (harg3 : arg3.IsWhole) (arg4 : Memref sig .tc .vmem S1x2048 .f32)
    (harg4 : arg4.IsWhole) (arg5 : Memref sig .tc .vmem S1x2048 .f32) (harg5 : arg5.IsWhole)
    (arg6 : Memref sig .tc .hbm S8x128 .f32) (harg6 : arg6.IsWhole) (arg7 : Memref sig .tc .vmem S512x2048 .f32)
    (harg7 : arg7.IsWhole) (arg8 : Memref sig .tc .vmem S512x2048 .bf16) (harg8 : arg8.IsWhole)
    (arg9 : Memref sig .tc .vmem S512x1 .f32) (harg9 : arg9.IsWhole) (arg10 : Memref sig .tc .vmem S512x2048 .f32)
    (harg10 : arg10.IsWhole) (arg11 : Memref sig .tc .vmem S512x2048 .f32) (harg11 : arg11.IsWhole)
    (v8 : Vec F S1x2048 .f32) (v9 : Vec F S1x2048 .f32)
    (X3 : BufTy.Contents (Elt F) arg3.view.ty) (X10 : BufTy.Contents (Elt F) arg10.view.ty)
    (x a : Vec F S512x2048 .f32)
    (h3 : arg3.view.read (Elt F) X3 = x) (h10 : arg10.view.read (Elt F) X10 = a) (k : ℕ) (hk : k ≤ k0_t1_loop.trips) :
    PiecesOf (wide fun n => norm (rows x n) (rows a n)) (pb_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).1
    ∧ PiecesOf (narrow fun n => dev (rows x n) (rows a n)) (pb_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).2.1
    ∧ PiecesOf (wide fun n => affine v8 v9 (rows x n) (rows a n)) (pb_k0_t1 (F := F) 𝒱 c bd
      i arg1 harg1 arg2 harg2 arg3 harg3 arg4 harg4 arg5 harg5 arg6 harg6 arg7 harg7 arg8 harg8 arg9 harg9 arg10
      harg10 arg11 harg11 v8 v9
      X3 X10 k).2.2 := by
  induction k with
  | zero => exact ⟨fun p hp => absurd hp List.not_mem_nil, fun p hp => absurd hp List.not_mem_nil,
      fun p hp => absurd hp List.not_mem_nil⟩
  | succ k ih =>
    obtain ⟨i1, i2, i3⟩ := ih (Nat.le_of_succ_le hk)
    obtain ⟨t1, t2, t3⟩ := trip_pieces 𝒱 c bd
      i arg1 harg1 arg2 harg2 arg3 harg3 arg4 harg4 arg5 harg5 arg6 harg6 arg7 harg7 arg8 harg8 arg9 harg9 arg10
      harg10 arg11 harg11 v8 v9
      X3 X10 ⟨k, hk⟩ x a h3 h10
    rw [pb_k0_t1_succ 𝒱 c bd
      i arg1 harg1 arg2 harg2 arg3 harg3 arg4 harg4 arg5 harg5 arg6 harg6 arg7 harg7 arg8 harg8 arg9 harg9 arg10
      harg10 arg11 harg11 v8 v9
      X3 X10 ⟨k, hk⟩]
    exact ⟨fun p hp => (List.mem_append.mp hp).elim (t1 p) (i1 p), fun p hp => (List.mem_append.mp hp).elim (t2 p) (i2 p),
      fun p hp => (List.mem_append.mp hp).elim (t3 p) (i3 p)⟩

end Cert.Proof.OutLn

end
-- ==== Proof.OutLnOut.lean ====
/- The mixer's output product and the first layer norm: what one grid point leaves of its block, in all three results. -/
module

public import proofs.«01_k».proof.Proof.OutLnBlock
public import Idealize.ShloMosaic.Lib.VecWindow

@[expose] public section

set_option maxRecDepth 16384

noncomputable section

namespace Cert.Proof.OutLn

open Cert.OutLnKernelIdeal Cert.OutLnKernelIdeal.Gen
open Idealize.ShloMosaic Idealize.ShloMosaic.TcCoe Idealize.ShloMosaic.Tactic
open Idealize.SL.Sem

/-- The scratch block after the first store holds the product. -/
theorem product {F : FTy → Type} [FloatOps F] (c : Dev nD)
    (arg1 : Memref sig .tc .vmem S512x2048 .bf16) (harg1 : arg1.IsWhole)
    (arg2 : Memref sig .tc .vmem S2048x2048 .bf16) (harg2 : arg2.IsWhole)
    (arg10 : Memref sig .tc .vmem S512x2048 .f32)
    (x0 : Vec F S512x2048 .bf16) (x1 : Vec F S2048x2048 .bf16) :
    arg10.view.read (Elt F)
      (arg10.view.writes (Elt F) arg10.view.junk (kernelRun0_A.sl.HS0_1 c arg1 harg1 arg2 harg2 x0 x1))
      = k0_pay1 x0 x1 := by
  unfold kernelRun0_A.sl.HS0_1
  refine (View.read_writes_full _ _ _ _ _).trans ?_
  rw [View.readAt_full arg1.view, harg1.read_unread, View.readAt_full arg2.view, harg2.read_unread]

/-- The loop runs through all its chunks. -/
theorem trips_all : Scf.trips (0#32) (Scalar.addi 0#32 8#32) 1#32 = k0_t1_loop.trips := by
  rfl

/-- The block of the first result: the normalized rows. -/
theorem out_norm {F : FTy → Type} [FloatOps F]
    (c : Dev nD) (i : grid0.Coords) (arg1 : Memref sig .tc .vmem S512x2048 .bf16) (harg1 : arg1.IsWhole)
    (arg2 : Memref sig .tc .vmem S2048x2048 .bf16) (harg2 : arg2.IsWhole)
    (arg3 : Memref sig .tc .vmem S512x2048 .f32) (harg3 : arg3.IsWhole) (arg4 : Memref sig .tc .vmem S1x2048 .f32)
    (harg4 : arg4.IsWhole) (arg5 : Memref sig .tc .vmem S1x2048 .f32) (harg5 : arg5.IsWhole)
    (arg7 : Memref sig .tc .vmem S512x2048 .f32) (harg7 : arg7.IsWhole) (arg8 : Memref sig .tc .vmem S512x2048 .bf16)
    (harg8 : arg8.IsWhole) (arg9 : Memref sig .tc .vmem S512x1 .f32) (harg9 : arg9.IsWhole)
    (arg10 : Memref sig .tc .vmem S512x2048 .f32) (harg10 : arg10.IsWhole)
    (arg11 : Memref sig .tc .vmem S512x2048 .f32) (harg11 : arg11.IsWhole) (x0 : Vec F S512x2048 .bf16)
    (x1 : Vec F S2048x2048 .bf16) (x2 : Vec F S512x2048 .f32) (x3 : Vec F S1x2048 .f32) (x4 : Vec F S1x2048 .f32) :
    out0_A_5
      c i arg1 harg1 arg2 harg2 arg3 harg3 arg4 harg4 arg5 harg5 arg7 harg7 arg8 harg8 arg9 harg9 arg10 harg10 arg11
      harg11 x0 x1 x2 x3 x4
      = wide fun n => norm (rows x2 n) (rows (k0_pay1 x0 x1) n) := by
  funext y
  have hc := cover0_A_5
      c i arg1 harg1 arg2 harg2 arg3 harg3 arg4 harg4 arg5 harg5 arg7 harg7 arg8 harg8 arg9 harg9 arg10 harg10 arg11
      harg11 x0 x1 x2 x3 x4 y
  unfold out0_A_5
  refine View.read_writes_apply_of_pieces _ _ _ _ ?_ y hc
  unfold kernelRun0_A
  dsimp only
  exact (loop_pieces Variants.none c none
      i arg1 harg1 arg2 harg2 arg3 harg3 arg4 harg4 arg5 harg5 (Memref.whole main_arg5) (Memref.isWhole_whole _)
      arg7 harg7 arg8 harg8 arg9 harg9 arg10 harg10 arg11 harg11 _ _ (harg3.unread x2)
      (arg10.view.writes (Elt F) arg10.view.junk (kernelRun0_A.sl.HS0_1 c arg1 harg1 arg2 harg2 x0 x1))
      x2 (k0_pay1 x0 x1) (harg3.read_unread x2) (product c arg1 harg1 arg2 harg2 arg10 x0 x1) _ (le_of_eq trips_all)).1

/-- The block of the second result: the scaled and shifted rows in the result's dtype. -/
theorem out_affine {F : FTy → Type} [FloatOps F]
    (c : Dev nD) (i : grid0.Coords) (arg1 : Memref sig .tc .vmem S512x2048 .bf16) (harg1 : arg1.IsWhole)
    (arg2 : Memref sig .tc .vmem S2048x2048 .bf16) (harg2 : arg2.IsWhole)
    (arg3 : Memref sig .tc .vmem S512x2048 .f32) (harg3 : arg3.IsWhole) (arg4 : Memref sig .tc .vmem S1x2048 .f32)
    (harg4 : arg4.IsWhole) (arg5 : Memref sig .tc .vmem S1x2048 .f32) (harg5 : arg5.IsWhole)
    (arg7 : Memref sig .tc .vmem S512x2048 .f32) (harg7 : arg7.IsWhole) (arg8 : Memref sig .tc .vmem S512x2048 .bf16)
    (harg8 : arg8.IsWhole) (arg9 : Memref sig .tc .vmem S512x1 .f32) (harg9 : arg9.IsWhole)
    (arg10 : Memref sig .tc .vmem S512x2048 .f32) (harg10 : arg10.IsWhole)
    (arg11 : Memref sig .tc .vmem S512x2048 .f32) (harg11 : arg11.IsWhole) (x0 : Vec F S512x2048 .bf16)
    (x1 : Vec F S2048x2048 .bf16) (x2 : Vec F S512x2048 .f32) (x3 : Vec F S1x2048 .f32) (x4 : Vec F S1x2048 .f32) :
    out0_A_6
      c i arg1 harg1 arg2 harg2 arg3 harg3 arg4 harg4 arg5 harg5 arg7 harg7 arg8 harg8 arg9 harg9 arg10 harg10 arg11
      harg11 x0 x1 x2 x3 x4
      = k0_pay6 (wide fun n => affine x3 x4 (rows x2 n) (rows (k0_pay1 x0 x1) n)) := by
  unfold out0_A_6
  unfold kernelRun0_A
  dsimp only
  refine (View.read_writes_full _ _ _ _ _).trans (congrArg k0_pay6 ?_)
  unfold View.readCov
  refine (View.readAt_full arg11.view _ _).trans ?_
  rw [show View.readAt (Elt F) arg4.view (Rect.unit ![0, 0] ![1, 2048] inb_S1x2048_S1x2048_0_0).toLoadRect
      (harg4.unread x3) = x3 from (View.readAt_full arg4.view _ _).trans (harg4.read_unread x3),
    show View.readAt (Elt F) arg5.view (Rect.unit ![0, 0] ![1, 2048] inb_S1x2048_S1x2048_0_0).toLoadRect
      (harg5.unread x4) = x4 from (View.readAt_full arg5.view _ _).trans (harg5.read_unread x4)]
  funext y
  refine View.read_writes_apply_of_pieces _ _ _ _ ?_ y
    (View.cover_of_tiledL (s := S512x2048) _ S8x2048.size (by sl_kernel_rfl) y)
  exact (loop_pieces Variants.none c none
      i arg1 harg1 arg2 harg2 arg3 harg3 arg4 harg4 arg5 harg5 (Memref.whole main_arg5) (Memref.isWhole_whole _)
      arg7 harg7 arg8 harg8 arg9 harg9 arg10 harg10 arg11 harg11 _ _ (harg3.unread x2)
      (arg10.view.writes (Elt F) arg10.view.junk (kernelRun0_A.sl.HS0_1 c arg1 harg1 arg2 harg2 x0 x1))
      x2 (k0_pay1 x0 x1) (harg3.read_unread x2) (product c arg1 harg1 arg2 harg2 arg10 x0 x1) _ (le_of_eq trips_all)).2.2

/-- The block of the third result: the reciprocal deviations. -/
theorem out_dev {F : FTy → Type} [FloatOps F]
    (c : Dev nD) (i : grid0.Coords) (arg1 : Memref sig .tc .vmem S512x2048 .bf16) (harg1 : arg1.IsWhole)
    (arg2 : Memref sig .tc .vmem S2048x2048 .bf16) (harg2 : arg2.IsWhole)
    (arg3 : Memref sig .tc .vmem S512x2048 .f32) (harg3 : arg3.IsWhole) (arg4 : Memref sig .tc .vmem S1x2048 .f32)
    (harg4 : arg4.IsWhole) (arg5 : Memref sig .tc .vmem S1x2048 .f32) (harg5 : arg5.IsWhole)
    (arg7 : Memref sig .tc .vmem S512x2048 .f32) (harg7 : arg7.IsWhole) (arg8 : Memref sig .tc .vmem S512x2048 .bf16)
    (harg8 : arg8.IsWhole) (arg9 : Memref sig .tc .vmem S512x1 .f32) (harg9 : arg9.IsWhole)
    (arg10 : Memref sig .tc .vmem S512x2048 .f32) (harg10 : arg10.IsWhole)
    (arg11 : Memref sig .tc .vmem S512x2048 .f32) (harg11 : arg11.IsWhole) (x0 : Vec F S512x2048 .bf16)
    (x1 : Vec F S2048x2048 .bf16) (x2 : Vec F S512x2048 .f32) (x3 : Vec F S1x2048 .f32) (x4 : Vec F S1x2048 .f32) :
    out0_A_7
      c i arg1 harg1 arg2 harg2 arg3 harg3 arg4 harg4 arg5 harg5 arg7 harg7 arg8 harg8 arg9 harg9 arg10 harg10 arg11
      harg11 x0 x1 x2 x3 x4
      = narrow fun n => dev (rows x2 n) (rows (k0_pay1 x0 x1) n) := by
  funext y
  have hc := cover0_A_7
      c i arg1 harg1 arg2 harg2 arg3 harg3 arg4 harg4 arg5 harg5 arg7 harg7 arg8 harg8 arg9 harg9 arg10 harg10 arg11
      harg11 x0 x1 x2 x3 x4 y
  unfold out0_A_7
  refine View.read_writes_apply_of_pieces _ _ _ _ ?_ y hc
  unfold kernelRun0_A
  dsimp only
  exact (loop_pieces Variants.none c none
      i arg1 harg1 arg2 harg2 arg3 harg3 arg4 harg4 arg5 harg5 (Memref.whole main_arg5) (Memref.isWhole_whole _)
      arg7 harg7 arg8 harg8 arg9 harg9 arg10 harg10 arg11 harg11 _ _ (harg3.unread x2)
      (arg10.view.writes (Elt F) arg10.view.junk (kernelRun0_A.sl.HS0_1 c arg1 harg1 arg2 harg2 x0 x1))
      x2 (k0_pay1 x0 x1) (harg3.read_unread x2) (product c arg1 harg1 arg2 harg2 arg10 x0 x1) _ (le_of_eq trips_all)).2.1

end Cert.Proof.OutLn

end
-- ==== Proof.OutLnRef.lean ====
/- The mixer's output product and the first layer norm: what the call computes, and the reference read down to it.

   At position `p` the layer norm normalizes the row `ALPHA * x p + y p · w`. The results are the normalized rows, the
   rows scaled and shifted by the layer norm's weights, and the reciprocal deviations. -/
module

public import proofs.«01_k».proof.Proof.LayerNorm
public import proofs.«01_k».proof.Proof.Gen.OutLnReferenceIdeal.Read
public import Idealize.ShloMosaic.Lib.Pointwise

@[expose] public section

set_option maxRecDepth 16384

noncomputable section

namespace Cert.Proof.OutLn

open Cert.OutLnReferenceIdeal Cert.OutLnReferenceIdeal.Gen
open Idealize.ShloMosaic
open Cert.Proof.LayerNorm (mean centred spread scale)

section values
variable (Y : Vec Ideal S4096x2048 .f32) (W : Vec Ideal S2048x2048 .f32) (X : Vec Ideal S4096x2048 .f32)
  (g b : Vec Ideal S1x2048 .f32)

/-- A row of the layer norm's input, from the block's input and the product. -/
def inRow (x a : Fin 2048 → EReal) : Fin 2048 → EReal := fun k => Ideal.ofBits .f32 0x3F9837F0#32 * x k + a k

/-- Row `p` of the layer norm's input. -/
def rowOf (p : Fin 4096) : Fin 2048 → EReal :=
  inRow (fun k => X (ix2 p k)) fun k => ∑ f : Fin 2048, Y (ix2 p f) * W (ix2 f k)

/-- The normalized rows, -/
def normVal : Vec Ideal S4096x2048 .f32 := fun i => centred (rowOf Y W X (i 0)) (i 1) * scale (rowOf Y W X (i 0))

/-- the rows scaled and shifted, -/
def affineVal : Vec Ideal S4096x2048 .bf16 := fun i =>
  centred (rowOf Y W X (i 0)) (i 1) * scale (rowOf Y W X (i 0)) * g (ix2 (0 : Fin 1) (i 1)) + b (ix2 (0 : Fin 1) (i 1))

/-- and the reciprocal deviations. -/
def devVal : Vec Ideal S4096x1 .f32 := fun i => scale (rowOf Y W X (i 0))

open Cert.OutLnReferenceIdeal.Read

theorem ref_row (p : Fin 4096) (j : Fin 2048) : val_main_v3 Y W X (ix2 p j) = rowOf Y W X p j := by
  pointwise [val_main_v3, val_main_v2, val_main_v1, val_main_v0, val_main_cst]
  rfl

theorem ref_mean (p : Fin 4096) (z : Fin 1) : val_main_v7 Y W X (ix2 p z) = mean (rowOf Y W X p) := by
  pointwise [val_main_v7, val_main_v6, val_main_v5, val_main_v4, val_main_cst_0, val_main_cst_1]
  simp only [Ideal.ofBits_zero_f32, zero_add, ref_row]
  rfl

theorem ref_centred (p : Fin 4096) (j : Fin 2048) : val_main_v9 Y W X (ix2 p j) = centred (rowOf Y W X p) j := by
  pointwise [val_main_v9, val_main_v8]
  rw [ref_mean, ref_row]; rfl

theorem ref_scale (p : Fin 4096) (z : Fin 1) : val_main_v17 Y W X (ix2 p z) = scale (rowOf Y W X p) := by
  pointwise [val_main_v17, val_main_v16, val_main_v15, val_main_cst_4, val_main_v14, val_main_v13, val_main_cst_3,
    val_main_v12, val_main_v11, val_main_cst_2, val_main_v10]
  simp only [Ideal.ofBits_zero_f32, zero_add, ref_centred]
  rfl

theorem ref_norm : val_main_v21 Y W X = normVal Y W X := by
  funext i
  obtain ⟨p, j, rfl⟩ : ∃ (p : Fin 4096) (j : Fin 2048), i = ix2 p j := ⟨i 0, i 1, eq_ix2 i⟩
  pointwise [val_main_v21, val_main_v20, val_main_v19, val_main_v18]
  rw [ref_mean, ref_row, ref_scale]; rfl

theorem ref_affine : val_main_v30 Y W X g b = affineVal Y W X g b := by
  funext i
  obtain ⟨p, j, rfl⟩ : ∃ (p : Fin 4096) (j : Fin 2048), i = ix2 p j := ⟨i 0, i 1, eq_ix2 i⟩
  pointwise [val_main_v30, val_main_v29, val_main_v28, val_main_v27, val_main_v26, val_main_v25, val_main_v24,
    val_main_v23, val_main_v22]
  rw [ref_mean, ref_row, ref_scale]; rfl

theorem ref_dev : val_main_v17 Y W X = devVal Y W X := by
  funext i
  obtain ⟨p, z, rfl⟩ : ∃ (p : Fin 4096) (z : Fin 1), i = ix2 p z := ⟨i 0, i 1, eq_ix2 i⟩
  exact ref_scale Y W X p z

end values

end Cert.Proof.OutLn

end
-- ==== Proof.OutLnValue.lean ====
/- The mixer's output product and the first layer norm: what the kernel's arrays hold at the end.

   A grid point takes 512 rows. Its body works them off in 64 chunks of 8 rows. -/
module

public import proofs.«01_k».proof.Proof.OutLnOut
public import proofs.«01_k».proof.Proof.OutLnRef
public import proofs.«01_k».proof.Proof.Gen.OutLnKernelIdeal.Value
public import Idealize.ShloMosaic.Lib.Pointwise

@[expose] public section

set_option maxRecDepth 16384

noncomputable section

namespace Cert.Proof.OutLn

open Cert.OutLnKernelIdeal Cert.OutLnKernelIdeal.Gen Cert.OutLnKernelIdeal.Value
open Idealize.ShloMosaic Idealize.ShloMosaic.TcCoe Idealize.SL.Sem
open Cert.Proof.LayerNorm (mean centred spread scale)

/-! ## A chunk, entry by entry -/

theorem centred_apply (x a : Vec Ideal S8x2048 .f32) (s : Fin 8) (j : Fin 2048) :
    k0_pay7 x a (ix2 s j) = centred (inRow (fun k => x (ix2 s k)) (fun k => a (ix2 s k))) j := by
  pointwise [k0_pay7]
  rfl

theorem scale_apply (x a : Vec Ideal S8x2048 .f32) (s : Fin 8) (z : Fin 1) :
    dev x a (ix2 s z) = scale (inRow (fun k => x (ix2 s k)) (fun k => a (ix2 s k))) := by
  pointwise [dev, k0_pay8]
  simp only [centred_apply]
  rfl

theorem norm_apply (x a : Vec Ideal S8x2048 .f32) (s : Fin 8) (j : Fin 2048) :
    norm x a (ix2 s j) = centred (inRow (fun k => x (ix2 s k)) (fun k => a (ix2 s k))) j
      * scale (inRow (fun k => x (ix2 s k)) (fun k => a (ix2 s k))) := by
  pointwise [norm, k0_pay9]
  rw [centred_apply]
  exact congrArg _ (scale_apply x a s 0)

theorem affine_apply (g b : Vec Ideal S1x2048 .f32) (x a : Vec Ideal S8x2048 .f32) (s : Fin 8) (j : Fin 2048) :
    affine g b x a (ix2 s j) = centred (inRow (fun k => x (ix2 s k)) (fun k => a (ix2 s k))) j
      * scale (inRow (fun k => x (ix2 s k)) (fun k => a (ix2 s k))) * g (ix2 (0 : Fin 1) j) + b (ix2 (0 : Fin 1) j) := by
  pointwise [affine, k0_pay10]
  exact congrArg (fun v => v * g (ix2 (0 : Fin 1) j) + b (ix2 (0 : Fin 1) j)) (norm_apply x a s j)

theorem product_apply (y : Vec Ideal S512x2048 .bf16) (w : Vec Ideal S2048x2048 .bf16) (a : Fin 512) (j : Fin 2048) :
    k0_pay1 y w (ix2 a j) = ∑ k : Fin 2048, y (ix2 a k) * w (ix2 k j) := by
  pointwise [k0_pay1]

/-! ## A block, entry by entry -/

/-- Row `a` of the block is row `a % 8` of its chunk. -/
theorem rows_apply (x : Vec Ideal S512x2048 .f32) (a : Fin 512) (h : a.val % 8 < 8) (k : Fin 2048) :
    rows x (8 * (a.val / 8)) (ix2 (⟨a.val % 8, h⟩ : Fin 8) k) = x (ix2 a k) := by
  unfold rows
  refine congrArg x (funext fun d => Fin.ext ?_)
  have := a.isLt
  match d with
  | ⟨0, _⟩ => show (8 * (a.val / 8) + a.val % 8) % 512 = a.val; omega
  | ⟨1, _⟩ => rfl

section block
variable (y : Vec Ideal S512x2048 .bf16) (w : Vec Ideal S2048x2048 .bf16) (x : Vec Ideal S512x2048 .f32)
  (g b : Vec Ideal S1x2048 .f32)

/-- Row `a` of the layer norm's input, from the blocks. -/
abbrev blkRow (a : Fin 512) : Fin 2048 → EReal :=
  inRow (fun k => x (ix2 a k)) fun k => ∑ f : Fin 2048, y (ix2 a f) * w (ix2 f k)

theorem chunk_row (a : Fin 512) (h : a.val % 8 < 8) :
    inRow (fun k => rows x (8 * (a.val / 8)) (ix2 (⟨a.val % 8, h⟩ : Fin 8) k))
      (fun k => rows (k0_pay1 y w) (8 * (a.val / 8)) (ix2 (⟨a.val % 8, h⟩ : Fin 8) k)) = blkRow y w x a := by
  simp only [rows_apply, product_apply]

theorem norm_block (a : Fin 512) (j : Fin 2048) :
    wide (fun n => norm (rows x n) (rows (k0_pay1 y w) n)) (ix2 a j)
      = centred (blkRow y w x a) j * scale (blkRow y w x a) := by
  refine (norm_apply (rows x (8 * (a.val / 8))) (rows (k0_pay1 y w) (8 * (a.val / 8))) (⟨a.val % 8, by omega⟩ : Fin 8) j).trans ?_
  rw [chunk_row]

theorem affine_block (a : Fin 512) (j : Fin 2048) :
    k0_pay6 (wide fun n => affine g b (rows x n) (rows (k0_pay1 y w) n)) (ix2 a j)
      = centred (blkRow y w x a) j * scale (blkRow y w x a) * g (ix2 (0 : Fin 1) j) + b (ix2 (0 : Fin 1) j) := by
  refine (affine_apply g b (rows x (8 * (a.val / 8))) (rows (k0_pay1 y w) (8 * (a.val / 8))) (⟨a.val % 8, by omega⟩ : Fin 8) j).trans ?_
  rw [chunk_row]

theorem dev_block (a : Fin 512) (z : Fin 1) :
    narrow (fun n => dev (rows x n) (rows (k0_pay1 y w) n)) (ix2 a z) = scale (blkRow y w x a) := by
  refine (scale_apply (rows x (8 * (a.val / 8))) (rows (k0_pay1 y w) (8 * (a.val / 8))) (⟨a.val % 8, by omega⟩ : Fin 8) z).trans ?_
  rw [chunk_row]

end block

/-! ## The launch's arrays -/

variable (m : (ℓ : Loc nD τ sig) → Buf (Elt Ideal) ℓ)

/-- The gate's output and the weight, the block's input, and the layer norm's weights. -/
abbrev aY (c : Dev nD) : Vec Ideal S4096x2048 .f32 := m ((c : Thread nD τ).loc main_arg0)
abbrev aW (c : Dev nD) : Vec Ideal S2048x2048 .f32 := m ((c : Thread nD τ).loc main_arg1)
abbrev aX (c : Dev nD) : Vec Ideal S4096x2048 .f32 := m ((c : Thread nD τ).loc main_arg2)
abbrev aG (c : Dev nD) : Vec Ideal S1x2048 .f32 := m ((c : Thread nD τ).loc main_arg3)
abbrev aB (c : Dev nD) : Vec Ideal S1x2048 .f32 := m ((c : Thread nD τ).loc main_arg4)

theorem V_y (c : Dev nD) : (V m c main_v0 : Vec Ideal S4096x2048 .bf16) = aY m c := by
  show StableHlo.after hostOps0 (fun b => m (c, b)) (Proc.devRef .tc main_v0) = _
  have h : StableHlo.after hostOps0 (fun b => m (c, b)) (Proc.devRef .tc main_v0)
      = (truncf .bf16 (aY m c) bitsLt_bf16_f32 : FVec Ideal S4096x2048 .bf16) := by after_results
  rw [h]; rfl

theorem V_w (c : Dev nD) : (V m c main_v1 : Vec Ideal S2048x2048 .bf16) = aW m c := by
  show StableHlo.after hostOps0 (fun b => m (c, b)) (Proc.devRef .tc main_v1) = _
  have h : StableHlo.after hostOps0 (fun b => m (c, b)) (Proc.devRef .tc main_v1)
      = (truncf .bf16 (aW m c) bitsLt_bf16_f32 : FVec Ideal S2048x2048 .bf16) := by after_results
  rw [h]; rfl

/-! ## The blocks -/

/-- Where each window's block stands at a grid point. -/
theorem idx_facts : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) := by
  decide +kernel

theorem t_lt (t : Fin cfg0.N) : t.val < 8 := Nat.lt_of_lt_of_eq t.isLt N_0

/-- Row `a` of a point's block, in the whole array. -/
def row (t : Fin cfg0.N) (a : Fin 512) : Fin 4096 := ⟨t.val * 512 + a.val, by have := t_lt t; omega⟩

theorem emb0 (t : Fin cfg0.N) (a : Fin 512) (b : Fin 2048) :
    ((cfg0.win 0).blk t).view.emb (ix2 a b : S512x2048.Idx) = ix2 (row t a) b := by
  obtain ⟨⟨e0, e1⟩, -⟩ := idx_facts t
  funext x; apply Fin.ext
  match x with
  | ⟨0, _⟩ => show win0_0.index t (0 : Fin 2) * 512 + 1 * a.val = t.val * 512 + a.val; omega
  | ⟨1, _⟩ => show win0_0.index t (1 : Fin 2) * 2048 + 1 * b.val = b.val; omega

theorem emb1 (t : Fin cfg0.N) (a : Fin 2048) (b : Fin 2048) :
    ((cfg0.win 1).blk t).view.emb (ix2 a b : S2048x2048.Idx) = ix2 a b := by
  obtain ⟨-, ⟨e0, e1⟩, -⟩ := idx_facts t
  funext x; apply Fin.ext
  match x with
  | ⟨0, _⟩ => show win0_1.index t (0 : Fin 2) * 2048 + 1 * a.val = a.val; omega
  | ⟨1, _⟩ => show win0_1.index t (1 : Fin 2) * 2048 + 1 * b.val = b.val; omega

theorem emb2 (t : Fin cfg0.N) (a : Fin 512) (b : Fin 2048) :
    ((cfg0.win 2).blk t).view.emb (ix2 a b : S512x2048.Idx) = ix2 (row t a) b := by
  obtain ⟨-, -, ⟨e0, e1⟩, -⟩ := idx_facts t
  funext x; apply Fin.ext
  match x with
  | ⟨0, _⟩ => show win0_2.index t (0 : Fin 2) * 512 + 1 * a.val = t.val * 512 + a.val; omega
  | ⟨1, _⟩ => show win0_2.index t (1 : Fin 2) * 2048 + 1 * b.val = b.val; omega

theorem emb3 (t : Fin cfg0.N) (a : Fin 1) (b : Fin 2048) :
    ((cfg0.win 3).blk t).view.emb (ix2 a b : S1x2048.Idx) = ix2 a b := by
  obtain ⟨-, -, -, ⟨e0, e1⟩, -⟩ := idx_facts t
  funext x; apply Fin.ext
  match x with
  | ⟨0, _⟩ => show win0_3.index t (0 : Fin 2) * 1 + 1 * a.val = a.val; omega
  | ⟨1, _⟩ => show win0_3.index t (1 : Fin 2) * 2048 + 1 * b.val = b.val; omega

theorem emb4 (t : Fin cfg0.N) (a : Fin 1) (b : Fin 2048) :
    ((cfg0.win 4).blk t).view.emb (ix2 a b : S1x2048.Idx) = ix2 a b := by
  obtain ⟨-, -, -, -, ⟨e0, e1⟩, -⟩ := idx_facts t
  funext x; apply Fin.ext
  match x with
  | ⟨0, _⟩ => show win0_4.index t (0 : Fin 2) * 1 + 1 * a.val = a.val; omega
  | ⟨1, _⟩ => show win0_4.index t (1 : Fin 2) * 2048 + 1 * b.val = b.val; omega

theorem emb5 (t : Fin cfg0.N) (a : Fin 512) (b : Fin 2048) :
    ((cfg0.win 5).blk t).view.emb (ix2 a b : S512x2048.Idx) = ix2 (row t a) b := by
  obtain ⟨-, -, -, -, -, ⟨e0, e1⟩, -⟩ := idx_facts t
  funext x; apply Fin.ext
  match x with
  | ⟨0, _⟩ => show win0_5.index t (0 : Fin 2) * 512 + 1 * a.val = t.val * 512 + a.val; omega
  | ⟨1, _⟩ => show win0_5.index t (1 : Fin 2) * 2048 + 1 * b.val = b.val; omega

theorem emb6 (t : Fin cfg0.N) (a : Fin 512) (b : Fin 2048) :
    ((cfg0.win 6).blk t).view.emb (ix2 a b : S512x2048.Idx) = ix2 (row t a) b := by
  obtain ⟨-, -, -, -, -, -, ⟨e0, e1⟩, -⟩ := idx_facts t
  funext x; apply Fin.ext
  match x with
  | ⟨0, _⟩ => show win0_6.index t (0 : Fin 2) * 512 + 1 * a.val = t.val * 512 + a.val; omega
  | ⟨1, _⟩ => show win0_6.index t (1 : Fin 2) * 2048 + 1 * b.val = b.val; omega

theorem emb7 (t : Fin cfg0.N) (a : Fin 512) (b : Fin 1) :
    ((cfg0.win 7).blk t).view.emb (ix2 a b : S512x1.Idx) = ix2 (row t a) b := by
  obtain ⟨-, -, -, -, -, -, -, e0, e1⟩ := idx_facts t
  funext x; apply Fin.ext
  match x with
  | ⟨0, _⟩ => show win0_7.index t (0 : Fin 2) * 512 + 1 * a.val = t.val * 512 + a.val; omega
  | ⟨1, _⟩ => show win0_7.index t (1 : Fin 2) * 1 + 1 * b.val = b.val; omega

/-- The blocks that a point stages. -/
theorem blk_y (c : Dev nD) (t : Fin cfg0.N) (a : Fin 512) (k : Fin 2048) :
    iblk m c 0 t (ix2 a k : S512x2048.Idx) = aY m c (ix2 (row t a) k) := by
  show V m c main_v0 (((cfg0.win 0).blk t).view.emb (ix2 a k : S512x2048.Idx)) = _
  rw [emb0]; exact congrFun (V_y m c) _
theorem blk_w (c : Dev nD) (t : Fin cfg0.N) (i k : Fin 2048) :
    iblk m c 1 t (ix2 i k : S2048x2048.Idx) = aW m c (ix2 i k) := by
  show V m c main_v1 (((cfg0.win 1).blk t).view.emb (ix2 i k : S2048x2048.Idx)) = _
  rw [emb1]; exact congrFun (V_w m c) _
theorem blk_x (c : Dev nD) (t : Fin cfg0.N) (a : Fin 512) (k : Fin 2048) :
    iblk m c 2 t (ix2 a k : S512x2048.Idx) = aX m c (ix2 (row t a) k) := by
  show V m c main_arg2 (((cfg0.win 2).blk t).view.emb (ix2 a k : S512x2048.Idx)) = _
  rw [emb2]; rfl
theorem blk_g (c : Dev nD) (t : Fin cfg0.N) (z : Fin 1) (k : Fin 2048) :
    iblk m c 3 t (ix2 z k : S1x2048.Idx) = aG m c (ix2 z k) := by
  show V m c main_arg3 (((cfg0.win 3).blk t).view.emb (ix2 z k : S1x2048.Idx)) = _
  rw [emb3]; rfl
theorem blk_b (c : Dev nD) (t : Fin cfg0.N) (z : Fin 1) (k : Fin 2048) :
    iblk m c 4 t (ix2 z k : S1x2048.Idx) = aB m c (ix2 z k) := by
  show V m c main_arg4 (((cfg0.win 4).blk t).view.emb (ix2 z k : S1x2048.Idx)) = _
  rw [emb4]; rfl

/-- A row of a point's block is the row of the whole array. -/
theorem blkRow_eq (c : Dev nD) (t : Fin cfg0.N) (a : Fin 512) :
    blkRow (iblk m c 0 t) (iblk m c 1 t) (iblk m c 2 t) a = rowOf (aY m c) (aW m c) (aX m c) (row t a) := by
  unfold blkRow rowOf
  congr 1
  · funext k; exact blk_x m c t a k
  · funext k
    exact Finset.sum_congr rfl fun f _ => congrArg₂ (· * ·) (blk_y m c t a f) (blk_w m c t f k)

/-! ## The results -/

theorem flushed_norm (c : Dev nD) (t : Fin cfg0.N) : (dats m 0 c).flushed 5 t
    = ((cfg0.win 5).blk t).view.read (Elt Ideal) (normVal (aY m c) (aW m c) (aX m c)) := by
  rw [flushed5_A, out_norm]
  funext i
  obtain ⟨a, j, rfl⟩ : ∃ (a : Fin 512) (j : Fin 2048), i = ix2 a j := ⟨i 0, i 1, eq_ix2 i⟩
  show wide (fun n => norm (rows (iblk m c 2 t) n) (rows (k0_pay1 (iblk m c 0 t) (iblk m c 1 t)) n)) (ix2 a j)
    = normVal (aY m c) (aW m c) (aX m c) (((cfg0.win 5).blk t).view.emb (ix2 a j : S512x2048.Idx))
  rw [emb5, norm_block, blkRow_eq]
  rfl

theorem flushed_affine (c : Dev nD) (t : Fin cfg0.N) : (dats m 0 c).flushed 6 t
    = ((cfg0.win 6).blk t).view.read (Elt Ideal) (affineVal (aY m c) (aW m c) (aX m c) (aG m c) (aB m c)) := by
  rw [flushed6_A, out_affine]
  funext i
  obtain ⟨a, j, rfl⟩ : ∃ (a : Fin 512) (j : Fin 2048), i = ix2 a j := ⟨i 0, i 1, eq_ix2 i⟩
  show k0_pay6 (wide fun n => affine (iblk m c 3 t) (iblk m c 4 t) (rows (iblk m c 2 t) n)
      (rows (k0_pay1 (iblk m c 0 t) (iblk m c 1 t)) n)) (ix2 a j)
    = affineVal (aY m c) (aW m c) (aX m c) (aG m c) (aB m c) (((cfg0.win 6).blk t).view.emb (ix2 a j : S512x2048.Idx))
  rw [emb6, affine_block, blkRow_eq]
  exact congrArg₂ (fun u v : EReal => centred (rowOf (aY m c) (aW m c) (aX m c) (row t a)) j
    * scale (rowOf (aY m c) (aW m c) (aX m c) (row t a)) * u + v) (blk_g m c t 0 j) (blk_b m c t 0 j)

theorem flushed_dev (c : Dev nD) (t : Fin cfg0.N) : (dats m 0 c).flushed 7 t
    = ((cfg0.win 7).blk t).view.read (Elt Ideal) (devVal (aY m c) (aW m c) (aX m c)) := by
  rw [flushed7_A, out_dev]
  funext i
  obtain ⟨a, z, rfl⟩ : ∃ (a : Fin 512) (z : Fin 1), i = ix2 a z := ⟨i 0, i 1, eq_ix2 i⟩
  show narrow (fun n => dev (rows (iblk m c 2 t) n) (rows (k0_pay1 (iblk m c 0 t) (iblk m c 1 t)) n)) (ix2 a z)
    = devVal (aY m c) (aW m c) (aX m c) (((cfg0.win 7).blk t).view.emb (ix2 a z : S512x1.Idx))
  rw [emb7, dev_block, blkRow_eq]
  rfl

/-! The blocks tile each result. -/

theorem cover5 (i : S4096x2048.Idx) :
    ∃ t : Fin cfg0.N, (cfg0.win 5).flush t = true ∧ i ∈ ((cfg0.win 5).blk t).view.set := by
  have i0 : (i 0).val < 4096 := (i 0).isLt
  have hN : cfg0.N = 8 := N_0
  have ht : (i 0).val / 512 < cfg0.N := by omega
  refine ⟨⟨_, ht⟩, flush0_5 _, ?_⟩
  have h := ((cfg0.win 5).blk ⟨_, ht⟩).view.emb_mem_set
    (ix2 (⟨(i 0).val % 512, by omega⟩ : Fin 512) (⟨(i 1).val, (i 1).isLt⟩ : Fin 2048) : S512x2048.Idx)
  rw [emb5] at h
  refine (Eq.subst (motive := fun x => x ∈ ((cfg0.win 5).blk ⟨_, ht⟩).view.set) ?_ h)
  funext a; apply Fin.ext; symm
  match a with
  | ⟨0, _⟩ => show (i 0).val = (i 0).val / 512 * 512 + (i 0).val % 512; omega
  | ⟨1, _⟩ => rfl

theorem cover6 (i : S4096x2048.Idx) :
    ∃ t : Fin cfg0.N, (cfg0.win 6).flush t = true ∧ i ∈ ((cfg0.win 6).blk t).view.set := by
  have i0 : (i 0).val < 4096 := (i 0).isLt
  have hN : cfg0.N = 8 := N_0
  have ht : (i 0).val / 512 < cfg0.N := by omega
  refine ⟨⟨_, ht⟩, flush0_6 _, ?_⟩
  have h := ((cfg0.win 6).blk ⟨_, ht⟩).view.emb_mem_set
    (ix2 (⟨(i 0).val % 512, by omega⟩ : Fin 512) (⟨(i 1).val, (i 1).isLt⟩ : Fin 2048) : S512x2048.Idx)
  rw [emb6] at h
  refine (Eq.subst (motive := fun x => x ∈ ((cfg0.win 6).blk ⟨_, ht⟩).view.set) ?_ h)
  funext a; apply Fin.ext; symm
  match a with
  | ⟨0, _⟩ => show (i 0).val = (i 0).val / 512 * 512 + (i 0).val % 512; omega
  | ⟨1, _⟩ => rfl

theorem cover7 (i : S4096x1.Idx) :
    ∃ t : Fin cfg0.N, (cfg0.win 7).flush t = true ∧ i ∈ ((cfg0.win 7).blk t).view.set := by
  have i0 : (i 0).val < 4096 := (i 0).isLt
  have hN : cfg0.N = 8 := N_0
  have ht : (i 0).val / 512 < cfg0.N := by omega
  refine ⟨⟨_, ht⟩, flush0_7 _, ?_⟩
  have h := ((cfg0.win 7).blk ⟨_, ht⟩).view.emb_mem_set
    (ix2 (⟨(i 0).val % 512, by omega⟩ : Fin 512) (⟨(i 1).val, (i 1).isLt⟩ : Fin 1) : S512x1.Idx)
  rw [emb7] at h
  refine (Eq.subst (motive := fun x => x ∈ ((cfg0.win 7).blk ⟨_, ht⟩).view.set) ?_ h)
  funext a; apply Fin.ext; symm
  match a with
  | ⟨0, _⟩ => show (i 0).val = (i 0).val / 512 * 512 + (i 0).val % 512; omega
  | ⟨1, _⟩ => rfl

theorem final_norm (c : Dev nD) : (dats m 0 c).arrAt 5 cfg0.N = normVal (aY m c) (aW m c) (aX m c) :=
  (dats m 0 c).arrAt_eq_of_cover 5 (normVal (aY m c) (aW m c) (aX m c)) (fun t _ => flushed_norm m c t) cover5

theorem final_affine (c : Dev nD) :
    (dats m 0 c).arrAt 6 cfg0.N = affineVal (aY m c) (aW m c) (aX m c) (aG m c) (aB m c) :=
  (dats m 0 c).arrAt_eq_of_cover 6 (affineVal (aY m c) (aW m c) (aX m c) (aG m c) (aB m c))
    (fun t _ => flushed_affine m c t) cover6

theorem final_dev (c : Dev nD) : (dats m 0 c).arrAt 7 cfg0.N = devVal (aY m c) (aW m c) (aX m c) :=
  (dats m 0 c).arrAt_eq_of_cover 7 (devVal (aY m c) (aW m c) (aX m c)) (fun t _ => flushed_dev m c t) cover7

end Cert.Proof.OutLn

end
-- ==== Proof.OutLn.lean ====
/- The mixer's output product and the first layer norm: the claims. -/
module

public import proofs.«01_k».proof.Defs
public import proofs.«01_k».proof.Proof.OutLnValue
public import proofs.«01_k».proof.Proof.Gen.OutLnKernel.Frame
public import proofs.«01_k».proof.Proof.Gen.OutLnReferenceIdeal.Run

@[expose] public section

set_option maxRecDepth 16384

noncomputable section

namespace Cert.Proof.OutLn

open Cert.OutLnKernelIdeal Cert.OutLnKernelIdeal.Value
open Idealize.ShloMosaic Idealize.ShloMosaic.TcCoe Idealize.SL.Sem

theorem frame_k : Cert.quiescent_OutLnKernel := fun m ρ _ => Cert.OutLnKernel.Gen.frame m ρ

theorem frame_ki : Cert.quiescent_OutLnKernelIdeal := fun m ρ _ => Cert.OutLnKernelIdeal.Gen.frame m ρ

theorem frame_ri : Cert.quiescent_OutLnReferenceIdeal := fun m ρ _ =>
  (θ_run Cert.OutLnReferenceIdeal.defs _ _).mono (fun r h => ⟨fun c => (h c).2.2.2,
      Idealize.ShloMosaic.sem_eq_zero_of_no_sems (by decide) r.2⟩)
    (Cert.OutLnReferenceIdeal.Value.run (F := Ideal) m ρ)

theorem preserves : Cert.preserves_OutLnKernel_OutLnKernelIdeal := trivial

theorem algebraic : Cert.algebraic_OutLnKernelIdeal_OutLnReferenceIdeal := by
  intro m ρ m' ρ' _ hagree
  refine ⟨fun c => normVal (aY m c) (aW m c) (aX m c), fun c => affineVal (aY m c) (aW m c) (aX m c) (aG m c) (aB m c),
    fun c => devVal (aY m c) (aW m c) (aX m c), ?_, ?_⟩
  · exact (θ_run Cert.OutLnKernelIdeal.defs _ _).mono (fun _ h c => ⟨(h c).1.trans (final_norm m c),
        (h c).2.1.trans (final_affine m c), (h c).2.2.1.trans (final_dev m c), (h c).2.2.2⟩)
      (run_blocks (F := Ideal) m ρ)
  refine (θ_run Cert.OutLnReferenceIdeal.defs _ _).mono (fun _ h c => ?_)
    (Cert.OutLnReferenceIdeal.Value.run (F := Ideal) m' ρ')
  obtain ⟨e0, e1, e2, e3, e4, -⟩ := hagree c
  obtain ⟨r0, r1, r2, rest⟩ := h c
  rw [e0, e1, e2] at r0 r2
  rw [e0, e1, e2, e3, e4] at r1
  exact ⟨r0.trans ((Cert.OutLnReferenceIdeal.Read.val_main_v21_eq _ _ _).trans (ref_norm _ _ _)),
    r1.trans ((Cert.OutLnReferenceIdeal.Read.val_main_v30_eq _ _ _ _ _).trans (ref_affine _ _ _ _ _)),
    r2.trans ((Cert.OutLnReferenceIdeal.Read.val_main_v17_eq _ _ _).trans (ref_dev _ _ _)), rest⟩

end Cert.Proof.OutLn

end
-- ==== Proof.lean ====
/- The certificate: every claim, from the modules that prove them. -/
module

public import proofs.«01_k».proof.Defs
public import Idealize.ShloMosaic.Adequacy
public import Idealize.ShloMosaic.Init
public import proofs.«01_k».proof.Proof.Gen.MlpKernel
public import proofs.«01_k».proof.Proof.Gen.MlpKernelIdeal
public import proofs.«01_k».proof.Proof.Gen.MlpReferenceIdeal
public import proofs.«01_k».proof.Proof.Gen.W2SibKernel
public import proofs.«01_k».proof.Proof.Gen.W2SibKernelIdeal
public import proofs.«01_k».proof.Proof.Gen.W2SibReferenceIdeal
public import proofs.«01_k».proof.Proof.Gen.W2Kernel
public import proofs.«01_k».proof.Proof.Gen.W2KernelIdeal
public import proofs.«01_k».proof.Proof.Gen.W2ReferenceIdeal
public import proofs.«01_k».proof.Proof.Gen.W1SibKernel
public import proofs.«01_k».proof.Proof.Gen.W1SibKernelIdeal
public import proofs.«01_k».proof.Proof.Gen.W1SibReferenceIdeal
public import proofs.«01_k».proof.Proof.Gen.W1Kernel
public import proofs.«01_k».proof.Proof.Gen.W1KernelIdeal
public import proofs.«01_k».proof.Proof.Gen.W1ReferenceIdeal
public import proofs.«01_k».proof.Proof.Gen.WOutSibKernel
public import proofs.«01_k».proof.Proof.Gen.WOutSibKernelIdeal
public import proofs.«01_k».proof.Proof.Gen.WOutSibReferenceIdeal
public import proofs.«01_k».proof.Proof.Gen.WOutKernel
public import proofs.«01_k».proof.Proof.Gen.WOutKernelIdeal
public import proofs.«01_k».proof.Proof.Gen.WOutReferenceIdeal
public import proofs.«01_k».proof.Proof.Gen.WInSibKernel
public import proofs.«01_k».proof.Proof.Gen.WInSibKernelIdeal
public import proofs.«01_k».proof.Proof.Gen.WInSibReferenceIdeal
public import proofs.«01_k».proof.Proof.Gen.WInKernel
public import proofs.«01_k».proof.Proof.Gen.WInKernelIdeal
public import proofs.«01_k».proof.Proof.Gen.WInReferenceIdeal
public import proofs.«01_k».proof.Proof.Gen.MlpInKernel
public import proofs.«01_k».proof.Proof.Gen.MlpInKernelIdeal
public import proofs.«01_k».proof.Proof.Gen.MlpInReferenceIdeal
public import proofs.«01_k».proof.Proof.Gen.DxKernel
public import proofs.«01_k».proof.Proof.Gen.DxKernelIdeal
public import proofs.«01_k».proof.Proof.Gen.DxReferenceIdeal
public import proofs.«01_k».proof.Proof.Gen.ProjKernel
public import proofs.«01_k».proof.Proof.Gen.ProjKernelIdeal
public import proofs.«01_k».proof.Proof.Gen.ProjReferenceIdeal
public import proofs.«01_k».proof.Proof.Gen.MlpOutKernel
public import proofs.«01_k».proof.Proof.Gen.MlpOutKernelIdeal
public import proofs.«01_k».proof.Proof.Gen.MlpOutReferenceIdeal
public import proofs.«01_k».proof.Proof.Gen.Dx1Kernel
public import proofs.«01_k».proof.Proof.Gen.Dx1KernelIdeal
public import proofs.«01_k».proof.Proof.Gen.Dx1ReferenceIdeal
public import proofs.«01_k».proof.Proof.Gen.OutLnKernel
public import proofs.«01_k».proof.Proof.Gen.OutLnKernelIdeal
public import proofs.«01_k».proof.Proof.Gen.OutLnReferenceIdeal
public import proofs.«01_k».proof.Proof.Mlp
public import proofs.«01_k».proof.Proof.W2Sib
public import proofs.«01_k».proof.Proof.W2
public import proofs.«01_k».proof.Proof.W1Sib
public import proofs.«01_k».proof.Proof.W1
public import proofs.«01_k».proof.Proof.WOutSib
public import proofs.«01_k».proof.Proof.WOut
public import proofs.«01_k».proof.Proof.WInSib
public import proofs.«01_k».proof.Proof.WIn
public import proofs.«01_k».proof.Proof.MlpIn
public import proofs.«01_k».proof.Proof.Dx
public import proofs.«01_k».proof.Proof.Proj
public import proofs.«01_k».proof.Proof.MlpOut
public import proofs.«01_k».proof.Proof.Dx1
public import proofs.«01_k».proof.Proof.OutLn

@[expose] public section

noncomputable section

namespace Cert.Proof

theorem claim : Cert.Claim :=
  ⟨Cert.MlpKernel.Gen.facts, Cert.MlpKernelIdeal.Gen.facts, Cert.MlpReferenceIdeal.Gen.facts,
    Cert.W2SibKernel.Gen.facts, Cert.W2SibKernelIdeal.Gen.facts, Cert.W2SibReferenceIdeal.Gen.facts,
    Cert.W2Kernel.Gen.facts, Cert.W2KernelIdeal.Gen.facts, Cert.W2ReferenceIdeal.Gen.facts,
    Cert.W1SibKernel.Gen.facts, Cert.W1SibKernelIdeal.Gen.facts, Cert.W1SibReferenceIdeal.Gen.facts,
    Cert.W1Kernel.Gen.facts, Cert.W1KernelIdeal.Gen.facts, Cert.W1ReferenceIdeal.Gen.facts,
    Cert.WOutSibKernel.Gen.facts, Cert.WOutSibKernelIdeal.Gen.facts, Cert.WOutSibReferenceIdeal.Gen.facts,
    Cert.WOutKernel.Gen.facts, Cert.WOutKernelIdeal.Gen.facts, Cert.WOutReferenceIdeal.Gen.facts,
    Cert.WInSibKernel.Gen.facts, Cert.WInSibKernelIdeal.Gen.facts, Cert.WInSibReferenceIdeal.Gen.facts,
    Cert.WInKernel.Gen.facts, Cert.WInKernelIdeal.Gen.facts, Cert.WInReferenceIdeal.Gen.facts,
    Cert.MlpInKernel.Gen.facts, Cert.MlpInKernelIdeal.Gen.facts, Cert.MlpInReferenceIdeal.Gen.facts,
    Cert.DxKernel.Gen.facts, Cert.DxKernelIdeal.Gen.facts, Cert.DxReferenceIdeal.Gen.facts,
    Cert.ProjKernel.Gen.facts, Cert.ProjKernelIdeal.Gen.facts, Cert.ProjReferenceIdeal.Gen.facts,
    Cert.MlpOutKernel.Gen.facts, Cert.MlpOutKernelIdeal.Gen.facts, Cert.MlpOutReferenceIdeal.Gen.facts,
    Cert.Dx1Kernel.Gen.facts, Cert.Dx1KernelIdeal.Gen.facts, Cert.Dx1ReferenceIdeal.Gen.facts,
    Cert.OutLnKernel.Gen.facts, Cert.OutLnKernelIdeal.Gen.facts, Cert.OutLnReferenceIdeal.Gen.facts,
    MlpOut.preFacts, Dx1.preFacts, Mlp.frame_k, Mlp.frame_ki, Mlp.frame_ri, W2Sib.frame_k, W2Sib.frame_ki,
    W2Sib.frame_ri, W2.frame_k, W2.frame_ki, W2.frame_ri, W1Sib.frame_k, W1Sib.frame_ki, W1Sib.frame_ri,
    W1.frame_k, W1.frame_ki, W1.frame_ri, WOutSib.frame_k, WOutSib.frame_ki, WOutSib.frame_ri, WOut.frame_k,
    WOut.frame_ki, WOut.frame_ri, WInSib.frame_k, WInSib.frame_ki, WInSib.frame_ri, WIn.frame_k, WIn.frame_ki,
    WIn.frame_ri, MlpIn.frame_k, MlpIn.frame_ki, MlpIn.frame_ri, Dx.frame_k, Dx.frame_ki, Dx.frame_ri,
    Proj.frame_k, Proj.frame_ki, Proj.frame_ri, MlpOut.frame_k, MlpOut.frame_ki, MlpOut.frame_ki_pre,
    MlpOut.frame_ri, MlpOut.frame_ri_pre, Dx1.frame_k, Dx1.frame_ki, Dx1.frame_ki_pre, Dx1.frame_ri,
    Dx1.frame_ri_pre, OutLn.frame_k, OutLn.frame_ki, OutLn.frame_ri, Mlp.preserves, Mlp.algebraic,
    W2Sib.preserves, W2Sib.algebraic, W2.preserves, W2.algebraic, W1Sib.preserves, W1Sib.algebraic,
    W1.preserves, W1.algebraic, WOutSib.preserves, WOutSib.algebraic, WOut.preserves, WOut.algebraic,
    WInSib.preserves, WInSib.algebraic, WIn.preserves, WIn.algebraic, MlpIn.preserves, MlpIn.algebraic,
    Dx.preserves, Dx.algebraic, Proj.preserves, Proj.algebraic, MlpOut.preserves, MlpOut.algebraic,
    Dx1.preserves, Dx1.algebraic, OutLn.preserves, OutLn.algebraic⟩

end Cert.Proof

end
